-- ==== Defs.lean ====
def Pre_InW (m : (ℓ : Loc Cert.InW.nD Cert.InW.τ Cert.InW.sig) → Buf (Elt Bits) ℓ) : Prop :=
  True

def Pre_InWIdeal (m : (ℓ : Loc Cert.InWIdeal.nD Cert.InWIdeal.τ Cert.InWIdeal.sig) → Buf (Elt Ideal) ℓ) : Prop :=
  True

def Pre_InWRefIdeal (m : (ℓ : Loc Cert.InWRefIdeal.nD Cert.InWRefIdeal.τ Cert.InWRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_finite_pool [hPre_finite_pool : Cert.Pre_finite_pool.Facts] (m : (ℓ : Loc Cert.PoolIdeal.nD Cert.PoolIdeal.τ Cert.PoolIdeal.sig) → Buf (Elt Ideal) ℓ) : Prop :=
  ∀ c : Dev Cert.PoolIdeal.nD,
    (Cert.Pre_finite_pool.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).1 = (fun _ => 1#1)
    ∧ (Cert.Pre_finite_pool.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).2.1 = (fun _ => 1#1)
    ∧ (Cert.Pre_finite_pool.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).2.2.1 = (fun _ => 1#1)
    ∧ (Cert.Pre_finite_pool.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).2.2.2 = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_finite_pool [hPre_finite_pool : Cert.Pre_finite_pool.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_finite_pool.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))).1 = (fun _ => 1#1)
    ∧ (Cert.Pre_finite_pool.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))).2.1 = (fun _ => 1#1)
    ∧ (Cert.Pre_finite_pool.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))).2.2.1 = (fun _ => 1#1)
    ∧ (Cert.Pre_finite_pool.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))).2.2.2 = (fun _ => 1#1)

def Pre_InX (m : (ℓ : Loc Cert.InX.nD Cert.InX.τ Cert.InX.sig) → Buf (Elt Bits) ℓ) : Prop :=
  True

def Pre_InXIdeal (m : (ℓ : Loc Cert.InXIdeal.nD Cert.InXIdeal.τ Cert.InXIdeal.sig) → Buf (Elt Ideal) ℓ) : Prop :=
  True

def Pre_InXIdeal_finite_inx [hPre_finite_inx : Cert.Pre_finite_inx.Facts] (m : (ℓ : Loc Cert.InXIdeal.nD Cert.InXIdeal.τ Cert.InXIdeal.sig) → Buf (Elt Ideal) ℓ) : Prop :=
  ∀ c : Dev Cert.InXIdeal.nD,
    (Cert.Pre_finite_inx.fn (F := Ideal) (m ((c.tc : Thread Cert.InXIdeal.nD Cert.InXIdeal.τ).loc Cert.InXIdeal.main_arg0)) (m ((c.tc : Thread Cert.InXIdeal.nD Cert.InXIdeal.τ).loc Cert.InXIdeal.main_arg1)) (m ((c.tc : Thread Cert.InXIdeal.nD Cert.InXIdeal.τ).loc Cert.InXIdeal.main_arg2)) (m ((c.tc : Thread Cert.InXIdeal.nD Cert.InXIdeal.τ).loc Cert.InXIdeal.main_arg3)) (m ((c.tc : Thread Cert.InXIdeal.nD Cert.InXIdeal.τ).loc Cert.InXIdeal.main_arg4)) (m ((c.tc : Thread Cert.InXIdeal.nD Cert.InXIdeal.τ).loc Cert.InXIdeal.main_arg5)) (m ((c.tc : Thread Cert.InXIdeal.nD Cert.InXIdeal.τ).loc Cert.InXIdeal.main_arg6)) (m ((c.tc : Thread Cert.InXIdeal.nD Cert.InXIdeal.τ).loc Cert.InXIdeal.main_arg7)) (m ((c.tc : Thread Cert.InXIdeal.nD Cert.InXIdeal.τ).loc Cert.InXIdeal.main_arg8))).1 = (fun _ => 1#1)
    ∧ (Cert.Pre_finite_inx.fn (F := Ideal) (m ((c.tc : Thread Cert.InXIdeal.nD Cert.InXIdeal.τ).loc Cert.InXIdeal.main_arg0)) (m ((c.tc : Thread Cert.InXIdeal.nD Cert.InXIdeal.τ).loc Cert.InXIdeal.main_arg1)) (m ((c.tc : Thread Cert.InXIdeal.nD Cert.InXIdeal.τ).loc Cert.InXIdeal.main_arg2)) (m ((c.tc : Thread Cert.InXIdeal.nD Cert.InXIdeal.τ).loc Cert.InXIdeal.main_arg3)) (m ((c.tc : Thread Cert.InXIdeal.nD Cert.InXIdeal.τ).loc Cert.InXIdeal.main_arg4)) (m ((c.tc : Thread Cert.InXIdeal.nD Cert.InXIdeal.τ).loc Cert.InXIdeal.main_arg5)) (m ((c.tc : Thread Cert.InXIdeal.nD Cert.InXIdeal.τ).loc Cert.InXIdeal.main_arg6)) (m ((c.tc : Thread Cert.InXIdeal.nD Cert.InXIdeal.τ).loc Cert.InXIdeal.main_arg7)) (m ((c.tc : Thread Cert.InXIdeal.nD Cert.InXIdeal.τ).loc Cert.InXIdeal.main_arg8))).2.1 = (fun _ => 1#1)
    ∧ (Cert.Pre_finite_inx.fn (F := Ideal) (m ((c.tc : Thread Cert.InXIdeal.nD Cert.InXIdeal.τ).loc Cert.InXIdeal.main_arg0)) (m ((c.tc : Thread Cert.InXIdeal.nD Cert.InXIdeal.τ).loc Cert.InXIdeal.main_arg1)) (m ((c.tc : Thread Cert.InXIdeal.nD Cert.InXIdeal.τ).loc Cert.InXIdeal.main_arg2)) (m ((c.tc : Thread Cert.InXIdeal.nD Cert.InXIdeal.τ).loc Cert.InXIdeal.main_arg3)) (m ((c.tc : Thread Cert.InXIdeal.nD Cert.InXIdeal.τ).loc Cert.InXIdeal.main_arg4)) (m ((c.tc : Thread Cert.InXIdeal.nD Cert.InXIdeal.τ).loc Cert.InXIdeal.main_arg5)) (m ((c.tc : Thread Cert.InXIdeal.nD Cert.InXIdeal.τ).loc Cert.InXIdeal.main_arg6)) (m ((c.tc : Thread Cert.InXIdeal.nD Cert.InXIdeal.τ).loc Cert.InXIdeal.main_arg7)) (m ((c.tc : Thread Cert.InXIdeal.nD Cert.InXIdeal.τ).loc Cert.InXIdeal.main_arg8))).2.2.1 = (fun _ => 1#1)
    ∧ (Cert.Pre_finite_inx.fn (F := Ideal) (m ((c.tc : Thread Cert.InXIdeal.nD Cert.InXIdeal.τ).loc Cert.InXIdeal.main_arg0)) (m ((c.tc : Thread Cert.InXIdeal.nD Cert.InXIdeal.τ).loc Cert.InXIdeal.main_arg1)) (m ((c.tc : Thread Cert.InXIdeal.nD Cert.InXIdeal.τ).loc Cert.InXIdeal.main_arg2)) (m ((c.tc : Thread Cert.InXIdeal.nD Cert.InXIdeal.τ).loc Cert.InXIdeal.main_arg3)) (m ((c.tc : Thread Cert.InXIdeal.nD Cert.InXIdeal.τ).loc Cert.InXIdeal.main_arg4)) (m ((c.tc : Thread Cert.InXIdeal.nD Cert.InXIdeal.τ).loc Cert.InXIdeal.main_arg5)) (m ((c.tc : Thread Cert.InXIdeal.nD Cert.InXIdeal.τ).loc Cert.InXIdeal.main_arg6)) (m ((c.tc : Thread Cert.InXIdeal.nD Cert.InXIdeal.τ).loc Cert.InXIdeal.main_arg7)) (m ((c.tc : Thread Cert.InXIdeal.nD Cert.InXIdeal.τ).loc Cert.InXIdeal.main_arg8))).2.2.2.1 = (fun _ => 1#1)
    ∧ (Cert.Pre_finite_inx.fn (F := Ideal) (m ((c.tc : Thread Cert.InXIdeal.nD Cert.InXIdeal.τ).loc Cert.InXIdeal.main_arg0)) (m ((c.tc : Thread Cert.InXIdeal.nD Cert.InXIdeal.τ).loc Cert.InXIdeal.main_arg1)) (m ((c.tc : Thread Cert.InXIdeal.nD Cert.InXIdeal.τ).loc Cert.InXIdeal.main_arg2)) (m ((c.tc : Thread Cert.InXIdeal.nD Cert.InXIdeal.τ).loc Cert.InXIdeal.main_arg3)) (m ((c.tc : Thread Cert.InXIdeal.nD Cert.InXIdeal.τ).loc Cert.InXIdeal.main_arg4)) (m ((c.tc : Thread Cert.InXIdeal.nD Cert.InXIdeal.τ).loc Cert.InXIdeal.main_arg5)) (m ((c.tc : Thread Cert.InXIdeal.nD Cert.InXIdeal.τ).loc Cert.InXIdeal.main_arg6)) (m ((c.tc : Thread Cert.InXIdeal.nD Cert.InXIdeal.τ).loc Cert.InXIdeal.main_arg7)) (m ((c.tc : Thread Cert.InXIdeal.nD Cert.InXIdeal.τ).loc Cert.InXIdeal.main_arg8))).2.2.2.2.1 = (fun _ => 1#1)
    ∧ (Cert.Pre_finite_inx.fn (F := Ideal) (m ((c.tc : Thread Cert.InXIdeal.nD Cert.InXIdeal.τ).loc Cert.InXIdeal.main_arg0)) (m ((c.tc : Thread Cert.InXIdeal.nD Cert.InXIdeal.τ).loc Cert.InXIdeal.main_arg1)) (m ((c.tc : Thread Cert.InXIdeal.nD Cert.InXIdeal.τ).loc Cert.InXIdeal.main_arg2)) (m ((c.tc : Thread Cert.InXIdeal.nD Cert.InXIdeal.τ).loc Cert.InXIdeal.main_arg3)) (m ((c.tc : Thread Cert.InXIdeal.nD Cert.InXIdeal.τ).loc Cert.InXIdeal.main_arg4)) (m ((c.tc : Thread Cert.InXIdeal.nD Cert.InXIdeal.τ).loc Cert.InXIdeal.main_arg5)) (m ((c.tc : Thread Cert.InXIdeal.nD Cert.InXIdeal.τ).loc Cert.InXIdeal.main_arg6)) (m ((c.tc : Thread Cert.InXIdeal.nD Cert.InXIdeal.τ).loc Cert.InXIdeal.main_arg7)) (m ((c.tc : Thread Cert.InXIdeal.nD Cert.InXIdeal.τ).loc Cert.InXIdeal.main_arg8))).2.2.2.2.2.1 = (fun _ => 1#1)
    ∧ (Cert.Pre_finite_inx.fn (F := Ideal) (m ((c.tc : Thread Cert.InXIdeal.nD Cert.InXIdeal.τ).loc Cert.InXIdeal.main_arg0)) (m ((c.tc : Thread Cert.InXIdeal.nD Cert.InXIdeal.τ).loc Cert.InXIdeal.main_arg1)) (m ((c.tc : Thread Cert.InXIdeal.nD Cert.InXIdeal.τ).loc Cert.InXIdeal.main_arg2)) (m ((c.tc : Thread Cert.InXIdeal.nD Cert.InXIdeal.τ).loc Cert.InXIdeal.main_arg3)) (m ((c.tc : Thread Cert.InXIdeal.nD Cert.InXIdeal.τ).loc Cert.InXIdeal.main_arg4)) (m ((c.tc : Thread Cert.InXIdeal.nD Cert.InXIdeal.τ).loc Cert.InXIdeal.main_arg5)) (m ((c.tc : Thread Cert.InXIdeal.nD Cert.InXIdeal.τ).loc Cert.InXIdeal.main_arg6)) (m ((c.tc : Thread Cert.InXIdeal.nD Cert.InXIdeal.τ).loc Cert.InXIdeal.main_arg7)) (m ((c.tc : Thread Cert.InXIdeal.nD Cert.InXIdeal.τ).loc Cert.InXIdeal.main_arg8))).2.2.2.2.2.2.1 = (fun _ => 1#1)
    ∧ (Cert.Pre_finite_inx.fn (F := Ideal) (m ((c.tc : Thread Cert.InXIdeal.nD Cert.InXIdeal.τ).loc Cert.InXIdeal.main_arg0)) (m ((c.tc : Thread Cert.InXIdeal.nD Cert.InXIdeal.τ).loc Cert.InXIdeal.main_arg1)) (m ((c.tc : Thread Cert.InXIdeal.nD Cert.InXIdeal.τ).loc Cert.InXIdeal.main_arg2)) (m ((c.tc : Thread Cert.InXIdeal.nD Cert.InXIdeal.τ).loc Cert.InXIdeal.main_arg3)) (m ((c.tc : Thread Cert.InXIdeal.nD Cert.InXIdeal.τ).loc Cert.InXIdeal.main_arg4)) (m ((c.tc : Thread Cert.InXIdeal.nD Cert.InXIdeal.τ).loc Cert.InXIdeal.main_arg5)) (m ((c.tc : Thread Cert.InXIdeal.nD Cert.InXIdeal.τ).loc Cert.InXIdeal.main_arg6)) (m ((c.tc : Thread Cert.InXIdeal.nD Cert.InXIdeal.τ).loc Cert.InXIdeal.main_arg7)) (m ((c.tc : Thread Cert.InXIdeal.nD Cert.InXIdeal.τ).loc Cert.InXIdeal.main_arg8))).2.2.2.2.2.2.2 = (fun _ => 1#1)

def Pre_InXRefIdeal (m : (ℓ : Loc Cert.InXRefIdeal.nD Cert.InXRefIdeal.τ Cert.InXRefIdeal.sig) → Buf (Elt Ideal) ℓ) : Prop :=
  True

def Pre_InXRefIdeal_finite_inx [hPre_finite_inx : Cert.Pre_finite_inx.Facts] (m : (ℓ : Loc Cert.InXRefIdeal.nD Cert.InXRefIdeal.τ Cert.InXRefIdeal.sig) → Buf (Elt Ideal) ℓ) : Prop :=
  ∀ c : Dev Cert.InXRefIdeal.nD,
    (Cert.Pre_finite_inx.fn (F := Ideal) (m ((c.tc : Thread Cert.InXRefIdeal.nD Cert.InXRefIdeal.τ).loc Cert.InXRefIdeal.main_arg0)) (m ((c.tc : Thread Cert.InXRefIdeal.nD Cert.InXRefIdeal.τ).loc Cert.InXRefIdeal.main_arg1)) (m ((c.tc : Thread Cert.InXRefIdeal.nD Cert.InXRefIdeal.τ).loc Cert.InXRefIdeal.main_arg2)) (m ((c.tc : Thread Cert.InXRefIdeal.nD Cert.InXRefIdeal.τ).loc Cert.InXRefIdeal.main_arg3)) (m ((c.tc : Thread Cert.InXRefIdeal.nD Cert.InXRefIdeal.τ).loc Cert.InXRefIdeal.main_arg4)) (m ((c.tc : Thread Cert.InXRefIdeal.nD Cert.InXRefIdeal.τ).loc Cert.InXRefIdeal.main_arg5)) (m ((c.tc : Thread Cert.InXRefIdeal.nD Cert.InXRefIdeal.τ).loc Cert.InXRefIdeal.main_arg6)) (m ((c.tc : Thread Cert.InXRefIdeal.nD Cert.InXRefIdeal.τ).loc Cert.InXRefIdeal.main_arg7)) (m ((c.tc : Thread Cert.InXRefIdeal.nD Cert.InXRefIdeal.τ).loc Cert.InXRefIdeal.main_arg8))).1 = (fun _ => 1#1)
    ∧ (Cert.Pre_finite_inx.fn (F := Ideal) (m ((c.tc : Thread Cert.InXRefIdeal.nD Cert.InXRefIdeal.τ).loc Cert.InXRefIdeal.main_arg0)) (m ((c.tc : Thread Cert.InXRefIdeal.nD Cert.InXRefIdeal.τ).loc Cert.InXRefIdeal.main_arg1)) (m ((c.tc : Thread Cert.InXRefIdeal.nD Cert.InXRefIdeal.τ).loc Cert.InXRefIdeal.main_arg2)) (m ((c.tc : Thread Cert.InXRefIdeal.nD Cert.InXRefIdeal.τ).loc Cert.InXRefIdeal.main_arg3)) (m ((c.tc : Thread Cert.InXRefIdeal.nD Cert.InXRefIdeal.τ).loc Cert.InXRefIdeal.main_arg4)) (m ((c.tc : Thread Cert.InXRefIdeal.nD Cert.InXRefIdeal.τ).loc Cert.InXRefIdeal.main_arg5)) (m ((c.tc : Thread Cert.InXRefIdeal.nD Cert.InXRefIdeal.τ).loc Cert.InXRefIdeal.main_arg6)) (m ((c.tc : Thread Cert.InXRefIdeal.nD Cert.InXRefIdeal.τ).loc Cert.InXRefIdeal.main_arg7)) (m ((c.tc : Thread Cert.InXRefIdeal.nD Cert.InXRefIdeal.τ).loc Cert.InXRefIdeal.main_arg8))).2.1 = (fun _ => 1#1)
    ∧ (Cert.Pre_finite_inx.fn (F := Ideal) (m ((c.tc : Thread Cert.InXRefIdeal.nD Cert.InXRefIdeal.τ).loc Cert.InXRefIdeal.main_arg0)) (m ((c.tc : Thread Cert.InXRefIdeal.nD Cert.InXRefIdeal.τ).loc Cert.InXRefIdeal.main_arg1)) (m ((c.tc : Thread Cert.InXRefIdeal.nD Cert.InXRefIdeal.τ).loc Cert.InXRefIdeal.main_arg2)) (m ((c.tc : Thread Cert.InXRefIdeal.nD Cert.InXRefIdeal.τ).loc Cert.InXRefIdeal.main_arg3)) (m ((c.tc : Thread Cert.InXRefIdeal.nD Cert.InXRefIdeal.τ).loc Cert.InXRefIdeal.main_arg4)) (m ((c.tc : Thread Cert.InXRefIdeal.nD Cert.InXRefIdeal.τ).loc Cert.InXRefIdeal.main_arg5)) (m ((c.tc : Thread Cert.InXRefIdeal.nD Cert.InXRefIdeal.τ).loc Cert.InXRefIdeal.main_arg6)) (m ((c.tc : Thread Cert.InXRefIdeal.nD Cert.InXRefIdeal.τ).loc Cert.InXRefIdeal.main_arg7)) (m ((c.tc : Thread Cert.InXRefIdeal.nD Cert.InXRefIdeal.τ).loc Cert.InXRefIdeal.main_arg8))).2.2.1 = (fun _ => 1#1)
    ∧ (Cert.Pre_finite_inx.fn (F := Ideal) (m ((c.tc : Thread Cert.InXRefIdeal.nD Cert.InXRefIdeal.τ).loc Cert.InXRefIdeal.main_arg0)) (m ((c.tc : Thread Cert.InXRefIdeal.nD Cert.InXRefIdeal.τ).loc Cert.InXRefIdeal.main_arg1)) (m ((c.tc : Thread Cert.InXRefIdeal.nD Cert.InXRefIdeal.τ).loc Cert.InXRefIdeal.main_arg2)) (m ((c.tc : Thread Cert.InXRefIdeal.nD Cert.InXRefIdeal.τ).loc Cert.InXRefIdeal.main_arg3)) (m ((c.tc : Thread Cert.InXRefIdeal.nD Cert.InXRefIdeal.τ).loc Cert.InXRefIdeal.main_arg4)) (m ((c.tc : Thread Cert.InXRefIdeal.nD Cert.InXRefIdeal.τ).loc Cert.InXRefIdeal.main_arg5)) (m ((c.tc : Thread Cert.InXRefIdeal.nD Cert.InXRefIdeal.τ).loc Cert.InXRefIdeal.main_arg6)) (m ((c.tc : Thread Cert.InXRefIdeal.nD Cert.InXRefIdeal.τ).loc Cert.InXRefIdeal.main_arg7)) (m ((c.tc : Thread Cert.InXRefIdeal.nD Cert.InXRefIdeal.τ).loc Cert.InXRefIdeal.main_arg8))).2.2.2.1 = (fun _ => 1#1)
    ∧ (Cert.Pre_finite_inx.fn (F := Ideal) (m ((c.tc : Thread Cert.InXRefIdeal.nD Cert.InXRefIdeal.τ).loc Cert.InXRefIdeal.main_arg0)) (m ((c.tc : Thread Cert.InXRefIdeal.nD Cert.InXRefIdeal.τ).loc Cert.InXRefIdeal.main_arg1)) (m ((c.tc : Thread Cert.InXRefIdeal.nD Cert.InXRefIdeal.τ).loc Cert.InXRefIdeal.main_arg2)) (m ((c.tc : Thread Cert.InXRefIdeal.nD Cert.InXRefIdeal.τ).loc Cert.InXRefIdeal.main_arg3)) (m ((c.tc : Thread Cert.InXRefIdeal.nD Cert.InXRefIdeal.τ).loc Cert.InXRefIdeal.main_arg4)) (m ((c.tc : Thread Cert.InXRefIdeal.nD Cert.InXRefIdeal.τ).loc Cert.InXRefIdeal.main_arg5)) (m ((c.tc : Thread Cert.InXRefIdeal.nD Cert.InXRefIdeal.τ).loc Cert.InXRefIdeal.main_arg6)) (m ((c.tc : Thread Cert.InXRefIdeal.nD Cert.InXRefIdeal.τ).loc Cert.InXRefIdeal.main_arg7)) (m ((c.tc : Thread Cert.InXRefIdeal.nD Cert.InXRefIdeal.τ).loc Cert.InXRefIdeal.main_arg8))).2.2.2.2.1 = (fun _ => 1#1)
    ∧ (Cert.Pre_finite_inx.fn (F := Ideal) (m ((c.tc : Thread Cert.InXRefIdeal.nD Cert.InXRefIdeal.τ).loc Cert.InXRefIdeal.main_arg0)) (m ((c.tc : Thread Cert.InXRefIdeal.nD Cert.InXRefIdeal.τ).loc Cert.InXRefIdeal.main_arg1)) (m ((c.tc : Thread Cert.InXRefIdeal.nD Cert.InXRefIdeal.τ).loc Cert.InXRefIdeal.main_arg2)) (m ((c.tc : Thread Cert.InXRefIdeal.nD Cert.InXRefIdeal.τ).loc Cert.InXRefIdeal.main_arg3)) (m ((c.tc : Thread Cert.InXRefIdeal.nD Cert.InXRefIdeal.τ).loc Cert.InXRefIdeal.main_arg4)) (m ((c.tc : Thread Cert.InXRefIdeal.nD Cert.InXRefIdeal.τ).loc Cert.InXRefIdeal.main_arg5)) (m ((c.tc : Thread Cert.InXRefIdeal.nD Cert.InXRefIdeal.τ).loc Cert.InXRefIdeal.main_arg6)) (m ((c.tc : Thread Cert.InXRefIdeal.nD Cert.InXRefIdeal.τ).loc Cert.InXRefIdeal.main_arg7)) (m ((c.tc : Thread Cert.InXRefIdeal.nD Cert.InXRefIdeal.τ).loc Cert.InXRefIdeal.main_arg8))).2.2.2.2.2.1 = (fun _ => 1#1)
    ∧ (Cert.Pre_finite_inx.fn (F := Ideal) (m ((c.tc : Thread Cert.InXRefIdeal.nD Cert.InXRefIdeal.τ).loc Cert.InXRefIdeal.main_arg0)) (m ((c.tc : Thread Cert.InXRefIdeal.nD Cert.InXRefIdeal.τ).loc Cert.InXRefIdeal.main_arg1)) (m ((c.tc : Thread Cert.InXRefIdeal.nD Cert.InXRefIdeal.τ).loc Cert.InXRefIdeal.main_arg2)) (m ((c.tc : Thread Cert.InXRefIdeal.nD Cert.InXRefIdeal.τ).loc Cert.InXRefIdeal.main_arg3)) (m ((c.tc : Thread Cert.InXRefIdeal.nD Cert.InXRefIdeal.τ).loc Cert.InXRefIdeal.main_arg4)) (m ((c.tc : Thread Cert.InXRefIdeal.nD Cert.InXRefIdeal.τ).loc Cert.InXRefIdeal.main_arg5)) (m ((c.tc : Thread Cert.InXRefIdeal.nD Cert.InXRefIdeal.τ).loc Cert.InXRefIdeal.main_arg6)) (m ((c.tc : Thread Cert.InXRefIdeal.nD Cert.InXRefIdeal.τ).loc Cert.InXRefIdeal.main_arg7)) (m ((c.tc : Thread Cert.InXRefIdeal.nD Cert.InXRefIdeal.τ).loc Cert.InXRefIdeal.main_arg8))).2.2.2.2.2.2.1 = (fun _ => 1#1)
    ∧ (Cert.Pre_finite_inx.fn (F := Ideal) (m ((c.tc : Thread Cert.InXRefIdeal.nD Cert.InXRefIdeal.τ).loc Cert.InXRefIdeal.main_arg0)) (m ((c.tc : Thread Cert.InXRefIdeal.nD Cert.InXRefIdeal.τ).loc Cert.InXRefIdeal.main_arg1)) (m ((c.tc : Thread Cert.InXRefIdeal.nD Cert.InXRefIdeal.τ).loc Cert.InXRefIdeal.main_arg2)) (m ((c.tc : Thread Cert.InXRefIdeal.nD Cert.InXRefIdeal.τ).loc Cert.InXRefIdeal.main_arg3)) (m ((c.tc : Thread Cert.InXRefIdeal.nD Cert.InXRefIdeal.τ).loc Cert.InXRefIdeal.main_arg4)) (m ((c.tc : Thread Cert.InXRefIdeal.nD Cert.InXRefIdeal.τ).loc Cert.InXRefIdeal.main_arg5)) (m ((c.tc : Thread Cert.InXRefIdeal.nD Cert.InXRefIdeal.τ).loc Cert.InXRefIdeal.main_arg6)) (m ((c.tc : Thread Cert.InXRefIdeal.nD Cert.InXRefIdeal.τ).loc Cert.InXRefIdeal.main_arg7)) (m ((c.tc : Thread Cert.InXRefIdeal.nD Cert.InXRefIdeal.τ).loc Cert.InXRefIdeal.main_arg8))).2.2.2.2.2.2.2 = (fun _ => 1#1)

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluIdeal_finite_glu [hPre_finite_glu : Cert.Pre_finite_glu.Facts] (m : (ℓ : Loc Cert.GluIdeal.nD Cert.GluIdeal.τ Cert.GluIdeal.sig) → Buf (Elt Ideal) ℓ) : Prop :=
  ∀ c : Dev Cert.GluIdeal.nD,
    (Cert.Pre_finite_glu.fn (F := Ideal) (m ((c.tc : Thread Cert.GluIdeal.nD Cert.GluIdeal.τ).loc Cert.GluIdeal.main_arg0)) (m ((c.tc : Thread Cert.GluIdeal.nD Cert.GluIdeal.τ).loc Cert.GluIdeal.main_arg1)) (m ((c.tc : Thread Cert.GluIdeal.nD Cert.GluIdeal.τ).loc Cert.GluIdeal.main_arg2)) (m ((c.tc : Thread Cert.GluIdeal.nD Cert.GluIdeal.τ).loc Cert.GluIdeal.main_arg3)) (m ((c.tc : Thread Cert.GluIdeal.nD Cert.GluIdeal.τ).loc Cert.GluIdeal.main_arg4))).1 = (fun _ => 1#1)
    ∧ (Cert.Pre_finite_glu.fn (F := Ideal) (m ((c.tc : Thread Cert.GluIdeal.nD Cert.GluIdeal.τ).loc Cert.GluIdeal.main_arg0)) (m ((c.tc : Thread Cert.GluIdeal.nD Cert.GluIdeal.τ).loc Cert.GluIdeal.main_arg1)) (m ((c.tc : Thread Cert.GluIdeal.nD Cert.GluIdeal.τ).loc Cert.GluIdeal.main_arg2)) (m ((c.tc : Thread Cert.GluIdeal.nD Cert.GluIdeal.τ).loc Cert.GluIdeal.main_arg3)) (m ((c.tc : Thread Cert.GluIdeal.nD Cert.GluIdeal.τ).loc Cert.GluIdeal.main_arg4))).2.1 = (fun _ => 1#1)
    ∧ (Cert.Pre_finite_glu.fn (F := Ideal) (m ((c.tc : Thread Cert.GluIdeal.nD Cert.GluIdeal.τ).loc Cert.GluIdeal.main_arg0)) (m ((c.tc : Thread Cert.GluIdeal.nD Cert.GluIdeal.τ).loc Cert.GluIdeal.main_arg1)) (m ((c.tc : Thread Cert.GluIdeal.nD Cert.GluIdeal.τ).loc Cert.GluIdeal.main_arg2)) (m ((c.tc : Thread Cert.GluIdeal.nD Cert.GluIdeal.τ).loc Cert.GluIdeal.main_arg3)) (m ((c.tc : Thread Cert.GluIdeal.nD Cert.GluIdeal.τ).loc Cert.GluIdeal.main_arg4))).2.2.1 = (fun _ => 1#1)
    ∧ (Cert.Pre_finite_glu.fn (F := Ideal) (m ((c.tc : Thread Cert.GluIdeal.nD Cert.GluIdeal.τ).loc Cert.GluIdeal.main_arg0)) (m ((c.tc : Thread Cert.GluIdeal.nD Cert.GluIdeal.τ).loc Cert.GluIdeal.main_arg1)) (m ((c.tc : Thread Cert.GluIdeal.nD Cert.GluIdeal.τ).loc Cert.GluIdeal.main_arg2)) (m ((c.tc : Thread Cert.GluIdeal.nD Cert.GluIdeal.τ).loc Cert.GluIdeal.main_arg3)) (m ((c.tc : Thread Cert.GluIdeal.nD Cert.GluIdeal.τ).loc Cert.GluIdeal.main_arg4))).2.2.2.1 = (fun _ => 1#1)
    ∧ (Cert.Pre_finite_glu.fn (F := Ideal) (m ((c.tc : Thread Cert.GluIdeal.nD Cert.GluIdeal.τ).loc Cert.GluIdeal.main_arg0)) (m ((c.tc : Thread Cert.GluIdeal.nD Cert.GluIdeal.τ).loc Cert.GluIdeal.main_arg1)) (m ((c.tc : Thread Cert.GluIdeal.nD Cert.GluIdeal.τ).loc Cert.GluIdeal.main_arg2)) (m ((c.tc : Thread Cert.GluIdeal.nD Cert.GluIdeal.τ).loc Cert.GluIdeal.main_arg3)) (m ((c.tc : Thread Cert.GluIdeal.nD Cert.GluIdeal.τ).loc Cert.GluIdeal.main_arg4))).2.2.2.2 = (fun _ => 1#1)

def Pre_GluRefIdeal (m : (ℓ : Loc Cert.GluRefIdeal.nD Cert.GluRefIdeal.τ Cert.GluRefIdeal.sig) → Buf (Elt Ideal) ℓ) : Prop :=
  True

def Pre_GluRefIdeal_finite_glu [hPre_finite_glu : Cert.Pre_finite_glu.Facts] (m : (ℓ : Loc Cert.GluRefIdeal.nD Cert.GluRefIdeal.τ Cert.GluRefIdeal.sig) → Buf (Elt Ideal) ℓ) : Prop :=
  ∀ c : Dev Cert.GluRefIdeal.nD,
    (Cert.Pre_finite_glu.fn (F := Ideal) (m ((c.tc : Thread Cert.GluRefIdeal.nD Cert.GluRefIdeal.τ).loc Cert.GluRefIdeal.main_arg0)) (m ((c.tc : Thread Cert.GluRefIdeal.nD Cert.GluRefIdeal.τ).loc Cert.GluRefIdeal.main_arg1)) (m ((c.tc : Thread Cert.GluRefIdeal.nD Cert.GluRefIdeal.τ).loc Cert.GluRefIdeal.main_arg2)) (m ((c.tc : Thread Cert.GluRefIdeal.nD Cert.GluRefIdeal.τ).loc Cert.GluRefIdeal.main_arg3)) (m ((c.tc : Thread Cert.GluRefIdeal.nD Cert.GluRefIdeal.τ).loc Cert.GluRefIdeal.main_arg4))).1 = (fun _ => 1#1)
    ∧ (Cert.Pre_finite_glu.fn (F := Ideal) (m ((c.tc : Thread Cert.GluRefIdeal.nD Cert.GluRefIdeal.τ).loc Cert.GluRefIdeal.main_arg0)) (m ((c.tc : Thread Cert.GluRefIdeal.nD Cert.GluRefIdeal.τ).loc Cert.GluRefIdeal.main_arg1)) (m ((c.tc : Thread Cert.GluRefIdeal.nD Cert.GluRefIdeal.τ).loc Cert.GluRefIdeal.main_arg2)) (m ((c.tc : Thread Cert.GluRefIdeal.nD Cert.GluRefIdeal.τ).loc Cert.GluRefIdeal.main_arg3)) (m ((c.tc : Thread Cert.GluRefIdeal.nD Cert.GluRefIdeal.τ).loc Cert.GluRefIdeal.main_arg4))).2.1 = (fun _ => 1#1)
    ∧ (Cert.Pre_finite_glu.fn (F := Ideal) (m ((c.tc : Thread Cert.GluRefIdeal.nD Cert.GluRefIdeal.τ).loc Cert.GluRefIdeal.main_arg0)) (m ((c.tc : Thread Cert.GluRefIdeal.nD Cert.GluRefIdeal.τ).loc Cert.GluRefIdeal.main_arg1)) (m ((c.tc : Thread Cert.GluRefIdeal.nD Cert.GluRefIdeal.τ).loc Cert.GluRefIdeal.main_arg2)) (m ((c.tc : Thread Cert.GluRefIdeal.nD Cert.GluRefIdeal.τ).loc Cert.GluRefIdeal.main_arg3)) (m ((c.tc : Thread Cert.GluRefIdeal.nD Cert.GluRefIdeal.τ).loc Cert.GluRefIdeal.main_arg4))).2.2.1 = (fun _ => 1#1)
    ∧ (Cert.Pre_finite_glu.fn (F := Ideal) (m ((c.tc : Thread Cert.GluRefIdeal.nD Cert.GluRefIdeal.τ).loc Cert.GluRefIdeal.main_arg0)) (m ((c.tc : Thread Cert.GluRefIdeal.nD Cert.GluRefIdeal.τ).loc Cert.GluRefIdeal.main_arg1)) (m ((c.tc : Thread Cert.GluRefIdeal.nD Cert.GluRefIdeal.τ).loc Cert.GluRefIdeal.main_arg2)) (m ((c.tc : Thread Cert.GluRefIdeal.nD Cert.GluRefIdeal.τ).loc Cert.GluRefIdeal.main_arg3)) (m ((c.tc : Thread Cert.GluRefIdeal.nD Cert.GluRefIdeal.τ).loc Cert.GluRefIdeal.main_arg4))).2.2.2.1 = (fun _ => 1#1)
    ∧ (Cert.Pre_finite_glu.fn (F := Ideal) (m ((c.tc : Thread Cert.GluRefIdeal.nD Cert.GluRefIdeal.τ).loc Cert.GluRefIdeal.main_arg0)) (m ((c.tc : Thread Cert.GluRefIdeal.nD Cert.GluRefIdeal.τ).loc Cert.GluRefIdeal.main_arg1)) (m ((c.tc : Thread Cert.GluRefIdeal.nD Cert.GluRefIdeal.τ).loc Cert.GluRefIdeal.main_arg2)) (m ((c.tc : Thread Cert.GluRefIdeal.nD Cert.GluRefIdeal.τ).loc Cert.GluRefIdeal.main_arg3)) (m ((c.tc : Thread Cert.GluRefIdeal.nD Cert.GluRefIdeal.τ).loc Cert.GluRefIdeal.main_arg4))).2.2.2.2 = (fun _ => 1#1)

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadIdeal_finite_head [hPre_finite_head : Cert.Pre_finite_head.Facts] (m : (ℓ : Loc Cert.HeadIdeal.nD Cert.HeadIdeal.τ Cert.HeadIdeal.sig) → Buf (Elt Ideal) ℓ) : Prop :=
  ∀ c : Dev Cert.HeadIdeal.nD,
    (Cert.Pre_finite_head.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9))).1 = (fun _ => 1#1)
    ∧ (Cert.Pre_finite_head.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9))).2.1 = (fun _ => 1#1)
    ∧ (Cert.Pre_finite_head.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9))).2.2.1 = (fun _ => 1#1)
    ∧ (Cert.Pre_finite_head.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9))).2.2.2.1 = (fun _ => 1#1)
    ∧ (Cert.Pre_finite_head.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9))).2.2.2.2.1 = (fun _ => 1#1)
    ∧ (Cert.Pre_finite_head.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9))).2.2.2.2.2.1 = (fun _ => 1#1)
    ∧ (Cert.Pre_finite_head.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9))).2.2.2.2.2.2.1 = (fun _ => 1#1)
    ∧ (Cert.Pre_finite_head.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9))).2.2.2.2.2.2.2.1 = (fun _ => 1#1)
    ∧ (Cert.Pre_finite_head.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9))).2.2.2.2.2.2.2.2.1 = (fun _ => 1#1)
    ∧ (Cert.Pre_finite_head.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9))).2.2.2.2.2.2.2.2.2 = (fun _ => 1#1)

def Pre_HeadRefIdeal (m : (ℓ : Loc Cert.HeadRefIdeal.nD Cert.HeadRefIdeal.τ Cert.HeadRefIdeal.sig) → Buf (Elt Ideal) ℓ) : Prop :=
  True

def Pre_HeadRefIdeal_finite_head [hPre_finite_head : Cert.Pre_finite_head.Facts] (m : (ℓ : Loc Cert.HeadRefIdeal.nD Cert.HeadRefIdeal.τ Cert.HeadRefIdeal.sig) → Buf (Elt Ideal) ℓ) : Prop :=
  ∀ c : Dev Cert.HeadRefIdeal.nD,
    (Cert.Pre_finite_head.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9))).1 = (fun _ => 1#1)
    ∧ (Cert.Pre_finite_head.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9))).2.1 = (fun _ => 1#1)
    ∧ (Cert.Pre_finite_head.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9))).2.2.1 = (fun _ => 1#1)
    ∧ (Cert.Pre_finite_head.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9))).2.2.2.1 = (fun _ => 1#1)
    ∧ (Cert.Pre_finite_head.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9))).2.2.2.2.1 = (fun _ => 1#1)
    ∧ (Cert.Pre_finite_head.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9))).2.2.2.2.2.1 = (fun _ => 1#1)
    ∧ (Cert.Pre_finite_head.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9))).2.2.2.2.2.2.1 = (fun _ => 1#1)
    ∧ (Cert.Pre_finite_head.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9))).2.2.2.2.2.2.2.1 = (fun _ => 1#1)
    ∧ (Cert.Pre_finite_head.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9))).2.2.2.2.2.2.2.2.1 = (fun _ => 1#1)
    ∧ (Cert.Pre_finite_head.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9))).2.2.2.2.2.2.2.2.2 = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def Pre_PoolF (m : (ℓ : Loc Cert.PoolF.nD Cert.PoolF.τ Cert.PoolF.sig) → Buf (Elt Bits) ℓ) : Prop :=
  True

def Pre_PoolFIdeal (m : (ℓ : Loc Cert.PoolFIdeal.nD Cert.PoolFIdeal.τ Cert.PoolFIdeal.sig) → Buf (Elt Ideal) ℓ) : Prop :=
  True

def Pre_PoolFIdeal_finite_poolf [hPre_finite_poolf : Cert.Pre_finite_poolf.Facts] (m : (ℓ : Loc Cert.PoolFIdeal.nD Cert.PoolFIdeal.τ Cert.PoolFIdeal.sig) → Buf (Elt Ideal) ℓ) : Prop :=
  ∀ c : Dev Cert.PoolFIdeal.nD,
    (Cert.Pre_finite_poolf.fn (F := Ideal) (m ((c.tc : Thread Cert.PoolFIdeal.nD Cert.PoolFIdeal.τ).loc Cert.PoolFIdeal.main_arg0)) (m ((c.tc : Thread Cert.PoolFIdeal.nD Cert.PoolFIdeal.τ).loc Cert.PoolFIdeal.main_arg1)) (m ((c.tc : Thread Cert.PoolFIdeal.nD Cert.PoolFIdeal.τ).loc Cert.PoolFIdeal.main_arg2))) = (fun _ => 1#1)

def Pre_PoolFRefIdeal (m : (ℓ : Loc Cert.PoolFRefIdeal.nD Cert.PoolFRefIdeal.τ Cert.PoolFRefIdeal.sig) → Buf (Elt Ideal) ℓ) : Prop :=
  True

def Pre_PoolFRefIdeal_finite_poolf [hPre_finite_poolf : Cert.Pre_finite_poolf.Facts] (m : (ℓ : Loc Cert.PoolFRefIdeal.nD Cert.PoolFRefIdeal.τ Cert.PoolFRefIdeal.sig) → Buf (Elt Ideal) ℓ) : Prop :=
  ∀ c : Dev Cert.PoolFRefIdeal.nD,
    (Cert.Pre_finite_poolf.fn (F := Ideal) (m ((c.tc : Thread Cert.PoolFRefIdeal.nD Cert.PoolFRefIdeal.τ).loc Cert.PoolFRefIdeal.main_arg0)) (m ((c.tc : Thread Cert.PoolFRefIdeal.nD Cert.PoolFRefIdeal.τ).loc Cert.PoolFRefIdeal.main_arg1)) (m ((c.tc : Thread Cert.PoolFRefIdeal.nD Cert.PoolFRefIdeal.τ).loc Cert.PoolFRefIdeal.main_arg2))) = (fun _ => 1#1)

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdaU (m : (ℓ : Loc Cert.AdaU.nD Cert.AdaU.τ Cert.AdaU.sig) → Buf (Elt Bits) ℓ) : Prop :=
  True

def Pre_AdaUIdeal (m : (ℓ : Loc Cert.AdaUIdeal.nD Cert.AdaUIdeal.τ Cert.AdaUIdeal.sig) → Buf (Elt Ideal) ℓ) : Prop :=
  True

def Pre_AdaURefIdeal (m : (ℓ : Loc Cert.AdaURefIdeal.nD Cert.AdaURefIdeal.τ Cert.AdaURefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_SsmX (m : (ℓ : Loc Cert.SsmX.nD Cert.SsmX.τ Cert.SsmX.sig) → Buf (Elt Bits) ℓ) : Prop :=
  True

def Pre_SsmXIdeal (m : (ℓ : Loc Cert.SsmXIdeal.nD Cert.SsmXIdeal.τ Cert.SsmXIdeal.sig) → Buf (Elt Ideal) ℓ) : Prop :=
  True

def quiescent_InW [hInW : Cert.InW.Facts] : Prop :=
  ∀ (m : (ℓ : Loc Cert.InW.nD Cert.InW.τ Cert.InW.sig) → Buf (Elt Bits) ℓ) (g : Dev Cert.InW.nD → PrngReg), Pre_InW m →
    θ_run (Cert.InW.defs (F := Bits)) (onTc (τ := Cert.InW.τ) (Cert.InW.main (F := Bits))) ⟨m, fun _ => 0, g⟩ (fun r => (∀ c : Dev Cert.InW.nD,
      r.2.mem ((c.tc : Thread Cert.InW.nD Cert.InW.τ).loc Cert.InW.main_arg0) = m ((c.tc : Thread Cert.InW.nD Cert.InW.τ).loc Cert.InW.main_arg0)
      ∧ r.2.mem ((c.tc : Thread Cert.InW.nD Cert.InW.τ).loc Cert.InW.main_arg1) = m ((c.tc : Thread Cert.InW.nD Cert.InW.τ).loc Cert.InW.main_arg1)
      ∧ r.2.mem ((c.tc : Thread Cert.InW.nD Cert.InW.τ).loc Cert.InW.main_arg2) = m ((c.tc : Thread Cert.InW.nD Cert.InW.τ).loc Cert.InW.main_arg2)
      ∧ r.2.mem ((c.tc : Thread Cert.InW.nD Cert.InW.τ).loc Cert.InW.main_arg3) = m ((c.tc : Thread Cert.InW.nD Cert.InW.τ).loc Cert.InW.main_arg3)
      ∧ r.2.mem ((c.tc : Thread Cert.InW.nD Cert.InW.τ).loc Cert.InW.main_arg4) = m ((c.tc : Thread Cert.InW.nD Cert.InW.τ).loc Cert.InW.main_arg4)
      ∧ r.2.mem ((c.tc : Thread Cert.InW.nD Cert.InW.τ).loc Cert.InW.main_arg5) = m ((c.tc : Thread Cert.InW.nD Cert.InW.τ).loc Cert.InW.main_arg5))
      ∧ r.2.sem = fun _ => 0)

def quiescent_InWIdeal [hInWIdeal : Cert.InWIdeal.Facts] : Prop :=
  ∀ (m : (ℓ : Loc Cert.InWIdeal.nD Cert.InWIdeal.τ Cert.InWIdeal.sig) → Buf (Elt Ideal) ℓ) (g : Dev Cert.InWIdeal.nD → PrngReg), Pre_InWIdeal m →
    θ_run (Cert.InWIdeal.defs (F := Ideal)) (onTc (τ := Cert.InWIdeal.τ) (Cert.InWIdeal.main (F := Ideal))) ⟨m, fun _ => 0, g⟩ (fun r => (∀ c : Dev Cert.InWIdeal.nD,
      r.2.mem ((c.tc : Thread Cert.InWIdeal.nD Cert.InWIdeal.τ).loc Cert.InWIdeal.main_arg0) = m ((c.tc : Thread Cert.InWIdeal.nD Cert.InWIdeal.τ).loc Cert.InWIdeal.main_arg0)
      ∧ r.2.mem ((c.tc : Thread Cert.InWIdeal.nD Cert.InWIdeal.τ).loc Cert.InWIdeal.main_arg1) = m ((c.tc : Thread Cert.InWIdeal.nD Cert.InWIdeal.τ).loc Cert.InWIdeal.main_arg1)
      ∧ r.2.mem ((c.tc : Thread Cert.InWIdeal.nD Cert.InWIdeal.τ).loc Cert.InWIdeal.main_arg2) = m ((c.tc : Thread Cert.InWIdeal.nD Cert.InWIdeal.τ).loc Cert.InWIdeal.main_arg2)
      ∧ r.2.mem ((c.tc : Thread Cert.InWIdeal.nD Cert.InWIdeal.τ).loc Cert.InWIdeal.main_arg3) = m ((c.tc : Thread Cert.InWIdeal.nD Cert.InWIdeal.τ).loc Cert.InWIdeal.main_arg3)
      ∧ r.2.mem ((c.tc : Thread Cert.InWIdeal.nD Cert.InWIdeal.τ).loc Cert.InWIdeal.main_arg4) = m ((c.tc : Thread Cert.InWIdeal.nD Cert.InWIdeal.τ).loc Cert.InWIdeal.main_arg4)
      ∧ r.2.mem ((c.tc : Thread Cert.InWIdeal.nD Cert.InWIdeal.τ).loc Cert.InWIdeal.main_arg5) = m ((c.tc : Thread Cert.InWIdeal.nD Cert.InWIdeal.τ).loc Cert.InWIdeal.main_arg5))
      ∧ r.2.sem = fun _ => 0)

def quiescent_InWRefIdeal [hInWRefIdeal : Cert.InWRefIdeal.Facts] : Prop :=
  ∀ (m : (ℓ : Loc Cert.InWRefIdeal.nD Cert.InWRefIdeal.τ Cert.InWRefIdeal.sig) → Buf (Elt Ideal) ℓ) (g : Dev Cert.InWRefIdeal.nD → PrngReg), Pre_InWRefIdeal m →
    θ_run (Cert.InWRefIdeal.defs (F := Ideal)) (onTc (τ := Cert.InWRefIdeal.τ) (Cert.InWRefIdeal.main (F := Ideal))) ⟨m, fun _ => 0, g⟩ (fun r => (∀ c : Dev Cert.InWRefIdeal.nD,
      r.2.mem ((c.tc : Thread Cert.InWRefIdeal.nD Cert.InWRefIdeal.τ).loc Cert.InWRefIdeal.main_arg0) = m ((c.tc : Thread Cert.InWRefIdeal.nD Cert.InWRefIdeal.τ).loc Cert.InWRefIdeal.main_arg0)
      ∧ r.2.mem ((c.tc : Thread Cert.InWRefIdeal.nD Cert.InWRefIdeal.τ).loc Cert.InWRefIdeal.main_arg1) = m ((c.tc : Thread Cert.InWRefIdeal.nD Cert.InWRefIdeal.τ).loc Cert.InWRefIdeal.main_arg1)
      ∧ r.2.mem ((c.tc : Thread Cert.InWRefIdeal.nD Cert.InWRefIdeal.τ).loc Cert.InWRefIdeal.main_arg2) = m ((c.tc : Thread Cert.InWRefIdeal.nD Cert.InWRefIdeal.τ).loc Cert.InWRefIdeal.main_arg2)
      ∧ r.2.mem ((c.tc : Thread Cert.InWRefIdeal.nD Cert.InWRefIdeal.τ).loc Cert.InWRefIdeal.main_arg3) = m ((c.tc : Thread Cert.InWRefIdeal.nD Cert.InWRefIdeal.τ).loc Cert.InWRefIdeal.main_arg3)
      ∧ r.2.mem ((c.tc : Thread Cert.InWRefIdeal.nD Cert.InWRefIdeal.τ).loc Cert.InWRefIdeal.main_arg4) = m ((c.tc : Thread Cert.InWRefIdeal.nD Cert.InWRefIdeal.τ).loc Cert.InWRefIdeal.main_arg4)
      ∧ r.2.mem ((c.tc : Thread Cert.InWRefIdeal.nD Cert.InWRefIdeal.τ).loc Cert.InWRefIdeal.main_arg5) = m ((c.tc : Thread Cert.InWRefIdeal.nD Cert.InWRefIdeal.τ).loc Cert.InWRefIdeal.main_arg5))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolIdeal_pre_finite_pool [hPoolIdeal : Cert.PoolIdeal.Facts] [hPre_finite_pool : Cert.Pre_finite_pool.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_finite_pool m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_PoolRefIdeal_pre_finite_pool [hPoolRefIdeal : Cert.PoolRefIdeal.Facts] [hPre_finite_pool : Cert.Pre_finite_pool.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_finite_pool m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_InX [hInX : Cert.InX.Facts] : Prop :=
  ∀ (m : (ℓ : Loc Cert.InX.nD Cert.InX.τ Cert.InX.sig) → Buf (Elt Bits) ℓ) (g : Dev Cert.InX.nD → PrngReg), Pre_InX m →
    θ_run (Cert.InX.defs (F := Bits)) (onTc (τ := Cert.InX.τ) (Cert.InX.main (F := Bits))) ⟨m, fun _ => 0, g⟩ (fun r => (∀ c : Dev Cert.InX.nD,
      r.2.mem ((c.tc : Thread Cert.InX.nD Cert.InX.τ).loc Cert.InX.main_arg0) = m ((c.tc : Thread Cert.InX.nD Cert.InX.τ).loc Cert.InX.main_arg0)
      ∧ r.2.mem ((c.tc : Thread Cert.InX.nD Cert.InX.τ).loc Cert.InX.main_arg1) = m ((c.tc : Thread Cert.InX.nD Cert.InX.τ).loc Cert.InX.main_arg1)
      ∧ r.2.mem ((c.tc : Thread Cert.InX.nD Cert.InX.τ).loc Cert.InX.main_arg2) = m ((c.tc : Thread Cert.InX.nD Cert.InX.τ).loc Cert.InX.main_arg2)
      ∧ r.2.mem ((c.tc : Thread Cert.InX.nD Cert.InX.τ).loc Cert.InX.main_arg3) = m ((c.tc : Thread Cert.InX.nD Cert.InX.τ).loc Cert.InX.main_arg3)
      ∧ r.2.mem ((c.tc : Thread Cert.InX.nD Cert.InX.τ).loc Cert.InX.main_arg4) = m ((c.tc : Thread Cert.InX.nD Cert.InX.τ).loc Cert.InX.main_arg4)
      ∧ r.2.mem ((c.tc : Thread Cert.InX.nD Cert.InX.τ).loc Cert.InX.main_arg5) = m ((c.tc : Thread Cert.InX.nD Cert.InX.τ).loc Cert.InX.main_arg5)
      ∧ r.2.mem ((c.tc : Thread Cert.InX.nD Cert.InX.τ).loc Cert.InX.main_arg6) = m ((c.tc : Thread Cert.InX.nD Cert.InX.τ).loc Cert.InX.main_arg6)
      ∧ r.2.mem ((c.tc : Thread Cert.InX.nD Cert.InX.τ).loc Cert.InX.main_arg7) = m ((c.tc : Thread Cert.InX.nD Cert.InX.τ).loc Cert.InX.main_arg7)
      ∧ r.2.mem ((c.tc : Thread Cert.InX.nD Cert.InX.τ).loc Cert.InX.main_arg8) = m ((c.tc : Thread Cert.InX.nD Cert.InX.τ).loc Cert.InX.main_arg8))
      ∧ r.2.sem = fun _ => 0)

def quiescent_InXIdeal [hInXIdeal : Cert.InXIdeal.Facts] : Prop :=
  ∀ (m : (ℓ : Loc Cert.InXIdeal.nD Cert.InXIdeal.τ Cert.InXIdeal.sig) → Buf (Elt Ideal) ℓ) (g : Dev Cert.InXIdeal.nD → PrngReg), Pre_InXIdeal m →
    θ_run (Cert.InXIdeal.defs (F := Ideal)) (onTc (τ := Cert.InXIdeal.τ) (Cert.InXIdeal.main (F := Ideal))) ⟨m, fun _ => 0, g⟩ (fun r => (∀ c : Dev Cert.InXIdeal.nD,
      r.2.mem ((c.tc : Thread Cert.InXIdeal.nD Cert.InXIdeal.τ).loc Cert.InXIdeal.main_arg0) = m ((c.tc : Thread Cert.InXIdeal.nD Cert.InXIdeal.τ).loc Cert.InXIdeal.main_arg0)
      ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
      ∧ r.2.mem ((c.tc : Thread Cert.InXIdeal.nD Cert.InXIdeal.τ).loc Cert.InXIdeal.main_arg2) = m ((c.tc : Thread Cert.InXIdeal.nD Cert.InXIdeal.τ).loc Cert.InXIdeal.main_arg2)
      ∧ r.2.mem ((c.tc : Thread Cert.InXIdeal.nD Cert.InXIdeal.τ).loc Cert.InXIdeal.main_arg3) = m ((c.tc : Thread Cert.InXIdeal.nD Cert.InXIdeal.τ).loc Cert.InXIdeal.main_arg3)
      ∧ r.2.mem ((c.tc : Thread Cert.InXIdeal.nD Cert.InXIdeal.τ).loc Cert.InXIdeal.main_arg4) = m ((c.tc : Thread Cert.InXIdeal.nD Cert.InXIdeal.τ).loc Cert.InXIdeal.main_arg4)
      ∧ r.2.mem ((c.tc : Thread Cert.InXIdeal.nD Cert.InXIdeal.τ).loc Cert.InXIdeal.main_arg5) = m ((c.tc : Thread Cert.InXIdeal.nD Cert.InXIdeal.τ).loc Cert.InXIdeal.main_arg5)
      ∧ r.2.mem ((c.tc : Thread Cert.InXIdeal.nD Cert.InXIdeal.τ).loc Cert.InXIdeal.main_arg6) = m ((c.tc : Thread Cert.InXIdeal.nD Cert.InXIdeal.τ).loc Cert.InXIdeal.main_arg6)
      ∧ r.2.mem ((c.tc : Thread Cert.InXIdeal.nD Cert.InXIdeal.τ).loc Cert.InXIdeal.main_arg7) = m ((c.tc : Thread Cert.InXIdeal.nD Cert.InXIdeal.τ).loc Cert.InXIdeal.main_arg7)
      ∧ r.2.mem ((c.tc : Thread Cert.InXIdeal.nD Cert.InXIdeal.τ).loc Cert.InXIdeal.main_arg8) = m ((c.tc : Thread Cert.InXIdeal.nD Cert.InXIdeal.τ).loc Cert.InXIdeal.main_arg8))
      ∧ r.2.sem = fun _ => 0)

def quiescent_InXIdeal_pre_finite_inx [hInXIdeal : Cert.InXIdeal.Facts] [hPre_finite_inx : Cert.Pre_finite_inx.Facts] : Prop :=
  ∀ (m : (ℓ : Loc Cert.InXIdeal.nD Cert.InXIdeal.τ Cert.InXIdeal.sig) → Buf (Elt Ideal) ℓ) (g : Dev Cert.InXIdeal.nD → PrngReg), Pre_InXIdeal_finite_inx m →
    θ_run (Cert.InXIdeal.defs (F := Ideal)) (onTc (τ := Cert.InXIdeal.τ) (Cert.InXIdeal.main (F := Ideal))) ⟨m, fun _ => 0, g⟩ (fun r => (∀ c : Dev Cert.InXIdeal.nD,
      r.2.mem ((c.tc : Thread Cert.InXIdeal.nD Cert.InXIdeal.τ).loc Cert.InXIdeal.main_arg0) = m ((c.tc : Thread Cert.InXIdeal.nD Cert.InXIdeal.τ).loc Cert.InXIdeal.main_arg0)
      ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
      ∧ r.2.mem ((c.tc : Thread Cert.InXIdeal.nD Cert.InXIdeal.τ).loc Cert.InXIdeal.main_arg2) = m ((c.tc : Thread Cert.InXIdeal.nD Cert.InXIdeal.τ).loc Cert.InXIdeal.main_arg2)
      ∧ r.2.mem ((c.tc : Thread Cert.InXIdeal.nD Cert.InXIdeal.τ).loc Cert.InXIdeal.main_arg3) = m ((c.tc : Thread Cert.InXIdeal.nD Cert.InXIdeal.τ).loc Cert.InXIdeal.main_arg3)
      ∧ r.2.mem ((c.tc : Thread Cert.InXIdeal.nD Cert.InXIdeal.τ).loc Cert.InXIdeal.main_arg4) = m ((c.tc : Thread Cert.InXIdeal.nD Cert.InXIdeal.τ).loc Cert.InXIdeal.main_arg4)
      ∧ r.2.mem ((c.tc : Thread Cert.InXIdeal.nD Cert.InXIdeal.τ).loc Cert.InXIdeal.main_arg5) = m ((c.tc : Thread Cert.InXIdeal.nD Cert.InXIdeal.τ).loc Cert.InXIdeal.main_arg5)
      ∧ r.2.mem ((c.tc : Thread Cert.InXIdeal.nD Cert.InXIdeal.τ).loc Cert.InXIdeal.main_arg6) = m ((c.tc : Thread Cert.InXIdeal.nD Cert.InXIdeal.τ).loc Cert.InXIdeal.main_arg6)
      ∧ r.2.mem ((c.tc : Thread Cert.InXIdeal.nD Cert.InXIdeal.τ).loc Cert.InXIdeal.main_arg7) = m ((c.tc : Thread Cert.InXIdeal.nD Cert.InXIdeal.τ).loc Cert.InXIdeal.main_arg7)
      ∧ r.2.mem ((c.tc : Thread Cert.InXIdeal.nD Cert.InXIdeal.τ).loc Cert.InXIdeal.main_arg8) = m ((c.tc : Thread Cert.InXIdeal.nD Cert.InXIdeal.τ).loc Cert.InXIdeal.main_arg8))
      ∧ r.2.sem = fun _ => 0)

def quiescent_InXRefIdeal [hInXRefIdeal : Cert.InXRefIdeal.Facts] : Prop :=
  ∀ (m : (ℓ : Loc Cert.InXRefIdeal.nD Cert.InXRefIdeal.τ Cert.InXRefIdeal.sig) → Buf (Elt Ideal) ℓ) (g : Dev Cert.InXRefIdeal.nD → PrngReg), Pre_InXRefIdeal m →
    θ_run (Cert.InXRefIdeal.defs (F := Ideal)) (onTc (τ := Cert.InXRefIdeal.τ) (Cert.InXRefIdeal.main (F := Ideal))) ⟨m, fun _ => 0, g⟩ (fun r => (∀ c : Dev Cert.InXRefIdeal.nD,
      r.2.mem ((c.tc : Thread Cert.InXRefIdeal.nD Cert.InXRefIdeal.τ).loc Cert.InXRefIdeal.main_arg0) = m ((c.tc : Thread Cert.InXRefIdeal.nD Cert.InXRefIdeal.τ).loc Cert.InXRefIdeal.main_arg0)
      ∧ r.2.mem ((c.tc : Thread Cert.InXRefIdeal.nD Cert.InXRefIdeal.τ).loc Cert.InXRefIdeal.main_arg1) = m ((c.tc : Thread Cert.InXRefIdeal.nD Cert.InXRefIdeal.τ).loc Cert.InXRefIdeal.main_arg1)
      ∧ r.2.mem ((c.tc : Thread Cert.InXRefIdeal.nD Cert.InXRefIdeal.τ).loc Cert.InXRefIdeal.main_arg2) = m ((c.tc : Thread Cert.InXRefIdeal.nD Cert.InXRefIdeal.τ).loc Cert.InXRefIdeal.main_arg2)
      ∧ r.2.mem ((c.tc : Thread Cert.InXRefIdeal.nD Cert.InXRefIdeal.τ).loc Cert.InXRefIdeal.main_arg3) = m ((c.tc : Thread Cert.InXRefIdeal.nD Cert.InXRefIdeal.τ).loc Cert.InXRefIdeal.main_arg3)
      ∧ r.2.mem ((c.tc : Thread Cert.InXRefIdeal.nD Cert.InXRefIdeal.τ).loc Cert.InXRefIdeal.main_arg4) = m ((c.tc : Thread Cert.InXRefIdeal.nD Cert.InXRefIdeal.τ).loc Cert.InXRefIdeal.main_arg4)
      ∧ r.2.mem ((c.tc : Thread Cert.InXRefIdeal.nD Cert.InXRefIdeal.τ).loc Cert.InXRefIdeal.main_arg5) = m ((c.tc : Thread Cert.InXRefIdeal.nD Cert.InXRefIdeal.τ).loc Cert.InXRefIdeal.main_arg5)
      ∧ r.2.mem ((c.tc : Thread Cert.InXRefIdeal.nD Cert.InXRefIdeal.τ).loc Cert.InXRefIdeal.main_arg6) = m ((c.tc : Thread Cert.InXRefIdeal.nD Cert.InXRefIdeal.τ).loc Cert.InXRefIdeal.main_arg6)
      ∧ r.2.mem ((c.tc : Thread Cert.InXRefIdeal.nD Cert.InXRefIdeal.τ).loc Cert.InXRefIdeal.main_arg7) = m ((c.tc : Thread Cert.InXRefIdeal.nD Cert.InXRefIdeal.τ).loc Cert.InXRefIdeal.main_arg7)
      ∧ r.2.mem ((c.tc : Thread Cert.InXRefIdeal.nD Cert.InXRefIdeal.τ).loc Cert.InXRefIdeal.main_arg8) = m ((c.tc : Thread Cert.InXRefIdeal.nD Cert.InXRefIdeal.τ).loc Cert.InXRefIdeal.main_arg8))
      ∧ r.2.sem = fun _ => 0)

def quiescent_InXRefIdeal_pre_finite_inx [hInXRefIdeal : Cert.InXRefIdeal.Facts] [hPre_finite_inx : Cert.Pre_finite_inx.Facts] : Prop :=
  ∀ (m : (ℓ : Loc Cert.InXRefIdeal.nD Cert.InXRefIdeal.τ Cert.InXRefIdeal.sig) → Buf (Elt Ideal) ℓ) (g : Dev Cert.InXRefIdeal.nD → PrngReg), Pre_InXRefIdeal_finite_inx m →
    θ_run (Cert.InXRefIdeal.defs (F := Ideal)) (onTc (τ := Cert.InXRefIdeal.τ) (Cert.InXRefIdeal.main (F := Ideal))) ⟨m, fun _ => 0, g⟩ (fun r => (∀ c : Dev Cert.InXRefIdeal.nD,
      r.2.mem ((c.tc : Thread Cert.InXRefIdeal.nD Cert.InXRefIdeal.τ).loc Cert.InXRefIdeal.main_arg0) = m ((c.tc : Thread Cert.InXRefIdeal.nD Cert.InXRefIdeal.τ).loc Cert.InXRefIdeal.main_arg0)
      ∧ r.2.mem ((c.tc : Thread Cert.InXRefIdeal.nD Cert.InXRefIdeal.τ).loc Cert.InXRefIdeal.main_arg1) = m ((c.tc : Thread Cert.InXRefIdeal.nD Cert.InXRefIdeal.τ).loc Cert.InXRefIdeal.main_arg1)
      ∧ r.2.mem ((c.tc : Thread Cert.InXRefIdeal.nD Cert.InXRefIdeal.τ).loc Cert.InXRefIdeal.main_arg2) = m ((c.tc : Thread Cert.InXRefIdeal.nD Cert.InXRefIdeal.τ).loc Cert.InXRefIdeal.main_arg2)
      ∧ r.2.mem ((c.tc : Thread Cert.InXRefIdeal.nD Cert.InXRefIdeal.τ).loc Cert.InXRefIdeal.main_arg3) = m ((c.tc : Thread Cert.InXRefIdeal.nD Cert.InXRefIdeal.τ).loc Cert.InXRefIdeal.main_arg3)
      ∧ r.2.mem ((c.tc : Thread Cert.InXRefIdeal.nD Cert.InXRefIdeal.τ).loc Cert.InXRefIdeal.main_arg4) = m ((c.tc : Thread Cert.InXRefIdeal.nD Cert.InXRefIdeal.τ).loc Cert.InXRefIdeal.main_arg4)
      ∧ r.2.mem ((c.tc : Thread Cert.InXRefIdeal.nD Cert.InXRefIdeal.τ).loc Cert.InXRefIdeal.main_arg5) = m ((c.tc : Thread Cert.InXRefIdeal.nD Cert.InXRefIdeal.τ).loc Cert.InXRefIdeal.main_arg5)
      ∧ r.2.mem ((c.tc : Thread Cert.InXRefIdeal.nD Cert.InXRefIdeal.τ).loc Cert.InXRefIdeal.main_arg6) = m ((c.tc : Thread Cert.InXRefIdeal.nD Cert.InXRefIdeal.τ).loc Cert.InXRefIdeal.main_arg6)
      ∧ r.2.mem ((c.tc : Thread Cert.InXRefIdeal.nD Cert.InXRefIdeal.τ).loc Cert.InXRefIdeal.main_arg7) = m ((c.tc : Thread Cert.InXRefIdeal.nD Cert.InXRefIdeal.τ).loc Cert.InXRefIdeal.main_arg7)
      ∧ r.2.mem ((c.tc : Thread Cert.InXRefIdeal.nD Cert.InXRefIdeal.τ).loc Cert.InXRefIdeal.main_arg8) = m ((c.tc : Thread Cert.InXRefIdeal.nD Cert.InXRefIdeal.τ).loc Cert.InXRefIdeal.main_arg8))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3)
      ∧ r.2.mem ((c.tc : Thread Cert.Glu.nD Cert.Glu.τ).loc Cert.Glu.main_arg4) = m ((c.tc : Thread Cert.Glu.nD Cert.Glu.τ).loc Cert.Glu.main_arg4))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
      ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ r.2.sem = fun _ => 0)

def quiescent_GluIdeal_pre_finite_glu [hGluIdeal : Cert.GluIdeal.Facts] [hPre_finite_glu : Cert.Pre_finite_glu.Facts] : Prop :=
  ∀ (m : (ℓ : Loc Cert.GluIdeal.nD Cert.GluIdeal.τ Cert.GluIdeal.sig) → Buf (Elt Ideal) ℓ) (g : Dev Cert.GluIdeal.nD → PrngReg), Pre_GluIdeal_finite_glu m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
      ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3)
      ∧ r.2.mem ((c.tc : Thread Cert.GluRefIdeal.nD Cert.GluRefIdeal.τ).loc Cert.GluRefIdeal.main_arg4) = m ((c.tc : Thread Cert.GluRefIdeal.nD Cert.GluRefIdeal.τ).loc Cert.GluRefIdeal.main_arg4))
      ∧ r.2.sem = fun _ => 0)

def quiescent_GluRefIdeal_pre_finite_glu [hGluRefIdeal : Cert.GluRefIdeal.Facts] [hPre_finite_glu : Cert.Pre_finite_glu.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal_finite_glu m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3)
      ∧ r.2.mem ((c.tc : Thread Cert.GluRefIdeal.nD Cert.GluRefIdeal.τ).loc Cert.GluRefIdeal.main_arg4) = m ((c.tc : Thread Cert.GluRefIdeal.nD Cert.GluRefIdeal.τ).loc Cert.GluRefIdeal.main_arg4))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5)
      ∧ r.2.mem ((c.tc : Thread Cert.Head.nD Cert.Head.τ).loc Cert.Head.main_arg6) = m ((c.tc : Thread Cert.Head.nD Cert.Head.τ).loc Cert.Head.main_arg6)
      ∧ r.2.mem ((c.tc : Thread Cert.Head.nD Cert.Head.τ).loc Cert.Head.main_arg7) = m ((c.tc : Thread Cert.Head.nD Cert.Head.τ).loc Cert.Head.main_arg7)
      ∧ r.2.mem ((c.tc : Thread Cert.Head.nD Cert.Head.τ).loc Cert.Head.main_arg8) = m ((c.tc : Thread Cert.Head.nD Cert.Head.τ).loc Cert.Head.main_arg8)
      ∧ r.2.mem ((c.tc : Thread Cert.Head.nD Cert.Head.τ).loc Cert.Head.main_arg9) = m ((c.tc : Thread Cert.Head.nD Cert.Head.τ).loc Cert.Head.main_arg9))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
      ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
      ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8)
      ∧ r.2.mem ((c.tc : Thread Cert.HeadIdeal.nD Cert.HeadIdeal.τ).loc Cert.HeadIdeal.main_arg9) = m ((c.tc : Thread Cert.HeadIdeal.nD Cert.HeadIdeal.τ).loc Cert.HeadIdeal.main_arg9))
      ∧ r.2.sem = fun _ => 0)

def quiescent_HeadIdeal_pre_finite_head [hHeadIdeal : Cert.HeadIdeal.Facts] [hPre_finite_head : Cert.Pre_finite_head.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal_finite_head m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
      ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
      ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8)
      ∧ r.2.mem ((c.tc : Thread Cert.HeadIdeal.nD Cert.HeadIdeal.τ).loc Cert.HeadIdeal.main_arg9) = m ((c.tc : Thread Cert.HeadIdeal.nD Cert.HeadIdeal.τ).loc Cert.HeadIdeal.main_arg9))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6)
      ∧ r.2.mem ((c.tc : Thread Cert.HeadRefIdeal.nD Cert.HeadRefIdeal.τ).loc Cert.HeadRefIdeal.main_arg7) = m ((c.tc : Thread Cert.HeadRefIdeal.nD Cert.HeadRefIdeal.τ).loc Cert.HeadRefIdeal.main_arg7)
      ∧ r.2.mem ((c.tc : Thread Cert.HeadRefIdeal.nD Cert.HeadRefIdeal.τ).loc Cert.HeadRefIdeal.main_arg8) = m ((c.tc : Thread Cert.HeadRefIdeal.nD Cert.HeadRefIdeal.τ).loc Cert.HeadRefIdeal.main_arg8)
      ∧ r.2.mem ((c.tc : Thread Cert.HeadRefIdeal.nD Cert.HeadRefIdeal.τ).loc Cert.HeadRefIdeal.main_arg9) = m ((c.tc : Thread Cert.HeadRefIdeal.nD Cert.HeadRefIdeal.τ).loc Cert.HeadRefIdeal.main_arg9))
      ∧ r.2.sem = fun _ => 0)

def quiescent_HeadRefIdeal_pre_finite_head [hHeadRefIdeal : Cert.HeadRefIdeal.Facts] [hPre_finite_head : Cert.Pre_finite_head.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal_finite_head m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6)
      ∧ r.2.mem ((c.tc : Thread Cert.HeadRefIdeal.nD Cert.HeadRefIdeal.τ).loc Cert.HeadRefIdeal.main_arg7) = m ((c.tc : Thread Cert.HeadRefIdeal.nD Cert.HeadRefIdeal.τ).loc Cert.HeadRefIdeal.main_arg7)
      ∧ r.2.mem ((c.tc : Thread Cert.HeadRefIdeal.nD Cert.HeadRefIdeal.τ).loc Cert.HeadRefIdeal.main_arg8) = m ((c.tc : Thread Cert.HeadRefIdeal.nD Cert.HeadRefIdeal.τ).loc Cert.HeadRefIdeal.main_arg8)
      ∧ r.2.mem ((c.tc : Thread Cert.HeadRefIdeal.nD Cert.HeadRefIdeal.τ).loc Cert.HeadRefIdeal.main_arg9) = m ((c.tc : Thread Cert.HeadRefIdeal.nD Cert.HeadRefIdeal.τ).loc Cert.HeadRefIdeal.main_arg9))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8))
      ∧ r.2.sem = fun _ => 0)

def quiescent_PoolF [hPoolF : Cert.PoolF.Facts] : Prop :=
  ∀ (m : (ℓ : Loc Cert.PoolF.nD Cert.PoolF.τ Cert.PoolF.sig) → Buf (Elt Bits) ℓ) (g : Dev Cert.PoolF.nD → PrngReg), Pre_PoolF m →
    θ_run (Cert.PoolF.defs (F := Bits)) (onTc (τ := Cert.PoolF.τ) (Cert.PoolF.main (F := Bits))) ⟨m, fun _ => 0, g⟩ (fun r => (∀ c : Dev Cert.PoolF.nD,
      r.2.mem ((c.tc : Thread Cert.PoolF.nD Cert.PoolF.τ).loc Cert.PoolF.main_arg0) = m ((c.tc : Thread Cert.PoolF.nD Cert.PoolF.τ).loc Cert.PoolF.main_arg0)
      ∧ r.2.mem ((c.tc : Thread Cert.PoolF.nD Cert.PoolF.τ).loc Cert.PoolF.main_arg1) = m ((c.tc : Thread Cert.PoolF.nD Cert.PoolF.τ).loc Cert.PoolF.main_arg1)
      ∧ r.2.mem ((c.tc : Thread Cert.PoolF.nD Cert.PoolF.τ).loc Cert.PoolF.main_arg2) = m ((c.tc : Thread Cert.PoolF.nD Cert.PoolF.τ).loc Cert.PoolF.main_arg2))
      ∧ r.2.sem = fun _ => 0)

def quiescent_PoolFIdeal [hPoolFIdeal : Cert.PoolFIdeal.Facts] : Prop :=
  ∀ (m : (ℓ : Loc Cert.PoolFIdeal.nD Cert.PoolFIdeal.τ Cert.PoolFIdeal.sig) → Buf (Elt Ideal) ℓ) (g : Dev Cert.PoolFIdeal.nD → PrngReg), Pre_PoolFIdeal m →
    θ_run (Cert.PoolFIdeal.defs (F := Ideal)) (onTc (τ := Cert.PoolFIdeal.τ) (Cert.PoolFIdeal.main (F := Ideal))) ⟨m, fun _ => 0, g⟩ (fun r => (∀ c : Dev Cert.PoolFIdeal.nD,
      r.2.mem ((c.tc : Thread Cert.PoolFIdeal.nD Cert.PoolFIdeal.τ).loc Cert.PoolFIdeal.main_arg0) = m ((c.tc : Thread Cert.PoolFIdeal.nD Cert.PoolFIdeal.τ).loc Cert.PoolFIdeal.main_arg0)
      ∧ r.2.mem ((c.tc : Thread Cert.PoolFIdeal.nD Cert.PoolFIdeal.τ).loc Cert.PoolFIdeal.main_arg1) = m ((c.tc : Thread Cert.PoolFIdeal.nD Cert.PoolFIdeal.τ).loc Cert.PoolFIdeal.main_arg1)
      ∧ r.2.mem ((c.tc : Thread Cert.PoolFIdeal.nD Cert.PoolFIdeal.τ).loc Cert.PoolFIdeal.main_arg2) = m ((c.tc : Thread Cert.PoolFIdeal.nD Cert.PoolFIdeal.τ).loc Cert.PoolFIdeal.main_arg2))
      ∧ r.2.sem = fun _ => 0)

def quiescent_PoolFIdeal_pre_finite_poolf [hPoolFIdeal : Cert.PoolFIdeal.Facts] [hPre_finite_poolf : Cert.Pre_finite_poolf.Facts] : Prop :=
  ∀ (m : (ℓ : Loc Cert.PoolFIdeal.nD Cert.PoolFIdeal.τ Cert.PoolFIdeal.sig) → Buf (Elt Ideal) ℓ) (g : Dev Cert.PoolFIdeal.nD → PrngReg), Pre_PoolFIdeal_finite_poolf m →
    θ_run (Cert.PoolFIdeal.defs (F := Ideal)) (onTc (τ := Cert.PoolFIdeal.τ) (Cert.PoolFIdeal.main (F := Ideal))) ⟨m, fun _ => 0, g⟩ (fun r => (∀ c : Dev Cert.PoolFIdeal.nD,
      r.2.mem ((c.tc : Thread Cert.PoolFIdeal.nD Cert.PoolFIdeal.τ).loc Cert.PoolFIdeal.main_arg0) = m ((c.tc : Thread Cert.PoolFIdeal.nD Cert.PoolFIdeal.τ).loc Cert.PoolFIdeal.main_arg0)
      ∧ r.2.mem ((c.tc : Thread Cert.PoolFIdeal.nD Cert.PoolFIdeal.τ).loc Cert.PoolFIdeal.main_arg1) = m ((c.tc : Thread Cert.PoolFIdeal.nD Cert.PoolFIdeal.τ).loc Cert.PoolFIdeal.main_arg1)
      ∧ r.2.mem ((c.tc : Thread Cert.PoolFIdeal.nD Cert.PoolFIdeal.τ).loc Cert.PoolFIdeal.main_arg2) = m ((c.tc : Thread Cert.PoolFIdeal.nD Cert.PoolFIdeal.τ).loc Cert.PoolFIdeal.main_arg2))
      ∧ r.2.sem = fun _ => 0)

def quiescent_PoolFRefIdeal [hPoolFRefIdeal : Cert.PoolFRefIdeal.Facts] : Prop :=
  ∀ (m : (ℓ : Loc Cert.PoolFRefIdeal.nD Cert.PoolFRefIdeal.τ Cert.PoolFRefIdeal.sig) → Buf (Elt Ideal) ℓ) (g : Dev Cert.PoolFRefIdeal.nD → PrngReg), Pre_PoolFRefIdeal m →
    θ_run (Cert.PoolFRefIdeal.defs (F := Ideal)) (onTc (τ := Cert.PoolFRefIdeal.τ) (Cert.PoolFRefIdeal.main (F := Ideal))) ⟨m, fun _ => 0, g⟩ (fun r => (∀ c : Dev Cert.PoolFRefIdeal.nD,
      r.2.mem ((c.tc : Thread Cert.PoolFRefIdeal.nD Cert.PoolFRefIdeal.τ).loc Cert.PoolFRefIdeal.main_arg0) = m ((c.tc : Thread Cert.PoolFRefIdeal.nD Cert.PoolFRefIdeal.τ).loc Cert.PoolFRefIdeal.main_arg0)
      ∧ r.2.mem ((c.tc : Thread Cert.PoolFRefIdeal.nD Cert.PoolFRefIdeal.τ).loc Cert.PoolFRefIdeal.main_arg1) = m ((c.tc : Thread Cert.PoolFRefIdeal.nD Cert.PoolFRefIdeal.τ).loc Cert.PoolFRefIdeal.main_arg1)
      ∧ r.2.mem ((c.tc : Thread Cert.PoolFRefIdeal.nD Cert.PoolFRefIdeal.τ).loc Cert.PoolFRefIdeal.main_arg2) = m ((c.tc : Thread Cert.PoolFRefIdeal.nD Cert.PoolFRefIdeal.τ).loc Cert.PoolFRefIdeal.main_arg2))
      ∧ r.2.sem = fun _ => 0)

def quiescent_PoolFRefIdeal_pre_finite_poolf [hPoolFRefIdeal : Cert.PoolFRefIdeal.Facts] [hPre_finite_poolf : Cert.Pre_finite_poolf.Facts] : Prop :=
  ∀ (m : (ℓ : Loc Cert.PoolFRefIdeal.nD Cert.PoolFRefIdeal.τ Cert.PoolFRefIdeal.sig) → Buf (Elt Ideal) ℓ) (g : Dev Cert.PoolFRefIdeal.nD → PrngReg), Pre_PoolFRefIdeal_finite_poolf m →
    θ_run (Cert.PoolFRefIdeal.defs (F := Ideal)) (onTc (τ := Cert.PoolFRefIdeal.τ) (Cert.PoolFRefIdeal.main (F := Ideal))) ⟨m, fun _ => 0, g⟩ (fun r => (∀ c : Dev Cert.PoolFRefIdeal.nD,
      r.2.mem ((c.tc : Thread Cert.PoolFRefIdeal.nD Cert.PoolFRefIdeal.τ).loc Cert.PoolFRefIdeal.main_arg0) = m ((c.tc : Thread Cert.PoolFRefIdeal.nD Cert.PoolFRefIdeal.τ).loc Cert.PoolFRefIdeal.main_arg0)
      ∧ r.2.mem ((c.tc : Thread Cert.PoolFRefIdeal.nD Cert.PoolFRefIdeal.τ).loc Cert.PoolFRefIdeal.main_arg1) = m ((c.tc : Thread Cert.PoolFRefIdeal.nD Cert.PoolFRefIdeal.τ).loc Cert.PoolFRefIdeal.main_arg1)
      ∧ r.2.mem ((c.tc : Thread Cert.PoolFRefIdeal.nD Cert.PoolFRefIdeal.τ).loc Cert.PoolFRefIdeal.main_arg2) = m ((c.tc : Thread Cert.PoolFRefIdeal.nD Cert.PoolFRefIdeal.τ).loc Cert.PoolFRefIdeal.main_arg2))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdaU [hAdaU : Cert.AdaU.Facts] : Prop :=
  ∀ (m : (ℓ : Loc Cert.AdaU.nD Cert.AdaU.τ Cert.AdaU.sig) → Buf (Elt Bits) ℓ) (g : Dev Cert.AdaU.nD → PrngReg), Pre_AdaU m →
    θ_run (Cert.AdaU.defs (F := Bits)) (onTc (τ := Cert.AdaU.τ) (Cert.AdaU.main (F := Bits))) ⟨m, fun _ => 0, g⟩ (fun r => (∀ c : Dev Cert.AdaU.nD,
      r.2.mem ((c.tc : Thread Cert.AdaU.nD Cert.AdaU.τ).loc Cert.AdaU.main_arg0) = m ((c.tc : Thread Cert.AdaU.nD Cert.AdaU.τ).loc Cert.AdaU.main_arg0)
      ∧ r.2.mem ((c.tc : Thread Cert.AdaU.nD Cert.AdaU.τ).loc Cert.AdaU.main_arg1) = m ((c.tc : Thread Cert.AdaU.nD Cert.AdaU.τ).loc Cert.AdaU.main_arg1)
      ∧ r.2.mem ((c.tc : Thread Cert.AdaU.nD Cert.AdaU.τ).loc Cert.AdaU.main_arg2) = m ((c.tc : Thread Cert.AdaU.nD Cert.AdaU.τ).loc Cert.AdaU.main_arg2)
      ∧ r.2.mem ((c.tc : Thread Cert.AdaU.nD Cert.AdaU.τ).loc Cert.AdaU.main_arg3) = m ((c.tc : Thread Cert.AdaU.nD Cert.AdaU.τ).loc Cert.AdaU.main_arg3)
      ∧ r.2.mem ((c.tc : Thread Cert.AdaU.nD Cert.AdaU.τ).loc Cert.AdaU.main_arg4) = m ((c.tc : Thread Cert.AdaU.nD Cert.AdaU.τ).loc Cert.AdaU.main_arg4))
      ∧ r.2.sem = fun _ => 0)

def quiescent_AdaUIdeal [hAdaUIdeal : Cert.AdaUIdeal.Facts] : Prop :=
  ∀ (m : (ℓ : Loc Cert.AdaUIdeal.nD Cert.AdaUIdeal.τ Cert.AdaUIdeal.sig) → Buf (Elt Ideal) ℓ) (g : Dev Cert.AdaUIdeal.nD → PrngReg), Pre_AdaUIdeal m →
    θ_run (Cert.AdaUIdeal.defs (F := Ideal)) (onTc (τ := Cert.AdaUIdeal.τ) (Cert.AdaUIdeal.main (F := Ideal))) ⟨m, fun _ => 0, g⟩ (fun r => (∀ c : Dev Cert.AdaUIdeal.nD,
      r.2.mem ((c.tc : Thread Cert.AdaUIdeal.nD Cert.AdaUIdeal.τ).loc Cert.AdaUIdeal.main_arg0) = m ((c.tc : Thread Cert.AdaUIdeal.nD Cert.AdaUIdeal.τ).loc Cert.AdaUIdeal.main_arg0)
      ∧ r.2.mem ((c.tc : Thread Cert.AdaUIdeal.nD Cert.AdaUIdeal.τ).loc Cert.AdaUIdeal.main_arg1) = m ((c.tc : Thread Cert.AdaUIdeal.nD Cert.AdaUIdeal.τ).loc Cert.AdaUIdeal.main_arg1)
      ∧ r.2.mem ((c.tc : Thread Cert.AdaUIdeal.nD Cert.AdaUIdeal.τ).loc Cert.AdaUIdeal.main_arg2) = m ((c.tc : Thread Cert.AdaUIdeal.nD Cert.AdaUIdeal.τ).loc Cert.AdaUIdeal.main_arg2)
      ∧ r.2.mem ((c.tc : Thread Cert.AdaUIdeal.nD Cert.AdaUIdeal.τ).loc Cert.AdaUIdeal.main_arg3) = m ((c.tc : Thread Cert.AdaUIdeal.nD Cert.AdaUIdeal.τ).loc Cert.AdaUIdeal.main_arg3)
      ∧ r.2.mem ((c.tc : Thread Cert.AdaUIdeal.nD Cert.AdaUIdeal.τ).loc Cert.AdaUIdeal.main_arg4) = m ((c.tc : Thread Cert.AdaUIdeal.nD Cert.AdaUIdeal.τ).loc Cert.AdaUIdeal.main_arg4))
      ∧ r.2.sem = fun _ => 0)

def quiescent_AdaURefIdeal [hAdaURefIdeal : Cert.AdaURefIdeal.Facts] : Prop :=
  ∀ (m : (ℓ : Loc Cert.AdaURefIdeal.nD Cert.AdaURefIdeal.τ Cert.AdaURefIdeal.sig) → Buf (Elt Ideal) ℓ) (g : Dev Cert.AdaURefIdeal.nD → PrngReg), Pre_AdaURefIdeal m →
    θ_run (Cert.AdaURefIdeal.defs (F := Ideal)) (onTc (τ := Cert.AdaURefIdeal.τ) (Cert.AdaURefIdeal.main (F := Ideal))) ⟨m, fun _ => 0, g⟩ (fun r => (∀ c : Dev Cert.AdaURefIdeal.nD,
      r.2.mem ((c.tc : Thread Cert.AdaURefIdeal.nD Cert.AdaURefIdeal.τ).loc Cert.AdaURefIdeal.main_arg0) = m ((c.tc : Thread Cert.AdaURefIdeal.nD Cert.AdaURefIdeal.τ).loc Cert.AdaURefIdeal.main_arg0)
      ∧ r.2.mem ((c.tc : Thread Cert.AdaURefIdeal.nD Cert.AdaURefIdeal.τ).loc Cert.AdaURefIdeal.main_arg1) = m ((c.tc : Thread Cert.AdaURefIdeal.nD Cert.AdaURefIdeal.τ).loc Cert.AdaURefIdeal.main_arg1)
      ∧ r.2.mem ((c.tc : Thread Cert.AdaURefIdeal.nD Cert.AdaURefIdeal.τ).loc Cert.AdaURefIdeal.main_arg2) = m ((c.tc : Thread Cert.AdaURefIdeal.nD Cert.AdaURefIdeal.τ).loc Cert.AdaURefIdeal.main_arg2)
      ∧ r.2.mem ((c.tc : Thread Cert.AdaURefIdeal.nD Cert.AdaURefIdeal.τ).loc Cert.AdaURefIdeal.main_arg3) = m ((c.tc : Thread Cert.AdaURefIdeal.nD Cert.AdaURefIdeal.τ).loc Cert.AdaURefIdeal.main_arg3)
      ∧ r.2.mem ((c.tc : Thread Cert.AdaURefIdeal.nD Cert.AdaURefIdeal.τ).loc Cert.AdaURefIdeal.main_arg4) = m ((c.tc : Thread Cert.AdaURefIdeal.nD Cert.AdaURefIdeal.τ).loc Cert.AdaURefIdeal.main_arg4))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0)
      ∧ r.2.mem ((c.tc : Thread Cert.SumSmall.nD Cert.SumSmall.τ).loc Cert.SumSmall.main_arg1) = m ((c.tc : Thread Cert.SumSmall.nD Cert.SumSmall.τ).loc Cert.SumSmall.main_arg1)
      ∧ r.2.mem ((c.tc : Thread Cert.SumSmall.nD Cert.SumSmall.τ).loc Cert.SumSmall.main_arg2) = m ((c.tc : Thread Cert.SumSmall.nD Cert.SumSmall.τ).loc Cert.SumSmall.main_arg2))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0)
      ∧ r.2.mem ((c.tc : Thread Cert.SumSmallIdeal.nD Cert.SumSmallIdeal.τ).loc Cert.SumSmallIdeal.main_arg1) = m ((c.tc : Thread Cert.SumSmallIdeal.nD Cert.SumSmallIdeal.τ).loc Cert.SumSmallIdeal.main_arg1)
      ∧ r.2.mem ((c.tc : Thread Cert.SumSmallIdeal.nD Cert.SumSmallIdeal.τ).loc Cert.SumSmallIdeal.main_arg2) = m ((c.tc : Thread Cert.SumSmallIdeal.nD Cert.SumSmallIdeal.τ).loc Cert.SumSmallIdeal.main_arg2))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0)
      ∧ r.2.mem ((c.tc : Thread Cert.SumSmallRefIdeal.nD Cert.SumSmallRefIdeal.τ).loc Cert.SumSmallRefIdeal.main_arg1) = m ((c.tc : Thread Cert.SumSmallRefIdeal.nD Cert.SumSmallRefIdeal.τ).loc Cert.SumSmallRefIdeal.main_arg1)
      ∧ r.2.mem ((c.tc : Thread Cert.SumSmallRefIdeal.nD Cert.SumSmallRefIdeal.τ).loc Cert.SumSmallRefIdeal.main_arg2) = m ((c.tc : Thread Cert.SumSmallRefIdeal.nD Cert.SumSmallRefIdeal.τ).loc Cert.SumSmallRefIdeal.main_arg2))
      ∧ r.2.sem = fun _ => 0)

def quiescent_SsmX [hSsmX : Cert.SsmX.Facts] : Prop :=
  ∀ (m : (ℓ : Loc Cert.SsmX.nD Cert.SsmX.τ Cert.SsmX.sig) → Buf (Elt Bits) ℓ) (g : Dev Cert.SsmX.nD → PrngReg), Pre_SsmX m →
    θ_run (Cert.SsmX.defs (F := Bits)) (onTc (τ := Cert.SsmX.τ) (Cert.SsmX.main (F := Bits))) ⟨m, fun _ => 0, g⟩ (fun r => (∀ c : Dev Cert.SsmX.nD,
      r.2.mem ((c.tc : Thread Cert.SsmX.nD Cert.SsmX.τ).loc Cert.SsmX.main_arg0) = m ((c.tc : Thread Cert.SsmX.nD Cert.SsmX.τ).loc Cert.SsmX.main_arg0)
      ∧ r.2.mem ((c.tc : Thread Cert.SsmX.nD Cert.SsmX.τ).loc Cert.SsmX.main_arg1) = m ((c.tc : Thread Cert.SsmX.nD Cert.SsmX.τ).loc Cert.SsmX.main_arg1)
      ∧ r.2.mem ((c.tc : Thread Cert.SsmX.nD Cert.SsmX.τ).loc Cert.SsmX.main_arg2) = m ((c.tc : Thread Cert.SsmX.nD Cert.SsmX.τ).loc Cert.SsmX.main_arg2)
      ∧ r.2.mem ((c.tc : Thread Cert.SsmX.nD Cert.SsmX.τ).loc Cert.SsmX.main_arg3) = m ((c.tc : Thread Cert.SsmX.nD Cert.SsmX.τ).loc Cert.SsmX.main_arg3)
      ∧ r.2.mem ((c.tc : Thread Cert.SsmX.nD Cert.SsmX.τ).loc Cert.SsmX.main_arg4) = m ((c.tc : Thread Cert.SsmX.nD Cert.SsmX.τ).loc Cert.SsmX.main_arg4)
      ∧ r.2.mem ((c.tc : Thread Cert.SsmX.nD Cert.SsmX.τ).loc Cert.SsmX.main_arg5) = m ((c.tc : Thread Cert.SsmX.nD Cert.SsmX.τ).loc Cert.SsmX.main_arg5)
      ∧ r.2.mem ((c.tc : Thread Cert.SsmX.nD Cert.SsmX.τ).loc Cert.SsmX.main_arg6) = m ((c.tc : Thread Cert.SsmX.nD Cert.SsmX.τ).loc Cert.SsmX.main_arg6)
      ∧ r.2.mem ((c.tc : Thread Cert.SsmX.nD Cert.SsmX.τ).loc Cert.SsmX.main_arg7) = m ((c.tc : Thread Cert.SsmX.nD Cert.SsmX.τ).loc Cert.SsmX.main_arg7)
      ∧ r.2.mem ((c.tc : Thread Cert.SsmX.nD Cert.SsmX.τ).loc Cert.SsmX.main_arg8) = m ((c.tc : Thread Cert.SsmX.nD Cert.SsmX.τ).loc Cert.SsmX.main_arg8))
      ∧ r.2.sem = fun _ => 0)

def quiescent_SsmXIdeal [hSsmXIdeal : Cert.SsmXIdeal.Facts] : Prop :=
  ∀ (m : (ℓ : Loc Cert.SsmXIdeal.nD Cert.SsmXIdeal.τ Cert.SsmXIdeal.sig) → Buf (Elt Ideal) ℓ) (g : Dev Cert.SsmXIdeal.nD → PrngReg), Pre_SsmXIdeal m →
    θ_run (Cert.SsmXIdeal.defs (F := Ideal)) (onTc (τ := Cert.SsmXIdeal.τ) (Cert.SsmXIdeal.main (F := Ideal))) ⟨m, fun _ => 0, g⟩ (fun r => (∀ c : Dev Cert.SsmXIdeal.nD,
      r.2.mem ((c.tc : Thread Cert.SsmXIdeal.nD Cert.SsmXIdeal.τ).loc Cert.SsmXIdeal.main_arg0) = m ((c.tc : Thread Cert.SsmXIdeal.nD Cert.SsmXIdeal.τ).loc Cert.SsmXIdeal.main_arg0)
      ∧ r.2.mem ((c.tc : Thread Cert.SsmXIdeal.nD Cert.SsmXIdeal.τ).loc Cert.SsmXIdeal.main_arg1) = m ((c.tc : Thread Cert.SsmXIdeal.nD Cert.SsmXIdeal.τ).loc Cert.SsmXIdeal.main_arg1)
      ∧ r.2.mem ((c.tc : Thread Cert.SsmXIdeal.nD Cert.SsmXIdeal.τ).loc Cert.SsmXIdeal.main_arg2) = m ((c.tc : Thread Cert.SsmXIdeal.nD Cert.SsmXIdeal.τ).loc Cert.SsmXIdeal.main_arg2)
      ∧ r.2.mem ((c.tc : Thread Cert.SsmXIdeal.nD Cert.SsmXIdeal.τ).loc Cert.SsmXIdeal.main_arg3) = m ((c.tc : Thread Cert.SsmXIdeal.nD Cert.SsmXIdeal.τ).loc Cert.SsmXIdeal.main_arg3)
      ∧ r.2.mem ((c.tc : Thread Cert.SsmXIdeal.nD Cert.SsmXIdeal.τ).loc Cert.SsmXIdeal.main_arg4) = m ((c.tc : Thread Cert.SsmXIdeal.nD Cert.SsmXIdeal.τ).loc Cert.SsmXIdeal.main_arg4)
      ∧ r.2.mem ((c.tc : Thread Cert.SsmXIdeal.nD Cert.SsmXIdeal.τ).loc Cert.SsmXIdeal.main_arg5) = m ((c.tc : Thread Cert.SsmXIdeal.nD Cert.SsmXIdeal.τ).loc Cert.SsmXIdeal.main_arg5)
      ∧ r.2.mem ((c.tc : Thread Cert.SsmXIdeal.nD Cert.SsmXIdeal.τ).loc Cert.SsmXIdeal.main_arg6) = m ((c.tc : Thread Cert.SsmXIdeal.nD Cert.SsmXIdeal.τ).loc Cert.SsmXIdeal.main_arg6)
      ∧ r.2.mem ((c.tc : Thread Cert.SsmXIdeal.nD Cert.SsmXIdeal.τ).loc Cert.SsmXIdeal.main_arg7) = m ((c.tc : Thread Cert.SsmXIdeal.nD Cert.SsmXIdeal.τ).loc Cert.SsmXIdeal.main_arg7)
      ∧ r.2.mem ((c.tc : Thread Cert.SsmXIdeal.nD Cert.SsmXIdeal.τ).loc Cert.SsmXIdeal.main_arg8) = m ((c.tc : Thread Cert.SsmXIdeal.nD Cert.SsmXIdeal.τ).loc Cert.SsmXIdeal.main_arg8))
      ∧ r.2.sem = fun _ => 0)

def preserves_InW_InWIdeal : Prop :=
  True

def algebraic_InWIdeal_InWRefIdeal [hInWIdeal : Cert.InWIdeal.Facts] [hInWRefIdeal : Cert.InWRefIdeal.Facts] : Prop :=
  ∀ (m : (ℓ : Loc Cert.InWIdeal.nD Cert.InWIdeal.τ Cert.InWIdeal.sig) → Buf (Elt Ideal) ℓ) (g : Dev Cert.InWIdeal.nD → PrngReg)
    (m' : (ℓ : Loc Cert.InWRefIdeal.nD Cert.InWRefIdeal.τ Cert.InWRefIdeal.sig) → Buf (Elt Ideal) ℓ) (g' : Dev Cert.InWRefIdeal.nD → PrngReg), Pre_InWIdeal m →
    (∀ c : Dev Cert.InWIdeal.nD,
      m' ((c.tc : Thread Cert.InWRefIdeal.nD Cert.InWRefIdeal.τ).loc Cert.InWRefIdeal.main_arg0) = m ((c.tc : Thread Cert.InWIdeal.nD Cert.InWIdeal.τ).loc Cert.InWIdeal.main_arg0)
      ∧ m' ((c.tc : Thread Cert.InWRefIdeal.nD Cert.InWRefIdeal.τ).loc Cert.InWRefIdeal.main_arg1) = m ((c.tc : Thread Cert.InWIdeal.nD Cert.InWIdeal.τ).loc Cert.InWIdeal.main_arg1)
      ∧ m' ((c.tc : Thread Cert.InWRefIdeal.nD Cert.InWRefIdeal.τ).loc Cert.InWRefIdeal.main_arg2) = m ((c.tc : Thread Cert.InWIdeal.nD Cert.InWIdeal.τ).loc Cert.InWIdeal.main_arg2)
      ∧ m' ((c.tc : Thread Cert.InWRefIdeal.nD Cert.InWRefIdeal.τ).loc Cert.InWRefIdeal.main_arg3) = m ((c.tc : Thread Cert.InWIdeal.nD Cert.InWIdeal.τ).loc Cert.InWIdeal.main_arg3)
      ∧ m' ((c.tc : Thread Cert.InWRefIdeal.nD Cert.InWRefIdeal.τ).loc Cert.InWRefIdeal.main_arg4) = m ((c.tc : Thread Cert.InWIdeal.nD Cert.InWIdeal.τ).loc Cert.InWIdeal.main_arg4)
      ∧ m' ((c.tc : Thread Cert.InWRefIdeal.nD Cert.InWRefIdeal.τ).loc Cert.InWRefIdeal.main_arg5) = m ((c.tc : Thread Cert.InWIdeal.nD Cert.InWIdeal.τ).loc Cert.InWIdeal.main_arg5)) →
    ∃ (v0 : (c : Dev Cert.InWIdeal.nD) → Buf (Elt Ideal) ((c.tc : Thread Cert.InWIdeal.nD Cert.InWIdeal.τ).loc Cert.InWIdeal.main_v0)),
      θ_run (Cert.InWIdeal.defs (F := Ideal)) (onTc (τ := Cert.InWIdeal.τ) (Cert.InWIdeal.main (F := Ideal))) ⟨m, fun _ => 0, g⟩ (fun r => ∀ c : Dev Cert.InWIdeal.nD,
          r.2.mem ((c.tc : Thread Cert.InWIdeal.nD Cert.InWIdeal.τ).loc Cert.InWIdeal.main_v0) = v0 c
          ∧ r.2.mem ((c.tc : Thread Cert.InWIdeal.nD Cert.InWIdeal.τ).loc Cert.InWIdeal.main_arg0) = m ((c.tc : Thread Cert.InWIdeal.nD Cert.InWIdeal.τ).loc Cert.InWIdeal.main_arg0)
          ∧ r.2.mem ((c.tc : Thread Cert.InWIdeal.nD Cert.InWIdeal.τ).loc Cert.InWIdeal.main_arg1) = m ((c.tc : Thread Cert.InWIdeal.nD Cert.InWIdeal.τ).loc Cert.InWIdeal.main_arg1)
          ∧ r.2.mem ((c.tc : Thread Cert.InWIdeal.nD Cert.InWIdeal.τ).loc Cert.InWIdeal.main_arg2) = m ((c.tc : Thread Cert.InWIdeal.nD Cert.InWIdeal.τ).loc Cert.InWIdeal.main_arg2)
          ∧ r.2.mem ((c.tc : Thread Cert.InWIdeal.nD Cert.InWIdeal.τ).loc Cert.InWIdeal.main_arg3) = m ((c.tc : Thread Cert.InWIdeal.nD Cert.InWIdeal.τ).loc Cert.InWIdeal.main_arg3)
          ∧ r.2.mem ((c.tc : Thread Cert.InWIdeal.nD Cert.InWIdeal.τ).loc Cert.InWIdeal.main_arg4) = m ((c.tc : Thread Cert.InWIdeal.nD Cert.InWIdeal.τ).loc Cert.InWIdeal.main_arg4)
          ∧ r.2.mem ((c.tc : Thread Cert.InWIdeal.nD Cert.InWIdeal.τ).loc Cert.InWIdeal.main_arg5) = m ((c.tc : Thread Cert.InWIdeal.nD Cert.InWIdeal.τ).loc Cert.InWIdeal.main_arg5))
      ∧ θ_run (Cert.InWRefIdeal.defs (F := Ideal)) (onTc (τ := Cert.InWRefIdeal.τ) (Cert.InWRefIdeal.main (F := Ideal))) ⟨m', fun _ => 0, g'⟩ (fun r => ∀ c : Dev Cert.InWRefIdeal.nD,
          r.2.mem ((c.tc : Thread Cert.InWRefIdeal.nD Cert.InWRefIdeal.τ).loc Cert.InWRefIdeal.main_v29) = v0 c
          ∧ r.2.mem ((c.tc : Thread Cert.InWRefIdeal.nD Cert.InWRefIdeal.τ).loc Cert.InWRefIdeal.main_arg0) = m' ((c.tc : Thread Cert.InWRefIdeal.nD Cert.InWRefIdeal.τ).loc Cert.InWRefIdeal.main_arg0)
          ∧ r.2.mem ((c.tc : Thread Cert.InWRefIdeal.nD Cert.InWRefIdeal.τ).loc Cert.InWRefIdeal.main_arg1) = m' ((c.tc : Thread Cert.InWRefIdeal.nD Cert.InWRefIdeal.τ).loc Cert.InWRefIdeal.main_arg1)
          ∧ r.2.mem ((c.tc : Thread Cert.InWRefIdeal.nD Cert.InWRefIdeal.τ).loc Cert.InWRefIdeal.main_arg2) = m' ((c.tc : Thread Cert.InWRefIdeal.nD Cert.InWRefIdeal.τ).loc Cert.InWRefIdeal.main_arg2)
          ∧ r.2.mem ((c.tc : Thread Cert.InWRefIdeal.nD Cert.InWRefIdeal.τ).loc Cert.InWRefIdeal.main_arg3) = m' ((c.tc : Thread Cert.InWRefIdeal.nD Cert.InWRefIdeal.τ).loc Cert.InWRefIdeal.main_arg3)
          ∧ r.2.mem ((c.tc : Thread Cert.InWRefIdeal.nD Cert.InWRefIdeal.τ).loc Cert.InWRefIdeal.main_arg4) = m' ((c.tc : Thread Cert.InWRefIdeal.nD Cert.InWRefIdeal.τ).loc Cert.InWRefIdeal.main_arg4)
          ∧ r.2.mem ((c.tc : Thread Cert.InWRefIdeal.nD Cert.InWRefIdeal.τ).loc Cert.InWRefIdeal.main_arg5) = m' ((c.tc : Thread Cert.InWRefIdeal.nD Cert.InWRefIdeal.τ).loc Cert.InWRefIdeal.main_arg5))

def preserves_Pool_PoolIdeal : Prop :=
  True

def algebraic_PoolIdeal_PoolRefIdeal_pre_finite_pool [hPoolIdeal : Cert.PoolIdeal.Facts] [hPoolRefIdeal : Cert.PoolRefIdeal.Facts] [hPre_finite_pool : Cert.Pre_finite_pool.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_finite_pool m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)) →
    ∃ (v0 : (c : Dev Cert.PoolIdeal.nD) → Buf (Elt Ideal) ((c.tc : Thread Cert.PoolIdeal.nD Cert.PoolIdeal.τ).loc Cert.PoolIdeal.main_v47_0)) (v1 : (c : Dev Cert.PoolIdeal.nD) → Buf (Elt Ideal) ((c.tc : Thread Cert.PoolIdeal.nD Cert.PoolIdeal.τ).loc Cert.PoolIdeal.main_v47_1)) (v2 : (c : Dev Cert.PoolIdeal.nD) → Buf (Elt Ideal) ((c.tc : Thread Cert.PoolIdeal.nD Cert.PoolIdeal.τ).loc Cert.PoolIdeal.main_v47_2)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v47_0) = v0 c
          ∧ r.2.mem ((c.tc : Thread Cert.PoolIdeal.nD Cert.PoolIdeal.τ).loc Cert.PoolIdeal.main_v47_1) = v1 c
          ∧ r.2.mem ((c.tc : Thread Cert.PoolIdeal.nD Cert.PoolIdeal.τ).loc Cert.PoolIdeal.main_v47_2) = v2 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v117) = v0 c
          ∧ r.2.mem ((c.tc : Thread Cert.PoolRefIdeal.nD Cert.PoolRefIdeal.τ).loc Cert.PoolRefIdeal.main_v72) = v1 c
          ∧ r.2.mem ((c.tc : Thread Cert.PoolRefIdeal.nD Cert.PoolRefIdeal.τ).loc Cert.PoolRefIdeal.main_v64) = v2 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3))

def preserves_InX_InXIdeal : Prop :=
  True

def algebraic_InXIdeal_InXRefIdeal_pre_finite_inx [hInXIdeal : Cert.InXIdeal.Facts] [hInXRefIdeal : Cert.InXRefIdeal.Facts] [hPre_finite_inx : Cert.Pre_finite_inx.Facts] : Prop :=
  ∀ (m : (ℓ : Loc Cert.InXIdeal.nD Cert.InXIdeal.τ Cert.InXIdeal.sig) → Buf (Elt Ideal) ℓ) (g : Dev Cert.InXIdeal.nD → PrngReg)
    (m' : (ℓ : Loc Cert.InXRefIdeal.nD Cert.InXRefIdeal.τ Cert.InXRefIdeal.sig) → Buf (Elt Ideal) ℓ) (g' : Dev Cert.InXRefIdeal.nD → PrngReg), Pre_InXIdeal_finite_inx m →
    (∀ c : Dev Cert.InXIdeal.nD,
      m' ((c.tc : Thread Cert.InXRefIdeal.nD Cert.InXRefIdeal.τ).loc Cert.InXRefIdeal.main_arg0) = m ((c.tc : Thread Cert.InXIdeal.nD Cert.InXIdeal.τ).loc Cert.InXIdeal.main_arg0)
      ∧ m' ((c.tc : Thread Cert.InXRefIdeal.nD Cert.InXRefIdeal.τ).loc Cert.InXRefIdeal.main_arg1) = m ((c.tc : Thread Cert.InXIdeal.nD Cert.InXIdeal.τ).loc Cert.InXIdeal.main_arg1)
      ∧ m' ((c.tc : Thread Cert.InXRefIdeal.nD Cert.InXRefIdeal.τ).loc Cert.InXRefIdeal.main_arg2) = m ((c.tc : Thread Cert.InXIdeal.nD Cert.InXIdeal.τ).loc Cert.InXIdeal.main_arg2)
      ∧ m' ((c.tc : Thread Cert.InXRefIdeal.nD Cert.InXRefIdeal.τ).loc Cert.InXRefIdeal.main_arg3) = m ((c.tc : Thread Cert.InXIdeal.nD Cert.InXIdeal.τ).loc Cert.InXIdeal.main_arg3)
      ∧ m' ((c.tc : Thread Cert.InXRefIdeal.nD Cert.InXRefIdeal.τ).loc Cert.InXRefIdeal.main_arg4) = m ((c.tc : Thread Cert.InXIdeal.nD Cert.InXIdeal.τ).loc Cert.InXIdeal.main_arg4)
      ∧ m' ((c.tc : Thread Cert.InXRefIdeal.nD Cert.InXRefIdeal.τ).loc Cert.InXRefIdeal.main_arg5) = m ((c.tc : Thread Cert.InXIdeal.nD Cert.InXIdeal.τ).loc Cert.InXIdeal.main_arg5)
      ∧ m' ((c.tc : Thread Cert.InXRefIdeal.nD Cert.InXRefIdeal.τ).loc Cert.InXRefIdeal.main_arg6) = m ((c.tc : Thread Cert.InXIdeal.nD Cert.InXIdeal.τ).loc Cert.InXIdeal.main_arg6)
      ∧ m' ((c.tc : Thread Cert.InXRefIdeal.nD Cert.InXRefIdeal.τ).loc Cert.InXRefIdeal.main_arg7) = m ((c.tc : Thread Cert.InXIdeal.nD Cert.InXIdeal.τ).loc Cert.InXIdeal.main_arg7)
      ∧ m' ((c.tc : Thread Cert.InXRefIdeal.nD Cert.InXRefIdeal.τ).loc Cert.InXRefIdeal.main_arg8) = m ((c.tc : Thread Cert.InXIdeal.nD Cert.InXIdeal.τ).loc Cert.InXIdeal.main_arg8)) →
    ∃ (v0 : (c : Dev Cert.InXIdeal.nD) → Buf (Elt Ideal) ((c.tc : Thread Cert.InXIdeal.nD Cert.InXIdeal.τ).loc Cert.InXIdeal.main_v1_0)) (v1 : (c : Dev Cert.InXIdeal.nD) → Buf (Elt Ideal) ((c.tc : Thread Cert.InXIdeal.nD Cert.InXIdeal.τ).loc Cert.InXIdeal.main_v1_1)),
      θ_run (Cert.InXIdeal.defs (F := Ideal)) (onTc (τ := Cert.InXIdeal.τ) (Cert.InXIdeal.main (F := Ideal))) ⟨m, fun _ => 0, g⟩ (fun r => ∀ c : Dev Cert.InXIdeal.nD,
          r.2.mem ((c.tc : Thread Cert.InXIdeal.nD Cert.InXIdeal.τ).loc Cert.InXIdeal.main_v1_0) = v0 c
          ∧ r.2.mem ((c.tc : Thread Cert.InXIdeal.nD Cert.InXIdeal.τ).loc Cert.InXIdeal.main_v1_1) = v1 c
          ∧ r.2.mem ((c.tc : Thread Cert.InXIdeal.nD Cert.InXIdeal.τ).loc Cert.InXIdeal.main_arg0) = m ((c.tc : Thread Cert.InXIdeal.nD Cert.InXIdeal.τ).loc Cert.InXIdeal.main_arg0)
          ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
          ∧ r.2.mem ((c.tc : Thread Cert.InXIdeal.nD Cert.InXIdeal.τ).loc Cert.InXIdeal.main_arg2) = m ((c.tc : Thread Cert.InXIdeal.nD Cert.InXIdeal.τ).loc Cert.InXIdeal.main_arg2)
          ∧ r.2.mem ((c.tc : Thread Cert.InXIdeal.nD Cert.InXIdeal.τ).loc Cert.InXIdeal.main_arg3) = m ((c.tc : Thread Cert.InXIdeal.nD Cert.InXIdeal.τ).loc Cert.InXIdeal.main_arg3)
          ∧ r.2.mem ((c.tc : Thread Cert.InXIdeal.nD Cert.InXIdeal.τ).loc Cert.InXIdeal.main_arg4) = m ((c.tc : Thread Cert.InXIdeal.nD Cert.InXIdeal.τ).loc Cert.InXIdeal.main_arg4)
          ∧ r.2.mem ((c.tc : Thread Cert.InXIdeal.nD Cert.InXIdeal.τ).loc Cert.InXIdeal.main_arg5) = m ((c.tc : Thread Cert.InXIdeal.nD Cert.InXIdeal.τ).loc Cert.InXIdeal.main_arg5)
          ∧ r.2.mem ((c.tc : Thread Cert.InXIdeal.nD Cert.InXIdeal.τ).loc Cert.InXIdeal.main_arg6) = m ((c.tc : Thread Cert.InXIdeal.nD Cert.InXIdeal.τ).loc Cert.InXIdeal.main_arg6)
          ∧ r.2.mem ((c.tc : Thread Cert.InXIdeal.nD Cert.InXIdeal.τ).loc Cert.InXIdeal.main_arg7) = m ((c.tc : Thread Cert.InXIdeal.nD Cert.InXIdeal.τ).loc Cert.InXIdeal.main_arg7)
          ∧ r.2.mem ((c.tc : Thread Cert.InXIdeal.nD Cert.InXIdeal.τ).loc Cert.InXIdeal.main_arg8) = m ((c.tc : Thread Cert.InXIdeal.nD Cert.InXIdeal.τ).loc Cert.InXIdeal.main_arg8))
      ∧ θ_run (Cert.InXRefIdeal.defs (F := Ideal)) (onTc (τ := Cert.InXRefIdeal.τ) (Cert.InXRefIdeal.main (F := Ideal))) ⟨m', fun _ => 0, g'⟩ (fun r => ∀ c : Dev Cert.InXRefIdeal.nD,
          r.2.mem ((c.tc : Thread Cert.InXRefIdeal.nD Cert.InXRefIdeal.τ).loc Cert.InXRefIdeal.main_v56) = v0 c
          ∧ r.2.mem ((c.tc : Thread Cert.InXRefIdeal.nD Cert.InXRefIdeal.τ).loc Cert.InXRefIdeal.main_v57) = v1 c
          ∧ r.2.mem ((c.tc : Thread Cert.InXRefIdeal.nD Cert.InXRefIdeal.τ).loc Cert.InXRefIdeal.main_arg0) = m' ((c.tc : Thread Cert.InXRefIdeal.nD Cert.InXRefIdeal.τ).loc Cert.InXRefIdeal.main_arg0)
          ∧ r.2.mem ((c.tc : Thread Cert.InXRefIdeal.nD Cert.InXRefIdeal.τ).loc Cert.InXRefIdeal.main_arg1) = m' ((c.tc : Thread Cert.InXRefIdeal.nD Cert.InXRefIdeal.τ).loc Cert.InXRefIdeal.main_arg1)
          ∧ r.2.mem ((c.tc : Thread Cert.InXRefIdeal.nD Cert.InXRefIdeal.τ).loc Cert.InXRefIdeal.main_arg2) = m' ((c.tc : Thread Cert.InXRefIdeal.nD Cert.InXRefIdeal.τ).loc Cert.InXRefIdeal.main_arg2)
          ∧ r.2.mem ((c.tc : Thread Cert.InXRefIdeal.nD Cert.InXRefIdeal.τ).loc Cert.InXRefIdeal.main_arg3) = m' ((c.tc : Thread Cert.InXRefIdeal.nD Cert.InXRefIdeal.τ).loc Cert.InXRefIdeal.main_arg3)
          ∧ r.2.mem ((c.tc : Thread Cert.InXRefIdeal.nD Cert.InXRefIdeal.τ).loc Cert.InXRefIdeal.main_arg4) = m' ((c.tc : Thread Cert.InXRefIdeal.nD Cert.InXRefIdeal.τ).loc Cert.InXRefIdeal.main_arg4)
          ∧ r.2.mem ((c.tc : Thread Cert.InXRefIdeal.nD Cert.InXRefIdeal.τ).loc Cert.InXRefIdeal.main_arg5) = m' ((c.tc : Thread Cert.InXRefIdeal.nD Cert.InXRefIdeal.τ).loc Cert.InXRefIdeal.main_arg5)
          ∧ r.2.mem ((c.tc : Thread Cert.InXRefIdeal.nD Cert.InXRefIdeal.τ).loc Cert.InXRefIdeal.main_arg6) = m' ((c.tc : Thread Cert.InXRefIdeal.nD Cert.InXRefIdeal.τ).loc Cert.InXRefIdeal.main_arg6)
          ∧ r.2.mem ((c.tc : Thread Cert.InXRefIdeal.nD Cert.InXRefIdeal.τ).loc Cert.InXRefIdeal.main_arg7) = m' ((c.tc : Thread Cert.InXRefIdeal.nD Cert.InXRefIdeal.τ).loc Cert.InXRefIdeal.main_arg7)
          ∧ r.2.mem ((c.tc : Thread Cert.InXRefIdeal.nD Cert.InXRefIdeal.τ).loc Cert.InXRefIdeal.main_arg8) = m' ((c.tc : Thread Cert.InXRefIdeal.nD Cert.InXRefIdeal.τ).loc Cert.InXRefIdeal.main_arg8))

def preserves_Glu_GluIdeal : Prop :=
  IdealRules.named_const.Statement Cert.GluIdeal.κ "gelu_cubic" .f32 0x3D372713#32 ((8943 / 200000 : ℝ) : EReal)
  ∧ IdealRules.named_const.Statement Cert.GluIdeal.κ "gelu_cubic_slope" .f32 0x3E095D4F#32 ((26829 / 200000 : ℝ) : EReal)

def algebraic_GluIdeal_GluRefIdeal_pre_finite_glu [hGluIdeal : Cert.GluIdeal.Facts] [hGluRefIdeal : Cert.GluRefIdeal.Facts] [hPre_finite_glu : Cert.Pre_finite_glu.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal_finite_glu m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)
      ∧ m' ((c.tc : Thread Cert.GluRefIdeal.nD Cert.GluRefIdeal.τ).loc Cert.GluRefIdeal.main_arg3) = m ((c.tc : Thread Cert.GluIdeal.nD Cert.GluIdeal.τ).loc Cert.GluIdeal.main_arg3)
      ∧ m' ((c.tc : Thread Cert.GluRefIdeal.nD Cert.GluRefIdeal.τ).loc Cert.GluRefIdeal.main_arg4) = m ((c.tc : Thread Cert.GluIdeal.nD Cert.GluIdeal.τ).loc Cert.GluIdeal.main_arg4)) →
    ∃ (v0 : (c : Dev Cert.GluIdeal.nD) → Buf (Elt Ideal) ((c.tc : Thread Cert.GluIdeal.nD Cert.GluIdeal.τ).loc Cert.GluIdeal.main_v45_0)) (v1 : (c : Dev Cert.GluIdeal.nD) → Buf (Elt Ideal) ((c.tc : Thread Cert.GluIdeal.nD Cert.GluIdeal.τ).loc Cert.GluIdeal.main_v45_1)) (v2 : (c : Dev Cert.GluIdeal.nD) → Buf (Elt Ideal) ((c.tc : Thread Cert.GluIdeal.nD Cert.GluIdeal.τ).loc Cert.GluIdeal.main_v45_2)) (v3 : (c : Dev Cert.GluIdeal.nD) → Buf (Elt Ideal) ((c.tc : Thread Cert.GluIdeal.nD Cert.GluIdeal.τ).loc Cert.GluIdeal.main_v45_3)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v45_0) = v0 c
          ∧ r.2.mem ((c.tc : Thread Cert.GluIdeal.nD Cert.GluIdeal.τ).loc Cert.GluIdeal.main_v45_1) = v1 c
          ∧ r.2.mem ((c.tc : Thread Cert.GluIdeal.nD Cert.GluIdeal.τ).loc Cert.GluIdeal.main_v45_2) = v2 c
          ∧ r.2.mem ((c.tc : Thread Cert.GluIdeal.nD Cert.GluIdeal.τ).loc Cert.GluIdeal.main_v45_3) = v3 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
          ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v66) = v0 c
          ∧ r.2.mem ((c.tc : Thread Cert.GluRefIdeal.nD Cert.GluRefIdeal.τ).loc Cert.GluRefIdeal.main_v67) = v1 c
          ∧ r.2.mem ((c.tc : Thread Cert.GluRefIdeal.nD Cert.GluRefIdeal.τ).loc Cert.GluRefIdeal.main_v48) = v2 c
          ∧ r.2.mem ((c.tc : Thread Cert.GluRefIdeal.nD Cert.GluRefIdeal.τ).loc Cert.GluRefIdeal.main_v46) = v3 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2)
          ∧ r.2.mem ((c.tc : Thread Cert.GluRefIdeal.nD Cert.GluRefIdeal.τ).loc Cert.GluRefIdeal.main_arg3) = m' ((c.tc : Thread Cert.GluRefIdeal.nD Cert.GluRefIdeal.τ).loc Cert.GluRefIdeal.main_arg3)
          ∧ r.2.mem ((c.tc : Thread Cert.GluRefIdeal.nD Cert.GluRefIdeal.τ).loc Cert.GluRefIdeal.main_arg4) = m' ((c.tc : Thread Cert.GluRefIdeal.nD Cert.GluRefIdeal.τ).loc Cert.GluRefIdeal.main_arg4))

def preserves_Head_HeadIdeal : Prop :=
  True

def algebraic_HeadIdeal_HeadRefIdeal_pre_finite_head [hHeadIdeal : Cert.HeadIdeal.Facts] [hHeadRefIdeal : Cert.HeadRefIdeal.Facts] [hPre_finite_head : Cert.Pre_finite_head.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal_finite_head m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)
      ∧ m' ((c.tc : Thread Cert.HeadRefIdeal.nD Cert.HeadRefIdeal.τ).loc Cert.HeadRefIdeal.main_arg5) = m ((c.tc : Thread Cert.HeadIdeal.nD Cert.HeadIdeal.τ).loc Cert.HeadIdeal.main_arg5)
      ∧ m' ((c.tc : Thread Cert.HeadRefIdeal.nD Cert.HeadRefIdeal.τ).loc Cert.HeadRefIdeal.main_arg6) = m ((c.tc : Thread Cert.HeadIdeal.nD Cert.HeadIdeal.τ).loc Cert.HeadIdeal.main_arg6)
      ∧ m' ((c.tc : Thread Cert.HeadRefIdeal.nD Cert.HeadRefIdeal.τ).loc Cert.HeadRefIdeal.main_arg7) = m ((c.tc : Thread Cert.HeadIdeal.nD Cert.HeadIdeal.τ).loc Cert.HeadIdeal.main_arg7)
      ∧ m' ((c.tc : Thread Cert.HeadRefIdeal.nD Cert.HeadRefIdeal.τ).loc Cert.HeadRefIdeal.main_arg8) = m ((c.tc : Thread Cert.HeadIdeal.nD Cert.HeadIdeal.τ).loc Cert.HeadIdeal.main_arg8)
      ∧ m' ((c.tc : Thread Cert.HeadRefIdeal.nD Cert.HeadRefIdeal.τ).loc Cert.HeadRefIdeal.main_arg9) = m ((c.tc : Thread Cert.HeadIdeal.nD Cert.HeadIdeal.τ).loc Cert.HeadIdeal.main_arg9)) →
    ∃ (v0 : (c : Dev Cert.HeadIdeal.nD) → Buf (Elt Ideal) ((c.tc : Thread Cert.HeadIdeal.nD Cert.HeadIdeal.τ).loc Cert.HeadIdeal.main_v3_0)) (v1 : (c : Dev Cert.HeadIdeal.nD) → Buf (Elt Ideal) ((c.tc : Thread Cert.HeadIdeal.nD Cert.HeadIdeal.τ).loc Cert.HeadIdeal.main_v3_1)) (v2 : (c : Dev Cert.HeadIdeal.nD) → Buf (Elt Ideal) ((c.tc : Thread Cert.HeadIdeal.nD Cert.HeadIdeal.τ).loc Cert.HeadIdeal.main_v3_2)) (v3 : (c : Dev Cert.HeadIdeal.nD) → Buf (Elt Ideal) ((c.tc : Thread Cert.HeadIdeal.nD Cert.HeadIdeal.τ).loc Cert.HeadIdeal.main_v3_3)) (v4 : (c : Dev Cert.HeadIdeal.nD) → Buf (Elt Ideal) ((c.tc : Thread Cert.HeadIdeal.nD Cert.HeadIdeal.τ).loc Cert.HeadIdeal.main_v3_4)) (v5 : (c : Dev Cert.HeadIdeal.nD) → Buf (Elt Ideal) ((c.tc : Thread Cert.HeadIdeal.nD Cert.HeadIdeal.τ).loc Cert.HeadIdeal.main_v3_5)) (v6 : (c : Dev Cert.HeadIdeal.nD) → Buf (Elt Ideal) ((c.tc : Thread Cert.HeadIdeal.nD Cert.HeadIdeal.τ).loc Cert.HeadIdeal.main_v3_6)) (v7 : (c : Dev Cert.HeadIdeal.nD) → Buf (Elt Ideal) ((c.tc : Thread Cert.HeadIdeal.nD Cert.HeadIdeal.τ).loc Cert.HeadIdeal.main_v3_7)) (v8 : (c : Dev Cert.HeadIdeal.nD) → Buf (Elt Ideal) ((c.tc : Thread Cert.HeadIdeal.nD Cert.HeadIdeal.τ).loc Cert.HeadIdeal.main_v3_8)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v3_0) = v0 c
          ∧ r.2.mem ((c.tc : Thread Cert.HeadIdeal.nD Cert.HeadIdeal.τ).loc Cert.HeadIdeal.main_v3_1) = v1 c
          ∧ r.2.mem ((c.tc : Thread Cert.HeadIdeal.nD Cert.HeadIdeal.τ).loc Cert.HeadIdeal.main_v3_2) = v2 c
          ∧ r.2.mem ((c.tc : Thread Cert.HeadIdeal.nD Cert.HeadIdeal.τ).loc Cert.HeadIdeal.main_v3_3) = v3 c
          ∧ r.2.mem ((c.tc : Thread Cert.HeadIdeal.nD Cert.HeadIdeal.τ).loc Cert.HeadIdeal.main_v3_4) = v4 c
          ∧ r.2.mem ((c.tc : Thread Cert.HeadIdeal.nD Cert.HeadIdeal.τ).loc Cert.HeadIdeal.main_v3_5) = v5 c
          ∧ r.2.mem ((c.tc : Thread Cert.HeadIdeal.nD Cert.HeadIdeal.τ).loc Cert.HeadIdeal.main_v3_6) = v6 c
          ∧ r.2.mem ((c.tc : Thread Cert.HeadIdeal.nD Cert.HeadIdeal.τ).loc Cert.HeadIdeal.main_v3_7) = v7 c
          ∧ r.2.mem ((c.tc : Thread Cert.HeadIdeal.nD Cert.HeadIdeal.τ).loc Cert.HeadIdeal.main_v3_8) = v8 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
          ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
          ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
          ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8)
          ∧ r.2.mem ((c.tc : Thread Cert.HeadIdeal.nD Cert.HeadIdeal.τ).loc Cert.HeadIdeal.main_arg9) = m ((c.tc : Thread Cert.HeadIdeal.nD Cert.HeadIdeal.τ).loc Cert.HeadIdeal.main_arg9))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v102) = v0 c
          ∧ r.2.mem ((c.tc : Thread Cert.HeadRefIdeal.nD Cert.HeadRefIdeal.τ).loc Cert.HeadRefIdeal.main_v62) = v1 c
          ∧ r.2.mem ((c.tc : Thread Cert.HeadRefIdeal.nD Cert.HeadRefIdeal.τ).loc Cert.HeadRefIdeal.main_v103) = v2 c
          ∧ r.2.mem ((c.tc : Thread Cert.HeadRefIdeal.nD Cert.HeadRefIdeal.τ).loc Cert.HeadRefIdeal.main_v104) = v3 c
          ∧ r.2.mem ((c.tc : Thread Cert.HeadRefIdeal.nD Cert.HeadRefIdeal.τ).loc Cert.HeadRefIdeal.main_v106) = v4 c
          ∧ r.2.mem ((c.tc : Thread Cert.HeadRefIdeal.nD Cert.HeadRefIdeal.τ).loc Cert.HeadRefIdeal.main_v99) = v5 c
          ∧ r.2.mem ((c.tc : Thread Cert.HeadRefIdeal.nD Cert.HeadRefIdeal.τ).loc Cert.HeadRefIdeal.main_v93) = v6 c
          ∧ r.2.mem ((c.tc : Thread Cert.HeadRefIdeal.nD Cert.HeadRefIdeal.τ).loc Cert.HeadRefIdeal.main_v88) = v7 c
          ∧ r.2.mem ((c.tc : Thread Cert.HeadRefIdeal.nD Cert.HeadRefIdeal.τ).loc Cert.HeadRefIdeal.main_v107) = v8 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5)
          ∧ r.2.mem ((c.tc : Thread Cert.HeadRefIdeal.nD Cert.HeadRefIdeal.τ).loc Cert.HeadRefIdeal.main_arg6) = m' ((c.tc : Thread Cert.HeadRefIdeal.nD Cert.HeadRefIdeal.τ).loc Cert.HeadRefIdeal.main_arg6)
          ∧ r.2.mem ((c.tc : Thread Cert.HeadRefIdeal.nD Cert.HeadRefIdeal.τ).loc Cert.HeadRefIdeal.main_arg7) = m' ((c.tc : Thread Cert.HeadRefIdeal.nD Cert.HeadRefIdeal.τ).loc Cert.HeadRefIdeal.main_arg7)
          ∧ r.2.mem ((c.tc : Thread Cert.HeadRefIdeal.nD Cert.HeadRefIdeal.τ).loc Cert.HeadRefIdeal.main_arg8) = m' ((c.tc : Thread Cert.HeadRefIdeal.nD Cert.HeadRefIdeal.τ).loc Cert.HeadRefIdeal.main_arg8)
          ∧ r.2.mem ((c.tc : Thread Cert.HeadRefIdeal.nD Cert.HeadRefIdeal.τ).loc Cert.HeadRefIdeal.main_arg9) = m' ((c.tc : Thread Cert.HeadRefIdeal.nD Cert.HeadRefIdeal.τ).loc Cert.HeadRefIdeal.main_arg9))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)
      ∧ m' ((c.tc : Thread Cert.PrepRefIdeal.nD Cert.PrepRefIdeal.τ).loc Cert.PrepRefIdeal.main_arg7) = m ((c.tc : Thread Cert.PrepIdeal.nD Cert.PrepIdeal.τ).loc Cert.PrepIdeal.main_arg7)
      ∧ m' ((c.tc : Thread Cert.PrepRefIdeal.nD Cert.PrepRefIdeal.τ).loc Cert.PrepRefIdeal.main_arg8) = m ((c.tc : Thread Cert.PrepIdeal.nD Cert.PrepIdeal.τ).loc Cert.PrepIdeal.main_arg8)) →
    ∃ (v0 : (c : Dev Cert.PrepIdeal.nD) → Buf (Elt Ideal) ((c.tc : Thread Cert.PrepIdeal.nD Cert.PrepIdeal.τ).loc Cert.PrepIdeal.main_v5_0)) (v1 : (c : Dev Cert.PrepIdeal.nD) → Buf (Elt Ideal) ((c.tc : Thread Cert.PrepIdeal.nD Cert.PrepIdeal.τ).loc Cert.PrepIdeal.main_v5_1)) (v2 : (c : Dev Cert.PrepIdeal.nD) → Buf (Elt Ideal) ((c.tc : Thread Cert.PrepIdeal.nD Cert.PrepIdeal.τ).loc Cert.PrepIdeal.main_v5_2)) (v3 : (c : Dev Cert.PrepIdeal.nD) → Buf (Elt Ideal) ((c.tc : Thread Cert.PrepIdeal.nD Cert.PrepIdeal.τ).loc Cert.PrepIdeal.main_v5_3)) (v4 : (c : Dev Cert.PrepIdeal.nD) → Buf (Elt Ideal) ((c.tc : Thread Cert.PrepIdeal.nD Cert.PrepIdeal.τ).loc Cert.PrepIdeal.main_v5_4)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v5_0) = v0 c
          ∧ r.2.mem ((c.tc : Thread Cert.PrepIdeal.nD Cert.PrepIdeal.τ).loc Cert.PrepIdeal.main_v5_1) = v1 c
          ∧ r.2.mem ((c.tc : Thread Cert.PrepIdeal.nD Cert.PrepIdeal.τ).loc Cert.PrepIdeal.main_v5_2) = v2 c
          ∧ r.2.mem ((c.tc : Thread Cert.PrepIdeal.nD Cert.PrepIdeal.τ).loc Cert.PrepIdeal.main_v5_3) = v3 c
          ∧ r.2.mem ((c.tc : Thread Cert.PrepIdeal.nD Cert.PrepIdeal.τ).loc Cert.PrepIdeal.main_v5_4) = v4 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
          ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v148) = v0 c
          ∧ r.2.mem ((c.tc : Thread Cert.PrepRefIdeal.nD Cert.PrepRefIdeal.τ).loc Cert.PrepRefIdeal.main_v139) = v1 c
          ∧ r.2.mem ((c.tc : Thread Cert.PrepRefIdeal.nD Cert.PrepRefIdeal.τ).loc Cert.PrepRefIdeal.main_v151) = v2 c
          ∧ r.2.mem ((c.tc : Thread Cert.PrepRefIdeal.nD Cert.PrepRefIdeal.τ).loc Cert.PrepRefIdeal.main_v152) = v3 c
          ∧ r.2.mem ((c.tc : Thread Cert.PrepRefIdeal.nD Cert.PrepRefIdeal.τ).loc Cert.PrepRefIdeal.main_v153) = v4 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7)
          ∧ r.2.mem ((c.tc : Thread Cert.PrepRefIdeal.nD Cert.PrepRefIdeal.τ).loc Cert.PrepRefIdeal.main_arg8) = m' ((c.tc : Thread Cert.PrepRefIdeal.nD Cert.PrepRefIdeal.τ).loc Cert.PrepRefIdeal.main_arg8))

def preserves_PoolF_PoolFIdeal : Prop :=
  True

def algebraic_PoolFIdeal_PoolFRefIdeal_pre_finite_poolf [hPoolFIdeal : Cert.PoolFIdeal.Facts] [hPoolFRefIdeal : Cert.PoolFRefIdeal.Facts] [hPre_finite_poolf : Cert.Pre_finite_poolf.Facts] : Prop :=
  ∀ (m : (ℓ : Loc Cert.PoolFIdeal.nD Cert.PoolFIdeal.τ Cert.PoolFIdeal.sig) → Buf (Elt Ideal) ℓ) (g : Dev Cert.PoolFIdeal.nD → PrngReg)
    (m' : (ℓ : Loc Cert.PoolFRefIdeal.nD Cert.PoolFRefIdeal.τ Cert.PoolFRefIdeal.sig) → Buf (Elt Ideal) ℓ) (g' : Dev Cert.PoolFRefIdeal.nD → PrngReg), Pre_PoolFIdeal_finite_poolf m →
    (∀ c : Dev Cert.PoolFIdeal.nD,
      m' ((c.tc : Thread Cert.PoolFRefIdeal.nD Cert.PoolFRefIdeal.τ).loc Cert.PoolFRefIdeal.main_arg0) = m ((c.tc : Thread Cert.PoolFIdeal.nD Cert.PoolFIdeal.τ).loc Cert.PoolFIdeal.main_arg0)
      ∧ m' ((c.tc : Thread Cert.PoolFRefIdeal.nD Cert.PoolFRefIdeal.τ).loc Cert.PoolFRefIdeal.main_arg1) = m ((c.tc : Thread Cert.PoolFIdeal.nD Cert.PoolFIdeal.τ).loc Cert.PoolFIdeal.main_arg1)
      ∧ m' ((c.tc : Thread Cert.PoolFRefIdeal.nD Cert.PoolFRefIdeal.τ).loc Cert.PoolFRefIdeal.main_arg2) = m ((c.tc : Thread Cert.PoolFIdeal.nD Cert.PoolFIdeal.τ).loc Cert.PoolFIdeal.main_arg2)) →
    ∃ (v0 : (c : Dev Cert.PoolFIdeal.nD) → Buf (Elt Ideal) ((c.tc : Thread Cert.PoolFIdeal.nD Cert.PoolFIdeal.τ).loc Cert.PoolFIdeal.main_v1_0)) (v1 : (c : Dev Cert.PoolFIdeal.nD) → Buf (Elt Ideal) ((c.tc : Thread Cert.PoolFIdeal.nD Cert.PoolFIdeal.τ).loc Cert.PoolFIdeal.main_v1_1)),
      θ_run (Cert.PoolFIdeal.defs (F := Ideal)) (onTc (τ := Cert.PoolFIdeal.τ) (Cert.PoolFIdeal.main (F := Ideal))) ⟨m, fun _ => 0, g⟩ (fun r => ∀ c : Dev Cert.PoolFIdeal.nD,
          r.2.mem ((c.tc : Thread Cert.PoolFIdeal.nD Cert.PoolFIdeal.τ).loc Cert.PoolFIdeal.main_v1_0) = v0 c
          ∧ r.2.mem ((c.tc : Thread Cert.PoolFIdeal.nD Cert.PoolFIdeal.τ).loc Cert.PoolFIdeal.main_v1_1) = v1 c
          ∧ r.2.mem ((c.tc : Thread Cert.PoolFIdeal.nD Cert.PoolFIdeal.τ).loc Cert.PoolFIdeal.main_arg0) = m ((c.tc : Thread Cert.PoolFIdeal.nD Cert.PoolFIdeal.τ).loc Cert.PoolFIdeal.main_arg0)
          ∧ r.2.mem ((c.tc : Thread Cert.PoolFIdeal.nD Cert.PoolFIdeal.τ).loc Cert.PoolFIdeal.main_arg1) = m ((c.tc : Thread Cert.PoolFIdeal.nD Cert.PoolFIdeal.τ).loc Cert.PoolFIdeal.main_arg1)
          ∧ r.2.mem ((c.tc : Thread Cert.PoolFIdeal.nD Cert.PoolFIdeal.τ).loc Cert.PoolFIdeal.main_arg2) = m ((c.tc : Thread Cert.PoolFIdeal.nD Cert.PoolFIdeal.τ).loc Cert.PoolFIdeal.main_arg2))
      ∧ θ_run (Cert.PoolFRefIdeal.defs (F := Ideal)) (onTc (τ := Cert.PoolFRefIdeal.τ) (Cert.PoolFRefIdeal.main (F := Ideal))) ⟨m', fun _ => 0, g'⟩ (fun r => ∀ c : Dev Cert.PoolFRefIdeal.nD,
          r.2.mem ((c.tc : Thread Cert.PoolFRefIdeal.nD Cert.PoolFRefIdeal.τ).loc Cert.PoolFRefIdeal.main_v54) = v0 c
          ∧ r.2.mem ((c.tc : Thread Cert.PoolFRefIdeal.nD Cert.PoolFRefIdeal.τ).loc Cert.PoolFRefIdeal.main_v98) = v1 c
          ∧ r.2.mem ((c.tc : Thread Cert.PoolFRefIdeal.nD Cert.PoolFRefIdeal.τ).loc Cert.PoolFRefIdeal.main_arg0) = m' ((c.tc : Thread Cert.PoolFRefIdeal.nD Cert.PoolFRefIdeal.τ).loc Cert.PoolFRefIdeal.main_arg0)
          ∧ r.2.mem ((c.tc : Thread Cert.PoolFRefIdeal.nD Cert.PoolFRefIdeal.τ).loc Cert.PoolFRefIdeal.main_arg1) = m' ((c.tc : Thread Cert.PoolFRefIdeal.nD Cert.PoolFRefIdeal.τ).loc Cert.PoolFRefIdeal.main_arg1)
          ∧ r.2.mem ((c.tc : Thread Cert.PoolFRefIdeal.nD Cert.PoolFRefIdeal.τ).loc Cert.PoolFRefIdeal.main_arg2) = m' ((c.tc : Thread Cert.PoolFRefIdeal.nD Cert.PoolFRefIdeal.τ).loc Cert.PoolFRefIdeal.main_arg2))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v1) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v6) = v2 c
          ∧ r.2.mem ((c.tc : Thread Cert.AdamInRefIdeal.nD Cert.AdamInRefIdeal.τ).loc Cert.AdamInRefIdeal.main_v12) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdaU_AdaUIdeal : Prop :=
  True

def algebraic_AdaUIdeal_AdaURefIdeal [hAdaUIdeal : Cert.AdaUIdeal.Facts] [hAdaURefIdeal : Cert.AdaURefIdeal.Facts] : Prop :=
  ∀ (m : (ℓ : Loc Cert.AdaUIdeal.nD Cert.AdaUIdeal.τ Cert.AdaUIdeal.sig) → Buf (Elt Ideal) ℓ) (g : Dev Cert.AdaUIdeal.nD → PrngReg)
    (m' : (ℓ : Loc Cert.AdaURefIdeal.nD Cert.AdaURefIdeal.τ Cert.AdaURefIdeal.sig) → Buf (Elt Ideal) ℓ) (g' : Dev Cert.AdaURefIdeal.nD → PrngReg), Pre_AdaUIdeal m →
    (∀ c : Dev Cert.AdaUIdeal.nD,
      m' ((c.tc : Thread Cert.AdaURefIdeal.nD Cert.AdaURefIdeal.τ).loc Cert.AdaURefIdeal.main_arg0) = m ((c.tc : Thread Cert.AdaUIdeal.nD Cert.AdaUIdeal.τ).loc Cert.AdaUIdeal.main_arg0)
      ∧ m' ((c.tc : Thread Cert.AdaURefIdeal.nD Cert.AdaURefIdeal.τ).loc Cert.AdaURefIdeal.main_arg1) = m ((c.tc : Thread Cert.AdaUIdeal.nD Cert.AdaUIdeal.τ).loc Cert.AdaUIdeal.main_arg1)
      ∧ m' ((c.tc : Thread Cert.AdaURefIdeal.nD Cert.AdaURefIdeal.τ).loc Cert.AdaURefIdeal.main_arg2) = m ((c.tc : Thread Cert.AdaUIdeal.nD Cert.AdaUIdeal.τ).loc Cert.AdaUIdeal.main_arg2)
      ∧ m' ((c.tc : Thread Cert.AdaURefIdeal.nD Cert.AdaURefIdeal.τ).loc Cert.AdaURefIdeal.main_arg3) = m ((c.tc : Thread Cert.AdaUIdeal.nD Cert.AdaUIdeal.τ).loc Cert.AdaUIdeal.main_arg3)
      ∧ m' ((c.tc : Thread Cert.AdaURefIdeal.nD Cert.AdaURefIdeal.τ).loc Cert.AdaURefIdeal.main_arg4) = m ((c.tc : Thread Cert.AdaUIdeal.nD Cert.AdaUIdeal.τ).loc Cert.AdaUIdeal.main_arg4)) →
    ∃ (v0 : (c : Dev Cert.AdaUIdeal.nD) → Buf (Elt Ideal) ((c.tc : Thread Cert.AdaUIdeal.nD Cert.AdaUIdeal.τ).loc Cert.AdaUIdeal.main_v0_0)) (v1 : (c : Dev Cert.AdaUIdeal.nD) → Buf (Elt Ideal) ((c.tc : Thread Cert.AdaUIdeal.nD Cert.AdaUIdeal.τ).loc Cert.AdaUIdeal.main_v0_1)) (v2 : (c : Dev Cert.AdaUIdeal.nD) → Buf (Elt Ideal) ((c.tc : Thread Cert.AdaUIdeal.nD Cert.AdaUIdeal.τ).loc Cert.AdaUIdeal.main_v0_2)) (v3 : (c : Dev Cert.AdaUIdeal.nD) → Buf (Elt Ideal) ((c.tc : Thread Cert.AdaUIdeal.nD Cert.AdaUIdeal.τ).loc Cert.AdaUIdeal.main_v0_3)),
      θ_run (Cert.AdaUIdeal.defs (F := Ideal)) (onTc (τ := Cert.AdaUIdeal.τ) (Cert.AdaUIdeal.main (F := Ideal))) ⟨m, fun _ => 0, g⟩ (fun r => ∀ c : Dev Cert.AdaUIdeal.nD,
          r.2.mem ((c.tc : Thread Cert.AdaUIdeal.nD Cert.AdaUIdeal.τ).loc Cert.AdaUIdeal.main_v0_0) = v0 c
          ∧ r.2.mem ((c.tc : Thread Cert.AdaUIdeal.nD Cert.AdaUIdeal.τ).loc Cert.AdaUIdeal.main_v0_1) = v1 c
          ∧ r.2.mem ((c.tc : Thread Cert.AdaUIdeal.nD Cert.AdaUIdeal.τ).loc Cert.AdaUIdeal.main_v0_2) = v2 c
          ∧ r.2.mem ((c.tc : Thread Cert.AdaUIdeal.nD Cert.AdaUIdeal.τ).loc Cert.AdaUIdeal.main_v0_3) = v3 c
          ∧ r.2.mem ((c.tc : Thread Cert.AdaUIdeal.nD Cert.AdaUIdeal.τ).loc Cert.AdaUIdeal.main_arg0) = m ((c.tc : Thread Cert.AdaUIdeal.nD Cert.AdaUIdeal.τ).loc Cert.AdaUIdeal.main_arg0)
          ∧ r.2.mem ((c.tc : Thread Cert.AdaUIdeal.nD Cert.AdaUIdeal.τ).loc Cert.AdaUIdeal.main_arg1) = m ((c.tc : Thread Cert.AdaUIdeal.nD Cert.AdaUIdeal.τ).loc Cert.AdaUIdeal.main_arg1)
          ∧ r.2.mem ((c.tc : Thread Cert.AdaUIdeal.nD Cert.AdaUIdeal.τ).loc Cert.AdaUIdeal.main_arg2) = m ((c.tc : Thread Cert.AdaUIdeal.nD Cert.AdaUIdeal.τ).loc Cert.AdaUIdeal.main_arg2)
          ∧ r.2.mem ((c.tc : Thread Cert.AdaUIdeal.nD Cert.AdaUIdeal.τ).loc Cert.AdaUIdeal.main_arg3) = m ((c.tc : Thread Cert.AdaUIdeal.nD Cert.AdaUIdeal.τ).loc Cert.AdaUIdeal.main_arg3)
          ∧ r.2.mem ((c.tc : Thread Cert.AdaUIdeal.nD Cert.AdaUIdeal.τ).loc Cert.AdaUIdeal.main_arg4) = m ((c.tc : Thread Cert.AdaUIdeal.nD Cert.AdaUIdeal.τ).loc Cert.AdaUIdeal.main_arg4))
      ∧ θ_run (Cert.AdaURefIdeal.defs (F := Ideal)) (onTc (τ := Cert.AdaURefIdeal.τ) (Cert.AdaURefIdeal.main (F := Ideal))) ⟨m', fun _ => 0, g'⟩ (fun r => ∀ c : Dev Cert.AdaURefIdeal.nD,
          r.2.mem ((c.tc : Thread Cert.AdaURefIdeal.nD Cert.AdaURefIdeal.τ).loc Cert.AdaURefIdeal.main_v3) = v0 c
          ∧ r.2.mem ((c.tc : Thread Cert.AdaURefIdeal.nD Cert.AdaURefIdeal.τ).loc Cert.AdaURefIdeal.main_v27) = v1 c
          ∧ r.2.mem ((c.tc : Thread Cert.AdaURefIdeal.nD Cert.AdaURefIdeal.τ).loc Cert.AdaURefIdeal.main_v8) = v2 c
          ∧ r.2.mem ((c.tc : Thread Cert.AdaURefIdeal.nD Cert.AdaURefIdeal.τ).loc Cert.AdaURefIdeal.main_v14) = v3 c
          ∧ r.2.mem ((c.tc : Thread Cert.AdaURefIdeal.nD Cert.AdaURefIdeal.τ).loc Cert.AdaURefIdeal.main_arg0) = m' ((c.tc : Thread Cert.AdaURefIdeal.nD Cert.AdaURefIdeal.τ).loc Cert.AdaURefIdeal.main_arg0)
          ∧ r.2.mem ((c.tc : Thread Cert.AdaURefIdeal.nD Cert.AdaURefIdeal.τ).loc Cert.AdaURefIdeal.main_arg1) = m' ((c.tc : Thread Cert.AdaURefIdeal.nD Cert.AdaURefIdeal.τ).loc Cert.AdaURefIdeal.main_arg1)
          ∧ r.2.mem ((c.tc : Thread Cert.AdaURefIdeal.nD Cert.AdaURefIdeal.τ).loc Cert.AdaURefIdeal.main_arg2) = m' ((c.tc : Thread Cert.AdaURefIdeal.nD Cert.AdaURefIdeal.τ).loc Cert.AdaURefIdeal.main_arg2)
          ∧ r.2.mem ((c.tc : Thread Cert.AdaURefIdeal.nD Cert.AdaURefIdeal.τ).loc Cert.AdaURefIdeal.main_arg3) = m' ((c.tc : Thread Cert.AdaURefIdeal.nD Cert.AdaURefIdeal.τ).loc Cert.AdaURefIdeal.main_arg3)
          ∧ r.2.mem ((c.tc : Thread Cert.AdaURefIdeal.nD Cert.AdaURefIdeal.τ).loc Cert.AdaURefIdeal.main_arg4) = m' ((c.tc : Thread Cert.AdaURefIdeal.nD Cert.AdaURefIdeal.τ).loc Cert.AdaURefIdeal.main_arg4))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)
      ∧ m' ((c.tc : Thread Cert.SumSmallRefIdeal.nD Cert.SumSmallRefIdeal.τ).loc Cert.SumSmallRefIdeal.main_arg1) = m ((c.tc : Thread Cert.SumSmallIdeal.nD Cert.SumSmallIdeal.τ).loc Cert.SumSmallIdeal.main_arg1)
      ∧ m' ((c.tc : Thread Cert.SumSmallRefIdeal.nD Cert.SumSmallRefIdeal.τ).loc Cert.SumSmallRefIdeal.main_arg2) = m ((c.tc : Thread Cert.SumSmallIdeal.nD Cert.SumSmallIdeal.τ).loc Cert.SumSmallIdeal.main_arg2)) →
    ∃ (v0 : (c : Dev Cert.SumSmallIdeal.nD) → Buf (Elt Ideal) ((c.tc : Thread Cert.SumSmallIdeal.nD Cert.SumSmallIdeal.τ).loc Cert.SumSmallIdeal.main_v0_0)) (v1 : (c : Dev Cert.SumSmallIdeal.nD) → Buf (Elt Ideal) ((c.tc : Thread Cert.SumSmallIdeal.nD Cert.SumSmallIdeal.τ).loc Cert.SumSmallIdeal.main_v0_1)) (v2 : (c : Dev Cert.SumSmallIdeal.nD) → Buf (Elt Ideal) ((c.tc : Thread Cert.SumSmallIdeal.nD Cert.SumSmallIdeal.τ).loc Cert.SumSmallIdeal.main_v0_2)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0_0) = v0 c
          ∧ r.2.mem ((c.tc : Thread Cert.SumSmallIdeal.nD Cert.SumSmallIdeal.τ).loc Cert.SumSmallIdeal.main_v0_1) = v1 c
          ∧ r.2.mem ((c.tc : Thread Cert.SumSmallIdeal.nD Cert.SumSmallIdeal.τ).loc Cert.SumSmallIdeal.main_v0_2) = v2 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0)
          ∧ r.2.mem ((c.tc : Thread Cert.SumSmallIdeal.nD Cert.SumSmallIdeal.τ).loc Cert.SumSmallIdeal.main_arg1) = m ((c.tc : Thread Cert.SumSmallIdeal.nD Cert.SumSmallIdeal.τ).loc Cert.SumSmallIdeal.main_arg1)
          ∧ r.2.mem ((c.tc : Thread Cert.SumSmallIdeal.nD Cert.SumSmallIdeal.τ).loc Cert.SumSmallIdeal.main_arg2) = m ((c.tc : Thread Cert.SumSmallIdeal.nD Cert.SumSmallIdeal.τ).loc Cert.SumSmallIdeal.main_arg2))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_v2) = v1 c
          ∧ r.2.mem ((c.tc : Thread Cert.SumSmallRefIdeal.nD Cert.SumSmallRefIdeal.τ).loc Cert.SumSmallRefIdeal.main_v3) = v2 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0)
          ∧ r.2.mem ((c.tc : Thread Cert.SumSmallRefIdeal.nD Cert.SumSmallRefIdeal.τ).loc Cert.SumSmallRefIdeal.main_arg1) = m' ((c.tc : Thread Cert.SumSmallRefIdeal.nD Cert.SumSmallRefIdeal.τ).loc Cert.SumSmallRefIdeal.main_arg1)
          ∧ r.2.mem ((c.tc : Thread Cert.SumSmallRefIdeal.nD Cert.SumSmallRefIdeal.τ).loc Cert.SumSmallRefIdeal.main_arg2) = m' ((c.tc : Thread Cert.SumSmallRefIdeal.nD Cert.SumSmallRefIdeal.τ).loc Cert.SumSmallRefIdeal.main_arg2))

def preserves_SsmX_SsmXIdeal : Prop :=
  True

def Claim : Prop :=
  ∃ (hInW : Cert.InW.Facts) (hInWIdeal : Cert.InWIdeal.Facts) (hInWRefIdeal : Cert.InWRefIdeal.Facts) (hPool : Cert.Pool.Facts) (hPoolIdeal : Cert.PoolIdeal.Facts) (hPoolRefIdeal : Cert.PoolRefIdeal.Facts) (hInX : Cert.InX.Facts) (hInXIdeal : Cert.InXIdeal.Facts) (hInXRefIdeal : Cert.InXRefIdeal.Facts) (hGlu : Cert.Glu.Facts) (hGluIdeal : Cert.GluIdeal.Facts) (hGluRefIdeal : Cert.GluRefIdeal.Facts) (hHead : Cert.Head.Facts) (hHeadIdeal : Cert.HeadIdeal.Facts) (hHeadRefIdeal : Cert.HeadRefIdeal.Facts) (hPrep : Cert.Prep.Facts) (hPrepIdeal : Cert.PrepIdeal.Facts) (hPrepRefIdeal : Cert.PrepRefIdeal.Facts) (hPoolF : Cert.PoolF.Facts) (hPoolFIdeal : Cert.PoolFIdeal.Facts) (hPoolFRefIdeal : Cert.PoolFRefIdeal.Facts) (hAdamIn : Cert.AdamIn.Facts) (hAdamInIdeal : Cert.AdamInIdeal.Facts) (hAdamInRefIdeal : Cert.AdamInRefIdeal.Facts) (hAdaU : Cert.AdaU.Facts) (hAdaUIdeal : Cert.AdaUIdeal.Facts) (hAdaURefIdeal : Cert.AdaURefIdeal.Facts) (hSumSmall : Cert.SumSmall.Facts) (hSumSmallIdeal : Cert.SumSmallIdeal.Facts) (hSumSmallRefIdeal : Cert.SumSmallRefIdeal.Facts) (hSsmX : Cert.SsmX.Facts) (hSsmXIdeal : Cert.SsmXIdeal.Facts) (hPre_finite_pool : Cert.Pre_finite_pool.Facts) (hPre_finite_inx : Cert.Pre_finite_inx.Facts) (hPre_finite_glu : Cert.Pre_finite_glu.Facts) (hPre_finite_head : Cert.Pre_finite_head.Facts) (hPre_finite_poolf : Cert.Pre_finite_poolf.Facts),
    quiescent_InW (hInW := hInW)
    ∧ quiescent_InWIdeal (hInWIdeal := hInWIdeal)
    ∧ quiescent_InWRefIdeal (hInWRefIdeal := hInWRefIdeal)
    ∧ quiescent_Pool (hPool := hPool)
    ∧ quiescent_PoolIdeal (hPoolIdeal := hPoolIdeal)
    ∧ quiescent_PoolIdeal_pre_finite_pool (hPoolIdeal := hPoolIdeal) (hPre_finite_pool := hPre_finite_pool)
    ∧ quiescent_PoolRefIdeal (hPoolRefIdeal := hPoolRefIdeal)
    ∧ quiescent_PoolRefIdeal_pre_finite_pool (hPoolRefIdeal := hPoolRefIdeal) (hPre_finite_pool := hPre_finite_pool)
    ∧ quiescent_InX (hInX := hInX)
    ∧ quiescent_InXIdeal (hInXIdeal := hInXIdeal)
    ∧ quiescent_InXIdeal_pre_finite_inx (hInXIdeal := hInXIdeal) (hPre_finite_inx := hPre_finite_inx)
    ∧ quiescent_InXRefIdeal (hInXRefIdeal := hInXRefIdeal)
    ∧ quiescent_InXRefIdeal_pre_finite_inx (hInXRefIdeal := hInXRefIdeal) (hPre_finite_inx := hPre_finite_inx)
    ∧ quiescent_Glu (hGlu := hGlu)
    ∧ quiescent_GluIdeal (hGluIdeal := hGluIdeal)
    ∧ quiescent_GluIdeal_pre_finite_glu (hGluIdeal := hGluIdeal) (hPre_finite_glu := hPre_finite_glu)
    ∧ quiescent_GluRefIdeal (hGluRefIdeal := hGluRefIdeal)
    ∧ quiescent_GluRefIdeal_pre_finite_glu (hGluRefIdeal := hGluRefIdeal) (hPre_finite_glu := hPre_finite_glu)
    ∧ quiescent_Head (hHead := hHead)
    ∧ quiescent_HeadIdeal (hHeadIdeal := hHeadIdeal)
    ∧ quiescent_HeadIdeal_pre_finite_head (hHeadIdeal := hHeadIdeal) (hPre_finite_head := hPre_finite_head)
    ∧ quiescent_HeadRefIdeal (hHeadRefIdeal := hHeadRefIdeal)
    ∧ quiescent_HeadRefIdeal_pre_finite_head (hHeadRefIdeal := hHeadRefIdeal) (hPre_finite_head := hPre_finite_head)
    ∧ quiescent_Prep (hPrep := hPrep)
    ∧ quiescent_PrepIdeal (hPrepIdeal := hPrepIdeal)
    ∧ quiescent_PrepRefIdeal (hPrepRefIdeal := hPrepRefIdeal)
    ∧ quiescent_PoolF (hPoolF := hPoolF)
    ∧ quiescent_PoolFIdeal (hPoolFIdeal := hPoolFIdeal)
    ∧ quiescent_PoolFIdeal_pre_finite_poolf (hPoolFIdeal := hPoolFIdeal) (hPre_finite_poolf := hPre_finite_poolf)
    ∧ quiescent_PoolFRefIdeal (hPoolFRefIdeal := hPoolFRefIdeal)
    ∧ quiescent_PoolFRefIdeal_pre_finite_poolf (hPoolFRefIdeal := hPoolFRefIdeal) (hPre_finite_poolf := hPre_finite_poolf)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdaU (hAdaU := hAdaU)
    ∧ quiescent_AdaUIdeal (hAdaUIdeal := hAdaUIdeal)
    ∧ quiescent_AdaURefIdeal (hAdaURefIdeal := hAdaURefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_SsmX (hSsmX := hSsmX)
    ∧ quiescent_SsmXIdeal (hSsmXIdeal := hSsmXIdeal)
    ∧ preserves_InW_InWIdeal
    ∧ algebraic_InWIdeal_InWRefIdeal (hInWIdeal := hInWIdeal) (hInWRefIdeal := hInWRefIdeal)
    ∧ preserves_Pool_PoolIdeal
    ∧ algebraic_PoolIdeal_PoolRefIdeal_pre_finite_pool (hPoolIdeal := hPoolIdeal) (hPoolRefIdeal := hPoolRefIdeal) (hPre_finite_pool := hPre_finite_pool)
    ∧ preserves_InX_InXIdeal
    ∧ algebraic_InXIdeal_InXRefIdeal_pre_finite_inx (hInXIdeal := hInXIdeal) (hInXRefIdeal := hInXRefIdeal) (hPre_finite_inx := hPre_finite_inx)
    ∧ preserves_Glu_GluIdeal
    ∧ algebraic_GluIdeal_GluRefIdeal_pre_finite_glu (hGluIdeal := hGluIdeal) (hGluRefIdeal := hGluRefIdeal) (hPre_finite_glu := hPre_finite_glu)
    ∧ preserves_Head_HeadIdeal
    ∧ algebraic_HeadIdeal_HeadRefIdeal_pre_finite_head (hHeadIdeal := hHeadIdeal) (hHeadRefIdeal := hHeadRefIdeal) (hPre_finite_head := hPre_finite_head)
    ∧ preserves_Prep_PrepIdeal
    ∧ algebraic_PrepIdeal_PrepRefIdeal (hPrepIdeal := hPrepIdeal) (hPrepRefIdeal := hPrepRefIdeal)
    ∧ preserves_PoolF_PoolFIdeal
    ∧ algebraic_PoolFIdeal_PoolFRefIdeal_pre_finite_poolf (hPoolFIdeal := hPoolFIdeal) (hPoolFRefIdeal := hPoolFRefIdeal) (hPre_finite_poolf := hPre_finite_poolf)
    ∧ preserves_AdamIn_AdamInIdeal
    ∧ algebraic_AdamInIdeal_AdamInRefIdeal (hAdamInIdeal := hAdamInIdeal) (hAdamInRefIdeal := hAdamInRefIdeal)
    ∧ preserves_AdaU_AdaUIdeal
    ∧ algebraic_AdaUIdeal_AdaURefIdeal (hAdaUIdeal := hAdaUIdeal) (hAdaURefIdeal := hAdaURefIdeal)
    ∧ preserves_SumSmall_SumSmallIdeal
    ∧ algebraic_SumSmallIdeal_SumSmallRefIdeal (hSumSmallIdeal := hSumSmallIdeal) (hSumSmallRefIdeal := hSumSmallRefIdeal)
    ∧ preserves_SsmX_SsmXIdeal
-- ==== Pre_finite_glu.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bitsLt_bf16_f32 : FTy.bits .bf16 < FTy.bits .f32
  bcast_S_S1024x1024 : S_.BroadcastsInDim S1024x1024 (![] : Fin 0 → Fin S1024x1024.rank)
  bcast_S_S1x1024 : S_.BroadcastsInDim S1x1024 (![] : Fin 0 → Fin S1x1024.rank)

variable [Facts]

def fn {F : FTy → Type} [FloatOps F] (main_arg0 : FVec F S8192x1024 .f32) (main_arg1 : FVec F S8192x1024 .bf16) (main_arg2 : FVec F S1024x1024 .f32) (main_arg3 : FVec F S1x1024 .f32) (main_arg4 : FVec F S8192x1024 .bf16) : IVec S8192x1024 1 × IVec S8192x1024 1 × IVec S1024x1024 1 × IVec S1x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := (extf .f32 · bitsLt_bf16_f32) main_arg1
  let main_v4 : FVec F S8192x1024 .f32 := Host.absf main_v3
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_v7 : FVec F S1024x1024 .f32 := Host.absf main_arg2
  let main_cst_1 : FVec F S_ .f32 := constant S_ .f32 0x7F800000#32
  let main_v8 : FVec F S1024x1024 .f32 := broadcastInDim S1024x1024 ![] bcast_S_S1024x1024 main_cst_1
  let main_v9 : IVec S1024x1024 1 := cmpf .olt main_v7 main_v8
  let main_v10 : FVec F S1x1024 .f32 := Host.absf main_arg3
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  let main_v13 : FVec F S8192x1024 .f32 := (extf .f32 · bitsLt_bf16_f32) main_arg4
  let main_v14 : FVec F S8192x1024 .f32 := Host.absf main_v13
  let main_cst_3 : FVec F S_ .f32 := constant S_ .f32 0x7F800000#32
  let main_v15 : FVec F S8192x1024 .f32 := broadcastInDim S8192x1024 ![] bcast_S_S8192x1024 main_cst_3
  let main_v16 : IVec S8192x1024 1 := cmpf .olt main_v14 main_v15
  (main_v2, main_v6, main_v9, main_v12, main_v16)
-- ==== Pre_finite_head.lean ====
abbrev S8192x1024 : Shape := ⟨2, ![8192, 1024]⟩
abbrev S8192x6144 : Shape := ⟨2, ![8192, 6144]⟩
abbrev S3x1024 : Shape := ⟨2, ![3, 1024]⟩
abbrev S1x1024 : Shape := ⟨2, ![1, 1024]⟩
abbrev S1024x1024 : Shape := ⟨2, ![1024, 1024]⟩
abbrev S_ : Shape := ⟨0, ![]⟩
abbrev S8192x2048 : Shape := ⟨2, ![8192, 2048]⟩

class Facts : Prop where
  bcast_S_S8192x1024 : S_.BroadcastsInDim S8192x1024 (![] : Fin 0 → Fin S8192x1024.rank)
  slices_S8192x6144_S8192x2048_0_4096 : S8192x6144.Slices ![0, 4096] S8192x2048
  bitsLt_bf16_f32 : FTy.bits .bf16 < FTy.bits .f32
  bcast_S_S8192x2048 : S_.BroadcastsInDim S8192x2048 (![] : Fin 0 → Fin S8192x2048.rank)
  slices_S3x1024_S1x1024_2_0 : S3x1024.Slices ![2, 0] S1x1024
  bcast_S_S1x1024 : S_.BroadcastsInDim S1x1024 (![] : Fin 0 → Fin S1x1024.rank)
  bcast_S_S1024x1024 : S_.BroadcastsInDim S1024x1024 (![] : Fin 0 → Fin S1024x1024.rank)

variable [Facts]

def fn_part1 {F : FTy → Type} [FloatOps F] (main_arg5 : FVec F S3x1024 .f32) (main_arg6 : FVec F S1x1024 .f32) (main_arg7 : FVec F S1024x1024 .f32) (main_arg8 : FVec F S1024x1024 .f32) (main_arg9 : FVec F S1024x1024 .f32) (main_v2 : IVec S8192x1024 1) (main_v5 : IVec S8192x1024 1) (main_v10 : IVec S8192x2048 1) (main_v14 : IVec S8192x1024 1) (main_v18 : IVec S8192x1024 1) : IVec S8192x1024 1 × IVec S8192x1024 1 × IVec S8192x2048 1 × IVec S8192x1024 1 × IVec S8192x1024 1 × IVec S1x1024 1 × IVec S1x1024 1 × IVec S1024x1024 1 × IVec S1024x1024 1 × IVec S1024x1024 1 :=
  let main_v19 : FVec F S1x1024 .f32 := (extractStridedSlice S1x1024 ![2, 0] · slices_S3x1024_S1x1024_2_0) main_arg5
  let main_v20 : FVec F S1x1024 .f32 := Host.absf main_v19
  let main_cst_4 : FVec F S_ .f32 := constant S_ .f32 0x7F800000#32
  let main_v21 : FVec F S1x1024 .f32 := broadcastInDim S1x1024 ![] bcast_S_S1x1024 main_cst_4
  let main_v22 : IVec S1x1024 1 := cmpf .olt main_v20 main_v21
  let main_v23 : FVec F S1x1024 .f32 := Host.absf main_arg6
  let main_cst_5 : FVec F S_ .f32 := constant S_ .f32 0x7F800000#32
  let main_v24 : FVec F S1x1024 .f32 := broadcastInDim S1x1024 ![] bcast_S_S1x1024 main_cst_5
  let main_v25 : IVec S1x1024 1 := cmpf .olt main_v23 main_v24
  let main_v26 : FVec F S1024x1024 .f32 := Host.absf main_arg7
  let main_cst_6 : FVec F S_ .f32 := constant S_ .f32 0x7F800000#32
  let main_v27 : FVec F S1024x1024 .f32 := broadcastInDim S1024x1024 ![] bcast_S_S1024x1024 main_cst_6
  let main_v28 : IVec S1024x1024 1 := cmpf .olt main_v26 main_v27
  let main_v29 : FVec F S1024x1024 .f32 := Host.absf main_arg8
  let main_cst_7 : FVec F S_ .f32 := constant S_ .f32 0x7F800000#32
  let main_v30 : FVec F S1024x1024 .f32 := broadcastInDim S1024x1024 ![] bcast_S_S1024x1024 main_cst_7
  let main_v31 : IVec S1024x1024 1 := cmpf .olt main_v29 main_v30
  let main_v32 : FVec F S1024x1024 .f32 := Host.absf main_arg9
  let main_cst_8 : FVec F S_ .f32 := constant S_ .f32 0x7F800000#32
  let main_v33 : FVec F S1024x1024 .f32 := broadcastInDim S1024x1024 ![] bcast_S_S1024x1024 main_cst_8
  let main_v34 : IVec S1024x1024 1 := cmpf .olt main_v32 main_v33
  (main_v2, main_v5, main_v10, main_v14, main_v18, main_v22, main_v25, main_v28, main_v31, main_v34)

def fn {F : FTy → Type} [FloatOps F] (main_arg0 : FVec F S8192x1024 .f32) (main_arg1 : FVec F S8192x1024 .f32) (main_arg2 : FVec F S8192x6144 .bf16) (main_arg3 : FVec F S8192x1024 .bf16) (main_arg4 : FVec F S8192x1024 .bf16) (main_arg5 : FVec F S3x1024 .f32) (main_arg6 : FVec F S1x1024 .f32) (main_arg7 : FVec F S1024x1024 .f32) (main_arg8 : FVec F S1024x1024 .f32) (main_arg9 : FVec F S1024x1024 .f32) : IVec S8192x1024 1 × IVec S8192x1024 1 × IVec S8192x2048 1 × IVec S8192x1024 1 × IVec S8192x1024 1 × IVec S1x1024 1 × IVec S1x1024 1 × IVec S1024x1024 1 × IVec S1024x1024 1 × IVec S1024x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S8192x2048 .bf16 := (extractStridedSlice S8192x2048 ![0, 4096] · slices_S8192x6144_S8192x2048_0_4096) main_arg2
  let main_v7 : FVec F S8192x2048 .f32 := (extf .f32 · bitsLt_bf16_f32) main_v6
  let main_v8 : FVec F S8192x2048 .f32 := Host.absf main_v7
  let main_cst_1 : FVec F S_ .f32 := constant S_ .f32 0x7F800000#32
  let main_v9 : FVec F S8192x2048 .f32 := broadcastInDim S8192x2048 ![] bcast_S_S8192x2048 main_cst_1
  let main_v10 : IVec S8192x2048 1 := cmpf .olt main_v8 main_v9
  let main_v11 : FVec F S8192x1024 .f32 := (extf .f32 · bitsLt_bf16_f32) main_arg3
  let main_v12 : FVec F S8192x1024 .f32 := Host.absf main_v11
  let main_cst_2 : FVec F S_ .f32 := constant S_ .f32 0x7F800000#32
  let main_v13 : FVec F S8192x1024 .f32 := broadcastInDim S8192x1024 ![] bcast_S_S8192x1024 main_cst_2
  let main_v14 : IVec S8192x1024 1 := cmpf .olt main_v12 main_v13
  let main_v15 : FVec F S8192x1024 .f32 := (extf .f32 · bitsLt_bf16_f32) main_arg4
  let main_v16 : FVec F S8192x1024 .f32 := Host.absf main_v15
  let main_cst_3 : FVec F S_ .f32 := constant S_ .f32 0x7F800000#32
  let main_v17 : FVec F S8192x1024 .f32 := broadcastInDim S8192x1024 ![] bcast_S_S8192x1024 main_cst_3
  let main_v18 : IVec S8192x1024 1 := cmpf .olt main_v16 main_v17
  fn_part1 (F := F) main_arg5 main_arg6 main_arg7 main_arg8 main_arg9 main_v2 main_v5 main_v10 main_v14 main_v18
-- ==== Pre_finite_inx.lean ====
abbrev S8192x1024 : Shape := ⟨2, ![8192, 1024]⟩
abbrev S8192x2048 : Shape := ⟨2, ![8192, 2048]⟩
abbrev S3x1024 : Shape := ⟨2, ![3, 1024]⟩
abbrev S1x1024 : Shape := ⟨2, ![1, 1024]⟩
abbrev S1024x6144 : Shape := ⟨2, ![1024, 6144]⟩
abbrev S_ : Shape := ⟨0, ![]⟩

class Facts : Prop where
  bcast_S_S8192x1024 : S_.BroadcastsInDim S8192x1024 (![] : Fin 0 → Fin S8192x1024.rank)
  bitsLt_bf16_f32 : FTy.bits .bf16 < FTy.bits .f32
  bcast_S_S8192x2048 : S_.BroadcastsInDim S8192x2048 (![] : Fin 0 → Fin S8192x2048.rank)
  slices_S3x1024_S1x1024_1_0 : S3x1024.Slices ![1, 0] S1x1024
  bcast_S_S1x1024 : S_.BroadcastsInDim S1x1024 (![] : Fin 0 → Fin S1x1024.rank)
  bcast_S_S1024x6144 : S_.BroadcastsInDim S1024x6144 (![] : Fin 0 → Fin S1024x6144.rank)

variable [Facts]

def fn_part1 {F : FTy → Type} [FloatOps F] (main_arg6 : FVec F S3x1024 .f32) (main_arg7 : FVec F S1x1024 .f32) (main_arg8 : FVec F S1024x6144 .f32) (main_v2 : IVec S8192x1024 1) (main_v6 : IVec S8192x2048 1) (main_v10 : IVec S8192x1024 1) (main_v14 : IVec S8192x1024 1) (main_v18 : IVec S8192x2048 1) : IVec S8192x1024 1 × IVec S8192x2048 1 × IVec S8192x1024 1 × IVec S8192x1024 1 × IVec S8192x2048 1 × IVec S1x1024 1 × IVec S1x1024 1 × IVec S1024x6144 1 :=
  let main_v19 : FVec F S1x1024 .f32 := (extractStridedSlice S1x1024 ![1, 0] · slices_S3x1024_S1x1024_1_0) main_arg6
  let main_v20 : FVec F S1x1024 .f32 := Host.absf main_v19
  let main_cst_4 : FVec F S_ .f32 := constant S_ .f32 0x7F800000#32
  let main_v21 : FVec F S1x1024 .f32 := broadcastInDim S1x1024 ![] bcast_S_S1x1024 main_cst_4
  let main_v22 : IVec S1x1024 1 := cmpf .olt main_v20 main_v21
  let main_v23 : FVec F S1x1024 .f32 := Host.absf main_arg7
  let main_cst_5 : FVec F S_ .f32 := constant S_ .f32 0x7F800000#32
  let main_v24 : FVec F S1x1024 .f32 := broadcastInDim S1x1024 ![] bcast_S_S1x1024 main_cst_5
  let main_v25 : IVec S1x1024 1 := cmpf .olt main_v23 main_v24
  let main_v26 : FVec F S1024x6144 .f32 := Host.absf main_arg8
  let main_cst_6 : FVec F S_ .f32 := constant S_ .f32 0x7F800000#32
  let main_v27 : FVec F S1024x6144 .f32 := broadcastInDim S1024x6144 ![] bcast_S_S1024x6144 main_cst_6
  let main_v28 : IVec S1024x6144 1 := cmpf .olt main_v26 main_v27
  (main_v2, main_v6, main_v10, main_v14, main_v18, main_v22, main_v25, main_v28)

def fn {F : FTy → Type} [FloatOps F] (main_arg0 : FVec F S8192x1024 .f32) (main_arg1 : FVec F S8192x1024 .f32) (main_arg2 : FVec F S8192x2048 .bf16) (main_arg3 : FVec F S8192x1024 .bf16) (main_arg4 : FVec F S8192x1024 .bf16) (main_arg5 : FVec F S8192x2048 .bf16) (main_arg6 : FVec F S3x1024 .f32) (main_arg7 : FVec F S1x1024 .f32) (main_arg8 : FVec F S1024x6144 .f32) : IVec S8192x1024 1 × IVec S8192x2048 1 × IVec S8192x1024 1 × IVec S8192x1024 1 × IVec S8192x2048 1 × IVec S1x1024 1 × IVec S1x1024 1 × IVec S1024x6144 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x2048 .f32 := (extf .f32 · bitsLt_bf16_f32) main_arg2
  let main_v4 : FVec F S8192x2048 .f32 := Host.absf main_v3
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_v7 : FVec F S8192x1024 .f32 := (extf .f32 · bitsLt_bf16_f32) main_arg3
  let main_v8 : FVec F S8192x1024 .f32 := Host.absf main_v7
  let main_cst_1 : FVec F S_ .f32 := constant S_ .f32 0x7F800000#32
  let main_v9 : FVec F S8192x1024 .f32 := broadcastInDim S8192x1024 ![] bcast_S_S8192x1024 main_cst_1
  let main_v10 : IVec S8192x1024 1 := cmpf .olt main_v8 main_v9
  let main_v11 : FVec F S8192x1024 .f32 := (extf .f32 · bitsLt_bf16_f32) main_arg4
  let main_v12 : FVec F S8192x1024 .f32 := Host.absf main_v11
  let main_cst_2 : FVec F S_ .f32 := constant S_ .f32 0x7F800000#32
  let main_v13 : FVec F S8192x1024 .f32 := broadcastInDim S8192x1024 ![] bcast_S_S8192x1024 main_cst_2
  let main_v14 : IVec S8192x1024 1 := cmpf .olt main_v12 main_v13
  let main_v15 : FVec F S8192x2048 .f32 := (extf .f32 · bitsLt_bf16_f32) main_arg5
  let main_v16 : FVec F S8192x2048 .f32 := Host.absf main_v15
  let main_cst_3 : FVec F S_ .f32 := constant S_ .f32 0x7F800000#32
  let main_v17 : FVec F S8192x2048 .f32 := broadcastInDim S8192x2048 ![] bcast_S_S8192x2048 main_cst_3
  let main_v18 : IVec S8192x2048 1 := cmpf .olt main_v16 main_v17
  fn_part1 (F := F) main_arg6 main_arg7 main_arg8 main_v2 main_v6 main_v10 main_v14 main_v18
-- ==== Pre_finite_pool.lean ====
abbrev S8192x6144 : Shape := ⟨2, ![8192, 6144]⟩
abbrev S4x256x256 : Shape := ⟨3, ![4, 256, 256]⟩
abbrev S1x1024 : Shape := ⟨2, ![1, 1024]⟩
abbrev S8192x1024 : Shape := ⟨2, ![8192, 1024]⟩
abbrev S8192x2048 : Shape := ⟨2, ![8192, 2048]⟩
abbrev S_ : Shape := ⟨0, ![]⟩

class Facts : Prop where
  slices_S8192x6144_S8192x2048_0_0 : S8192x6144.Slices ![0, 0] S8192x2048
  bitsLt_bf16_f32 : FTy.bits .bf16 < FTy.bits .f32
  bcast_S_S8192x2048 : S_.BroadcastsInDim S8192x2048 (![] : Fin 0 → Fin S8192x2048.rank)
  bcast_S_S4x256x256 : S_.BroadcastsInDim S4x256x256 (![] : Fin 0 → Fin S4x256x256.rank)
  bcast_S_S1x1024 : S_.BroadcastsInDim S1x1024 (![] : Fin 0 → Fin S1x1024.rank)
  bcast_S_S8192x1024 : S_.BroadcastsInDim S8192x1024 (![] : Fin 0 → Fin S8192x1024.rank)

variable [Facts]

def fn {F : FTy → Type} [FloatOps F] (main_arg0 : FVec F S8192x6144 .bf16) (main_arg1 : FVec F S4x256x256 .f32) (main_arg2 : FVec F S1x1024 .f32) (main_arg3 : FVec F S8192x1024 .bf16) : IVec S8192x2048 1 × IVec S4x256x256 1 × IVec S1x1024 1 × IVec S8192x1024 1 :=
  let main_v0 : FVec F S8192x2048 .bf16 := (extractStridedSlice S8192x2048 ![0, 0] · slices_S8192x6144_S8192x2048_0_0) main_arg0
  let main_v1 : FVec F S8192x2048 .f32 := (extf .f32 · bitsLt_bf16_f32) main_v0
  let main_v2 : FVec F S8192x2048 .f32 := Host.absf main_v1
  let main_cst : FVec F S_ .f32 := constant S_ .f32 0x7F800000#32
  let main_v3 : FVec F S8192x2048 .f32 := broadcastInDim S8192x2048 ![] bcast_S_S8192x2048 main_cst
  let main_v4 : IVec S8192x2048 1 := cmpf .olt main_v2 main_v3
  let main_v5 : FVec F S4x256x256 .f32 := Host.absf main_arg1
  let main_cst_0 : FVec F S_ .f32 := constant S_ .f32 0x7F800000#32
  let main_v6 : FVec F S4x256x256 .f32 := broadcastInDim S4x256x256 ![] bcast_S_S4x256x256 main_cst_0
  let main_v7 : IVec S4x256x256 1 := cmpf .olt main_v5 main_v6
  let main_v8 : FVec F S1x1024 .f32 := Host.absf main_arg2
  let main_cst_1 : FVec F S_ .f32 := constant S_ .f32 0x7F800000#32
  let main_v9 : FVec F S1x1024 .f32 := broadcastInDim S1x1024 ![] bcast_S_S1x1024 main_cst_1
  let main_v10 : IVec S1x1024 1 := cmpf .olt main_v8 main_v9
  let main_v11 : FVec F S8192x1024 .f32 := (extf .f32 · bitsLt_bf16_f32) main_arg3
  let main_v12 : FVec F S8192x1024 .f32 := Host.absf main_v11
  let main_cst_2 : FVec F S_ .f32 := constant S_ .f32 0x7F800000#32
  let main_v13 : FVec F S8192x1024 .f32 := broadcastInDim S8192x1024 ![] bcast_S_S8192x1024 main_cst_2
  let main_v14 : IVec S8192x1024 1 := cmpf .olt main_v12 main_v13
  (main_v4, main_v7, main_v10, main_v14)
-- ==== Pre_finite_poolf.lean ====
abbrev S8192x6144 : Shape := ⟨2, ![8192, 6144]⟩
abbrev S4x256x256 : Shape := ⟨3, ![4, 256, 256]⟩
abbrev S1x1024 : Shape := ⟨2, ![1, 1024]⟩
abbrev S8192x1024 : Shape := ⟨2, ![8192, 1024]⟩
abbrev S_ : Shape := ⟨0, ![]⟩

class Facts : Prop where
  slices_S8192x6144_S8192x1024_0_0 : S8192x6144.Slices ![0, 0] S8192x1024
  bitsLt_bf16_f32 : FTy.bits .bf16 < FTy.bits .f32
  bcast_S_S8192x1024 : S_.BroadcastsInDim S8192x1024 (![] : Fin 0 → Fin S8192x1024.rank)

variable [Facts]

def fn {F : FTy → Type} [FloatOps F] (main_arg0 : FVec F S8192x6144 .bf16) (main_arg1 : FVec F S4x256x256 .f32) (main_arg2 : FVec F S1x1024 .f32) : IVec S8192x1024 1 :=
  let main_v0 : FVec F S8192x1024 .bf16 := (extractStridedSlice S8192x1024 ![0, 0] · slices_S8192x6144_S8192x1024_0_0) main_arg0
  let main_v1 : FVec F S8192x1024 .f32 := (extf .f32 · bitsLt_bf16_f32) main_v0
  let main_v2 : FVec F S8192x1024 .f32 := Host.absf main_v1
  let main_cst : FVec F S_ .f32 := constant S_ .f32 0x7F800000#32
  let main_v3 : FVec F S8192x1024 .f32 := broadcastInDim S8192x1024 ![] bcast_S_S8192x1024 main_cst
  let main_v4 : IVec S8192x1024 1 := cmpf .olt main_v2 main_v3
  main_v4
-- ==== InW.lean ====
abbrev S8192x1024 : Shape := ⟨2, ![8192, 1024]⟩
abbrev S8192x2048 : Shape := ⟨2, ![8192, 2048]⟩
abbrev S3x1024 : Shape := ⟨2, ![3, 1024]⟩
abbrev S1x1024 : Shape := ⟨2, ![1, 1024]⟩
abbrev S1024x6144 : Shape := ⟨2, ![1024, 6144]⟩
abbrev S1024x4096 : Shape := ⟨2, ![1024, 4096]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1024x2048 : Shape := ⟨2, ![1024, 2048]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x2048, .bf16⟩
  | .hbm, ⟨2, _⟩ => ⟨S8192x2048, .bf16⟩
  | .hbm, ⟨3, _⟩ => ⟨S3x1024, .f32⟩
  | .hbm, ⟨4, _⟩ => ⟨S1x1024, .f32⟩
  | .hbm, ⟨5, _⟩ => ⟨S1024x6144, .f32⟩
  | .hbm, ⟨6, _⟩ => ⟨S1024x4096, .bf16⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S3x1024, .f32⟩
  | .local _ .vmem, ⟨7, _⟩ => ⟨S1x1024, .f32⟩
  | .local _ .vmem, ⟨8, _⟩ => ⟨S1024x4096, .bf16⟩
  | .local _ .vmem, ⟨9, _⟩ => ⟨S1024x4096, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v41 : BitVec 1 := Scalar.cmpi .eq arg0 c15_i32
  let v42 : BitVec 32 := Scalar.extui v41
  let c0_i32_22 : BitVec 32 := 0#32
  let v43 : BitVec 1 := Scalar.cmpi .ne v42 c0_i32_22
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== InWRefIdeal.lean ====
abbrev S8192x1024 : Shape := ⟨2, ![8192, 1024]⟩
abbrev S8192x2048 : Shape := ⟨2, ![8192, 2048]⟩
abbrev S3x1024 : Shape := ⟨2, ![3, 1024]⟩
abbrev S1x1024 : Shape := ⟨2, ![1, 1024]⟩
abbrev S1024x6144 : Shape := ⟨2, ![1024, 6144]⟩
abbrev S8192x4096 : Shape := ⟨2, ![8192, 4096]⟩
abbrev S1024x2048 : Shape := ⟨2, ![1024, 2048]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S4096x1024 : Shape := ⟨2, ![4096, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .bf16⟩
  | .hbm, ⟨2, _⟩ => ⟨S8192x2048, .bf16⟩
  | .hbm, ⟨3, _⟩ => ⟨S3x1024, .f32⟩
  | .hbm, ⟨4, _⟩ => ⟨S1x1024, .f32⟩
  | .hbm, ⟨5, _⟩ => ⟨S1024x6144, .f32⟩
  | .hbm, ⟨6, _⟩ => ⟨S8192x2048, .f32⟩
  | .hbm, ⟨7, _⟩ => ⟨S8192x2048, .f32⟩
  | .hbm, ⟨8, _⟩ => ⟨S8192x4096, .f32⟩
  | .hbm, ⟨9, _⟩ => ⟨S1024x2048, .f32⟩
  | .hbm, ⟨10, _⟩ => ⟨S1024x2048, .f32⟩
  | .hbm, ⟨11, _⟩ => ⟨S1024x4096, .f32⟩
  | .hbm, ⟨12, _⟩ => ⟨S1x1024, .f32⟩
  | .hbm, ⟨13, _⟩ => ⟨S1x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x4096, .f32⟩
  | .hbm, ⟨37, _⟩ => ⟨S4096x1024, .f32⟩
  | .hbm, ⟨38, _⟩ => ⟨S1024x4096, .f32⟩
  | .hbm, ⟨39, _⟩ => ⟨S1024x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Pool.lean ====
abbrev S8192x6144 : Shape := ⟨2, ![8192, 6144]⟩
abbrev S4x256x256 : Shape := ⟨3, ![4, 256, 256]⟩
abbrev S1x1024 : Shape := ⟨2, ![1, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S8192x256 : Shape := ⟨2, ![8192, 256]⟩
abbrev S2x256 : Shape := ⟨2, ![2, 256]⟩
abbrev S8190x256 : Shape := ⟨2, ![8190, 256]⟩
abbrev S4x256 : Shape := ⟨2, ![4, 256]⟩
abbrev S8188x256 : Shape := ⟨2, ![8188, 256]⟩
abbrev S8x256 : Shape := ⟨2, ![8, 256]⟩
abbrev S8184x256 : Shape := ⟨2, ![8184, 256]⟩
abbrev S16x256 : Shape := ⟨2, ![16, 256]⟩
abbrev S8176x256 : Shape := ⟨2, ![8176, 256]⟩
abbrev S8192x2048 : Shape := ⟨2, ![8192, 2048]⟩
abbrev S1024x1024 : Shape := ⟨2, ![1024, 1024]⟩
abbrev S1024x2048 : Shape := ⟨2, ![1024, 2048]⟩
abbrev S16x1024 : Shape := ⟨2, ![16, 1024]⟩
abbrev S1024x1 : Shape := ⟨2, ![1024, 1]⟩
abbrev S1024x256 : Shape := ⟨2, ![1024, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S1040x256 : Shape := ⟨2, ![1040, 256]⟩

abbrev nBuf : Space → Nat
  | .hbm => 65
  | .vmem => 13
  | .smem => 0
  | _ => 0

abbrev bufTy : (tb : Table) → Fin (tcTables nBuf tb) → BufTy
  | .hbm, ⟨0, _⟩ => ⟨S8192x6144, .bf16⟩
  | .hbm, ⟨1, _⟩ => ⟨S4x256x256, .f32⟩
  | .hbm, ⟨2, _⟩ => ⟨S1x1024, .f32⟩
  | .hbm, ⟨3, _⟩ => ⟨S8192x1024, .bf16⟩
  | .hbm, ⟨4, _⟩ => ⟨S8192x1024, .bf16⟩
  | .hbm, ⟨5, _⟩ => ⟨S8192x1024, .f32⟩
  | .hbm, ⟨6, _⟩ => ⟨S_, .f32⟩
  | .hbm, ⟨7, _⟩ => ⟨S_, .f32⟩
  | .hbm, ⟨8, _⟩ => ⟨S8192x1024, .f32⟩
  | .hbm, ⟨9, _⟩ => ⟨S8192, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S8192x1, .f32⟩
  | .hbm, ⟨14, _⟩ => ⟨S8192x256, .f32⟩
  | .hbm, ⟨15, _⟩ => ⟨S_, .f32⟩
  | .hbm, ⟨16, _⟩ => ⟨S2x256, .f32⟩
  | .hbm, ⟨17, _⟩ => ⟨S8190x256, .f32⟩
  | .hbm, ⟨18, _⟩ => ⟨S8192x256, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x256, .f32⟩
  | .hbm, ⟨23, _⟩ => ⟨S8192x256, .f32⟩
  | .hbm, ⟨24, _⟩ => ⟨S8192x256, .f32⟩
  | .hbm, ⟨25, _⟩ => ⟨S8192x256, .f32⟩
  | .hbm, ⟨26, _⟩ => ⟨S_, .f32⟩
  | .hbm, ⟨27, _⟩ => ⟨S4x256, .f32⟩
  | .hbm, ⟨28, _⟩ => ⟨S8188x256, .f32⟩
  | .hbm, ⟨29, _⟩ => ⟨S8192x256, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x256, .f32⟩
  | .hbm, ⟨34, _⟩ => ⟨S8192x256, .f32⟩
  | .hbm, ⟨35, _⟩ => ⟨S8192x256, .f32⟩
  | .hbm, ⟨36, _⟩ => ⟨S8192x256, .f32⟩
  | .hbm, ⟨37, _⟩ => ⟨S_, .f32⟩
  | .hbm, ⟨38, _⟩ => ⟨S8x256, .f32⟩
  | .hbm, ⟨39, _⟩ => ⟨S8184x256, .f32⟩
  | .hbm, ⟨40, _⟩ => ⟨S8192x256, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x256, .f32⟩
  | .hbm, ⟨45, _⟩ => ⟨S8192x256, .f32⟩
  | .hbm, ⟨46, _⟩ => ⟨S8192x256, .f32⟩
  | .hbm, ⟨47, _⟩ => ⟨S8192x256, .f32⟩
  | .hbm, ⟨48, _⟩ => ⟨S_, .f32⟩
  | .hbm, ⟨49, _⟩ => ⟨S16x256, .f32⟩
  | .hbm, ⟨50, _⟩ => ⟨S8176x256, .f32⟩
  | .hbm, ⟨51, _⟩ => ⟨S8192x256, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x256, .f32⟩
  | .hbm, ⟨56, _⟩ => ⟨S8192x256, .f32⟩
  | .hbm, ⟨57, _⟩ => ⟨S8192x256, .f32⟩
  | .hbm, ⟨58, _⟩ => ⟨S8192x1024, .f32⟩
  | .hbm, ⟨59, _⟩ => ⟨S8192x1024, .f32⟩
  | .hbm, ⟨60, _⟩ => ⟨S8192x1024, .bf16⟩
  | .hbm, ⟨61, _⟩ => ⟨S4x256x256, .bf16⟩
  | .hbm, ⟨62, _⟩ => ⟨S8192x2048, .bf16⟩
  | .hbm, ⟨63, _⟩ => ⟨S4x256x256, .f32⟩
  | .hbm, ⟨64, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S4x256x256, .bf16⟩
  | .local _ .vmem, ⟨7, _⟩ => ⟨S1x1024, .f32⟩
  | .local _ .vmem, ⟨8, _⟩ => ⟨S1024x2048, .bf16⟩
  | .local _ .vmem, ⟨9, _⟩ => ⟨S1024x2048, .bf16⟩
  | .local _ .vmem, ⟨10, _⟩ => ⟨S4x256x256, .f32⟩
  | .local _ .vmem, ⟨11, _⟩ => ⟨S1x1024, .f32⟩
  | .local _ .vmem, ⟨12, _⟩ => ⟨S16x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_call0_cst : Ref sig .tc := ⟨.hbm, 6, rfl⟩
abbrev main_call0_call0_v0 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47_0 : Ref sig .tc := ⟨.hbm, 62, rfl⟩
abbrev main_v47_1 : Ref sig .tc := ⟨.hbm, 63, rfl⟩
abbrev main_v47_2 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c1_i32 : BitVec 32 := 1#32
  let c0_i32 : BitVec 32 := 0#32
  ![v0.toNat, c1_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== PoolRefIdeal.lean ====
abbrev S8192x6144 : Shape := ⟨2, ![8192, 6144]⟩
abbrev S4x256x256 : Shape := ⟨3, ![4, 256, 256]⟩
abbrev S1x1024 : Shape := ⟨2, ![1, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S8192x256 : Shape := ⟨2, ![8192, 256]⟩
abbrev S2x256 : Shape := ⟨2, ![2, 256]⟩
abbrev S8190x256 : Shape := ⟨2, ![8190, 256]⟩
abbrev S4x256 : Shape := ⟨2, ![4, 256]⟩
abbrev S8188x256 : Shape := ⟨2, ![8188, 256]⟩
abbrev S8x256 : Shape := ⟨2, ![8, 256]⟩
abbrev S8184x256 : Shape := ⟨2, ![8184, 256]⟩
abbrev S16x256 : Shape := ⟨2, ![16, 256]⟩
abbrev S8176x256 : Shape := ⟨2, ![8176, 256]⟩
abbrev S8192x4x256 : Shape := ⟨3, ![8192, 4, 256]⟩
abbrev S4x256x8192 : Shape := ⟨3, ![4, 256, 8192]⟩
abbrev S1024 : Shape := ⟨1, ![1024]⟩
abbrev S4x8192x256 : Shape := ⟨3, ![4, 8192, 256]⟩
abbrev S8192x2048 : Shape := ⟨2, ![8192, 2048]⟩

abbrev nBuf : Space → Nat
  | .hbm => 163
  | .vmem => 0
  | .smem => 0
  | _ => 0

abbrev hbmTy0_0 (i : Nat) : BufTy := match i % 128 with
  | 0 => ⟨S8192x6144, .bf16⟩
  | 1 => ⟨S4x256x256, .f32⟩
  | 2 => ⟨S1x1024, .f32⟩
  | 3 => ⟨S8192x1024, .bf16⟩
  | 4 => ⟨S8192x6144, .f32⟩
  | 5 => ⟨S8192x1024, .f32⟩
  | 6 => ⟨S8192x1024, .f32⟩
  | 7 => ⟨S_, .f32⟩
  | 8 => ⟨S_, .f32⟩
  | 9 => ⟨S8192x1024, .f32⟩
  | 10 => ⟨S8192, .f32⟩
  | 11 => ⟨S_, .f32⟩
  | 12 => ⟨S8192, .f32⟩
  | 13 => ⟨S8192, .f32⟩
  | 14 => ⟨S8192x1, .f32⟩
  | 15 => ⟨S8192x256, .f32⟩
  | 16 => ⟨S_, .f32⟩
  | 17 => ⟨S2x256, .f32⟩
  | 18 => ⟨S8190x256, .f32⟩
  | 19 => ⟨S8192x256, .f32⟩
  | 20 => ⟨S_, .f32⟩
  | 21 => ⟨S2x256, .f32⟩
  | 22 => ⟨S_, .f32⟩
  | 23 => ⟨S8192x1, .f32⟩
  | 24 => ⟨S8192x1, .f32⟩
  | 25 => ⟨S8192x256, .f32⟩
  | 26 => ⟨S8192x256, .f32⟩
  | 27 => ⟨S8192x256, .f32⟩
  | 28 => ⟨S8192x256, .f32⟩
  | 29 => ⟨S_, .f32⟩
  | 30 => ⟨S4x256, .f32⟩
  | 31 => ⟨S8188x256, .f32⟩
  | 32 => ⟨S8192x256, .f32⟩
  | 33 => ⟨S_, .f32⟩
  | 34 => ⟨S4x256, .f32⟩
  | 35 => ⟨S_, .f32⟩
  | 36 => ⟨S8192x1, .f32⟩
  | 37 => ⟨S8192x1, .f32⟩
  | 38 => ⟨S8192x256, .f32⟩
  | 39 => ⟨S8192x256, .f32⟩
  | 40 => ⟨S8192x256, .f32⟩
  | 41 => ⟨S8192x256, .f32⟩
  | 42 => ⟨S_, .f32⟩
  | 43 => ⟨S8x256, .f32⟩
  | 44 => ⟨S8184x256, .f32⟩
  | 45 => ⟨S8192x256, .f32⟩
  | 46 => ⟨S_, .f32⟩
  | 47 => ⟨S8x256, .f32⟩
  | 48 => ⟨S_, .f32⟩
  | 49 => ⟨S8192x1, .f32⟩
  | 50 => ⟨S8192x1, .f32⟩
  | 51 => ⟨S8192x256, .f32⟩
  | 52 => ⟨S8192x256, .f32⟩
  | 53 => ⟨S8192x256, .f32⟩
  | 54 => ⟨S8192x256, .f32⟩
  | 55 => ⟨S_, .f32⟩
  | 56 => ⟨S16x256, .f32⟩
  | 57 => ⟨S8176x256, .f32⟩
  | 58 => ⟨S8192x256, .f32⟩
  | 59 => ⟨S_, .f32⟩
  | 60 => ⟨S16x256, .f32⟩
  | 61 => ⟨S_, .f32⟩
  | 62 => ⟨S8192x1, .f32⟩
  | 63 => ⟨S8192x1, .f32⟩
  | 64 => ⟨S8192x256, .f32⟩
  | 65 => ⟨S8192x256, .f32⟩
  | 66 => ⟨S8192x256, .f32⟩
  | 67 => ⟨S8192x1024, .f32⟩
  | 68 => ⟨S8192x1024, .f32⟩
  | 69 => ⟨S8192x4x256, .f32⟩
  | 70 => ⟨S4x256x8192, .f32⟩
  | 71 => ⟨S8192x4x256, .f32⟩
  | 72 => ⟨S8192x1024, .f32⟩
  | 73 => ⟨S8192x1024, .f32⟩
  | 74 => ⟨S8192x1024, .f32⟩
  | 75 => ⟨S8192x1024, .f32⟩
  | 76 => ⟨S8192x1024, .f32⟩
  | 77 => ⟨S_, .f32⟩
  | 78 => ⟨S8192x1024, .f32⟩
  | 79 => ⟨S8192x1024, .f32⟩
  | 80 => ⟨S_, .f32⟩
  | 81 => ⟨S8192x1024, .f32⟩
  | 82 => ⟨S8192x1024, .f32⟩
  | 83 => ⟨S_, .f32⟩
  | 84 => ⟨S8192x1024, .f32⟩
  | 85 => ⟨S8192x1024, .f32⟩
  | 86 => ⟨S8192x1024, .f32⟩
  | 87 => ⟨S8192x1024, .f32⟩
  | 88 => ⟨S8192x1024, .f32⟩
  | 89 => ⟨S8192x1024, .f32⟩
  | 90 => ⟨S8192x1024, .f32⟩
  | 91 => ⟨S8192x1024, .f32⟩
  | 92 => ⟨S8192x1024, .f32⟩
  | 93 => ⟨S8192x1024, .f32⟩
  | 94 => ⟨S8192x1024, .f32⟩
  | 95 => ⟨S8192x1024, .f32⟩
  | 96 => ⟨S8192x1024, .f32⟩
  | 97 => ⟨S_, .f32⟩
  | 98 => ⟨S1024, .f32⟩
  | 99 => ⟨S1x1024, .f32⟩
  | 100 => ⟨S8192x1024, .f32⟩
  | 101 => ⟨S8192x1024, .f32⟩
  | 102 => ⟨S8192x4x256, .f32⟩
  | 103 => ⟨S4x256x8192, .f32⟩
  | 104 => ⟨S4x8192x256, .f32⟩
  | 105 => ⟨S8192x4x256, .f32⟩
  | 106 => ⟨S4x256x256, .f32⟩
  | 107 => ⟨S4x256x256, .f32⟩
  | 108 => ⟨S8192x1024, .f32⟩
  | 109 => ⟨S8192x1024, .f32⟩
  | 110 => ⟨S8192x256, .f32⟩
  | 111 => ⟨S8192x256, .f32⟩
  | 112 => ⟨S8192x256, .f32⟩
  | 113 => ⟨S8192x256, .f32⟩
  | 114 => ⟨S8192x256, .f32⟩
  | 115 => ⟨S8192x256, .f32⟩
  | 116 => ⟨S8192x256, .f32⟩
  | 117 => ⟨S16x256, .f32⟩
  | 118 => ⟨S8176x256, .f32⟩
  | 119 => ⟨S_, .f32⟩
  | 120 => ⟨S8192x256, .f32⟩
  | 121 => ⟨S8192x256, .f32⟩
  | 122 => ⟨S_, .f32⟩
  | 123 => ⟨S8192x1024, .f32⟩
  | 124 => ⟨S8192x256, .f32⟩
  | 125 => ⟨S8192x256, .f32⟩
  | 126 => ⟨S8192x256, .f32⟩
  | 127 => ⟨S8x256, .f32⟩
  | _ => ⟨S8192x6144, .bf16⟩

abbrev hbmTy0_1 (i : Nat) : BufTy := match i % 128 with
  | 0 => ⟨S8184x256, .f32⟩
  | 1 => ⟨S_, .f32⟩
  | 2 => ⟨S8192x256, .f32⟩
  | 3 => ⟨S8192x256, .f32⟩
  | 4 => ⟨S_, .f32⟩
  | 5 => ⟨S8192x1024, .f32⟩
  | 6 => ⟨S8192x1024, .f32⟩
  | 7 => ⟨S8192x256, .f32⟩
  | 8 => ⟨S8192x256, .f32⟩
  | 9 => ⟨S8192x256, .f32⟩
  | 10 => ⟨S4x256, .f32⟩
  | 11 => ⟨S8188x256, .f32⟩
  | 12 => ⟨S_, .f32⟩
  | 13 => ⟨S8192x256, .f32⟩
  | 14 => ⟨S8192x256, .f32⟩
  | 15 => ⟨S_, .f32⟩
  | 16 => ⟨S8192x1024, .f32⟩
  | 17 => ⟨S8192x1024, .f32⟩
  | 18 => ⟨S8192x256, .f32⟩
  | 19 => ⟨S8192x256, .f32⟩
  | 20 => ⟨S8192x256, .f32⟩
  | 21 => ⟨S2x256, .f32⟩
  | 22 => ⟨S8190x256, .f32⟩
  | 23 => ⟨S_, .f32⟩
  | 24 => ⟨S8192x256, .f32⟩
  | 25 => ⟨S8192x256, .f32⟩
  | 26 => ⟨S_, .f32⟩
  | 27 => ⟨S8192x1024, .f32⟩
  | 28 => ⟨S8192x1024, .f32⟩
  | 29 => ⟨S_, .f32⟩
  | 30 => ⟨S_, .f32⟩
  | 31 => ⟨S8192x1024, .f32⟩
  | 32 => ⟨S8192x1024, .f32⟩
  | 33 => ⟨S8192x2048, .f32⟩
  | 34 => ⟨S8192x2048, .bf16⟩
  | _ => ⟨S8192x6144, .bf16⟩

abbrev hbmTy (i : Nat) : BufTy := match i / 128 with
  | 0 => hbmTy0_0 i
  | 1 => hbmTy0_1 i
  | _ => ⟨S8192x6144, .bf16⟩

abbrev bufTy : (tb : Table) → Fin (tcTables nBuf tb) → BufTy
  | .hbm, ⟨i, _⟩ => hbmTy i
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_call0_cst : Ref sig .tc := ⟨.hbm, 7, rfl⟩
abbrev main_call0_call0_v0 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_cst_11 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_call1_v0 : Ref sig .tc := ⟨.hbm, 75, rfl⟩
abbrev main_call1_v1 : Ref sig .tc := ⟨.hbm, 76, rfl⟩
abbrev main_call1_cst : Ref sig .tc := ⟨.hbm, 77, rfl⟩
abbrev main_call1_v2 : Ref sig .tc := ⟨.hbm, 78, rfl⟩
abbrev main_call1_v3 : Ref sig .tc := ⟨.hbm, 79, rfl⟩
abbrev main_call1_cst_0 : Ref sig .tc := ⟨.hbm, 80, rfl⟩
abbrev main_call1_v4 : Ref sig .tc := ⟨.hbm, 81, rfl⟩
abbrev main_v56_2 : Ref sig .tc := ⟨.hbm, 82, rfl⟩
abbrev main_call1_cst_1 : Ref sig .tc := ⟨.hbm, 83, rfl⟩
abbrev main_call1_v6 : Ref sig .tc := ⟨.hbm, 84, rfl⟩
abbrev main_call1_v7 : Ref sig .tc := ⟨.hbm, 85, rfl⟩
abbrev main_v56_1 : Ref sig .tc := ⟨.hbm, 86, rfl⟩
abbrev main_v56_0 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_v61 : Ref sig .tc := ⟨.hbm, 95, rfl⟩
abbrev main_v62 : Ref sig .tc := ⟨.hbm, 96, rfl⟩
abbrev main_cst_12 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_13 : Ref sig .tc := ⟨.hbm, 119, rfl⟩
abbrev main_v84 : Ref sig .tc := ⟨.hbm, 120, rfl⟩
abbrev main_v85 : Ref sig .tc := ⟨.hbm, 121, rfl⟩
abbrev main_cst_14 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_15 : Ref sig .tc := ⟨.hbm, 129, rfl⟩
abbrev main_v92 : Ref sig .tc := ⟨.hbm, 130, rfl⟩
abbrev main_v93 : Ref sig .tc := ⟨.hbm, 131, rfl⟩
abbrev main_cst_16 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_17 : Ref sig .tc := ⟨.hbm, 140, rfl⟩
abbrev main_v101 : Ref sig .tc := ⟨.hbm, 141, rfl⟩
abbrev main_v102 : Ref sig .tc := ⟨.hbm, 142, rfl⟩
abbrev main_cst_18 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_cst_19 : Ref sig .tc := ⟨.hbm, 151, rfl⟩
abbrev main_v110 : Ref sig .tc := ⟨.hbm, 152, rfl⟩
abbrev main_v111 : Ref sig .tc := ⟨.hbm, 153, rfl⟩
abbrev main_cst_20 : Ref sig .tc := ⟨.hbm, 154, rfl⟩
abbrev main_v112 : Ref sig .tc := ⟨.hbm, 155, rfl⟩
abbrev main_v113 : Ref sig .tc := ⟨.hbm, 156, rfl⟩
abbrev main_call3_call0_cst : Ref sig .tc := ⟨.hbm, 157, rfl⟩
abbrev main_call3_call0_v0 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩

abbrev nD : Nat := 1
abbrev τ : Topo := Topo.v7x

variable {F : FTy → Type} [FloatOps F]
-- ==== InX.lean ====
abbrev S8192x1024 : Shape := ⟨2, ![8192, 1024]⟩
abbrev S8192x2048 : Shape := ⟨2, ![8192, 2048]⟩
abbrev S3x1024 : Shape := ⟨2, ![3, 1024]⟩
abbrev S1x1024 : Shape := ⟨2, ![1, 1024]⟩
abbrev S1024x6144 : Shape := ⟨2, ![1024, 6144]⟩
abbrev S512x1024 : Shape := ⟨2, ![512, 1024]⟩
abbrev S512x2048 : Shape := ⟨2, ![512, 2048]⟩
abbrev S1024x2048 : Shape := ⟨2, ![1024, 2048]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 12
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x2048, .bf16⟩
  | .hbm, ⟨3, _⟩ => ⟨S8192x1024, .bf16⟩
  | .hbm, ⟨4, _⟩ => ⟨S8192x1024, .bf16⟩
  | .hbm, ⟨5, _⟩ => ⟨S8192x2048, .bf16⟩
  | .hbm, ⟨6, _⟩ => ⟨S3x1024, .f32⟩
  | .hbm, ⟨7, _⟩ => ⟨S1x1024, .f32⟩
  | .hbm, ⟨8, _⟩ => ⟨S1024x6144, .f32⟩
  | .hbm, ⟨9, _⟩ => ⟨S1024x6144, .bf16⟩
  | .hbm, ⟨10, _⟩ => ⟨S8192x1024, .f32⟩
  | .hbm, ⟨11, _⟩ => ⟨S3x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x2048, .bf16⟩
  | .local _ .vmem, ⟨5, _⟩ => ⟨S512x2048, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x2048, .bf16⟩
  | .local _ .vmem, ⟨11, _⟩ => ⟨S512x2048, .bf16⟩
  | .local _ .vmem, ⟨12, _⟩ => ⟨S3x1024, .f32⟩
  | .local _ .vmem, ⟨13, _⟩ => ⟨S1x1024, .f32⟩
  | .local _ .vmem, ⟨14, _⟩ => ⟨S1024x6144, .bf16⟩
  | .local _ .vmem, ⟨15, _⟩ => ⟨S512x1024, .f32⟩
  | .local _ .vmem, ⟨16, _⟩ => ⟨S512x1024, .f32⟩
  | .local _ .vmem, ⟨17, _⟩ => ⟨S3x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x6144 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== InXRefIdeal.lean ====
abbrev S8192x1024 : Shape := ⟨2, ![8192, 1024]⟩
abbrev S8192x2048 : Shape := ⟨2, ![8192, 2048]⟩
abbrev S3x1024 : Shape := ⟨2, ![3, 1024]⟩
abbrev S1x1024 : Shape := ⟨2, ![1, 1024]⟩
abbrev S1024x6144 : Shape := ⟨2, ![1024, 6144]⟩
abbrev S8192x6144 : Shape := ⟨2, ![8192, 6144]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 78
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x2048, .bf16⟩
  | .hbm, ⟨3, _⟩ => ⟨S8192x1024, .bf16⟩
  | .hbm, ⟨4, _⟩ => ⟨S8192x1024, .bf16⟩
  | .hbm, ⟨5, _⟩ => ⟨S8192x2048, .bf16⟩
  | .hbm, ⟨6, _⟩ => ⟨S3x1024, .f32⟩
  | .hbm, ⟨7, _⟩ => ⟨S1x1024, .f32⟩
  | .hbm, ⟨8, _⟩ => ⟨S1024x6144, .f32⟩
  | .hbm, ⟨9, _⟩ => ⟨S8192x2048, .f32⟩
  | .hbm, ⟨10, _⟩ => ⟨S8192x1024, .f32⟩
  | .hbm, ⟨11, _⟩ => ⟨S8192x1024, .f32⟩
  | .hbm, ⟨12, _⟩ => ⟨S8192x2048, .f32⟩
  | .hbm, ⟨13, _⟩ => ⟨S8192x6144, .f32⟩
  | .hbm, ⟨14, _⟩ => ⟨S1x1024, .f32⟩
  | .hbm, ⟨15, _⟩ => ⟨S1x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x6144, .f32⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S3x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]
-- ==== Glu.lean ====
abbrev S8192x1024 : Shape := ⟨2, ![8192, 1024]⟩
abbrev S1024x1024 : Shape := ⟨2, ![1024, 1024]⟩
abbrev S1x1024 : Shape := ⟨2, ![1, 1024]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S32x8x32x1024 : Shape := ⟨4, ![32, 8, 32, 1024]⟩
abbrev S32x32x8x1024 : Shape := ⟨4, ![32, 32, 8, 1024]⟩
abbrev S256x1024 : Shape := ⟨2, ![256, 1024]⟩
abbrev S1024 : Shape := ⟨1, ![1024]⟩

abbrev nBuf : Space → Nat
  | .hbm => 100
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .f32⟩
  | .hbm, ⟨3, _⟩ => ⟨S1x1024, .f32⟩
  | .hbm, ⟨4, _⟩ => ⟨S8192x1024, .bf16⟩
  | .hbm, ⟨5, _⟩ => ⟨S256, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S256, .i32⟩
  | .hbm, ⟨13, _⟩ => ⟨S256, .i32⟩
  | .hbm, ⟨14, _⟩ => ⟨S_, .i32⟩
  | .hbm, ⟨15, _⟩ => ⟨S256, .i32⟩
  | .hbm, ⟨16, _⟩ => ⟨S256, .i1⟩
  | .hbm, ⟨17, _⟩ => ⟨S_, .i32⟩
  | .hbm, ⟨18, _⟩ => ⟨S256, .i32⟩
  | .hbm, ⟨19, _⟩ => ⟨S256, .i1⟩
  | .hbm, ⟨20, _⟩ => ⟨S_, .i32⟩
  | .hbm, ⟨21, _⟩ => ⟨S_, .i1⟩
  | .hbm, ⟨22, _⟩ => ⟨S256, .i1⟩
  | .hbm, ⟨23, _⟩ => ⟨S256, .i1⟩
  | .hbm, ⟨24, _⟩ => ⟨S256, .i1⟩
  | .hbm, ⟨25, _⟩ => ⟨S256, .i32⟩
  | .hbm, ⟨26, _⟩ => ⟨S256, .i32⟩
  | .hbm, ⟨27, _⟩ => ⟨S256, .i32⟩
  | .hbm, ⟨28, _⟩ => ⟨S_, .i32⟩
  | .hbm, ⟨29, _⟩ => ⟨S256, .i32⟩
  | .hbm, ⟨30, _⟩ => ⟨S256, .i32⟩
  | .hbm, ⟨31, _⟩ => ⟨S_, .i32⟩
  | .hbm, ⟨32, _⟩ => ⟨S_, .i32⟩
  | .hbm, ⟨33, _⟩ => ⟨S256, .i32⟩
  | .hbm, ⟨34, _⟩ => ⟨S256, .i32⟩
  | .hbm, ⟨35, _⟩ => ⟨S256, .i32⟩
  | .hbm, ⟨36, _⟩ => ⟨S_, .i32⟩
  | .hbm, ⟨37, _⟩ => ⟨S256, .i32⟩
  | .hbm, ⟨38, _⟩ => ⟨S256, .i1⟩
  | .hbm, ⟨39, _⟩ => ⟨S256, .i32⟩
  | .hbm, ⟨40, _⟩ => ⟨S256, .i32⟩
  | .hbm, ⟨41, _⟩ => ⟨S_, .i32⟩
  | .hbm, ⟨42, _⟩ => ⟨S256, .i32⟩
  | .hbm, ⟨43, _⟩ => ⟨S256, .i1⟩
  | .hbm, ⟨44, _⟩ => ⟨S256, .i1⟩
  | .hbm, ⟨45, _⟩ => ⟨S_, .i32⟩
  | .hbm, ⟨46, _⟩ => ⟨S256, .i32⟩
  | .hbm, ⟨47, _⟩ => ⟨S256, .i32⟩
  | .hbm, ⟨48, _⟩ => ⟨S256, .i32⟩
  | .hbm, ⟨49, _⟩ => ⟨S256, .i32⟩
  | .hbm, ⟨50, _⟩ => ⟨S256x1, .i32⟩
  | .hbm, ⟨51, _⟩ => ⟨S256, .i32⟩
  | .hbm, ⟨52, _⟩ => ⟨S1x256, .i32⟩
  | .hbm, ⟨53, _⟩ => ⟨S256x256, .i32⟩
  | .hbm, ⟨54, _⟩ => ⟨S256x256, .i32⟩
  | .hbm, ⟨55, _⟩ => ⟨S256x256, .i1⟩
  | .hbm, ⟨56, _⟩ => ⟨S256x256, .bf16⟩
  | .hbm, ⟨57, _⟩ => ⟨S32x8x32x1024, .f32⟩
  | .hbm, ⟨58, _⟩ => ⟨S32x32x8x1024, .f32⟩
  | .hbm, ⟨59, _⟩ => ⟨S8192x1024, .f32⟩
  | .hbm, ⟨60, _⟩ => ⟨S1024x1024, .bf16⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S8192x1024, .f32⟩
  | .hbm, ⟨75, _⟩ => ⟨S8192x1024, .f32⟩
  | .hbm, ⟨76, _⟩ => ⟨S_, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S1024x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S_, .f32⟩
  | .hbm, ⟨87, _⟩ => ⟨S8192x1024, .f32⟩
  | .hbm, ⟨88, _⟩ => ⟨S8192x1024, .f32⟩
  | .hbm, ⟨89, _⟩ => ⟨S_, .f32⟩
  | .hbm, ⟨90, _⟩ => ⟨S8192x1024, .f32⟩
  | .hbm, ⟨91, _⟩ => ⟨S8192x1024, .f32⟩
  | .hbm, ⟨92, _⟩ => ⟨S32x8x32x1024, .bf16⟩
  | .hbm, ⟨93, _⟩ => ⟨S32x32x8x1024, .bf16⟩
  | .hbm, ⟨94, _⟩ => ⟨S8192x1024, .bf16⟩
  | .hbm, ⟨95, _⟩ => ⟨S256x256, .bf16⟩
  | .hbm, ⟨96, _⟩ => ⟨S8192x1024, .bf16⟩
  | .hbm, ⟨97, _⟩ => ⟨S8192x1024, .bf16⟩
  | .hbm, ⟨98, _⟩ => ⟨S1024x1024, .f32⟩
  | .hbm, ⟨99, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x256, .bf16⟩
  | .local _ .vmem, ⟨9, _⟩ => ⟨S256x256, .bf16⟩
  | .local _ .vmem, ⟨10, _⟩ => ⟨S1024x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | .local _ .vmem, ⟨16, _⟩ => ⟨S1024x1024, .f32⟩
  | .local _ .vmem, ⟨17, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_v5 : Ref sig .tc := ⟨.hbm, 15, rfl⟩
abbrev main_call0_v6 : Ref sig .tc := ⟨.hbm, 16, rfl⟩
abbrev main_call0_c_2 : Ref sig .tc := ⟨.hbm, 17, rfl⟩
abbrev main_call0_v7 : Ref sig .tc := ⟨.hbm, 18, rfl⟩
abbrev main_call0_v8 : Ref sig .tc := ⟨.hbm, 19, rfl⟩
abbrev main_call0_c_3 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_v1 : Ref sig .tc := ⟨.hbm, 27, rfl⟩
abbrev main_c_0 : Ref sig .tc := ⟨.hbm, 28, rfl⟩
abbrev main_v2 : Ref sig .tc := ⟨.hbm, 29, rfl⟩
abbrev main_v3 : Ref sig .tc := ⟨.hbm, 30, rfl⟩
abbrev main_c_1 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_cst : Ref sig .tc := ⟨.hbm, 61, rfl⟩
abbrev main_cst_2 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_cst_3 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_cst_4 : Ref sig .tc := ⟨.hbm, 73, rfl⟩
abbrev main_v26 : Ref sig .tc := ⟨.hbm, 74, rfl⟩
abbrev main_v27 : Ref sig .tc := ⟨.hbm, 75, rfl⟩
abbrev main_cst_5 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_cst_6 : Ref sig .tc := ⟨.hbm, 86, rfl⟩
abbrev main_v37 : Ref sig .tc := ⟨.hbm, 87, rfl⟩
abbrev main_v38 : Ref sig .tc := ⟨.hbm, 88, rfl⟩
abbrev main_cst_7 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45_0 : Ref sig .tc := ⟨.hbm, 96, rfl⟩
abbrev main_v45_1 : Ref sig .tc := ⟨.hbm, 97, rfl⟩
abbrev main_v45_2 : Ref sig .tc := ⟨.hbm, 98, rfl⟩
abbrev main_v45_3 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v91 : BitVec 1 := Scalar.cmpi .eq arg0 c31_i32
  let v92 : BitVec 32 := Scalar.extui v91
  let c0_i32_44 : BitVec 32 := 0#32
  let v93 : BitVec 1 := Scalar.cmpi .ne v92 c0_i32_44
  v93

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== GluIdeal.lean ====
variable {F : FTy → Type} [FloatOps F] [Named F]
def κ : String → Option EReal := fun
  | "gelu_cubic" => some ((8943 / 200000 : ℝ) : EReal)
  | "gelu_cubic_slope" => some ((26829 / 200000 : ℝ) : EReal)
  | _ => none
-- ==== GluRefIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S1024 : Shape := ⟨1, ![1024]⟩
abbrev S32x8x32x1024 : Shape := ⟨4, ![32, 8, 32, 1024]⟩
abbrev S32x32x8x1024 : Shape := ⟨4, ![32, 32, 8, 1024]⟩

abbrev nBuf : Space → Nat
  | .hbm => 102
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .f32⟩
  | .hbm, ⟨3, _⟩ => ⟨S1x1024, .f32⟩
  | .hbm, ⟨4, _⟩ => ⟨S8192x1024, .bf16⟩
  | .hbm, ⟨5, _⟩ => ⟨S8192x1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S1024x1024, .f32⟩
  | .hbm, ⟨80, _⟩ => ⟨S1024x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S_, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S_, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S8192x1024, .bf16⟩
  | .hbm, ⟨98, _⟩ => ⟨S32x8x32x1024, .bf16⟩
  | .hbm, ⟨99, _⟩ => ⟨S32x32x8x1024, .bf16⟩
  | .hbm, ⟨100, _⟩ => ⟨S8192x1024, .bf16⟩
  | .hbm, ⟨101, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_cst_9 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_v36_2 : Ref sig .tc := ⟨.hbm, 59, rfl⟩
abbrev main_call0_cst_1 : Ref sig .tc := ⟨.hbm, 60, rfl⟩
abbrev main_call0_v6 : Ref sig .tc := ⟨.hbm, 61, rfl⟩
abbrev main_call0_v7 : Ref sig .tc := ⟨.hbm, 62, rfl⟩
abbrev main_v36_1 : Ref sig .tc := ⟨.hbm, 63, rfl⟩
abbrev main_v36_0 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_10 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_11 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_12 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩

abbrev nD : Nat := 1
abbrev τ : Topo := Topo.v7x

variable {F : FTy → Type} [FloatOps F]
-- ==== Head.lean ====
abbrev S8192x1024 : Shape := ⟨2, ![8192, 1024]⟩
abbrev S8192x6144 : Shape := ⟨2, ![8192, 6144]⟩
abbrev S3x1024 : Shape := ⟨2, ![3, 1024]⟩
abbrev S1x1024 : Shape := ⟨2, ![1, 1024]⟩
abbrev S1024x1024 : Shape := ⟨2, ![1024, 1024]⟩
abbrev S1x1 : Shape := ⟨2, ![1, 1]⟩
abbrev S8192x2048 : Shape := ⟨2, ![8192, 2048]⟩
abbrev S2x1024 : Shape := ⟨2, ![2, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S1024 : Shape := ⟨1, ![1024]⟩
abbrev S1 : Shape := ⟨1, ![1]⟩
abbrev S_ : Shape := ⟨0, ![]⟩

abbrev nBuf : Space → Nat
  | .hbm => 22
  | .vmem => 32
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x6144, .bf16⟩
  | .hbm, ⟨3, _⟩ => ⟨S8192x1024, .bf16⟩
  | .hbm, ⟨4, _⟩ => ⟨S8192x1024, .bf16⟩
  | .hbm, ⟨5, _⟩ => ⟨S3x1024, .f32⟩
  | .hbm, ⟨6, _⟩ => ⟨S1x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S1x1, .f32⟩
  | .hbm, ⟨14, _⟩ => ⟨S8192x1024, .f32⟩
  | .hbm, ⟨15, _⟩ => ⟨S8192x1024, .bf16⟩
  | .hbm, ⟨16, _⟩ => ⟨S8192x1024, .bf16⟩
  | .hbm, ⟨17, _⟩ => ⟨S8192x2048, .bf16⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S2x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S3x1024, .f32⟩
  | .local _ .vmem, ⟨13, _⟩ => ⟨S1x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1x1, .f32⟩
  | .local _ .vmem, ⟨18, _⟩ => ⟨S256x1024, .f32⟩
  | .local _ .vmem, ⟨19, _⟩ => ⟨S256x1024, .f32⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x2048, .bf16⟩
  | .local _ .vmem, ⟨25, _⟩ => ⟨S256x2048, .bf16⟩
  | .local _ .vmem, ⟨26, _⟩ => ⟨S2x1024, .f32⟩
  | .local _ .vmem, ⟨27, _⟩ => ⟨S1024x1024, .f32⟩
  | .local _ .vmem, ⟨28, _⟩ => ⟨S1024x1024, .f32⟩
  | .local _ .vmem, ⟨29, _⟩ => ⟨S1024x1024, .f32⟩
  | .local _ .vmem, ⟨30, _⟩ => ⟨S1x1024, .f32⟩
  | .local _ .vmem, ⟨31, _⟩ => ⟨S2x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v3_3 : Ref sig .tc := ⟨.hbm, 16, rfl⟩
abbrev main_v3_4 : Ref sig .tc := ⟨.hbm, 17, rfl⟩
abbrev main_v3_5 : Ref sig .tc := ⟨.hbm, 18, rfl⟩
abbrev main_v3_6 : Ref sig .tc := ⟨.hbm, 19, rfl⟩
abbrev main_v3_7 : Ref sig .tc := ⟨.hbm, 20, rfl⟩
abbrev main_v3_8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v135 : BitVec 1 := Scalar.cmpi .eq arg0 c31_i32
  let v136 : BitVec 32 := Scalar.extui v135
  let c0_i32_78 : BitVec 32 := 0#32
  let v137 : BitVec 1 := Scalar.cmpi .ne v136 c0_i32_78
  v137

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S2x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== HeadRefIdeal.lean ====
abbrev S8192x1024 : Shape := ⟨2, ![8192, 1024]⟩
abbrev S8192x6144 : Shape := ⟨2, ![8192, 6144]⟩
abbrev S3x1024 : Shape := ⟨2, ![3, 1024]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x1 : Shape := ⟨2, ![1, 1]⟩
abbrev S8192x2048 : Shape := ⟨2, ![8192, 2048]⟩
abbrev S2x1024 : Shape := ⟨2, ![2, 1024]⟩

abbrev nBuf : Space → Nat
  | .hbm => 140
  | .vmem => 0
  | .smem => 0
  | _ => 0

abbrev hbmTy0_0 (i : Nat) : BufTy := match i % 128 with
  | 0 => ⟨S8192x1024, .f32⟩
  | 1 => ⟨S8192x1024, .f32⟩
  | 2 => ⟨S8192x6144, .bf16⟩
  | 3 => ⟨S8192x1024, .bf16⟩
  | 4 => ⟨S8192x1024, .bf16⟩
  | 5 => ⟨S3x1024, .f32⟩
  | 6 => ⟨S1x1024, .f32⟩
  | 7 => ⟨S1024x1024, .f32⟩
  | 8 => ⟨S1024x1024, .f32⟩
  | 9 => ⟨S1024x1024, .f32⟩
  | 10 => ⟨S8192x6144, .f32⟩
  | 11 => ⟨S8192x1024, .f32⟩
  | 12 => ⟨S8192x1024, .f32⟩
  | 13 => ⟨S8192x1024, .f32⟩
  | 14 => ⟨S8192x1024, .f32⟩
  | 15 => ⟨S1x1024, .f32⟩
  | 16 => ⟨S8192x1024, .f32⟩
  | 17 => ⟨S8192x1024, .f32⟩
  | 18 => ⟨S_, .f32⟩
  | 19 => ⟨S8192x1024, .f32⟩
  | 20 => ⟨S8192x1024, .f32⟩
  | 21 => ⟨S_, .f32⟩
  | 22 => ⟨S8192x1024, .f32⟩
  | 23 => ⟨S8192x1024, .f32⟩
  | 24 => ⟨S_, .f32⟩
  | 25 => ⟨S8192x1024, .f32⟩
  | 26 => ⟨S8192x1024, .f32⟩
  | 27 => ⟨S8192x1024, .f32⟩
  | 28 => ⟨S8192x1024, .f32⟩
  | 29 => ⟨S8192x1024, .f32⟩
  | 30 => ⟨S8192x1024, .f32⟩
  | 31 => ⟨S8192x1024, .f32⟩
  | 32 => ⟨S_, .f32⟩
  | 33 => ⟨S8192x1024, .f32⟩
  | 34 => ⟨S8192x1024, .f32⟩
  | 35 => ⟨S_, .f32⟩
  | 36 => ⟨S8192x1024, .f32⟩
  | 37 => ⟨S8192x1024, .f32⟩
  | 38 => ⟨S_, .f32⟩
  | 39 => ⟨S8192x1024, .f32⟩
  | 40 => ⟨S8192x1024, .f32⟩
  | 41 => ⟨S8192x1024, .f32⟩
  | 42 => ⟨S8192x1024, .f32⟩
  | 43 => ⟨S8192x1024, .f32⟩
  | 44 => ⟨S8192x1024, .f32⟩
  | 45 => ⟨S8192x1024, .f32⟩
  | 46 => ⟨S8192x1024, .f32⟩
  | 47 => ⟨S_, .f32⟩
  | 48 => ⟨S8192, .f32⟩
  | 49 => ⟨S8192x1, .f32⟩
  | 50 => ⟨S_, .f32⟩
  | 51 => ⟨S8192x1, .f32⟩
  | 52 => ⟨S8192x1, .f32⟩
  | 53 => ⟨S_, .f32⟩
  | 54 => ⟨S8192x1, .f32⟩
  | 55 => ⟨S8192x1, .f32⟩
  | 56 => ⟨S8192x1, .f32⟩
  | 57 => ⟨S8192x1, .f32⟩
  | 58 => ⟨S_, .f32⟩
  | 59 => ⟨S8192x1, .f32⟩
  | 60 => ⟨S8192x1, .f32⟩
  | 61 => ⟨S8192x1024, .f32⟩
  | 62 => ⟨S8192x1024, .f32⟩
  | 63 => ⟨S8192x1024, .f32⟩
  | 64 => ⟨S8192x1024, .f32⟩
  | 65 => ⟨S8192x1024, .f32⟩
  | 66 => ⟨S8192x1024, .f32⟩
  | 67 => ⟨S8192x1024, .f32⟩
  | 68 => ⟨S8192x1024, .f32⟩
  | 69 => ⟨S8192x1024, .f32⟩
  | 70 => ⟨S_, .f32⟩
  | 71 => ⟨S8192, .f32⟩
  | 72 => ⟨S_, .f32⟩
  | 73 => ⟨S8192, .f32⟩
  | 74 => ⟨S8192, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S8192, .f32⟩
  | 83 => ⟨S_, .f32⟩
  | 84 => ⟨S8192, .f32⟩
  | 85 => ⟨S8192, .f32⟩
  | 86 => ⟨S8192x1024, .f32⟩
  | 87 => ⟨S8192x1024, .f32⟩
  | 88 => ⟨S8192x1024, .f32⟩
  | 89 => ⟨S8192x1024, .f32⟩
  | 90 => ⟨S8192x1024, .f32⟩
  | 91 => ⟨S8192x1024, .f32⟩
  | 92 => ⟨S8192x1024, .f32⟩
  | 93 => ⟨S_, .f32⟩
  | 94 => ⟨S1024, .f32⟩
  | 95 => ⟨S1x1024, .f32⟩
  | 96 => ⟨S8192x1024, .f32⟩
  | 97 => ⟨S_, .f32⟩
  | 98 => ⟨S1024, .f32⟩
  | 99 => ⟨S1x1024, .f32⟩
  | 100 => ⟨S8192x1024, .f32⟩
  | 101 => ⟨S8192x1024, .f32⟩
  | 102 => ⟨S8192x1024, .f32⟩
  | 103 => ⟨S_, .f32⟩
  | 104 => ⟨S8192, .f32⟩
  | 105 => ⟨S8192x1, .f32⟩
  | 106 => ⟨S8192x1024, .f32⟩
  | 107 => ⟨S8192x1024, .f32⟩
  | 108 => ⟨S8192x1, .f32⟩
  | 109 => ⟨S_, .f32⟩
  | 110 => ⟨S8192x1, .f32⟩
  | 111 => ⟨S8192x1, .f32⟩
  | 112 => ⟨S_, .f32⟩
  | 113 => ⟨S8192, .f32⟩
  | 114 => ⟨S8192x1024, .f32⟩
  | 115 => ⟨S8192x1024, .f32⟩
  | 116 => ⟨S8192x1024, .f32⟩
  | 117 => ⟨S8192x1024, .f32⟩
  | 118 => ⟨S8192x1024, .f32⟩
  | 119 => ⟨S1024x1024, .f32⟩
  | 120 => ⟨S1024x1024, .f32⟩
  | 121 => ⟨S8192x1024, .f32⟩
  | 122 => ⟨S8192x1024, .f32⟩
  | 123 => ⟨S8192x1024, .f32⟩
  | 124 => ⟨S1024x1024, .f32⟩
  | 125 => ⟨S1024x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S8192x1024, .f32⟩
  | 2 => ⟨S1024x1024, .f32⟩
  | 3 => ⟨S1024x1024, .f32⟩
  | 4 => ⟨S8192x1024, .f32⟩
  | 5 => ⟨S8192x1024, .f32⟩
  | 6 => ⟨S1x1, .f32⟩
  | 7 => ⟨S8192x1024, .bf16⟩
  | 8 => ⟨S8192x1024, .bf16⟩
  | 9 => ⟨S8192x2048, .f32⟩
  | 10 => ⟨S8192x2048, .bf16⟩
  | 11 => ⟨S2x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_9 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_cst_12 : Ref sig .tc := ⟨.hbm, 77, rfl⟩
abbrev main_v54 : Ref sig .tc := ⟨.hbm, 78, rfl⟩
abbrev main_cst_13 : Ref sig .tc := ⟨.hbm, 79, rfl⟩
abbrev main_cst_14 : Ref sig .tc := ⟨.hbm, 80, rfl⟩
abbrev main_v55 : Ref sig .tc := ⟨.hbm, 81, rfl⟩
abbrev main_v56 : Ref sig .tc := ⟨.hbm, 82, rfl⟩
abbrev main_cst_15 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_16 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_17 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_18 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_19 : Ref sig .tc := ⟨.hbm, 109, rfl⟩
abbrev main_v79 : Ref sig .tc := ⟨.hbm, 110, rfl⟩
abbrev main_v80 : Ref sig .tc := ⟨.hbm, 111, rfl⟩
abbrev main_cst_20 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩

abbrev nD : Nat := 1
abbrev τ : Topo := Topo.v7x

variable {F : FTy → Type} [FloatOps F]
-- ==== Prep.lean ====
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S64x16x64 : Shape := ⟨3, ![64, 16, 64]⟩
abbrev S64x1x64 : Shape := ⟨3, ![64, 1, 64]⟩

abbrev nBuf : Space → Nat
  | .hbm => 19
  | .vmem => 14
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64x64, .f32⟩
  | .hbm, ⟨6, _⟩ => ⟨S64x64, .f32⟩
  | .hbm, ⟨7, _⟩ => ⟨S64x64x16, .f32⟩
  | .hbm, ⟨8, _⟩ => ⟨S64x64x16, .f32⟩
  | .hbm, ⟨9, _⟩ => ⟨S64x1, .f32⟩
  | .hbm, ⟨10, _⟩ => ⟨S64x16x64, .f32⟩
  | .hbm, ⟨11, _⟩ => ⟨S64x16x64, .f32⟩
  | .hbm, ⟨12, _⟩ => ⟨S64x16x64, .f32⟩
  | .hbm, ⟨13, _⟩ => ⟨S64x16x64, .f32⟩
  | .hbm, ⟨14, _⟩ => ⟨S64x64, .f32⟩
  | .hbm, ⟨15, _⟩ => ⟨S64x64, .f32⟩
  | .hbm, ⟨16, _⟩ => ⟨S64x1, .f32⟩
  | .hbm, ⟨17, _⟩ => ⟨S64x16x64, .f32⟩
  | .hbm, ⟨18, _⟩ => ⟨S64x16x64, .f32⟩
  | .local _ .vmem, ⟨0, _⟩ => ⟨S64x64, .f32⟩
  | .local _ .vmem, ⟨1, _⟩ => ⟨S64x64, .f32⟩
  | .local _ .vmem, ⟨2, _⟩ => ⟨S64x1, .f32⟩
  | .local _ .vmem, ⟨3, _⟩ => ⟨S64x16x64, .f32⟩
  | .local _ .vmem, ⟨4, _⟩ => ⟨S64x16x64, .f32⟩
  | .local _ .vmem, ⟨5, _⟩ => ⟨S64x64, .f32⟩
  | .local _ .vmem, ⟨6, _⟩ => ⟨S64x64, .f32⟩
  | .local _ .vmem, ⟨7, _⟩ => ⟨S64x16x64, .f32⟩
  | .local _ .vmem, ⟨8, _⟩ => ⟨S64x16x64, .f32⟩
  | .local _ .vmem, ⟨9, _⟩ => ⟨S64x64, .f32⟩
  | .local _ .vmem, ⟨10, _⟩ => ⟨S64x64, .f32⟩
  | .local _ .vmem, ⟨11, _⟩ => ⟨S64x1, .f32⟩
  | .local _ .vmem, ⟨12, _⟩ => ⟨S64x16x64, .f32⟩
  | .local _ .vmem, ⟨13, _⟩ => ⟨S64x16x64, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S64x16x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S64x16x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== PrepRefIdeal.lean ====
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S_ : Shape := ⟨0, ![]⟩
abbrev S64x64x1 : Shape := ⟨3, ![64, 64, 1]⟩
abbrev S64x16x64 : Shape := ⟨3, ![64, 16, 64]⟩

abbrev nBuf : Space → Nat
  | .hbm => 182
  | .vmem => 0
  | .smem => 0
  | _ => 0

abbrev hbmTy0_0 (i : Nat) : BufTy := match i % 128 with
  | 0 => ⟨S64x64, .f32⟩
  | 1 => ⟨S64x64, .f32⟩
  | 2 => ⟨S64, .f32⟩
  | 3 => ⟨S64x64x16, .f32⟩
  | 4 => ⟨S64x64x16, .f32⟩
  | 5 => ⟨S64x64, .f32⟩
  | 6 => ⟨S64x64, .f32⟩
  | 7 => ⟨S64x64x16, .f32⟩
  | 8 => ⟨S64x64x16, .f32⟩
  | 9 => ⟨S64, .f32⟩
  | 10 => ⟨S64x1, .f32⟩
  | 11 => ⟨S_, .f32⟩
  | 12 => ⟨S64x64, .f32⟩
  | 13 => ⟨S64x64, .f32⟩
  | 14 => ⟨S_, .f32⟩
  | 15 => ⟨S64x64, .f32⟩
  | 16 => ⟨S64x64, .i1⟩
  | 17 => ⟨S_, .f32⟩
  | 18 => ⟨S64x64, .f32⟩
  | 19 => ⟨S64x64, .i1⟩
  | 20 => ⟨S_, .f32⟩
  | 21 => ⟨S64x64, .f32⟩
  | 22 => ⟨S_, .f32⟩
  | 23 => ⟨S64x64, .f32⟩
  | 24 => ⟨S_, .f32⟩
  | 25 => ⟨S64x64, .f32⟩
  | 26 => ⟨S64x64, .f32⟩
  | 27 => ⟨S64x64, .f32⟩
  | 28 => ⟨S64x64, .f32⟩
  | 29 => ⟨S64x64, .f32⟩
  | 30 => ⟨S64x64, .f32⟩
  | 31 => ⟨S64x64, .f32⟩
  | 32 => ⟨S64x64, .f32⟩
  | 33 => ⟨S64x64, .f32⟩
  | 34 => ⟨S64x64, .f32⟩
  | 35 => ⟨S64x64, .f32⟩
  | 36 => ⟨S64x64, .f32⟩
  | 37 => ⟨S64x64, .f32⟩
  | 38 => ⟨S64x64, .f32⟩
  | 39 => ⟨S64x64, .f32⟩
  | 40 => ⟨S64x64, .f32⟩
  | 41 => ⟨S64x64, .f32⟩
  | 42 => ⟨S64x64, .f32⟩
  | 43 => ⟨S64x64, .f32⟩
  | 44 => ⟨S_, .f32⟩
  | 45 => ⟨S64x64, .f32⟩
  | 46 => ⟨S64x64, .f32⟩
  | 47 => ⟨S64x64, .f32⟩
  | 48 => ⟨S64x64, .f32⟩
  | 49 => ⟨S64x64, .f32⟩
  | 50 => ⟨S64x64, .f32⟩
  | 51 => ⟨S64x64, .f32⟩
  | 52 => ⟨S_, .f32⟩
  | 53 => ⟨S64x64, .f32⟩
  | 54 => ⟨S64x64, .f32⟩
  | 55 => ⟨S64x64, .f32⟩
  | 56 => ⟨S64x64, .f32⟩
  | 57 => ⟨S64x64, .f32⟩
  | 58 => ⟨S64x64, .f32⟩
  | 59 => ⟨S64x64, .f32⟩
  | 60 => ⟨S_, .f32⟩
  | 61 => ⟨S64x64, .f32⟩
  | 62 => ⟨S64x64, .f32⟩
  | 63 => ⟨S64x64x1, .f32⟩
  | 64 => ⟨S64x64x1, .f32⟩
  | 65 => ⟨S64x64x16, .f32⟩
  | 66 => ⟨S64x64x16, .f32⟩
  | 67 => ⟨S64x64x16, .f32⟩
  | 68 => ⟨S64x64x16, .f32⟩
  | 69 => ⟨S64x64x16, .f32⟩
  | 70 => ⟨S64x64x16, .f32⟩
  | 71 => ⟨S64x64x16, .f32⟩
  | 72 => ⟨S64x64x16, .f32⟩
  | 73 => ⟨S64x64x16, .f32⟩
  | 74 => ⟨S64x64x16, .f32⟩
  | 75 => ⟨S64x64x16, .f32⟩
  | 76 => ⟨S64x64x16, .f32⟩
  | 77 => ⟨S64x64x16, .f32⟩
  | 78 => ⟨S64x64x16, .f32⟩
  | 79 => ⟨S64x64x16, .f32⟩
  | 80 => ⟨S_, .f32⟩
  | 81 => ⟨S64x64, .f32⟩
  | 82 => ⟨S64x64x1, .f32⟩
  | 83 => ⟨S64x64x16, .f32⟩
  | 84 => ⟨S64x64x16, .f32⟩
  | 85 => ⟨S64x64x16, .f32⟩
  | 86 => ⟨S_, .f32⟩
  | 87 => ⟨S64x64, .f32⟩
  | 88 => ⟨S64x64x1, .f32⟩
  | 89 => ⟨S64x64x16, .f32⟩
  | 90 => ⟨S64x64x16, .f32⟩
  | 91 => ⟨S64x64x16, .f32⟩
  | 92 => ⟨S64x64x16, .f32⟩
  | 93 => ⟨S64x64x16, .f32⟩
  | 94 => ⟨S64x64x16, .f32⟩
  | 95 => ⟨S_, .f32⟩
  | 96 => ⟨S64x64, .f32⟩
  | 97 => ⟨S64x64x1, .f32⟩
  | 98 => ⟨S64x64x1, .f32⟩
  | 99 => ⟨S64x64x16, .f32⟩
  | 100 => ⟨S64x64x16, .f32⟩
  | 101 => ⟨S64x64x16, .f32⟩
  | 102 => ⟨S64x64x16, .f32⟩
  | 103 => ⟨S_, .f32⟩
  | 104 => ⟨S64x64, .f32⟩
  | 105 => ⟨S64x64x1, .f32⟩
  | 106 => ⟨S64x64x1, .f32⟩
  | 107 => ⟨S_, .f32⟩
  | 108 => ⟨S64x64, .f32⟩
  | 109 => ⟨S_, .f32⟩
  | 110 => ⟨S64x64, .f32⟩
  | 111 => ⟨S64x64, .f32⟩
  | 112 => ⟨S64x64, .f32⟩
  | 113 => ⟨S64x64, .f32⟩
  | 114 => ⟨S64x64, .f32⟩
  | 115 => ⟨S64x64, .f32⟩
  | 116 => ⟨S64x64, .f32⟩
  | 117 => ⟨S64x64, .f32⟩
  | 118 => ⟨S64x64, .f32⟩
  | 119 => ⟨S64x64, .f32⟩
  | 120 => ⟨S64x64, .f32⟩
  | 121 => ⟨S64x64, .f32⟩
  | 122 => ⟨S64x64, .f32⟩
  | 123 => ⟨S64x64, .f32⟩
  | 124 => ⟨S64x64, .f32⟩
  | 125 => ⟨S64x64, .f32⟩
  | 126 => ⟨S64x64, .f32⟩
  | 127 => ⟨S64x64, .f32⟩
  | _ => ⟨S64x64, .f32⟩

abbrev hbmTy0_1 (i : Nat) : BufTy := match i % 128 with
  | 0 => ⟨S64x64, .f32⟩
  | 1 => ⟨S64x64, .f32⟩
  | 2 => ⟨S64x64, .f32⟩
  | 3 => ⟨S64x64, .f32⟩
  | 4 => ⟨S64x64, .f32⟩
  | 5 => ⟨S64x64, .f32⟩
  | 6 => ⟨S64x64, .f32⟩
  | 7 => ⟨S64x64, .f32⟩
  | 8 => ⟨S64x64, .f32⟩
  | 9 => ⟨S64x64, .f32⟩
  | 10 => ⟨S64x64, .f32⟩
  | 11 => ⟨S64x64, .f32⟩
  | 12 => ⟨S64x64, .f32⟩
  | 13 => ⟨S64x64, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S_, .f32⟩
  | 20 => ⟨S64, .f32⟩
  | 21 => ⟨S64x1, .f32⟩
  | 22 => ⟨S64x64, .f32⟩
  | 23 => ⟨S64x64, .f32⟩
  | 24 => ⟨S64x64, .f32⟩
  | 25 => ⟨S64x64, .f32⟩
  | 26 => ⟨S64x64, .f32⟩
  | 27 => ⟨S64x64, .f32⟩
  | 28 => ⟨S64x64, .f32⟩
  | 29 => ⟨S64x64, .f32⟩
  | 30 => ⟨S64x64, .f32⟩
  | 31 => ⟨S_, .f32⟩
  | 32 => ⟨S64, .f32⟩
  | 33 => ⟨S64x1, .f32⟩
  | 34 => ⟨S64x1, .f32⟩
  | 35 => ⟨S64x64, .f32⟩
  | 36 => ⟨S64x64, .f32⟩
  | 37 => ⟨S64x64, .f32⟩
  | 38 => ⟨S64x64, .f32⟩
  | 39 => ⟨S64x64, .f32⟩
  | 40 => ⟨S_, .f32⟩
  | 41 => ⟨S64, .f32⟩
  | 42 => ⟨S64x1, .f32⟩
  | 43 => ⟨S64x1, .f32⟩
  | 44 => ⟨S64x64, .f32⟩
  | 45 => ⟨S64x64, .f32⟩
  | 46 => ⟨S64x64, .f32⟩
  | 47 => ⟨S64x64, .f32⟩
  | 48 => ⟨S_, .f32⟩
  | 49 => ⟨S64, .f32⟩
  | 50 => ⟨S64, .f32⟩
  | 51 => ⟨S64x1, .f32⟩
  | 52 => ⟨S64x16x64, .f32⟩
  | 53 => ⟨S64x16x64, .f32⟩
  | _ => ⟨S64x64, .f32⟩

abbrev hbmTy (i : Nat) : BufTy := match i / 128 with
  | 0 => hbmTy0_0 i
  | 1 => hbmTy0_1 i
  | _ => ⟨S64x64, .f32⟩

abbrev bufTy : (tb : Table) → Fin (tcTables nBuf tb) → BufTy
  | .hbm, ⟨i, _⟩ => hbmTy i
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_cst_4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_8 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_9 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_10 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_11 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_cst_12 : Ref sig .tc := ⟨.hbm, 107, rfl⟩
abbrev main_v85 : Ref sig .tc := ⟨.hbm, 108, rfl⟩
abbrev main_cst_13 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_cst_14 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_cst_15 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_cst_16 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_cst_17 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩

abbrev nD : Nat := 1
abbrev τ : Topo := Topo.v7x

variable {F : FTy → Type} [FloatOps F]
-- ==== PoolF.lean ====
abbrev S8192x6144 : Shape := ⟨2, ![8192, 6144]⟩
abbrev S4x256x256 : Shape := ⟨3, ![4, 256, 256]⟩
abbrev S1x1024 : Shape := ⟨2, ![1, 1024]⟩
abbrev S8192x1024 : Shape := ⟨2, ![8192, 1024]⟩
abbrev S1024x1024 : Shape := ⟨2, ![1024, 1024]⟩
abbrev S16x1024 : Shape := ⟨2, ![16, 1024]⟩
abbrev S1040x1024 : Shape := ⟨2, ![1040, 1024]⟩
abbrev S1024x1 : Shape := ⟨2, ![1024, 1]⟩
abbrev S1040x256 : Shape := ⟨2, ![1040, 256]⟩
abbrev S1024x256 : Shape := ⟨2, ![1024, 256]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 6
  | .vmem => 12
  | .smem => 0
  | _ => 0

abbrev bufTy : (tb : Table) → Fin (tcTables nBuf tb) → BufTy
  | .hbm, ⟨0, _⟩ => ⟨S8192x6144, .bf16⟩
  | .hbm, ⟨1, _⟩ => ⟨S4x256x256, .f32⟩
  | .hbm, ⟨2, _⟩ => ⟨S1x1024, .f32⟩
  | .hbm, ⟨3, _⟩ => ⟨S4x256x256, .bf16⟩
  | .hbm, ⟨4, _⟩ => ⟨S8192x1024, .bf16⟩
  | .hbm, ⟨5, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S16x1024, .bf16⟩
  | .local _ .vmem, ⟨3, _⟩ => ⟨S16x1024, .bf16⟩
  | .local _ .vmem, ⟨4, _⟩ => ⟨S1024x1024, .bf16⟩
  | .local _ .vmem, ⟨5, _⟩ => ⟨S1024x1024, .bf16⟩
  | .local _ .vmem, ⟨6, _⟩ => ⟨S4x256x256, .bf16⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PoolFRefIdeal.lean ====
abbrev S8192x6144 : Shape := ⟨2, ![8192, 6144]⟩
abbrev S4x256x256 : Shape := ⟨3, ![4, 256, 256]⟩
abbrev S1x1024 : Shape := ⟨2, ![1, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S8192x256 : Shape := ⟨2, ![8192, 256]⟩
abbrev S2x256 : Shape := ⟨2, ![2, 256]⟩
abbrev S8190x256 : Shape := ⟨2, ![8190, 256]⟩
abbrev S4x256 : Shape := ⟨2, ![4, 256]⟩
abbrev S8188x256 : Shape := ⟨2, ![8188, 256]⟩
abbrev S8x256 : Shape := ⟨2, ![8, 256]⟩
abbrev S8184x256 : Shape := ⟨2, ![8184, 256]⟩
abbrev S16x256 : Shape := ⟨2, ![16, 256]⟩
abbrev S8176x256 : Shape := ⟨2, ![8176, 256]⟩
abbrev S8192x4x256 : Shape := ⟨3, ![8192, 4, 256]⟩
abbrev S4x256x8192 : Shape := ⟨3, ![4, 256, 8192]⟩

abbrev nBuf : Space → Nat
  | .hbm => 132
  | .vmem => 0
  | .smem => 0
  | _ => 0

abbrev hbmTy0_0 (i : Nat) : BufTy := match i % 128 with
  | 0 => ⟨S8192x6144, .bf16⟩
  | 1 => ⟨S4x256x256, .f32⟩
  | 2 => ⟨S1x1024, .f32⟩
  | 3 => ⟨S8192x6144, .f32⟩
  | 4 => ⟨S8192x1024, .f32⟩
  | 5 => ⟨S8192x1024, .f32⟩
  | 6 => ⟨S_, .f32⟩
  | 7 => ⟨S_, .f32⟩
  | 8 => ⟨S8192x1024, .f32⟩
  | 9 => ⟨S8192, .f32⟩
  | 10 => ⟨S_, .f32⟩
  | 11 => ⟨S8192, .f32⟩
  | 12 => ⟨S8192, .f32⟩
  | 13 => ⟨S8192x1, .f32⟩
  | 14 => ⟨S8192x256, .f32⟩
  | 15 => ⟨S_, .f32⟩
  | 16 => ⟨S2x256, .f32⟩
  | 17 => ⟨S8190x256, .f32⟩
  | 18 => ⟨S8192x256, .f32⟩
  | 19 => ⟨S_, .f32⟩
  | 20 => ⟨S8192x1, .f32⟩
  | 21 => ⟨S8192x1, .f32⟩
  | 22 => ⟨S8192x256, .f32⟩
  | 23 => ⟨S8192x256, .f32⟩
  | 24 => ⟨S8192x256, .f32⟩
  | 25 => ⟨S8192x256, .f32⟩
  | 26 => ⟨S_, .f32⟩
  | 27 => ⟨S4x256, .f32⟩
  | 28 => ⟨S8188x256, .f32⟩
  | 29 => ⟨S8192x256, .f32⟩
  | 30 => ⟨S_, .f32⟩
  | 31 => ⟨S8192x1, .f32⟩
  | 32 => ⟨S8192x1, .f32⟩
  | 33 => ⟨S8192x256, .f32⟩
  | 34 => ⟨S8192x256, .f32⟩
  | 35 => ⟨S8192x256, .f32⟩
  | 36 => ⟨S8192x256, .f32⟩
  | 37 => ⟨S_, .f32⟩
  | 38 => ⟨S8x256, .f32⟩
  | 39 => ⟨S8184x256, .f32⟩
  | 40 => ⟨S8192x256, .f32⟩
  | 41 => ⟨S_, .f32⟩
  | 42 => ⟨S8192x1, .f32⟩
  | 43 => ⟨S8192x1, .f32⟩
  | 44 => ⟨S8192x256, .f32⟩
  | 45 => ⟨S8192x256, .f32⟩
  | 46 => ⟨S8192x256, .f32⟩
  | 47 => ⟨S8192x256, .f32⟩
  | 48 => ⟨S_, .f32⟩
  | 49 => ⟨S16x256, .f32⟩
  | 50 => ⟨S8176x256, .f32⟩
  | 51 => ⟨S8192x256, .f32⟩
  | 52 => ⟨S_, .f32⟩
  | 53 => ⟨S8192x1, .f32⟩
  | 54 => ⟨S8192x1, .f32⟩
  | 55 => ⟨S8192x256, .f32⟩
  | 56 => ⟨S8192x256, .f32⟩
  | 57 => ⟨S8192x256, .f32⟩
  | 58 => ⟨S8192x1024, .f32⟩
  | 59 => ⟨S8192x1024, .f32⟩
  | 60 => ⟨S8192x4x256, .f32⟩
  | 61 => ⟨S4x256x8192, .f32⟩
  | 62 => ⟨S8192x4x256, .f32⟩
  | 63 => ⟨S8192x1024, .f32⟩
  | 64 => ⟨S8192x1024, .f32⟩
  | 65 => ⟨S8192x1024, .f32⟩
  | 66 => ⟨S8192x1024, .f32⟩
  | 67 => ⟨S8192x1024, .f32⟩
  | 68 => ⟨S_, .f32⟩
  | 69 => ⟨S8192x1024, .f32⟩
  | 70 => ⟨S8192x1024, .f32⟩
  | 71 => ⟨S_, .f32⟩
  | 72 => ⟨S8192x1024, .f32⟩
  | 73 => ⟨S8192x1024, .f32⟩
  | 74 => ⟨S8192x1024, .f32⟩
  | 75 => ⟨S8192x1024, .f32⟩
  | 76 => ⟨S8192x1024, .bf16⟩
  | 77 => ⟨S_, .f32⟩
  | 78 => ⟨S_, .f32⟩
  | 79 => ⟨S8192x1024, .f32⟩
  | 80 => ⟨S8192, .f32⟩
  | 81 => ⟨S_, .f32⟩
  | 82 => ⟨S8192, .f32⟩
  | 83 => ⟨S8192, .f32⟩
  | 84 => ⟨S8192x1, .f32⟩
  | 85 => ⟨S8192x256, .f32⟩
  | 86 => ⟨S_, .f32⟩
  | 87 => ⟨S2x256, .f32⟩
  | 88 => ⟨S8190x256, .f32⟩
  | 89 => ⟨S8192x256, .f32⟩
  | 90 => ⟨S_, .f32⟩
  | 91 => ⟨S8192x1, .f32⟩
  | 92 => ⟨S8192x1, .f32⟩
  | 93 => ⟨S8192x256, .f32⟩
  | 94 => ⟨S8192x256, .f32⟩
  | 95 => ⟨S8192x256, .f32⟩
  | 96 => ⟨S8192x256, .f32⟩
  | 97 => ⟨S_, .f32⟩
  | 98 => ⟨S4x256, .f32⟩
  | 99 => ⟨S8188x256, .f32⟩
  | 100 => ⟨S8192x256, .f32⟩
  | 101 => ⟨S_, .f32⟩
  | 102 => ⟨S8192x1, .f32⟩
  | 103 => ⟨S8192x1, .f32⟩
  | 104 => ⟨S8192x256, .f32⟩
  | 105 => ⟨S8192x256, .f32⟩
  | 106 => ⟨S8192x256, .f32⟩
  | 107 => ⟨S8192x256, .f32⟩
  | 108 => ⟨S_, .f32⟩
  | 109 => ⟨S8x256, .f32⟩
  | 110 => ⟨S8184x256, .f32⟩
  | 111 => ⟨S8192x256, .f32⟩
  | 112 => ⟨S_, .f32⟩
  | 113 => ⟨S8192x1, .f32⟩
  | 114 => ⟨S8192x1, .f32⟩
  | 115 => ⟨S8192x256, .f32⟩
  | 116 => ⟨S8192x256, .f32⟩
  | 117 => ⟨S8192x256, .f32⟩
  | 118 => ⟨S8192x256, .f32⟩
  | 119 => ⟨S_, .f32⟩
  | 120 => ⟨S16x256, .f32⟩
  | 121 => ⟨S8176x256, .f32⟩
  | 122 => ⟨S8192x256, .f32⟩
  | 123 => ⟨S_, .f32⟩
  | 124 => ⟨S8192x1, .f32⟩
  | 125 => ⟨S8192x1, .f32⟩
  | 126 => ⟨S8192x256, .f32⟩
  | 127 => ⟨S8192x256, .f32⟩
  | _ => ⟨S8192x6144, .bf16⟩

abbrev hbmTy0_1 (i : Nat) : BufTy := match i % 128 with
  | 0 => ⟨S8192x256, .f32⟩
  | 1 => ⟨S8192x1024, .f32⟩
  | 2 => ⟨S8192x1024, .f32⟩
  | 3 => ⟨S8192x1024, .bf16⟩
  | _ => ⟨S8192x6144, .bf16⟩

abbrev hbmTy (i : Nat) : BufTy := match i / 128 with
  | 0 => hbmTy0_0 i
  | 1 => hbmTy0_1 i
  | _ => ⟨S8192x6144, .bf16⟩

abbrev bufTy : (tb : Table) → Fin (tcTables nBuf tb) → BufTy
  | .hbm, ⟨i, _⟩ => hbmTy i
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_call0_cst : Ref sig .tc := ⟨.hbm, 6, rfl⟩
abbrev main_call0_call0_v0 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_call1_v0 : Ref sig .tc := ⟨.hbm, 66, rfl⟩
abbrev main_call1_v1 : Ref sig .tc := ⟨.hbm, 67, rfl⟩
abbrev main_call1_cst : Ref sig .tc := ⟨.hbm, 68, rfl⟩
abbrev main_call1_v2 : Ref sig .tc := ⟨.hbm, 69, rfl⟩
abbrev main_call1_v3 : Ref sig .tc := ⟨.hbm, 70, rfl⟩
abbrev main_call1_cst_0 : Ref sig .tc := ⟨.hbm, 71, rfl⟩
abbrev main_call1_v4 : Ref sig .tc := ⟨.hbm, 72, rfl⟩
abbrev main_call1_v5 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call2_call0_cst : Ref sig .tc := ⟨.hbm, 77, rfl⟩
abbrev main_call2_call0_v0 : Ref sig .tc := ⟨.hbm, 78, rfl⟩
abbrev main_v55 : Ref sig .tc := ⟨.hbm, 79, rfl⟩
abbrev main_v56 : Ref sig .tc := ⟨.hbm, 80, rfl⟩
abbrev main_cst_8 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_9 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_10 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_11 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_12 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_13 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_14 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_15 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_16 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩

abbrev nD : Nat := 1
abbrev τ : Topo := Topo.v7x

variable {F : FTy → Type} [FloatOps F]
-- ==== AdamIn.lean ====
abbrev S8x1024x768 : Shape := ⟨3, ![8, 1024, 768]⟩
abbrev S1024x768 : Shape := ⟨2, ![1024, 768]⟩
abbrev S8x256x768 : Shape := ⟨3, ![8, 256, 768]⟩
abbrev S256x768 : Shape := ⟨2, ![256, 768]⟩
abbrev S1x256x768 : Shape := ⟨3, ![1, 256, 768]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x768, .bf16⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .local _ .vmem, ⟨0, _⟩ => ⟨S8x256x768, .bf16⟩
  | .local _ .vmem, ⟨1, _⟩ => ⟨S8x256x768, .bf16⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S8x1024x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S8x1024x768 : Shape := ⟨3, ![8, 1024, 768]⟩
abbrev S1024x768 : Shape := ⟨2, ![1024, 768]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x768, .bf16⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S8x1024x768, .f32⟩
  | .hbm, ⟨5, _⟩ => ⟨S_, .f32⟩
  | .hbm, ⟨6, _⟩ => ⟨S1024x768, .f32⟩
  | .hbm, ⟨7, _⟩ => ⟨S_, .f32⟩
  | .hbm, ⟨8, _⟩ => ⟨S1024x768, .f32⟩
  | .hbm, ⟨9, _⟩ => ⟨S1024x768, .f32⟩
  | .hbm, ⟨10, _⟩ => ⟨S_, .f32⟩
  | .hbm, ⟨11, _⟩ => ⟨S1024x768, .f32⟩
  | .hbm, ⟨12, _⟩ => ⟨S1024x768, .f32⟩
  | .hbm, ⟨13, _⟩ => ⟨S1024x768, .f32⟩
  | .hbm, ⟨14, _⟩ => ⟨S_, .f32⟩
  | .hbm, ⟨15, _⟩ => ⟨S1024x768, .f32⟩
  | .hbm, ⟨16, _⟩ => ⟨S1024x768, .f32⟩
  | .hbm, ⟨17, _⟩ => ⟨S1024x768, .f32⟩
  | .hbm, ⟨18, _⟩ => ⟨S_, .f32⟩
  | .hbm, ⟨19, _⟩ => ⟨S1024x768, .f32⟩
  | .hbm, ⟨20, _⟩ => ⟨S1024x768, .f32⟩
  | .hbm, ⟨21, _⟩ => ⟨S1024x768, .f32⟩
  | .hbm, ⟨22, _⟩ => ⟨S_, .f32⟩
  | .hbm, ⟨23, _⟩ => ⟨S1024x768, .f32⟩
  | .hbm, ⟨24, _⟩ => ⟨S1024x768, .f32⟩
  | .hbm, ⟨25, _⟩ => ⟨S_, .f32⟩
  | .hbm, ⟨26, _⟩ => ⟨S1024x768, .f32⟩
  | .hbm, ⟨27, _⟩ => ⟨S1024x768, .f32⟩
  | .hbm, ⟨28, _⟩ => ⟨S1024x768, .f32⟩
  | .hbm, ⟨29, _⟩ => ⟨S_, .f32⟩
  | .hbm, ⟨30, _⟩ => ⟨S1024x768, .f32⟩
  | .hbm, ⟨31, _⟩ => ⟨S1024x768, .f32⟩
  | .hbm, ⟨32, _⟩ => ⟨S1024x768, .f32⟩
  | .hbm, ⟨33, _⟩ => ⟨S_, .f32⟩
  | .hbm, ⟨34, _⟩ => ⟨S1024x768, .f32⟩
  | .hbm, ⟨35, _⟩ => ⟨S1024x768, .f32⟩
  | .hbm, ⟨36, _⟩ => ⟨S1024x768, .f32⟩
  | .hbm, ⟨37, _⟩ => ⟨S_, .f32⟩
  | .hbm, ⟨38, _⟩ => ⟨S1024x768, .f32⟩
  | .hbm, ⟨39, _⟩ => ⟨S1024x768, .f32⟩
  | _, _ => ⟨S8x1024x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdaU.lean ====
abbrev S8x1024 : Shape := ⟨2, ![8, 1024]⟩
abbrev S8x384 : Shape := ⟨2, ![8, 384]⟩
abbrev S1024x384 : Shape := ⟨2, ![1024, 384]⟩

abbrev nBuf : Space → Nat
  | .hbm => 9
  | .vmem => 9
  | .smem => 0
  | _ => 0

abbrev bufTy : (tb : Table) → Fin (tcTables nBuf tb) → BufTy
  | .hbm, ⟨0, _⟩ => ⟨S8x1024, .f32⟩
  | .hbm, ⟨1, _⟩ => ⟨S8x384, .f32⟩
  | .hbm, ⟨2, _⟩ => ⟨S1024x384, .f32⟩
  | .hbm, ⟨3, _⟩ => ⟨S1024x384, .f32⟩
  | .hbm, ⟨4, _⟩ => ⟨S1024x384, .f32⟩
  | .hbm, ⟨5, _⟩ => ⟨S1024x384, .f32⟩
  | .hbm, ⟨6, _⟩ => ⟨S1024x384, .f32⟩
  | .hbm, ⟨7, _⟩ => ⟨S1024x384, .f32⟩
  | .hbm, ⟨8, _⟩ => ⟨S1024x384, .f32⟩
  | .local _ .vmem, ⟨0, _⟩ => ⟨S8x1024, .f32⟩
  | .local _ .vmem, ⟨1, _⟩ => ⟨S8x384, .f32⟩
  | .local _ .vmem, ⟨2, _⟩ => ⟨S1024x384, .f32⟩
  | .local _ .vmem, ⟨3, _⟩ => ⟨S1024x384, .f32⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | .local _ .vmem, ⟨7, _⟩ => ⟨S1024x384, .f32⟩
  | .local _ .vmem, ⟨8, _⟩ => ⟨S1024x384, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== AdaURefIdeal.lean ====
abbrev S8x1024 : Shape := ⟨2, ![8, 1024]⟩
abbrev S8x384 : Shape := ⟨2, ![8, 384]⟩
abbrev S1024x384 : Shape := ⟨2, ![1024, 384]⟩
abbrev S_ : Shape := ⟨0, ![]⟩
abbrev S384x1024 : Shape := ⟨2, ![384, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x384, .f32⟩
  | .hbm, ⟨2, _⟩ => ⟨S1024x384, .f32⟩
  | .hbm, ⟨3, _⟩ => ⟨S1024x384, .f32⟩
  | .hbm, ⟨4, _⟩ => ⟨S1024x384, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x384, .f32⟩
  | .hbm, ⟨15, _⟩ => ⟨S384x1024, .f32⟩
  | .hbm, ⟨16, _⟩ => ⟨S1024x384, .f32⟩
  | .hbm, ⟨17, _⟩ => ⟨S_, .f32⟩
  | .hbm, ⟨18, _⟩ => ⟨S1024x384, .f32⟩
  | .hbm, ⟨19, _⟩ => ⟨S1024x384, .f32⟩
  | .hbm, ⟨20, _⟩ => ⟨S_, .f32⟩
  | .hbm, ⟨21, _⟩ => ⟨S1024x384, .f32⟩
  | .hbm, ⟨22, _⟩ => ⟨S1024x384, .f32⟩
  | .hbm, ⟨23, _⟩ => ⟨S1024x384, .f32⟩
  | .hbm, ⟨24, _⟩ => ⟨S_, .f32⟩
  | .hbm, ⟨25, _⟩ => ⟨S1024x384, .f32⟩
  | .hbm, ⟨26, _⟩ => ⟨S1024x384, .f32⟩
  | .hbm, ⟨27, _⟩ => ⟨S1024x384, .f32⟩
  | .hbm, ⟨28, _⟩ => ⟨S_, .f32⟩
  | .hbm, ⟨29, _⟩ => ⟨S1024x384, .f32⟩
  | .hbm, ⟨30, _⟩ => ⟨S1024x384, .f32⟩
  | .hbm, ⟨31, _⟩ => ⟨S1024x384, .f32⟩
  | .hbm, ⟨32, _⟩ => ⟨S_, .f32⟩
  | .hbm, ⟨33, _⟩ => ⟨S1024x384, .f32⟩
  | .hbm, ⟨34, _⟩ => ⟨S1024x384, .f32⟩
  | .hbm, ⟨35, _⟩ => ⟨S_, .f32⟩
  | .hbm, ⟨36, _⟩ => ⟨S1024x384, .f32⟩
  | .hbm, ⟨37, _⟩ => ⟨S1024x384, .f32⟩
  | .hbm, ⟨38, _⟩ => ⟨S1024x384, .f32⟩
  | .hbm, ⟨39, _⟩ => ⟨S_, .f32⟩
  | .hbm, ⟨40, _⟩ => ⟨S1024x384, .f32⟩
  | .hbm, ⟨41, _⟩ => ⟨S1024x384, .f32⟩
  | .hbm, ⟨42, _⟩ => ⟨S1024x384, .f32⟩
  | .hbm, ⟨43, _⟩ => ⟨S_, .f32⟩
  | .hbm, ⟨44, _⟩ => ⟨S1024x384, .f32⟩
  | .hbm, ⟨45, _⟩ => ⟨S1024x384, .f32⟩
  | .hbm, ⟨46, _⟩ => ⟨S1024x384, .f32⟩
  | .hbm, ⟨47, _⟩ => ⟨S_, .f32⟩
  | .hbm, ⟨48, _⟩ => ⟨S1024x384, .f32⟩
  | .hbm, ⟨49, _⟩ => ⟨S1024x384, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]
-- ==== SumSmall.lean ====
abbrev S8x16x1024 : Shape := ⟨3, ![8, 16, 1024]⟩
abbrev S8x256x1024 : Shape := ⟨3, ![8, 256, 1024]⟩
abbrev S8x3x1024 : Shape := ⟨3, ![8, 3, 1024]⟩
abbrev S16x1024 : Shape := ⟨2, ![16, 1024]⟩
abbrev S256x1024 : Shape := ⟨2, ![256, 1024]⟩
abbrev S3x1024 : Shape := ⟨2, ![3, 1024]⟩
abbrev S1x16x1024 : Shape := ⟨3, ![1, 16, 1024]⟩
abbrev S1x256x1024 : Shape := ⟨3, ![1, 256, 1024]⟩
abbrev S1x3x1024 : Shape := ⟨3, ![1, 3, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8x16x1024, .f32⟩
  | .hbm, ⟨1, _⟩ => ⟨S8x256x1024, .bf16⟩
  | .hbm, ⟨2, _⟩ => ⟨S8x3x1024, .f32⟩
  | .hbm, ⟨3, _⟩ => ⟨S16x1024, .f32⟩
  | .hbm, ⟨4, _⟩ => ⟨S256x1024, .f32⟩
  | .hbm, ⟨5, _⟩ => ⟨S3x1024, .f32⟩
  | .local _ .vmem, ⟨0, _⟩ => ⟨S8x16x1024, .f32⟩
  | .local _ .vmem, ⟨1, _⟩ => ⟨S8x256x1024, .bf16⟩
  | .local _ .vmem, ⟨2, _⟩ => ⟨S8x3x1024, .f32⟩
  | .local _ .vmem, ⟨3, _⟩ => ⟨S16x1024, .f32⟩
  | .local _ .vmem, ⟨4, _⟩ => ⟨S256x1024, .f32⟩
  | .local _ .vmem, ⟨5, _⟩ => ⟨S3x1024, .f32⟩
  | _, _ => ⟨S8x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== SumSmallRefIdeal.lean ====
abbrev S8x16x1024 : Shape := ⟨3, ![8, 16, 1024]⟩
abbrev S8x256x1024 : Shape := ⟨3, ![8, 256, 1024]⟩
abbrev S8x3x1024 : Shape := ⟨3, ![8, 3, 1024]⟩
abbrev S_ : Shape := ⟨0, ![]⟩
abbrev S16x1024 : Shape := ⟨2, ![16, 1024]⟩
abbrev S256x1024 : Shape := ⟨2, ![256, 1024]⟩
abbrev S3x1024 : Shape := ⟨2, ![3, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S8x256x1024, .bf16⟩
  | .hbm, ⟨2, _⟩ => ⟨S8x3x1024, .f32⟩
  | .hbm, ⟨3, _⟩ => ⟨S_, .f32⟩
  | .hbm, ⟨4, _⟩ => ⟨S16x1024, .f32⟩
  | .hbm, ⟨5, _⟩ => ⟨S8x256x1024, .f32⟩
  | .hbm, ⟨6, _⟩ => ⟨S_, .f32⟩
  | .hbm, ⟨7, _⟩ => ⟨S256x1024, .f32⟩
  | .hbm, ⟨8, _⟩ => ⟨S_, .f32⟩
  | .hbm, ⟨9, _⟩ => ⟨S3x1024, .f32⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩

abbrev nD : Nat := 1
abbrev τ : Topo := Topo.v7x

variable {F : FTy → Type} [FloatOps F]
-- ==== SsmX.lean ====
abbrev S8192x1024 : Shape := ⟨2, ![8192, 1024]⟩
abbrev S8192x8192 : Shape := ⟨2, ![8192, 8192]⟩
abbrev S32x1x8192 : Shape := ⟨3, ![32, 1, 8192]⟩
abbrev S256x256 : Shape := ⟨2, ![256, 256]⟩
abbrev S4x256x2048 : Shape := ⟨3, ![4, 256, 2048]⟩
abbrev S32x8192 : Shape := ⟨2, ![32, 8192]⟩
abbrev S1x1024 : Shape := ⟨2, ![1, 1024]⟩
abbrev S2x4x256x64 : Shape := ⟨4, ![2, 4, 256, 64]⟩
abbrev S1x8192 : Shape := ⟨2, ![1, 8192]⟩
abbrev S256x1024 : Shape := ⟨2, ![256, 1024]⟩
abbrev S256x8192 : Shape := ⟨2, ![256, 8192]⟩
abbrev S1x1x8192 : Shape := ⟨3, ![1, 1, 8192]⟩
abbrev S8x8192 : Shape := ⟨2, ![8, 8192]⟩
abbrev S4x256x256 : Shape := ⟨3, ![4, 256, 256]⟩
abbrev S1024 : Shape := ⟨1, ![1024]⟩
abbrev S1x256x2048 : Shape := ⟨3, ![1, 256, 2048]⟩
abbrev S256x2048 : Shape := ⟨2, ![256, 2048]⟩
abbrev S256x128 : Shape := ⟨2, ![256, 128]⟩
abbrev S1x32x256 : Shape := ⟨3, ![1, 32, 256]⟩
abbrev S32x256 : Shape := ⟨2, ![32, 256]⟩
abbrev S8x512 : Shape := ⟨2, ![8, 512]⟩
abbrev S1x512 : Shape := ⟨2, ![1, 512]⟩
abbrev S1x1x512 : Shape := ⟨3, ![1, 1, 512]⟩
abbrev S512 : Shape := ⟨1, ![512]⟩
abbrev S1x256 : Shape := ⟨2, ![1, 256]⟩
abbrev S64x128 : Shape := ⟨2, ![64, 128]⟩
abbrev S1x256x128 : Shape := ⟨3, ![1, 256, 128]⟩
abbrev S256x64 : Shape := ⟨2, ![256, 64]⟩
abbrev S1x1x256x64 : Shape := ⟨4, ![1, 1, 256, 64]⟩

abbrev nBuf : Space → Nat
  | .hbm => 14
  | .vmem => 27
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x8192, .f32⟩
  | .hbm, ⟨3, _⟩ => ⟨S32x1x8192, .f32⟩
  | .hbm, ⟨4, _⟩ => ⟨S256x256, .bf16⟩
  | .hbm, ⟨5, _⟩ => ⟨S4x256x2048, .bf16⟩
  | .hbm, ⟨6, _⟩ => ⟨S4x256x2048, .bf16⟩
  | .hbm, ⟨7, _⟩ => ⟨S32x8192, .f32⟩
  | .hbm, ⟨8, _⟩ => ⟨S1x1024, .f32⟩
  | .hbm, ⟨9, _⟩ => ⟨S8192x1024, .bf16⟩
  | .hbm, ⟨10, _⟩ => ⟨S2x4x256x64, .f32⟩
  | .hbm, ⟨11, _⟩ => ⟨S2x4x256x64, .f32⟩
  | .hbm, ⟨12, _⟩ => ⟨S1x8192, .f32⟩
  | .hbm, ⟨13, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x8192, .f32⟩
  | .local _ .vmem, ⟨5, _⟩ => ⟨S256x8192, .f32⟩
  | .local _ .vmem, ⟨6, _⟩ => ⟨S1x1x8192, .f32⟩
  | .local _ .vmem, ⟨7, _⟩ => ⟨S1x1x8192, .f32⟩
  | .local _ .vmem, ⟨8, _⟩ => ⟨S256x256, .bf16⟩
  | .local _ .vmem, ⟨9, _⟩ => ⟨S4x256x2048, .bf16⟩
  | .local _ .vmem, ⟨10, _⟩ => ⟨S4x256x2048, .bf16⟩
  | .local _ .vmem, ⟨11, _⟩ => ⟨S32x8192, .f32⟩
  | .local _ .vmem, ⟨12, _⟩ => ⟨S1x1024, .f32⟩
  | .local _ .vmem, ⟨13, _⟩ => ⟨S256x1024, .bf16⟩
  | .local _ .vmem, ⟨14, _⟩ => ⟨S256x1024, .bf16⟩
  | .local _ .vmem, ⟨15, _⟩ => ⟨S2x4x256x64, .f32⟩
  | .local _ .vmem, ⟨16, _⟩ => ⟨S2x4x256x64, .f32⟩
  | .local _ .vmem, ⟨17, _⟩ => ⟨S1x8192, .f32⟩
  | .local _ .vmem, ⟨18, _⟩ => ⟨S1x1024, .f32⟩
  | .local _ .vmem, ⟨19, _⟩ => ⟨S256x8192, .f32⟩
  | .local _ .vmem, ⟨20, _⟩ => ⟨S1x8192, .f32⟩
  | .local _ .vmem, ⟨21, _⟩ => ⟨S8x8192, .f32⟩
  | .local _ .vmem, ⟨22, _⟩ => ⟨S4x256x256, .f32⟩
  | .local _ .vmem, ⟨23, _⟩ => ⟨S4x256x256, .f32⟩
  | .local _ .vmem, ⟨24, _⟩ => ⟨S1x8192, .f32⟩
  | .local _ .vmem, ⟨25, _⟩ => ⟨S1x1024, .f32⟩
  | .local _ .vmem, ⟨26, _⟩ => ⟨S256x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_scratch7 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem13_0 : DmaSem sig := 18

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_317 : BitVec 32 := 0#32
  let c16_i32 : BitVec 32 := 16#32
  let v443 : BitVec 32 := Scalar.addi c0_i32_317 c16_i32
  let c1_i32 : BitVec 32 := 1#32
  ⟨c0_i32_317, v443, c1_i32⟩
def k0_mult1 (k0_t1 : Fin k0_t1_loop.trips) : BitVec 32 :=
  let c31_i32_1768 : BitVec 32 := 31#32
  let c0_i32_1766 : BitVec 32 := 0#32
  let c0_i32_317 : BitVec 32 := 0#32
  let c1_i32 : BitVec 32 := 1#32
  let arg23 : BitVec 32 := Scf.iv c0_i32_317 c1_i32 k0_t1
  let c2_i32 : BitVec 32 := 2#32
  let v2875 : BitVec 32 := Scalar.muli arg23 c2_i32
  let v2876 : BitVec 32 := Scalar.addi c0_i32_1766 v2875
  let c0_i32_1767 : BitVec 32 := 0#32
  let v2877 : BitVec 32 := Scalar.addi v2876 c0_i32_1767
  let v2878 : BitVec 32 := Scalar.subi c31_i32_1768 v2877
  let c8_i32 : BitVec 32 := 8#32
  let v2879 : BitVec 32 := Scalar.muli v2878 c8_i32
  v2879
def k0_off1 (k0_t1 : Fin k0_t1_loop.trips) (c0_i32_1767 : BitVec 32) : Fin 2 → Nat :=
  let c31_i32_1768 : BitVec 32 := 31#32
  let c0_i32_1766 : BitVec 32 := 0#32
  let c0_i32_317 : BitVec 32 := 0#32
  let c1_i32 : BitVec 32 := 1#32
  let arg23 : BitVec 32 := Scf.iv c0_i32_317 c1_i32 k0_t1
  let c2_i32 : BitVec 32 := 2#32
  let v2875 : BitVec 32 := Scalar.muli arg23 c2_i32
  let v2876 : BitVec 32 := Scalar.addi c0_i32_1766 v2875
  let v2877 : BitVec 32 := Scalar.addi v2876 c0_i32_1767
  let v2878 : BitVec 32 := Scalar.subi c31_i32_1768 v2877
  let c8_i32 : BitVec 32 := 8#32
  let v2879 : BitVec 32 := Scalar.muli v2878 c8_i32
  let v2880 : BitVec 32 := v2879
  let v2884 : Index := Scalar.indexCast v2880
  let c0_1769 : Index := 0#32
  ![v2884.toNat, 0]
def k0_off2 (k0_t1 : Fin k0_t1_loop.trips) (c0_i32_1767 : BitVec 32) : Fin 2 → Nat :=
  let c31_i32_1768 : BitVec 32 := 31#32
  let c0_i32_1766 : BitVec 32 := 0#32
  let c0_i32_317 : BitVec 32 := 0#32
  let c1_i32 : BitVec 32 := 1#32
  let arg23 : BitVec 32 := Scf.iv c0_i32_317 c1_i32 k0_t1
  let c2_i32 : BitVec 32 := 2#32
  let v2875 : BitVec 32 := Scalar.muli arg23 c2_i32
  let v2876 : BitVec 32 := Scalar.addi c0_i32_1766 v2875
  let v2877 : BitVec 32 := Scalar.addi v2876 c0_i32_1767
  let v2878 : BitVec 32 := Scalar.subi c31_i32_1768 v2877
  let c8_i32 : BitVec 32 := 8#32
  let v2879 : BitVec 32 := Scalar.muli v2878 c8_i32
  let v2880 : BitVec 32 := v2879
  let v2890 : Index := Scalar.indexCast v2880
  let c1024_1770 : Index := 1024#32
  ![v2890.toNat, 1024]
def k0_mult2 (k0_t1 : Fin k0_t1_loop.trips) : BitVec 32 :=
  let c31_i32_1776 : BitVec 32 := 31#32
  let c0_i32_1774 : BitVec 32 := 0#32
  let c0_i32_317 : BitVec 32 := 0#32
  let c1_i32 : BitVec 32 := 1#32
  let arg23 : BitVec 32 := Scf.iv c0_i32_317 c1_i32 k0_t1
  let c2_i32_1773 : BitVec 32 := 2#32
  let v2901 : BitVec 32 := Scalar.muli arg23 c2_i32_1773
  let v2902 : BitVec 32 := Scalar.addi c0_i32_1774 v2901
  let c1_i32_1775 : BitVec 32 := 1#32
  let v2903 : BitVec 32 := Scalar.addi v2902 c1_i32_1775
  let v2904 : BitVec 32 := Scalar.subi c31_i32_1776 v2903
  let c8_i32_1777 : BitVec 32 := 8#32
  let v2905 : BitVec 32 := Scalar.muli v2904 c8_i32_1777
  v2905
@[reducible] def k0_t2_loop : Scf.Loop 32 :=
  let c0_i32_423 : BitVec 32 := 0#32
  let c15_i32 : BitVec 32 := 15#32
  let v639 : BitVec 32 := Scalar.addi c0_i32_423 c15_i32
  let c1_i32_424 : BitVec 32 := 1#32
  ⟨c0_i32_423, v639, c1_i32_424⟩
def k0_mult3 (k0_t2 : Fin k0_t2_loop.trips) : BitVec 32 :=
  let c1_i32_1766 : BitVec 32 := 1#32
  let c0_i32_423 : BitVec 32 := 0#32
  let c1_i32_424 : BitVec 32 := 1#32
  let arg23 : BitVec 32 := Scf.iv c0_i32_423 c1_i32_424 k0_t2
  let c2_i32 : BitVec 32 := 2#32
  let v2875 : BitVec 32 := Scalar.muli arg23 c2_i32
  let v2876 : BitVec 32 := Scalar.addi c1_i32_1766 v2875
  let c0_i32_1767 : BitVec 32 := 0#32
  let v2877 : BitVec 32 := Scalar.addi v2876 c0_i32_1767
  let c1_i32_1768 : BitVec 32 := 1#32
  let v2878 : BitVec 32 := Scalar.subi v2877 c1_i32_1768
  let c8_i32 : BitVec 32 := 8#32
  let v2879 : BitVec 32 := Scalar.muli v2878 c8_i32
  v2879
def k0_off3 (k0_t2 : Fin k0_t2_loop.trips) (c0_i32_1767 : BitVec 32) : Fin 2 → Nat :=
  let c1_i32_1766 : BitVec 32 := 1#32
  let c0_i32_423 : BitVec 32 := 0#32
  let c1_i32_424 : BitVec 32 := 1#32
  let arg23 : BitVec 32 := Scf.iv c0_i32_423 c1_i32_424 k0_t2
  let c2_i32 : BitVec 32 := 2#32
  let v2875 : BitVec 32 := Scalar.muli arg23 c2_i32
  let v2876 : BitVec 32 := Scalar.addi c1_i32_1766 v2875
  let v2877 : BitVec 32 := Scalar.addi v2876 c0_i32_1767
  let c1_i32_1768 : BitVec 32 := 1#32
  let v2878 : BitVec 32 := Scalar.subi v2877 c1_i32_1768
  let c8_i32 : BitVec 32 := 8#32
  let v2879 : BitVec 32 := Scalar.muli v2878 c8_i32
  let v2880 : BitVec 32 := v2879
  let v2881 : Index := Scalar.indexCast v2880
  let c0_1769 : Index := 0#32
  ![v2881.toNat, 0]
def k0_off4 (k0_t2 : Fin k0_t2_loop.trips) (c0_i32_1767 : BitVec 32) : Fin 2 → Nat :=
  let c1_i32_1766 : BitVec 32 := 1#32
  let c0_i32_423 : BitVec 32 := 0#32
  let c1_i32_424 : BitVec 32 := 1#32
  let arg23 : BitVec 32 := Scf.iv c0_i32_423 c1_i32_424 k0_t2
  let c2_i32 : BitVec 32 := 2#32
  let v2875 : BitVec 32 := Scalar.muli arg23 c2_i32
  let v2876 : BitVec 32 := Scalar.addi c1_i32_1766 v2875
  let v2877 : BitVec 32 := Scalar.addi v2876 c0_i32_1767
  let c1_i32_1768 : BitVec 32 := 1#32
  let v2878 : BitVec 32 := Scalar.subi v2877 c1_i32_1768
  let c8_i32 : BitVec 32 := 8#32
  let v2879 : BitVec 32 := Scalar.muli v2878 c8_i32
  let v2880 : BitVec 32 := v2879
  let v2883 : Index := Scalar.indexCast v2880
  let c1024_1770 : Index := 1024#32
  ![v2883.toNat, 1024]
def k0_mult4 (k0_t2 : Fin k0_t2_loop.trips) : BitVec 32 :=
  let c1_i32_1766 : BitVec 32 := 1#32
  let c0_i32_423 : BitVec 32 := 0#32
  let c1_i32_424 : BitVec 32 := 1#32
  let arg23 : BitVec 32 := Scf.iv c0_i32_423 c1_i32_424 k0_t2
  let c2_i32 : BitVec 32 := 2#32
  let v2875 : BitVec 32 := Scalar.muli arg23 c2_i32
  let v2876 : BitVec 32 := Scalar.addi c1_i32_1766 v2875
  let c0_i32_1767 : BitVec 32 := 0#32
  let v2877 : BitVec 32 := Scalar.addi v2876 c0_i32_1767
  let c8_i32_1771 : BitVec 32 := 8#32
  let v2885 : BitVec 32 := Scalar.muli v2877 c8_i32_1771
  v2885
def k0_off5 (k0_t2 : Fin k0_t2_loop.trips) (c0_i32_1767 : BitVec 32) : Fin 2 → Nat :=
  let c31_i32_1772 : BitVec 32 := 31#32
  let c1_i32_1766 : BitVec 32 := 1#32
  let c0_i32_423 : BitVec 32 := 0#32
  let c1_i32_424 : BitVec 32 := 1#32
  let arg23 : BitVec 32 := Scf.iv c0_i32_423 c1_i32_424 k0_t2
  let c2_i32 : BitVec 32 := 2#32
  let v2875 : BitVec 32 := Scalar.muli arg23 c2_i32
  let v2876 : BitVec 32 := Scalar.addi c1_i32_1766 v2875
  let v2877 : BitVec 32 := Scalar.addi v2876 c0_i32_1767
  let v2887 : BitVec 32 := Scalar.subi c31_i32_1772 v2877
  let v2888 : Index := Scalar.indexCast v2887
  let c0_1773 : Index := 0#32
  ![v2888.toNat, 0]
def k0_off6 (k0_t2 : Fin k0_t2_loop.trips) (c0_i32_1767 : BitVec 32) : Fin 2 → Nat :=
  let c31_i32_1774 : BitVec 32 := 31#32
  let c1_i32_1766 : BitVec 32 := 1#32
  let c0_i32_423 : BitVec 32 := 0#32
  let c1_i32_424 : BitVec 32 := 1#32
  let arg23 : BitVec 32 := Scf.iv c0_i32_423 c1_i32_424 k0_t2
  let c2_i32 : BitVec 32 := 2#32
  let v2875 : BitVec 32 := Scalar.muli arg23 c2_i32
  let v2876 : BitVec 32 := Scalar.addi c1_i32_1766 v2875
  let v2877 : BitVec 32 := Scalar.addi v2876 c0_i32_1767
  let v2890 : BitVec 32 := Scalar.subi c31_i32_1774 v2877
  let v2891 : Index := Scalar.indexCast v2890
  let c1024_1775 : Index := 1024#32
  ![v2891.toNat, 1024]
def k0_off7 (k0_t2 : Fin k0_t2_loop.trips) (c0_i32_1767 : BitVec 32) : Fin 2 → Nat :=
  let c1_i32_1766 : BitVec 32 := 1#32
  let c0_i32_423 : BitVec 32 := 0#32
  let c1_i32_424 : BitVec 32 := 1#32
  let arg23 : BitVec 32 := Scf.iv c0_i32_423 c1_i32_424 k0_t2
  let c2_i32 : BitVec 32 := 2#32
  let v2875 : BitVec 32 := Scalar.muli arg23 c2_i32
  let v2876 : BitVec 32 := Scalar.addi c1_i32_1766 v2875
  let v2877 : BitVec 32 := Scalar.addi v2876 c0_i32_1767
  let c8_i32_1771 : BitVec 32 := 8#32
  let v2885 : BitVec 32 := Scalar.muli v2877 c8_i32_1771
  let v2886 : BitVec 32 := v2885
  let v2893 : Index := Scalar.indexCast v2886
  let c0_1776 : Index := 0#32
  ![v2893.toNat, 0]
def k0_off8 (k0_t2 : Fin k0_t2_loop.trips) (c0_i32_1767 : BitVec 32) : Fin 2 → Nat :=
  let c1_i32_1766 : BitVec 32 := 1#32
  let c0_i32_423 : BitVec 32 := 0#32
  let c1_i32_424 : BitVec 32 := 1#32
  let arg23 : BitVec 32 := Scf.iv c0_i32_423 c1_i32_424 k0_t2
  let c2_i32 : BitVec 32 := 2#32
  let v2875 : BitVec 32 := Scalar.muli arg23 c2_i32
  let v2876 : BitVec 32 := Scalar.addi c1_i32_1766 v2875
  let v2877 : BitVec 32 := Scalar.addi v2876 c0_i32_1767
  let c8_i32_1771 : BitVec 32 := 8#32
  let v2885 : BitVec 32 := Scalar.muli v2877 c8_i32_1771
  let v2886 : BitVec 32 := v2885
  let v2901 : Index := Scalar.indexCast v2886
  let c1024_1777 : Index := 1024#32
  ![v2901.toNat, 1024]
def k0_mult5 (k0_t2 : Fin k0_t2_loop.trips) : BitVec 32 :=
  let c1_i32_1781 : BitVec 32 := 1#32
  let c0_i32_423 : BitVec 32 := 0#32
  let c1_i32_424 : BitVec 32 := 1#32
  let arg23 : BitVec 32 := Scf.iv c0_i32_423 c1_i32_424 k0_t2
  let c2_i32_1780 : BitVec 32 := 2#32
  let v2925 : BitVec 32 := Scalar.muli arg23 c2_i32_1780
  let v2926 : BitVec 32 := Scalar.addi c1_i32_1781 v2925
  let c1_i32_1782 : BitVec 32 := 1#32
  let v2927 : BitVec 32 := Scalar.addi v2926 c1_i32_1782
  let c1_i32_1783 : BitVec 32 := 1#32
  let v2928 : BitVec 32 := Scalar.subi v2927 c1_i32_1783
  let c8_i32_1784 : BitVec 32 := 8#32
  let v2929 : BitVec 32 := Scalar.muli v2928 c8_i32_1784
  v2929
def k0_mult6 (k0_t2 : Fin k0_t2_loop.trips) : BitVec 32 :=
  let c1_i32_1781 : BitVec 32 := 1#32
  let c0_i32_423 : BitVec 32 := 0#32
  let c1_i32_424 : BitVec 32 := 1#32
  let arg23 : BitVec 32 := Scf.iv c0_i32_423 c1_i32_424 k0_t2
  let c2_i32_1780 : BitVec 32 := 2#32
  let v2925 : BitVec 32 := Scalar.muli arg23 c2_i32_1780
  let v2926 : BitVec 32 := Scalar.addi c1_i32_1781 v2925
  let c1_i32_1782 : BitVec 32 := 1#32
  let v2927 : BitVec 32 := Scalar.addi v2926 c1_i32_1782
  let c8_i32_1787 : BitVec 32 := 8#32
  let v2935 : BitVec 32 := Scalar.muli v2927 c8_i32_1787
  v2935
@[reducible] def k0_t3_loop : Scf.Loop 32 :=
  let c0_i32_456 : BitVec 32 := 0#32
  let c16_i32_457 : BitVec 32 := 16#32
  let v694 : BitVec 32 := Scalar.addi c0_i32_456 c16_i32_457
  let c1_i32_458 : BitVec 32 := 1#32
  ⟨c0_i32_456, v694, c1_i32_458⟩
def k0_mult7 (k0_t3 : Fin k0_t3_loop.trips) : BitVec 32 :=
  let c31_i32_1768 : BitVec 32 := 31#32
  let c0_i32_1766 : BitVec 32 := 0#32
  let c0_i32_456 : BitVec 32 := 0#32
  let c1_i32_458 : BitVec 32 := 1#32
  let arg23 : BitVec 32 := Scf.iv c0_i32_456 c1_i32_458 k0_t3
  let c2_i32 : BitVec 32 := 2#32
  let v2875 : BitVec 32 := Scalar.muli arg23 c2_i32
  let v2876 : BitVec 32 := Scalar.addi c0_i32_1766 v2875
  let c0_i32_1767 : BitVec 32 := 0#32
  let v2877 : BitVec 32 := Scalar.addi v2876 c0_i32_1767
  let v2878 : BitVec 32 := Scalar.subi c31_i32_1768 v2877
  let c8_i32 : BitVec 32 := 8#32
  let v2879 : BitVec 32 := Scalar.muli v2878 c8_i32
  v2879
def k0_off9 (k0_t3 : Fin k0_t3_loop.trips) (c0_i32_1767 : BitVec 32) : Fin 2 → Nat :=
  let c31_i32_1768 : BitVec 32 := 31#32
  let c0_i32_1766 : BitVec 32 := 0#32
  let c0_i32_456 : BitVec 32 := 0#32
  let c1_i32_458 : BitVec 32 := 1#32
  let arg23 : BitVec 32 := Scf.iv c0_i32_456 c1_i32_458 k0_t3
  let c2_i32 : BitVec 32 := 2#32
  let v2875 : BitVec 32 := Scalar.muli arg23 c2_i32
  let v2876 : BitVec 32 := Scalar.addi c0_i32_1766 v2875
  let v2877 : BitVec 32 := Scalar.addi v2876 c0_i32_1767
  let v2878 : BitVec 32 := Scalar.subi c31_i32_1768 v2877
  let c8_i32 : BitVec 32 := 8#32
  let v2879 : BitVec 32 := Scalar.muli v2878 c8_i32
  let v2880 : BitVec 32 := v2879
  let v2884 : Index := Scalar.indexCast v2880
  let c512_1769 : Index := 512#32
  ![v2884.toNat, 512]
def k0_off10 (k0_t3 : Fin k0_t3_loop.trips) (c0_i32_1767 : BitVec 32) : Fin 2 → Nat :=
  let c31_i32_1768 : BitVec 32 := 31#32
  let c0_i32_1766 : BitVec 32 := 0#32
  let c0_i32_456 : BitVec 32 := 0#32
  let c1_i32_458 : BitVec 32 := 1#32
  let arg23 : BitVec 32 := Scf.iv c0_i32_456 c1_i32_458 k0_t3
  let c2_i32 : BitVec 32 := 2#32
  let v2875 : BitVec 32 := Scalar.muli arg23 c2_i32
  let v2876 : BitVec 32 := Scalar.addi c0_i32_1766 v2875
  let v2877 : BitVec 32 := Scalar.addi v2876 c0_i32_1767
  let v2878 : BitVec 32 := Scalar.subi c31_i32_1768 v2877
  let c8_i32 : BitVec 32 := 8#32
  let v2879 : BitVec 32 := Scalar.muli v2878 c8_i32
  let v2880 : BitVec 32 := v2879
  let v2890 : Index := Scalar.indexCast v2880
  let c1536_1770 : Index := 1536#32
  ![v2890.toNat, 1536]
def k0_mult8 (k0_t3 : Fin k0_t3_loop.trips) : BitVec 32 :=
  let c31_i32_1776 : BitVec 32 := 31#32
  let c0_i32_1774 : BitVec 32 := 0#32
  let c0_i32_456 : BitVec 32 := 0#32
  let c1_i32_458 : BitVec 32 := 1#32
  let arg23 : BitVec 32 := Scf.iv c0_i32_456 c1_i32_458 k0_t3
  let c2_i32_1773 : BitVec 32 := 2#32
  let v2901 : BitVec 32 := Scalar.muli arg23 c2_i32_1773
  let v2902 : BitVec 32 := Scalar.addi c0_i32_1774 v2901
  let c1_i32_1775 : BitVec 32 := 1#32
  let v2903 : BitVec 32 := Scalar.addi v2902 c1_i32_1775
  let v2904 : BitVec 32 := Scalar.subi c31_i32_1776 v2903
  let c8_i32_1777 : BitVec 32 := 8#32
  let v2905 : BitVec 32 := Scalar.muli v2904 c8_i32_1777
  v2905
@[reducible] def k0_t4_loop : Scf.Loop 32 :=
  let c0_i32_570 : BitVec 32 := 0#32
  let c15_i32_571 : BitVec 32 := 15#32
  let v890 : BitVec 32 := Scalar.addi c0_i32_570 c15_i32_571
  let c1_i32_572 : BitVec 32 := 1#32
  ⟨c0_i32_570, v890, c1_i32_572⟩
def k0_mult9 (k0_t4 : Fin k0_t4_loop.trips) : BitVec 32 :=
  let c1_i32_1766 : BitVec 32 := 1#32
  let c0_i32_570 : BitVec 32 := 0#32
  let c1_i32_572 : BitVec 32 := 1#32
  let arg23 : BitVec 32 := Scf.iv c0_i32_570 c1_i32_572 k0_t4
  let c2_i32 : BitVec 32 := 2#32
  let v2875 : BitVec 32 := Scalar.muli arg23 c2_i32
  let v2876 : BitVec 32 := Scalar.addi c1_i32_1766 v2875
  let c0_i32_1767 : BitVec 32 := 0#32
  let v2877 : BitVec 32 := Scalar.addi v2876 c0_i32_1767
  let c1_i32_1768 : BitVec 32 := 1#32
  let v2878 : BitVec 32 := Scalar.subi v2877 c1_i32_1768
  let c8_i32 : BitVec 32 := 8#32
  let v2879 : BitVec 32 := Scalar.muli v2878 c8_i32
  v2879
def k0_off11 (k0_t4 : Fin k0_t4_loop.trips) (c0_i32_1767 : BitVec 32) : Fin 2 → Nat :=
  let c1_i32_1766 : BitVec 32 := 1#32
  let c0_i32_570 : BitVec 32 := 0#32
  let c1_i32_572 : BitVec 32 := 1#32
  let arg23 : BitVec 32 := Scf.iv c0_i32_570 c1_i32_572 k0_t4
  let c2_i32 : BitVec 32 := 2#32
  let v2875 : BitVec 32 := Scalar.muli arg23 c2_i32
  let v2876 : BitVec 32 := Scalar.addi c1_i32_1766 v2875
  let v2877 : BitVec 32 := Scalar.addi v2876 c0_i32_1767
  let c1_i32_1768 : BitVec 32 := 1#32
  let v2878 : BitVec 32 := Scalar.subi v2877 c1_i32_1768
  let c8_i32 : BitVec 32 := 8#32
  let v2879 : BitVec 32 := Scalar.muli v2878 c8_i32
  let v2880 : BitVec 32 := v2879
  let v2881 : Index := Scalar.indexCast v2880
  let c512_1769 : Index := 512#32
  ![v2881.toNat, 512]
def k0_off12 (k0_t4 : Fin k0_t4_loop.trips) (c0_i32_1767 : BitVec 32) : Fin 2 → Nat :=
  let c1_i32_1766 : BitVec 32 := 1#32
  let c0_i32_570 : BitVec 32 := 0#32
  let c1_i32_572 : BitVec 32 := 1#32
  let arg23 : BitVec 32 := Scf.iv c0_i32_570 c1_i32_572 k0_t4
  let c2_i32 : BitVec 32 := 2#32
  let v2875 : BitVec 32 := Scalar.muli arg23 c2_i32
  let v2876 : BitVec 32 := Scalar.addi c1_i32_1766 v2875
  let v2877 : BitVec 32 := Scalar.addi v2876 c0_i32_1767
  let c1_i32_1768 : BitVec 32 := 1#32
  let v2878 : BitVec 32 := Scalar.subi v2877 c1_i32_1768
  let c8_i32 : BitVec 32 := 8#32
  let v2879 : BitVec 32 := Scalar.muli v2878 c8_i32
  let v2880 : BitVec 32 := v2879
  let v2883 : Index := Scalar.indexCast v2880
  let c1536_1770 : Index := 1536#32
  ![v2883.toNat, 1536]
def k0_mult10 (k0_t4 : Fin k0_t4_loop.trips) : BitVec 32 :=
  let c1_i32_1766 : BitVec 32 := 1#32
  let c0_i32_570 : BitVec 32 := 0#32
  let c1_i32_572 : BitVec 32 := 1#32
  let arg23 : BitVec 32 := Scf.iv c0_i32_570 c1_i32_572 k0_t4
  let c2_i32 : BitVec 32 := 2#32
  let v2875 : BitVec 32 := Scalar.muli arg23 c2_i32
  let v2876 : BitVec 32 := Scalar.addi c1_i32_1766 v2875
  let c0_i32_1767 : BitVec 32 := 0#32
  let v2877 : BitVec 32 := Scalar.addi v2876 c0_i32_1767
  let c8_i32_1771 : BitVec 32 := 8#32
  let v2885 : BitVec 32 := Scalar.muli v2877 c8_i32_1771
  v2885
def k0_off13 (k0_t4 : Fin k0_t4_loop.trips) (c0_i32_1767 : BitVec 32) : Fin 2 → Nat :=
  let c31_i32_1772 : BitVec 32 := 31#32
  let c1_i32_1766 : BitVec 32 := 1#32
  let c0_i32_570 : BitVec 32 := 0#32
  let c1_i32_572 : BitVec 32 := 1#32
  let arg23 : BitVec 32 := Scf.iv c0_i32_570 c1_i32_572 k0_t4
  let c2_i32 : BitVec 32 := 2#32
  let v2875 : BitVec 32 := Scalar.muli arg23 c2_i32
  let v2876 : BitVec 32 := Scalar.addi c1_i32_1766 v2875
  let v2877 : BitVec 32 := Scalar.addi v2876 c0_i32_1767
  let v2887 : BitVec 32 := Scalar.subi c31_i32_1772 v2877
  let v2888 : Index := Scalar.indexCast v2887
  let c512_1773 : Index := 512#32
  ![v2888.toNat, 512]
def k0_off14 (k0_t4 : Fin k0_t4_loop.trips) (c0_i32_1767 : BitVec 32) : Fin 2 → Nat :=
  let c31_i32_1774 : BitVec 32 := 31#32
  let c1_i32_1766 : BitVec 32 := 1#32
  let c0_i32_570 : BitVec 32 := 0#32
  let c1_i32_572 : BitVec 32 := 1#32
  let arg23 : BitVec 32 := Scf.iv c0_i32_570 c1_i32_572 k0_t4
  let c2_i32 : BitVec 32 := 2#32
  let v2875 : BitVec 32 := Scalar.muli arg23 c2_i32
  let v2876 : BitVec 32 := Scalar.addi c1_i32_1766 v2875
  let v2877 : BitVec 32 := Scalar.addi v2876 c0_i32_1767
  let v2890 : BitVec 32 := Scalar.subi c31_i32_1774 v2877
  let v2891 : Index := Scalar.indexCast v2890
  let c1536_1775 : Index := 1536#32
  ![v2891.toNat, 1536]
def k0_off15 (k0_t4 : Fin k0_t4_loop.trips) (c0_i32_1767 : BitVec 32) : Fin 2 → Nat :=
  let c1_i32_1766 : BitVec 32 := 1#32
  let c0_i32_570 : BitVec 32 := 0#32
  let c1_i32_572 : BitVec 32 := 1#32
  let arg23 : BitVec 32 := Scf.iv c0_i32_570 c1_i32_572 k0_t4
  let c2_i32 : BitVec 32 := 2#32
  let v2875 : BitVec 32 := Scalar.muli arg23 c2_i32
  let v2876 : BitVec 32 := Scalar.addi c1_i32_1766 v2875
  let v2877 : BitVec 32 := Scalar.addi v2876 c0_i32_1767
  let c8_i32_1771 : BitVec 32 := 8#32
  let v2885 : BitVec 32 := Scalar.muli v2877 c8_i32_1771
  let v2886 : BitVec 32 := v2885
  let v2893 : Index := Scalar.indexCast v2886
  let c512_1776 : Index := 512#32
  ![v2893.toNat, 512]
def k0_off16 (k0_t4 : Fin k0_t4_loop.trips) (c0_i32_1767 : BitVec 32) : Fin 2 → Nat :=
  let c1_i32_1766 : BitVec 32 := 1#32
  let c0_i32_570 : BitVec 32 := 0#32
  let c1_i32_572 : BitVec 32 := 1#32
  let arg23 : BitVec 32 := Scf.iv c0_i32_570 c1_i32_572 k0_t4
  let c2_i32 : BitVec 32 := 2#32
  let v2875 : BitVec 32 := Scalar.muli arg23 c2_i32
  let v2876 : BitVec 32 := Scalar.addi c1_i32_1766 v2875
  let v2877 : BitVec 32 := Scalar.addi v2876 c0_i32_1767
  let c8_i32_1771 : BitVec 32 := 8#32
  let v2885 : BitVec 32 := Scalar.muli v2877 c8_i32_1771
  let v2886 : BitVec 32 := v2885
  let v2901 : Index := Scalar.indexCast v2886
  let c1536_1777 : Index := 1536#32
  ![v2901.toNat, 1536]
def k0_mult11 (k0_t4 : Fin k0_t4_loop.trips) : BitVec 32 :=
  let c1_i32_1781 : BitVec 32 := 1#32
  let c0_i32_570 : BitVec 32 := 0#32
  let c1_i32_572 : BitVec 32 := 1#32
  let arg23 : BitVec 32 := Scf.iv c0_i32_570 c1_i32_572 k0_t4
  let c2_i32_1780 : BitVec 32 := 2#32
  let v2925 : BitVec 32 := Scalar.muli arg23 c2_i32_1780
  let v2926 : BitVec 32 := Scalar.addi c1_i32_1781 v2925
  let c1_i32_1782 : BitVec 32 := 1#32
  let v2927 : BitVec 32 := Scalar.addi v2926 c1_i32_1782
  let c1_i32_1783 : BitVec 32 := 1#32
  let v2928 : BitVec 32 := Scalar.subi v2927 c1_i32_1783
  let c8_i32_1784 : BitVec 32 := 8#32
  let v2929 : BitVec 32 := Scalar.muli v2928 c8_i32_1784
  v2929
def k0_mult12 (k0_t4 : Fin k0_t4_loop.trips) : BitVec 32 :=
  let c1_i32_1781 : BitVec 32 := 1#32
  let c0_i32_570 : BitVec 32 := 0#32
  let c1_i32_572 : BitVec 32 := 1#32
  let arg23 : BitVec 32 := Scf.iv c0_i32_570 c1_i32_572 k0_t4
  let c2_i32_1780 : BitVec 32 := 2#32
  let v2925 : BitVec 32 := Scalar.muli arg23 c2_i32_1780
  let v2926 : BitVec 32 := Scalar.addi c1_i32_1781 v2925
  let c1_i32_1782 : BitVec 32 := 1#32
  let v2927 : BitVec 32 := Scalar.addi v2926 c1_i32_1782
  let c8_i32_1787 : BitVec 32 := 8#32
  let v2935 : BitVec 32 := Scalar.muli v2927 c8_i32_1787
  v2935
@[reducible] def k0_t5_loop : Scf.Loop 32 :=
  let c0_i32_605 : BitVec 32 := 0#32
  let c16_i32_606 : BitVec 32 := 16#32
  let v946 : BitVec 32 := Scalar.addi c0_i32_605 c16_i32_606
  let c1_i32_607 : BitVec 32 := 1#32
  ⟨c0_i32_605, v946, c1_i32_607⟩
def k0_mult13 (k0_t5 : Fin k0_t5_loop.trips) : BitVec 32 :=
  let c31_i32_1768 : BitVec 32 := 31#32
  let c0_i32_1766 : BitVec 32 := 0#32
  let c0_i32_605 : BitVec 32 := 0#32
  let c1_i32_607 : BitVec 32 := 1#32
  let arg23 : BitVec 32 := Scf.iv c0_i32_605 c1_i32_607 k0_t5
  let c2_i32 : BitVec 32 := 2#32
  let v2875 : BitVec 32 := Scalar.muli arg23 c2_i32
  let v2876 : BitVec 32 := Scalar.addi c0_i32_1766 v2875
  let c0_i32_1767 : BitVec 32 := 0#32
  let v2877 : BitVec 32 := Scalar.addi v2876 c0_i32_1767
  let v2878 : BitVec 32 := Scalar.subi c31_i32_1768 v2877
  let c8_i32 : BitVec 32 := 8#32
  let v2879 : BitVec 32 := Scalar.muli v2878 c8_i32
  v2879
def k0_off17 (k0_t5 : Fin k0_t5_loop.trips) (c0_i32_1767 : BitVec 32) : Fin 2 → Nat :=
  let c31_i32_1768 : BitVec 32 := 31#32
  let c0_i32_1766 : BitVec 32 := 0#32
  let c0_i32_605 : BitVec 32 := 0#32
  let c1_i32_607 : BitVec 32 := 1#32
  let arg23 : BitVec 32 := Scf.iv c0_i32_605 c1_i32_607 k0_t5
  let c2_i32 : BitVec 32 := 2#32
  let v2875 : BitVec 32 := Scalar.muli arg23 c2_i32
  let v2876 : BitVec 32 := Scalar.addi c0_i32_1766 v2875
  let v2877 : BitVec 32 := Scalar.addi v2876 c0_i32_1767
  let v2878 : BitVec 32 := Scalar.subi c31_i32_1768 v2877
  let c8_i32 : BitVec 32 := 8#32
  let v2879 : BitVec 32 := Scalar.muli v2878 c8_i32
  let v2880 : BitVec 32 := v2879
  let v2884 : Index := Scalar.indexCast v2880
  let c2048_1769 : Index := 2048#32
  ![v2884.toNat, 2048]
def k0_off18 (k0_t5 : Fin k0_t5_loop.trips) (c0_i32_1767 : BitVec 32) : Fin 2 → Nat :=
  let c31_i32_1768 : BitVec 32 := 31#32
  let c0_i32_1766 : BitVec 32 := 0#32
  let c0_i32_605 : BitVec 32 := 0#32
  let c1_i32_607 : BitVec 32 := 1#32
  let arg23 : BitVec 32 := Scf.iv c0_i32_605 c1_i32_607 k0_t5
  let c2_i32 : BitVec 32 := 2#32
  let v2875 : BitVec 32 := Scalar.muli arg23 c2_i32
  let v2876 : BitVec 32 := Scalar.addi c0_i32_1766 v2875
  let v2877 : BitVec 32 := Scalar.addi v2876 c0_i32_1767
  let v2878 : BitVec 32 := Scalar.subi c31_i32_1768 v2877
  let c8_i32 : BitVec 32 := 8#32
  let v2879 : BitVec 32 := Scalar.muli v2878 c8_i32
  let v2880 : BitVec 32 := v2879
  let v2890 : Index := Scalar.indexCast v2880
  let c3072_1770 : Index := 3072#32
  ![v2890.toNat, 3072]
def k0_mult14 (k0_t5 : Fin k0_t5_loop.trips) : BitVec 32 :=
  let c31_i32_1776 : BitVec 32 := 31#32
  let c0_i32_1774 : BitVec 32 := 0#32
  let c0_i32_605 : BitVec 32 := 0#32
  let c1_i32_607 : BitVec 32 := 1#32
  let arg23 : BitVec 32 := Scf.iv c0_i32_605 c1_i32_607 k0_t5
  let c2_i32_1773 : BitVec 32 := 2#32
  let v2901 : BitVec 32 := Scalar.muli arg23 c2_i32_1773
  let v2902 : BitVec 32 := Scalar.addi c0_i32_1774 v2901
  let c1_i32_1775 : BitVec 32 := 1#32
  let v2903 : BitVec 32 := Scalar.addi v2902 c1_i32_1775
  let v2904 : BitVec 32 := Scalar.subi c31_i32_1776 v2903
  let c8_i32_1777 : BitVec 32 := 8#32
  let v2905 : BitVec 32 := Scalar.muli v2904 c8_i32_1777
  v2905
@[reducible] def k0_t6_loop : Scf.Loop 32 :=
  let c0_i32_719 : BitVec 32 := 0#32
  let c15_i32_720 : BitVec 32 := 15#32
  let v1142 : BitVec 32 := Scalar.addi c0_i32_719 c15_i32_720
  let c1_i32_721 : BitVec 32 := 1#32
  ⟨c0_i32_719, v1142, c1_i32_721⟩
def k0_mult15 (k0_t6 : Fin k0_t6_loop.trips) : BitVec 32 :=
  let c1_i32_1766 : BitVec 32 := 1#32
  let c0_i32_719 : BitVec 32 := 0#32
  let c1_i32_721 : BitVec 32 := 1#32
  let arg23 : BitVec 32 := Scf.iv c0_i32_719 c1_i32_721 k0_t6
  let c2_i32 : BitVec 32 := 2#32
  let v2875 : BitVec 32 := Scalar.muli arg23 c2_i32
  let v2876 : BitVec 32 := Scalar.addi c1_i32_1766 v2875
  let c0_i32_1767 : BitVec 32 := 0#32
  let v2877 : BitVec 32 := Scalar.addi v2876 c0_i32_1767
  let c1_i32_1768 : BitVec 32 := 1#32
  let v2878 : BitVec 32 := Scalar.subi v2877 c1_i32_1768
  let c8_i32 : BitVec 32 := 8#32
  let v2879 : BitVec 32 := Scalar.muli v2878 c8_i32
  v2879
def k0_off19 (k0_t6 : Fin k0_t6_loop.trips) (c0_i32_1767 : BitVec 32) : Fin 2 → Nat :=
  let c1_i32_1766 : BitVec 32 := 1#32
  let c0_i32_719 : BitVec 32 := 0#32
  let c1_i32_721 : BitVec 32 := 1#32
  let arg23 : BitVec 32 := Scf.iv c0_i32_719 c1_i32_721 k0_t6
  let c2_i32 : BitVec 32 := 2#32
  let v2875 : BitVec 32 := Scalar.muli arg23 c2_i32
  let v2876 : BitVec 32 := Scalar.addi c1_i32_1766 v2875
  let v2877 : BitVec 32 := Scalar.addi v2876 c0_i32_1767
  let c1_i32_1768 : BitVec 32 := 1#32
  let v2878 : BitVec 32 := Scalar.subi v2877 c1_i32_1768
  let c8_i32 : BitVec 32 := 8#32
  let v2879 : BitVec 32 := Scalar.muli v2878 c8_i32
  let v2880 : BitVec 32 := v2879
  let v2881 : Index := Scalar.indexCast v2880
  let c2048_1769 : Index := 2048#32
  ![v2881.toNat, 2048]
def k0_off20 (k0_t6 : Fin k0_t6_loop.trips) (c0_i32_1767 : BitVec 32) : Fin 2 → Nat :=
  let c1_i32_1766 : BitVec 32 := 1#32
  let c0_i32_719 : BitVec 32 := 0#32
  let c1_i32_721 : BitVec 32 := 1#32
  let arg23 : BitVec 32 := Scf.iv c0_i32_719 c1_i32_721 k0_t6
  let c2_i32 : BitVec 32 := 2#32
  let v2875 : BitVec 32 := Scalar.muli arg23 c2_i32
  let v2876 : BitVec 32 := Scalar.addi c1_i32_1766 v2875
  let v2877 : BitVec 32 := Scalar.addi v2876 c0_i32_1767
  let c1_i32_1768 : BitVec 32 := 1#32
  let v2878 : BitVec 32 := Scalar.subi v2877 c1_i32_1768
  let c8_i32 : BitVec 32 := 8#32
  let v2879 : BitVec 32 := Scalar.muli v2878 c8_i32
  let v2880 : BitVec 32 := v2879
  let v2883 : Index := Scalar.indexCast v2880
  let c3072_1770 : Index := 3072#32
  ![v2883.toNat, 3072]
def k0_mult16 (k0_t6 : Fin k0_t6_loop.trips) : BitVec 32 :=
  let c1_i32_1766 : BitVec 32 := 1#32
  let c0_i32_719 : BitVec 32 := 0#32
  let c1_i32_721 : BitVec 32 := 1#32
  let arg23 : BitVec 32 := Scf.iv c0_i32_719 c1_i32_721 k0_t6
  let c2_i32 : BitVec 32 := 2#32
  let v2875 : BitVec 32 := Scalar.muli arg23 c2_i32
  let v2876 : BitVec 32 := Scalar.addi c1_i32_1766 v2875
  let c0_i32_1767 : BitVec 32 := 0#32
  let v2877 : BitVec 32 := Scalar.addi v2876 c0_i32_1767
  let c8_i32_1771 : BitVec 32 := 8#32
  let v2885 : BitVec 32 := Scalar.muli v2877 c8_i32_1771
  v2885
def k0_off21 (k0_t6 : Fin k0_t6_loop.trips) (c0_i32_1767 : BitVec 32) : Fin 2 → Nat :=
  let c31_i32_1772 : BitVec 32 := 31#32
  let c1_i32_1766 : BitVec 32 := 1#32
  let c0_i32_719 : BitVec 32 := 0#32
  let c1_i32_721 : BitVec 32 := 1#32
  let arg23 : BitVec 32 := Scf.iv c0_i32_719 c1_i32_721 k0_t6
  let c2_i32 : BitVec 32 := 2#32
  let v2875 : BitVec 32 := Scalar.muli arg23 c2_i32
  let v2876 : BitVec 32 := Scalar.addi c1_i32_1766 v2875
  let v2877 : BitVec 32 := Scalar.addi v2876 c0_i32_1767
  let v2887 : BitVec 32 := Scalar.subi c31_i32_1772 v2877
  let v2888 : Index := Scalar.indexCast v2887
  let c2048_1773 : Index := 2048#32
  ![v2888.toNat, 2048]
def k0_off22 (k0_t6 : Fin k0_t6_loop.trips) (c0_i32_1767 : BitVec 32) : Fin 2 → Nat :=
  let c31_i32_1774 : BitVec 32 := 31#32
  let c1_i32_1766 : BitVec 32 := 1#32
  let c0_i32_719 : BitVec 32 := 0#32
  let c1_i32_721 : BitVec 32 := 1#32
  let arg23 : BitVec 32 := Scf.iv c0_i32_719 c1_i32_721 k0_t6
  let c2_i32 : BitVec 32 := 2#32
  let v2875 : BitVec 32 := Scalar.muli arg23 c2_i32
  let v2876 : BitVec 32 := Scalar.addi c1_i32_1766 v2875
  let v2877 : BitVec 32 := Scalar.addi v2876 c0_i32_1767
  let v2890 : BitVec 32 := Scalar.subi c31_i32_1774 v2877
  let v2891 : Index := Scalar.indexCast v2890
  let c3072_1775 : Index := 3072#32
  ![v2891.toNat, 3072]
def k0_off23 (k0_t6 : Fin k0_t6_loop.trips) (c0_i32_1767 : BitVec 32) : Fin 2 → Nat :=
  let c1_i32_1766 : BitVec 32 := 1#32
  let c0_i32_719 : BitVec 32 := 0#32
  let c1_i32_721 : BitVec 32 := 1#32
  let arg23 : BitVec 32 := Scf.iv c0_i32_719 c1_i32_721 k0_t6
  let c2_i32 : BitVec 32 := 2#32
  let v2875 : BitVec 32 := Scalar.muli arg23 c2_i32
  let v2876 : BitVec 32 := Scalar.addi c1_i32_1766 v2875
  let v2877 : BitVec 32 := Scalar.addi v2876 c0_i32_1767
  let c8_i32_1771 : BitVec 32 := 8#32
  let v2885 : BitVec 32 := Scalar.muli v2877 c8_i32_1771
  let v2886 : BitVec 32 := v2885
  let v2893 : Index := Scalar.indexCast v2886
  let c2048_1776 : Index := 2048#32
  ![v2893.toNat, 2048]
def k0_off24 (k0_t6 : Fin k0_t6_loop.trips) (c0_i32_1767 : BitVec 32) : Fin 2 → Nat :=
  let c1_i32_1766 : BitVec 32 := 1#32
  let c0_i32_719 : BitVec 32 := 0#32
  let c1_i32_721 : BitVec 32 := 1#32
  let arg23 : BitVec 32 := Scf.iv c0_i32_719 c1_i32_721 k0_t6
  let c2_i32 : BitVec 32 := 2#32
  let v2875 : BitVec 32 := Scalar.muli arg23 c2_i32
  let v2876 : BitVec 32 := Scalar.addi c1_i32_1766 v2875
  let v2877 : BitVec 32 := Scalar.addi v2876 c0_i32_1767
  let c8_i32_1771 : BitVec 32 := 8#32
  let v2885 : BitVec 32 := Scalar.muli v2877 c8_i32_1771
  let v2886 : BitVec 32 := v2885
  let v2901 : Index := Scalar.indexCast v2886
  let c3072_1777 : Index := 3072#32
  ![v2901.toNat, 3072]
def k0_mult17 (k0_t6 : Fin k0_t6_loop.trips) : BitVec 32 :=
  let c1_i32_1781 : BitVec 32 := 1#32
  let c0_i32_719 : BitVec 32 := 0#32
  let c1_i32_721 : BitVec 32 := 1#32
  let arg23 : BitVec 32 := Scf.iv c0_i32_719 c1_i32_721 k0_t6
  let c2_i32_1780 : BitVec 32 := 2#32
  let v2925 : BitVec 32 := Scalar.muli arg23 c2_i32_1780
  let v2926 : BitVec 32 := Scalar.addi c1_i32_1781 v2925
  let c1_i32_1782 : BitVec 32 := 1#32
  let v2927 : BitVec 32 := Scalar.addi v2926 c1_i32_1782
  let c1_i32_1783 : BitVec 32 := 1#32
  let v2928 : BitVec 32 := Scalar.subi v2927 c1_i32_1783
  let c8_i32_1784 : BitVec 32 := 8#32
  let v2929 : BitVec 32 := Scalar.muli v2928 c8_i32_1784
  v2929
def k0_mult18 (k0_t6 : Fin k0_t6_loop.trips) : BitVec 32 :=
  let c1_i32_1781 : BitVec 32 := 1#32
  let c0_i32_719 : BitVec 32 := 0#32
  let c1_i32_721 : BitVec 32 := 1#32
  let arg23 : BitVec 32 := Scf.iv c0_i32_719 c1_i32_721 k0_t6
  let c2_i32_1780 : BitVec 32 := 2#32
  let v2925 : BitVec 32 := Scalar.muli arg23 c2_i32_1780
  let v2926 : BitVec 32 := Scalar.addi c1_i32_1781 v2925
  let c1_i32_1782 : BitVec 32 := 1#32
  let v2927 : BitVec 32 := Scalar.addi v2926 c1_i32_1782
  let c8_i32_1787 : BitVec 32 := 8#32
  let v2935 : BitVec 32 := Scalar.muli v2927 c8_i32_1787
  v2935
@[reducible] def k0_t7_loop : Scf.Loop 32 :=
  let c0_i32_754 : BitVec 32 := 0#32
  let c16_i32_755 : BitVec 32 := 16#32
  let v1197 : BitVec 32 := Scalar.addi c0_i32_754 c16_i32_755
  let c1_i32_756 : BitVec 32 := 1#32
  ⟨c0_i32_754, v1197, c1_i32_756⟩
def k0_mult19 (k0_t7 : Fin k0_t7_loop.trips) : BitVec 32 :=
  let c31_i32_1768 : BitVec 32 := 31#32
  let c0_i32_1766 : BitVec 32 := 0#32
  let c0_i32_754 : BitVec 32 := 0#32
  let c1_i32_756 : BitVec 32 := 1#32
  let arg23 : BitVec 32 := Scf.iv c0_i32_754 c1_i32_756 k0_t7
  let c2_i32 : BitVec 32 := 2#32
  let v2875 : BitVec 32 := Scalar.muli arg23 c2_i32
  let v2876 : BitVec 32 := Scalar.addi c0_i32_1766 v2875
  let c0_i32_1767 : BitVec 32 := 0#32
  let v2877 : BitVec 32 := Scalar.addi v2876 c0_i32_1767
  let v2878 : BitVec 32 := Scalar.subi c31_i32_1768 v2877
  let c8_i32 : BitVec 32 := 8#32
  let v2879 : BitVec 32 := Scalar.muli v2878 c8_i32
  v2879
def k0_off25 (k0_t7 : Fin k0_t7_loop.trips) (c0_i32_1767 : BitVec 32) : Fin 2 → Nat :=
  let c31_i32_1768 : BitVec 32 := 31#32
  let c0_i32_1766 : BitVec 32 := 0#32
  let c0_i32_754 : BitVec 32 := 0#32
  let c1_i32_756 : BitVec 32 := 1#32
  let arg23 : BitVec 32 := Scf.iv c0_i32_754 c1_i32_756 k0_t7
  let c2_i32 : BitVec 32 := 2#32
  let v2875 : BitVec 32 := Scalar.muli arg23 c2_i32
  let v2876 : BitVec 32 := Scalar.addi c0_i32_1766 v2875
  let v2877 : BitVec 32 := Scalar.addi v2876 c0_i32_1767
  let v2878 : BitVec 32 := Scalar.subi c31_i32_1768 v2877
  let c8_i32 : BitVec 32 := 8#32
  let v2879 : BitVec 32 := Scalar.muli v2878 c8_i32
  let v2880 : BitVec 32 := v2879
  let v2884 : Index := Scalar.indexCast v2880
  let c2560_1769 : Index := 2560#32
  ![v2884.toNat, 2560]
def k0_off26 (k0_t7 : Fin k0_t7_loop.trips) (c0_i32_1767 : BitVec 32) : Fin 2 → Nat :=
  let c31_i32_1768 : BitVec 32 := 31#32
  let c0_i32_1766 : BitVec 32 := 0#32
  let c0_i32_754 : BitVec 32 := 0#32
  let c1_i32_756 : BitVec 32 := 1#32
  let arg23 : BitVec 32 := Scf.iv c0_i32_754 c1_i32_756 k0_t7
  let c2_i32 : BitVec 32 := 2#32
  let v2875 : BitVec 32 := Scalar.muli arg23 c2_i32
  let v2876 : BitVec 32 := Scalar.addi c0_i32_1766 v2875
  let v2877 : BitVec 32 := Scalar.addi v2876 c0_i32_1767
  let v2878 : BitVec 32 := Scalar.subi c31_i32_1768 v2877
  let c8_i32 : BitVec 32 := 8#32
  let v2879 : BitVec 32 := Scalar.muli v2878 c8_i32
  let v2880 : BitVec 32 := v2879
  let v2890 : Index := Scalar.indexCast v2880
  let c3584_1770 : Index := 3584#32
  ![v2890.toNat, 3584]
def k0_mult20 (k0_t7 : Fin k0_t7_loop.trips) : BitVec 32 :=
  let c31_i32_1776 : BitVec 32 := 31#32
  let c0_i32_1774 : BitVec 32 := 0#32
  let c0_i32_754 : BitVec 32 := 0#32
  let c1_i32_756 : BitVec 32 := 1#32
  let arg23 : BitVec 32 := Scf.iv c0_i32_754 c1_i32_756 k0_t7
  let c2_i32_1773 : BitVec 32 := 2#32
  let v2901 : BitVec 32 := Scalar.muli arg23 c2_i32_1773
  let v2902 : BitVec 32 := Scalar.addi c0_i32_1774 v2901
  let c1_i32_1775 : BitVec 32 := 1#32
  let v2903 : BitVec 32 := Scalar.addi v2902 c1_i32_1775
  let v2904 : BitVec 32 := Scalar.subi c31_i32_1776 v2903
  let c8_i32_1777 : BitVec 32 := 8#32
  let v2905 : BitVec 32 := Scalar.muli v2904 c8_i32_1777
  v2905
@[reducible] def k0_t8_loop : Scf.Loop 32 :=
  let c0_i32_868 : BitVec 32 := 0#32
  let c15_i32_869 : BitVec 32 := 15#32
  let v1393 : BitVec 32 := Scalar.addi c0_i32_868 c15_i32_869
  let c1_i32_870 : BitVec 32 := 1#32
  ⟨c0_i32_868, v1393, c1_i32_870⟩
def k0_mult21 (k0_t8 : Fin k0_t8_loop.trips) : BitVec 32 :=
  let c1_i32_1766 : BitVec 32 := 1#32
  let c0_i32_868 : BitVec 32 := 0#32
  let c1_i32_870 : BitVec 32 := 1#32
  let arg23 : BitVec 32 := Scf.iv c0_i32_868 c1_i32_870 k0_t8
  let c2_i32 : BitVec 32 := 2#32
  let v2875 : BitVec 32 := Scalar.muli arg23 c2_i32
  let v2876 : BitVec 32 := Scalar.addi c1_i32_1766 v2875
  let c0_i32_1767 : BitVec 32 := 0#32
  let v2877 : BitVec 32 := Scalar.addi v2876 c0_i32_1767
  let c1_i32_1768 : BitVec 32 := 1#32
  let v2878 : BitVec 32 := Scalar.subi v2877 c1_i32_1768
  let c8_i32 : BitVec 32 := 8#32
  let v2879 : BitVec 32 := Scalar.muli v2878 c8_i32
  v2879
def k0_off27 (k0_t8 : Fin k0_t8_loop.trips) (c0_i32_1767 : BitVec 32) : Fin 2 → Nat :=
  let c1_i32_1766 : BitVec 32 := 1#32
  let c0_i32_868 : BitVec 32 := 0#32
  let c1_i32_870 : BitVec 32 := 1#32
  let arg23 : BitVec 32 := Scf.iv c0_i32_868 c1_i32_870 k0_t8
  let c2_i32 : BitVec 32 := 2#32
  let v2875 : BitVec 32 := Scalar.muli arg23 c2_i32
  let v2876 : BitVec 32 := Scalar.addi c1_i32_1766 v2875
  let v2877 : BitVec 32 := Scalar.addi v2876 c0_i32_1767
  let c1_i32_1768 : BitVec 32 := 1#32
  let v2878 : BitVec 32 := Scalar.subi v2877 c1_i32_1768
  let c8_i32 : BitVec 32 := 8#32
  let v2879 : BitVec 32 := Scalar.muli v2878 c8_i32
  let v2880 : BitVec 32 := v2879
  let v2881 : Index := Scalar.indexCast v2880
  let c2560_1769 : Index := 2560#32
  ![v2881.toNat, 2560]
def k0_off28 (k0_t8 : Fin k0_t8_loop.trips) (c0_i32_1767 : BitVec 32) : Fin 2 → Nat :=
  let c1_i32_1766 : BitVec 32 := 1#32
  let c0_i32_868 : BitVec 32 := 0#32
  let c1_i32_870 : BitVec 32 := 1#32
  let arg23 : BitVec 32 := Scf.iv c0_i32_868 c1_i32_870 k0_t8
  let c2_i32 : BitVec 32 := 2#32
  let v2875 : BitVec 32 := Scalar.muli arg23 c2_i32
  let v2876 : BitVec 32 := Scalar.addi c1_i32_1766 v2875
  let v2877 : BitVec 32 := Scalar.addi v2876 c0_i32_1767
  let c1_i32_1768 : BitVec 32 := 1#32
  let v2878 : BitVec 32 := Scalar.subi v2877 c1_i32_1768
  let c8_i32 : BitVec 32 := 8#32
  let v2879 : BitVec 32 := Scalar.muli v2878 c8_i32
  let v2880 : BitVec 32 := v2879
  let v2883 : Index := Scalar.indexCast v2880
  let c3584_1770 : Index := 3584#32
  ![v2883.toNat, 3584]
def k0_mult22 (k0_t8 : Fin k0_t8_loop.trips) : BitVec 32 :=
  let c1_i32_1766 : BitVec 32 := 1#32
  let c0_i32_868 : BitVec 32 := 0#32
  let c1_i32_870 : BitVec 32 := 1#32
  let arg23 : BitVec 32 := Scf.iv c0_i32_868 c1_i32_870 k0_t8
  let c2_i32 : BitVec 32 := 2#32
  let v2875 : BitVec 32 := Scalar.muli arg23 c2_i32
  let v2876 : BitVec 32 := Scalar.addi c1_i32_1766 v2875
  let c0_i32_1767 : BitVec 32 := 0#32
  let v2877 : BitVec 32 := Scalar.addi v2876 c0_i32_1767
  let c8_i32_1771 : BitVec 32 := 8#32
  let v2885 : BitVec 32 := Scalar.muli v2877 c8_i32_1771
  v2885
def k0_off29 (k0_t8 : Fin k0_t8_loop.trips) (c0_i32_1767 : BitVec 32) : Fin 2 → Nat :=
  let c31_i32_1772 : BitVec 32 := 31#32
  let c1_i32_1766 : BitVec 32 := 1#32
  let c0_i32_868 : BitVec 32 := 0#32
  let c1_i32_870 : BitVec 32 := 1#32
  let arg23 : BitVec 32 := Scf.iv c0_i32_868 c1_i32_870 k0_t8
  let c2_i32 : BitVec 32 := 2#32
  let v2875 : BitVec 32 := Scalar.muli arg23 c2_i32
  let v2876 : BitVec 32 := Scalar.addi c1_i32_1766 v2875
  let v2877 : BitVec 32 := Scalar.addi v2876 c0_i32_1767
  let v2887 : BitVec 32 := Scalar.subi c31_i32_1772 v2877
  let v2888 : Index := Scalar.indexCast v2887
  let c2560_1773 : Index := 2560#32
  ![v2888.toNat, 2560]
def k0_off30 (k0_t8 : Fin k0_t8_loop.trips) (c0_i32_1767 : BitVec 32) : Fin 2 → Nat :=
  let c31_i32_1774 : BitVec 32 := 31#32
  let c1_i32_1766 : BitVec 32 := 1#32
  let c0_i32_868 : BitVec 32 := 0#32
  let c1_i32_870 : BitVec 32 := 1#32
  let arg23 : BitVec 32 := Scf.iv c0_i32_868 c1_i32_870 k0_t8
  let c2_i32 : BitVec 32 := 2#32
  let v2875 : BitVec 32 := Scalar.muli arg23 c2_i32
  let v2876 : BitVec 32 := Scalar.addi c1_i32_1766 v2875
  let v2877 : BitVec 32 := Scalar.addi v2876 c0_i32_1767
  let v2890 : BitVec 32 := Scalar.subi c31_i32_1774 v2877
  let v2891 : Index := Scalar.indexCast v2890
  let c3584_1775 : Index := 3584#32
  ![v2891.toNat, 3584]
def k0_off31 (k0_t8 : Fin k0_t8_loop.trips) (c0_i32_1767 : BitVec 32) : Fin 2 → Nat :=
  let c1_i32_1766 : BitVec 32 := 1#32
  let c0_i32_868 : BitVec 32 := 0#32
  let c1_i32_870 : BitVec 32 := 1#32
  let arg23 : BitVec 32 := Scf.iv c0_i32_868 c1_i32_870 k0_t8
  let c2_i32 : BitVec 32 := 2#32
  let v2875 : BitVec 32 := Scalar.muli arg23 c2_i32
  let v2876 : BitVec 32 := Scalar.addi c1_i32_1766 v2875
  let v2877 : BitVec 32 := Scalar.addi v2876 c0_i32_1767
  let c8_i32_1771 : BitVec 32 := 8#32
  let v2885 : BitVec 32 := Scalar.muli v2877 c8_i32_1771
  let v2886 : BitVec 32 := v2885
  let v2893 : Index := Scalar.indexCast v2886
  let c2560_1776 : Index := 2560#32
  ![v2893.toNat, 2560]
def k0_off32 (k0_t8 : Fin k0_t8_loop.trips) (c0_i32_1767 : BitVec 32) : Fin 2 → Nat :=
  let c1_i32_1766 : BitVec 32 := 1#32
  let c0_i32_868 : BitVec 32 := 0#32
  let c1_i32_870 : BitVec 32 := 1#32
  let arg23 : BitVec 32 := Scf.iv c0_i32_868 c1_i32_870 k0_t8
  let c2_i32 : BitVec 32 := 2#32
  let v2875 : BitVec 32 := Scalar.muli arg23 c2_i32
  let v2876 : BitVec 32 := Scalar.addi c1_i32_1766 v2875
  let v2877 : BitVec 32 := Scalar.addi v2876 c0_i32_1767
  let c8_i32_1771 : BitVec 32 := 8#32
  let v2885 : BitVec 32 := Scalar.muli v2877 c8_i32_1771
  let v2886 : BitVec 32 := v2885
  let v2901 : Index := Scalar.indexCast v2886
  let c3584_1777 : Index := 3584#32
  ![v2901.toNat, 3584]
def k0_mult23 (k0_t8 : Fin k0_t8_loop.trips) : BitVec 32 :=
  let c1_i32_1781 : BitVec 32 := 1#32
  let c0_i32_868 : BitVec 32 := 0#32
  let c1_i32_870 : BitVec 32 := 1#32
  let arg23 : BitVec 32 := Scf.iv c0_i32_868 c1_i32_870 k0_t8
  let c2_i32_1780 : BitVec 32 := 2#32
  let v2925 : BitVec 32 := Scalar.muli arg23 c2_i32_1780
  let v2926 : BitVec 32 := Scalar.addi c1_i32_1781 v2925
  let c1_i32_1782 : BitVec 32 := 1#32
  let v2927 : BitVec 32 := Scalar.addi v2926 c1_i32_1782
  let c1_i32_1783 : BitVec 32 := 1#32
  let v2928 : BitVec 32 := Scalar.subi v2927 c1_i32_1783
  let c8_i32_1784 : BitVec 32 := 8#32
  let v2929 : BitVec 32 := Scalar.muli v2928 c8_i32_1784
  v2929
def k0_mult24 (k0_t8 : Fin k0_t8_loop.trips) : BitVec 32 :=
  let c1_i32_1781 : BitVec 32 := 1#32
  let c0_i32_868 : BitVec 32 := 0#32
  let c1_i32_870 : BitVec 32 := 1#32
  let arg23 : BitVec 32 := Scf.iv c0_i32_868 c1_i32_870 k0_t8
  let c2_i32_1780 : BitVec 32 := 2#32
  let v2925 : BitVec 32 := Scalar.muli arg23 c2_i32_1780
  let v2926 : BitVec 32 := Scalar.addi c1_i32_1781 v2925
  let c1_i32_1782 : BitVec 32 := 1#32
  let v2927 : BitVec 32 := Scalar.addi v2926 c1_i32_1782
  let c8_i32_1787 : BitVec 32 := 8#32
  let v2935 : BitVec 32 := Scalar.muli v2927 c8_i32_1787
  v2935
@[reducible] def k0_t9_loop : Scf.Loop 32 :=
  let c0_i32_903 : BitVec 32 := 0#32
  let c16_i32_904 : BitVec 32 := 16#32
  let v1449 : BitVec 32 := Scalar.addi c0_i32_903 c16_i32_904
  let c1_i32_905 : BitVec 32 := 1#32
  ⟨c0_i32_903, v1449, c1_i32_905⟩
def k0_mult25 (k0_t9 : Fin k0_t9_loop.trips) : BitVec 32 :=
  let c31_i32_1768 : BitVec 32 := 31#32
  let c0_i32_1766 : BitVec 32 := 0#32
  let c0_i32_903 : BitVec 32 := 0#32
  let c1_i32_905 : BitVec 32 := 1#32
  let arg23 : BitVec 32 := Scf.iv c0_i32_903 c1_i32_905 k0_t9
  let c2_i32 : BitVec 32 := 2#32
  let v2875 : BitVec 32 := Scalar.muli arg23 c2_i32
  let v2876 : BitVec 32 := Scalar.addi c0_i32_1766 v2875
  let c0_i32_1767 : BitVec 32 := 0#32
  let v2877 : BitVec 32 := Scalar.addi v2876 c0_i32_1767
  let v2878 : BitVec 32 := Scalar.subi c31_i32_1768 v2877
  let c8_i32 : BitVec 32 := 8#32
  let v2879 : BitVec 32 := Scalar.muli v2878 c8_i32
  v2879
def k0_off33 (k0_t9 : Fin k0_t9_loop.trips) (c0_i32_1767 : BitVec 32) : Fin 2 → Nat :=
  let c31_i32_1768 : BitVec 32 := 31#32
  let c0_i32_1766 : BitVec 32 := 0#32
  let c0_i32_903 : BitVec 32 := 0#32
  let c1_i32_905 : BitVec 32 := 1#32
  let arg23 : BitVec 32 := Scf.iv c0_i32_903 c1_i32_905 k0_t9
  let c2_i32 : BitVec 32 := 2#32
  let v2875 : BitVec 32 := Scalar.muli arg23 c2_i32
  let v2876 : BitVec 32 := Scalar.addi c0_i32_1766 v2875
  let v2877 : BitVec 32 := Scalar.addi v2876 c0_i32_1767
  let v2878 : BitVec 32 := Scalar.subi c31_i32_1768 v2877
  let c8_i32 : BitVec 32 := 8#32
  let v2879 : BitVec 32 := Scalar.muli v2878 c8_i32
  let v2880 : BitVec 32 := v2879
  let v2884 : Index := Scalar.indexCast v2880
  let c4096_1769 : Index := 4096#32
  ![v2884.toNat, 4096]
def k0_off34 (k0_t9 : Fin k0_t9_loop.trips) (c0_i32_1767 : BitVec 32) : Fin 2 → Nat :=
  let c31_i32_1768 : BitVec 32 := 31#32
  let c0_i32_1766 : BitVec 32 := 0#32
  let c0_i32_903 : BitVec 32 := 0#32
  let c1_i32_905 : BitVec 32 := 1#32
  let arg23 : BitVec 32 := Scf.iv c0_i32_903 c1_i32_905 k0_t9
  let c2_i32 : BitVec 32 := 2#32
  let v2875 : BitVec 32 := Scalar.muli arg23 c2_i32
  let v2876 : BitVec 32 := Scalar.addi c0_i32_1766 v2875
  let v2877 : BitVec 32 := Scalar.addi v2876 c0_i32_1767
  let v2878 : BitVec 32 := Scalar.subi c31_i32_1768 v2877
  let c8_i32 : BitVec 32 := 8#32
  let v2879 : BitVec 32 := Scalar.muli v2878 c8_i32
  let v2880 : BitVec 32 := v2879
  let v2890 : Index := Scalar.indexCast v2880
  let c5120_1770 : Index := 5120#32
  ![v2890.toNat, 5120]
def k0_mult26 (k0_t9 : Fin k0_t9_loop.trips) : BitVec 32 :=
  let c31_i32_1776 : BitVec 32 := 31#32
  let c0_i32_1774 : BitVec 32 := 0#32
  let c0_i32_903 : BitVec 32 := 0#32
  let c1_i32_905 : BitVec 32 := 1#32
  let arg23 : BitVec 32 := Scf.iv c0_i32_903 c1_i32_905 k0_t9
  let c2_i32_1773 : BitVec 32 := 2#32
  let v2901 : BitVec 32 := Scalar.muli arg23 c2_i32_1773
  let v2902 : BitVec 32 := Scalar.addi c0_i32_1774 v2901
  let c1_i32_1775 : BitVec 32 := 1#32
  let v2903 : BitVec 32 := Scalar.addi v2902 c1_i32_1775
  let v2904 : BitVec 32 := Scalar.subi c31_i32_1776 v2903
  let c8_i32_1777 : BitVec 32 := 8#32
  let v2905 : BitVec 32 := Scalar.muli v2904 c8_i32_1777
  v2905
@[reducible] def k0_t10_loop : Scf.Loop 32 :=
  let c0_i32_1017 : BitVec 32 := 0#32
  let c15_i32_1018 : BitVec 32 := 15#32
  let v1645 : BitVec 32 := Scalar.addi c0_i32_1017 c15_i32_1018
  let c1_i32_1019 : BitVec 32 := 1#32
  ⟨c0_i32_1017, v1645, c1_i32_1019⟩
def k0_mult27 (k0_t10 : Fin k0_t10_loop.trips) : BitVec 32 :=
  let c1_i32_1766 : BitVec 32 := 1#32
  let c0_i32_1017 : BitVec 32 := 0#32
  let c1_i32_1019 : BitVec 32 := 1#32
  let arg23 : BitVec 32 := Scf.iv c0_i32_1017 c1_i32_1019 k0_t10
  let c2_i32 : BitVec 32 := 2#32
  let v2875 : BitVec 32 := Scalar.muli arg23 c2_i32
  let v2876 : BitVec 32 := Scalar.addi c1_i32_1766 v2875
  let c0_i32_1767 : BitVec 32 := 0#32
  let v2877 : BitVec 32 := Scalar.addi v2876 c0_i32_1767
  let c1_i32_1768 : BitVec 32 := 1#32
  let v2878 : BitVec 32 := Scalar.subi v2877 c1_i32_1768
  let c8_i32 : BitVec 32 := 8#32
  let v2879 : BitVec 32 := Scalar.muli v2878 c8_i32
  v2879
def k0_off35 (k0_t10 : Fin k0_t10_loop.trips) (c0_i32_1767 : BitVec 32) : Fin 2 → Nat :=
  let c1_i32_1766 : BitVec 32 := 1#32
  let c0_i32_1017 : BitVec 32 := 0#32
  let c1_i32_1019 : BitVec 32 := 1#32
  let arg23 : BitVec 32 := Scf.iv c0_i32_1017 c1_i32_1019 k0_t10
  let c2_i32 : BitVec 32 := 2#32
  let v2875 : BitVec 32 := Scalar.muli arg23 c2_i32
  let v2876 : BitVec 32 := Scalar.addi c1_i32_1766 v2875
  let v2877 : BitVec 32 := Scalar.addi v2876 c0_i32_1767
  let c1_i32_1768 : BitVec 32 := 1#32
  let v2878 : BitVec 32 := Scalar.subi v2877 c1_i32_1768
  let c8_i32 : BitVec 32 := 8#32
  let v2879 : BitVec 32 := Scalar.muli v2878 c8_i32
  let v2880 : BitVec 32 := v2879
  let v2881 : Index := Scalar.indexCast v2880
  let c4096_1769 : Index := 4096#32
  ![v2881.toNat, 4096]
def k0_off36 (k0_t10 : Fin k0_t10_loop.trips) (c0_i32_1767 : BitVec 32) : Fin 2 → Nat :=
  let c1_i32_1766 : BitVec 32 := 1#32
  let c0_i32_1017 : BitVec 32 := 0#32
  let c1_i32_1019 : BitVec 32 := 1#32
  let arg23 : BitVec 32 := Scf.iv c0_i32_1017 c1_i32_1019 k0_t10
  let c2_i32 : BitVec 32 := 2#32
  let v2875 : BitVec 32 := Scalar.muli arg23 c2_i32
  let v2876 : BitVec 32 := Scalar.addi c1_i32_1766 v2875
  let v2877 : BitVec 32 := Scalar.addi v2876 c0_i32_1767
  let c1_i32_1768 : BitVec 32 := 1#32
  let v2878 : BitVec 32 := Scalar.subi v2877 c1_i32_1768
  let c8_i32 : BitVec 32 := 8#32
  let v2879 : BitVec 32 := Scalar.muli v2878 c8_i32
  let v2880 : BitVec 32 := v2879
  let v2883 : Index := Scalar.indexCast v2880
  let c5120_1770 : Index := 5120#32
  ![v2883.toNat, 5120]
def k0_mult28 (k0_t10 : Fin k0_t10_loop.trips) : BitVec 32 :=
  let c1_i32_1766 : BitVec 32 := 1#32
  let c0_i32_1017 : BitVec 32 := 0#32
  let c1_i32_1019 : BitVec 32 := 1#32
  let arg23 : BitVec 32 := Scf.iv c0_i32_1017 c1_i32_1019 k0_t10
  let c2_i32 : BitVec 32 := 2#32
  let v2875 : BitVec 32 := Scalar.muli arg23 c2_i32
  let v2876 : BitVec 32 := Scalar.addi c1_i32_1766 v2875
  let c0_i32_1767 : BitVec 32 := 0#32
  let v2877 : BitVec 32 := Scalar.addi v2876 c0_i32_1767
  let c8_i32_1771 : BitVec 32 := 8#32
  let v2885 : BitVec 32 := Scalar.muli v2877 c8_i32_1771
  v2885
def k0_off37 (k0_t10 : Fin k0_t10_loop.trips) (c0_i32_1767 : BitVec 32) : Fin 2 → Nat :=
  let c31_i32_1772 : BitVec 32 := 31#32
  let c1_i32_1766 : BitVec 32 := 1#32
  let c0_i32_1017 : BitVec 32 := 0#32
  let c1_i32_1019 : BitVec 32 := 1#32
  let arg23 : BitVec 32 := Scf.iv c0_i32_1017 c1_i32_1019 k0_t10
  let c2_i32 : BitVec 32 := 2#32
  let v2875 : BitVec 32 := Scalar.muli arg23 c2_i32
  let v2876 : BitVec 32 := Scalar.addi c1_i32_1766 v2875
  let v2877 : BitVec 32 := Scalar.addi v2876 c0_i32_1767
  let v2887 : BitVec 32 := Scalar.subi c31_i32_1772 v2877
  let v2888 : Index := Scalar.indexCast v2887
  let c4096_1773 : Index := 4096#32
  ![v2888.toNat, 4096]
def k0_off38 (k0_t10 : Fin k0_t10_loop.trips) (c0_i32_1767 : BitVec 32) : Fin 2 → Nat :=
  let c31_i32_1774 : BitVec 32 := 31#32
  let c1_i32_1766 : BitVec 32 := 1#32
  let c0_i32_1017 : BitVec 32 := 0#32
  let c1_i32_1019 : BitVec 32 := 1#32
  let arg23 : BitVec 32 := Scf.iv c0_i32_1017 c1_i32_1019 k0_t10
  let c2_i32 : BitVec 32 := 2#32
  let v2875 : BitVec 32 := Scalar.muli arg23 c2_i32
  let v2876 : BitVec 32 := Scalar.addi c1_i32_1766 v2875
  let v2877 : BitVec 32 := Scalar.addi v2876 c0_i32_1767
  let v2890 : BitVec 32 := Scalar.subi c31_i32_1774 v2877
  let v2891 : Index := Scalar.indexCast v2890
  let c5120_1775 : Index := 5120#32
  ![v2891.toNat, 5120]
def k0_off39 (k0_t10 : Fin k0_t10_loop.trips) (c0_i32_1767 : BitVec 32) : Fin 2 → Nat :=
  let c1_i32_1766 : BitVec 32 := 1#32
  let c0_i32_1017 : BitVec 32 := 0#32
  let c1_i32_1019 : BitVec 32 := 1#32
  let arg23 : BitVec 32 := Scf.iv c0_i32_1017 c1_i32_1019 k0_t10
  let c2_i32 : BitVec 32 := 2#32
  let v2875 : BitVec 32 := Scalar.muli arg23 c2_i32
  let v2876 : BitVec 32 := Scalar.addi c1_i32_1766 v2875
  let v2877 : BitVec 32 := Scalar.addi v2876 c0_i32_1767
  let c8_i32_1771 : BitVec 32 := 8#32
  let v2885 : BitVec 32 := Scalar.muli v2877 c8_i32_1771
  let v2886 : BitVec 32 := v2885
  let v2893 : Index := Scalar.indexCast v2886
  let c4096_1776 : Index := 4096#32
  ![v2893.toNat, 4096]
def k0_off40 (k0_t10 : Fin k0_t10_loop.trips) (c0_i32_1767 : BitVec 32) : Fin 2 → Nat :=
  let c1_i32_1766 : BitVec 32 := 1#32
  let c0_i32_1017 : BitVec 32 := 0#32
  let c1_i32_1019 : BitVec 32 := 1#32
  let arg23 : BitVec 32 := Scf.iv c0_i32_1017 c1_i32_1019 k0_t10
  let c2_i32 : BitVec 32 := 2#32
  let v2875 : BitVec 32 := Scalar.muli arg23 c2_i32
  let v2876 : BitVec 32 := Scalar.addi c1_i32_1766 v2875
  let v2877 : BitVec 32 := Scalar.addi v2876 c0_i32_1767
  let c8_i32_1771 : BitVec 32 := 8#32
  let v2885 : BitVec 32 := Scalar.muli v2877 c8_i32_1771
  let v2886 : BitVec 32 := v2885
  let v2901 : Index := Scalar.indexCast v2886
  let c5120_1777 : Index := 5120#32
  ![v2901.toNat, 5120]
def k0_mult29 (k0_t10 : Fin k0_t10_loop.trips) : BitVec 32 :=
  let c1_i32_1781 : BitVec 32 := 1#32
  let c0_i32_1017 : BitVec 32 := 0#32
  let c1_i32_1019 : BitVec 32 := 1#32
  let arg23 : BitVec 32 := Scf.iv c0_i32_1017 c1_i32_1019 k0_t10
  let c2_i32_1780 : BitVec 32 := 2#32
  let v2925 : BitVec 32 := Scalar.muli arg23 c2_i32_1780
  let v2926 : BitVec 32 := Scalar.addi c1_i32_1781 v2925
  let c1_i32_1782 : BitVec 32 := 1#32
  let v2927 : BitVec 32 := Scalar.addi v2926 c1_i32_1782
  let c1_i32_1783 : BitVec 32 := 1#32
  let v2928 : BitVec 32 := Scalar.subi v2927 c1_i32_1783
  let c8_i32_1784 : BitVec 32 := 8#32
  let v2929 : BitVec 32 := Scalar.muli v2928 c8_i32_1784
  v2929
def k0_mult30 (k0_t10 : Fin k0_t10_loop.trips) : BitVec 32 :=
  let c1_i32_1781 : BitVec 32 := 1#32
  let c0_i32_1017 : BitVec 32 := 0#32
  let c1_i32_1019 : BitVec 32 := 1#32
  let arg23 : BitVec 32 := Scf.iv c0_i32_1017 c1_i32_1019 k0_t10
  let c2_i32_1780 : BitVec 32 := 2#32
  let v2925 : BitVec 32 := Scalar.muli arg23 c2_i32_1780
  let v2926 : BitVec 32 := Scalar.addi c1_i32_1781 v2925
  let c1_i32_1782 : BitVec 32 := 1#32
  let v2927 : BitVec 32 := Scalar.addi v2926 c1_i32_1782
  let c8_i32_1787 : BitVec 32 := 8#32
  let v2935 : BitVec 32 := Scalar.muli v2927 c8_i32_1787
  v2935
@[reducible] def k0_t11_loop : Scf.Loop 32 :=
  let c0_i32_1052 : BitVec 32 := 0#32
  let c16_i32_1053 : BitVec 32 := 16#32
  let v1700 : BitVec 32 := Scalar.addi c0_i32_1052 c16_i32_1053
  let c1_i32_1054 : BitVec 32 := 1#32
  ⟨c0_i32_1052, v1700, c1_i32_1054⟩
def k0_mult31 (k0_t11 : Fin k0_t11_loop.trips) : BitVec 32 :=
  let c31_i32_1768 : BitVec 32 := 31#32
  let c0_i32_1766 : BitVec 32 := 0#32
  let c0_i32_1052 : BitVec 32 := 0#32
  let c1_i32_1054 : BitVec 32 := 1#32
  let arg23 : BitVec 32 := Scf.iv c0_i32_1052 c1_i32_1054 k0_t11
  let c2_i32 : BitVec 32 := 2#32
  let v2875 : BitVec 32 := Scalar.muli arg23 c2_i32
  let v2876 : BitVec 32 := Scalar.addi c0_i32_1766 v2875
  let c0_i32_1767 : BitVec 32 := 0#32
  let v2877 : BitVec 32 := Scalar.addi v2876 c0_i32_1767
  let v2878 : BitVec 32 := Scalar.subi c31_i32_1768 v2877
  let c8_i32 : BitVec 32 := 8#32
  let v2879 : BitVec 32 := Scalar.muli v2878 c8_i32
  v2879
def k0_off41 (k0_t11 : Fin k0_t11_loop.trips) (c0_i32_1767 : BitVec 32) : Fin 2 → Nat :=
  let c31_i32_1768 : BitVec 32 := 31#32
  let c0_i32_1766 : BitVec 32 := 0#32
  let c0_i32_1052 : BitVec 32 := 0#32
  let c1_i32_1054 : BitVec 32 := 1#32
  let arg23 : BitVec 32 := Scf.iv c0_i32_1052 c1_i32_1054 k0_t11
  let c2_i32 : BitVec 32 := 2#32
  let v2875 : BitVec 32 := Scalar.muli arg23 c2_i32
  let v2876 : BitVec 32 := Scalar.addi c0_i32_1766 v2875
  let v2877 : BitVec 32 := Scalar.addi v2876 c0_i32_1767
  let v2878 : BitVec 32 := Scalar.subi c31_i32_1768 v2877
  let c8_i32 : BitVec 32 := 8#32
  let v2879 : BitVec 32 := Scalar.muli v2878 c8_i32
  let v2880 : BitVec 32 := v2879
  let v2884 : Index := Scalar.indexCast v2880
  let c4608_1769 : Index := 4608#32
  ![v2884.toNat, 4608]
def k0_off42 (k0_t11 : Fin k0_t11_loop.trips) (c0_i32_1767 : BitVec 32) : Fin 2 → Nat :=
  let c31_i32_1768 : BitVec 32 := 31#32
  let c0_i32_1766 : BitVec 32 := 0#32
  let c0_i32_1052 : BitVec 32 := 0#32
  let c1_i32_1054 : BitVec 32 := 1#32
  let arg23 : BitVec 32 := Scf.iv c0_i32_1052 c1_i32_1054 k0_t11
  let c2_i32 : BitVec 32 := 2#32
  let v2875 : BitVec 32 := Scalar.muli arg23 c2_i32
  let v2876 : BitVec 32 := Scalar.addi c0_i32_1766 v2875
  let v2877 : BitVec 32 := Scalar.addi v2876 c0_i32_1767
  let v2878 : BitVec 32 := Scalar.subi c31_i32_1768 v2877
  let c8_i32 : BitVec 32 := 8#32
  let v2879 : BitVec 32 := Scalar.muli v2878 c8_i32
  let v2880 : BitVec 32 := v2879
  let v2890 : Index := Scalar.indexCast v2880
  let c5632_1770 : Index := 5632#32
  ![v2890.toNat, 5632]
def k0_mult32 (k0_t11 : Fin k0_t11_loop.trips) : BitVec 32 :=
  let c31_i32_1776 : BitVec 32 := 31#32
  let c0_i32_1774 : BitVec 32 := 0#32
  let c0_i32_1052 : BitVec 32 := 0#32
  let c1_i32_1054 : BitVec 32 := 1#32
  let arg23 : BitVec 32 := Scf.iv c0_i32_1052 c1_i32_1054 k0_t11
  let c2_i32_1773 : BitVec 32 := 2#32
  let v2901 : BitVec 32 := Scalar.muli arg23 c2_i32_1773
  let v2902 : BitVec 32 := Scalar.addi c0_i32_1774 v2901
  let c1_i32_1775 : BitVec 32 := 1#32
  let v2903 : BitVec 32 := Scalar.addi v2902 c1_i32_1775
  let v2904 : BitVec 32 := Scalar.subi c31_i32_1776 v2903
  let c8_i32_1777 : BitVec 32 := 8#32
  let v2905 : BitVec 32 := Scalar.muli v2904 c8_i32_1777
  v2905
@[reducible] def k0_t12_loop : Scf.Loop 32 :=
  let c0_i32_1166 : BitVec 32 := 0#32
  let c15_i32_1167 : BitVec 32 := 15#32
  let v1896 : BitVec 32 := Scalar.addi c0_i32_1166 c15_i32_1167
  let c1_i32_1168 : BitVec 32 := 1#32
  ⟨c0_i32_1166, v1896, c1_i32_1168⟩
def k0_mult33 (k0_t12 : Fin k0_t12_loop.trips) : BitVec 32 :=
  let c1_i32_1766 : BitVec 32 := 1#32
  let c0_i32_1166 : BitVec 32 := 0#32
  let c1_i32_1168 : BitVec 32 := 1#32
  let arg23 : BitVec 32 := Scf.iv c0_i32_1166 c1_i32_1168 k0_t12
  let c2_i32 : BitVec 32 := 2#32
  let v2875 : BitVec 32 := Scalar.muli arg23 c2_i32
  let v2876 : BitVec 32 := Scalar.addi c1_i32_1766 v2875
  let c0_i32_1767 : BitVec 32 := 0#32
  let v2877 : BitVec 32 := Scalar.addi v2876 c0_i32_1767
  let c1_i32_1768 : BitVec 32 := 1#32
  let v2878 : BitVec 32 := Scalar.subi v2877 c1_i32_1768
  let c8_i32 : BitVec 32 := 8#32
  let v2879 : BitVec 32 := Scalar.muli v2878 c8_i32
  v2879
def k0_off43 (k0_t12 : Fin k0_t12_loop.trips) (c0_i32_1767 : BitVec 32) : Fin 2 → Nat :=
  let c1_i32_1766 : BitVec 32 := 1#32
  let c0_i32_1166 : BitVec 32 := 0#32
  let c1_i32_1168 : BitVec 32 := 1#32
  let arg23 : BitVec 32 := Scf.iv c0_i32_1166 c1_i32_1168 k0_t12
  let c2_i32 : BitVec 32 := 2#32
  let v2875 : BitVec 32 := Scalar.muli arg23 c2_i32
  let v2876 : BitVec 32 := Scalar.addi c1_i32_1766 v2875
  let v2877 : BitVec 32 := Scalar.addi v2876 c0_i32_1767
  let c1_i32_1768 : BitVec 32 := 1#32
  let v2878 : BitVec 32 := Scalar.subi v2877 c1_i32_1768
  let c8_i32 : BitVec 32 := 8#32
  let v2879 : BitVec 32 := Scalar.muli v2878 c8_i32
  let v2880 : BitVec 32 := v2879
  let v2881 : Index := Scalar.indexCast v2880
  let c4608_1769 : Index := 4608#32
  ![v2881.toNat, 4608]
def k0_off44 (k0_t12 : Fin k0_t12_loop.trips) (c0_i32_1767 : BitVec 32) : Fin 2 → Nat :=
  let c1_i32_1766 : BitVec 32 := 1#32
  let c0_i32_1166 : BitVec 32 := 0#32
  let c1_i32_1168 : BitVec 32 := 1#32
  let arg23 : BitVec 32 := Scf.iv c0_i32_1166 c1_i32_1168 k0_t12
  let c2_i32 : BitVec 32 := 2#32
  let v2875 : BitVec 32 := Scalar.muli arg23 c2_i32
  let v2876 : BitVec 32 := Scalar.addi c1_i32_1766 v2875
  let v2877 : BitVec 32 := Scalar.addi v2876 c0_i32_1767
  let c1_i32_1768 : BitVec 32 := 1#32
  let v2878 : BitVec 32 := Scalar.subi v2877 c1_i32_1768
  let c8_i32 : BitVec 32 := 8#32
  let v2879 : BitVec 32 := Scalar.muli v2878 c8_i32
  let v2880 : BitVec 32 := v2879
  let v2883 : Index := Scalar.indexCast v2880
  let c5632_1770 : Index := 5632#32
  ![v2883.toNat, 5632]
def k0_mult34 (k0_t12 : Fin k0_t12_loop.trips) : BitVec 32 :=
  let c1_i32_1766 : BitVec 32 := 1#32
  let c0_i32_1166 : BitVec 32 := 0#32
  let c1_i32_1168 : BitVec 32 := 1#32
  let arg23 : BitVec 32 := Scf.iv c0_i32_1166 c1_i32_1168 k0_t12
  let c2_i32 : BitVec 32 := 2#32
  let v2875 : BitVec 32 := Scalar.muli arg23 c2_i32
  let v2876 : BitVec 32 := Scalar.addi c1_i32_1766 v2875
  let c0_i32_1767 : BitVec 32 := 0#32
  let v2877 : BitVec 32 := Scalar.addi v2876 c0_i32_1767
  let c8_i32_1771 : BitVec 32 := 8#32
  let v2885 : BitVec 32 := Scalar.muli v2877 c8_i32_1771
  v2885
def k0_off45 (k0_t12 : Fin k0_t12_loop.trips) (c0_i32_1767 : BitVec 32) : Fin 2 → Nat :=
  let c31_i32_1772 : BitVec 32 := 31#32
  let c1_i32_1766 : BitVec 32 := 1#32
  let c0_i32_1166 : BitVec 32 := 0#32
  let c1_i32_1168 : BitVec 32 := 1#32
  let arg23 : BitVec 32 := Scf.iv c0_i32_1166 c1_i32_1168 k0_t12
  let c2_i32 : BitVec 32 := 2#32
  let v2875 : BitVec 32 := Scalar.muli arg23 c2_i32
  let v2876 : BitVec 32 := Scalar.addi c1_i32_1766 v2875
  let v2877 : BitVec 32 := Scalar.addi v2876 c0_i32_1767
  let v2887 : BitVec 32 := Scalar.subi c31_i32_1772 v2877
  let v2888 : Index := Scalar.indexCast v2887
  let c4608_1773 : Index := 4608#32
  ![v2888.toNat, 4608]
def k0_off46 (k0_t12 : Fin k0_t12_loop.trips) (c0_i32_1767 : BitVec 32) : Fin 2 → Nat :=
  let c31_i32_1774 : BitVec 32 := 31#32
  let c1_i32_1766 : BitVec 32 := 1#32
  let c0_i32_1166 : BitVec 32 := 0#32
  let c1_i32_1168 : BitVec 32 := 1#32
  let arg23 : BitVec 32 := Scf.iv c0_i32_1166 c1_i32_1168 k0_t12
  let c2_i32 : BitVec 32 := 2#32
  let v2875 : BitVec 32 := Scalar.muli arg23 c2_i32
  let v2876 : BitVec 32 := Scalar.addi c1_i32_1766 v2875
  let v2877 : BitVec 32 := Scalar.addi v2876 c0_i32_1767
  let v2890 : BitVec 32 := Scalar.subi c31_i32_1774 v2877
  let v2891 : Index := Scalar.indexCast v2890
  let c5632_1775 : Index := 5632#32
  ![v2891.toNat, 5632]
def k0_off47 (k0_t12 : Fin k0_t12_loop.trips) (c0_i32_1767 : BitVec 32) : Fin 2 → Nat :=
  let c1_i32_1766 : BitVec 32 := 1#32
  let c0_i32_1166 : BitVec 32 := 0#32
  let c1_i32_1168 : BitVec 32 := 1#32
  let arg23 : BitVec 32 := Scf.iv c0_i32_1166 c1_i32_1168 k0_t12
  let c2_i32 : BitVec 32 := 2#32
  let v2875 : BitVec 32 := Scalar.muli arg23 c2_i32
  let v2876 : BitVec 32 := Scalar.addi c1_i32_1766 v2875
  let v2877 : BitVec 32 := Scalar.addi v2876 c0_i32_1767
  let c8_i32_1771 : BitVec 32 := 8#32
  let v2885 : BitVec 32 := Scalar.muli v2877 c8_i32_1771
  let v2886 : BitVec 32 := v2885
  let v2893 : Index := Scalar.indexCast v2886
  let c4608_1776 : Index := 4608#32
  ![v2893.toNat, 4608]
def k0_off48 (k0_t12 : Fin k0_t12_loop.trips) (c0_i32_1767 : BitVec 32) : Fin 2 → Nat :=
  let c1_i32_1766 : BitVec 32 := 1#32
  let c0_i32_1166 : BitVec 32 := 0#32
  let c1_i32_1168 : BitVec 32 := 1#32
  let arg23 : BitVec 32 := Scf.iv c0_i32_1166 c1_i32_1168 k0_t12
  let c2_i32 : BitVec 32 := 2#32
  let v2875 : BitVec 32 := Scalar.muli arg23 c2_i32
  let v2876 : BitVec 32 := Scalar.addi c1_i32_1766 v2875
  let v2877 : BitVec 32 := Scalar.addi v2876 c0_i32_1767
  let c8_i32_1771 : BitVec 32 := 8#32
  let v2885 : BitVec 32 := Scalar.muli v2877 c8_i32_1771
  let v2886 : BitVec 32 := v2885
  let v2901 : Index := Scalar.indexCast v2886
  let c5632_1777 : Index := 5632#32
  ![v2901.toNat, 5632]
def k0_mult35 (k0_t12 : Fin k0_t12_loop.trips) : BitVec 32 :=
  let c1_i32_1781 : BitVec 32 := 1#32
  let c0_i32_1166 : BitVec 32 := 0#32
  let c1_i32_1168 : BitVec 32 := 1#32
  let arg23 : BitVec 32 := Scf.iv c0_i32_1166 c1_i32_1168 k0_t12
  let c2_i32_1780 : BitVec 32 := 2#32
  let v2925 : BitVec 32 := Scalar.muli arg23 c2_i32_1780
  let v2926 : BitVec 32 := Scalar.addi c1_i32_1781 v2925
  let c1_i32_1782 : BitVec 32 := 1#32
  let v2927 : BitVec 32 := Scalar.addi v2926 c1_i32_1782
  let c1_i32_1783 : BitVec 32 := 1#32
  let v2928 : BitVec 32 := Scalar.subi v2927 c1_i32_1783
  let c8_i32_1784 : BitVec 32 := 8#32
  let v2929 : BitVec 32 := Scalar.muli v2928 c8_i32_1784
  v2929
def k0_mult36 (k0_t12 : Fin k0_t12_loop.trips) : BitVec 32 :=
  let c1_i32_1781 : BitVec 32 := 1#32
  let c0_i32_1166 : BitVec 32 := 0#32
  let c1_i32_1168 : BitVec 32 := 1#32
  let arg23 : BitVec 32 := Scf.iv c0_i32_1166 c1_i32_1168 k0_t12
  let c2_i32_1780 : BitVec 32 := 2#32
  let v2925 : BitVec 32 := Scalar.muli arg23 c2_i32_1780
  let v2926 : BitVec 32 := Scalar.addi c1_i32_1781 v2925
  let c1_i32_1782 : BitVec 32 := 1#32
  let v2927 : BitVec 32 := Scalar.addi v2926 c1_i32_1782
  let c8_i32_1787 : BitVec 32 := 8#32
  let v2935 : BitVec 32 := Scalar.muli v2927 c8_i32_1787
  v2935
@[reducible] def k0_t13_loop : Scf.Loop 32 :=
  let c0_i32_1201 : BitVec 32 := 0#32
  let c16_i32_1202 : BitVec 32 := 16#32
  let v1952 : BitVec 32 := Scalar.addi c0_i32_1201 c16_i32_1202
  let c1_i32_1203 : BitVec 32 := 1#32
  ⟨c0_i32_1201, v1952, c1_i32_1203⟩
def k0_mult37 (k0_t13 : Fin k0_t13_loop.trips) : BitVec 32 :=
  let c31_i32_1768 : BitVec 32 := 31#32
  let c0_i32_1766 : BitVec 32 := 0#32
  let c0_i32_1201 : BitVec 32 := 0#32
  let c1_i32_1203 : BitVec 32 := 1#32
  let arg23 : BitVec 32 := Scf.iv c0_i32_1201 c1_i32_1203 k0_t13
  let c2_i32 : BitVec 32 := 2#32
  let v2875 : BitVec 32 := Scalar.muli arg23 c2_i32
  let v2876 : BitVec 32 := Scalar.addi c0_i32_1766 v2875
  let c0_i32_1767 : BitVec 32 := 0#32
  let v2877 : BitVec 32 := Scalar.addi v2876 c0_i32_1767
  let v2878 : BitVec 32 := Scalar.subi c31_i32_1768 v2877
  let c8_i32 : BitVec 32 := 8#32
  let v2879 : BitVec 32 := Scalar.muli v2878 c8_i32
  v2879
def k0_off49 (k0_t13 : Fin k0_t13_loop.trips) (c0_i32_1767 : BitVec 32) : Fin 2 → Nat :=
  let c31_i32_1768 : BitVec 32 := 31#32
  let c0_i32_1766 : BitVec 32 := 0#32
  let c0_i32_1201 : BitVec 32 := 0#32
  let c1_i32_1203 : BitVec 32 := 1#32
  let arg23 : BitVec 32 := Scf.iv c0_i32_1201 c1_i32_1203 k0_t13
  let c2_i32 : BitVec 32 := 2#32
  let v2875 : BitVec 32 := Scalar.muli arg23 c2_i32
  let v2876 : BitVec 32 := Scalar.addi c0_i32_1766 v2875
  let v2877 : BitVec 32 := Scalar.addi v2876 c0_i32_1767
  let v2878 : BitVec 32 := Scalar.subi c31_i32_1768 v2877
  let c8_i32 : BitVec 32 := 8#32
  let v2879 : BitVec 32 := Scalar.muli v2878 c8_i32
  let v2880 : BitVec 32 := v2879
  let v2884 : Index := Scalar.indexCast v2880
  let c6144_1769 : Index := 6144#32
  ![v2884.toNat, 6144]
def k0_off50 (k0_t13 : Fin k0_t13_loop.trips) (c0_i32_1767 : BitVec 32) : Fin 2 → Nat :=
  let c31_i32_1768 : BitVec 32 := 31#32
  let c0_i32_1766 : BitVec 32 := 0#32
  let c0_i32_1201 : BitVec 32 := 0#32
  let c1_i32_1203 : BitVec 32 := 1#32
  let arg23 : BitVec 32 := Scf.iv c0_i32_1201 c1_i32_1203 k0_t13
  let c2_i32 : BitVec 32 := 2#32
  let v2875 : BitVec 32 := Scalar.muli arg23 c2_i32
  let v2876 : BitVec 32 := Scalar.addi c0_i32_1766 v2875
  let v2877 : BitVec 32 := Scalar.addi v2876 c0_i32_1767
  let v2878 : BitVec 32 := Scalar.subi c31_i32_1768 v2877
  let c8_i32 : BitVec 32 := 8#32
  let v2879 : BitVec 32 := Scalar.muli v2878 c8_i32
  let v2880 : BitVec 32 := v2879
  let v2890 : Index := Scalar.indexCast v2880
  let c7168_1770 : Index := 7168#32
  ![v2890.toNat, 7168]
def k0_mult38 (k0_t13 : Fin k0_t13_loop.trips) : BitVec 32 :=
  let c31_i32_1776 : BitVec 32 := 31#32
  let c0_i32_1774 : BitVec 32 := 0#32
  let c0_i32_1201 : BitVec 32 := 0#32
  let c1_i32_1203 : BitVec 32 := 1#32
  let arg23 : BitVec 32 := Scf.iv c0_i32_1201 c1_i32_1203 k0_t13
  let c2_i32_1773 : BitVec 32 := 2#32
  let v2901 : BitVec 32 := Scalar.muli arg23 c2_i32_1773
  let v2902 : BitVec 32 := Scalar.addi c0_i32_1774 v2901
  let c1_i32_1775 : BitVec 32 := 1#32
  let v2903 : BitVec 32 := Scalar.addi v2902 c1_i32_1775
  let v2904 : BitVec 32 := Scalar.subi c31_i32_1776 v2903
  let c8_i32_1777 : BitVec 32 := 8#32
  let v2905 : BitVec 32 := Scalar.muli v2904 c8_i32_1777
  v2905
@[reducible] def k0_t14_loop : Scf.Loop 32 :=
  let c0_i32_1315 : BitVec 32 := 0#32
  let c15_i32_1316 : BitVec 32 := 15#32
  let v2148 : BitVec 32 := Scalar.addi c0_i32_1315 c15_i32_1316
  let c1_i32_1317 : BitVec 32 := 1#32
  ⟨c0_i32_1315, v2148, c1_i32_1317⟩
def k0_mult39 (k0_t14 : Fin k0_t14_loop.trips) : BitVec 32 :=
  let c1_i32_1766 : BitVec 32 := 1#32
  let c0_i32_1315 : BitVec 32 := 0#32
  let c1_i32_1317 : BitVec 32 := 1#32
  let arg23 : BitVec 32 := Scf.iv c0_i32_1315 c1_i32_1317 k0_t14
  let c2_i32 : BitVec 32 := 2#32
  let v2875 : BitVec 32 := Scalar.muli arg23 c2_i32
  let v2876 : BitVec 32 := Scalar.addi c1_i32_1766 v2875
  let c0_i32_1767 : BitVec 32 := 0#32
  let v2877 : BitVec 32 := Scalar.addi v2876 c0_i32_1767
  let c1_i32_1768 : BitVec 32 := 1#32
  let v2878 : BitVec 32 := Scalar.subi v2877 c1_i32_1768
  let c8_i32 : BitVec 32 := 8#32
  let v2879 : BitVec 32 := Scalar.muli v2878 c8_i32
  v2879
def k0_off51 (k0_t14 : Fin k0_t14_loop.trips) (c0_i32_1767 : BitVec 32) : Fin 2 → Nat :=
  let c1_i32_1766 : BitVec 32 := 1#32
  let c0_i32_1315 : BitVec 32 := 0#32
  let c1_i32_1317 : BitVec 32 := 1#32
  let arg23 : BitVec 32 := Scf.iv c0_i32_1315 c1_i32_1317 k0_t14
  let c2_i32 : BitVec 32 := 2#32
  let v2875 : BitVec 32 := Scalar.muli arg23 c2_i32
  let v2876 : BitVec 32 := Scalar.addi c1_i32_1766 v2875
  let v2877 : BitVec 32 := Scalar.addi v2876 c0_i32_1767
  let c1_i32_1768 : BitVec 32 := 1#32
  let v2878 : BitVec 32 := Scalar.subi v2877 c1_i32_1768
  let c8_i32 : BitVec 32 := 8#32
  let v2879 : BitVec 32 := Scalar.muli v2878 c8_i32
  let v2880 : BitVec 32 := v2879
  let v2881 : Index := Scalar.indexCast v2880
  let c6144_1769 : Index := 6144#32
  ![v2881.toNat, 6144]
def k0_off52 (k0_t14 : Fin k0_t14_loop.trips) (c0_i32_1767 : BitVec 32) : Fin 2 → Nat :=
  let c1_i32_1766 : BitVec 32 := 1#32
  let c0_i32_1315 : BitVec 32 := 0#32
  let c1_i32_1317 : BitVec 32 := 1#32
  let arg23 : BitVec 32 := Scf.iv c0_i32_1315 c1_i32_1317 k0_t14
  let c2_i32 : BitVec 32 := 2#32
  let v2875 : BitVec 32 := Scalar.muli arg23 c2_i32
  let v2876 : BitVec 32 := Scalar.addi c1_i32_1766 v2875
  let v2877 : BitVec 32 := Scalar.addi v2876 c0_i32_1767
  let c1_i32_1768 : BitVec 32 := 1#32
  let v2878 : BitVec 32 := Scalar.subi v2877 c1_i32_1768
  let c8_i32 : BitVec 32 := 8#32
  let v2879 : BitVec 32 := Scalar.muli v2878 c8_i32
  let v2880 : BitVec 32 := v2879
  let v2883 : Index := Scalar.indexCast v2880
  let c7168_1770 : Index := 7168#32
  ![v2883.toNat, 7168]
def k0_mult40 (k0_t14 : Fin k0_t14_loop.trips) : BitVec 32 :=
  let c1_i32_1766 : BitVec 32 := 1#32
  let c0_i32_1315 : BitVec 32 := 0#32
  let c1_i32_1317 : BitVec 32 := 1#32
  let arg23 : BitVec 32 := Scf.iv c0_i32_1315 c1_i32_1317 k0_t14
  let c2_i32 : BitVec 32 := 2#32
  let v2875 : BitVec 32 := Scalar.muli arg23 c2_i32
  let v2876 : BitVec 32 := Scalar.addi c1_i32_1766 v2875
  let c0_i32_1767 : BitVec 32 := 0#32
  let v2877 : BitVec 32 := Scalar.addi v2876 c0_i32_1767
  let c8_i32_1771 : BitVec 32 := 8#32
  let v2885 : BitVec 32 := Scalar.muli v2877 c8_i32_1771
  v2885
def k0_off53 (k0_t14 : Fin k0_t14_loop.trips) (c0_i32_1767 : BitVec 32) : Fin 2 → Nat :=
  let c31_i32_1772 : BitVec 32 := 31#32
  let c1_i32_1766 : BitVec 32 := 1#32
  let c0_i32_1315 : BitVec 32 := 0#32
  let c1_i32_1317 : BitVec 32 := 1#32
  let arg23 : BitVec 32 := Scf.iv c0_i32_1315 c1_i32_1317 k0_t14
  let c2_i32 : BitVec 32 := 2#32
  let v2875 : BitVec 32 := Scalar.muli arg23 c2_i32
  let v2876 : BitVec 32 := Scalar.addi c1_i32_1766 v2875
  let v2877 : BitVec 32 := Scalar.addi v2876 c0_i32_1767
  let v2887 : BitVec 32 := Scalar.subi c31_i32_1772 v2877
  let v2888 : Index := Scalar.indexCast v2887
  let c6144_1773 : Index := 6144#32
  ![v2888.toNat, 6144]
def k0_off54 (k0_t14 : Fin k0_t14_loop.trips) (c0_i32_1767 : BitVec 32) : Fin 2 → Nat :=
  let c31_i32_1774 : BitVec 32 := 31#32
  let c1_i32_1766 : BitVec 32 := 1#32
  let c0_i32_1315 : BitVec 32 := 0#32
  let c1_i32_1317 : BitVec 32 := 1#32
  let arg23 : BitVec 32 := Scf.iv c0_i32_1315 c1_i32_1317 k0_t14
  let c2_i32 : BitVec 32 := 2#32
  let v2875 : BitVec 32 := Scalar.muli arg23 c2_i32
  let v2876 : BitVec 32 := Scalar.addi c1_i32_1766 v2875
  let v2877 : BitVec 32 := Scalar.addi v2876 c0_i32_1767
  let v2890 : BitVec 32 := Scalar.subi c31_i32_1774 v2877
  let v2891 : Index := Scalar.indexCast v2890
  let c7168_1775 : Index := 7168#32
  ![v2891.toNat, 7168]
def k0_off55 (k0_t14 : Fin k0_t14_loop.trips) (c0_i32_1767 : BitVec 32) : Fin 2 → Nat :=
  let c1_i32_1766 : BitVec 32 := 1#32
  let c0_i32_1315 : BitVec 32 := 0#32
  let c1_i32_1317 : BitVec 32 := 1#32
  let arg23 : BitVec 32 := Scf.iv c0_i32_1315 c1_i32_1317 k0_t14
  let c2_i32 : BitVec 32 := 2#32
  let v2875 : BitVec 32 := Scalar.muli arg23 c2_i32
  let v2876 : BitVec 32 := Scalar.addi c1_i32_1766 v2875
  let v2877 : BitVec 32 := Scalar.addi v2876 c0_i32_1767
  let c8_i32_1771 : BitVec 32 := 8#32
  let v2885 : BitVec 32 := Scalar.muli v2877 c8_i32_1771
  let v2886 : BitVec 32 := v2885
  let v2893 : Index := Scalar.indexCast v2886
  let c6144_1776 : Index := 6144#32
  ![v2893.toNat, 6144]
def k0_off56 (k0_t14 : Fin k0_t14_loop.trips) (c0_i32_1767 : BitVec 32) : Fin 2 → Nat :=
  let c1_i32_1766 : BitVec 32 := 1#32
  let c0_i32_1315 : BitVec 32 := 0#32
  let c1_i32_1317 : BitVec 32 := 1#32
  let arg23 : BitVec 32 := Scf.iv c0_i32_1315 c1_i32_1317 k0_t14
  let c2_i32 : BitVec 32 := 2#32
  let v2875 : BitVec 32 := Scalar.muli arg23 c2_i32
  let v2876 : BitVec 32 := Scalar.addi c1_i32_1766 v2875
  let v2877 : BitVec 32 := Scalar.addi v2876 c0_i32_1767
  let c8_i32_1771 : BitVec 32 := 8#32
  let v2885 : BitVec 32 := Scalar.muli v2877 c8_i32_1771
  let v2886 : BitVec 32 := v2885
  let v2901 : Index := Scalar.indexCast v2886
  let c7168_1777 : Index := 7168#32
  ![v2901.toNat, 7168]
def k0_mult41 (k0_t14 : Fin k0_t14_loop.trips) : BitVec 32 :=
  let c1_i32_1781 : BitVec 32 := 1#32
  let c0_i32_1315 : BitVec 32 := 0#32
  let c1_i32_1317 : BitVec 32 := 1#32
  let arg23 : BitVec 32 := Scf.iv c0_i32_1315 c1_i32_1317 k0_t14
  let c2_i32_1780 : BitVec 32 := 2#32
  let v2925 : BitVec 32 := Scalar.muli arg23 c2_i32_1780
  let v2926 : BitVec 32 := Scalar.addi c1_i32_1781 v2925
  let c1_i32_1782 : BitVec 32 := 1#32
  let v2927 : BitVec 32 := Scalar.addi v2926 c1_i32_1782
  let c1_i32_1783 : BitVec 32 := 1#32
  let v2928 : BitVec 32 := Scalar.subi v2927 c1_i32_1783
  let c8_i32_1784 : BitVec 32 := 8#32
  let v2929 : BitVec 32 := Scalar.muli v2928 c8_i32_1784
  v2929
def k0_mult42 (k0_t14 : Fin k0_t14_loop.trips) : BitVec 32 :=
  let c1_i32_1781 : BitVec 32 := 1#32
  let c0_i32_1315 : BitVec 32 := 0#32
  let c1_i32_1317 : BitVec 32 := 1#32
  let arg23 : BitVec 32 := Scf.iv c0_i32_1315 c1_i32_1317 k0_t14
  let c2_i32_1780 : BitVec 32 := 2#32
  let v2925 : BitVec 32 := Scalar.muli arg23 c2_i32_1780
  let v2926 : BitVec 32 := Scalar.addi c1_i32_1781 v2925
  let c1_i32_1782 : BitVec 32 := 1#32
  let v2927 : BitVec 32 := Scalar.addi v2926 c1_i32_1782
  let c8_i32_1787 : BitVec 32 := 8#32
  let v2935 : BitVec 32 := Scalar.muli v2927 c8_i32_1787
  v2935
@[reducible] def k0_t15_loop : Scf.Loop 32 :=
  let c0_i32_1350 : BitVec 32 := 0#32
  let c16_i32_1351 : BitVec 32 := 16#32
  let v2203 : BitVec 32 := Scalar.addi c0_i32_1350 c16_i32_1351
  let c1_i32_1352 : BitVec 32 := 1#32
  ⟨c0_i32_1350, v2203, c1_i32_1352⟩
def k0_mult43 (k0_t15 : Fin k0_t15_loop.trips) : BitVec 32 :=
  let c31_i32_1768 : BitVec 32 := 31#32
  let c0_i32_1766 : BitVec 32 := 0#32
  let c0_i32_1350 : BitVec 32 := 0#32
  let c1_i32_1352 : BitVec 32 := 1#32
  let arg23 : BitVec 32 := Scf.iv c0_i32_1350 c1_i32_1352 k0_t15
  let c2_i32 : BitVec 32 := 2#32
  let v2875 : BitVec 32 := Scalar.muli arg23 c2_i32
  let v2876 : BitVec 32 := Scalar.addi c0_i32_1766 v2875
  let c0_i32_1767 : BitVec 32 := 0#32
  let v2877 : BitVec 32 := Scalar.addi v2876 c0_i32_1767
  let v2878 : BitVec 32 := Scalar.subi c31_i32_1768 v2877
  let c8_i32 : BitVec 32 := 8#32
  let v2879 : BitVec 32 := Scalar.muli v2878 c8_i32
  v2879
def k0_off57 (k0_t15 : Fin k0_t15_loop.trips) (c0_i32_1767 : BitVec 32) : Fin 2 → Nat :=
  let c31_i32_1768 : BitVec 32 := 31#32
  let c0_i32_1766 : BitVec 32 := 0#32
  let c0_i32_1350 : BitVec 32 := 0#32
  let c1_i32_1352 : BitVec 32 := 1#32
  let arg23 : BitVec 32 := Scf.iv c0_i32_1350 c1_i32_1352 k0_t15
  let c2_i32 : BitVec 32 := 2#32
  let v2875 : BitVec 32 := Scalar.muli arg23 c2_i32
  let v2876 : BitVec 32 := Scalar.addi c0_i32_1766 v2875
  let v2877 : BitVec 32 := Scalar.addi v2876 c0_i32_1767
  let v2878 : BitVec 32 := Scalar.subi c31_i32_1768 v2877
  let c8_i32 : BitVec 32 := 8#32
  let v2879 : BitVec 32 := Scalar.muli v2878 c8_i32
  let v2880 : BitVec 32 := v2879
  let v2884 : Index := Scalar.indexCast v2880
  let c6656_1769 : Index := 6656#32
  ![v2884.toNat, 6656]
def k0_off58 (k0_t15 : Fin k0_t15_loop.trips) (c0_i32_1767 : BitVec 32) : Fin 2 → Nat :=
  let c31_i32_1768 : BitVec 32 := 31#32
  let c0_i32_1766 : BitVec 32 := 0#32
  let c0_i32_1350 : BitVec 32 := 0#32
  let c1_i32_1352 : BitVec 32 := 1#32
  let arg23 : BitVec 32 := Scf.iv c0_i32_1350 c1_i32_1352 k0_t15
  let c2_i32 : BitVec 32 := 2#32
  let v2875 : BitVec 32 := Scalar.muli arg23 c2_i32
  let v2876 : BitVec 32 := Scalar.addi c0_i32_1766 v2875
  let v2877 : BitVec 32 := Scalar.addi v2876 c0_i32_1767
  let v2878 : BitVec 32 := Scalar.subi c31_i32_1768 v2877
  let c8_i32 : BitVec 32 := 8#32
  let v2879 : BitVec 32 := Scalar.muli v2878 c8_i32
  let v2880 : BitVec 32 := v2879
  let v2890 : Index := Scalar.indexCast v2880
  let c7680_1770 : Index := 7680#32
  ![v2890.toNat, 7680]
def k0_mult44 (k0_t15 : Fin k0_t15_loop.trips) : BitVec 32 :=
  let c31_i32_1776 : BitVec 32 := 31#32
  let c0_i32_1774 : BitVec 32 := 0#32
  let c0_i32_1350 : BitVec 32 := 0#32
  let c1_i32_1352 : BitVec 32 := 1#32
  let arg23 : BitVec 32 := Scf.iv c0_i32_1350 c1_i32_1352 k0_t15
  let c2_i32_1773 : BitVec 32 := 2#32
  let v2901 : BitVec 32 := Scalar.muli arg23 c2_i32_1773
  let v2902 : BitVec 32 := Scalar.addi c0_i32_1774 v2901
  let c1_i32_1775 : BitVec 32 := 1#32
  let v2903 : BitVec 32 := Scalar.addi v2902 c1_i32_1775
  let v2904 : BitVec 32 := Scalar.subi c31_i32_1776 v2903
  let c8_i32_1777 : BitVec 32 := 8#32
  let v2905 : BitVec 32 := Scalar.muli v2904 c8_i32_1777
  v2905
@[reducible] def k0_t16_loop : Scf.Loop 32 :=
  let c0_i32_1464 : BitVec 32 := 0#32
  let c15_i32_1465 : BitVec 32 := 15#32
  let v2399 : BitVec 32 := Scalar.addi c0_i32_1464 c15_i32_1465
  let c1_i32_1466 : BitVec 32 := 1#32
  ⟨c0_i32_1464, v2399, c1_i32_1466⟩
def k0_mult45 (k0_t16 : Fin k0_t16_loop.trips) : BitVec 32 :=
  let c1_i32_1766 : BitVec 32 := 1#32
  let c0_i32_1464 : BitVec 32 := 0#32
  let c1_i32_1466 : BitVec 32 := 1#32
  let arg23 : BitVec 32 := Scf.iv c0_i32_1464 c1_i32_1466 k0_t16
  let c2_i32 : BitVec 32 := 2#32
  let v2875 : BitVec 32 := Scalar.muli arg23 c2_i32
  let v2876 : BitVec 32 := Scalar.addi c1_i32_1766 v2875
  let c0_i32_1767 : BitVec 32 := 0#32
  let v2877 : BitVec 32 := Scalar.addi v2876 c0_i32_1767
  let c1_i32_1768 : BitVec 32 := 1#32
  let v2878 : BitVec 32 := Scalar.subi v2877 c1_i32_1768
  let c8_i32 : BitVec 32 := 8#32
  let v2879 : BitVec 32 := Scalar.muli v2878 c8_i32
  v2879
def k0_off59 (k0_t16 : Fin k0_t16_loop.trips) (c0_i32_1767 : BitVec 32) : Fin 2 → Nat :=
  let c1_i32_1766 : BitVec 32 := 1#32
  let c0_i32_1464 : BitVec 32 := 0#32
  let c1_i32_1466 : BitVec 32 := 1#32
  let arg23 : BitVec 32 := Scf.iv c0_i32_1464 c1_i32_1466 k0_t16
  let c2_i32 : BitVec 32 := 2#32
  let v2875 : BitVec 32 := Scalar.muli arg23 c2_i32
  let v2876 : BitVec 32 := Scalar.addi c1_i32_1766 v2875
  let v2877 : BitVec 32 := Scalar.addi v2876 c0_i32_1767
  let c1_i32_1768 : BitVec 32 := 1#32
  let v2878 : BitVec 32 := Scalar.subi v2877 c1_i32_1768
  let c8_i32 : BitVec 32 := 8#32
  let v2879 : BitVec 32 := Scalar.muli v2878 c8_i32
  let v2880 : BitVec 32 := v2879
  let v2881 : Index := Scalar.indexCast v2880
  let c6656_1769 : Index := 6656#32
  ![v2881.toNat, 6656]
def k0_off60 (k0_t16 : Fin k0_t16_loop.trips) (c0_i32_1767 : BitVec 32) : Fin 2 → Nat :=
  let c1_i32_1766 : BitVec 32 := 1#32
  let c0_i32_1464 : BitVec 32 := 0#32
  let c1_i32_1466 : BitVec 32 := 1#32
  let arg23 : BitVec 32 := Scf.iv c0_i32_1464 c1_i32_1466 k0_t16
  let c2_i32 : BitVec 32 := 2#32
  let v2875 : BitVec 32 := Scalar.muli arg23 c2_i32
  let v2876 : BitVec 32 := Scalar.addi c1_i32_1766 v2875
  let v2877 : BitVec 32 := Scalar.addi v2876 c0_i32_1767
  let c1_i32_1768 : BitVec 32 := 1#32
  let v2878 : BitVec 32 := Scalar.subi v2877 c1_i32_1768
  let c8_i32 : BitVec 32 := 8#32
  let v2879 : BitVec 32 := Scalar.muli v2878 c8_i32
  let v2880 : BitVec 32 := v2879
  let v2883 : Index := Scalar.indexCast v2880
  let c7680_1770 : Index := 7680#32
  ![v2883.toNat, 7680]
def k0_mult46 (k0_t16 : Fin k0_t16_loop.trips) : BitVec 32 :=
  let c1_i32_1766 : BitVec 32 := 1#32
  let c0_i32_1464 : BitVec 32 := 0#32
  let c1_i32_1466 : BitVec 32 := 1#32
  let arg23 : BitVec 32 := Scf.iv c0_i32_1464 c1_i32_1466 k0_t16
  let c2_i32 : BitVec 32 := 2#32
  let v2875 : BitVec 32 := Scalar.muli arg23 c2_i32
  let v2876 : BitVec 32 := Scalar.addi c1_i32_1766 v2875
  let c0_i32_1767 : BitVec 32 := 0#32
  let v2877 : BitVec 32 := Scalar.addi v2876 c0_i32_1767
  let c8_i32_1771 : BitVec 32 := 8#32
  let v2885 : BitVec 32 := Scalar.muli v2877 c8_i32_1771
  v2885
def k0_off61 (k0_t16 : Fin k0_t16_loop.trips) (c0_i32_1767 : BitVec 32) : Fin 2 → Nat :=
  let c31_i32_1772 : BitVec 32 := 31#32
  let c1_i32_1766 : BitVec 32 := 1#32
  let c0_i32_1464 : BitVec 32 := 0#32
  let c1_i32_1466 : BitVec 32 := 1#32
  let arg23 : BitVec 32 := Scf.iv c0_i32_1464 c1_i32_1466 k0_t16
  let c2_i32 : BitVec 32 := 2#32
  let v2875 : BitVec 32 := Scalar.muli arg23 c2_i32
  let v2876 : BitVec 32 := Scalar.addi c1_i32_1766 v2875
  let v2877 : BitVec 32 := Scalar.addi v2876 c0_i32_1767
  let v2887 : BitVec 32 := Scalar.subi c31_i32_1772 v2877
  let v2888 : Index := Scalar.indexCast v2887
  let c6656_1773 : Index := 6656#32
  ![v2888.toNat, 6656]
def k0_off62 (k0_t16 : Fin k0_t16_loop.trips) (c0_i32_1767 : BitVec 32) : Fin 2 → Nat :=
  let c31_i32_1774 : BitVec 32 := 31#32
  let c1_i32_1766 : BitVec 32 := 1#32
  let c0_i32_1464 : BitVec 32 := 0#32
  let c1_i32_1466 : BitVec 32 := 1#32
  let arg23 : BitVec 32 := Scf.iv c0_i32_1464 c1_i32_1466 k0_t16
  let c2_i32 : BitVec 32 := 2#32
  let v2875 : BitVec 32 := Scalar.muli arg23 c2_i32
  let v2876 : BitVec 32 := Scalar.addi c1_i32_1766 v2875
  let v2877 : BitVec 32 := Scalar.addi v2876 c0_i32_1767
  let v2890 : BitVec 32 := Scalar.subi c31_i32_1774 v2877
  let v2891 : Index := Scalar.indexCast v2890
  let c7680_1775 : Index := 7680#32
  ![v2891.toNat, 7680]
def k0_off63 (k0_t16 : Fin k0_t16_loop.trips) (c0_i32_1767 : BitVec 32) : Fin 2 → Nat :=
  let c1_i32_1766 : BitVec 32 := 1#32
  let c0_i32_1464 : BitVec 32 := 0#32
  let c1_i32_1466 : BitVec 32 := 1#32
  let arg23 : BitVec 32 := Scf.iv c0_i32_1464 c1_i32_1466 k0_t16
  let c2_i32 : BitVec 32 := 2#32
  let v2875 : BitVec 32 := Scalar.muli arg23 c2_i32
  let v2876 : BitVec 32 := Scalar.addi c1_i32_1766 v2875
  let v2877 : BitVec 32 := Scalar.addi v2876 c0_i32_1767
  let c8_i32_1771 : BitVec 32 := 8#32
  let v2885 : BitVec 32 := Scalar.muli v2877 c8_i32_1771
  let v2886 : BitVec 32 := v2885
  let v2893 : Index := Scalar.indexCast v2886
  let c6656_1776 : Index := 6656#32
  ![v2893.toNat, 6656]
def k0_off64 (k0_t16 : Fin k0_t16_loop.trips) (c0_i32_1767 : BitVec 32) : Fin 2 → Nat :=
  let c1_i32_1766 : BitVec 32 := 1#32
  let c0_i32_1464 : BitVec 32 := 0#32
  let c1_i32_1466 : BitVec 32 := 1#32
  let arg23 : BitVec 32 := Scf.iv c0_i32_1464 c1_i32_1466 k0_t16
  let c2_i32 : BitVec 32 := 2#32
  let v2875 : BitVec 32 := Scalar.muli arg23 c2_i32
  let v2876 : BitVec 32 := Scalar.addi c1_i32_1766 v2875
  let v2877 : BitVec 32 := Scalar.addi v2876 c0_i32_1767
  let c8_i32_1771 : BitVec 32 := 8#32
  let v2885 : BitVec 32 := Scalar.muli v2877 c8_i32_1771
  let v2886 : BitVec 32 := v2885
  let v2901 : Index := Scalar.indexCast v2886
  let c7680_1777 : Index := 7680#32
  ![v2901.toNat, 7680]
def k0_mult47 (k0_t16 : Fin k0_t16_loop.trips) : BitVec 32 :=
  let c1_i32_1781 : BitVec 32 := 1#32
  let c0_i32_1464 : BitVec 32 := 0#32
  let c1_i32_1466 : BitVec 32 := 1#32
  let arg23 : BitVec 32 := Scf.iv c0_i32_1464 c1_i32_1466 k0_t16
  let c2_i32_1780 : BitVec 32 := 2#32
  let v2925 : BitVec 32 := Scalar.muli arg23 c2_i32_1780
  let v2926 : BitVec 32 := Scalar.addi c1_i32_1781 v2925
  let c1_i32_1782 : BitVec 32 := 1#32
  let v2927 : BitVec 32 := Scalar.addi v2926 c1_i32_1782
  let c1_i32_1783 : BitVec 32 := 1#32
  let v2928 : BitVec 32 := Scalar.subi v2927 c1_i32_1783
  let c8_i32_1784 : BitVec 32 := 8#32
  let v2929 : BitVec 32 := Scalar.muli v2928 c8_i32_1784
  v2929
def k0_mult48 (k0_t16 : Fin k0_t16_loop.trips) : BitVec 32 :=
  let c1_i32_1781 : BitVec 32 := 1#32
  let c0_i32_1464 : BitVec 32 := 0#32
  let c1_i32_1466 : BitVec 32 := 1#32
  let arg23 : BitVec 32 := Scf.iv c0_i32_1464 c1_i32_1466 k0_t16
  let c2_i32_1780 : BitVec 32 := 2#32
  let v2925 : BitVec 32 := Scalar.muli arg23 c2_i32_1780
  let v2926 : BitVec 32 := Scalar.addi c1_i32_1781 v2925
  let c1_i32_1782 : BitVec 32 := 1#32
  let v2927 : BitVec 32 := Scalar.addi v2926 c1_i32_1782
  let c8_i32_1787 : BitVec 32 := 8#32
  let v2935 : BitVec 32 := Scalar.muli v2927 c8_i32_1787
  v2935
def k0_cond2 (i : grid0.Coords) : BitVec 1 :=
  let arg0 : BitVec 32 := BitVec.ofNat 32 (i 0).val
  let c31_i32 : BitVec 32 := 31#32
  let v2872 : BitVec 1 := Scalar.cmpi .eq arg0 c31_i32
  let v2873 : BitVec 32 := Scalar.extui v2872
  let c0_i32_1765 : BitVec 32 := 0#32
  let v2874 : BitVec 1 := Scalar.cmpi .ne v2873 c0_i32_1765
  v2874

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2x4x256x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x4x256x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x8192 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Proof.Common.lean ====
/- What several of the value proofs share: a buffer filled by stores through literal rectangles, read at one index, and
   such a buffer read back by a load. -/
module

public import Idealize.ShloMosaic.Lib.Pointwise
public import Idealize.ShloMosaic.Lib.Pipeline.ValueKit.Point

@[expose] public section

noncomputable section

namespace Cert.Hand

open Idealize.ShloMosaic

variable {s : Shape} {e : EltTy} {Val : EltTy → Type} [∀ e, Nonempty (Val e)]

/-- An index inside the rectangle of the last store holds that store's value. -/
theorem canon_hit {off size : Fin s.rank → ℕ} {inb : ∀ a, off a + size a ≤ s.size a}
    {w : (Rect.unit off size inb).shape.Idx → Val e} {L : List (View.Piece Val s e)} {y : s.Idx}
    (x : (Rect.unit off size inb).shape.Idx) (h : ∀ a, (y a).val = off a + (x a).val) :
    View.canon (⟨Rect.unit off size inb, w⟩ :: L) y = w x := by
  have hy : (Rect.unit off size inb).emb x = y := funext fun a => Fin.ext (by
    rw [h a]; show off a + 1 * (x a).val = _; omega)
  rw [← hy, View.canon_cons_emb]

/-- An index outside the rectangle of the last store holds what was there before it. -/
theorem canon_miss {off size : Fin s.rank → ℕ} {inb : ∀ a, off a + size a ≤ s.size a}
    {w : (Rect.unit off size inb).shape.Idx → Val e} {L : List (View.Piece Val s e)} {y : s.Idx}
    (a : Fin s.rank) (h : (y a).val < off a ∨ off a + size a ≤ (y a).val) :
    View.canon (⟨Rect.unit off size inb, w⟩ :: L) y = View.canon L y :=
  View.canon_cons_of_not_mem _ _ fun hm => by
    have := (Rect.mem_set_unit (inb := inb)).mp hm a
    omega

/-- A load through a rectangle of a buffer filled by stores, at one index. -/
theorem readCov_at {sig : RefSig} {κ : Kind} {sp : Space} (v : View sig κ sp s e) (L : List (View.Piece Val s e))
    {off size : Fin s.rank → ℕ} {inb : ∀ a, off a + size a ≤ s.size a} (x : (Rect.unit off size inb).shape.Idx) :
    v.readCov L (Rect.unit off size inb).toLoadRect x = View.canon L ((Rect.unit off size inb).idx x) := by
  rw [View.readCov_eq_canon']

/-- A whole buffer holding `X` reads `X`. -/
theorem whole_read_unread {sig : RefSig} {κ : Kind} (b : Ref sig κ) (h : (Memref.whole b).IsWhole)
    (X : b.ty.shape.Idx → Val b.ty.elt) : View.read Val (View.whole b) (h.unread X) = X := h.read_unread X

/-- An index of a literal shape of rank two, given by its coordinates. -/
theorem idx2_eq {n₀ n₁ : ℕ} (i : (⟨2, ![n₀, n₁]⟩ : Shape).Idx) : i = ix2 (i 0) (i 1) :=
  funext fun a => by match a with | ⟨0, _⟩ => rfl | ⟨1, _⟩ => rfl

/-- A row of a matrix, loaded. -/
theorem ld_row {a b o : ℕ} (X : (⟨2, ![a, b]⟩ : Shape).Idx → Val e) (inb) (k : Fin b) (h : o < a) :
    View.ld X (Rect.unit (s := ⟨2, ![a, b]⟩) ![o, 0] ![1, b] inb) (ix2 0 k) = X (ix2 ⟨o, h⟩ k) :=
  View.ld_unit_apply_of _ _ _ _ _ (ix2 _ k) (fun a => by match a with | ⟨0, _⟩ => rfl | ⟨1, _⟩ => exact (Nat.zero_add _).symm)

theorem box_hit {a b o : ℕ} {inb}
    {w : (Rect.unit (s := ⟨2, ![a, b]⟩) ![o, 0] ![1, b] inb).shape.Idx → Val e} {L : List (View.Piece Val ⟨2, ![a, b]⟩ e)}
    (r : Fin a) (k : Fin b) (h : r.val = o) :
    View.canon (⟨Rect.unit (s := ⟨2, ![a, b]⟩) ![o, 0] ![1, b] inb, w⟩ :: L) (ix2 r k) = w (ix2 0 k) := by
  rw [canon_hit (ix2 0 k) (fun a => by match a with | ⟨0, _⟩ => exact h | ⟨1, _⟩ => exact (Nat.zero_add _).symm)]

theorem box_miss {a b o : ℕ} {inb}
    {w : (Rect.unit (s := ⟨2, ![a, b]⟩) ![o, 0] ![1, b] inb).shape.Idx → Val e} {L : List (View.Piece Val ⟨2, ![a, b]⟩ e)}
    (r : Fin a) (k : Fin b) (h : r.val < o ∨ o + 1 ≤ r.val) :
    View.canon (⟨Rect.unit (s := ⟨2, ![a, b]⟩) ![o, 0] ![1, b] inb, w⟩ :: L) (ix2 r k) = View.canon L (ix2 r k) :=
  canon_miss 0 h

theorem box_read {a b o : ℕ} {sig : RefSig} {κ : Kind} {sp : Space}
    (v : View sig κ sp ⟨2, ![a, b]⟩ e) (L : List (View.Piece Val ⟨2, ![a, b]⟩ e)) (inb) (r : Fin a) (k : Fin b) (h : r.val = o) :
    v.readCov L (Rect.unit (s := ⟨2, ![a, b]⟩) ![o, 0] ![1, b] inb).toLoadRect (ix2 0 k) = View.canon L (ix2 r k) := by
  rw [readCov_at]
  exact congrArg _ (funext fun a => Fin.ext (by match a with | ⟨0, _⟩ => rw [Rect.idx_unit_val]; exact h.symm | ⟨1, _⟩ => rw [Rect.idx_unit_val]; exact Nat.zero_add _))

theorem cleared {n N : ℕ} {inb} {w : (Rect.unit (s := ⟨2, ![n, N]⟩) ![0, 0] ![n, N] inb).shape.Idx → Val e}
    {L : List (View.Piece Val ⟨2, ![n, N]⟩ e)} (r : Fin n) (j : Fin N) :
    View.canon (⟨Rect.unit (s := ⟨2, ![n, N]⟩) ![0, 0] ![n, N] inb, w⟩ :: L) (ix2 r j) = w (ix2 r j) := by
  rw [canon_hit (ix2 r j) (fun a => by match a with | ⟨0, _⟩ => exact (Nat.zero_add _).symm | ⟨1, _⟩ => exact (Nat.zero_add _).symm)]

/-- A store over the whole of a matrix. -/
theorem stored {off : Fin 2 → ℕ} {a b : ℕ} (h0 : off = ![0, 0]) {inb : ∀ d, off d + (![a, b] : Fin 2 → ℕ) d ≤ (⟨2, ![a, b]⟩ : Shape).size d}
    {w : (Rect.unit (s := ⟨2, ![a, b]⟩) off ![a, b] inb).shape.Idx → Val e} {L : List (View.Piece Val ⟨2, ![a, b]⟩ e)} (r : Fin a) (k : Fin b) :
    View.canon (⟨Rect.unit (s := ⟨2, ![a, b]⟩) off ![a, b] inb, w⟩ :: L) (ix2 r k) = w (ix2 r k) := by
  subst h0; exact cleared r k

theorem by_rows {T : Type} {a b : ℕ} {f g : (⟨2, ![a, b]⟩ : Shape).Idx → T} (h : ∀ (r : Fin a) (j : Fin b), f (ix2 r j) = g (ix2 r j)) : f = g :=
  funext fun i => by rw [idx2_eq i]; exact h _ _

end Cert.Hand

end
-- ==== Proof.InWValue.lean ====
module

public import proofs.«01_k».proof.Proof.Common
public import proofs.«01_k».proof.Proof.Gen.InWIdeal.Frame
public import proofs.«01_k».proof.Proof.Gen.InWRefIdeal.Run
public import proofs.«01_k».proof.Proof.Gen.InWRefIdeal.Read

@[expose] public section

set_option maxRecDepth 16384

noncomputable section

namespace Cert.InWIdeal.Hand

open Idealize.ShloMosaic Idealize.ShloMosaic.TcCoe Idealize.SL.Sem
open Cert.InWIdeal Cert.InWIdeal.Gen Cert.Hand

/-- The normalised, modulated row that enters the product, at row `r` and column `k`. -/
def modRow {n : ℕ} (x : (⟨2, ![n, 1024]⟩ : Shape).Idx → EReal) (mod : S3x1024.Idx → EReal) (w : S1x1024.Idx → EReal)
    (r : Fin n) (k : Fin 1024) : EReal :=
  x (ix2 r k) * Ideal.rsqrt (Ideal.div (∑ l : Fin 1024, x (ix2 r l) * x (ix2 r l)) (Ideal.ofBits .f32 0x44800000#32) + Ideal.ofBits .f32 0x358637BD#32)
    * w (ix2 0 k) * (1 + mod (ix2 1 k)) + mod (ix2 0 k)

/-- The two gradients side by side, at row `r` and column `j`. -/
def pair {n : ℕ} (a b : (⟨2, ![n, 2048]⟩ : Shape).Idx → EReal) (r : Fin n) (j : Fin 4096) : EReal :=
  if h : j.val < 2048 then a (ix2 r ⟨j.val, h⟩) else b (ix2 r ⟨j.val - 2048, by omega⟩)

theorem pay4_apply (x : Vec Ideal S512x1024 .f32) (mod : Vec Ideal S3x1024 .f32) (w : Vec Ideal S1x1024 .f32) (r : Fin 512) (k : Fin 1024) :
    k0_pay4 x mod w (ix2 r k) = modRow x mod w r k := by
  pointwise [k0_pay4, modRow]

/-- One block of rows' share of the product. -/
def part {n : ℕ} (x : (⟨2, ![n, 1024]⟩ : Shape).Idx → EReal) (mod : S3x1024.Idx → EReal) (w : S1x1024.Idx → EReal)
    (a b : (⟨2, ![n, 2048]⟩ : Shape).Idx → EReal) (k : Fin 1024) (j : Fin 4096) : EReal :=
  ∑ r : Fin n, modRow x mod w r k * pair a b r j

variable (m : (ℓ : Loc nD τ sig) → Buf (Elt Ideal) ℓ) (c : Dev nD)

/-- What the accumulator gains at point `t`. -/
def term (t : Fin cfg0.N) (i : S1024x4096.Idx) : EReal :=
  part (n := 512) (iblk m c 0 t) (iblk m c 3 t) (iblk m c 4 t) (iblk m c 1 t) (iblk m c 2 t) (i 0) (i 1)

theorem pay5_apply (x : Vec Ideal S512x1024 .f32) (mod : Vec Ideal S3x1024 .f32) (w : Vec Ideal S1x1024 .f32)
    (acc : Vec Ideal S1024x2048 .f32) (a : Vec Ideal S512x2048 .bf16) (k : Fin 1024) (j : Fin 2048) :
    k0_pay5 x mod w acc a (ix2 k j) = acc (ix2 k j) + ∑ r : Fin 512, modRow x mod w r k * a (ix2 r j) := by
  pointwise [k0_pay5]
  simp only [pay4_apply]

theorem pay1_apply (x : Vec Ideal S512x1024 .f32) (mod : Vec Ideal S3x1024 .f32) (w : Vec Ideal S1x1024 .f32)
    (acc : Vec Ideal S1024x2048 .f32) (a : Vec Ideal S512x2048 .bf16) (k : Fin 1024) (j : Fin 2048) :
    k0_pay1 (k0_pay4 x mod w) acc a (ix2 k j) = acc (ix2 k j) + ∑ r : Fin 512, modRow x mod w r k * a (ix2 r j) := by
  pointwise [k0_pay1]
  simp only [pay4_apply]

theorem pay3_apply (i : S1024x4096.Idx) : k0_pay3 (F := Ideal) i = 0 := by
  pointwise [k0_pay3]

theorem part_left {n : ℕ} (x : (⟨2, ![n, 1024]⟩ : Shape).Idx → EReal) (mod : S3x1024.Idx → EReal) (w : S1x1024.Idx → EReal)
    (a b : (⟨2, ![n, 2048]⟩ : Shape).Idx → EReal) (k : Fin 1024) (j : Fin 4096) (h : j.val < 2048) :
    part x mod w a b k j = ∑ r : Fin n, modRow x mod w r k * a (ix2 r ⟨j.val, h⟩) := by
  unfold part pair; simp only [dif_pos h]

theorem part_right {n : ℕ} (x : (⟨2, ![n, 1024]⟩ : Shape).Idx → EReal) (mod : S3x1024.Idx → EReal) (w : S1x1024.Idx → EReal)
    (a b : (⟨2, ![n, 2048]⟩ : Shape).Idx → EReal) (k : Fin 1024) (j : Fin 4096) (h : ¬j.val < 2048) :
    part x mod w a b k j = ∑ r : Fin n, modRow x mod w r k * b (ix2 r ⟨j.val - 2048, by omega⟩) := by
  unfold part pair; simp only [dif_neg h]

theorem outA (t : Fin cfg0.N) (h0 : t.val % 16 = 0) (h1 : ¬t.val % 16 = 15) (i : S1024x4096.Idx) :
    (outsAt0 m c t.val t.isLt).2 i = 0 + term m c t i := by
  rw [outsAt0_A m c t h0 h1]
  frame_out
  obtain ⟨k, j, rfl⟩ : ∃ k j, i = ix2 k j := ⟨_, _, idx2_eq i⟩
  show _ = 0 + part _ _ _ _ _ k j
  by_cases hj : j.val < 2048
  · rw [canon_miss 1 (Or.inl hj), canon_hit (ix2 k ⟨j.val, hj⟩) (fun a => by match a with | ⟨0, _⟩ => exact (Nat.zero_add _).symm | ⟨1, _⟩ => exact (Nat.zero_add _).symm)]
    rw [pay5_apply, part_left _ _ _ _ _ _ _ hj, readCov_at, canon_hit (ix2 k j) (fun a => by match a with | ⟨0, _⟩ => rw [Rect.idx_unit_val]; rfl | ⟨1, _⟩ => rw [Rect.idx_unit_val]; rfl), pay3_apply]
  · have hj' : j.val = 2048 + (j.val - 2048) := by omega
    rw [canon_hit (ix2 k ⟨j.val - 2048, by omega⟩) (fun a => by match a with | ⟨0, _⟩ => exact (Nat.zero_add _).symm | ⟨1, _⟩ => exact hj')]
    rw [pay1_apply, part_right _ _ _ _ _ _ _ hj, readCov_at, canon_miss 1 (by rw [Rect.idx_unit_val]; exact Or.inr (Nat.le_add_right _ _)),
      canon_hit (ix2 k j) (fun a => by match a with | ⟨0, _⟩ => rw [Rect.idx_unit_val]; rfl | ⟨1, _⟩ => rw [Rect.idx_unit_val]; show 2048 + (j.val - 2048) = 0 + j.val; omega), pay3_apply]

theorem outBC (t : Fin cfg0.N) (h0 : ¬t.val % 16 = 0) (i : S1024x4096.Idx) :
    (outsAt0 m c t.val t.isLt).2 i = (outsAt0 m c (t.val - 1) (Nat.lt_of_le_of_lt (Nat.sub_le _ _) t.isLt)).2 i + term m c t i := by
  obtain ⟨k, j, rfl⟩ : ∃ k j, i = ix2 k j := ⟨_, _, idx2_eq i⟩
  show _ = _ + part _ _ _ _ _ k j
  by_cases h1 : t.val % 16 = 15
  on_goal 1 => rw [outsAt0_C m c t h0 h1]
  on_goal 2 => rw [outsAt0_B m c t h0 h1]
  all_goals
    frame_out
    by_cases hj : j.val < 2048
    · rw [canon_miss 1 (Or.inl hj), canon_hit (ix2 k ⟨j.val, hj⟩) (fun a => by match a with | ⟨0, _⟩ => exact (Nat.zero_add _).symm | ⟨1, _⟩ => exact (Nat.zero_add _).symm)]
      rw [pay5_apply, part_left _ _ _ _ _ _ _ hj, whole_read_unread, View.ld_unit_apply_of _ _ _ _ _ (ix2 k j) (fun a => by match a with | ⟨0, _⟩ => exact (Nat.zero_add _).symm | ⟨1, _⟩ => exact (Nat.zero_add _).symm)]
    · have hj' : j.val = 2048 + (j.val - 2048) := by omega
      rw [canon_hit (ix2 k ⟨j.val - 2048, by omega⟩) (fun a => by match a with | ⟨0, _⟩ => exact (Nat.zero_add _).symm | ⟨1, _⟩ => exact hj')]
      rw [pay1_apply, part_right _ _ _ _ _ _ _ hj, whole_read_unread, View.ld_unit_apply_of _ _ _ _ _ (ix2 k j) (fun a => by match a with | ⟨0, _⟩ => exact (Nat.zero_add _).symm | ⟨1, _⟩ => exact hj')]

theorem total (i : S1024x4096.Idx) :
    (outsAt0 m c t0_15.val t0_15.isLt).2 i = ∑ p : Fin cfg0.N, term m c p i := by
  rw [Pipeline.eq_sum_fin_of_reset_step_apply_last (fun n h => (outsAt0 m c n h).2) 16 (fun _ => 0) (term m c)
    (fun t h i => outA m c t h (by omega) i) (fun t h i => outBC m c t h i) (le_of_eq N_0) t0_15 N_0.symm i, zero_add]

theorem result : (dats m 0 c).arrAt 5 cfg0.N = fun i => ∑ p : Fin cfg0.N, term m c p i := by
  refine (dats m 0 c).arrAt_eq_of_after_last 5 t0_15 (by decide +kernel) _ fun i => ?_
  refine Eq.trans ?_ (total m c i)
  show (dats m 0 c).after 5 t0_15 _ = _
  rw [after0_5, outsAt0_C m c t0_15 (by decide) (by decide)]
  frame_out
  show k0_pay2 _ i = _
  pointwise [k0_pay2]
  rw [readCov_at]
  exact congrArg _ (funext fun a => Fin.ext (by match a with | ⟨0, _⟩ => rw [Rect.idx_unit_val]; exact Nat.zero_add _ | ⟨1, _⟩ => rw [Rect.idx_unit_val]; exact Nat.zero_add _))

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)

theorem term_sum (k : Fin 1024) (j : Fin 4096) :
    ∑ p : Fin cfg0.N, term m c p (ix2 k j)
      = part (n := 8192) (m ((c : Thread nD τ).loc main_arg0)) (m ((c : Thread nD τ).loc main_arg3)) (m ((c : Thread nD τ).loc main_arg4))
          (m ((c : Thread nD τ).loc main_arg1)) (m ((c : Thread nD τ).loc main_arg2)) k j := by
  show (∑ t : Fin cfg0.N, ∑ r : Fin 512, modRow (iblk m c 0 t) (iblk m c 3 t) (iblk m c 4 t) r k * pair (iblk m c 1 t) (iblk m c 2 t) r j) = _
  refine Fin.sum_mul_add_congr (fun t r hl => ?_) (by rw [show cfg0.N = 16 from N_0])
  unfold modRow pair
  blk_point [iblk, V, index0 t, index1 t, index2 t, index3 t, index4 t]

theorem ref_row (x : S8192x1024.Idx → EReal) (mod : S3x1024.Idx → EReal) (w : S1x1024.Idx → EReal) (r : Fin 8192) (k : Fin 1024) :
    Cert.InWRefIdeal.Read.val_main_v25 (F := Ideal) x mod w (ix2 r k) = modRow x mod w r k := by
  simp only [InWRefIdeal.Read.val_main_v25, InWRefIdeal.Read.val_main_v24, InWRefIdeal.Read.val_main_v23, InWRefIdeal.Read.val_main_v22, InWRefIdeal.Read.val_main_v21, InWRefIdeal.Read.val_main_v20, InWRefIdeal.Read.val_main_v19, InWRefIdeal.Read.val_main_v18, InWRefIdeal.Read.val_main_v17, InWRefIdeal.Read.val_main_v16, InWRefIdeal.Read.val_main_v15,
    InWRefIdeal.Read.val_main_v14, InWRefIdeal.Read.val_main_v13, InWRefIdeal.Read.val_main_v12, InWRefIdeal.Read.val_main_v11, InWRefIdeal.Read.val_main_v10, InWRefIdeal.Read.val_main_v9, InWRefIdeal.Read.val_main_v8, InWRefIdeal.Read.val_main_v7, InWRefIdeal.Read.val_main_v6, InWRefIdeal.Read.val_main_cst, InWRefIdeal.Read.val_main_cst_0, InWRefIdeal.Read.val_main_cst_1, InWRefIdeal.Read.val_main_cst_2]
  pointwise [modRow]

theorem ref_pair (a b : S8192x2048.Idx → EReal) (r : Fin 8192) (j : Fin 4096) :
    Cert.InWRefIdeal.Read.val_main_v2 (F := Ideal) a b (ix2 r j) = pair a b r j := by
  simp only [InWRefIdeal.Read.val_main_v2, InWRefIdeal.Read.val_main_v1, InWRefIdeal.Read.val_main_v0]
  pointwise [pair]

theorem ref_apply (x : S8192x1024.Idx → EReal) (a b : S8192x2048.Idx → EReal) (mod : S3x1024.Idx → EReal) (w : S1x1024.Idx → EReal) (k : Fin 1024) (j : Fin 4096) :
    Cert.InWRefIdeal.Read.val_main_v29 (F := Ideal) x a b mod w (ix2 k j) = part x mod w a b k j := by
  rw [InWRefIdeal.Read.val_main_v29_apply, InWRefIdeal.Read.val_main_v28_apply, InWRefIdeal.Read.val_main_v27_apply]
  refine Finset.sum_congr rfl fun r _ => ?_
  rw [mul_comm, show InWRefIdeal.Read.lidx_main_v27 (InWRefIdeal.Read.idx_main_v28 (ix2 k j)) r = ix2 r j from idx2_eq _,
    show InWRefIdeal.Read.ridx_main_v27 (InWRefIdeal.Read.idx_main_v28 (ix2 k j)) r = ix2 r k from idx2_eq _, ref_row, ref_pair]

/-- The two results are one function. -/
theorem tie : (dats m 0 c).arrAt 5 cfg0.N = Cert.InWRefIdeal.Read.val_main_v29 (F := Ideal) (m ((c : Thread nD τ).loc main_arg0))
    (m ((c : Thread nD τ).loc main_arg1)) (m ((c : Thread nD τ).loc main_arg2)) (m ((c : Thread nD τ).loc main_arg3)) (m ((c : Thread nD τ).loc main_arg4)) := by
  rw [result]
  funext i
  obtain ⟨k, j, rfl⟩ : ∃ k j, i = ix2 k j := ⟨_, _, idx2_eq i⟩
  exact (term_sum m c k j).trans (ref_apply _ _ _ _ _ k j).symm

end Cert.InWIdeal.Hand

end
-- ==== Proof.Reals.lean ====
/- Extended reals that are real numbers: what keeps them so, and the sums over them. -/
module

public import Idealize.ShloMosaic.Lib.Pointwise

@[expose] public section

noncomputable section

namespace Cert.Hand

open Idealize.ShloMosaic

/-- `x` is a real number. -/
def IsReal (x : EReal) : Prop := ∃ r : ℝ, x = r

namespace IsReal

theorem coe (r : ℝ) : IsReal (r : EReal) := ⟨r, rfl⟩
theorem zero : IsReal 0 := ⟨0, rfl⟩
theorem one : IsReal 1 := ⟨1, rfl⟩
theorem add {x y : EReal} (hx : IsReal x) (hy : IsReal y) : IsReal (x + y) := by
  obtain ⟨a, rfl⟩ := hx; obtain ⟨b, rfl⟩ := hy; exact ⟨a + b, by norm_cast⟩
theorem mul {x y : EReal} (hx : IsReal x) (hy : IsReal y) : IsReal (x * y) := by
  obtain ⟨a, rfl⟩ := hx; obtain ⟨b, rfl⟩ := hy; exact ⟨a * b, by norm_cast⟩
theorem sub {x y : EReal} (hx : IsReal x) (hy : IsReal y) : IsReal (x - y) := by
  obtain ⟨a, rfl⟩ := hx; obtain ⟨b, rfl⟩ := hy; exact ⟨a - b, by norm_cast⟩
theorem neg {x : EReal} (hx : IsReal x) : IsReal (-x) := by
  obtain ⟨a, rfl⟩ := hx; exact ⟨-a, by norm_cast⟩
theorem sum {ι : Type*} (s : Finset ι) {f : ι → EReal} (h : ∀ i ∈ s, IsReal (f i)) : IsReal (∑ i ∈ s, f i) := by
  classical
  induction s using Finset.induction_on with
  | empty => exact zero
  | insert a s ha ih =>
    rw [Finset.sum_insert ha]
    exact (h a (Finset.mem_insert_self a s)).add (ih fun i hi => h i (Finset.mem_insert_of_mem hi))
theorem exp {x : EReal} (hx : IsReal x) : IsReal (Ideal.exp x) := by
  obtain ⟨a, rfl⟩ := hx; exact ⟨Real.exp a, rfl⟩
theorem tanh {x : EReal} (hx : IsReal x) : IsReal (Ideal.tanh x) := by
  obtain ⟨a, rfl⟩ := hx; exact ⟨Real.tanh a, rfl⟩

end IsReal

/-- A quotient of real numbers, the divisor not zero. -/
theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem IsReal.div {x y : EReal} (hx : IsReal x) (hy : IsReal y) (h : y ≠ 0) : IsReal (Ideal.div x y) := by
  obtain ⟨a, rfl⟩ := hx; obtain ⟨b, rfl⟩ := hy
  exact ⟨a / b, div_coe a b (by exact_mod_cast h)⟩

/-- The logistic function of a real number. -/
theorem logistic_coe (a : ℝ) : Ideal.logistic (a : EReal) = ((1 / (1 + Real.exp (-a)) : ℝ) : EReal) := by
  unfold Ideal.logistic
  rw [show -(a : EReal) = ((-a : ℝ) : EReal) by norm_cast, show Ideal.exp ((-a : ℝ) : EReal) = ((Real.exp (-a) : ℝ) : EReal) from rfl,
    show (1 : EReal) + ((Real.exp (-a) : ℝ) : EReal) = ((1 + Real.exp (-a) : ℝ) : EReal) by norm_cast]
  exact div_coe 1 _ (by positivity)

theorem IsReal.logistic {x : EReal} (hx : IsReal x) : IsReal (Ideal.logistic x) := by
  obtain ⟨a, rfl⟩ := hx; exact ⟨_, logistic_coe a⟩

/-- A finite sum of real numbers. -/
theorem coe_sum {ι : Type*} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- A real factor enters a sum of real numbers. -/
theorem sum_mul_real {ι : Type*} (s : Finset ι) {f : ι → EReal} (hf : ∀ i, IsReal (f i)) {c : EReal} (hc : IsReal c) :
    (∑ i ∈ s, f i) * c = ∑ i ∈ s, f i * c := by
  choose a ha using hf; obtain ⟨b, rfl⟩ := hc
  simp only [ha]
  rw [← coe_sum, ← EReal.coe_mul, Finset.sum_mul, coe_sum]
  simp only [EReal.coe_mul]

/-- A left fold of sums from `v`. -/
theorem foldl_add_eq_sum {n : ℕ} (f : Fin n → EReal) (v : EReal) :
    (List.finRange n).foldl (fun r i => r + f i) v = v + ∑ i, f i := by
  have h : ∀ (l : List (Fin n)) (v : EReal), l.foldl (fun r i => r + f i) v = v + (l.map f).sum := by
    intro l
    induction l with
    | nil => intro v; simp
    | cons a l ih => intro v; rw [List.foldl_cons, ih, List.map_cons, List.sum_cons, add_assoc]
  rw [h, Fin.sum_univ_def]

/-- Differences of a sequence that ends, `w` apart, summed from `r` on: the window's sum. -/
theorem sum_lag (Q : ℕ → EReal) (hQ : ∀ i, IsReal (Q i)) (N w r : ℕ) (hw : w ≤ N) (h0 : ∀ i, N ≤ i → Q i = 0) :
    ∑ i ∈ Finset.range N, (Q (r + i) + -Q (r + i + w)) = ∑ i ∈ Finset.range w, Q (r + i) := by
  choose q hq using hQ
  have hq0 : ∀ i, N ≤ i → q i = 0 := fun i hi => by have := h0 i hi; rw [hq] at this; exact_mod_cast this
  simp only [hq]
  rw [← coe_sum, Finset.sum_congr rfl (fun i _ => show ((q (r + i) : ℝ) : EReal) + -((q (r + i + w) : ℝ) : EReal) = ((q (r + i) - q (r + i + w) : ℝ) : EReal) by norm_cast),
    ← coe_sum]
  congr 1
  rw [Finset.sum_sub_distrib]
  obtain ⟨d, rfl⟩ := Nat.exists_eq_add_of_le hw
  rw [Finset.sum_range_add, Nat.add_comm w d, Finset.sum_range_add (fun i => q (r + i + w)) d w]
  rw [Finset.sum_eq_zero (s := Finset.range w) (f := fun i => q (r + (d + i) + w)) (fun i _ => hq0 _ (by omega)), add_zero]
  rw [Finset.sum_congr rfl (fun i _ => show q (r + (w + i)) = q (r + i + w) by congr 1; omega)]
  ring

/-- A number whose absolute value is below infinity is finite. -/
theorem real_of_lt {x : EReal} (h : max x (-x) < (⊤ : EReal)) : IsReal x :=
  ⟨x.toReal, (EReal.coe_toReal (fun e => by simp [e] at h) (fun e => by simp [e] at h)).symm⟩

/-- The same of the comparison a program makes. -/
theorem real_of_cmp {x : EReal} (h : Ideal.cmp .olt (max x (-x)) (Ideal.ofBits .f32 0x7F800000#32) = 1#1) : IsReal x := by
  have ht : Ideal.ofBits .f32 0x7F800000#32 = (⊤ : EReal) := by simp [Ideal.ofBits, Ideal.ieee]
  rw [ht] at h
  by_contra hx
  have : ¬ max x (-x) < (⊤ : EReal) := fun h' => hx (real_of_lt h')
  simp [Ideal.cmp, this] at h

end Cert.Hand
end
-- ==== Proof.PoolBlock.lean ====
module

public import proofs.«01_k».proof.Proof.Common
public import proofs.«01_k».proof.Proof.Gen.PoolIdeal.Frame

@[expose] public section

set_option maxRecDepth 16384

noncomputable section

namespace Cert.PoolIdeal.Hand

open Idealize.ShloMosaic Idealize.ShloMosaic.TcCoe Idealize.SL.Sem
open Cert.PoolIdeal Cert.PoolIdeal.Gen Cert.Hand

/-- Column `k` of channel group `g`. -/
def col (g : Fin 4) (k : Fin 256) : Fin 1024 := ⟨g.val * 256 + k.val, by have := g.isLt; have := k.isLt; omega⟩

/-- The group's mixture of the pooled channels, at row `r` and channel `k`. -/
def mixed {n : ℕ} (pl : (⟨2, ![n, 1024]⟩ : Shape).Idx → EReal) (pw : S4x256x256.Idx → EReal) (r : Fin n) (g : Fin 4) (k : Fin 256) : EReal :=
  ∑ l : Fin 256, pl (ix2 r (col g l)) * pw (ix3 g l k)

/-- The gradient that reaches the scaled mixture. -/
def dms {n : ℕ} (z dy : (⟨2, ![n, 1024]⟩ : Shape).Idx → EReal) (r : Fin n) (k : Fin 1024) : EReal :=
  dy (ix2 r k) * (z (ix2 r k) * Ideal.logistic (z (ix2 r k)))

/-- The gradient of the gate's argument. -/
def dgate {n : ℕ} (z dy : (⟨2, ![n, 1024]⟩ : Shape).Idx → EReal) (pl : (⟨2, ![n, 1024]⟩ : Shape).Idx → EReal) (pw : S4x256x256.Idx → EReal)
    (ps : S1x1024.Idx → EReal) (r : Fin n) (g : Fin 4) (k : Fin 256) : EReal :=
  dy (ix2 r (col g k)) * (mixed pl pw r g k * ps (ix2 0 (col g k)))
    * (Ideal.logistic (z (ix2 r (col g k))) * (1 + z (ix2 r (col g k)) * (1 - Ideal.logistic (z (ix2 r (col g k))))))

/-- The gradient of the group's pooled channels. -/
def dpool {n : ℕ} (z dy : (⟨2, ![n, 1024]⟩ : Shape).Idx → EReal) (pw : S4x256x256.Idx → EReal)
    (ps : S1x1024.Idx → EReal) (r : Fin n) (g : Fin 4) (k : Fin 256) : EReal :=
  ∑ d : Fin 256, dms z dy r (col g d) * ps (ix2 0 (col g d)) * pw (ix3 g k d)

/-- The group's window. -/
def window (g : Fin 4) : EReal :=
  match g with
  | 0 => Ideal.ofBits .f32 0x40000000#32
  | 1 => Ideal.ofBits .f32 0x40800000#32
  | 2 => Ideal.ofBits .f32 0x41000000#32
  | 3 => Ideal.ofBits .f32 0x41800000#32

/-- The gradient of a running total: the pooled gradient over the number of rows averaged. -/
def ratio {n : ℕ} (z dy : (⟨2, ![n, 1024]⟩ : Shape).Idx → EReal) (pw : S4x256x256.Idx → EReal)
    (ps : S1x1024.Idx → EReal) (pos : Fin n → EReal) (r : Fin n) (g : Fin 4) (k : Fin 256) : EReal :=
  dpool z dy pw ps r g k * Ideal.div 1 (min (pos r) (window g))

theorem pos_word (t : Fin 8) (r : Fin 1024) :
    ((7#32 - BitVec.ofNat 32 t.val) * 1024#32 + BitVec.ofNat 32 r.val + 1#32).toInt = ((7 - t.val) * 1024 + r.val + 1 : ℕ) := by
  have := t.isLt; have := r.isLt
  have e : ((7#32 - BitVec.ofNat 32 t.val) * 1024#32 + BitVec.ofNat 32 r.val + 1#32).toNat = (7 - t.val) * 1024 + r.val + 1 := by
    simp only [BitVec.toNat_add, BitVec.toNat_mul, BitVec.toNat_sub, BitVec.toNat_ofNat]; omega
  rw [BitVec.toInt_eq_toNat_of_lt (by rw [e]; omega), e]

/-- Row `r` of block `t`, counted from one: blocks are walked from the last. -/
def posOf (t : Fin 8) (r : Fin 1024) : EReal := (((7 - t.val) * 1024 + r.val + 1 : ℕ) : ℝ)

theorem pay5_apply (i : grid0.Coords) (r : Fin 1024) :
    k0_pay5 (F := Ideal) i (ix2 r 0) = posOf (i 0) r := by
  pointwise [k0_pay5]
  have := pos_word (i 0) r
  show ((((7#32 - BitVec.ofNat 32 (i 0).val) * 1024#32 + BitVec.ofNat 32 r.val + 1#32).toInt : ℝ) : EReal) = _
  rw [this]; rfl

theorem pay6_apply (i : grid0.Coords) (r : Fin 1024) : k0_pay6 (F := Ideal) i (ix2 r 0) = Ideal.div 1 (min (posOf (i 0) r) (window 0)) := by
  pointwise [k0_pay6]; rw [pay5_apply]; rfl
theorem pay7_apply (i : grid0.Coords) (r : Fin 1024) : k0_pay7 (F := Ideal) i (ix2 r 0) = Ideal.div 1 (min (posOf (i 0) r) (window 1)) := by
  pointwise [k0_pay7]; rw [pay5_apply]; rfl
theorem pay8_apply (i : grid0.Coords) (r : Fin 1024) : k0_pay8 (F := Ideal) i (ix2 r 0) = Ideal.div 1 (min (posOf (i 0) r) (window 2)) := by
  pointwise [k0_pay8]; rw [pay5_apply]; rfl
theorem pay9_apply (i : grid0.Coords) (r : Fin 1024) : k0_pay9 (F := Ideal) i (ix2 r 0) = Ideal.div 1 (min (posOf (i 0) r) (window 3)) := by
  pointwise [k0_pay9]; rw [pay5_apply]; rfl

theorem col0 (k : Fin 256) (h : k.val < 1024) : (⟨k.val, h⟩ : Fin 1024) = col 0 k := Fin.ext (by show k.val = 0 * 256 + k.val; omega)
theorem col1 (k : Fin 256) (h : 256 + k.val < 1024) : (⟨256 + k.val, h⟩ : Fin 1024) = col 1 k := Fin.ext (by show 256 + k.val = 1 * 256 + k.val; omega)
theorem col2 (k : Fin 256) (h : 512 + k.val < 1024) : (⟨512 + k.val, h⟩ : Fin 1024) = col 2 k := Fin.ext (by show 512 + k.val = 2 * 256 + k.val; omega)
theorem col3 (k : Fin 256) (h : 768 + k.val < 1024) : (⟨768 + k.val, h⟩ : Fin 1024) = col 3 k := Fin.ext (by show 768 + k.val = 3 * 256 + k.val; omega)

/-- Columns of one group, loaded. -/
theorem ld_col {Val : EltTy → Type} {e : EltTy} (g : Fin 4) (o : ℕ) (ho : o = g.val * 256) {n : ℕ} (X : (⟨2, ![n, 1024]⟩ : Shape).Idx → Val e) (inb) (r : Fin n) (k : Fin 256) :
    View.ld X (Rect.unit (s := ⟨2, ![n, 1024]⟩) ![0, o] ![n, 256] inb) (ix2 r k) = X (ix2 r (col g k)) :=
  View.ld_unit_apply_of _ _ _ _ _ (ix2 r (col g k)) (fun a => by match a with | ⟨0, _⟩ => exact (Nat.zero_add _).symm | ⟨1, _⟩ => subst ho; rfl)

/-- One group's matrix, loaded. -/
theorem ld_grp {Val : EltTy → Type} {e : EltTy} (g : Fin 4) (o : ℕ) (ho : o = g.val) (X : S4x256x256.Idx → Val e) (inb) (j k : Fin 256) :
    View.ld X (Rect.unit (s := S4x256x256) ![o, 0, 0] ![1, 256, 256] inb) (ix3 0 j k) = X (ix3 g j k) :=
  View.ld_unit_apply_of _ _ _ _ _ (ix3 g j k) (fun a => by match a with | ⟨0, _⟩ => exact ho.symm | ⟨1, _⟩ => exact (Nat.zero_add _).symm | ⟨2, _⟩ => exact (Nat.zero_add _).symm)

variable (z dy pl : Vec Ideal S1024x1024 .bf16) (pw : Vec Ideal S4x256x256 .bf16) (ps : Vec Ideal S1x1024 .f32)

section Gate
variable (r : Fin 1024) (k : Fin 256)

theorem gate0 (i1 i2 i3) : k0_pay17 (F := Ideal) (k0_pay13 z) (k0_pay14 dy) (View.ld pl (Rect.unit ![0, 0] ![1024, 256] i1))
    (View.ld pw (Rect.unit ![0, 0, 0] ![1, 256, 256] i2)) (View.ld ps (Rect.unit ![0, 0] ![1, 256] i3)) (ix2 r k) = dgate z dy pl pw ps r 0 k := by
  pointwise [k0_pay17, k0_pay16, k0_pay15, k0_pay14, k0_pay13, k0_pay11, k0_pay10]
  simp only [ld_col 0 0 rfl, ld_grp 0 0 rfl, col0, dgate, mixed]
theorem gate1 (i1 i2 i3) : k0_pay28 (F := Ideal) (k0_pay13 z) (k0_pay14 dy) (View.ld pl (Rect.unit ![0, 256] ![1024, 256] i1))
    (View.ld pw (Rect.unit ![1, 0, 0] ![1, 256, 256] i2)) (View.ld ps (Rect.unit ![0, 256] ![1, 256] i3)) (ix2 r k) = dgate z dy pl pw ps r 1 k := by
  pointwise [k0_pay28, k0_pay27, k0_pay26, k0_pay14, k0_pay13, k0_pay11, k0_pay10]
  simp only [ld_col 1 256 rfl, ld_grp 1 1 rfl, col1, dgate, mixed]
theorem gate2 (i1 i2 i3) : k0_pay39 (F := Ideal) (k0_pay13 z) (k0_pay14 dy) (View.ld pl (Rect.unit ![0, 512] ![1024, 256] i1))
    (View.ld pw (Rect.unit ![2, 0, 0] ![1, 256, 256] i2)) (View.ld ps (Rect.unit ![0, 512] ![1, 256] i3)) (ix2 r k) = dgate z dy pl pw ps r 2 k := by
  pointwise [k0_pay39, k0_pay38, k0_pay37, k0_pay14, k0_pay13, k0_pay11, k0_pay10]
  simp only [ld_col 2 512 rfl, ld_grp 2 2 rfl, col2, dgate, mixed]
theorem gate3 (i1 i2 i3) : k0_pay50 (F := Ideal) (k0_pay13 z) (k0_pay14 dy) (View.ld pl (Rect.unit ![0, 768] ![1024, 256] i1))
    (View.ld pw (Rect.unit ![3, 0, 0] ![1, 256, 256] i2)) (View.ld ps (Rect.unit ![0, 768] ![1, 256] i3)) (ix2 r k) = dgate z dy pl pw ps r 3 k := by
  pointwise [k0_pay50, k0_pay49, k0_pay48, k0_pay14, k0_pay13, k0_pay11, k0_pay10]
  simp only [ld_col 3 768 rfl, ld_grp 3 3 rfl, col3, dgate, mixed]

end Gate

/-! The sums over a block's rows. -/

/-- A block's share of the scale's gradient. -/
def dscale {n : ℕ} (z dy pl : (⟨2, ![n, 1024]⟩ : Shape).Idx → EReal) (pw : S4x256x256.Idx → EReal) (g : Fin 4) (k : Fin 256) : EReal :=
  ∑ r : Fin n, dms z dy r (col g k) * mixed pl pw r g k

/-- A block's share of the matrices' gradient. -/
def dweight {n : ℕ} (z dy pl : (⟨2, ![n, 1024]⟩ : Shape).Idx → EReal) (ps : S1x1024.Idx → EReal) (g : Fin 4) (j k : Fin 256) : EReal :=
  ∑ r : Fin n, pl (ix2 r (col g j)) * (dms z dy r (col g k) * ps (ix2 0 (col g k)))

section Sums
variable (k : Fin 256)

theorem scale0 (acc : Vec Ideal S1x256 .f32) (i1 i2) : k0_pay19 (F := Ideal) (k0_pay12 z) (k0_pay14 dy) (View.ld pl (Rect.unit ![0, 0] ![1024, 256] i1))
    (View.ld pw (Rect.unit ![0, 0, 0] ![1, 256, 256] i2)) acc (ix2 0 k) = acc (ix2 0 k) + dscale z dy pl pw 0 k := by
  pointwise [k0_pay19, k0_pay18, k0_pay16, k0_pay15, k0_pay14, k0_pay12, k0_pay11, k0_pay10]
  simp only [ld_col 0 0 rfl, ld_grp 0 0 rfl, col0, dscale, dms, mixed]
theorem scale1 (acc : Vec Ideal S1x256 .f32) (i1 i2) : k0_pay30 (F := Ideal) (k0_pay27 (View.ld pl (Rect.unit ![0, 256] ![1024, 256] i1))
    (View.ld pw (Rect.unit ![1, 0, 0] ![1, 256, 256] i2))) (k0_pay29 (k0_pay12 z) (k0_pay14 dy)) acc (ix2 0 k) = acc (ix2 0 k) + dscale z dy pl pw 1 k := by
  pointwise [k0_pay30, k0_pay29, k0_pay27, k0_pay26, k0_pay14, k0_pay12, k0_pay11, k0_pay10]
  simp only [ld_col 1 256 rfl, ld_grp 1 1 rfl, col1, dscale, dms, mixed]
theorem scale2 (acc : Vec Ideal S1x256 .f32) (i1 i2) : k0_pay41 (F := Ideal) (k0_pay12 z) (k0_pay14 dy) (View.ld pl (Rect.unit ![0, 512] ![1024, 256] i1))
    (View.ld pw (Rect.unit ![2, 0, 0] ![1, 256, 256] i2)) acc (ix2 0 k) = acc (ix2 0 k) + dscale z dy pl pw 2 k := by
  pointwise [k0_pay41, k0_pay40, k0_pay38, k0_pay37, k0_pay14, k0_pay12, k0_pay11, k0_pay10]
  simp only [ld_col 2 512 rfl, ld_grp 2 2 rfl, col2, dscale, dms, mixed]
theorem scale3 (acc : Vec Ideal S1x256 .f32) (i1 i2) : k0_pay52 (F := Ideal) (k0_pay12 z) (k0_pay14 dy) (k0_pay49 (View.ld pl (Rect.unit ![0, 768] ![1024, 256] i1))
    (View.ld pw (Rect.unit ![3, 0, 0] ![1, 256, 256] i2))) acc (ix2 0 k) = acc (ix2 0 k) + dscale z dy pl pw 3 k := by
  pointwise [k0_pay52, k0_pay51, k0_pay49, k0_pay48, k0_pay14, k0_pay12, k0_pay11, k0_pay10]
  simp only [ld_col 3 768 rfl, ld_grp 3 3 rfl, col3, dscale, dms, mixed]

variable (j : Fin 256)

theorem weight0 (acc : Vec Ideal S1x256x256 .f32) (i1 i2) : k0_pay21 (F := Ideal) (k0_pay12 z) (k0_pay14 dy) (View.ld pl (Rect.unit ![0, 0] ![1024, 256] i1))
    (View.ld ps (Rect.unit ![0, 0] ![1, 256] i2)) acc (ix3 0 j k) = acc (ix3 0 j k) + dweight z dy pl ps 0 j k := by
  pointwise [k0_pay21, k0_pay20, k0_pay18, k0_pay15, k0_pay14, k0_pay12, k0_pay11, k0_pay10]
  simp only [ld_col 0 0 rfl, col0, dweight, dms]
theorem weight1 (acc : Vec Ideal S1x256x256 .f32) (i1 i2) : k0_pay32 (F := Ideal) (k0_pay26 (View.ld pl (Rect.unit ![0, 256] ![1024, 256] i1)))
    (View.ld ps (Rect.unit ![0, 256] ![1, 256] i2)) (k0_pay29 (k0_pay12 z) (k0_pay14 dy)) acc (ix3 0 j k) = acc (ix3 0 j k) + dweight z dy pl ps 1 j k := by
  pointwise [k0_pay32, k0_pay31, k0_pay29, k0_pay26, k0_pay14, k0_pay12, k0_pay11, k0_pay10]
  simp only [ld_col 1 256 rfl, col1, dweight, dms]
theorem weight2 (acc : Vec Ideal S1x256x256 .f32) (i1 i2) : k0_pay43 (F := Ideal) (k0_pay12 z) (k0_pay14 dy) (View.ld pl (Rect.unit ![0, 512] ![1024, 256] i1))
    (View.ld ps (Rect.unit ![0, 512] ![1, 256] i2)) acc (ix3 0 j k) = acc (ix3 0 j k) + dweight z dy pl ps 2 j k := by
  pointwise [k0_pay43, k0_pay42, k0_pay40, k0_pay37, k0_pay14, k0_pay12, k0_pay11, k0_pay10]
  simp only [ld_col 2 512 rfl, col2, dweight, dms]
theorem weight3 (acc : Vec Ideal S1x256x256 .f32) (i1 i2) : k0_pay54 (F := Ideal) (k0_pay12 z) (k0_pay14 dy) (k0_pay48 (View.ld pl (Rect.unit ![0, 768] ![1024, 256] i1)))
    (View.ld ps (Rect.unit ![0, 768] ![1, 256] i2)) acc (ix3 0 j k) = acc (ix3 0 j k) + dweight z dy pl ps 3 j k := by
  pointwise [k0_pay54, k0_pay53, k0_pay51, k0_pay48, k0_pay14, k0_pay12, k0_pay11, k0_pay10]
  simp only [ld_col 3 768 rfl, col3, dweight, dms]

end Sums

/-! The gradient of the pooled rows and what it leaves for the block before. -/

section Back
variable (i : grid0.Coords) (r : Fin 1024) (k : Fin 256)

theorem back0 (i1 i2) : k0_pay22 (F := Ideal) (k0_pay20 (k0_pay12 z) (k0_pay14 dy) (View.ld ps (Rect.unit ![0, 0] ![1, 256] i1)))
    (View.ld pw (Rect.unit ![0, 0, 0] ![1, 256, 256] i2)) (ix2 r k) = dpool z dy pw ps r 0 k := by
  pointwise [k0_pay22, k0_pay20, k0_pay18, k0_pay14, k0_pay12, k0_pay11, k0_pay10]
  simp only [ld_col 0 0 rfl, ld_grp 0 0 rfl, col0, dpool, dms]
theorem back1 (i1 i2) : k0_pay33 (F := Ideal) (View.ld ps (Rect.unit ![0, 256] ![1, 256] i1)) (k0_pay29 (k0_pay12 z) (k0_pay14 dy))
    (View.ld pw (Rect.unit ![1, 0, 0] ![1, 256, 256] i2)) (ix2 r k) = dpool z dy pw ps r 1 k := by
  pointwise [k0_pay33, k0_pay31, k0_pay29, k0_pay14, k0_pay12, k0_pay11, k0_pay10]
  simp only [ld_col 1 256 rfl, ld_grp 1 1 rfl, col1, dpool, dms]
theorem back2 (i1 i2) : k0_pay44 (F := Ideal) (k0_pay42 (k0_pay12 z) (k0_pay14 dy) (View.ld ps (Rect.unit ![0, 512] ![1, 256] i1)))
    (View.ld pw (Rect.unit ![2, 0, 0] ![1, 256, 256] i2)) (ix2 r k) = dpool z dy pw ps r 2 k := by
  pointwise [k0_pay44, k0_pay42, k0_pay40, k0_pay14, k0_pay12, k0_pay11, k0_pay10]
  simp only [ld_col 2 512 rfl, ld_grp 2 2 rfl, col2, dpool, dms]
theorem back3 (i1 i2) : k0_pay55 (F := Ideal) (k0_pay12 z) (k0_pay14 dy) (View.ld ps (Rect.unit ![0, 768] ![1, 256] i1))
    (View.ld pw (Rect.unit ![3, 0, 0] ![1, 256, 256] i2)) (ix2 r k) = dpool z dy pw ps r 3 k := by
  pointwise [k0_pay55, k0_pay53, k0_pay51, k0_pay14, k0_pay12, k0_pay11, k0_pay10]
  simp only [ld_col 3 768 rfl, ld_grp 3 3 rfl, col3, dpool, dms]

end Back

/-- A block's ratios followed by those of the rows ahead of it. -/
def ext (f : Fin 1024 → EReal) (h : Fin 16 → EReal) (n : ℕ) : EReal :=
  if hn : n < 1024 then f ⟨n, hn⟩ else if hn : n - 1024 < 16 then h ⟨n - 1024, hn⟩ else 0

theorem concat_ext (x : FVec Ideal S1024x256 .f32) (y : FVec Ideal S16x256 .f32) (n : ℕ) (hn : n < 1040) (k : Fin 256) :
    concatenate S1040x256 0 [⟨S1024x256, x⟩, ⟨S16x256, y⟩] concatenates_S1024x256_S16x256_S1040x256_d0 (ix2 ⟨n, hn⟩ k)
      = ext (fun r => x (ix2 r k)) (fun r => y (ix2 r k)) n := by
  pointwise [ext]
  split
  · rfl
  · rw [dif_pos (by omega)]

/-- Adding a copy of itself moved by `w` doubles the window. -/
theorem roll_step (w : ℕ) (n : BitVec 32) (hw : 0 < w) (hn : n.toNat + w = 1040) (x : FVec Ideal S1040x256 .f32) (f : ℕ → EReal) (k : Fin 256)
    (hx : ∀ r (h : r + w ≤ 1040), x (ix2 ⟨r, by omega⟩ k) = ∑ i ∈ Finset.range w, f (r + i)) (r : ℕ) (h : r + (w + w) ≤ 1040) :
    addf x (dynamicRotate 0 n none x rotates_S1040x256_d0) (ix2 ⟨r, by omega⟩ k) = ∑ i ∈ Finset.range (w + w), f (r + i) := by
  rw [Finset.sum_range_add, ← hx r (by omega)]
  have e : ∑ i ∈ Finset.range w, f (r + (w + i)) = x (ix2 ⟨r + w, by omega⟩ k) := by
    rw [hx (r + w) (by omega)]; simp only [Nat.add_assoc]
  rw [e]
  refine congrArg (x (ix2 ⟨r, by omega⟩ k) + ·) ?_
  show dynamicRotate 0 n none x rotates_S1040x256_d0 (ix2 ⟨r, by omega⟩ k) = _
  unfold dynamicRotate
  refine congrArg x (funext fun b => ?_)
  match b with
  | ⟨0, _⟩ => exact Fin.ext (by show (r + 1040 - (n.toNat + 0) % 1040) % 1040 = r + w; omega)
  | ⟨1, _⟩ => rfl

/-- The rows a group's window spans. -/
def span (g : Fin 4) : ℕ := match g with | 0 => 2 | 1 => 4 | 2 => 8 | 3 => 16

/-- A block's share of the gradient of the pooled rows' argument, the rows ahead given. -/
def dback (pos : Fin 1024 → EReal) (ahead : Fin 16 → Fin 1024 → EReal) (r : Fin 1024) (g : Fin 4) (k : Fin 256) : EReal :=
  (∑ i ∈ Finset.range (span g), ext (fun r => ratio z dy pw ps pos r g k) (fun r => ahead r (col g k)) (r.val + i)) - dpool z dy pw ps r g k

section Window
variable (i : grid0.Coords) (r : Fin 1024) (k : Fin 256)

theorem one_row (x : FVec Ideal S1040x256 .f32) (f : ℕ → EReal) (hx : ∀ n (hn : n < 1040), x (ix2 ⟨n, hn⟩ k) = f n) :
    ∀ r (h : r + 1 ≤ 1040), x (ix2 ⟨r, by omega⟩ k) = ∑ i ∈ Finset.range 1, f (r + i) := fun r h => by
  rw [Finset.sum_range_one]; exact hx r h

theorem ratio0 (i1 i2) : k0_pay23 (F := Ideal) (k0_pay6 i) (k0_pay20 (k0_pay12 z) (k0_pay14 dy) (View.ld ps (Rect.unit ![0, 0] ![1, 256] i1)))
    (View.ld pw (Rect.unit ![0, 0, 0] ![1, 256, 256] i2)) (ix2 r k) = ratio z dy pw ps (posOf (i 0)) r 0 k := by
  pointwise [k0_pay23]
  rw [back0, pay6_apply, ratio]
theorem ratio1 (i1 i2) : k0_pay34 (F := Ideal) (k0_pay7 i) (View.ld ps (Rect.unit ![0, 256] ![1, 256] i1)) (k0_pay29 (k0_pay12 z) (k0_pay14 dy))
    (View.ld pw (Rect.unit ![1, 0, 0] ![1, 256, 256] i2)) (ix2 r k) = ratio z dy pw ps (posOf (i 0)) r 1 k := by
  pointwise [k0_pay34]
  rw [back1, pay7_apply, ratio]
theorem ratio2 (i1 i2) : k0_pay45 (F := Ideal) (k0_pay8 i) (k0_pay42 (k0_pay12 z) (k0_pay14 dy) (View.ld ps (Rect.unit ![0, 512] ![1, 256] i1)))
    (View.ld pw (Rect.unit ![2, 0, 0] ![1, 256, 256] i2)) (ix2 r k) = ratio z dy pw ps (posOf (i 0)) r 2 k := by
  pointwise [k0_pay45]
  rw [back2, pay8_apply, ratio]
theorem ratio3 (i1 i2) : k0_pay56 (F := Ideal) (k0_pay9 i) (k0_pay12 z) (k0_pay14 dy) (View.ld ps (Rect.unit ![0, 768] ![1, 256] i1))
    (View.ld pw (Rect.unit ![3, 0, 0] ![1, 256, 256] i2)) (ix2 r k) = ratio z dy pw ps (posOf (i 0)) r 3 k := by
  pointwise [k0_pay56]
  rw [back3, pay9_apply, ratio]

variable (ah : Fin 16 → Fin 1024 → EReal)

theorem ext0 (i1 i2) (y : Vec Ideal S16x256 .f32) (hy : ∀ r, y (ix2 r k) = ah r (col 0 k)) (n : ℕ) (hn : n < 1040) :
    concatenate S1040x256 0 [⟨S1024x256, k0_pay23 (F := Ideal) (k0_pay6 i) (k0_pay20 (k0_pay12 z) (k0_pay14 dy) (View.ld ps (Rect.unit ![0, 0] ![1, 256] i1)))
      (View.ld pw (Rect.unit ![0, 0, 0] ![1, 256, 256] i2))⟩, ⟨S16x256, y⟩] concatenates_S1024x256_S16x256_S1040x256_d0 (ix2 ⟨n, hn⟩ k)
      = ext (fun r => ratio z dy pw ps (posOf (i 0)) r 0 k) (fun r => ah r (col 0 k)) n := by
  rw [concat_ext]; simp only [ratio0, hy]
theorem ext1 (i1 i2) (y : Vec Ideal S16x256 .f32) (hy : ∀ r, y (ix2 r k) = ah r (col 1 k)) (n : ℕ) (hn : n < 1040) :
    concatenate S1040x256 0 [⟨S1024x256, k0_pay34 (F := Ideal) (k0_pay7 i) (View.ld ps (Rect.unit ![0, 256] ![1, 256] i1)) (k0_pay29 (k0_pay12 z) (k0_pay14 dy))
      (View.ld pw (Rect.unit ![1, 0, 0] ![1, 256, 256] i2))⟩, ⟨S16x256, y⟩] concatenates_S1024x256_S16x256_S1040x256_d0 (ix2 ⟨n, hn⟩ k)
      = ext (fun r => ratio z dy pw ps (posOf (i 0)) r 1 k) (fun r => ah r (col 1 k)) n := by
  rw [concat_ext]; simp only [ratio1, hy]
theorem ext2 (i1 i2) (y : Vec Ideal S16x256 .f32) (hy : ∀ r, y (ix2 r k) = ah r (col 2 k)) (n : ℕ) (hn : n < 1040) :
    concatenate S1040x256 0 [⟨S1024x256, k0_pay45 (F := Ideal) (k0_pay8 i) (k0_pay42 (k0_pay12 z) (k0_pay14 dy) (View.ld ps (Rect.unit ![0, 512] ![1, 256] i1)))
      (View.ld pw (Rect.unit ![2, 0, 0] ![1, 256, 256] i2))⟩, ⟨S16x256, y⟩] concatenates_S1024x256_S16x256_S1040x256_d0 (ix2 ⟨n, hn⟩ k)
      = ext (fun r => ratio z dy pw ps (posOf (i 0)) r 2 k) (fun r => ah r (col 2 k)) n := by
  rw [concat_ext]; simp only [ratio2, hy]
theorem ext3 (i1 i2) (y : Vec Ideal S16x256 .f32) (hy : ∀ r, y (ix2 r k) = ah r (col 3 k)) (n : ℕ) (hn : n < 1040) :
    concatenate S1040x256 0 [⟨S1024x256, k0_pay56 (F := Ideal) (k0_pay9 i) (k0_pay12 z) (k0_pay14 dy) (View.ld ps (Rect.unit ![0, 768] ![1, 256] i1))
      (View.ld pw (Rect.unit ![3, 0, 0] ![1, 256, 256] i2))⟩, ⟨S16x256, y⟩] concatenates_S1024x256_S16x256_S1040x256_d0 (ix2 ⟨n, hn⟩ k)
      = ext (fun r => ratio z dy pw ps (posOf (i 0)) r 3 k) (fun r => ah r (col 3 k)) n := by
  rw [concat_ext]; simp only [ratio3, hy]

/-- The last lines of a group: the first 1024 of the summed rows, less the block's own. -/
theorem left_rows (x : Vec Ideal S1040x256 .f32) (b : Vec Ideal S1024x256 .f32) (r : Fin 1024) (k : Fin 256) :
    truncf (F := Ideal) .bf16 (subf (extractStridedSlice S1024x256 ![0, 0] x slices_S1040x256_o0_0_S1024x256) b) bitsLt_bf16_f32 (ix2 r k)
      = x (ix2 ⟨r.val, by omega⟩ k) - b (ix2 r k) := by
  pointwise []

theorem left0 (i1 i2) (y : Vec Ideal S16x256 .f32) (hy : ∀ r, y (ix2 r k) = ah r (col 0 k)) :
    k0_pay25 (F := Ideal) (k0_pay6 i) (k0_pay20 (k0_pay12 z) (k0_pay14 dy) (View.ld ps (Rect.unit ![0, 0] ![1, 256] i1)))
      (View.ld pw (Rect.unit ![0, 0, 0] ![1, 256, 256] i2)) y (ix2 r k) = dback z dy pw ps (posOf (i 0)) ah r 0 k := by
  have h1 := roll_step 1 1039#32 (by decide) (by decide) _ _ k (one_row k _ _ (ext0 z dy pw ps i k ah i1 i2 y hy))
  refine congrArg₂ (· - ·) (Eq.trans ?_ (h1 r.val (by omega))) (back0 z dy pw ps r k i1 i2)
  pointwise []

theorem left1 (i1 i2) (y : Vec Ideal S16x256 .f32) (hy : ∀ r, y (ix2 r k) = ah r (col 1 k)) :
    k0_pay36 (F := Ideal) (k0_pay7 i) (View.ld ps (Rect.unit ![0, 256] ![1, 256] i1)) (k0_pay29 (k0_pay12 z) (k0_pay14 dy))
      (View.ld pw (Rect.unit ![1, 0, 0] ![1, 256, 256] i2)) y (ix2 r k) = dback z dy pw ps (posOf (i 0)) ah r 1 k := by
  have h1 := roll_step 1 1039#32 (by decide) (by decide) _ _ k (one_row k _ _ (ext1 z dy pw ps i k ah i1 i2 y hy))
  have h2 := roll_step 2 1038#32 (by decide) (by decide) _ _ k h1
  refine congrArg₂ (· - ·) (Eq.trans ?_ (h2 r.val (by omega))) (back1 z dy pw ps r k i1 i2)
  pointwise []

theorem left2 (i1 i2) (y : Vec Ideal S16x256 .f32) (hy : ∀ r, y (ix2 r k) = ah r (col 2 k)) :
    k0_pay47 (F := Ideal) (k0_pay8 i) (k0_pay42 (k0_pay12 z) (k0_pay14 dy) (View.ld ps (Rect.unit ![0, 512] ![1, 256] i1)))
      (View.ld pw (Rect.unit ![2, 0, 0] ![1, 256, 256] i2)) y (ix2 r k) = dback z dy pw ps (posOf (i 0)) ah r 2 k := by
  have h1 := roll_step 1 1039#32 (by decide) (by decide) _ _ k (one_row k _ _ (ext2 z dy pw ps i k ah i1 i2 y hy))
  have h2 := roll_step 2 1038#32 (by decide) (by decide) _ _ k h1
  have h3 := roll_step 4 1036#32 (by decide) (by decide) _ _ k h2
  unfold k0_pay47
  exact (left_rows _ _ r k).trans (congrArg₂ (· - ·) (h3 r.val (by omega)) (back2 z dy pw ps r k i1 i2))

theorem left3 (i1 i2) (y : Vec Ideal S16x256 .f32) (hy : ∀ r, y (ix2 r k) = ah r (col 3 k)) :
    k0_pay1 (F := Ideal) (k0_pay55 (k0_pay12 z) (k0_pay14 dy) (View.ld ps (Rect.unit ![0, 768] ![1, 256] i1))
      (View.ld pw (Rect.unit ![3, 0, 0] ![1, 256, 256] i2)))
      (k0_pay58 (k0_pay9 i) (k0_pay12 z) (k0_pay14 dy) (View.ld ps (Rect.unit ![0, 768] ![1, 256] i1)) (View.ld pw (Rect.unit ![3, 0, 0] ![1, 256, 256] i2)) y)
      (k0_pay59 (k0_pay9 i) (k0_pay12 z) (k0_pay14 dy) (View.ld ps (Rect.unit ![0, 768] ![1, 256] i1)) (View.ld pw (Rect.unit ![3, 0, 0] ![1, 256, 256] i2)) y)
      (ix2 r k) = dback z dy pw ps (posOf (i 0)) ah r 3 k := by
  have h1 := roll_step 1 1039#32 (by decide) (by decide) _ _ k (one_row k _ _ (ext3 z dy pw ps i k ah i1 i2 y hy))
  have h2 := roll_step 2 1038#32 (by decide) (by decide) _ _ k h1
  have h3 := roll_step 4 1036#32 (by decide) (by decide) _ _ k h2
  have h4 := roll_step 8 1032#32 (by decide) (by decide) _ _ k h3
  unfold k0_pay1 k0_pay59 k0_pay58
  exact (left_rows _ _ r k).trans (congrArg₂ (· - ·) (h4 r.val (by omega)) (back3 z dy pw ps r k i1 i2))

/-- A row among the first sixteen. -/
def early (j : Fin 16) : Fin 1024 := ⟨j.val, by omega⟩

theorem halo0 (j : Fin 16) (i1 i2) : k0_pay24 (F := Ideal) (k0_pay6 i) (k0_pay20 (k0_pay12 z) (k0_pay14 dy) (View.ld ps (Rect.unit ![0, 0] ![1, 256] i1)))
    (View.ld pw (Rect.unit ![0, 0, 0] ![1, 256, 256] i2)) (ix2 j k) = ratio z dy pw ps (posOf (i 0)) (early j) 0 k := by
  pointwise [k0_pay24]; exact ratio0 ..
theorem halo1 (j : Fin 16) (i1 i2) : k0_pay35 (F := Ideal) (k0_pay7 i) (View.ld ps (Rect.unit ![0, 256] ![1, 256] i1)) (k0_pay29 (k0_pay12 z) (k0_pay14 dy))
    (View.ld pw (Rect.unit ![1, 0, 0] ![1, 256, 256] i2)) (ix2 j k) = ratio z dy pw ps (posOf (i 0)) (early j) 1 k := by
  pointwise [k0_pay35]; exact ratio1 ..
theorem halo2 (j : Fin 16) (i1 i2) : k0_pay46 (F := Ideal) (k0_pay8 i) (k0_pay42 (k0_pay12 z) (k0_pay14 dy) (View.ld ps (Rect.unit ![0, 512] ![1, 256] i1)))
    (View.ld pw (Rect.unit ![2, 0, 0] ![1, 256, 256] i2)) (ix2 j k) = ratio z dy pw ps (posOf (i 0)) (early j) 2 k := by
  pointwise [k0_pay46]; exact ratio2 ..
theorem halo3 (j : Fin 16) (i1 i2) : k0_pay57 (F := Ideal) (k0_pay9 i) (k0_pay12 z) (k0_pay14 dy) (View.ld ps (Rect.unit ![0, 768] ![1, 256] i1))
    (View.ld pw (Rect.unit ![3, 0, 0] ![1, 256, 256] i2)) (ix2 j k) = ratio z dy pw ps (posOf (i 0)) (early j) 3 k := by
  pointwise [k0_pay57]; exact ratio3 ..

end Window

end Cert.PoolIdeal.Hand
end
-- ==== Proof.PoolPoint.lean ====
module

public import proofs.«01_k».proof.Proof.PoolBlock

@[expose] public section

set_option maxRecDepth 16384

noncomputable section

namespace Cert.PoolIdeal.Hand

open Idealize.ShloMosaic Idealize.ShloMosaic.TcCoe Idealize.SL.Sem
open Cert.PoolIdeal Cert.PoolIdeal.Gen Cert.Hand

/-! Buffers filled group by group, read at one column. -/

section Boxes
variable {Val : EltTy → Type} [∀ e, Nonempty (Val e)] {e : EltTy} {n N o : ℕ}

theorem box_hit {inb} {w : (Rect.unit (s := ⟨2, ![n, N]⟩) ![0, o] ![n, 256] inb).shape.Idx → Val e} {L : List (View.Piece Val ⟨2, ![n, N]⟩ e)}
    (r : Fin n) (j : Fin N) (k : Fin 256) (h : j.val = o + k.val) :
    View.canon (⟨Rect.unit (s := ⟨2, ![n, N]⟩) ![0, o] ![n, 256] inb, w⟩ :: L) (ix2 r j) = w (ix2 r k) :=
  by rw [canon_hit (ix2 r k) (fun a => by match a with | ⟨0, _⟩ => exact (Nat.zero_add _).symm | ⟨1, _⟩ => exact h)]

theorem box_miss {inb} {w : (Rect.unit (s := ⟨2, ![n, N]⟩) ![0, o] ![n, 256] inb).shape.Idx → Val e} {L : List (View.Piece Val ⟨2, ![n, N]⟩ e)}
    (r : Fin n) (j : Fin N) (h : j.val < o ∨ o + 256 ≤ j.val) :
    View.canon (⟨Rect.unit (s := ⟨2, ![n, N]⟩) ![0, o] ![n, 256] inb, w⟩ :: L) (ix2 r j) = View.canon L (ix2 r j) :=
  canon_miss 1 h

theorem box_read {sig : RefSig} {κ : Kind} {sp : Space} (v : View sig κ sp ⟨2, ![n, N]⟩ e) (L : List (View.Piece Val ⟨2, ![n, N]⟩ e)) (inb)
    (r : Fin n) (k : Fin 256) (j : Fin N) (h : j.val = o + k.val) :
    v.readCov L (Rect.unit (s := ⟨2, ![n, N]⟩) ![0, o] ![n, 256] inb).toLoadRect (ix2 r k) = View.canon L (ix2 r j) := by
  rw [readCov_at]
  exact congrArg _ (funext fun a => Fin.ext (by match a with | ⟨0, _⟩ => rw [Rect.idx_unit_val]; exact Nat.zero_add _ | ⟨1, _⟩ => rw [Rect.idx_unit_val]; exact h.symm))

theorem mat_hit {inb} {w : (Rect.unit (s := S4x256x256) ![o, 0, 0] ![1, 256, 256] inb).shape.Idx → Val e} {L : List (View.Piece Val S4x256x256 e)}
    (g : Fin 4) (j k : Fin 256) (h : g.val = o) :
    View.canon (⟨Rect.unit (s := S4x256x256) ![o, 0, 0] ![1, 256, 256] inb, w⟩ :: L) (ix3 g j k) = w (ix3 0 j k) :=
  by rw [canon_hit (ix3 0 j k) (fun a => by match a with | ⟨0, _⟩ => exact h | ⟨1, _⟩ => exact (Nat.zero_add _).symm | ⟨2, _⟩ => exact (Nat.zero_add _).symm)]

theorem mat_miss {inb} {w : (Rect.unit (s := S4x256x256) ![o, 0, 0] ![1, 256, 256] inb).shape.Idx → Val e} {L : List (View.Piece Val S4x256x256 e)}
    (g : Fin 4) (j k : Fin 256) (h : g.val < o ∨ o + 1 ≤ g.val) :
    View.canon (⟨Rect.unit (s := S4x256x256) ![o, 0, 0] ![1, 256, 256] inb, w⟩ :: L) (ix3 g j k) = View.canon L (ix3 g j k) :=
  canon_miss 0 h

theorem mat_read {sig : RefSig} {κ : Kind} {sp : Space} (v : View sig κ sp S4x256x256 e) (L : List (View.Piece Val S4x256x256 e)) (inb)
    (g : Fin 4) (j k : Fin 256) (h : g.val = o) :
    v.readCov L (Rect.unit (s := S4x256x256) ![o, 0, 0] ![1, 256, 256] inb).toLoadRect (ix3 0 j k) = View.canon L (ix3 g j k) := by
  rw [readCov_at]
  exact congrArg _ (funext fun a => Fin.ext (by match a with | ⟨0, _⟩ => rw [Rect.idx_unit_val]; exact h.symm | ⟨1, _⟩ => rw [Rect.idx_unit_val]; exact Nat.zero_add _ | ⟨2, _⟩ => rw [Rect.idx_unit_val]; exact Nat.zero_add _))

end Boxes

theorem v0 (k : Fin 256) : (col 0 k).val = 0 + k.val := rfl
theorem v1 (k : Fin 256) : (col 1 k).val = 256 + k.val := rfl
theorem v2 (k : Fin 256) : (col 2 k).val = 512 + k.val := rfl
theorem v3 (k : Fin 256) : (col 3 k).val = 768 + k.val := rfl

/-- Column `k` of group `g` among the gradients of the pooled half. -/
def lft (g : Fin 4) (k : Fin 256) : Fin 2048 := ⟨(col g k).val, by have := (col g k).isLt; omega⟩
/-- Column `k` of group `g` among the gradients of the gate's half. -/
def rgt (g : Fin 4) (k : Fin 256) : Fin 2048 := ⟨1024 + (col g k).val, by have := (col g k).isLt; omega⟩

theorem lv (g : Fin 4) (k : Fin 256) : (lft g k).val = (col g k).val := rfl
theorem rv (g : Fin 4) (k : Fin 256) : (rgt g k).val = 1024 + (col g k).val := rfl

variable (m : (ℓ : Loc nD τ sig) → Buf (Elt Ideal) ℓ) (c : Dev nD)

theorem clear2 (x : S16x1024.Idx) : k0_pay2 (F := Ideal) x = 0 := by pointwise [k0_pay2]
theorem clear3 (x : S4x256x256.Idx) : k0_pay3 (F := Ideal) x = 0 := by pointwise [k0_pay3]
theorem clear4 (x : S1x1024.Idx) : k0_pay4 (F := Ideal) x = 0 := by pointwise [k0_pay4]

/-- A buffer cleared whole. -/
theorem cleared {Val : EltTy → Type} [∀ e, Nonempty (Val e)] {e : EltTy} {n N : ℕ} {inb} {w : (Rect.unit (s := ⟨2, ![n, N]⟩) ![0, 0] ![n, N] inb).shape.Idx → Val e}
    {L : List (View.Piece Val ⟨2, ![n, N]⟩ e)} (r : Fin n) (j : Fin N) :
    View.canon (⟨Rect.unit (s := ⟨2, ![n, N]⟩) ![0, 0] ![n, N] inb, w⟩ :: L) (ix2 r j) = w (ix2 r j) := by
  rw [canon_hit (ix2 r j) (fun a => by match a with | ⟨0, _⟩ => exact (Nat.zero_add _).symm | ⟨1, _⟩ => exact (Nat.zero_add _).symm)]

theorem mat_cleared {Val : EltTy → Type} [∀ e, Nonempty (Val e)] {e : EltTy} {inb} {w : (Rect.unit (s := S4x256x256) ![0, 0, 0] ![4, 256, 256] inb).shape.Idx → Val e}
    {L : List (View.Piece Val S4x256x256 e)} (g : Fin 4) (j k : Fin 256) :
    View.canon (⟨Rect.unit (s := S4x256x256) ![0, 0, 0] ![4, 256, 256] inb, w⟩ :: L) (ix3 g j k) = w (ix3 g j k) := by
  rw [canon_hit (ix3 g j k) (fun a => by match a with | ⟨0, _⟩ => exact (Nat.zero_add _).symm | ⟨1, _⟩ => exact (Nat.zero_add _).symm | ⟨2, _⟩ => exact (Nat.zero_add _).symm)]

/-- After point `t` the carried rows are the block's first sixteen ratios. -/
theorem halo (t : Fin cfg0.N) (r : Fin 16) (g : Fin 4) (k : Fin 256) :
    (outsAt0 m c t.val t.isLt).2.2.2 (ix2 r (col g k))
      = ratio (n := 1024) (iblk m c 2 t) (iblk m c 0 t) (iblk m c 3 t) (iblk m c 4 t) (posOf (grid0.coords t 0)) (early r) g k := by
  by_cases h0 : t.val % 8 = 0
  on_goal 1 => rw [outsAt0_A m c t h0]
  on_goal 2 => rw [outsAt0_B m c t h0]
  all_goals
    frame_out
    match g with
    | 0 => rw [box_miss _ _ (by rw [v0]; omega), box_miss _ _ (by rw [v0]; omega), box_miss _ _ (by rw [v0]; omega), box_hit r (col 0 k) k (v0 k)]; exact halo0 ..
    | 1 => rw [box_miss _ _ (by rw [v1]; omega), box_miss _ _ (by rw [v1]; omega), box_hit r (col 1 k) k (v1 k)]; exact halo1 ..
    | 2 => rw [box_miss _ _ (by rw [v2]; omega), box_hit r (col 2 k) k (v2 k)]; exact halo2 ..
    | 3 => rw [box_hit r (col 3 k) k (v3 k)]; exact halo3 ..

theorem scaleA (t : Fin cfg0.N) (h0 : t.val % 8 = 0) (g : Fin 4) (k : Fin 256) :
    (outsAt0 m c t.val t.isLt).2.2.1 (ix2 0 (col g k)) = 0 + dscale (n := 1024) (iblk m c 2 t) (iblk m c 0 t) (iblk m c 1 t) (iblk m c 3 t) g k := by
  rw [outsAt0_A m c t h0]
  frame_out
  match g with
  | 0 => rw [box_miss _ _ (by rw [v0]; omega), box_miss _ _ (by rw [v0]; omega), box_miss _ _ (by rw [v0]; omega), box_hit 0 (col 0 k) k (v0 k)]; refine (scale0 ..).trans ?_; rw [box_read _ _ _ 0 k (col 0 k) (v0 k), cleared, clear4]
  | 1 => rw [box_miss _ _ (by rw [v1]; omega), box_miss _ _ (by rw [v1]; omega), box_hit 0 (col 1 k) k (v1 k)]; refine (scale1 ..).trans ?_; rw [box_read _ _ _ 0 k (col 1 k) (v1 k), box_miss _ _ (by rw [v1]; omega), cleared, clear4]
  | 2 => rw [box_miss _ _ (by rw [v2]; omega), box_hit 0 (col 2 k) k (v2 k)]; refine (scale2 ..).trans ?_; rw [box_read _ _ _ 0 k (col 2 k) (v2 k), box_miss _ _ (by rw [v2]; omega), box_miss _ _ (by rw [v2]; omega), cleared, clear4]
  | 3 => rw [box_hit 0 (col 3 k) k (v3 k)]; refine (scale3 ..).trans ?_; rw [box_read _ _ _ 0 k (col 3 k) (v3 k), box_miss _ _ (by rw [v3]; omega), box_miss _ _ (by rw [v3]; omega), box_miss _ _ (by rw [v3]; omega), cleared, clear4]

theorem scaleB (t : Fin cfg0.N) (h0 : ¬t.val % 8 = 0) (g : Fin 4) (k : Fin 256) :
    (outsAt0 m c t.val t.isLt).2.2.1 (ix2 0 (col g k)) = (outsAt0 m c (t.val - 1) (Nat.lt_of_le_of_lt (Nat.sub_le _ _) t.isLt)).2.2.1 (ix2 0 (col g k))
      + dscale (n := 1024) (iblk m c 2 t) (iblk m c 0 t) (iblk m c 1 t) (iblk m c 3 t) g k := by
  rw [outsAt0_B m c t h0]
  frame_out
  match g with
  | 0 => rw [box_miss _ _ (by rw [v0]; omega), box_miss _ _ (by rw [v0]; omega), box_miss _ _ (by rw [v0]; omega), box_hit 0 (col 0 k) k (v0 k)]; refine (scale0 ..).trans ?_; rw [ld_col 0 0 rfl]
  | 1 => rw [box_miss _ _ (by rw [v1]; omega), box_miss _ _ (by rw [v1]; omega), box_hit 0 (col 1 k) k (v1 k)]; refine (scale1 ..).trans ?_; rw [ld_col 1 256 rfl]
  | 2 => rw [box_miss _ _ (by rw [v2]; omega), box_hit 0 (col 2 k) k (v2 k)]; refine (scale2 ..).trans ?_; rw [ld_col 2 512 rfl]
  | 3 => rw [box_hit 0 (col 3 k) k (v3 k)]; refine (scale3 ..).trans ?_; rw [ld_col 3 768 rfl]

theorem weightA (t : Fin cfg0.N) (h0 : t.val % 8 = 0) (g : Fin 4) (j k : Fin 256) :
    (outsAt0 m c t.val t.isLt).2.1 (ix3 g j k) = 0 + dweight (n := 1024) (iblk m c 2 t) (iblk m c 0 t) (iblk m c 1 t) (iblk m c 4 t) g j k := by
  rw [outsAt0_A m c t h0]
  frame_out
  match g with
  | 0 => rw [mat_miss 0 _ _ (by decide), mat_miss 0 _ _ (by decide), mat_miss 0 _ _ (by decide), mat_hit 0 j k (show ((0 : Fin 4)).val = 0 from rfl)]; refine (weight0 ..).trans ?_; rw [mat_read _ _ _ 0 j k (show ((0 : Fin 4)).val = 0 from rfl), mat_cleared, clear3]
  | 1 => rw [mat_miss 1 _ _ (by decide), mat_miss 1 _ _ (by decide), mat_hit 1 j k (show ((1 : Fin 4)).val = 1 from rfl)]; refine (weight1 ..).trans ?_; rw [mat_read _ _ _ 1 j k (show ((1 : Fin 4)).val = 1 from rfl), mat_miss 1 _ _ (by decide), mat_cleared, clear3]
  | 2 => rw [mat_miss 2 _ _ (by decide), mat_hit 2 j k (show ((2 : Fin 4)).val = 2 from rfl)]; refine (weight2 ..).trans ?_; rw [mat_read _ _ _ 2 j k (show ((2 : Fin 4)).val = 2 from rfl), mat_miss 2 _ _ (by decide), mat_miss 2 _ _ (by decide), mat_cleared, clear3]
  | 3 => rw [mat_hit 3 j k (show ((3 : Fin 4)).val = 3 from rfl)]; refine (weight3 ..).trans ?_; rw [mat_read _ _ _ 3 j k (show ((3 : Fin 4)).val = 3 from rfl), mat_miss 3 _ _ (by decide), mat_miss 3 _ _ (by decide), mat_miss 3 _ _ (by decide), mat_cleared, clear3]

theorem weightB (t : Fin cfg0.N) (h0 : ¬t.val % 8 = 0) (g : Fin 4) (j k : Fin 256) :
    (outsAt0 m c t.val t.isLt).2.1 (ix3 g j k) = (outsAt0 m c (t.val - 1) (Nat.lt_of_le_of_lt (Nat.sub_le _ _) t.isLt)).2.1 (ix3 g j k)
      + dweight (n := 1024) (iblk m c 2 t) (iblk m c 0 t) (iblk m c 1 t) (iblk m c 4 t) g j k := by
  rw [outsAt0_B m c t h0]
  frame_out
  match g with
  | 0 => rw [mat_miss 0 _ _ (by decide), mat_miss 0 _ _ (by decide), mat_miss 0 _ _ (by decide), mat_hit 0 j k (show ((0 : Fin 4)).val = 0 from rfl)]; refine (weight0 ..).trans ?_; rw [ld_grp 0 0 rfl]
  | 1 => rw [mat_miss 1 _ _ (by decide), mat_miss 1 _ _ (by decide), mat_hit 1 j k (show ((1 : Fin 4)).val = 1 from rfl)]; refine (weight1 ..).trans ?_; rw [ld_grp 1 1 rfl]
  | 2 => rw [mat_miss 2 _ _ (by decide), mat_hit 2 j k (show ((2 : Fin 4)).val = 2 from rfl)]; refine (weight2 ..).trans ?_; rw [ld_grp 2 2 rfl]
  | 3 => rw [mat_hit 3 j k (show ((3 : Fin 4)).val = 3 from rfl)]; refine (weight3 ..).trans ?_; rw [ld_grp 3 3 rfl]

/-- The gate's half of a block's gradient. -/
theorem gate (t : Fin cfg0.N) (r : Fin 1024) (g : Fin 4) (k : Fin 256) :
    (outsAt0 m c t.val t.isLt).1 (ix2 r (rgt g k))
      = dgate (n := 1024) (iblk m c 2 t) (iblk m c 0 t) (iblk m c 1 t) (iblk m c 3 t) (iblk m c 4 t) r g k := by
  by_cases h0 : t.val % 8 = 0
  on_goal 1 => rw [outsAt0_A m c t h0]
  on_goal 2 => rw [outsAt0_B m c t h0]
  all_goals
    frame_out
    match g with
    | 0 => rw [box_miss _ _ (by rw [rv, v0]; omega), box_miss _ _ (by rw [rv, v0]; omega), box_miss _ _ (by rw [rv, v0]; omega), box_miss _ _ (by rw [rv, v0]; omega), box_miss _ _ (by rw [rv, v0]; omega), box_miss _ _ (by rw [rv, v0]; omega), box_miss _ _ (by rw [rv, v0]; omega), box_hit r (rgt 0 k) k (by rw [rv, v0]; omega)]; exact gate0 ..
    | 1 => rw [box_miss _ _ (by rw [rv, v1]; omega), box_miss _ _ (by rw [rv, v1]; omega), box_miss _ _ (by rw [rv, v1]; omega), box_miss _ _ (by rw [rv, v1]; omega), box_miss _ _ (by rw [rv, v1]; omega), box_hit r (rgt 1 k) k (by rw [rv, v1]; omega)]; exact gate1 ..
    | 2 => rw [box_miss _ _ (by rw [rv, v2]; omega), box_miss _ _ (by rw [rv, v2]; omega), box_miss _ _ (by rw [rv, v2]; omega), box_hit r (rgt 2 k) k (by rw [rv, v2]; omega)]; exact gate2 ..
    | 3 => rw [box_miss _ _ (by rw [rv, v3]; omega), box_hit r (rgt 3 k) k (by rw [rv, v3]; omega)]; exact gate3 ..

/-- The pooled half of the first block's gradient: no rows are ahead of it. -/
theorem backA (t : Fin cfg0.N) (h0 : t.val % 8 = 0) (r : Fin 1024) (g : Fin 4) (k : Fin 256) :
    (outsAt0 m c t.val t.isLt).1 (ix2 r (lft g k))
      = dback (iblk m c 2 t) (iblk m c 0 t) (iblk m c 3 t) (iblk m c 4 t) (posOf (grid0.coords t 0)) (fun _ _ => 0) r g k := by
  rw [outsAt0_A m c t h0]
  frame_out
  match g with
  | 0 => rw [box_miss _ _ (by rw [lv, v0]; omega), box_miss _ _ (by rw [lv, v0]; omega), box_miss _ _ (by rw [lv, v0]; omega), box_miss _ _ (by rw [lv, v0]; omega), box_miss _ _ (by rw [lv, v0]; omega), box_miss _ _ (by rw [lv, v0]; omega), box_hit r (lft 0 k) k (by rw [lv, v0])]; exact left0 _ _ _ _ _ _ _ _ _ _ _ (fun a => by rw [box_read _ _ _ a k (col 0 k) (v0 k), cleared, clear2])
  | 1 => rw [box_miss _ _ (by rw [lv, v1]; omega), box_miss _ _ (by rw [lv, v1]; omega), box_miss _ _ (by rw [lv, v1]; omega), box_miss _ _ (by rw [lv, v1]; omega), box_hit r (lft 1 k) k (by rw [lv, v1])]; exact left1 _ _ _ _ _ _ _ _ _ _ _ (fun a => by rw [box_read _ _ _ a k (col 1 k) (v1 k), box_miss _ _ (by rw [v1]; omega), cleared, clear2])
  | 2 => rw [box_miss _ _ (by rw [lv, v2]; omega), box_miss _ _ (by rw [lv, v2]; omega), box_hit r (lft 2 k) k (by rw [lv, v2])]; exact left2 _ _ _ _ _ _ _ _ _ _ _ (fun a => by rw [box_read _ _ _ a k (col 2 k) (v2 k), box_miss _ _ (by rw [v2]; omega), box_miss _ _ (by rw [v2]; omega), cleared, clear2])
  | 3 => rw [box_hit r (lft 3 k) k (by rw [lv, v3])]; exact left3 _ _ _ _ _ _ _ _ _ _ _ (fun a => by rw [box_read _ _ _ a k (col 3 k) (v3 k), box_miss _ _ (by rw [v3]; omega), box_miss _ _ (by rw [v3]; omega), box_miss _ _ (by rw [v3]; omega), cleared, clear2])

/-- The pooled half of a later block's gradient: ahead of it are the carried rows. -/
theorem backB (t : Fin cfg0.N) (h0 : ¬t.val % 8 = 0) (r : Fin 1024) (g : Fin 4) (k : Fin 256) :
    (outsAt0 m c t.val t.isLt).1 (ix2 r (lft g k))
      = dback (iblk m c 2 t) (iblk m c 0 t) (iblk m c 3 t) (iblk m c 4 t) (posOf (grid0.coords t 0))
          (fun a l => (outsAt0 m c (t.val - 1) (Nat.lt_of_le_of_lt (Nat.sub_le _ _) t.isLt)).2.2.2 (ix2 a l)) r g k := by
  rw [outsAt0_B m c t h0]
  frame_out
  match g with
  | 0 => rw [box_miss _ _ (by rw [lv, v0]; omega), box_miss _ _ (by rw [lv, v0]; omega), box_miss _ _ (by rw [lv, v0]; omega), box_miss _ _ (by rw [lv, v0]; omega), box_miss _ _ (by rw [lv, v0]; omega), box_miss _ _ (by rw [lv, v0]; omega), box_hit r (lft 0 k) k (by rw [lv, v0])]; exact left0 _ _ _ _ _ _ _ _ _ _ _ (fun a => by rw [whole_read_unread, ld_col 0 0 rfl])
  | 1 => rw [box_miss _ _ (by rw [lv, v1]; omega), box_miss _ _ (by rw [lv, v1]; omega), box_miss _ _ (by rw [lv, v1]; omega), box_miss _ _ (by rw [lv, v1]; omega), box_hit r (lft 1 k) k (by rw [lv, v1])]; exact left1 _ _ _ _ _ _ _ _ _ _ _ (fun a => by rw [whole_read_unread, ld_col 1 256 rfl])
  | 2 => rw [box_miss _ _ (by rw [lv, v2]; omega), box_miss _ _ (by rw [lv, v2]; omega), box_hit r (lft 2 k) k (by rw [lv, v2])]; exact left2 _ _ _ _ _ _ _ _ _ _ _ (fun a => by rw [whole_read_unread, ld_col 2 512 rfl])
  | 3 => rw [box_hit r (lft 3 k) k (by rw [lv, v3])]; exact left3 _ _ _ _ _ _ _ _ _ _ _ (fun a => by rw [whole_read_unread, ld_col 3 768 rfl])

end Cert.PoolIdeal.Hand
end
-- ==== Proof.PoolSum.lean ====
module

public import proofs.«01_k».proof.Proof.PoolPoint

@[expose] public section

set_option maxRecDepth 16384

noncomputable section

namespace Cert.PoolIdeal.Hand

open Idealize.ShloMosaic Idealize.ShloMosaic.TcCoe Idealize.SL.Sem
open Cert.PoolIdeal Cert.PoolIdeal.Gen Cert.Hand

/-! The three results as functions of whole arrays. -/

/-- A row's number, counted from one. -/
def pos (r : Fin 8192) : EReal := ((r.val + 1 : ℕ) : ℝ)

section Whole
variable (z dy pl : S8192x1024.Idx → EReal) (pw : S4x256x256.Idx → EReal) (ps : S1x1024.Idx → EReal)

/-- The ratio at a row, nothing past the last one. -/
def ratioAt (g : Fin 4) (k : Fin 256) (n : ℕ) : EReal := if h : n < 8192 then ratio z dy pw ps pos ⟨n, h⟩ g k else 0

/-- The gradient of the pooled rows' argument: the ratios of the rows that average over this one, less the row's own. -/
def dprev (r : Fin 8192) (g : Fin 4) (k : Fin 256) : EReal :=
  (∑ i ∈ Finset.range (span g), ratioAt z dy pw ps g k (r.val + i)) - dpool z dy pw ps r g k

def grpOf (n : ℕ) : Fin 4 := ⟨n / 256 % 4, Nat.mod_lt _ (by decide)⟩
def chOf (n : ℕ) : Fin 256 := ⟨n % 256, Nat.mod_lt _ (by decide)⟩

/-- Both halves of the first result. -/
def both (i : S8192x2048.Idx) : EReal :=
  if (i 1).val < 1024 then dprev z dy pw ps (i 0) (grpOf (i 1).val) (chOf (i 1).val)
  else dgate z dy pl pw ps (i 0) (grpOf (i 1).val) (chOf (i 1).val)

theorem both_lft (r : Fin 8192) (g : Fin 4) (k : Fin 256) : both z dy pl pw ps (ix2 r (lft g k)) = dprev z dy pw ps r g k := by
  have hg := g.isLt; have hk := k.isLt
  have e1 : grpOf (lft g k).val = g := Fin.ext (by show (g.val * 256 + k.val) / 256 % 4 = g.val; omega)
  have e2 : chOf (lft g k).val = k := Fin.ext (by show (g.val * 256 + k.val) % 256 = k.val; omega)
  show (if (lft g k).val < 1024 then dprev z dy pw ps r (grpOf (lft g k).val) (chOf (lft g k).val) else _) = _
  rw [if_pos (by show g.val * 256 + k.val < 1024; omega), e1, e2]

theorem both_rgt (r : Fin 8192) (g : Fin 4) (k : Fin 256) : both z dy pl pw ps (ix2 r (rgt g k)) = dgate z dy pl pw ps r g k := by
  have hg := g.isLt; have hk := k.isLt
  have e1 : grpOf (rgt g k).val = g := Fin.ext (by show (1024 + (g.val * 256 + k.val)) / 256 % 4 = g.val; omega)
  have e2 : chOf (rgt g k).val = k := Fin.ext (by show (1024 + (g.val * 256 + k.val)) % 256 = k.val; omega)
  show (if (rgt g k).val < 1024 then _ else dgate z dy pl pw ps r (grpOf (rgt g k).val) (chOf (rgt g k).val)) = _
  rw [if_neg (by show ¬ 1024 + (g.val * 256 + k.val) < 1024; omega), e1, e2]

end Whole

theorem col_surj (j : Fin 1024) : ∃ g k, j = col g k :=
  ⟨⟨j.val / 256, by omega⟩, ⟨j.val % 256, by omega⟩, Fin.ext (by show j.val = j.val / 256 * 256 + j.val % 256; omega)⟩

theorem half (j : Fin 2048) : (∃ g k, j = lft g k) ∨ ∃ g k, j = rgt g k := by
  by_cases h : j.val < 1024
  · exact Or.inl ⟨⟨j.val / 256, by omega⟩, ⟨j.val % 256, by omega⟩, Fin.ext (by show j.val = j.val / 256 * 256 + j.val % 256; omega)⟩
  · exact Or.inr ⟨⟨(j.val - 1024) / 256, by omega⟩, ⟨(j.val - 1024) % 256, by omega⟩,
      Fin.ext (by show j.val = 1024 + ((j.val - 1024) / 256 * 256 + (j.val - 1024) % 256); omega)⟩

/-! The blocks are rows of the whole arrays, the last rows first. -/

variable (m : (ℓ : Loc nD τ sig) → Buf (Elt Ideal) ℓ) (c : Dev nD)

theorem index0 : ∀ t : Fin cfg0.N, win0_0.index t = ![7 - t.val, 0] := (by decide +kernel : ∀ t : Fin grid0.N, _)
theorem index1 : ∀ t : Fin cfg0.N, win0_1.index t = ![7 - t.val, 0] := (by decide +kernel : ∀ t : Fin grid0.N, _)
theorem index2 : ∀ t : Fin cfg0.N, win0_2.index t = ![7 - t.val, 1] := (by decide +kernel : ∀ t : Fin grid0.N, _)
theorem index3 : ∀ t : Fin cfg0.N, win0_3.index t = ![0, 0, 0] := (by decide +kernel : ∀ t : Fin grid0.N, _)
theorem index4 : ∀ t : Fin cfg0.N, win0_4.index t = ![0, 0] := (by decide +kernel : ∀ t : Fin grid0.N, _)
theorem coord (t : Fin cfg0.N) : (grid0.coords t 0).val = t.val := by
  have h : ∀ t : Fin grid0.N, (grid0.coords t 0).val = t.val := by decide +kernel
  exact h t

theorem lt_eight (t : Fin cfg0.N) : t.val < 8 := lt_of_lt_of_eq t.isLt N_0

/-- Row `r` of the block walked at point `t`. -/
def row (t : Fin cfg0.N) (r : Fin 1024) : Fin 8192 := ⟨(7 - t.val) * 1024 + r.val, by have := r.isLt; omega⟩

/-- The gate's argument: the second thousand columns of the projections. -/
def gateArg (p : S8192x6144.Idx → EReal) : S8192x1024.Idx → EReal := fun i => p (ix2 (i 0) ⟨1024 + (i 1).val, by have : (i 1).val < 1024 := (i 1).isLt; omega⟩)

theorem blk0 (t : Fin cfg0.N) (r : Fin 1024) (k : Fin 1024) : iblk m c 0 t (ix2 r k) = m ((c : Thread nD τ).loc main_arg3) (ix2 (row t r) k) := by
  unfold row; blk_point [iblk, V, index0 t]
theorem blk1 (t : Fin cfg0.N) (r : Fin 1024) (k : Fin 1024) : iblk m c 1 t (ix2 r k) = V m c main_v45 (ix2 (row t r) k) := by
  unfold row; blk_point [iblk, index1 t]
theorem blk2 (t : Fin cfg0.N) (r : Fin 1024) (k : Fin 1024) :
    iblk m c 2 t (ix2 r k) = gateArg (m ((c : Thread nD τ).loc main_arg0)) (ix2 (row t r) k) := by
  unfold row gateArg; blk_point [iblk, V, index2 t]
theorem blk3 (t : Fin cfg0.N) (g : Fin 4) (j k : Fin 256) : iblk m c 3 t (ix3 g j k) = V m c main_v46 (ix3 g j k) := by
  blk_point [iblk, index3 t]
theorem blk4 (t : Fin cfg0.N) (k : Fin 1024) : iblk m c 4 t (ix2 0 k) = m ((c : Thread nD τ).loc main_arg2) (ix2 0 k) := by
  blk_point [iblk, V, index4 t]

/-! What the kernel computes on a block is what the whole arrays give at the block's rows. -/

/-- The gate's argument, the gradient that comes in, the pooled rows, the matrices and the scale. -/
def Z : S8192x1024.Idx → EReal := gateArg (m ((c : Thread nD τ).loc main_arg0))
def DY : S8192x1024.Idx → EReal := m ((c : Thread nD τ).loc main_arg3)
def PL : S8192x1024.Idx → EReal := V m c main_v45
def PW : S4x256x256.Idx → EReal := V m c main_v46
def PS : S1x1024.Idx → EReal := m ((c : Thread nD τ).loc main_arg2)

theorem dms_blk (t : Fin cfg0.N) (r : Fin 1024) (k : Fin 1024) : dms (iblk m c 2 t) (iblk m c 0 t) r k = dms (Z m c) (DY m c) (row t r) k := by
  simp only [dms, blk0, blk2]; rfl
theorem mixed_blk (t : Fin cfg0.N) (r : Fin 1024) (g : Fin 4) (k : Fin 256) :
    mixed (iblk m c 1 t) (iblk m c 3 t) r g k = mixed (PL m c) (PW m c) (row t r) g k := by
  simp only [mixed, blk1, blk3]; rfl
theorem dgate_blk (t : Fin cfg0.N) (r : Fin 1024) (g : Fin 4) (k : Fin 256) :
    dgate (iblk m c 2 t) (iblk m c 0 t) (iblk m c 1 t) (iblk m c 3 t) (iblk m c 4 t) r g k
      = dgate (Z m c) (DY m c) (PL m c) (PW m c) (PS m c) (row t r) g k := by
  simp only [dgate, blk0, blk2, blk4, mixed_blk]; rfl
theorem dpool_blk (t : Fin cfg0.N) (r : Fin 1024) (g : Fin 4) (k : Fin 256) :
    dpool (iblk m c 2 t) (iblk m c 0 t) (iblk m c 3 t) (iblk m c 4 t) r g k = dpool (Z m c) (DY m c) (PW m c) (PS m c) (row t r) g k := by
  simp only [dpool, dms_blk, blk3, blk4]; rfl
theorem pos_blk (t : Fin cfg0.N) (r : Fin 1024) : posOf (grid0.coords t 0) r = pos (row t r) := by
  unfold posOf pos row; rw [coord]
theorem ratio_blk (t : Fin cfg0.N) (r : Fin 1024) (g : Fin 4) (k : Fin 256) :
    ratio (iblk m c 2 t) (iblk m c 0 t) (iblk m c 3 t) (iblk m c 4 t) (posOf (grid0.coords t 0)) r g k
      = ratio (Z m c) (DY m c) (PW m c) (PS m c) pos (row t r) g k := by
  unfold ratio; rw [dpool_blk, pos_blk]

theorem back_blk (t : Fin cfg0.N) (r : Fin 1024) (g : Fin 4) (k : Fin 256) (ah : Fin 16 → Fin 1024 → EReal)
    (hah : ∀ a : Fin 16, ah a (col g k) = ratioAt (Z m c) (DY m c) (PW m c) (PS m c) g k ((7 - t.val) * 1024 + 1024 + a.val)) :
    dback (iblk m c 2 t) (iblk m c 0 t) (iblk m c 3 t) (iblk m c 4 t) (posOf (grid0.coords t 0)) ah r g k
      = dprev (Z m c) (DY m c) (PW m c) (PS m c) (row t r) g k := by
  unfold dback dprev
  rw [dpool_blk]
  refine congrArg (· - _) (Finset.sum_congr rfl fun i hi => ?_)
  have hs : span g ≤ 16 := by match g with | 0 => decide | 1 => decide | 2 => decide | 3 => decide
  have hi' : i < 16 := lt_of_lt_of_le (Finset.mem_range.mp hi) hs
  have ht := lt_eight t
  have hr := r.isLt
  have e : (row t r).val + i = (7 - t.val) * 1024 + (r.val + i) := Nat.add_assoc _ _ _
  rw [e]
  unfold ext
  by_cases hn : r.val + i < 1024
  · rw [dif_pos hn]
    refine (ratio_blk m c t ⟨_, hn⟩ g k).trans ?_
    rw [ratioAt, dif_pos (by omega)]; rfl
  · rw [dif_neg hn, dif_pos (by omega)]
    refine (hah ⟨_, _⟩).trans ?_
    exact congrArg _ (by show (7 - t.val) * 1024 + 1024 + (r.val + i - 1024) = _; omega)

theorem back_all (t : Fin cfg0.N) (r : Fin 1024) (g : Fin 4) (k : Fin 256) :
    (outsAt0 m c t.val t.isLt).1 (ix2 r (lft g k)) = dprev (Z m c) (DY m c) (PW m c) (PS m c) (row t r) g k := by
  have ht := lt_eight t
  by_cases h0 : t.val % 8 = 0
  · rw [backA m c t h0]
    refine back_blk m c t r g k _ fun a => ?_
    rw [ratioAt, dif_neg (by omega)]
  · rw [backB m c t h0]
    refine back_blk m c t r g k _ fun a => ?_
    have := halo m c ⟨t.val - 1, by omega⟩ a g k
    refine Eq.trans this ?_
    rw [ratio_blk, ratioAt, dif_pos (by omega)]
    exact congrArg (fun n => ratio (Z m c) (DY m c) (PW m c) (PS m c) pos n g k)
      (Fin.ext (by show (7 - (t.val - 1)) * 1024 + a.val = (7 - t.val) * 1024 + 1024 + a.val; omega))

theorem index5 : ∀ t : Fin cfg0.N, win0_5.index t = ![7 - t.val, 0] := (by decide +kernel : ∀ t : Fin grid0.N, _)

theorem result5 : (dats m 0 c).arrAt 5 cfg0.N = both (Z m c) (DY m c) (PL m c) (PW m c) (PS m c) := by
  refine (dats m 0 c).arrAt_eq_of_covers 5 _ (by decide +kernel) fun t hf y => ?_
  obtain ⟨r, j, rfl⟩ : ∃ (r : Fin 1024) (j : Fin 2048), y = ix2 r j := ⟨_, _, idx2_eq y⟩
  rw [after0_5]
  have e : (win0_5.blk t).view.emb (ix2 r j) = ix2 (row t r) j := by
    refine funext fun a => Fin.ext ?_
    match a with
    | ⟨0, _⟩ => show win0_5.index t 0 * 1024 + 1 * r.val = (7 - t.val) * 1024 + r.val; rw [index5 t, one_mul]; rfl
    | ⟨1, _⟩ => show win0_5.index t 1 * 2048 + 1 * j.val = j.val; rw [index5 t, one_mul]; exact Nat.zero_add _
  blk_simp
  rw [e]
  rcases half j with ⟨g, k, rfl⟩ | ⟨g, k, rfl⟩
  · rw [both_lft]; exact back_all m c t r g k
  · rw [both_rgt]; exact (gate m c t r g k).trans (dgate_blk m c t r g k)

/-! The sums over all rows. -/

theorem sum_rows (f : Fin 8192 → EReal) : ∑ p : Fin cfg0.N, ∑ r : Fin 1024, f (row p r) = ∑ r : Fin 8192, f r := by
  rw [← Equiv.sum_comp (Fin.revPerm (n := cfg0.N))]
  refine Fin.sum_mul_add_congr (fun t r hl => ?_) (by rw [show cfg0.N = 8 from N_0])
  exact congrArg f (Fin.ext (by
    have ht := lt_eight t
    have hN : cfg0.N = 8 := N_0
    show (7 - (Fin.rev t).val) * 1024 + r.val = t.val * 1024 + r.val
    rw [Fin.val_rev]; omega))

theorem last7 : (7 : ℕ) < cfg0.N := by rw [show cfg0.N = 8 from N_0]; decide

theorem total7 (g : Fin 4) (k : Fin 256) :
    (outsAt0 m c 7 last7).2.2.1 (ix2 0 (col g k)) = dscale (Z m c) (DY m c) (PL m c) (PW m c) g k := by
  refine (Pipeline.eq_sum_fin_of_reset_step_apply_last (fun n h (_ : Unit) => (outsAt0 m c n h).2.2.1 (ix2 0 (col g k))) 8 (fun _ => 0)
    (fun t _ => dscale (n := 1024) (iblk m c 2 t) (iblk m c 0 t) (iblk m c 1 t) (iblk m c 3 t) g k)
    (fun t h _ => scaleA m c t h g k) (fun t h _ => scaleB m c t h g k) (le_of_eq N_0) ⟨7, last7⟩ N_0.symm ()).trans ?_
  rw [zero_add]
  unfold dscale
  simp only [dms_blk, mixed_blk]
  exact sum_rows (fun r => dms (Z m c) (DY m c) r (col g k) * mixed (PL m c) (PW m c) r g k)

theorem total6 (g : Fin 4) (j k : Fin 256) :
    (outsAt0 m c 7 last7).2.1 (ix3 g j k) = dweight (Z m c) (DY m c) (PL m c) (PS m c) g j k := by
  refine (Pipeline.eq_sum_fin_of_reset_step_apply_last (fun n h (_ : Unit) => (outsAt0 m c n h).2.1 (ix3 g j k)) 8 (fun _ => 0)
    (fun t _ => dweight (n := 1024) (iblk m c 2 t) (iblk m c 0 t) (iblk m c 1 t) (iblk m c 4 t) g j k)
    (fun t h _ => weightA m c t h g j k) (fun t h _ => weightB m c t h g j k) (le_of_eq N_0) ⟨7, last7⟩ N_0.symm ()).trans ?_
  rw [zero_add]
  unfold dweight
  simp only [dms_blk, blk1, blk4]
  exact sum_rows (fun r => PL m c (ix2 r (col g j)) * (dms (Z m c) (DY m c) r (col g k) * PS m c (ix2 0 (col g k))))

theorem result7 (g : Fin 4) (k : Fin 256) :
    (dats m 0 c).arrAt 7 cfg0.N (ix2 0 (col g k)) = dscale (Z m c) (DY m c) (PL m c) (PW m c) g k := by
  have h : (dats m 0 c).arrAt 7 cfg0.N = (outsAt0 m c 7 last7).2.2.1 := by
    refine (dats m 0 c).arrAt_eq_of_after_last 7 ⟨7, last7⟩ (by decide +kernel) _ fun i => ?_
    rw [after0_7]
    exact congrArg (outsAt0 m c 7 last7).2.2.1 (funext fun a => Fin.ext rfl)
  rw [h, total7]

theorem result6 (g : Fin 4) (j k : Fin 256) :
    (dats m 0 c).arrAt 6 cfg0.N (ix3 g j k) = dweight (Z m c) (DY m c) (PL m c) (PS m c) g j k := by
  have h : (dats m 0 c).arrAt 6 cfg0.N = (outsAt0 m c 7 last7).2.1 := by
    refine (dats m 0 c).arrAt_eq_of_after_last 6 ⟨7, last7⟩ (by decide +kernel) _ fun i => ?_
    rw [after0_6]
    exact congrArg (outsAt0 m c 7 last7).2.1 (funext fun a => Fin.ext rfl)
  rw [h, total6]

end Cert.PoolIdeal.Hand
end
-- ==== Proof.PoolRef.lean ====
module

public import proofs.«01_k».proof.Proof.Reals
public import proofs.«01_k».proof.Proof.PoolSum
public import proofs.«01_k».proof.Proof.Gen.PoolRefIdeal.Read

@[expose] public section

set_option maxRecDepth 16384

noncomputable section

namespace Cert.PoolIdeal.Hand

open Idealize.ShloMosaic Idealize.ShloMosaic.TcCoe Idealize.SL.Sem
open Cert.PoolIdeal Cert.Hand
open Cert.PoolRefIdeal.Read

variable (p : S8192x6144.Idx → EReal) (w : S4x256x256.Idx → EReal) (s : S1x1024.Idx → EReal) (y : S8192x1024.Idx → EReal)

theorem idx3_eq {n₀ n₁ n₂ : ℕ} (i : (⟨3, ![n₀, n₁, n₂]⟩ : Shape).Idx) : i = ix3 (i 0) (i 1) (i 2) :=
  funext fun a => by match a with | ⟨0, _⟩ => rfl | ⟨1, _⟩ => rfl | ⟨2, _⟩ => rfl

theorem split_col (r : Fin 8192) (g : Fin 4) (k : Fin 256) : idx_main_v53 (ix2 r (col g k)) = ix3 r g k := by
  have hg := g.isLt; have hk := k.isLt; have hr := r.isLt
  refine funext fun a => Fin.ext ?_
  match a with
  | ⟨0, _⟩ => show (r.val * 1024 + (g.val * 256 + k.val)) / 1024 = r.val; omega
  | ⟨1, _⟩ => show (r.val * 1024 + (g.val * 256 + k.val)) / 256 % 4 = g.val; omega
  | ⟨2, _⟩ => show (r.val * 1024 + (g.val * 256 + k.val)) % 256 = k.val; omega

theorem join_col (r : Fin 8192) (g : Fin 4) (k : Fin 256) : idx_main_v50 (ix3 r g k) = ix2 r (col g k) := by
  have hg := g.isLt; have hk := k.isLt; have hr := r.isLt
  refine funext fun a => Fin.ext ?_
  match a with
  | ⟨0, _⟩ => show ((r.val * 4 + g.val) * 256 + k.val) / 1024 = r.val; omega
  | ⟨1, _⟩ => show ((r.val * 4 + g.val) * 256 + k.val) % 1024 = g.val * 256 + k.val; omega

/-- The mixture of the pooled channels. -/
theorem r_mixed (r : Fin 8192) (g : Fin 4) (k : Fin 256) :
    val_main_v53 (F := Ideal) p w (ix2 r (col g k)) = mixed (val_main_v49 (F := Ideal) p) w r g k := by
  rw [val_main_v53_apply, split_col, val_main_v52_apply, val_main_v51_apply]
  refine Finset.sum_congr rfl fun l _ => ?_
  rw [mul_comm, show lidx_main_v51 (idx_main_v52 (ix3 r g k)) l = ix3 g l k from idx3_eq _,
    show ridx_main_v51 (idx_main_v52 (ix3 r g k)) l = ix3 r g l from idx3_eq _, val_main_v50_apply, join_col]

theorem r_gate (r : Fin 8192) (k : Fin 1024) : val_main_v2 (F := Ideal) p (ix2 r k) = gateArg p (ix2 r k) := by
  simp only [val_main_v2, val_main_v0]
  pointwise [gateArg]

theorem r_sig (r : Fin 8192) (k : Fin 1024) : val_main_v56_2 (F := Ideal) p (ix2 r k) = Ideal.logistic (gateArg p (ix2 r k)) := by
  simp only [val_main_v56_2, val_main_call1_v4, val_main_call1_v3, val_main_call1_v2, val_main_call1_v1, val_main_call1_v0, val_main_call1_cst, val_main_call1_cst_0]
  pointwise []
  rw [r_gate]; rfl

theorem r_dms (r : Fin 8192) (k : Fin 1024) : val_main_v60 (F := Ideal) p y (ix2 r k) = dms (gateArg p) y r k := by
  simp only [val_main_v60, val_main_v58, val_main_v56_0]
  pointwise [dms]
  rw [r_gate, r_sig]

/-- The gradient of the gate's argument, as differentiation writes it. -/
theorem r_dz (r : Fin 8192) (g : Fin 4) (k : Fin 256) :
    val_main_v61 (F := Ideal) p w s y (ix2 r (col g k))
      = mixed (val_main_v49 (F := Ideal) p) w r g k * s (ix2 0 (col g k)) * y (ix2 r (col g k)) * Ideal.logistic (gateArg p (ix2 r (col g k)))
        + gateArg p (ix2 r (col g k)) * (mixed (val_main_v49 (F := Ideal) p) w r g k * s (ix2 0 (col g k)) * y (ix2 r (col g k)))
          * (Ideal.logistic (gateArg p (ix2 r (col g k))) * (1 - Ideal.logistic (gateArg p (ix2 r (col g k))))) := by
  simp only [val_main_v61, val_main_call2_v2, val_main_call2_v1, val_main_call2_v0, val_main_v59, val_main_v58, val_main_v56_1, val_main_v55, val_main_v54,
    val_main_call1_v7, val_main_call1_v6, val_main_call1_cst_1]
  pointwise []
  rw [r_mixed, r_sig, r_gate]

theorem r_scale (g : Fin 4) (k : Fin 256) :
    val_main_v64 (F := Ideal) p w y (ix2 0 (col g k)) = dscale (gateArg p) y (val_main_v49 (F := Ideal) p) w g k := by
  simp only [val_main_v64, val_main_v63, val_main_v62, val_main_cst_12]
  pointwise [dscale]
  refine Finset.sum_congr rfl fun r _ => ?_
  rw [r_mixed, r_dms, mul_comm]

theorem r_dmixed (r : Fin 8192) (g : Fin 4) (k : Fin 256) :
    val_main_v66 (F := Ideal) p s y (ix2 r (col g k)) = dms (gateArg p) y r (col g k) * s (ix2 0 (col g k)) := by
  simp only [val_main_v66, val_main_v65]
  pointwise []
  rw [r_dms]

theorem split_col' (r : Fin 8192) (g : Fin 4) (k : Fin 256) : idx_main_v73 (ix2 r (col g k)) = ix3 r g k := by
  have hg := g.isLt; have hk := k.isLt; have hr := r.isLt
  refine funext fun a => Fin.ext ?_
  match a with
  | ⟨0, _⟩ => show (r.val * 1024 + (g.val * 256 + k.val)) / 1024 = r.val; omega
  | ⟨1, _⟩ => show (r.val * 1024 + (g.val * 256 + k.val)) / 256 % 4 = g.val; omega
  | ⟨2, _⟩ => show (r.val * 1024 + (g.val * 256 + k.val)) % 256 = k.val; omega

theorem join_col' (r : Fin 8192) (g : Fin 4) (k : Fin 256) : idx_main_v67 (ix3 r g k) = ix2 r (col g k) := by
  have hg := g.isLt; have hk := k.isLt; have hr := r.isLt
  refine funext fun a => Fin.ext ?_
  match a with
  | ⟨0, _⟩ => show ((r.val * 4 + g.val) * 256 + k.val) / 1024 = r.val; omega
  | ⟨1, _⟩ => show ((r.val * 4 + g.val) * 256 + k.val) % 1024 = g.val * 256 + k.val; omega

theorem r_cols (g : Fin 4) (d : Fin 256) (r : Fin 8192) :
    val_main_v68 (F := Ideal) p s y (ix3 g d r) = dms (gateArg p) y r (col g d) * s (ix2 0 (col g d)) := by
  rw [val_main_v68_apply, show idx_main_v68 (ix3 g d r) = ix3 r g d from idx3_eq _, val_main_v67_apply, join_col', r_dmixed]

theorem r_dpool (r : Fin 8192) (g : Fin 4) (k : Fin 256) :
    val_main_v73 (F := Ideal) p w s y (ix2 r (col g k)) = dpool (gateArg p) y w s r g k := by
  rw [val_main_v73_apply, split_col', val_main_v70_apply, val_main_v69_apply]
  refine Finset.sum_congr rfl fun d _ => ?_
  rw [show lidx_main_v69 (idx_main_v70 (ix3 r g k)) d = ix3 g d r from idx3_eq _,
    show ridx_main_v69 (idx_main_v70 (ix3 r g k)) d = ix3 g k d from idx3_eq _, r_cols]

theorem r_weight (g : Fin 4) (j k : Fin 256) :
    val_main_v72 (F := Ideal) p s y (ix3 g j k) = dweight (gateArg p) y (val_main_v49 (F := Ideal) p) s g j k := by
  rw [val_main_v72_apply, val_main_v71_apply]
  refine Finset.sum_congr rfl fun r _ => ?_
  rw [show lidx_main_v71 (idx_main_v72 (ix3 g j k)) r = ix3 g k r from idx3_eq _,
    show ridx_main_v71 (idx_main_v72 (ix3 g j k)) r = ix3 r g j from idx3_eq _, r_cols, val_main_v50_apply, join_col, mul_comm]

theorem ix2_of {a b : ℕ} (i : (⟨2, ![a, b]⟩ : Shape).Idx) {r : Fin a} {c : Fin b} (h0 : (i 0).val = r.val) (h1 : (i 1).val = c.val) :
    i = ix2 r c :=
  (Cert.Hand.idx2_eq i).trans (congrArg₂ (ix2 (n0 := a) (n1 := b)) (Fin.ext h0) (Fin.ext h1))

/-! The running totals' gradient: a row's quotient, less the quotient of the row a window further on. -/

/-- A row's number, as the host counts it. -/
theorem r_pos (r : Fin 8192) : val_main_v7 (F := Ideal) (ix2 r 0) = pos r := by
  simp only [val_main_v7, val_main_v6, val_main_v5, val_main_v4, val_main_cst]
  pointwise []
  show (1 : EReal) + (((BitVec.ofNat 32 r.val).toInt : ℝ) : EReal) = _
  have hr := r.isLt
  rw [BitVec.toInt_eq_toNat_of_lt (by rw [BitVec.toNat_ofNat]; omega), BitVec.toNat_ofNat, Nat.mod_eq_of_lt (by omega), pos, add_comm]
  norm_cast

/-- The quotient at a row, nothing past the last one. -/
def quot (g : Fin 4) (k : Fin 256) (n : ℕ) : EReal :=
  if h : n < 8192 then Ideal.div (dpool (gateArg p) y w s ⟨n, h⟩ g k) (min (pos ⟨n, h⟩) (window g)) else 0

theorem quot_zero (g : Fin 4) (k : Fin 256) (n : ℕ) (hn : 8192 ≤ n) : quot p w s y g k n = 0 := dif_neg (by omega)

/-- A term less the term `b` further on, nothing where that one is past the last. -/
theorem lag_of (Q : ℕ → EReal) (a b : ℕ) (r : Fin 8192) (hab : a + b = 8192) (h0 : ∀ n, 8192 ≤ n → Q n = 0) :
    (Q r.val + if _h : r.val < a then -Q (b + r.val) else 0) = Q r.val + -Q (r.val + b) := by
  split_ifs with h
  · rw [Nat.add_comm b]
  · rw [h0 (r.val + b) (by omega), neg_zero]

theorem r_quot0 (r : Fin 8192) (k : Fin 256) : val_main_v106 (F := Ideal) p w s y (ix2 r k) = quot p w s y 0 k r.val := by
  simp only [val_main_v106, val_main_v105, val_main_v14, val_main_v13, val_main_v78, val_main_cst_2]
  pointwise [quot]
  rw [r_pos, val_main_v75_apply, show idx_main_v75 (ix2 r k) = ix2 r (col 0 k) from ix2_of _ (by first | rfl | (simp [idx_main_v75, idx_main_v76, idx_main_v77, idx_main_v78, col]; done) | trace_state) (by first | rfl | (simp [idx_main_v75, idx_main_v76, idx_main_v77, idx_main_v78, col]; done) | trace_state), r_dpool]
  rfl
theorem r_step0 (r : Fin 8192) (k : Fin 256) : val_main_v111 (F := Ideal) p w s y (ix2 r k) = quot p w s y 0 k r.val + -quot p w s y 0 k (r.val + span 0) := by
  simp only [val_main_v111, val_main_v110, val_main_v109, val_main_v107, val_main_cst_19]
  pointwise []
  simp only [r_quot0]
  exact lag_of _ 8190 2 r rfl fun n hn => quot_zero p w s y _ k n hn
theorem r_quot1 (r : Fin 8192) (k : Fin 256) : val_main_v97 (F := Ideal) p w s y (ix2 r k) = quot p w s y 1 k r.val := by
  simp only [val_main_v97, val_main_v96, val_main_v24, val_main_v23, val_main_v77, val_main_cst_5]
  pointwise [quot]
  rw [r_pos, val_main_v76_apply, show idx_main_v76 (ix2 r k) = ix2 r (col 1 k) from ix2_of _ (by first | rfl | (simp [idx_main_v75, idx_main_v76, idx_main_v77, idx_main_v78, col]; done) | trace_state) (by first | rfl | (simp [idx_main_v75, idx_main_v76, idx_main_v77, idx_main_v78, col]; done) | trace_state), r_dpool]
  rfl
theorem r_step1 (r : Fin 8192) (k : Fin 256) : val_main_v102 (F := Ideal) p w s y (ix2 r k) = quot p w s y 1 k r.val + -quot p w s y 1 k (r.val + span 1) := by
  simp only [val_main_v102, val_main_v101, val_main_v100, val_main_v98, val_main_cst_17]
  pointwise []
  simp only [r_quot1]
  exact lag_of _ 8188 4 r rfl fun n hn => quot_zero p w s y _ k n hn
theorem r_quot2 (r : Fin 8192) (k : Fin 256) : val_main_v88 (F := Ideal) p w s y (ix2 r k) = quot p w s y 2 k r.val := by
  simp only [val_main_v88, val_main_v87, val_main_v34, val_main_v33, val_main_v76, val_main_cst_8]
  pointwise [quot]
  rw [r_pos, val_main_v77_apply, show idx_main_v77 (ix2 r k) = ix2 r (col 2 k) from ix2_of _ (by first | rfl | (simp [idx_main_v75, idx_main_v76, idx_main_v77, idx_main_v78, col]; done) | trace_state) (by first | rfl | (simp [idx_main_v75, idx_main_v76, idx_main_v77, idx_main_v78, col]; done) | trace_state), r_dpool]
  rfl
theorem r_step2 (r : Fin 8192) (k : Fin 256) : val_main_v93 (F := Ideal) p w s y (ix2 r k) = quot p w s y 2 k r.val + -quot p w s y 2 k (r.val + span 2) := by
  simp only [val_main_v93, val_main_v92, val_main_v91, val_main_v89, val_main_cst_15]
  pointwise []
  simp only [r_quot2]
  exact lag_of _ 8184 8 r rfl fun n hn => quot_zero p w s y _ k n hn
theorem r_quot3 (r : Fin 8192) (k : Fin 256) : val_main_v80 (F := Ideal) p w s y (ix2 r k) = quot p w s y 3 k r.val := by
  simp only [val_main_v80, val_main_v79, val_main_v44, val_main_v43, val_main_v75, val_main_cst_11]
  pointwise [quot]
  rw [r_pos, val_main_v78_apply, show idx_main_v78 (ix2 r k) = ix2 r (col 3 k) from ix2_of _ (by first | rfl | (simp [idx_main_v75, idx_main_v76, idx_main_v77, idx_main_v78, col]; done) | trace_state) (by first | rfl | (simp [idx_main_v75, idx_main_v76, idx_main_v77, idx_main_v78, col]; done) | trace_state), r_dpool]
  rfl
theorem r_step3 (r : Fin 8192) (k : Fin 256) : val_main_v85 (F := Ideal) p w s y (ix2 r k) = quot p w s y 3 k r.val + -quot p w s y 3 k (r.val + span 3) := by
  simp only [val_main_v85, val_main_v84, val_main_v83, val_main_v81, val_main_cst_13]
  pointwise []
  simp only [r_quot3]
  exact lag_of _ 8176 16 r rfl fun n hn => quot_zero p w s y _ k n hn
theorem r_lag0 (r : Fin 8192) (k : Fin 256) : val_main_v113 (F := Ideal) p w s y (ix2 r (col 0 k)) = quot p w s y 0 k r.val + -quot p w s y 0 k (r.val + span 0) := by
  simp only [val_main_v113, val_main_v112, val_main_v104, val_main_v103, val_main_v95, val_main_v94, val_main_v86, val_main_cst_14, val_main_cst_16, val_main_cst_18, val_main_cst_20]
  pointwise [col]
  have hk := k.isLt
  split_ifs <;> first | (exfalso; omega) | exact (‹False ∧ _›.1).elim | simp only [r_step0, zero_add, add_zero]
theorem r_lag1 (r : Fin 8192) (k : Fin 256) : val_main_v113 (F := Ideal) p w s y (ix2 r (col 1 k)) = quot p w s y 1 k r.val + -quot p w s y 1 k (r.val + span 1) := by
  simp only [val_main_v113, val_main_v112, val_main_v104, val_main_v103, val_main_v95, val_main_v94, val_main_v86, val_main_cst_14, val_main_cst_16, val_main_cst_18, val_main_cst_20]
  pointwise [col]
  have hk := k.isLt
  split_ifs <;> first | (exfalso; omega) | exact (‹False ∧ _›.1).elim | simp only [r_step1, zero_add, add_zero]
theorem r_lag2 (r : Fin 8192) (k : Fin 256) : val_main_v113 (F := Ideal) p w s y (ix2 r (col 2 k)) = quot p w s y 2 k r.val + -quot p w s y 2 k (r.val + span 2) := by
  simp only [val_main_v113, val_main_v112, val_main_v104, val_main_v103, val_main_v95, val_main_v94, val_main_v86, val_main_cst_14, val_main_cst_16, val_main_cst_18, val_main_cst_20]
  pointwise [col]
  have hk := k.isLt
  split_ifs <;> first | (exfalso; omega) | exact (‹False ∧ _›.1).elim | simp only [r_step2, zero_add, add_zero]
theorem r_lag3 (r : Fin 8192) (k : Fin 256) : val_main_v113 (F := Ideal) p w s y (ix2 r (col 3 k)) = quot p w s y 3 k r.val + -quot p w s y 3 k (r.val + span 3) := by
  simp only [val_main_v113, val_main_v112, val_main_v104, val_main_v103, val_main_v95, val_main_v94, val_main_v86, val_main_cst_14, val_main_cst_16, val_main_cst_18, val_main_cst_20]
  pointwise [col]
  have hk := k.isLt
  split_ifs <;> first | (exfalso; omega) | exact (‹False ∧ _›.1).elim | simp only [r_step3, zero_add, add_zero]

/-- One column of a window: its rows. -/
def rows8192 : (⟨2, ![8192, 1]⟩ : Shape).Idx ≃ Fin 8192 where
  toFun x := x 0
  invFun n := ix2 n 0
  left_inv x := (ix2_of x rfl (by have := (x 1).isLt; show (x 1).val = 0; exact Nat.lt_one_iff.mp this)).symm
  right_inv _ := rfl

/-- The window's elements from an initial value of zero, as one sum over the rows. -/
theorem window_sum (lo : ℕ) (hi : ℕ) (x : S8192x1024.Idx → EReal)
    (h : S8192x1024.ReduceWindows ![8192, 1] ![1, 1] ![lo, 0] ![hi, 0] S8192x1024) (v : EReal) (hv : v = 0) (r : Fin 8192) (j : Fin 1024) :
    Ideal.hostReduceWindowAdd ![8192, 1] ![1, 1] ![lo, 0] ![hi, 0] h x v (ix2 r j) =
      ∑ n : Fin 8192, if h : lo ≤ r.val + n.val ∧ r.val + n.val - lo < 8192 then x (ix2 ⟨r.val + n.val - lo, h.2⟩ j) else 0 := by
  refine (foldl_add_eq_sum _ _).trans ?_
  subst hv
  rw [zero_add, ← Equiv.sum_comp (Shape.rowMajor ⟨2, ![8192, 1]⟩)]
  refine Fintype.sum_equiv rows8192 _ _ fun w => ?_
  simp only [Equiv.symm_apply_apply]
  have hw : (w 1).val = 0 := Nat.lt_one_iff.mp (w 1).isLt
  have e0 : ((ix2 r j : S8192x1024.Idx) 0).val * 1 + (w 0).val = r.val + (rows8192 w).val := by rw [Nat.mul_one]; rfl
  split_ifs with h1 h2 h2
  · refine congrArg x (ix2_of _ ?_ ?_)
    · show r.val * 1 + (w 0).val - lo = _
      rw [Nat.mul_one]; rfl
    · show j.val * 1 + (w 1).val - 0 = _
      rw [hw]; omega
  · exact absurd (by have := h1 0; rw [← e0]; exact this) h2
  · refine absurd (fun a => ?_) h1
    match a with
    | ⟨0, _⟩ => rw [← e0] at h2; exact h2
    | ⟨1, _⟩ =>
      have := j.isLt
      refine ⟨Nat.zero_le _, ?_⟩
      show j.val * 1 + (w 1).val - 0 < 1024
      omega
  · rfl

theorem r_total (r : Fin 8192) (j : Fin 1024) : val_main_v114 (F := Ideal) p w s y (ix2 r j) =
    ∑ n ∈ Finset.range 8192, if h : r.val + n < 8192 then val_main_v113 (F := Ideal) p w s y (ix2 ⟨r.val + n, h⟩ j) else 0 := by
  unfold val_main_v114
  simp only [Host.reduceWindowAdd, Ideal.hostReduceWindowAdd_def]
  refine (window_sum 0 8191 _ _ _ (by simp only [val_main_call3_call0_v0, val_main_call3_call0_cst]; pointwise []) r j).trans ?_
  rw [← Fin.sum_univ_eq_sum_range (fun n => if h : r.val + n < 8192 then val_main_v113 (F := Ideal) p w s y (ix2 ⟨r.val + n, h⟩ j) else 0)]
  refine Finset.sum_congr rfl fun n _ => ?_
  simp only [Nat.zero_le, true_and, Nat.sub_zero]

theorem r_lag (r : Fin 8192) (g : Fin 4) (k : Fin 256) :
    val_main_v113 (F := Ideal) p w s y (ix2 r (col g k)) = quot p w s y g k r.val + -quot p w s y g k (r.val + span g) := by
  match g with
  | 0 => exact r_lag0 ..
  | 1 => exact r_lag1 ..
  | 2 => exact r_lag2 ..
  | 3 => exact r_lag3 ..

/-! What finite arguments give. -/

theorem window_real (g : Fin 4) : ∃ a : ℝ, window g = a ∧ 0 < a := by
  match g with
  | 0 => exact ⟨2, by simp [window, Ideal.ofBits, Ideal.ieee]; rw [← EReal.coe_mul]; congr 1; norm_num, by norm_num⟩
  | 1 => exact ⟨4, by simp [window, Ideal.ofBits, Ideal.ieee]; rw [← EReal.coe_mul]; congr 1; norm_num, by norm_num⟩
  | 2 => exact ⟨8, by simp [window, Ideal.ofBits, Ideal.ieee]; rw [← EReal.coe_mul]; congr 1; norm_num, by norm_num⟩
  | 3 => exact ⟨16, by simp [window, Ideal.ofBits, Ideal.ieee]; rw [← EReal.coe_mul]; congr 1; norm_num, by norm_num⟩

theorem count_real (r : Fin 8192) (g : Fin 4) : ∃ a : ℝ, min (pos r) (window g) = a ∧ 0 < a := by
  obtain ⟨a, ha, h⟩ := window_real g
  refine ⟨min ((r.val + 1 : ℕ) : ℝ) a, ?_, lt_min (by positivity) h⟩
  rw [ha, pos]
  exact (EReal.coe_strictMono.monotone.map_min).symm

theorem div_count (x : EReal) (r : Fin 8192) (g : Fin 4) :
    Ideal.div x (min (pos r) (window g)) = x * Ideal.div 1 (min (pos r) (window g)) := by
  obtain ⟨a, ha, h⟩ := count_real r g
  have h0 : ((a : ℝ) : EReal) ≠ 0 := by exact_mod_cast h.ne'
  rw [ha]
  simp only [Ideal.div, if_neg h0, one_mul]

theorem quot_eq (g : Fin 4) (k : Fin 256) : quot p w s y g k = ratioAt (gateArg p) y w s g k :=
  funext fun n => by
    unfold quot ratioAt ratio
    split_ifs with h
    · exact div_count _ _ _
    · rfl

/-- The arguments the gradient reads are finite. -/
structure Fin4 : Prop where
  arg : ∀ (r : Fin 8192) (j : Fin 1024), IsReal (p (ix2 r ⟨j.val, by omega⟩))
  gate : ∀ i, IsReal (gateArg p i)
  weight : ∀ i, IsReal (w i)
  scale : ∀ i, IsReal (s i)
  ct : ∀ i, IsReal (y i)

variable {p w s y}

theorem Fin4.dms (h : Fin4 p w s y) (r : Fin 8192) (j : Fin 1024) : IsReal (dms (gateArg p) y r j) :=
  (h.ct _).mul ((h.gate _).mul (h.gate _).logistic)

theorem Fin4.dpool (h : Fin4 p w s y) (r : Fin 8192) (g : Fin 4) (k : Fin 256) : IsReal (dpool (gateArg p) y w s r g k) :=
  .sum _ fun _ _ => ((h.dms _ _).mul (h.scale _)).mul (h.weight _)

theorem Fin4.quot (h : Fin4 p w s y) (g : Fin 4) (k : Fin 256) (n : ℕ) : IsReal (quot p w s y g k n) := by
  unfold Cert.PoolIdeal.Hand.quot
  split_ifs with hn
  · obtain ⟨a, ha, h0⟩ := count_real ⟨n, hn⟩ g
    rw [ha]
    exact (h.dpool _ _ _).div ⟨a, rfl⟩ (by exact_mod_cast h0.ne')
  · exact .zero

/-- The gradient of the pooled rows' argument. -/
theorem r_prev (h : Fin4 p w s y) (r : Fin 8192) (g : Fin 4) (k : Fin 256) :
    val_main_v115 (F := Ideal) p w s y (ix2 r (col g k)) = dprev (gateArg p) y w s r g k := by
  have e : ∀ n, (if h : r.val + n < 8192 then val_main_v113 (F := Ideal) p w s y (ix2 ⟨r.val + n, h⟩ (col g k)) else 0) =
      quot p w s y g k (r.val + n) + -quot p w s y g k (r.val + n + span g) := fun n => by
    split_ifs with hn
    · exact r_lag p w s y ⟨r.val + n, hn⟩ g k
    · rw [quot_zero _ _ _ _ _ _ _ (by omega), quot_zero _ _ _ _ _ _ _ (by omega), neg_zero, add_zero]
  rw [val_main_v115_apply, r_total, Finset.sum_congr rfl fun n _ => e n,
    sum_lag _ (h.quot g k) 8192 (span g) r.val (by unfold span; split <;> omega) (quot_zero p w s y g k), quot_eq, dprev,
    sub_eq_add_neg, val_main_v74_apply, r_dpool, add_comm]
  rfl

theorem arg_real (h : Fin4 p w s y) (r : Fin 8192) (j : Fin 1024) : IsReal (val_main_v1 (F := Ideal) p (ix2 r j)) := by
  simp only [val_main_v1, val_main_v0]
  pointwise []
  exact h.arg _ _

theorem sum_real (h : Fin4 p w s y) (r : Fin 8192) (j : Fin 1024) : IsReal (val_main_v3 (F := Ideal) p (ix2 r j)) := by
  unfold val_main_v3
  simp only [Host.reduceWindowAdd, Ideal.hostReduceWindowAdd_def]
  rw [window_sum 8191 0 _ _ _ (by simp only [val_main_call0_call0_v0, val_main_call0_call0_cst]; pointwise []) r j]
  refine .sum _ fun n _ => ?_
  split_ifs with hn
  · exact arg_real h _ _
  · exact .zero

theorem mean_real0 (h : Fin4 p w s y) (r : Fin 8192) (k : Fin 256) : IsReal (val_main_v17 (F := Ideal) p (ix2 r k)) := by
  obtain ⟨a, ha, h0⟩ := count_real r 0
  have hd : ∀ (r : Fin 8192) (k : Fin 256), IsReal (val_main_v8 (F := Ideal) p (ix2 r k)) := fun r k => by
    simp only [val_main_v8]
    pointwise []
    exact sum_real h _ _
  have hm : val_main_v16 (F := Ideal) (ix2 r k) = a := by
    simp only [val_main_v16, val_main_v14, val_main_v13, val_main_cst_2]
    pointwise []
    rw [r_pos]
    exact ha
  rw [val_main_v17_apply]
  refine IsReal.div ?_ ⟨a, hm⟩ (by rw [hm]; exact_mod_cast h0.ne')
  simp only [val_main_v15, val_main_v11, val_main_v10, val_main_v9, val_main_cst_0]
  pointwise []
  split_ifs with hr
  · exact (hd _ _).sub .zero
  all_goals first | exact (hd _ _).sub (hd _ _) | exact (hd _ _).sub .zero

theorem mean_real1 (h : Fin4 p w s y) (r : Fin 8192) (k : Fin 256) : IsReal (val_main_v27 (F := Ideal) p (ix2 r k)) := by
  obtain ⟨a, ha, h0⟩ := count_real r 1
  have hd : ∀ (r : Fin 8192) (k : Fin 256), IsReal (val_main_v18 (F := Ideal) p (ix2 r k)) := fun r k => by
    simp only [val_main_v18]
    pointwise []
    exact sum_real h _ _
  have hm : val_main_v26 (F := Ideal) (ix2 r k) = a := by
    simp only [val_main_v26, val_main_v24, val_main_v23, val_main_cst_5]
    pointwise []
    rw [r_pos]
    exact ha
  rw [val_main_v27_apply]
  refine IsReal.div ?_ ⟨a, hm⟩ (by rw [hm]; exact_mod_cast h0.ne')
  simp only [val_main_v25, val_main_v21, val_main_v20, val_main_v19, val_main_cst_3]
  pointwise []
  split_ifs with hr
  · exact (hd _ _).sub .zero
  all_goals first | exact (hd _ _).sub (hd _ _) | exact (hd _ _).sub .zero

theorem mean_real2 (h : Fin4 p w s y) (r : Fin 8192) (k : Fin 256) : IsReal (val_main_v37 (F := Ideal) p (ix2 r k)) := by
  obtain ⟨a, ha, h0⟩ := count_real r 2
  have hd : ∀ (r : Fin 8192) (k : Fin 256), IsReal (val_main_v28 (F := Ideal) p (ix2 r k)) := fun r k => by
    simp only [val_main_v28]
    pointwise []
    exact sum_real h _ _
  have hm : val_main_v36 (F := Ideal) (ix2 r k) = a := by
    simp only [val_main_v36, val_main_v34, val_main_v33, val_main_cst_8]
    pointwise []
    rw [r_pos]
    exact ha
  rw [val_main_v37_apply]
  refine IsReal.div ?_ ⟨a, hm⟩ (by rw [hm]; exact_mod_cast h0.ne')
  simp only [val_main_v35, val_main_v31, val_main_v30, val_main_v29, val_main_cst_6]
  pointwise []
  split_ifs with hr
  · exact (hd _ _).sub .zero
  all_goals first | exact (hd _ _).sub (hd _ _) | exact (hd _ _).sub .zero

theorem mean_real3 (h : Fin4 p w s y) (r : Fin 8192) (k : Fin 256) : IsReal (val_main_v47 (F := Ideal) p (ix2 r k)) := by
  obtain ⟨a, ha, h0⟩ := count_real r 3
  have hd : ∀ (r : Fin 8192) (k : Fin 256), IsReal (val_main_v38 (F := Ideal) p (ix2 r k)) := fun r k => by
    simp only [val_main_v38]
    pointwise []
    exact sum_real h _ _
  have hm : val_main_v46 (F := Ideal) (ix2 r k) = a := by
    simp only [val_main_v46, val_main_v44, val_main_v43, val_main_cst_11]
    pointwise []
    rw [r_pos]
    exact ha
  rw [val_main_v47_apply]
  refine IsReal.div ?_ ⟨a, hm⟩ (by rw [hm]; exact_mod_cast h0.ne')
  simp only [val_main_v45, val_main_v41, val_main_v40, val_main_v39, val_main_cst_9]
  pointwise []
  split_ifs with hr
  · exact (hd _ _).sub .zero
  all_goals first | exact (hd _ _).sub (hd _ _) | exact (hd _ _).sub .zero

theorem pooled_real (h : Fin4 p w s y) (r : Fin 8192) (g : Fin 4) (k : Fin 256) : IsReal (val_main_v49 (F := Ideal) p (ix2 r (col g k))) := by
  have hx : IsReal (val_main_v1 (F := Ideal) p (ix2 r (col g k))) := by
    simp only [val_main_v1, val_main_v0]
    pointwise []
    exact h.arg _ _
  rw [val_main_v49_apply]
  refine IsReal.sub ?_ hx
  have hk := k.isLt
  match g with
  | 0 =>
    simp only [val_main_v48]
    pointwise [col]
    first | with_reducible exact mean_real0 h .. | with_reducible exact mean_real1 h .. | with_reducible exact mean_real2 h .. | with_reducible exact mean_real3 h ..
  | 1 =>
    simp only [val_main_v48]
    pointwise [col]
    first | with_reducible exact mean_real0 h .. | with_reducible exact mean_real1 h .. | with_reducible exact mean_real2 h .. | with_reducible exact mean_real3 h ..
  | 2 =>
    simp only [val_main_v48]
    pointwise [col]
    split_ifs <;> first | with_reducible exact mean_real0 h .. | with_reducible exact mean_real1 h .. | with_reducible exact mean_real2 h .. | with_reducible exact mean_real3 h ..
  | 3 =>
    simp only [val_main_v48]
    pointwise [col]
    split_ifs <;> first | with_reducible exact mean_real0 h .. | with_reducible exact mean_real1 h .. | with_reducible exact mean_real2 h .. | with_reducible exact mean_real3 h ..

/-- The gradient of the gate's argument. -/
theorem r_gate_grad (h : Fin4 p w s y) (r : Fin 8192) (g : Fin 4) (k : Fin 256) :
    val_main_v61 (F := Ideal) p w s y (ix2 r (col g k)) = dgate (gateArg p) y (val_main_v49 (F := Ideal) p) w s r g k := by
  have hm : IsReal (mixed (val_main_v49 (F := Ideal) p) w r g k) := .sum _ fun l _ => (pooled_real h r g l).mul (h.weight _)
  obtain ⟨m, hm⟩ := hm
  obtain ⟨z, hz⟩ := h.gate (ix2 r (col g k))
  obtain ⟨t, ht⟩ := h.scale (ix2 0 (col g k))
  obtain ⟨c, hc⟩ := h.ct (ix2 r (col g k))
  rw [r_dz, dgate]
  simp only [hm, hz, ht, hc, logistic_coe]
  rw [show (1 : EReal) = ((1 : ℝ) : EReal) from rfl]
  simp only [← EReal.coe_mul, ← EReal.coe_add, ← EReal.coe_sub]
  exact congrArg _ (by ring)

end Cert.PoolIdeal.Hand
end
-- ==== Proof.PoolHost.lean ====
module

public import proofs.«01_k».proof.Proof.PoolPoint
public import proofs.«01_k».proof.Proof.Gen.PoolRefIdeal.Read

@[expose] public section

set_option maxRecDepth 16384

noncomputable section

namespace Cert.PoolIdeal.Hand

open Idealize.ShloMosaic Idealize.ShloMosaic.TcCoe Idealize.SL.Sem
open Cert.PoolIdeal Cert.PoolIdeal.Gen Cert.Hand
open Cert.PoolRefIdeal.Read

variable (m : (ℓ : Loc nD τ sig) → Buf (Elt Ideal) ℓ) (c : Dev nD)

/-- The pooled rows the host hands to the kernel are those of the forward pass. -/
theorem host_pooled : V m c main_v45 = val_main_v49 (F := Ideal) (m ((c : Thread nD τ).loc main_arg0)) := by
  entry_read
  rfl

theorem host_weights : V m c main_v46 = m ((c : Thread nD τ).loc main_arg1) := by
  entry_read
  rfl

end Cert.PoolIdeal.Hand
end
-- ==== Proof.PoolTie.lean ====
module

public import proofs.«01_k».proof.Defs
public import proofs.«01_k».proof.Proof.PoolRef
public import proofs.«01_k».proof.Proof.PoolHost
public import proofs.«01_k».proof.Proof.Gen.Pre_finite_pool

@[expose] public section

set_option maxRecDepth 16384

noncomputable section

namespace Cert.PoolIdeal.Hand

open Idealize.ShloMosaic Idealize.ShloMosaic.TcCoe Idealize.SL.Sem
open Cert.PoolIdeal Cert.PoolIdeal.Gen Cert.Hand
open Cert.PoolRefIdeal.Read

variable (p : S8192x6144.Idx → EReal) (w : S4x256x256.Idx → EReal) (s : S1x1024.Idx → EReal) (y : S8192x1024.Idx → EReal)

theorem by_rows {a b : ℕ} {f g : (⟨2, ![a, b]⟩ : Shape).Idx → EReal} (h : ∀ (r : Fin a) (j : Fin b), f (ix2 r j) = g (ix2 r j)) : f = g :=
  funext fun i => by rw [Cert.Hand.idx2_eq i]; exact h _ _
theorem by_groups {a b c : ℕ} {f g : (⟨3, ![a, b, c]⟩ : Shape).Idx → EReal}
    (h : ∀ (r : Fin a) (j : Fin b) (k : Fin c), f (ix3 r j k) = g (ix3 r j k)) : f = g :=
  funext fun i => by rw [idx3_eq i]; exact h _ _ _

/-- The arguments' finiteness, element by element. -/
theorem Fin4.of_pre (h0 : (Cert.Pre_finite_pool.fn (F := Ideal) p w s y).1 = fun _ => 1#1)
    (h1 : (Cert.Pre_finite_pool.fn (F := Ideal) p w s y).2.1 = fun _ => 1#1)
    (h2 : (Cert.Pre_finite_pool.fn (F := Ideal) p w s y).2.2.1 = fun _ => 1#1)
    (h3 : (Cert.Pre_finite_pool.fn (F := Ideal) p w s y).2.2.2 = fun _ => 1#1) : Fin4 p w s y := by
  have hp : ∀ (r : Fin 8192) (j : Fin 2048), IsReal (p (ix2 r ⟨j.val, by omega⟩)) := fun r j => by
    refine real_of_cmp ?_
    rw [← congrFun h0 (ix2 r j)]
    simp only [Cert.Pre_finite_pool.fn]
    pointwise []
    rfl
  refine ⟨fun r j => hp r ⟨j.val, by omega⟩, fun i => hp (i 0) ⟨1024 + (i 1).val, ?_⟩,
    fun i => real_of_cmp (congrFun h1 i), fun i => real_of_cmp (congrFun h2 i), fun i => real_of_cmp (congrFun h3 i)⟩
  have := (i 1).isLt
  show 1024 + (i 1).val < 2048
  have h : (i 1).val < 1024 := this
  omega

variable {p w s y}

theorem ref_both (h : Fin4 p w s y) : val_main_v117 (F := Ideal) p w s y = both (gateArg p) y (val_main_v49 (F := Ideal) p) w s := by
  refine by_rows (a := 8192) (b := 2048) fun r j => ?_
  rcases half j with ⟨g, k, rfl⟩ | ⟨g, k, rfl⟩
  · rw [both_lft, ← r_prev h]
    simp only [val_main_v117, val_main_v116]
    pointwise [lft, col]
    have := g.isLt; have := k.isLt
    exact dif_pos (by omega)
  · rw [both_rgt, ← r_gate_grad h]
    simp only [val_main_v117, val_main_v116]
    pointwise [rgt, col]

section
variable (m : (ℓ : Loc nD τ sig) → Buf (Elt Ideal) ℓ) (c : Dev nD)

/-- The arguments. -/
def A0 : S8192x6144.Idx → EReal := m ((c : Thread nD τ).loc main_arg0)
def A1 : S4x256x256.Idx → EReal := m ((c : Thread nD τ).loc main_arg1)
def A2 : S1x1024.Idx → EReal := m ((c : Thread nD τ).loc main_arg2)
def A3 : S8192x1024.Idx → EReal := m ((c : Thread nD τ).loc main_arg3)

theorem tie5 (h : Fin4 (A0 m c) (A1 m c) (A2 m c) (A3 m c)) :
    (dats m 0 c).arrAt 5 cfg0.N = val_main_v117 (F := Ideal) (A0 m c) (A1 m c) (A2 m c) (A3 m c) := by
  rw [ref_both h, result5, Z, DY, PL, PW, PS, host_pooled, host_weights]
  rfl

theorem tie6 : (dats m 0 c).arrAt 6 cfg0.N = val_main_v72 (F := Ideal) (A0 m c) (A2 m c) (A3 m c) := by
  refine by_groups (a := 4) (b := 256) (c := 256) fun g j k => ?_
  rw [result6, r_weight, Z, DY, PL, PS, host_pooled]
  rfl

theorem tie7 : (dats m 0 c).arrAt 7 cfg0.N = val_main_v64 (F := Ideal) (A0 m c) (A1 m c) (A3 m c) := by
  refine by_rows (a := 1) (b := 1024) fun r j => ?_
  obtain ⟨g, k, rfl⟩ := col_surj j
  obtain rfl : r = 0 := Subsingleton.elim _ _
  rw [result7, r_scale, Z, DY, PL, PW, host_pooled, host_weights]
  rfl
end

end Cert.PoolIdeal.Hand
end
-- ==== Proof.InXBlock.lean ====
module

public import proofs.«01_k».proof.Proof.Common
public import proofs.«01_k».proof.Proof.Gen.InXIdeal.Frame

@[expose] public section

set_option maxRecDepth 16384

noncomputable section

namespace Cert.InXIdeal.Hand

open Idealize.ShloMosaic Idealize.ShloMosaic.TcCoe Idealize.SL.Sem
open Cert.InXIdeal Cert.InXIdeal.Gen Cert.Hand

/-- The constants: the row's length, the number added to the mean square. -/
def len : EReal := Ideal.ofBits .f32 0x44800000#32
def eps : EReal := Ideal.ofBits .f32 0x358637BD#32

section Block
variable {n : ℕ} (x dy : (⟨2, ![n, 1024]⟩ : Shape).Idx → EReal) (p : (⟨2, ![n, 2048]⟩ : Shape).Idx → EReal) (u s : (⟨2, ![n, 1024]⟩ : Shape).Idx → EReal)
  (g : (⟨2, ![n, 2048]⟩ : Shape).Idx → EReal) (w : S1024x6144.Idx → EReal) (md : S3x1024.Idx → EReal) (nm : S1x1024.Idx → EReal)

/-- The gradient of the projected rows through the projection's weights, the four bands of columns one after the other. -/
def dh (r : Fin n) (k : Fin 1024) : EReal :=
  (∑ j : Fin 2048, p (ix2 r j) * w (ix2 k ⟨j.val, by omega⟩)) + (∑ j : Fin 1024, u (ix2 r j) * w (ix2 k ⟨2048 + j.val, by omega⟩))
    + (∑ j : Fin 1024, s (ix2 r j) * w (ix2 k ⟨3072 + j.val, by omega⟩)) + ∑ j : Fin 2048, g (ix2 r j) * w (ix2 k ⟨4096 + j.val, by omega⟩)

/-- The mean square of a row, and one over its root. -/
def ms (r : Fin n) : EReal := Ideal.div (∑ k : Fin 1024, x (ix2 r k) * x (ix2 r k)) len + eps
def inv (r : Fin n) : EReal := Ideal.rsqrt (ms x r)
def xn (r : Fin n) (k : Fin 1024) : EReal := x (ix2 r k) * inv x r

/-- The gradient at the normalised rows, of given gradients `d` of the shifted and scaled ones. -/
def dxn (d : Fin n → Fin 1024 → EReal) (r : Fin n) (k : Fin 1024) : EReal := d r k * (nm (ix2 0 k) * (1 + md (ix2 1 k)))

/-- The gradient of the rows, added to the one that comes in. -/
def gx (d : Fin n → Fin 1024 → EReal) (r : Fin n) (k : Fin 1024) : EReal :=
  dy (ix2 r k) + inv x r * (dxn md nm d r k - xn x r k * Ideal.div (∑ l : Fin 1024, dxn md nm d r l * xn x r l) len)

end Block

theorem clear2 (x : S3x1024.Idx) : k0_pay2 (F := Ideal) x = 0 := by pointwise [k0_pay2]

/-! What the body computes of a block. -/

section Pay
variable (x dy d : Vec Ideal S512x1024 .f32) (p g : Vec Ideal S512x2048 .bf16) (u s : Vec Ideal S512x1024 .bf16)
  (w : Vec Ideal S1024x6144 .bf16) (md : Vec Ideal S3x1024 .f32) (nm acc : Vec Ideal S1x1024 .f32)

theorem pay3_at (i1 i2 i3 i4) (r : Fin 512) (k : Fin 1024) :
    k0_pay3 (F := Ideal) p (View.ld w (Rect.unit ![0, 0] ![1024, 2048] i1)) u (View.ld w (Rect.unit ![0, 2048] ![1024, 1024] i2)) s
      (View.ld w (Rect.unit ![0, 3072] ![1024, 1024] i3)) g (View.ld w (Rect.unit ![0, 4096] ![1024, 2048] i4)) (ix2 r k) = dh p u s g w r k := by
  pointwise [k0_pay3, dh]

theorem pay4_at (r : Fin 512) : k0_pay4 (F := Ideal) x (ix2 r 0) = inv x r := by
  pointwise [k0_pay4, inv, ms, len, eps]

theorem pay5_at (r : Fin 512) (k : Fin 1024) : k0_pay5 (F := Ideal) x (k0_pay4 x) (ix2 r k) = xn x r k := by
  pointwise [k0_pay5]
  rw [pay4_at]; rfl

theorem pay10_at (i1) (r : Fin 512) (k : Fin 1024) :
    k0_pay10 (F := Ideal) d (View.ld md (Rect.unit ![1, 0] ![1, 1024] i1)) nm (ix2 r k) = dxn md nm (fun r k => d (ix2 r k)) r k := by
  pointwise [k0_pay10, k0_pay6, dxn]

theorem pay1_at (i1) (r : Fin 512) (k : Fin 1024) :
    k0_pay1 (F := Ideal) (k0_pay4 x) (k0_pay5 x (k0_pay4 x)) dy (k0_pay10 d (View.ld md (Rect.unit ![1, 0] ![1, 1024] i1)) nm) (ix2 r k)
      = gx x dy md nm (fun r k => d (ix2 r k)) r k := by
  pointwise [k0_pay1]
  simp only [pay10_at, pay5_at, pay4_at]; rfl

theorem pay7_at (k : Fin 1024) : k0_pay7 (F := Ideal) d acc (ix2 0 k) = acc (ix2 0 k) + ∑ r : Fin 512, d (ix2 r k) := by
  pointwise [k0_pay7]

theorem pay8_at (k : Fin 1024) : k0_pay8 (F := Ideal) d x (k0_pay4 x) acc nm (ix2 0 k)
    = acc (ix2 0 k) + (∑ r : Fin 512, d (ix2 r k) * xn x r k) * nm (ix2 0 k) := by
  pointwise [k0_pay8]
  simp only [pay5_at]

theorem pay9_at (i1) (k : Fin 1024) : k0_pay9 (F := Ideal) d x (k0_pay4 x) (View.ld md (Rect.unit ![1, 0] ![1, 1024] i1)) acc (ix2 0 k)
    = acc (ix2 0 k) + (∑ r : Fin 512, d (ix2 r k) * xn x r k) * (1 + md (ix2 1 k)) := by
  pointwise [k0_pay9, k0_pay6]
  simp only [pay5_at]

end Pay

variable (m : (ℓ : Loc nD τ sig) → Buf (Elt Ideal) ℓ) (c : Dev nD)

/-- The block's gradient of the projected rows. -/
def dhB (t : Fin cfg0.N) (r : Fin 512) (k : Fin 1024) : EReal :=
  dh (n := 512) (iblk m c 2 t) (iblk m c 3 t) (iblk m c 4 t) (iblk m c 5 t) (iblk m c 8 t) r k

theorem rows (t : Fin cfg0.N) (r : Fin 512) (k : Fin 1024) :
    (outsAt0 m c t.val t.isLt).1 (ix2 r k) = gx (n := 512) (iblk m c 0 t) (iblk m c 1 t) (iblk m c 6 t) (iblk m c 7 t) (dhB m c t) r k := by
  by_cases h0 : t.val % 16 = 0
  on_goal 1 => rw [outsAt0_A m c t h0]
  on_goal 2 => rw [outsAt0_B m c t h0]
  all_goals
    frame_out
    refine (pay1_at ..).trans ?_
    simp only [pay3_at]; rfl

abbrev before (t : Fin cfg0.N) : S3x1024.Idx → EReal := (outsAt0 m c (t.val - 1) (Nat.lt_of_le_of_lt (Nat.sub_le _ _) t.isLt)).2

theorem shiftA (t : Fin cfg0.N) (h0 : t.val % 16 = 0) (k : Fin 1024) :
    (outsAt0 m c t.val t.isLt).2 (ix2 0 k) = 0 + ∑ r : Fin 512, dhB m c t r k := by
  rw [outsAt0_A m c t h0]
  frame_out
  rw [box_miss 0 k (by decide), box_miss 0 k (by decide), box_hit 0 k (show (0 : Fin 3).val = 0 from rfl), pay7_at, box_read _ _ _ 0 k (show (0 : Fin 3).val = 0 from rfl), cleared, clear2]
  simp only [pay3_at]; rfl

theorem shiftB (t : Fin cfg0.N) (h0 : ¬t.val % 16 = 0) (k : Fin 1024) :
    (outsAt0 m c t.val t.isLt).2 (ix2 0 k) = before m c t (ix2 0 k) + ∑ r : Fin 512, dhB m c t r k := by
  rw [outsAt0_B m c t h0]
  frame_out
  rw [box_miss 0 k (by decide), box_miss 0 k (by decide), box_hit 0 k (show (0 : Fin 3).val = 0 from rfl), pay7_at, ld_row _ _ k (by decide)]
  simp only [pay3_at]; rfl

theorem scaleA (t : Fin cfg0.N) (h0 : t.val % 16 = 0) (k : Fin 1024) :
    (outsAt0 m c t.val t.isLt).2 (ix2 1 k) = 0 + (∑ r : Fin 512, dhB m c t r k * xn (n := 512) (iblk m c 0 t) r k) * iblk m c 7 t (ix2 0 k) := by
  rw [outsAt0_A m c t h0]
  frame_out
  rw [box_miss 1 k (by decide), box_hit 1 k (show (1 : Fin 3).val = 1 from rfl), pay8_at, box_read _ _ _ 1 k (show (1 : Fin 3).val = 1 from rfl), box_miss 1 k (by decide), cleared, clear2]
  simp only [pay3_at]; rfl

theorem scaleB (t : Fin cfg0.N) (h0 : ¬t.val % 16 = 0) (k : Fin 1024) :
    (outsAt0 m c t.val t.isLt).2 (ix2 1 k) = before m c t (ix2 1 k) + (∑ r : Fin 512, dhB m c t r k * xn (n := 512) (iblk m c 0 t) r k) * iblk m c 7 t (ix2 0 k) := by
  rw [outsAt0_B m c t h0]
  frame_out
  rw [box_miss 1 k (by decide), box_hit 1 k (show (1 : Fin 3).val = 1 from rfl), pay8_at, ld_row _ _ k (by decide)]
  simp only [pay3_at]; rfl

theorem normA (t : Fin cfg0.N) (h0 : t.val % 16 = 0) (k : Fin 1024) :
    (outsAt0 m c t.val t.isLt).2 (ix2 2 k) = 0 + (∑ r : Fin 512, dhB m c t r k * xn (n := 512) (iblk m c 0 t) r k) * (1 + iblk m c 6 t (ix2 1 k)) := by
  rw [outsAt0_A m c t h0]
  frame_out
  rw [box_hit 2 k (show (2 : Fin 3).val = 2 from rfl), pay9_at, box_read _ _ _ 2 k (show (2 : Fin 3).val = 2 from rfl), box_miss 2 k (by decide), box_miss 2 k (by decide), cleared, clear2]
  simp only [pay3_at]; rfl

theorem normB (t : Fin cfg0.N) (h0 : ¬t.val % 16 = 0) (k : Fin 1024) :
    (outsAt0 m c t.val t.isLt).2 (ix2 2 k) = before m c t (ix2 2 k) + (∑ r : Fin 512, dhB m c t r k * xn (n := 512) (iblk m c 0 t) r k) * (1 + iblk m c 6 t (ix2 1 k)) := by
  rw [outsAt0_B m c t h0]
  frame_out
  rw [box_hit 2 k (show (2 : Fin 3).val = 2 from rfl), pay9_at, ld_row _ _ k (by decide)]
  simp only [pay3_at]; rfl

/-! The blocks are rows of the whole arrays. -/

theorem lt16 (t : Fin cfg0.N) : t.val < 16 := lt_of_lt_of_eq t.isLt N_0

/-- Row `r` of block `t`. -/
def row (t : Fin cfg0.N) (r : Fin 512) : Fin 8192 := ⟨t.val * 512 + r.val, by have := r.isLt; have := lt16 t; omega⟩

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![t.val, 0] := (by decide +kernel : ∀ t : Fin grid0.N, _)

/-- The arguments. -/
def A0 : S8192x1024.Idx → EReal := m ((c : Thread nD τ).loc main_arg0)
def A1 : S8192x1024.Idx → EReal := m ((c : Thread nD τ).loc main_arg1)
def A2 : S8192x2048.Idx → EReal := m ((c : Thread nD τ).loc main_arg2)
def A3 : S8192x1024.Idx → EReal := m ((c : Thread nD τ).loc main_arg3)
def A4 : S8192x1024.Idx → EReal := m ((c : Thread nD τ).loc main_arg4)
def A5 : S8192x2048.Idx → EReal := m ((c : Thread nD τ).loc main_arg5)
def A6 : S3x1024.Idx → EReal := m ((c : Thread nD τ).loc main_arg6)
def A7 : S1x1024.Idx → EReal := m ((c : Thread nD τ).loc main_arg7)
def A8 : S1024x6144.Idx → EReal := m ((c : Thread nD τ).loc main_arg8)

theorem host_w : V m c main_v0 = A8 m c := by
  entry_read
  rfl

theorem blk0 (t : Fin cfg0.N) (r : Fin 512) (k : Fin 1024) : iblk m c 0 t (ix2 r k) = A0 m c (ix2 (row t r) k) := by
  unfold row A0; blk_point [iblk, V, index0 t]
theorem blk1 (t : Fin cfg0.N) (r : Fin 512) (k : Fin 1024) : iblk m c 1 t (ix2 r k) = A1 m c (ix2 (row t r) k) := by
  unfold row A1; blk_point [iblk, V, index1 t]
theorem blk2 (t : Fin cfg0.N) (r : Fin 512) (k : Fin 2048) : iblk m c 2 t (ix2 r k) = A2 m c (ix2 (row t r) k) := by
  unfold row A2; blk_point [iblk, V, index2 t]
theorem blk3 (t : Fin cfg0.N) (r : Fin 512) (k : Fin 1024) : iblk m c 3 t (ix2 r k) = A3 m c (ix2 (row t r) k) := by
  unfold row A3; blk_point [iblk, V, index3 t]
theorem blk4 (t : Fin cfg0.N) (r : Fin 512) (k : Fin 1024) : iblk m c 4 t (ix2 r k) = A4 m c (ix2 (row t r) k) := by
  unfold row A4; blk_point [iblk, V, index4 t]
theorem blk5 (t : Fin cfg0.N) (r : Fin 512) (k : Fin 2048) : iblk m c 5 t (ix2 r k) = A5 m c (ix2 (row t r) k) := by
  unfold row A5; blk_point [iblk, V, index5 t]
theorem blk6 (t : Fin cfg0.N) (r : Fin 3) (k : Fin 1024) : iblk m c 6 t (ix2 r k) = A6 m c (ix2 r k) := by
  unfold A6; blk_point [iblk, V, index6 t]
theorem blk7 (t : Fin cfg0.N) (k : Fin 1024) : iblk m c 7 t (ix2 0 k) = A7 m c (ix2 0 k) := by
  unfold A7; blk_point [iblk, V, index7 t]
theorem blk8 (t : Fin cfg0.N) (r : Fin 1024) (k : Fin 6144) : iblk m c 8 t (ix2 r k) = A8 m c (ix2 r k) := by
  rw [← host_w]; blk_point [iblk, index8 t]

/-- The gradient of the projected rows, of the whole arrays. -/
def DH (r : Fin 8192) (k : Fin 1024) : EReal := dh (A2 m c) (A3 m c) (A4 m c) (A5 m c) (A8 m c) r k

theorem dh_blk (t : Fin cfg0.N) (r : Fin 512) (k : Fin 1024) : dhB m c t r k = DH m c (row t r) k := by
  simp only [dhB, DH, dh, blk2, blk3, blk4, blk5, blk8]
theorem inv_blk (t : Fin cfg0.N) (r : Fin 512) : inv (n := 512) (iblk m c 0 t) r = inv (A0 m c) (row t r) := by
  simp only [inv, ms, blk0]
theorem xn_blk (t : Fin cfg0.N) (r : Fin 512) (k : Fin 1024) : xn (n := 512) (iblk m c 0 t) r k = xn (A0 m c) (row t r) k := by
  simp only [xn, blk0, inv_blk]
theorem gx_blk (t : Fin cfg0.N) (r : Fin 512) (k : Fin 1024) :
    gx (n := 512) (iblk m c 0 t) (iblk m c 1 t) (iblk m c 6 t) (iblk m c 7 t) (dhB m c t) r k
      = gx (A0 m c) (A1 m c) (A6 m c) (A7 m c) (DH m c) (row t r) k := by
  simp only [gx, dxn, blk1, blk6, blk7, dh_blk, inv_blk, xn_blk]

/-! The results. -/

theorem result9 : (dats m 0 c).arrAt 9 cfg0.N = fun i : S8192x1024.Idx => gx (A0 m c) (A1 m c) (A6 m c) (A7 m c) (DH m c) (i 0) (i 1) := by
  refine (dats m 0 c).arrAt_eq_of_covers 9 _ (by decide +kernel) fun t hf y => ?_
  obtain ⟨r, j, rfl⟩ : ∃ (r : Fin 512) (j : Fin 1024), y = ix2 r j := ⟨_, _, idx2_eq y⟩
  rw [after0_9]
  have e : (win0_9.blk t).view.emb (ix2 r j) = ix2 (row t r) j := by
    refine funext fun a => Fin.ext ?_
    match a with
    | ⟨0, _⟩ => show win0_9.index t 0 * 512 + 1 * r.val = t.val * 512 + r.val; rw [index9 t, one_mul]; rfl
    | ⟨1, _⟩ => show win0_9.index t 1 * 1024 + 1 * j.val = j.val; rw [index9 t, one_mul]; exact Nat.zero_add _
  blk_simp
  rw [e]
  exact (rows m c t r j).trans (gx_blk m c t r j)

theorem sum_rows (f : Fin 8192 → EReal) : ∑ p : Fin cfg0.N, ∑ r : Fin 512, f (row p r) = ∑ r : Fin 8192, f r := by
  refine Fin.sum_mul_add_congr (fun t r hl => ?_) (by rw [show cfg0.N = 16 from N_0])
  exact congrArg f (Fin.ext rfl)

theorem last15 : (15 : ℕ) < cfg0.N := by rw [show cfg0.N = 16 from N_0]; decide

theorem result10 : (dats m 0 c).arrAt 10 cfg0.N = (outsAt0 m c 15 last15).2 := by
  refine (dats m 0 c).arrAt_eq_of_after_last 10 ⟨15, last15⟩ (by decide +kernel) _ fun i => ?_
  rw [after0_10]
  exact congrArg (outsAt0 m c 15 last15).2 (funext fun a => Fin.ext rfl)

/-- A sum over the blocks of what each row contributes. -/
theorem total_shift (k : Fin 1024) : (dats m 0 c).arrAt 10 cfg0.N (ix2 0 k) = ∑ r : Fin 8192, DH m c r k := by
  rw [result10]
  refine (Pipeline.eq_sum_fin_of_reset_step_apply_last (fun n h (_ : Unit) => (outsAt0 m c n h).2 (ix2 0 k)) 16 (fun _ => 0)
    (fun t _ => ∑ r : Fin 512, dhB m c t r k)
    (fun t h _ => shiftA m c t h k) (fun t h _ => shiftB m c t h k) (le_of_eq N_0) ⟨15, last15⟩ N_0.symm ()).trans ?_
  rw [zero_add]
  simp only [dh_blk]
  exact sum_rows (fun r => DH m c r k)

theorem total_scale (k : Fin 1024) : (dats m 0 c).arrAt 10 cfg0.N (ix2 1 k)
    = ∑ p : Fin cfg0.N, (∑ r : Fin 512, DH m c (row p r) k * xn (A0 m c) (row p r) k) * A7 m c (ix2 0 k) := by
  rw [result10]
  refine (Pipeline.eq_sum_fin_of_reset_step_apply_last (fun n h (_ : Unit) => (outsAt0 m c n h).2 (ix2 1 k)) 16 (fun _ => 0)
    (fun t _ => (∑ r : Fin 512, dhB m c t r k * xn (n := 512) (iblk m c 0 t) r k) * iblk m c 7 t (ix2 0 k))
    (fun t h _ => scaleA m c t h k) (fun t h _ => scaleB m c t h k) (le_of_eq N_0) ⟨15, last15⟩ N_0.symm ()).trans ?_
  rw [zero_add]
  simp only [dh_blk, xn_blk, blk7]

theorem total_norm (k : Fin 1024) : (dats m 0 c).arrAt 10 cfg0.N (ix2 2 k)
    = ∑ p : Fin cfg0.N, (∑ r : Fin 512, DH m c (row p r) k * xn (A0 m c) (row p r) k) * (1 + A6 m c (ix2 1 k)) := by
  rw [result10]
  refine (Pipeline.eq_sum_fin_of_reset_step_apply_last (fun n h (_ : Unit) => (outsAt0 m c n h).2 (ix2 2 k)) 16 (fun _ => 0)
    (fun t _ => (∑ r : Fin 512, dhB m c t r k * xn (n := 512) (iblk m c 0 t) r k) * (1 + iblk m c 6 t (ix2 1 k)))
    (fun t h _ => normA m c t h k) (fun t h _ => normB m c t h k) (le_of_eq N_0) ⟨15, last15⟩ N_0.symm ()).trans ?_
  rw [zero_add]
  simp only [dh_blk, xn_blk, blk6]

end Cert.InXIdeal.Hand
end
-- ==== Proof.InXRef.lean ====
module

public import proofs.«01_k».proof.Defs
public import proofs.«01_k».proof.Proof.Reals
public import proofs.«01_k».proof.Proof.InXBlock
public import proofs.«01_k».proof.Proof.Gen.InXRefIdeal.Read
public import proofs.«01_k».proof.Proof.Gen.Pre_finite_inx

@[expose] public section

set_option maxRecDepth 16384

noncomputable section

namespace Cert.InXIdeal.Hand

open Idealize.ShloMosaic Idealize.ShloMosaic.TcCoe Idealize.SL.Sem
open Cert.InXIdeal Cert.Hand
open Cert.InXRefIdeal.Read

variable (x0 x1 : S8192x1024.Idx → EReal) (x2 : S8192x2048.Idx → EReal) (x3 x4 : S8192x1024.Idx → EReal) (x5 : S8192x2048.Idx → EReal)
  (x6 : S3x1024.Idx → EReal) (x7 : S1x1024.Idx → EReal) (x8 : S1024x6144.Idx → EReal)

/-- A sum over all columns, band by band. -/
theorem sum_bands (f : Fin 6144 → EReal) : ∑ j, f j = (∑ j : Fin 2048, f ⟨j.val, by omega⟩) + (∑ j : Fin 1024, f ⟨2048 + j.val, by omega⟩)
    + (∑ j : Fin 1024, f ⟨3072 + j.val, by omega⟩) + ∑ j : Fin 2048, f ⟨4096 + j.val, by omega⟩ := by
  refine (Fin.sum_univ_add (a := 4096) (b := 2048) f).trans (congrArg₂ (· + ·) ?_ rfl)
  refine (Fin.sum_univ_add (a := 3072) (b := 1024) _).trans (congrArg₂ (· + ·) ?_ rfl)
  exact (Fin.sum_univ_add (a := 2048) (b := 1024) _).trans (congrArg₂ (· + ·) rfl rfl)

theorem band0 (r : Fin 8192) (j : Fin 2048) : val_main_v4 (F := Ideal) x2 x3 x4 x5 (ix2 r ⟨j.val, by omega⟩) = x2 (ix2 r j) := by
  simp only [val_main_v4, val_main_v0, val_main_v1, val_main_v2, val_main_v3]
  pointwise []
theorem band1 (r : Fin 8192) (j : Fin 1024) : val_main_v4 (F := Ideal) x2 x3 x4 x5 (ix2 r ⟨2048 + j.val, by omega⟩) = x3 (ix2 r j) := by
  simp only [val_main_v4, val_main_v0, val_main_v1, val_main_v2, val_main_v3]
  pointwise []
theorem band2 (r : Fin 8192) (j : Fin 1024) : val_main_v4 (F := Ideal) x2 x3 x4 x5 (ix2 r ⟨3072 + j.val, by omega⟩) = x4 (ix2 r j) := by
  simp only [val_main_v4, val_main_v0, val_main_v1, val_main_v2, val_main_v3]
  pointwise []
  rw [dif_neg (by omega), dif_neg (by omega), dif_pos (by omega)]
  exact congrArg (fun z => x4 (ix2 r z)) (Fin.ext (by show 3072 + j.val - 2048 - 1024 = j.val; omega))
theorem band3 (r : Fin 8192) (j : Fin 2048) : val_main_v4 (F := Ideal) x2 x3 x4 x5 (ix2 r ⟨4096 + j.val, by omega⟩) = x5 (ix2 r j) := by
  simp only [val_main_v4, val_main_v0, val_main_v1, val_main_v2, val_main_v3]
  pointwise []
  rw [dif_neg (by omega), dif_neg (by omega), dif_neg (by omega)]
  exact congrArg (fun z => x5 (ix2 r z)) (Fin.ext (by show 4096 + j.val - 2048 - 1024 - 1024 = j.val; omega))

theorem r_dh (r : Fin 8192) (k : Fin 1024) : val_main_v29 (F := Ideal) x2 x3 x4 x5 x8 (ix2 r k) = dh x2 x3 x4 x5 x8 r k := by
  simp only [val_main_v29]
  pointwise []
  rw [sum_bands]
  simp only [band0, band1, band2, band3, dh]

theorem r_ms (r : Fin 8192) : val_main_v13 (F := Ideal) x0 (ix2 r 0) = ms x0 r := by
  simp only [val_main_v13, val_main_v12, val_main_v11, val_main_v10, val_main_v9, val_main_v8, val_main_v7, val_main_cst, val_main_cst_0, val_main_cst_1]
  pointwise [ms, len, eps]

theorem r_inv (r : Fin 8192) : val_main_v14 (F := Ideal) x0 (ix2 r 0) = inv x0 r := by
  simp only [val_main_v14]
  pointwise [inv]
  rw [r_ms]

theorem r_xn (r : Fin 8192) (k : Fin 1024) : val_main_v19 (F := Ideal) x0 (ix2 r k) = xn x0 r k := by
  simp only [val_main_v19, val_main_v18]
  pointwise [xn]
  rw [r_inv]

theorem r_one (k : Fin 1024) : val_main_v23 (F := Ideal) x6 (ix2 0 k) = 1 + x6 (ix2 1 k) := by
  simp only [val_main_v23, val_main_v22, val_main_v6, val_main_cst_3]
  pointwise []

theorem r_dscaled (r : Fin 8192) (k : Fin 1024) : val_main_v36 (F := Ideal) x2 x3 x4 x5 x6 x8 (ix2 r k) = dh x2 x3 x4 x5 x8 r k * (1 + x6 (ix2 1 k)) := by
  simp only [val_main_v36, val_main_v35]
  pointwise []
  rw [r_dh, r_one]

theorem r_dxn (r : Fin 8192) (k : Fin 1024) : val_main_v41 (F := Ideal) x2 x3 x4 x5 x6 x7 x8 (ix2 r k) = dxn x6 x7 (dh x2 x3 x4 x5 x8) r k := by
  simp only [val_main_v41, val_main_v40]
  pointwise [dxn]
  rw [r_dscaled, mul_assoc, mul_comm (1 + _)]

/-- The gradient of the mean square over the row's length, as differentiation writes it. -/
def slope (r : Fin 8192) : EReal :=
  Ideal.div ((∑ k : Fin 1024, x0 (ix2 r k) * dxn x6 x7 (dh x2 x3 x4 x5 x8) r k) * (Ideal.ofBits .f32 0xBF000000#32 * Ideal.div (inv x0 r) (ms x0 r))) len

theorem r_slope (r : Fin 8192) (k : Fin 1024) : val_main_v51 (F := Ideal) x0 x2 x3 x4 x5 x6 x7 x8 (ix2 r k) = slope x0 x2 x3 x4 x5 x6 x7 x8 r := by
  simp only [val_main_v51, val_main_v50, val_main_v49, val_main_v48, val_main_v47, val_main_v44, val_main_v43, val_main_v42, val_main_v17, val_main_v16,
    val_main_v15, val_main_cst_2, val_main_cst_7, val_main_cst_8, val_main_cst_9]
  pointwise [slope, len]
  refine (Fin.sum_univ_one _).trans ?_
  simp only [r_dxn, r_inv, r_ms]

theorem r_rows (r : Fin 8192) (k : Fin 1024) : val_main_v56 (F := Ideal) x0 x1 x2 x3 x4 x5 x6 x7 x8 (ix2 r k)
    = x1 (ix2 r k) + (dxn x6 x7 (dh x2 x3 x4 x5 x8) r k * inv x0 r + x0 (ix2 r k) * slope x0 x2 x3 x4 x5 x6 x7 x8 r
      + slope x0 x2 x3 x4 x5 x6 x7 x8 r * x0 (ix2 r k)) := by
  simp only [val_main_v56, val_main_v55, val_main_v54, val_main_v53, val_main_v52, val_main_v46, val_main_v45]
  pointwise []
  rw [r_dxn, r_inv, r_slope]

theorem r_shift (k : Fin 1024) : val_main_v57 (F := Ideal) x0 x2 x3 x4 x5 x6 x7 x8 (ix2 0 k) = ∑ r : Fin 8192, dh x2 x3 x4 x5 x8 r k := by
  simp only [val_main_v57, val_main_v31, val_main_v30, val_main_cst_4]
  pointwise []
  simp only [r_dh]
theorem r_scale (k : Fin 1024) : val_main_v57 (F := Ideal) x0 x2 x3 x4 x5 x6 x7 x8 (ix2 1 k)
    = ∑ r : Fin 8192, xn x0 r k * x7 (ix2 0 k) * dh x2 x3 x4 x5 x8 r k := by
  simp only [val_main_v57, val_main_v34, val_main_v33, val_main_v32, val_main_v21, val_main_v20, val_main_cst_5]
  pointwise []
  simp only [r_dh, r_xn]
theorem r_norm (k : Fin 1024) : val_main_v57 (F := Ideal) x0 x2 x3 x4 x5 x6 x7 x8 (ix2 2 k)
    = ∑ r : Fin 8192, xn x0 r k * (dh x2 x3 x4 x5 x8 r k * (1 + x6 (ix2 1 k))) := by
  simp only [val_main_v57, val_main_v39, val_main_v38, val_main_v37, val_main_cst_6]
  pointwise []
  simp only [r_dscaled, r_xn]

/-! Finite arguments. -/

structure Fin8 : Prop where
  row : ∀ i, IsReal (x0 i)
  p : ∀ i, IsReal (x2 i)
  u : ∀ i, IsReal (x3 i)
  s : ∀ i, IsReal (x4 i)
  g : ∀ i, IsReal (x5 i)
  scale : ∀ k, IsReal (x6 (ix2 1 k))
  norm : ∀ i, IsReal (x7 i)
  w : ∀ i, IsReal (x8 i)

theorem len_coe : len = ((1024 : ℝ) : EReal) := by
  simp [len, Ideal.ofBits, Ideal.ieee]; rw [← EReal.coe_mul]; congr 1; norm_num
theorem eps_coe : ∃ e : ℝ, 0 < e ∧ eps = (e : EReal) := by
  refine ⟨8796093 * 2 ^ (-43 : ℤ), by positivity, ?_⟩
  simp [eps, Ideal.ofBits, Ideal.ieee]
theorem half_coe : Ideal.ofBits .f32 0xBF000000#32 = ((-(1 / 2) : ℝ) : EReal) := by
  simp [Ideal.ofBits, Ideal.ieee]; rw [← EReal.coe_mul]; congr 1; norm_num

variable {x0 x1 x2 x3 x4 x5 x6 x7 x8}

/-- The mean square of finite rows, and one over its root. -/
theorem root_coe (h : ∀ i, IsReal (x0 i)) (r : Fin 8192) : ∃ q : ℝ, 0 < q ∧ ms x0 r = ((q * q : ℝ) : EReal) ∧ inv x0 r = ((q⁻¹ : ℝ) : EReal) := by
  choose a ha using h
  obtain ⟨e, he, hee⟩ := eps_coe
  have hm : ms x0 r = (((∑ k : Fin 1024, a (ix2 r k) * a (ix2 r k)) / 1024 + e : ℝ) : EReal) := by
    unfold ms
    simp only [ha, ← EReal.coe_mul]
    rw [← coe_sum, len_coe, div_coe _ _ (by norm_num), hee, ← EReal.coe_add]
  have hp : 0 < (∑ k : Fin 1024, a (ix2 r k) * a (ix2 r k)) / 1024 + e := by
    have : 0 ≤ ∑ k : Fin 1024, a (ix2 r k) * a (ix2 r k) := Finset.sum_nonneg fun k _ => mul_self_nonneg _
    positivity
  refine ⟨Real.sqrt ((∑ k : Fin 1024, a (ix2 r k) * a (ix2 r k)) / 1024 + e), Real.sqrt_pos.mpr hp, ?_, ?_⟩
  · rw [Real.mul_self_sqrt hp.le, hm]
  · rw [inv, hm, Ideal.rsqrt_coe, if_neg (not_lt.mpr hp.le), if_neg hp.ne']

theorem real_dh (h : Fin8 x0 x2 x3 x4 x5 x6 x7 x8) (r : Fin 8192) (k : Fin 1024) : IsReal (dh x2 x3 x4 x5 x8 r k) :=
  (((IsReal.sum _ fun j _ => (h.p _).mul (h.w _)).add (IsReal.sum _ fun j _ => (h.u _).mul (h.w _))).add (IsReal.sum _ fun j _ => (h.s _).mul (h.w _))).add
    (IsReal.sum _ fun j _ => (h.g _).mul (h.w _))

theorem real_dxn (h : Fin8 x0 x2 x3 x4 x5 x6 x7 x8) (r : Fin 8192) (k : Fin 1024) : IsReal (dxn x6 x7 (dh x2 x3 x4 x5 x8) r k) :=
  (real_dh h r k).mul ((h.norm _).mul (IsReal.one.add (h.scale k)))

theorem real_xn (h : Fin8 x0 x2 x3 x4 x5 x6 x7 x8) (r : Fin 8192) (k : Fin 1024) : IsReal (xn x0 r k) := by
  obtain ⟨q, _, _, e⟩ := root_coe h.row r
  exact (h.row _).mul ⟨_, e⟩

/-- Both forms of the rows' gradient agree. -/
theorem rows_eq (h : Fin8 x0 x2 x3 x4 x5 x6 x7 x8) (r : Fin 8192) (k : Fin 1024) :
    val_main_v56 (F := Ideal) x0 x1 x2 x3 x4 x5 x6 x7 x8 (ix2 r k) = gx x0 x1 x6 x7 (dh x2 x3 x4 x5 x8) r k := by
  rw [r_rows, gx]
  refine congrArg (x1 (ix2 r k) + ·) ?_
  unfold slope xn
  obtain ⟨q, hq, hm, hi⟩ := root_coe h.row r
  choose d hd using fun k => real_dxn h r k
  choose a ha using h.row
  simp only [hd, ha, hm, hi, len_coe, half_coe, ← EReal.coe_mul]
  rw [← coe_sum, ← coe_sum, div_coe _ _ (mul_pos hq hq).ne', div_coe _ _ (by norm_num), ← EReal.coe_mul, ← EReal.coe_mul, div_coe _ _ (by norm_num)]
  simp only [← EReal.coe_mul, ← EReal.coe_add, ← EReal.coe_sub]
  refine congrArg _ ?_
  have e : ∑ l : Fin 1024, d l * (a (ix2 r l) * q⁻¹) = (∑ l : Fin 1024, a (ix2 r l) * d l) * q⁻¹ := by
    rw [Finset.sum_mul]; exact Finset.sum_congr rfl fun l _ => by ring
  rw [e]
  field_simp
  ring

end Cert.InXIdeal.Hand
end
-- ==== Proof.InXTie.lean ====
module

public import proofs.«01_k».proof.Proof.InXRef

@[expose] public section

set_option maxRecDepth 16384

noncomputable section

namespace Cert.InXIdeal.Hand

open Idealize.ShloMosaic Idealize.ShloMosaic.TcCoe Idealize.SL.Sem
open Cert.InXIdeal Cert.InXIdeal.Gen Cert.Hand
open Cert.InXRefIdeal.Read

section
variable (x0 x1 : S8192x1024.Idx → EReal) (x2 : S8192x2048.Idx → EReal) (x3 x4 : S8192x1024.Idx → EReal) (x5 : S8192x2048.Idx → EReal)
  (x6 : S3x1024.Idx → EReal) (x7 : S1x1024.Idx → EReal) (x8 : S1024x6144.Idx → EReal)

/-- The arguments' finiteness, element by element. -/
theorem Fin8.of_pre (h0 : (Cert.Pre_finite_inx.fn (F := Ideal) x0 x1 x2 x3 x4 x5 x6 x7 x8).1 = fun _ => 1#1)
    (h1 : (Cert.Pre_finite_inx.fn (F := Ideal) x0 x1 x2 x3 x4 x5 x6 x7 x8).2.1 = fun _ => 1#1)
    (h2 : (Cert.Pre_finite_inx.fn (F := Ideal) x0 x1 x2 x3 x4 x5 x6 x7 x8).2.2.1 = fun _ => 1#1)
    (h3 : (Cert.Pre_finite_inx.fn (F := Ideal) x0 x1 x2 x3 x4 x5 x6 x7 x8).2.2.2.1 = fun _ => 1#1)
    (h4 : (Cert.Pre_finite_inx.fn (F := Ideal) x0 x1 x2 x3 x4 x5 x6 x7 x8).2.2.2.2.1 = fun _ => 1#1)
    (h5 : (Cert.Pre_finite_inx.fn (F := Ideal) x0 x1 x2 x3 x4 x5 x6 x7 x8).2.2.2.2.2.1 = fun _ => 1#1)
    (h6 : (Cert.Pre_finite_inx.fn (F := Ideal) x0 x1 x2 x3 x4 x5 x6 x7 x8).2.2.2.2.2.2.1 = fun _ => 1#1)
    (h7 : (Cert.Pre_finite_inx.fn (F := Ideal) x0 x1 x2 x3 x4 x5 x6 x7 x8).2.2.2.2.2.2.2 = fun _ => 1#1) : Fin8 x0 x2 x3 x4 x5 x6 x7 x8 := by
  refine ⟨fun i => real_of_cmp (congrFun h0 i), fun i => real_of_cmp (congrFun h1 i), fun i => real_of_cmp (congrFun h2 i), fun i => real_of_cmp (congrFun h3 i),
    fun i => real_of_cmp (congrFun h4 i), fun k => real_of_cmp ?_, fun i => real_of_cmp (congrFun h6 i), fun i => real_of_cmp (congrFun h7 i)⟩
  rw [← congrFun h5 (ix2 0 k)]
  simp only [Cert.Pre_finite_inx.fn, Cert.Pre_finite_inx.fn_part1]
  pointwise []
  rfl
end

variable (m : (ℓ : Loc nD τ sig) → Buf (Elt Ideal) ℓ) (c : Dev nD)

/-- The arguments are finite. -/
def Finite : Prop := Fin8 (A0 m c) (A2 m c) (A3 m c) (A4 m c) (A5 m c) (A6 m c) (A7 m c) (A8 m c)

theorem tie9 (h : Finite m c) : (dats m 0 c).arrAt 9 cfg0.N
    = val_main_v56 (F := Ideal) (A0 m c) (A1 m c) (A2 m c) (A3 m c) (A4 m c) (A5 m c) (A6 m c) (A7 m c) (A8 m c) := by
  rw [result9]
  exact by_rows (a := 8192) (b := 1024) fun r k => (rows_eq h r k).symm

theorem tie10 (h : Finite m c) : (dats m 0 c).arrAt 10 cfg0.N
    = val_main_v57 (F := Ideal) (A0 m c) (A2 m c) (A3 m c) (A4 m c) (A5 m c) (A6 m c) (A7 m c) (A8 m c) := by
  refine by_rows (a := 3) (b := 1024) fun r k => ?_
  match r with
  | 0 => exact (total_shift m c k).trans (r_shift ..).symm
  | 1 =>
    refine (total_scale m c k).trans ?_
    refine (Finset.sum_congr rfl fun p _ => sum_mul_real _ (fun r => (real_dh h _ k).mul (real_xn h _ k)) (h.norm _)).trans ?_
    refine (sum_rows (fun r => DH m c r k * xn (A0 m c) r k * A7 m c (ix2 0 k))).trans ?_
    refine Eq.trans ?_ (r_scale ..).symm
    exact Finset.sum_congr rfl fun r _ => by rw [DH, mul_assoc, mul_comm]
  | 2 =>
    refine (total_norm m c k).trans ?_
    refine (Finset.sum_congr rfl fun p _ => sum_mul_real _ (fun r => (real_dh h _ k).mul (real_xn h _ k)) (IsReal.one.add (h.scale k))).trans ?_
    refine (sum_rows (fun r => DH m c r k * xn (A0 m c) r k * (1 + A6 m c (ix2 1 k)))).trans ?_
    refine Eq.trans ?_ (r_norm ..).symm
    exact Finset.sum_congr rfl fun r _ => by rw [DH, mul_comm (dh _ _ _ _ _ r k), mul_assoc]

end Cert.InXIdeal.Hand
end
-- ==== Proof.GluBlock.lean ====
module

public import proofs.«01_k».proof.Proof.Common
public import proofs.«01_k».proof.Proof.Gen.GluIdeal.Frame

@[expose] public section

set_option maxRecDepth 16384

noncomputable section

namespace Cert.GluIdeal.Hand

open Idealize.ShloMosaic Idealize.ShloMosaic.TcCoe Idealize.SL.Sem
open Cert.GluIdeal Cert.GluIdeal.Gen Cert.Hand

/-- The constants: one half, the root of two over pi as the step rounds it, the cubic term's factor and three times it. -/
def half : EReal := Ideal.ofBits .f32 0x3F000000#32
def root : EReal := Ideal.ofBits .f32 0x3F4C422A#32
def cubic : EReal := ((8943 / 200000 : ℝ) : EReal)
def slope : EReal := ((26829 / 200000 : ℝ) : EReal)

theorem named_cubic : (Named.named κ "gelu_cubic" 0x3D372713#32 : Ideal .f32) = cubic := rfl
theorem named_slope : (Named.named κ "gelu_cubic_slope" 0x3E095D4F#32 : Ideal .f32) = slope := rfl

/-- The hyperbolic tangent of the activation, the activation, its slope; the gate's slope. -/
def tn (v : EReal) : EReal := Ideal.tanh (root * (v + cubic * v * (v * v)))
def gel (v : EReal) : EReal := half * v * (1 + tn v)
def dgel (v : EReal) : EReal := half * (1 + tn v) + half * v * (1 - tn v * tn v) * (root * (1 + slope * (v * v)))
def sil (v : EReal) : EReal := v * Ideal.logistic v
def dsil (v : EReal) : EReal := Ideal.logistic v * (1 + v * (1 - Ideal.logistic v))

section Pay
variable (D Z : Vec Ideal S256x1024 .bf16) (Y G : Vec Ideal S256x1024 .f32) (PM PT : Vec Ideal S256x256 .bf16) (W : Vec Ideal S1024x1024 .bf16)

theorem pay8_at (r : Fin 256) (k : Fin 1024) : k0_pay8 (F := Ideal) Y (ix2 r k) = tn (Y (ix2 r k)) := by
  pointwise [k0_pay8, k0_pay7, k0_pay6]
  rfl

theorem pay9_at (r : Fin 256) (k : Fin 1024) : k0_pay9 (F := Ideal) Y (ix2 r k) = gel (Y (ix2 r k)) := by
  pointwise [k0_pay9, k0_pay6]
  rw [pay8_at]; rfl

theorem pay13_at (r : Fin 256) (k : Fin 1024) :
    k0_pay13 (F := Ideal) (k0_pay10 Y) (k0_pay11 Y) (k0_pay12 Y) (ix2 r k) = dgel (Y (ix2 r k)) := by
  pointwise [k0_pay13, k0_pay10, k0_pay11, k0_pay12, k0_pay7, k0_pay6]
  rw [pay8_at]; rfl

/-- The incoming gradient in the rows' own order. -/
def din (r : Fin 256) (k : Fin 1024) : EReal := ∑ s : Fin 256, PM (ix2 r s) * D (ix2 s k)

theorem pay5_at (r : Fin 256) (k : Fin 1024) : k0_pay5 (F := Ideal) PM D (ix2 r k) = din D PM r k := by
  pointwise [k0_pay5, din]

/-- The gate's gradient in the rows' own order, and carried back. -/
def dgate (r : Fin 256) (k : Fin 1024) : EReal := din D PM r k * (gel (Y (ix2 r k)) * G (ix2 r k)) * dsil (Z (ix2 r k))
def dz (r : Fin 256) (k : Fin 1024) : EReal := ∑ s : Fin 256, PT (ix2 r s) * dgate D Z Y G PM s k

theorem pay18_at (r : Fin 256) (k : Fin 1024) :
    k0_pay18 (F := Ideal) (k0_pay5 PM D) (k0_pay9 Y) G Z PT (ix2 r k) = dz D Z Y G PM PT r k := by
  pointwise [k0_pay18, k0_pay17, k0_pay16, k0_pay15]
  simp only [pay5_at, pay9_at]; rfl

/-- The gradient of the gated product and of the inner gate's argument. -/
def dglu (r : Fin 256) (k : Fin 1024) : EReal := din D PM r k * sil (Z (ix2 r k))
def dq (r : Fin 256) (k : Fin 1024) : EReal := dglu D Z PM r k * gel (Y (ix2 r k)) * G (ix2 r k) * (1 - G (ix2 r k))

theorem pay19_at (r : Fin 256) (k : Fin 1024) : k0_pay19 (F := Ideal) (k0_pay5 PM D) Z (ix2 r k) = dglu D Z PM r k := by
  pointwise [k0_pay19, k0_pay17, k0_pay16]
  rw [pay5_at]; rfl

theorem pay20_at (r : Fin 256) (k : Fin 1024) : k0_pay20 (F := Ideal) (k0_pay5 PM D) (k0_pay9 Y) G Z (ix2 r k) = dq D Z Y G PM r k := by
  pointwise [k0_pay20, k0_pay15]
  rw [pay19_at, pay9_at]; rfl

theorem pay21_at (r : Fin 256) (k : Fin 1024) : k0_pay21 (F := Ideal) (k0_pay5 PM D) (k0_pay9 Y) G Z (ix2 r k) = dq D Z Y G PM r k := by
  pointwise [k0_pay21]
  exact pay20_at ..

theorem pay22_at (acc : Vec Ideal S1x1024 .f32) (k : Fin 1024) : k0_pay22 (F := Ideal) (k0_pay5 PM D) (k0_pay9 Y) G Z acc (ix2 0 k)
    = acc (ix2 0 k) + ∑ r : Fin 256, dq D Z Y G PM r k := by
  pointwise [k0_pay22]
  simp only [pay20_at]

theorem pay1_at (acc : Vec Ideal S1024x1024 .f32) (i j : Fin 1024) :
    k0_pay1 (F := Ideal) (k0_pay14 (k0_pay9 Y)) (k0_pay21 (k0_pay5 PM D) (k0_pay9 Y) G Z) acc (ix2 i j)
    = acc (ix2 i j) + ∑ r : Fin 256, gel (Y (ix2 r i)) * dq D Z Y G PM r j := by
  pointwise [k0_pay1, k0_pay14]
  simp only [pay21_at, pay9_at]

/-- The gradient of the rows. -/
def dy (r : Fin 256) (k : Fin 1024) : EReal :=
  (dglu D Z PM r k * G (ix2 r k) + ∑ l : Fin 1024, dq D Z Y G PM r l * W (ix2 k l)) * dgel (Y (ix2 r k))

theorem pay2_at (r : Fin 256) (k : Fin 1024) :
    k0_pay2 (F := Ideal) (k0_pay13 (k0_pay10 Y) (k0_pay11 Y) (k0_pay12 Y)) (k0_pay15 G) (k0_pay19 (k0_pay5 PM D) Z)
      (k0_pay21 (k0_pay5 PM D) (k0_pay9 Y) G Z) W (ix2 r k) = dy D Z Y G PM W r k := by
  pointwise [k0_pay2, k0_pay15]
  simp only [pay13_at, pay19_at, pay21_at]; rfl

end Pay

theorem clearW (x : S1024x1024.Idx) : k0_pay3 (F := Ideal) x = 0 := by pointwise [k0_pay3]
theorem clearB (x : S1x1024.Idx) : k0_pay4 (F := Ideal) x = 0 := by pointwise [k0_pay4]

variable (m : (ℓ : Loc nD τ sig) → Buf (Elt Ideal) ℓ) (c : Dev nD)

/-- The block's gradient of the inner gate's argument. -/
def dqB (t : Fin cfg0.N) (r : Fin 256) (k : Fin 1024) : EReal := dq (iblk m c 0 t) (iblk m c 1 t) (iblk m c 2 t) (iblk m c 3 t) (iblk m c 4 t) r k

theorem lt32 (t : Fin cfg0.N) : t.val < 32 := lt_of_lt_of_eq t.isLt N_0

theorem rows_y (t : Fin cfg0.N) (r : Fin 256) (k : Fin 1024) : (outsAt0 m c t.val t.isLt).1 (ix2 r k)
    = dy (iblk m c 0 t) (iblk m c 1 t) (iblk m c 2 t) (iblk m c 3 t) (iblk m c 4 t) (iblk m c 6 t) r k := by
  by_cases h0 : t.val % 32 = 0
  · rw [outsAt0_A m c t h0 (by omega)]
    frame_out
    exact pay2_at ..
  · by_cases h1 : t.val % 32 = 31
    · rw [outsAt0_C m c t h0 h1]
      frame_out
      exact pay2_at ..
    · rw [outsAt0_B m c t h0 h1]
      frame_out
      exact pay2_at ..

theorem rows_z (t : Fin cfg0.N) (r : Fin 256) (k : Fin 1024) : (outsAt0 m c t.val t.isLt).2.1 (ix2 r k)
    = dz (iblk m c 0 t) (iblk m c 1 t) (iblk m c 2 t) (iblk m c 3 t) (iblk m c 4 t) (iblk m c 5 t) r k := by
  by_cases h0 : t.val % 32 = 0
  · rw [outsAt0_A m c t h0 (by omega)]
    frame_out
    exact pay18_at ..
  · by_cases h1 : t.val % 32 = 31
    · rw [outsAt0_C m c t h0 h1]
      frame_out
      exact pay18_at ..
    · rw [outsAt0_B m c t h0 h1]
      frame_out
      exact pay18_at ..

end Cert.GluIdeal.Hand
end
-- ==== Proof.GluSum.lean ====
module

public import proofs.«01_k».proof.Proof.GluBlock
public import Idealize.ShloMosaic.Lib.VecWindow

@[expose] public section

set_option maxRecDepth 16384

noncomputable section

namespace Cert.GluIdeal.Hand

open Idealize.ShloMosaic Idealize.ShloMosaic.TcCoe Idealize.SL.Sem
open Cert.GluIdeal Cert.GluIdeal.Gen Cert.Hand

variable (m : (ℓ : Loc nD τ sig) → Buf (Elt Ideal) ℓ) (c : Dev nD)

/-! The running sums: the bias's gradient and the weight's. -/

def biasAt (n : ℕ) (h : n < cfg0.N) : S1x1024.Idx → EReal := (outsAt0 m c n h).2.2.2.2.1
def weightAt (n : ℕ) (h : n < cfg0.N) : S1024x1024.Idx → EReal := (outsAt0 m c n h).2.2.2.1

theorem biasA (t : Fin cfg0.N) (h0 : t.val % 32 = 0) (k : Fin 1024) :
    biasAt m c t.val t.isLt (ix2 0 k) = 0 + ∑ r : Fin 256, dqB m c t r k := by
  unfold biasAt
  rw [outsAt0_A m c t h0 (by omega)]
  frame_out
  refine (pay22_at ..).trans ?_
  refine congrArg (· + _) ?_
  exact clearB _

theorem biasB (t : Fin cfg0.N) (h0 : ¬t.val % 32 = 0) (k : Fin 1024) :
    biasAt m c t.val t.isLt (ix2 0 k) = biasAt m c (t.val - 1) (Nat.lt_of_le_of_lt (Nat.sub_le _ _) t.isLt) (ix2 0 k) + ∑ r : Fin 256, dqB m c t r k := by
  unfold biasAt
  by_cases h1 : t.val % 32 = 31
  · rw [outsAt0_C m c t h0 h1]
    frame_out
    refine (pay22_at ..).trans ?_
    rw [whole_read_unread]; rfl
  · rw [outsAt0_B m c t h0 h1]
    frame_out
    refine (pay22_at ..).trans ?_
    rw [whole_read_unread]; rfl

theorem weightA (t : Fin cfg0.N) (h0 : t.val % 32 = 0) (i j : Fin 1024) :
    weightAt m c t.val t.isLt (ix2 i j) = 0 + ∑ r : Fin 256, gel (iblk m c 2 t (ix2 r i)) * dqB m c t r j := by
  unfold weightAt
  rw [outsAt0_A m c t h0 (by omega)]
  frame_out
  refine (pay1_at ..).trans ?_
  refine congrArg (· + _) ?_
  exact clearW _

theorem weightB (t : Fin cfg0.N) (h0 : ¬t.val % 32 = 0) (i j : Fin 1024) : weightAt m c t.val t.isLt (ix2 i j)
    = weightAt m c (t.val - 1) (Nat.lt_of_le_of_lt (Nat.sub_le _ _) t.isLt) (ix2 i j) + ∑ r : Fin 256, gel (iblk m c 2 t (ix2 r i)) * dqB m c t r j := by
  unfold weightAt
  by_cases h1 : t.val % 32 = 31
  · rw [outsAt0_C m c t h0 h1]
    frame_out
    refine (pay1_at ..).trans ?_
    rw [whole_read_unread]; rfl
  · rw [outsAt0_B m c t h0 h1]
    frame_out
    refine (pay1_at ..).trans ?_
    rw [whole_read_unread]; rfl

theorem last31 : (31 : ℕ) < cfg0.N := by rw [show cfg0.N = 32 from N_0]; decide

/-- A scratch stored whole and copied out. -/
theorem copied (f : main_v45_2.ty.Contents (Elt Ideal)) (g : cc0_scratch0.ty.Contents (Elt Ideal)) (w : S1024x1024.Idx → EReal) :
    View.write (Elt Ideal) (View.whole main_v45_2) f (View.read (Elt Ideal) (View.whole cc0_scratch0)
      ((View.whole cc0_scratch0).writes (Elt Ideal) g [⟨Rect.unit ![0, 0] ![1024, 1024] inb_S1024x1024_S1024x1024_0_0, w⟩])) Finset.univ = w :=
  (View.write_whole_univ ..).trans (View.read_writes_full (View.whole cc0_scratch0) g (off := ![0, 0]) inb_S1024x1024_S1024x1024_0_0 w [])

/-- At the last block the results are the sums. -/
theorem last_bias : (outsAt0 m c 31 last31).2.2.1 = biasAt m c 31 last31 := by
  unfold biasAt
  rw [outsAt0_C m c ⟨31, last31⟩ (by decide) (by decide)]
  frame_out

theorem last_weight : (outsAt0 m c 31 last31).2.2.2.2.2 = weightAt m c 31 last31 := by
  unfold weightAt
  rw [outsAt0_C m c ⟨31, last31⟩ (by decide) (by decide)]
  frame_out
  unfold hbw0_C_0
  frame_out
  rw [ReadAs.apply_same]
  exact copied ..

theorem sum_bias (k : Fin 1024) : biasAt m c 31 last31 (ix2 0 k) = ∑ p : Fin cfg0.N, ∑ r : Fin 256, dqB m c p r k := by
  refine (Pipeline.eq_sum_fin_of_reset_step_apply_last (fun n h (_ : Unit) => biasAt m c n h (ix2 0 k)) 32 (fun _ => 0)
    (fun t _ => ∑ r : Fin 256, dqB m c t r k)
    (fun t h _ => biasA m c t h k) (fun t h _ => biasB m c t h k) (le_of_eq N_0) ⟨31, last31⟩ N_0.symm ()).trans ?_
  rw [zero_add]

theorem sum_weight (i j : Fin 1024) : weightAt m c 31 last31 (ix2 i j)
    = ∑ p : Fin cfg0.N, ∑ r : Fin 256, gel (iblk m c 2 p (ix2 r i)) * dqB m c p r j := by
  refine (Pipeline.eq_sum_fin_of_reset_step_apply_last (fun n h (_ : Unit) => weightAt m c n h (ix2 i j)) 32 (fun _ => 0)
    (fun t _ => ∑ r : Fin 256, gel (iblk m c 2 t (ix2 r i)) * dqB m c t r j)
    (fun t h _ => weightA m c t h i j) (fun t h _ => weightB m c t h i j) (le_of_eq N_0) ⟨31, last31⟩ N_0.symm ()).trans ?_
  rw [zero_add]

end Cert.GluIdeal.Hand
end
-- ==== Proof.GluHost.lean ====
module

public import proofs.«01_k».proof.Proof.GluSum
public import proofs.«01_k».proof.Proof.Reals
public import proofs.«01_k».proof.Proof.Gen.GluRefIdeal.Read

@[expose] public section

set_option maxRecDepth 16384

noncomputable section

namespace Cert.GluIdeal.Hand

open Idealize.ShloMosaic Idealize.ShloMosaic.TcCoe Idealize.SL.Sem
open Cert.GluIdeal Cert.GluIdeal.Gen Cert.Hand
open Cert.GluRefIdeal.Read

/-- Where a row of a block of 256 comes from: the block's rows read eight apart. -/
def src (r : Fin 256) : Fin 256 := ⟨r.val % 8 * 32 + r.val / 8, by have := r.isLt; omega⟩

/-- The row of the whole array a row of block `t` comes from. -/
def from' (t : Fin cfg0.N) (r : Fin 256) : Fin 8192 := ⟨t.val * 256 + (src r).val, by have := (src r).isLt; have := lt32 t; omega⟩
def row (t : Fin cfg0.N) (r : Fin 256) : Fin 8192 := ⟨t.val * 256 + r.val, by have := r.isLt; have := lt32 t; omega⟩

/-- The same row, of the whole array. -/
def stepRow (n : Fin 8192) : Fin 8192 := ⟨n.val / 256 * 256 + (n.val % 8 * 32 + n.val / 8 % 32), by have := n.isLt; omega⟩

theorem stepRow_row (t : Fin cfg0.N) (r : Fin 256) : stepRow (row t r) = from' t r :=
  Fin.ext (by show (t.val * 256 + r.val) / 256 * 256 + ((t.val * 256 + r.val) % 8 * 32 + (t.val * 256 + r.val) / 8 % 32) = t.val * 256 + (r.val % 8 * 32 + r.val / 8)
              have := r.isLt; omega)

theorem step_all {α : Type} (a : S8192x1024.Idx → α) (h h' h'') :
    shapeCast S8192x1024 (transpose S32x32x8x1024 [0, 2, 1, 3] (shapeCast S32x8x32x1024 a h) h') h'' = fun i => a (ix2 (stepRow (i 0)) (i 1)) := by
  refine by_rows (a := 8192) (b := 1024) fun n k => ?_
  pointwise []
  exact congrArg (fun z => a (ix2 z k)) (Fin.ext (by
    show n.val / 256 * 256 + n.val % 8 * 32 + n.val / 8 % 32 = n.val / 256 * 256 + (n.val % 8 * 32 + n.val / 8 % 32); omega))

theorem step_at {α : Type} (a : S8192x1024.Idx → α) (h h' h'') (t : Fin cfg0.N) (r : Fin 256) (k : Fin 1024) :
    shapeCast S8192x1024 (transpose S32x32x8x1024 [0, 2, 1, 3] (shapeCast S32x8x32x1024 a h) h') h'' (ix2 (row t r) k) = a (ix2 (from' t r) k) := by
  rw [step_all, ← stepRow_row]; rfl

variable (m : (ℓ : Loc nD τ sig) → Buf (Elt Ideal) ℓ) (c : Dev nD)

/-- The arguments. -/
def A0 : S8192x1024.Idx → EReal := m ((c : Thread nD τ).loc main_arg0)
def A1 : S8192x1024.Idx → EReal := m ((c : Thread nD τ).loc main_arg1)
def A2 : S1024x1024.Idx → EReal := m ((c : Thread nD τ).loc main_arg2)
def A3 : S1x1024.Idx → EReal := m ((c : Thread nD τ).loc main_arg3)
def A4 : S8192x1024.Idx → EReal := m ((c : Thread nD τ).loc main_arg4)

theorem host_w : V m c main_v16 = A2 m c := by
  entry_read
  rfl

theorem host_y (t : Fin cfg0.N) (r : Fin 256) (k : Fin 1024) : (V m c main_v15 : S8192x1024.Idx → EReal) (ix2 (row t r) k) = A0 m c (ix2 (from' t r) k) := by
  entry_read
  exact step_at ..

theorem host_z (t : Fin cfg0.N) (r : Fin 256) (k : Fin 1024) : (V m c main_v43 : S8192x1024.Idx → EReal) (ix2 (row t r) k) = A1 m c (ix2 (from' t r) k) := by
  entry_read
  exact step_at ..

theorem gate_step (a : S8192x1024.Idx → EReal) (w : S1024x1024.Idx → EReal) (b : S1x1024.Idx → EReal) (n : Fin 8192) (k : Fin 1024) :
    val_main_v31 (F := Ideal) (fun i : S8192x1024.Idx => a (ix2 (stepRow (i 0)) (i 1))) w b (ix2 n k) = val_main_v31 (F := Ideal) a w b (ix2 (stepRow n) k) := by
  simp only [val_main_v31, val_main_v30, val_main_cst_8, val_main_v29, val_main_v28, val_main_cst_7, val_main_v27, val_main_v26, val_main_v25, val_main_v24, val_main_v23,
    val_main_v22, val_main_v21, val_main_v20, val_main_v19, val_main_v18, val_main_cst_5, val_main_cst_6, val_main_v12, val_main_v11, val_main_v10, val_main_cst_2,
    val_main_v9, val_main_v8, val_main_v7, val_main_v3, val_main_v2, val_main_v1, val_main_cst, val_main_cst_0]
  pointwise []

theorem host_gate (t : Fin cfg0.N) (r : Fin 256) (k : Fin 1024) : (V m c main_v40 : S8192x1024.Idx → EReal) (ix2 (row t r) k)
    = val_main_v31 (F := Ideal) (A0 m c) (A2 m c) (A3 m c) (ix2 (from' t r) k) := by
  have h : V m c main_v40 = val_main_v31 (F := Ideal)
      (shapeCast S8192x1024 (transpose S32x32x8x1024 [0, 2, 1, 3] (shapeCast S32x8x32x1024 (A0 m c) shapeCasts_S8192x1024_S32x8x32x1024)
        transposes_S32x8x32x1024_S32x32x8x1024_0_2_1_3) shapeCasts_S32x32x8x1024_S8192x1024) (A2 m c) (A3 m c) := by
    entry_read
    rfl
  rw [h, step_all, ← stepRow_row]
  exact gate_step ..

/-- The order of the rows as the host computes it on words: eight's remainder and quotient of the row. -/
def word (n : BitVec 32) : S256.Idx → BitVec 32 := broadcastInDim S256 ![] bcast_S_S256 (constantI S_ 32 n)
def eight : S_.Idx → BitVec 32 := select (cmpi .eq (constantI S_ 32 8#32) (constantI S_ 32 0#32)) (constantI S_ 32 1#32) (constantI S_ 32 8#32)
def rem0 : S256.Idx → BitVec 32 := Host.remsi (iotaInDim S256 32 0) (broadcastInDim S256 ![] bcast_S_S256 eight)
def remI : S256.Idx → BitVec 32 :=
  select (andi (cmpi .ne (cmpi .slt rem0 (word 0#32)) (broadcastInDim S256 ![] bcast_S_S256 (cmpi .slt eight (constantI S_ 32 0#32)))) (cmpi .ne rem0 (word 0#32)))
    (addi rem0 (broadcastInDim S256 ![] bcast_S_S256 eight)) rem0
def quo0 : S256.Idx → BitVec 32 := Host.divsi (iotaInDim S256 32 0) (word 8#32)
def quoI : S256.Idx → BitVec 32 :=
  select (andi (cmpi .ne (signi (iotaInDim S256 32 0)) (broadcastInDim S256 ![] bcast_S_S256 (signi (constantI S_ 32 8#32))))
      (cmpi .ne (Host.remsi (iotaInDim S256 32 0) (word 8#32)) (word 0#32)))
    (subi quo0 (word 1#32)) quo0
def srcI : S256.Idx → BitVec 32 := addi (muli remI (word 32#32)) quoI

theorem srcI_at : ∀ r : Fin 256, srcI (ix1 r) = BitVec.ofNat 32 (src r).val := by decide +kernel

/-- The matrix of the order: a one where a row comes from. -/
def pmI : S256x256.Idx → BitVec 1 :=
  cmpi .eq (broadcastInDim S256x256 ![0, 1] bcast_S256x1_S256x256_0_1 (broadcastInDim S256x1 ![0] bcast_S256_S256x1_0 srcI))
    (broadcastInDim S256x256 ![0, 1] bcast_S1x256_S256x256_0_1 (broadcastInDim S1x256 ![1] bcast_S256_S1x256_1 (iotaInDim S256 32 0)))

theorem pmI_at (r s : Fin 256) : pmI (ix2 r s) = if s = src r then 1#1 else 0#1 := by
  unfold pmI
  pointwise []
  rw [srcI_at]
  have hs := s.isLt; have hr := (src r).isLt
  have e : BitVec.ofNat 32 (src r).val = BitVec.ofNat 32 s.val ↔ s = src r := by
    rw [← BitVec.toNat_inj, BitVec.toNat_ofNat, BitVec.toNat_ofNat, Nat.mod_eq_of_lt (by omega), Nat.mod_eq_of_lt (by omega), Fin.ext_iff]
    exact eq_comm
  by_cases h : s = src r
  · rw [if_pos h, h]; simp [IntOp.cmpi]
  · rw [if_neg h]
    have hb : (BitVec.ofNat 32 (src r).val == BitVec.ofNat 32 s.val) = false := beq_eq_false_iff_ne.mpr (mt e.mp h)
    simp only [IntOp.cmpi, hb]; rfl

theorem host_pmI : V m c main_v12 = (uitofp .bf16 pmI : FVec Ideal S256x256 .bf16) := by
  unfold V
  simp only [hostOps0, hostOps0_1, hostOps0_2, hostOps0_3, hostOps0_4, List.flatten_cons, List.flatten_nil, List.append_nil, List.cons_append, List.nil_append]
  entry_read
  rfl

theorem host_ptI : V m c main_v44 = (transpose S256x256 [1, 0] (uitofp .bf16 pmI : FVec Ideal S256x256 .bf16) transposes_S256x256_S256x256_1_0 : FVec Ideal S256x256 .bf16) := by
  unfold V
  simp only [hostOps0, hostOps0_1, hostOps0_2, hostOps0_3, hostOps0_4, List.flatten_cons, List.flatten_nil, List.append_nil, List.cons_append, List.nil_append]
  entry_read
  rfl

theorem host_pm (r s : Fin 256) : (V m c main_v12 : S256x256.Idx → EReal) (ix2 r s) = (if s = src r then 1 else 0 : EReal) := by
  rw [host_pmI]
  pointwise []
  rw [pmI_at]
  by_cases h : s = src r
  · rw [if_pos h, if_pos h]; simp [FloatOps.uitofp]
  · rw [if_neg h, if_neg h]; simp [FloatOps.uitofp]

theorem host_pt (r s : Fin 256) : (V m c main_v44 : S256x256.Idx → EReal) (ix2 r s) = (if r = src s then 1 else 0 : EReal) := by
  rw [host_ptI, ← host_pm m c s r, host_pmI]
  pointwise []

end Cert.GluIdeal.Hand
end
-- ==== Proof.GluRef.lean ====
module

public import proofs.«01_k».proof.Proof.GluHost

@[expose] public section

set_option maxRecDepth 16384

noncomputable section

namespace Cert.GluIdeal.Hand

open Idealize.ShloMosaic Idealize.ShloMosaic.TcCoe Idealize.SL.Sem
open Cert.GluIdeal Cert.GluIdeal.Gen Cert.Hand
open Cert.GluRefIdeal.Read

variable (x0 x1 : S8192x1024.Idx → EReal) (x2 : S1024x1024.Idx → EReal) (x3 : S1x1024.Idx → EReal) (x4 : S8192x1024.Idx → EReal)

/-- The inner gate, the gradients through it, of whole arrays. -/
def gate (n : Fin 8192) (k : Fin 1024) : EReal := val_main_v31 (F := Ideal) x0 x2 x3 (ix2 n k)
def DG (n : Fin 8192) (k : Fin 1024) : EReal := x4 (ix2 n k) * (gel (x0 (ix2 n k)) * gate x0 x2 x3 n k) * dsil (x1 (ix2 n k))
def DL (n : Fin 8192) (k : Fin 1024) : EReal := x4 (ix2 n k) * sil (x1 (ix2 n k))
def DQ (n : Fin 8192) (k : Fin 1024) : EReal :=
  DL x1 x4 n k * gel (x0 (ix2 n k)) * gate x0 x2 x3 n k * (1 - gate x0 x2 x3 n k)
def DS (n : Fin 8192) (k : Fin 1024) : EReal := DL x1 x4 n k * gate x0 x2 x3 n k + ∑ l : Fin 1024, DQ x0 x1 x2 x3 x4 n l * x2 (ix2 k l)
def DY (n : Fin 8192) (k : Fin 1024) : EReal := DS x0 x1 x2 x3 x4 n k * dgel (x0 (ix2 n k))

/-! Constants. -/

theorem half_coe : half = ((1 / 2 : ℝ) : EReal) := by
  simp [half, Ideal.ofBits, Ideal.ieee]; rw [← EReal.coe_mul]; congr 1; norm_num
theorem three_coe : Ideal.ofBits .f32 0x40400000#32 = ((3 : ℝ) : EReal) := by
  simp [Ideal.ofBits, Ideal.ieee]; rw [← EReal.coe_mul]; congr 1; norm_num
theorem num_coe : Ideal.ofBits .f32 0x472EAB00#32 = ((44715 : ℝ) : EReal) := by
  simp [Ideal.ofBits, Ideal.ieee]; rw [← EReal.coe_mul]; congr 1; norm_num
theorem den_coe : Ideal.ofBits .f32 0x49742400#32 = ((1000000 : ℝ) : EReal) := by
  simp [Ideal.ofBits, Ideal.ieee]; rw [← EReal.coe_mul]; congr 1; norm_num
theorem root_real : IsReal root := by
  refine ⟨13386282 * 2 ^ (-24 : ℤ), ?_⟩
  simp [root, Ideal.ofBits, Ideal.ieee]
theorem quot_coe : Ideal.div (Ideal.ofBits .f32 0x472EAB00#32) (Ideal.ofBits .f32 0x49742400#32) = cubic := by
  rw [num_coe, den_coe, div_coe _ _ (by norm_num), cubic]
  congr 1; norm_num

/-! The reference's stages at one row and column. -/

theorem r_tn (n : Fin 8192) (k : Fin 1024) : val_main_v12 (F := Ideal) x0 (ix2 n k) = tn (x0 (ix2 n k)) := by
  simp only [val_main_v12, val_main_v11, val_main_v10, val_main_cst_2, val_main_v9, val_main_v8, val_main_v7, val_main_v3, val_main_v2, val_main_v1, val_main_cst, val_main_cst_0]
  pointwise []
  rw [quot_coe, tn, root]
  refine congrArg (fun v => Ideal.tanh (_ * (_ + v))) ?_
  rw [mul_assoc cubic, mul_comm (x0 _ * x0 _)]

theorem r_half (n : Fin 8192) (k : Fin 1024) : val_main_v21 (F := Ideal) x0 (ix2 n k) = half * (1 + tn (x0 (ix2 n k))) := by
  simp only [val_main_v21, val_main_v20, val_main_cst_6, val_main_v19, val_main_v18, val_main_cst_5]
  pointwise []
  rw [r_tn]; rfl

theorem r_gel (n : Fin 8192) (k : Fin 1024) : val_main_v22 (F := Ideal) x0 (ix2 n k) = gel (x0 (ix2 n k)) := by
  simp only [val_main_v22]
  pointwise []
  rw [r_half, gel, ← mul_assoc, mul_comm half]

theorem r_gate (n : Fin 8192) (k : Fin 1024) : gate x0 x2 x3 n k
    = Ideal.logistic ((∑ l : Fin 1024, gel (x0 (ix2 n l)) * x2 (ix2 l k)) + x3 (ix2 0 k)) := by
  unfold gate
  simp only [val_main_v31, val_main_v30, val_main_cst_8, val_main_v29, val_main_v28, val_main_cst_7, val_main_v27, val_main_v26, val_main_v25, val_main_v24, val_main_v23]
  pointwise []
  simp only [r_gel]; rfl

theorem r_slope (n : Fin 8192) (k : Fin 1024) : val_main_v34 (F := Ideal) x0 x2 x3 (ix2 n k) = gate x0 x2 x3 n k * (1 - gate x0 x2 x3 n k) := by
  simp only [val_main_v34, val_main_v33, val_main_v32, val_main_cst_9]
  pointwise [gate]

theorem r_sig (n : Fin 8192) (k : Fin 1024) : val_main_v36_2 (F := Ideal) x1 (ix2 n k) = Ideal.logistic (x1 (ix2 n k)) := by
  simp only [val_main_v36_2, val_main_call0_v4, val_main_call0_cst_0, val_main_call0_v3, val_main_call0_v2, val_main_call0_cst, val_main_call0_v1, val_main_call0_v0, val_main_v0]
  pointwise []
  rfl

theorem r_sil (n : Fin 8192) (k : Fin 1024) : val_main_v36_0 (F := Ideal) x1 (ix2 n k) = sil (x1 (ix2 n k)) := by
  simp only [val_main_v36_0, val_main_v0]
  pointwise [sil]
  rw [r_sig]

theorem r_dz (n : Fin 8192) (k : Fin 1024) : val_main_v67 (F := Ideal) x0 x1 x2 x3 x4 (ix2 n k)
    = gel (x0 (ix2 n k)) * gate x0 x2 x3 n k * x4 (ix2 n k) * Ideal.logistic (x1 (ix2 n k))
      + x1 (ix2 n k) * (gel (x0 (ix2 n k)) * gate x0 x2 x3 n k * x4 (ix2 n k)) * (Ideal.logistic (x1 (ix2 n k)) * (1 - Ideal.logistic (x1 (ix2 n k)))) := by
  simp only [val_main_v67, val_main_v41, val_main_call1_v2, val_main_call1_v1, val_main_call1_v0, val_main_v36_1, val_main_call0_v7, val_main_call0_v6, val_main_call0_cst_1,
    val_main_v39, val_main_v38, val_main_v35, val_main_v0]
  pointwise []
  rw [r_sig, r_gel]; rfl

theorem r_dl (n : Fin 8192) (k : Fin 1024) : val_main_v40 (F := Ideal) x1 x4 (ix2 n k) = DL x1 x4 n k := by
  simp only [val_main_v40, val_main_v38]
  pointwise [DL]
  rw [r_sil]

theorem r_dq (n : Fin 8192) (k : Fin 1024) : val_main_v44 (F := Ideal) x0 x1 x2 x3 x4 (ix2 n k) = DQ x0 x1 x2 x3 x4 n k := by
  simp only [val_main_v44, val_main_v42]
  pointwise [DQ]
  rw [r_slope, r_gel, r_dl, ← mul_assoc, mul_comm (gel _)]

theorem r_db (k : Fin 1024) : val_main_v46 (F := Ideal) x0 x1 x2 x3 x4 (ix2 0 k) = ∑ n : Fin 8192, DQ x0 x1 x2 x3 x4 n k := by
  simp only [val_main_v46, val_main_v45, val_main_cst_10]
  pointwise []
  simp only [r_dq]

theorem r_dw (i j : Fin 1024) : val_main_v48 (F := Ideal) x0 x1 x2 x3 x4 (ix2 i j) = ∑ n : Fin 8192, DQ x0 x1 x2 x3 x4 n j * gel (x0 (ix2 n i)) := by
  simp only [val_main_v48, val_main_v47]
  pointwise []
  simp only [r_dq, r_gel]

theorem r_ds (n : Fin 8192) (k : Fin 1024) : val_main_v50 (F := Ideal) x0 x1 x2 x3 x4 (ix2 n k) = DS x0 x1 x2 x3 x4 n k := by
  simp only [val_main_v50, val_main_v49, val_main_v43]
  pointwise [DS]
  simp only [r_dl, r_dq]; rfl

theorem r_dy (n : Fin 8192) (k : Fin 1024) : val_main_v63 (F := Ideal) x0 x1 x2 x3 x4 (ix2 n k)
    = DS x0 x1 x2 x3 x4 n k * (half * (1 + tn (x0 (ix2 n k))))
      + root * (half * (x0 (ix2 n k) * DS x0 x1 x2 x3 x4 n k) * ((1 + tn (x0 (ix2 n k))) * (1 - tn (x0 (ix2 n k)))))
      + cubic * (root * (half * (x0 (ix2 n k) * DS x0 x1 x2 x3 x4 n k) * ((1 + tn (x0 (ix2 n k))) * (1 - tn (x0 (ix2 n k))))))
        * (Ideal.ofBits .f32 0x40400000#32 * (x0 (ix2 n k) * x0 (ix2 n k))) := by
  simp only [val_main_v63, val_main_v62, val_main_v61, val_main_v60, val_main_v59, val_main_v58, val_main_v57, val_main_v56, val_main_cst_12, val_main_v55, val_main_v54,
    val_main_v53, val_main_cst_11, val_main_v52, val_main_v51, val_main_v17, val_main_v16, val_main_v15, val_main_cst_4, val_main_v14, val_main_v13, val_main_cst_3,
    val_main_v6, val_main_v5, val_main_cst_1, val_main_v4, val_main_v1, val_main_cst, val_main_cst_0]
  pointwise []
  rw [r_ds, r_half, r_tn, quot_coe]; rfl

theorem r_step (i : Fin 8192) (k : Fin 1024) : val_main_v66 (F := Ideal) x0 x1 x2 x3 x4 (ix2 i k) = val_main_v63 (F := Ideal) x0 x1 x2 x3 x4 (ix2 (stepRow i) k) := by
  simp only [val_main_v66, val_main_v65, val_main_v64]
  rw [step_all]; rfl

/-! Finite arguments. -/

structure Fin5 : Prop where
  y : ∀ i, IsReal (x0 i)
  z : ∀ i, IsReal (x1 i)
  w : ∀ i, IsReal (x2 i)
  b : ∀ i, IsReal (x3 i)
  d : ∀ i, IsReal (x4 i)

variable {x0 x1 x2 x3 x4}

theorem real_half : IsReal half := ⟨_, half_coe⟩
theorem real_tn {v : EReal} (h : IsReal v) : IsReal (tn v) := ((root_real.mul (h.add (((IsReal.coe _).mul h).mul (h.mul h)))).tanh)
theorem real_gel {v : EReal} (h : IsReal v) : IsReal (gel v) := (real_half.mul h).mul (IsReal.one.add (real_tn h))

theorem real_gate (h : Fin5 x0 x1 x2 x3 x4) (n : Fin 8192) (k : Fin 1024) : IsReal (gate x0 x2 x3 n k) := by
  rw [r_gate]
  exact ((IsReal.sum _ fun l _ => (real_gel (h.y _)).mul (h.w _)).add (h.b _)).logistic

theorem real_dl (h : Fin5 x0 x1 x2 x3 x4) (n : Fin 8192) (k : Fin 1024) : IsReal (DL x1 x4 n k) := (h.d _).mul ((h.z _).mul (h.z _).logistic)
theorem real_dq (h : Fin5 x0 x1 x2 x3 x4) (n : Fin 8192) (k : Fin 1024) : IsReal (DQ x0 x1 x2 x3 x4 n k) :=
  (((real_dl h n k).mul (real_gel (h.y _))).mul (real_gate h n k)).mul (IsReal.one.sub (real_gate h n k))
theorem real_ds (h : Fin5 x0 x1 x2 x3 x4) (n : Fin 8192) (k : Fin 1024) : IsReal (DS x0 x1 x2 x3 x4 n k) :=
  ((real_dl h n k).mul (real_gate h n k)).add (IsReal.sum _ fun l _ => (real_dq h n l).mul (h.w _))

/-- One, as a real number among the extended ones. -/
theorem one_coe : (1 : EReal) = ((1 : ℝ) : EReal) := rfl

/-- Both forms of the outer gate's gradient agree. -/
theorem dz_eq (h : Fin5 x0 x1 x2 x3 x4) (n : Fin 8192) (k : Fin 1024) : val_main_v67 (F := Ideal) x0 x1 x2 x3 x4 (ix2 n k) = DG x0 x1 x2 x3 x4 n k := by
  rw [r_dz, DG, dsil]
  obtain ⟨g, hg⟩ := real_gel (h.y (ix2 n k)); obtain ⟨q, hq⟩ := real_gate h n k; obtain ⟨d, hd⟩ := h.d (ix2 n k)
  obtain ⟨z, hz⟩ := h.z (ix2 n k); obtain ⟨s, hs⟩ := (h.z (ix2 n k)).logistic
  rw [hs, hg, hq, hd, hz, one_coe]
  simp only [← EReal.coe_mul, ← EReal.coe_add, ← EReal.coe_sub]
  refine congrArg _ ?_
  ring

/-- Both forms of the rows' gradient agree. -/
theorem dy_eq (h : Fin5 x0 x1 x2 x3 x4) (n : Fin 8192) (k : Fin 1024) : val_main_v63 (F := Ideal) x0 x1 x2 x3 x4 (ix2 n k) = DY x0 x1 x2 x3 x4 n k := by
  rw [r_dy, DY, dgel]
  obtain ⟨y, hy⟩ := h.y (ix2 n k); obtain ⟨t, ht⟩ := real_tn (h.y (ix2 n k)); obtain ⟨s, hs⟩ := real_ds h n k; obtain ⟨c, hc⟩ := root_real
  rw [ht, hs, hy, hc, half_coe, three_coe, one_coe, cubic, slope]
  simp only [← EReal.coe_mul, ← EReal.coe_add, ← EReal.coe_sub]
  refine congrArg _ ?_
  ring

end Cert.GluIdeal.Hand
end
-- ==== Proof.GluTie.lean ====
module

public import proofs.«01_k».proof.Proof.GluRef
public import proofs.«01_k».proof.Proof.Gen.Pre_finite_glu

@[expose] public section

set_option maxRecDepth 16384

noncomputable section

namespace Cert.GluIdeal.Hand

open Idealize.ShloMosaic Idealize.ShloMosaic.TcCoe Idealize.SL.Sem
open Cert.GluIdeal Cert.GluIdeal.Gen Cert.Hand
open Cert.GluRefIdeal.Read

section
variable (x0 x1 : S8192x1024.Idx → EReal) (x2 : S1024x1024.Idx → EReal) (x3 : S1x1024.Idx → EReal) (x4 : S8192x1024.Idx → EReal)

/-- The arguments' finiteness, element by element. -/
theorem Fin5.of_pre (h0 : (Cert.Pre_finite_glu.fn (F := Ideal) x0 x1 x2 x3 x4).1 = fun _ => 1#1)
    (h1 : (Cert.Pre_finite_glu.fn (F := Ideal) x0 x1 x2 x3 x4).2.1 = fun _ => 1#1)
    (h2 : (Cert.Pre_finite_glu.fn (F := Ideal) x0 x1 x2 x3 x4).2.2.1 = fun _ => 1#1)
    (h3 : (Cert.Pre_finite_glu.fn (F := Ideal) x0 x1 x2 x3 x4).2.2.2.1 = fun _ => 1#1)
    (h4 : (Cert.Pre_finite_glu.fn (F := Ideal) x0 x1 x2 x3 x4).2.2.2.2 = fun _ => 1#1) : Fin5 x0 x1 x2 x3 x4 :=
  ⟨fun i => real_of_cmp (congrFun h0 i), fun i => real_of_cmp (congrFun h1 i), fun i => real_of_cmp (congrFun h2 i), fun i => real_of_cmp (congrFun h3 i),
    fun i => real_of_cmp (congrFun h4 i)⟩
end

variable (m : (ℓ : Loc nD τ sig) → Buf (Elt Ideal) ℓ) (c : Dev nD)

/-! The blocks, read off the arguments. -/

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![t.val, 0] := (by decide +kernel : ∀ t : Fin grid0.N, _)

theorem blk0 (t : Fin cfg0.N) (r : Fin 256) (k : Fin 1024) : iblk m c 0 t (ix2 r k) = A4 m c (ix2 (row t r) k) := by
  unfold row A4; blk_point [iblk, V, index0 t]
theorem blk1 (t : Fin cfg0.N) (r : Fin 256) (k : Fin 1024) : iblk m c 1 t (ix2 r k) = A1 m c (ix2 (from' t r) k) := by
  rw [← host_z]; unfold row; blk_point [iblk, index1 t]
theorem blk2 (t : Fin cfg0.N) (r : Fin 256) (k : Fin 1024) : iblk m c 2 t (ix2 r k) = A0 m c (ix2 (from' t r) k) := by
  rw [← host_y]; unfold row; blk_point [iblk, index2 t]
theorem blk3 (t : Fin cfg0.N) (r : Fin 256) (k : Fin 1024) : iblk m c 3 t (ix2 r k) = gate (A0 m c) (A2 m c) (A3 m c) (from' t r) k := by
  unfold gate; rw [← host_gate]; unfold row; blk_point [iblk, index3 t]
theorem blk4 (t : Fin cfg0.N) (r s : Fin 256) : iblk m c 4 t (ix2 r s) = (if s = src r then 1 else 0 : EReal) := by
  rw [← host_pm m c]; blk_point [iblk, index4 t]
theorem blk5 (t : Fin cfg0.N) (r s : Fin 256) : iblk m c 5 t (ix2 r s) = (if r = src s then 1 else 0 : EReal) := by
  rw [← host_pt m c]; blk_point [iblk, index5 t]
theorem blk6 (t : Fin cfg0.N) (r k : Fin 1024) : iblk m c 6 t (ix2 r k) = A2 m c (ix2 r k) := by
  rw [← host_w]; blk_point [iblk, index6 t]

/-- The order of a block's rows is one to one. -/
def dst (r : Fin 256) : Fin 256 := ⟨r.val % 32 * 8 + r.val / 32, by have := r.isLt; omega⟩
def swap : Fin 256 ≃ Fin 256 where
  toFun := src
  invFun := dst
  left_inv r := Fin.ext (by show (r.val % 8 * 32 + r.val / 8) % 32 * 8 + (r.val % 8 * 32 + r.val / 8) / 32 = r.val; have := r.isLt; omega)
  right_inv r := Fin.ext (by show (r.val % 32 * 8 + r.val / 32) % 8 * 32 + (r.val % 32 * 8 + r.val / 32) / 8 = r.val; have := r.isLt; omega)

theorem src_eq (r s : Fin 256) : r = src s ↔ s = dst r := by
  rw [show src s = swap s from rfl, show dst r = swap.symm r from rfl, Equiv.eq_symm_apply, eq_comm]

theorem from_row (t : Fin cfg0.N) (r : Fin 256) : from' t r = row t (swap r) := rfl

theorem din_blk (t : Fin cfg0.N) (r : Fin 256) (k : Fin 1024) : din (iblk m c 0 t) (iblk m c 4 t) r k = A4 m c (ix2 (from' t r) k) := by
  unfold din
  simp only [blk0, blk4, ite_mul, one_mul, zero_mul]
  rw [Finset.sum_ite_eq' Finset.univ (src r) (fun s => A4 m c (ix2 (row t s) k)), if_pos (Finset.mem_univ _)]
  rfl

theorem dgate_blk (t : Fin cfg0.N) (r : Fin 256) (k : Fin 1024) : dgate (iblk m c 0 t) (iblk m c 1 t) (iblk m c 2 t) (iblk m c 3 t) (iblk m c 4 t) r k
    = DG (A0 m c) (A1 m c) (A2 m c) (A3 m c) (A4 m c) (from' t r) k := by
  unfold dgate DG
  rw [din_blk, blk1, blk2, blk3]

theorem dz_blk (t : Fin cfg0.N) (r : Fin 256) (k : Fin 1024) :
    dz (iblk m c 0 t) (iblk m c 1 t) (iblk m c 2 t) (iblk m c 3 t) (iblk m c 4 t) (iblk m c 5 t) r k
    = DG (A0 m c) (A1 m c) (A2 m c) (A3 m c) (A4 m c) (row t r) k := by
  unfold dz
  simp only [dgate_blk, blk5, src_eq, ite_mul, one_mul, zero_mul]
  rw [Finset.sum_ite_eq' Finset.univ (dst r) (fun s => DG (A0 m c) (A1 m c) (A2 m c) (A3 m c) (A4 m c) (from' t s) k), if_pos (Finset.mem_univ _), from_row]
  rw [show swap (dst r) = r from swap.right_inv r]

theorem dglu_blk (t : Fin cfg0.N) (r : Fin 256) (k : Fin 1024) : dglu (iblk m c 0 t) (iblk m c 1 t) (iblk m c 4 t) r k
    = DL (A1 m c) (A4 m c) (from' t r) k := by
  unfold dglu DL
  rw [din_blk, blk1]

theorem dq_blk (t : Fin cfg0.N) (r : Fin 256) (k : Fin 1024) : dqB m c t r k = DQ (A0 m c) (A1 m c) (A2 m c) (A3 m c) (A4 m c) (from' t r) k := by
  unfold dqB dq DQ
  rw [dglu_blk, blk2, blk3]

theorem dy_blk (t : Fin cfg0.N) (r : Fin 256) (k : Fin 1024) :
    dy (iblk m c 0 t) (iblk m c 1 t) (iblk m c 2 t) (iblk m c 3 t) (iblk m c 4 t) (iblk m c 6 t) r k
    = DY (A0 m c) (A1 m c) (A2 m c) (A3 m c) (A4 m c) (from' t r) k := by
  unfold dy DY DS
  rw [dglu_blk, blk2, blk3]
  have e : ∑ l : Fin 1024, dq (iblk m c 0 t) (iblk m c 1 t) (iblk m c 2 t) (iblk m c 3 t) (iblk m c 4 t) r l * iblk m c 6 t (ix2 k l)
      = ∑ l : Fin 1024, DQ (A0 m c) (A1 m c) (A2 m c) (A3 m c) (A4 m c) (from' t r) l * A2 m c (ix2 k l) :=
    Finset.sum_congr rfl fun l _ => by rw [blk6, ← dq_blk]; rfl
  rw [e]

/-! The result arrays. -/

theorem result7 : (dats m 0 c).arrAt 7 cfg0.N = fun i : S8192x1024.Idx => DY (A0 m c) (A1 m c) (A2 m c) (A3 m c) (A4 m c) (stepRow (i 0)) (i 1) := by
  refine (dats m 0 c).arrAt_eq_of_covers 7 _ (by decide +kernel) fun t hf y => ?_
  obtain ⟨r, j, rfl⟩ : ∃ (r : Fin 256) (j : Fin 1024), y = ix2 r j := ⟨_, _, idx2_eq y⟩
  rw [after0_7]
  have e : (win0_7.blk t).view.emb (ix2 r j) = ix2 (row t r) j := by
    refine funext fun a => Fin.ext ?_
    match a with
    | ⟨0, _⟩ => show win0_7.index t 0 * 256 + 1 * r.val = t.val * 256 + r.val; rw [index7 t, one_mul]; rfl
    | ⟨1, _⟩ => show win0_7.index t 1 * 1024 + 1 * j.val = j.val; rw [index7 t, one_mul]; exact Nat.zero_add _
  blk_simp
  rw [e]
  refine ((rows_y m c t r j).trans (dy_blk m c t r j)).trans ?_
  rw [← stepRow_row]; rfl

theorem result8 : (dats m 0 c).arrAt 8 cfg0.N = fun i : S8192x1024.Idx => DG (A0 m c) (A1 m c) (A2 m c) (A3 m c) (A4 m c) (i 0) (i 1) := by
  refine (dats m 0 c).arrAt_eq_of_covers 8 _ (by decide +kernel) fun t hf y => ?_
  obtain ⟨r, j, rfl⟩ : ∃ (r : Fin 256) (j : Fin 1024), y = ix2 r j := ⟨_, _, idx2_eq y⟩
  rw [after0_8]
  have e : (win0_8.blk t).view.emb (ix2 r j) = ix2 (row t r) j := by
    refine funext fun a => Fin.ext ?_
    match a with
    | ⟨0, _⟩ => show win0_8.index t 0 * 256 + 1 * r.val = t.val * 256 + r.val; rw [index8 t, one_mul]; rfl
    | ⟨1, _⟩ => show win0_8.index t 1 * 1024 + 1 * j.val = j.val; rw [index8 t, one_mul]; exact Nat.zero_add _
  blk_simp
  rw [e]
  exact (rows_z m c t r j).trans (dz_blk m c t r j)

theorem sum_rows (f : Fin 8192 → EReal) : ∑ p : Fin cfg0.N, ∑ r : Fin 256, f (from' p r) = ∑ n : Fin 8192, f n := by
  have e (p : Fin cfg0.N) : ∑ r : Fin 256, f (from' p r) = ∑ r : Fin 256, f (row p r) := swap.sum_comp (fun r => f (row p r))
  simp only [e]
  refine Fin.sum_mul_add_congr (fun t r hl => ?_) (by rw [show cfg0.N = 32 from N_0])
  exact congrArg f (Fin.ext rfl)

/-- The last point leaves the whole of the bias's gradient. -/
theorem after9 (w : S1x1024.Idx → EReal) (h : (outsAt0 m c 31 last31).2.2.1 = w) :
    (dats m 0 c).arrAt 9 cfg0.N = w := by
  have e : (dats m 0 c).after 9 ⟨31, last31⟩ = w := (after0_9 m c ⟨31, last31⟩).trans h
  clear h
  refine (dats m 0 c).arrAt_eq_of_after_last 9 ⟨31, last31⟩ (by decide +kernel) _ fun i => ?_
  rw [e]
  exact congrArg w (funext fun a => Fin.ext rfl)

/-! The results are the reference's. -/

/-- The arguments are finite. -/
def Finite : Prop := Fin5 (A0 m c) (A1 m c) (A2 m c) (A3 m c) (A4 m c)

theorem tie7 (h : Finite m c) : (dats m 0 c).arrAt 7 cfg0.N = val_main_v66 (F := Ideal) (A0 m c) (A1 m c) (A2 m c) (A3 m c) (A4 m c) := by
  rw [result7]
  exact by_rows (a := 8192) (b := 1024) fun r k => ((r_step ..).trans (dy_eq h _ k)).symm

theorem tie8 (h : Finite m c) : (dats m 0 c).arrAt 8 cfg0.N = val_main_v67 (F := Ideal) (A0 m c) (A1 m c) (A2 m c) (A3 m c) (A4 m c) := by
  rw [result8]
  exact by_rows (a := 8192) (b := 1024) fun r k => (dz_eq h r k).symm

theorem tie9 : (dats m 0 c).arrAt 9 cfg0.N = val_main_v46 (F := Ideal) (A0 m c) (A1 m c) (A2 m c) (A3 m c) (A4 m c) := by
  rw [after9 m c _ (last_bias m c)]
  refine by_rows (a := 1) (b := 1024) fun r k => ?_
  obtain rfl := Subsingleton.elim r 0
  refine (sum_bias m c k).trans ?_
  simp only [dq_blk]
  exact (sum_rows (fun n => DQ (A0 m c) (A1 m c) (A2 m c) (A3 m c) (A4 m c) n k)).trans (r_db ..).symm

theorem bias_eq {y0 y1 y2 y3 y4} (e0 : y0 = A0 m c) (e1 : y1 = A1 m c) (e2 : y2 = A2 m c) (e3 : y3 = A3 m c) (e4 : y4 = A4 m c) :
    val_main_v46 (F := Ideal) y0 y1 y2 y3 y4 = (dats m 0 c).arrAt 9 cfg0.N := by
  subst e0 e1 e2 e3 e4
  exact (tie9 m c).symm

theorem tie2 (n : ℕ) (hn : n < cfg0.N) (e : n = 31) :
    (outsAt0 m c n hn).2.2.2.2.2 = val_main_v48 (F := Ideal) (A0 m c) (A1 m c) (A2 m c) (A3 m c) (A4 m c) := by
  subst e
  rw [last_weight]
  refine by_rows (a := 1024) (b := 1024) fun i j => ?_
  refine (sum_weight m c i j).trans ?_
  simp only [dq_blk, blk2]
  refine (sum_rows (fun n => gel (A0 m c (ix2 n i)) * DQ (A0 m c) (A1 m c) (A2 m c) (A3 m c) (A4 m c) n j)).trans ?_
  rw [r_dw]
  exact Finset.sum_congr rfl fun n _ => mul_comm ..

end Cert.GluIdeal.Hand
end
-- ==== Proof.HeadPieces.lean ====
module

public import proofs.«01_k».proof.Proof.Gen.HeadIdeal.Frame.RunC
public import Idealize.ShloMosaic.Lib.Claim

@[expose] public section

set_option maxRecDepth 16384

noncomputable section

namespace Cert.HeadIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.HeadIdeal Cert.HeadIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What one block of the grid leaves: the outputs' staging buffers, the five accumulators and the three results in HBM. -/
structure Left (F : FTy → Type) [FloatOps F] (c : Dev nD) where
  o11 : Vec F S1x1 .f32
  o12 : Vec F S256x1024 .f32
  o13 : Vec F S256x1024 .bf16
  o14 : Vec F S256x1024 .bf16
  o15 : Vec F S256x2048 .bf16
  o16 : Vec F S2x1024 .f32
  s0 : Vec F S1024x1024 .f32
  s1 : Vec F S1024x1024 .f32
  s2 : Vec F S1024x1024 .f32
  s3 : Vec F S1x1024 .f32
  s4 : Vec F S2x1024 .f32
  w0 : HbBuf0 (F := F) c hbM0_0
  w1 : HbBuf0 (F := F) c hbM0_1
  w2 : HbBuf0 (F := F) c hbM0_2

/-! ## The first block -/

section

variable (c : Dev nD) (t : Fin cfg0.N) (h0 : t.val % 32 = 0) (h1 : ¬t.val % 32 = 31) (f0 : HbBuf0 (F := F) c hbM0_0) (f1 : HbBuf0 (F := F) c hbM0_1) (f2 : HbBuf0 (F := F) c hbM0_2)

set_option maxHeartbeats 1600000 in
/-- The body's run at a first block, on that block's buffers and blocks of the inputs. -/
def runA :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) f0 f1 f2

theorem coverA_12 (y : S256x1024.Idx) : ∃ pc ∈ (runA m c t h0 h1 f0 f1 f2).2.1, y ∈ pc.1.set :=
  View.cover_of_tiledL (runA m c t h0 h1 f0 f1 f2).2.1 S256x1024.size (by sl_kernel_rfl) y

theorem coverA_13 (y : S256x1024.Idx) : ∃ pc ∈ (runA m c t h0 h1 f0 f1 f2).2.2.1, y ∈ pc.1.set :=
  View.cover_of_tiledL (runA m c t h0 h1 f0 f1 f2).2.2.1 S256x1024.size (by sl_kernel_rfl) y

theorem coverA_14 (y : S256x1024.Idx) : ∃ pc ∈ (runA m c t h0 h1 f0 f1 f2).2.2.2.1, y ∈ pc.1.set :=
  View.cover_of_tiledL (runA m c t h0 h1 f0 f1 f2).2.2.2.1 S256x1024.size (by sl_kernel_rfl) y

theorem coverA_15 (y : S256x2048.Idx) : ∃ pc ∈ (runA m c t h0 h1 f0 f1 f2).2.2.2.2.1, y ∈ pc.1.set :=
  View.cover_of_tiledL (runA m c t h0 h1 f0 f1 f2).2.2.2.2.1 S256x1024.size (by sl_kernel_rfl) y

theorem coverA_s0 (y : S1024x1024.Idx) : ∃ pc ∈ (runA m c t h0 h1 f0 f1 f2).2.2.2.2.2.2.1, y ∈ pc.1.set :=
  View.cover_of_tiledL (runA m c t h0 h1 f0 f1 f2).2.2.2.2.2.2.1 S1024x1024.size (by sl_kernel_rfl) y

theorem coverA_s1 (y : S1024x1024.Idx) : ∃ pc ∈ (runA m c t h0 h1 f0 f1 f2).2.2.2.2.2.2.2.1, y ∈ pc.1.set :=
  View.cover_of_tiledL (runA m c t h0 h1 f0 f1 f2).2.2.2.2.2.2.2.1 S1024x1024.size (by sl_kernel_rfl) y

theorem coverA_s2 (y : S1024x1024.Idx) : ∃ pc ∈ (runA m c t h0 h1 f0 f1 f2).2.2.2.2.2.2.2.2.1, y ∈ pc.1.set :=
  View.cover_of_tiledL (runA m c t h0 h1 f0 f1 f2).2.2.2.2.2.2.2.2.1 S1024x1024.size (by sl_kernel_rfl) y

theorem coverA_s3 (y : S1x1024.Idx) : ∃ pc ∈ (runA m c t h0 h1 f0 f1 f2).2.2.2.2.2.2.2.2.2.1, y ∈ pc.1.set :=
  View.cover_of_tiledL (runA m c t h0 h1 f0 f1 f2).2.2.2.2.2.2.2.2.2.1 S1x1024.size (by sl_kernel_rfl) y

theorem coverA_s4 (y : S2x1024.Idx) : ∃ pc ∈ (runA m c t h0 h1 f0 f1 f2).2.2.2.2.2.2.2.2.2.2.1, y ∈ pc.1.set :=
  View.cover_of_tiledL (runA m c t h0 h1 f0 f1 f2).2.2.2.2.2.2.2.2.2.2.1 S2x1024.size (by sl_kernel_rfl) y

/-- What the first block leaves. -/
def leftA : Left F c where
  o11 := VO0_11.read (Elt F) (VO0_11.writes (Elt F) VO0_11.junk (runA m c t h0 h1 f0 f1 f2).1)
  o12 := VO0_12.read (Elt F) (VO0_12.writes (Elt F) VO0_12.junk (runA m c t h0 h1 f0 f1 f2).2.1)
  o13 := VO0_13.read (Elt F) (VO0_13.writes (Elt F) VO0_13.junk (runA m c t h0 h1 f0 f1 f2).2.2.1)
  o14 := VO0_14.read (Elt F) (VO0_14.writes (Elt F) VO0_14.junk (runA m c t h0 h1 f0 f1 f2).2.2.2.1)
  o15 := VO0_15.read (Elt F) (VO0_15.writes (Elt F) VO0_15.junk (runA m c t h0 h1 f0 f1 f2).2.2.2.2.1)
  o16 := VO0_16.read (Elt F) (VO0_16.writes (Elt F) VO0_16.junk (runA m c t h0 h1 f0 f1 f2).2.2.2.2.2.1)
  s0 := VS0_0.read (Elt F) (VS0_0.writes (Elt F) VS0_0.junk (runA m c t h0 h1 f0 f1 f2).2.2.2.2.2.2.1)
  s1 := VS0_1.read (Elt F) (VS0_1.writes (Elt F) VS0_1.junk (runA m c t h0 h1 f0 f1 f2).2.2.2.2.2.2.2.1)
  s2 := VS0_2.read (Elt F) (VS0_2.writes (Elt F) VS0_2.junk (runA m c t h0 h1 f0 f1 f2).2.2.2.2.2.2.2.2.1)
  s3 := VS0_3.read (Elt F) (VS0_3.writes (Elt F) VS0_3.junk (runA m c t h0 h1 f0 f1 f2).2.2.2.2.2.2.2.2.2.1)
  s4 := VS0_4.read (Elt F) (VS0_4.writes (Elt F) VS0_4.junk (runA m c t h0 h1 f0 f1 f2).2.2.2.2.2.2.2.2.2.2.1)
  w0 := (runA m c t h0 h1 f0 f1 f2).2.2.2.2.2.2.2.2.2.2.2.1
  w1 := (runA m c t h0 h1 f0 f1 f2).2.2.2.2.2.2.2.2.2.2.2.2.1
  w2 := (runA m c t h0 h1 f0 f1 f2).2.2.2.2.2.2.2.2.2.2.2.2.2.1

end

/-! ## The middle block -/

section

variable (c : Dev nD) (t : Fin cfg0.N) (h0 : ¬t.val % 32 = 0) (h1 : ¬t.val % 32 = 31) (p : Left F c)

set_option maxHeartbeats 1600000 in
/-- The body's run at a middle block, on that block's buffers and blocks of the inputs. -/
def runB :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) p.s0 p.s1 p.s2 p.s3 p.s4 p.w0 p.w1 p.w2

theorem coverB_12 (y : S256x1024.Idx) : ∃ pc ∈ (runB m c t h0 h1 p).2.1, y ∈ pc.1.set :=
  View.cover_of_tiledL (runB m c t h0 h1 p).2.1 S256x1024.size (by sl_kernel_rfl) y

theorem coverB_13 (y : S256x1024.Idx) : ∃ pc ∈ (runB m c t h0 h1 p).2.2.1, y ∈ pc.1.set :=
  View.cover_of_tiledL (runB m c t h0 h1 p).2.2.1 S256x1024.size (by sl_kernel_rfl) y

theorem coverB_14 (y : S256x1024.Idx) : ∃ pc ∈ (runB m c t h0 h1 p).2.2.2.1, y ∈ pc.1.set :=
  View.cover_of_tiledL (runB m c t h0 h1 p).2.2.2.1 S256x1024.size (by sl_kernel_rfl) y

theorem coverB_15 (y : S256x2048.Idx) : ∃ pc ∈ (runB m c t h0 h1 p).2.2.2.2.1, y ∈ pc.1.set :=
  View.cover_of_tiledL (runB m c t h0 h1 p).2.2.2.2.1 S256x1024.size (by sl_kernel_rfl) y

theorem coverB_s0 (y : S1024x1024.Idx) : ∃ pc ∈ (runB m c t h0 h1 p).2.2.2.2.2.2.1, y ∈ pc.1.set :=
  View.cover_of_tiledL (runB m c t h0 h1 p).2.2.2.2.2.2.1 S1024x1024.size (by sl_kernel_rfl) y

theorem coverB_s1 (y : S1024x1024.Idx) : ∃ pc ∈ (runB m c t h0 h1 p).2.2.2.2.2.2.2.1, y ∈ pc.1.set :=
  View.cover_of_tiledL (runB m c t h0 h1 p).2.2.2.2.2.2.2.1 S1024x1024.size (by sl_kernel_rfl) y

theorem coverB_s2 (y : S1024x1024.Idx) : ∃ pc ∈ (runB m c t h0 h1 p).2.2.2.2.2.2.2.2.1, y ∈ pc.1.set :=
  View.cover_of_tiledL (runB m c t h0 h1 p).2.2.2.2.2.2.2.2.1 S1024x1024.size (by sl_kernel_rfl) y

theorem coverB_s3 (y : S1x1024.Idx) : ∃ pc ∈ (runB m c t h0 h1 p).2.2.2.2.2.2.2.2.2.1, y ∈ pc.1.set :=
  View.cover_of_tiledL (runB m c t h0 h1 p).2.2.2.2.2.2.2.2.2.1 S1x1024.size (by sl_kernel_rfl) y

theorem coverB_s4 (y : S2x1024.Idx) : ∃ pc ∈ (runB m c t h0 h1 p).2.2.2.2.2.2.2.2.2.2.1, y ∈ pc.1.set :=
  View.cover_of_tiledL (runB m c t h0 h1 p).2.2.2.2.2.2.2.2.2.2.1 S1x1024.size (by sl_kernel_rfl) y

/-- What the middle block leaves. -/
def leftB : Left F c where
  o11 := VO0_11.read (Elt F) (VO0_11.writes (Elt F) VO0_11.junk (runB m c t h0 h1 p).1)
  o12 := VO0_12.read (Elt F) (VO0_12.writes (Elt F) VO0_12.junk (runB m c t h0 h1 p).2.1)
  o13 := VO0_13.read (Elt F) (VO0_13.writes (Elt F) VO0_13.junk (runB m c t h0 h1 p).2.2.1)
  o14 := VO0_14.read (Elt F) (VO0_14.writes (Elt F) VO0_14.junk (runB m c t h0 h1 p).2.2.2.1)
  o15 := VO0_15.read (Elt F) (VO0_15.writes (Elt F) VO0_15.junk (runB m c t h0 h1 p).2.2.2.2.1)
  o16 := VO0_16.read (Elt F) (VO0_16.writes (Elt F) VO0_16.junk (runB m c t h0 h1 p).2.2.2.2.2.1)
  s0 := VS0_0.read (Elt F) (VS0_0.writes (Elt F) VS0_0.junk (runB m c t h0 h1 p).2.2.2.2.2.2.1)
  s1 := VS0_1.read (Elt F) (VS0_1.writes (Elt F) VS0_1.junk (runB m c t h0 h1 p).2.2.2.2.2.2.2.1)
  s2 := VS0_2.read (Elt F) (VS0_2.writes (Elt F) VS0_2.junk (runB m c t h0 h1 p).2.2.2.2.2.2.2.2.1)
  s3 := VS0_3.read (Elt F) (VS0_3.writes (Elt F) VS0_3.junk (runB m c t h0 h1 p).2.2.2.2.2.2.2.2.2.1)
  s4 := VS0_4.read (Elt F) (VS0_4.writes (Elt F) VS0_4.junk (runB m c t h0 h1 p).2.2.2.2.2.2.2.2.2.2.1)
  w0 := (runB m c t h0 h1 p).2.2.2.2.2.2.2.2.2.2.2.1
  w1 := (runB m c t h0 h1 p).2.2.2.2.2.2.2.2.2.2.2.2.1
  w2 := (runB m c t h0 h1 p).2.2.2.2.2.2.2.2.2.2.2.2.2.1

end

/-! ## The last block -/

section

variable (c : Dev nD) (t : Fin cfg0.N) (h0 : ¬t.val % 32 = 0) (h1 : t.val % 32 = 31) (p : Left F c)

set_option maxHeartbeats 1600000 in
/-- The body's run at a last block, on that block's buffers and blocks of the inputs. -/
def runC :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) p.s0 p.s1 p.s2 p.s3 p.s4 p.w0 p.w1 p.w2

theorem coverC_11 (y : S1x1.Idx) : ∃ pc ∈ (runC m c t h0 h1 p).1, y ∈ pc.1.set :=
  View.cover_of_tiledL (runC m c t h0 h1 p).1 S1x1.size (by sl_kernel_rfl) y

theorem coverC_12 (y : S256x1024.Idx) : ∃ pc ∈ (runC m c t h0 h1 p).2.1, y ∈ pc.1.set :=
  View.cover_of_tiledL (runC m c t h0 h1 p).2.1 S256x1024.size (by sl_kernel_rfl) y

theorem coverC_13 (y : S256x1024.Idx) : ∃ pc ∈ (runC m c t h0 h1 p).2.2.1, y ∈ pc.1.set :=
  View.cover_of_tiledL (runC m c t h0 h1 p).2.2.1 S256x1024.size (by sl_kernel_rfl) y

theorem coverC_14 (y : S256x1024.Idx) : ∃ pc ∈ (runC m c t h0 h1 p).2.2.2.1, y ∈ pc.1.set :=
  View.cover_of_tiledL (runC m c t h0 h1 p).2.2.2.1 S256x1024.size (by sl_kernel_rfl) y

theorem coverC_15 (y : S256x2048.Idx) : ∃ pc ∈ (runC m c t h0 h1 p).2.2.2.2.1, y ∈ pc.1.set :=
  View.cover_of_tiledL (runC m c t h0 h1 p).2.2.2.2.1 S256x1024.size (by sl_kernel_rfl) y

theorem coverC_16 (y : S2x1024.Idx) : ∃ pc ∈ (runC m c t h0 h1 p).2.2.2.2.2.1, y ∈ pc.1.set :=
  View.cover_of_tiledL (runC m c t h0 h1 p).2.2.2.2.2.1 S2x1024.size (by sl_kernel_rfl) y

theorem coverC_s0 (y : S1024x1024.Idx) : ∃ pc ∈ (runC m c t h0 h1 p).2.2.2.2.2.2.1, y ∈ pc.1.set :=
  View.cover_of_tiledL (runC m c t h0 h1 p).2.2.2.2.2.2.1 S1024x1024.size (by sl_kernel_rfl) y

theorem coverC_s1 (y : S1024x1024.Idx) : ∃ pc ∈ (runC m c t h0 h1 p).2.2.2.2.2.2.2.1, y ∈ pc.1.set :=
  View.cover_of_tiledL (runC m c t h0 h1 p).2.2.2.2.2.2.2.1 S1024x1024.size (by sl_kernel_rfl) y

theorem coverC_s2 (y : S1024x1024.Idx) : ∃ pc ∈ (runC m c t h0 h1 p).2.2.2.2.2.2.2.2.1, y ∈ pc.1.set :=
  View.cover_of_tiledL (runC m c t h0 h1 p).2.2.2.2.2.2.2.2.1 S1024x1024.size (by sl_kernel_rfl) y

theorem coverC_s3 (y : S1x1024.Idx) : ∃ pc ∈ (runC m c t h0 h1 p).2.2.2.2.2.2.2.2.2.1, y ∈ pc.1.set :=
  View.cover_of_tiledL (runC m c t h0 h1 p).2.2.2.2.2.2.2.2.2.1 S1x1024.size (by sl_kernel_rfl) y

theorem coverC_s4 (y : S2x1024.Idx) : ∃ pc ∈ (runC m c t h0 h1 p).2.2.2.2.2.2.2.2.2.2.1, y ∈ pc.1.set :=
  View.cover_of_tiledL (runC m c t h0 h1 p).2.2.2.2.2.2.2.2.2.2.1 S1x1024.size (by sl_kernel_rfl) y

/-- What the last block leaves. -/
def leftC : Left F c where
  o11 := VO0_11.read (Elt F) (VO0_11.writes (Elt F) VO0_11.junk (runC m c t h0 h1 p).1)
  o12 := VO0_12.read (Elt F) (VO0_12.writes (Elt F) VO0_12.junk (runC m c t h0 h1 p).2.1)
  o13 := VO0_13.read (Elt F) (VO0_13.writes (Elt F) VO0_13.junk (runC m c t h0 h1 p).2.2.1)
  o14 := VO0_14.read (Elt F) (VO0_14.writes (Elt F) VO0_14.junk (runC m c t h0 h1 p).2.2.2.1)
  o15 := VO0_15.read (Elt F) (VO0_15.writes (Elt F) VO0_15.junk (runC m c t h0 h1 p).2.2.2.2.1)
  o16 := VO0_16.read (Elt F) (VO0_16.writes (Elt F) VO0_16.junk (runC m c t h0 h1 p).2.2.2.2.2.1)
  s0 := VS0_0.read (Elt F) (VS0_0.writes (Elt F) VS0_0.junk (runC m c t h0 h1 p).2.2.2.2.2.2.1)
  s1 := VS0_1.read (Elt F) (VS0_1.writes (Elt F) VS0_1.junk (runC m c t h0 h1 p).2.2.2.2.2.2.2.1)
  s2 := VS0_2.read (Elt F) (VS0_2.writes (Elt F) VS0_2.junk (runC m c t h0 h1 p).2.2.2.2.2.2.2.2.1)
  s3 := VS0_3.read (Elt F) (VS0_3.writes (Elt F) VS0_3.junk (runC m c t h0 h1 p).2.2.2.2.2.2.2.2.2.1)
  s4 := VS0_4.read (Elt F) (VS0_4.writes (Elt F) VS0_4.junk (runC m c t h0 h1 p).2.2.2.2.2.2.2.2.2.2.1)
  w0 := (runC m c t h0 h1 p).2.2.2.2.2.2.2.2.2.2.2.1
  w1 := (runC m c t h0 h1 p).2.2.2.2.2.2.2.2.2.2.2.2.1
  w2 := (runC m c t h0 h1 p).2.2.2.2.2.2.2.2.2.2.2.2.2.1

end

/-! ## Block by block -/

/-- What the grid has left after block `n`: the accumulators and the results in HBM go from block to block. -/
def left (c : Dev nD) : (n : ℕ) → n < cfg0.N → Left F c
  | 0, hn => leftA m c ⟨0, hn⟩ (Nat.zero_mod _) (by simp) (V m c main_v3_5) (V m c main_v3_6) (V m c main_v3_7)
  | n + 1, hn =>
    if h0 : (n + 1) % 32 = 0 then left c n (Nat.lt_of_succ_lt hn)
    else if h1 : (n + 1) % 32 = 31 then leftC m c ⟨n + 1, hn⟩ h0 h1 (left c n (Nat.lt_of_succ_lt hn))
    else leftB m c ⟨n + 1, hn⟩ h0 h1 (left c n (Nat.lt_of_succ_lt hn))

theorem lt32 (t : Fin cfg0.N) : t.val < 32 := lt_of_lt_of_eq t.isLt (show cfg0.N = 32 from N_0)

theorem left_A (c : Dev nD) (t : Fin cfg0.N) (h0 : t.val % 32 = 0) (h1 : ¬t.val % 32 = 31) :
    left m c t.val t.isLt = leftA m c t h0 h1 (V m c main_v3_5) (V m c main_v3_6) (V m c main_v3_7) := by
  obtain ⟨n, hn⟩ := t
  cases n with
  | zero => rfl
  | succ n => exact absurd (lt32 ⟨n + 1, hn⟩) (by dsimp only at h0 ⊢; omega)

theorem left_B (c : Dev nD) (t : Fin cfg0.N) (h0 : ¬t.val % 32 = 0) (h1 : ¬t.val % 32 = 31) :
    left m c t.val t.isLt = leftB m c t h0 h1 (left m c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem left_C (c : Dev nD) (t : Fin cfg0.N) (h0 : ¬t.val % 32 = 0) (h1 : t.val % 32 = 31) :
    left m c t.val t.isLt = leftC m c t h0 h1 (left m c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

end Cert.HeadIdeal.Hand

end
-- ==== Proof.HeadFrame.lean ====
module

public import proofs.«01_k».proof.Proof.HeadPieces

@[expose] public section

set_option maxRecDepth 16384

noncomputable section

namespace Cert.HeadIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.HeadIdeal Cert.HeadIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the body holds between two blocks: the accumulators and the results in HBM at what the block before left. -/
def Held (c : Dev nD) (p : Left F c) : sProp 𝕄 :=
  iprop(iprop(owns (c : Thread nD τ) scM0_0 fullShare p.s0 ∗ owns (c : Thread nD τ) scM0_1 fullShare p.s1 ∗ owns (c : Thread nD τ) scM0_2 fullShare p.s2 ∗ owns (c : Thread nD τ) scM0_3 fullShare p.s3 ∗ owns (c : Thread nD τ) scM0_4 fullShare p.s4) ∗ (∃ r, prngReg c r) ∗ iprop(semVal ((c : Thread nD τ), SemLoc.dma 27) 0 ∗ semVal ((c : Thread nD τ), SemLoc.dma 28) 0 ∗ semVal ((c : Thread nD τ), SemLoc.dma 29) 0) ∗ iprop(emp) ∗ iprop(hbPt0 c hbM0_0 p.w0 ∗ hbPt0 c hbM0_1 p.w1 ∗ hbPt0 c hbM0_2 p.w2))

/-- The invariant before block `n`. -/
def Inv (c : Dev nD) : (n : ℕ) → n ≤ cfg0.N → sProp 𝕄
  | 0, _ => Pipeline.ΦDRG osem0 spec0 H0 R0 (V m) (V m) c
  | n + 1, hn => Held c (left m c n hn)

theorem Inv_zero (c : Dev nD) (n : ℕ) (h : n ≤ cfg0.N) (hz : n = 0) :
    Inv m c n h = Pipeline.ΦDRG osem0 spec0 H0 R0 (V m) (V m) c := by
  subst hz; rfl

theorem Inv_pos (c : Dev nD) (n : ℕ) (h : n ≤ cfg0.N) (hz : n ≠ 0) : Inv m c n h = Held c (left m c (n - 1) (by omega)) := by
  cases n with
  | zero => exact absurd rfl hz
  | succ n => rfl

/-- The proof data of the pipeline: after a block each input's buffer holds its block and each output's what the block left. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (left m c t.val t.isLt).o11
    | ⟨12, _⟩ => (left m c t.val t.isLt).o12
    | ⟨13, _⟩ => (left m c t.val t.isLt).o13
    | ⟨14, _⟩ => (left m c t.val t.isLt).o14
    | ⟨15, _⟩ => (left m c t.val t.isLt).o15
    | ⟨16, _⟩ => (left m c t.val t.isLt).o16
    | ⟨_ + 17, h⟩ => absurd h (Nat.not_lt.2 (Nat.le_add_left _ _))
  Φ t := Inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Inv_castSucc (c : Dev nD) (t : Fin cfg0.N) : (dats m 0 c).Φ t.castSucc = Inv m c t.val (Nat.le_of_lt t.isLt) := by
  dsimp only [dats]; exact Pipeline.Dat.Φ_castSucc (Inv m c) t

section

variable (c : Dev nD) (t : Fin cfg0.N)

theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = iblk m c 4 t := by dsimp only [dats]
theorem after5 : (dats m 0 c).after 5 t = iblk m c 5 t := by dsimp only [dats]
theorem after6 : (dats m 0 c).after 6 t = iblk m c 6 t := by dsimp only [dats]
theorem after7 : (dats m 0 c).after 7 t = iblk m c 7 t := by dsimp only [dats]
theorem after8 : (dats m 0 c).after 8 t = iblk m c 8 t := by dsimp only [dats]
theorem after9 : (dats m 0 c).after 9 t = iblk m c 9 t := by dsimp only [dats]
theorem after10 : (dats m 0 c).after 10 t = iblk m c 10 t := by dsimp only [dats]
theorem after11 : (dats m 0 c).after 11 t = (left m c t.val t.isLt).o11 := by dsimp only [dats]
theorem after12 : (dats m 0 c).after 12 t = (left m c t.val t.isLt).o12 := by dsimp only [dats]
theorem after13 : (dats m 0 c).after 13 t = (left m c t.val t.isLt).o13 := by dsimp only [dats]
theorem after14 : (dats m 0 c).after 14 t = (left m c t.val t.isLt).o14 := by dsimp only [dats]
theorem after15 : (dats m 0 c).after 15 t = (left m c t.val t.isLt).o15 := by dsimp only [dats]
theorem after16 : (dats m 0 c).after 16 t = (left m c t.val t.isLt).o16 := by dsimp only [dats]

theorem before0 (d) : (dats m 0 c).before 0 t d = iblk m c 0 t := before0_0_of m (dats m 0 c) (A_eq m c 0) (after0 m c) t d
theorem before1 (d) : (dats m 0 c).before 1 t d = iblk m c 1 t := before0_1_of m (dats m 0 c) (A_eq m c 1) (after1 m c) t d
theorem before2 (d) : (dats m 0 c).before 2 t d = iblk m c 2 t := before0_2_of m (dats m 0 c) (A_eq m c 2) (after2 m c) t d
theorem before3 (d) : (dats m 0 c).before 3 t d = iblk m c 3 t := before0_3_of m (dats m 0 c) (A_eq m c 3) (after3 m c) t d
theorem before4 (d) : (dats m 0 c).before 4 t d = iblk m c 4 t := before0_4_of m (dats m 0 c) (A_eq m c 4) (after4 m c) t d
theorem before5 (d) : (dats m 0 c).before 5 t d = iblk m c 5 t := before0_5_of m (dats m 0 c) (A_eq m c 5) (after5 m c) t d
theorem before6 (d) : (dats m 0 c).before 6 t d = iblk m c 6 t := before0_6_of m (dats m 0 c) (A_eq m c 6) (after6 m c) t d
theorem before7 (d) : (dats m 0 c).before 7 t d = iblk m c 7 t := before0_7_of m (dats m 0 c) (A_eq m c 7) (after7 m c) t d
theorem before8 (d) : (dats m 0 c).before 8 t d = iblk m c 8 t := before0_8_of m (dats m 0 c) (A_eq m c 8) (after8 m c) t d
theorem before9 (d) : (dats m 0 c).before 9 t d = iblk m c 9 t := before0_9_of m (dats m 0 c) (A_eq m c 9) (after9 m c) t d
theorem before10 (d) : (dats m 0 c).before 10 t d = iblk m c 10 t := before0_10_of m (dats m 0 c) (A_eq m c 10) (after10 m c) t d

theorem leaves0 : (dats m 0 c).leavesExact 0 t = owns (c : Thread nD τ) (ms0_0 t) fullShare ((dats m 0 c).after 0 t) := by
  unfold Dat.leavesExact; rw [liveAt0_0 t]
theorem leaves1 : (dats m 0 c).leavesExact 1 t = owns (c : Thread nD τ) (ms0_1 t) fullShare ((dats m 0 c).after 1 t) := by
  unfold Dat.leavesExact; rw [liveAt0_1 t]
theorem leaves2 : (dats m 0 c).leavesExact 2 t = owns (c : Thread nD τ) (ms0_2 t) fullShare ((dats m 0 c).after 2 t) := by
  unfold Dat.leavesExact; rw [liveAt0_2 t]
theorem leaves3 : (dats m 0 c).leavesExact 3 t = owns (c : Thread nD τ) (ms0_3 t) fullShare ((dats m 0 c).after 3 t) := by
  unfold Dat.leavesExact; rw [liveAt0_3 t]
theorem leaves4 : (dats m 0 c).leavesExact 4 t = owns (c : Thread nD τ) (ms0_4 t) fullShare ((dats m 0 c).after 4 t) := by
  unfold Dat.leavesExact; rw [liveAt0_4 t]
theorem leaves5 : (dats m 0 c).leavesExact 5 t = owns (c : Thread nD τ) (ms0_5 t) fullShare ((dats m 0 c).after 5 t) := by
  unfold Dat.leavesExact; rw [liveAt0_5 t]
theorem leaves6 : (dats m 0 c).leavesExact 6 t = owns (c : Thread nD τ) (ms0_6 t) fullShare ((dats m 0 c).after 6 t) := by
  unfold Dat.leavesExact; rw [liveAt0_6 t]
theorem leaves7 : (dats m 0 c).leavesExact 7 t = owns (c : Thread nD τ) (ms0_7 t) fullShare ((dats m 0 c).after 7 t) := by
  unfold Dat.leavesExact; rw [liveAt0_7 t]
theorem leaves8 : (dats m 0 c).leavesExact 8 t = owns (c : Thread nD τ) (ms0_8 t) fullShare ((dats m 0 c).after 8 t) := by
  unfold Dat.leavesExact; rw [liveAt0_8 t]
theorem leaves9 : (dats m 0 c).leavesExact 9 t = owns (c : Thread nD τ) (ms0_9 t) fullShare ((dats m 0 c).after 9 t) := by
  unfold Dat.leavesExact; rw [liveAt0_9 t]
theorem leaves10 : (dats m 0 c).leavesExact 10 t = owns (c : Thread nD τ) (ms0_10 t) fullShare ((dats m 0 c).after 10 t) := by
  unfold Dat.leavesExact; rw [liveAt0_10 t]
theorem leaves12 : (dats m 0 c).leavesExact 12 t = owns (c : Thread nD τ) (ms0_12 t) fullShare ((dats m 0 c).after 12 t) := by
  unfold Dat.leavesExact; rw [liveAt0_12 t]
theorem leaves13 : (dats m 0 c).leavesExact 13 t = owns (c : Thread nD τ) (ms0_13 t) fullShare ((dats m 0 c).after 13 t) := by
  unfold Dat.leavesExact; rw [liveAt0_13 t]
theorem leaves14 : (dats m 0 c).leavesExact 14 t = owns (c : Thread nD τ) (ms0_14 t) fullShare ((dats m 0 c).after 14 t) := by
  unfold Dat.leavesExact; rw [liveAt0_14 t]
theorem leaves15 : (dats m 0 c).leavesExact 15 t = owns (c : Thread nD τ) (ms0_15 t) fullShare ((dats m 0 c).after 15 t) := by
  unfold Dat.leavesExact; rw [liveAt0_15 t]

/-- What the body is called with at a block. -/
def Pre : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

/-- What it returns. -/
def Post : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

end

set_option maxHeartbeats 8000000 in
theorem bodyA (c : Dev nD) (t : Fin cfg0.N) (h0 : t.val % 32 = 0) (h1 : ¬t.val % 32 = 31) :
    Pre m c t ⊢ wp frame (wpE (defs₀ (F := F)) Variants.none c none) Set.univ (bodyAt0 t) (fun _ => Post m c t) := by
  unfold Pre Post bodyAt0
  simp only [before0, before1, before2, before3, before4, before5, before6, before7, before8, before9, before10]
  rw [show (dats m 0 c).Φ t.succ = Held c (left m c t.val t.isLt) from rfl]
  unfold Dat.owesAt Pipeline.owesWithin
  rw [show (dats m 0 c).owed t.castSucc = 0 from rfl, show (dats m 0 c).owed t.succ = 0 from rfl]
  rw [leaves0, leaves1, leaves2, leaves3, leaves4, leaves5, leaves6, leaves7, leaves8, leaves9, leaves10, leaves12, leaves13, leaves14, leaves15, after0, after1, after2, after3, after4, after5, after6, after7, after8, after9, after10, after12, after13, after14, after15]
  rw [Dat.leavesExact_idle (dats m 0 c) 11 t (idleAt0_11_A t ((hcond0_0 t).mpr h0) (fun h => h1 ((hcond0_1 t).mp h))) (noFlush0_11_A t ((hcond0_0 t).mpr h0) (fun h => h1 ((hcond0_1 t).mp h)))]
  rw [Dat.leavesExact_idle (dats m 0 c) 16 t (idleAt0_16_A t ((hcond0_0 t).mpr h0) (fun h => h1 ((hcond0_1 t).mp h))) (noFlush0_16_A t ((hcond0_0 t).mpr h0) (fun h => h1 ((hcond0_1 t).mp h)))]
  rw [Inv_castSucc, Inv_zero m c _ _ (by have := lt32 t; omega), PhiDRG0_in_eq, left_A m c t h0 h1]
  unfold Held leftA; dsimp only
  iintro ⟨⟨⟨HS0, HS1, HS2, HS3, HS4⟩, Hg, ⟨Hq0, Hq1, Hq2⟩, -, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((runA m c t h0 h1 (V m c main_v3_5) (V m c main_v3_6) (V m c main_v3_7)).2.2.2.2.2.2.2.2.2.2.2.2.2.2 _ _ W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexact H16
  isplitl [HS0]; · iexact HS0
  isplitl [HS1]; · iexact HS1
  isplitl [HS2]; · iexact HS2
  isplitl [HS3]; · iexact HS3
  isplitl [HS4]; · iexact HS4
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  isplitl [HW]; · iexact HW
  iintro ⟨H0, H1, H2, H3, H4, H5, H6, H7, H8, H9, H10, H11, ⟨%e12, H12⟩, ⟨%e13, H13⟩, ⟨%e14, H14⟩, ⟨%e15, H15⟩, H16, ⟨%es0, HS0⟩, ⟨%es1, HS1⟩, ⟨%es2, HS2⟩, ⟨%es3, HS3⟩, ⟨%es4, HS4⟩, Hq0, Hq1, Hq2, Hh0, Hh1, Hh2, ⟨%W', HW'⟩⟩
  isplitl [HS0 HS1 HS2 HS3 HS4 Hg Hq0 Hq1 Hq2 Hh0 Hh1 Hh2]
  · isplitl [HS0 HS1 HS2 HS3 HS4]
    · isplitl [HS0]
      · unfold owns; iexists _; isplitr
        swap; · iexact HS0
        ipureintro; exact View.read_writes_of_cover _ _ _ _ _ (coverA_s0 m c t h0 h1 (V m c main_v3_5) (V m c main_v3_6) (V m c main_v3_7))
      isplitl [HS1]
      · unfold owns; iexists _; isplitr
        swap; · iexact HS1
        ipureintro; exact View.read_writes_of_cover _ _ _ _ _ (coverA_s1 m c t h0 h1 (V m c main_v3_5) (V m c main_v3_6) (V m c main_v3_7))
      isplitl [HS2]
      · unfold owns; iexists _; isplitr
        swap; · iexact HS2
        ipureintro; exact View.read_writes_of_cover _ _ _ _ _ (coverA_s2 m c t h0 h1 (V m c main_v3_5) (V m c main_v3_6) (V m c main_v3_7))
      isplitl [HS3]
      · unfold owns; iexists _; isplitr
        swap; · iexact HS3
        ipureintro; exact View.read_writes_of_cover _ _ _ _ _ (coverA_s3 m c t h0 h1 (V m c main_v3_5) (V m c main_v3_6) (V m c main_v3_7))
      unfold owns; iexists _; isplitr
      swap; · iexact HS4
      ipureintro; exact View.read_writes_of_cover _ _ _ _ _ (coverA_s4 m c t h0 h1 (V m c main_v3_5) (V m c main_v3_6) (V m c main_v3_7))
    isplitl [Hg]; · iexact Hg
    isplitl [Hq0 Hq1 Hq2]
    · isplitl [Hq0]; · iexact Hq0
      isplitl [Hq1]; · iexact Hq1
      iexact Hq2
    isplitr; · iempintro
    isplitl [Hh0]; · iexact Hh0
    isplitl [Hh1]; · iexact Hh1
    iexact Hh2
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]
  · unfold owns; iexists _; isplitr
    swap; · iexact H12
    ipureintro; exact View.read_writes_of_cover _ _ _ _ _ (coverA_12 m c t h0 h1 (V m c main_v3_5) (V m c main_v3_6) (V m c main_v3_7))
  isplitl [H13]
  · unfold owns; iexists _; isplitr
    swap; · iexact H13
    ipureintro; exact View.read_writes_of_cover _ _ _ _ _ (coverA_13 m c t h0 h1 (V m c main_v3_5) (V m c main_v3_6) (V m c main_v3_7))
  isplitl [H14]
  · unfold owns; iexists _; isplitr
    swap; · iexact H14
    ipureintro; exact View.read_writes_of_cover _ _ _ _ _ (coverA_14 m c t h0 h1 (V m c main_v3_5) (V m c main_v3_6) (V m c main_v3_7))
  isplitl [H15]
  · unfold owns; iexists _; isplitr
    swap; · iexact H15
    ipureintro; exact View.read_writes_of_cover _ _ _ _ _ (coverA_15 m c t h0 h1 (V m c main_v3_5) (V m c main_v3_6) (V m c main_v3_7))
  iexists _; iexact H16

set_option maxHeartbeats 8000000 in
theorem bodyB (c : Dev nD) (t : Fin cfg0.N) (h0 : ¬t.val % 32 = 0) (h1 : ¬t.val % 32 = 31) :
    Pre m c t ⊢ wp frame (wpE (defs₀ (F := F)) Variants.none c none) Set.univ (bodyAt0 t) (fun _ => Post m c t) := by
  unfold Pre Post bodyAt0
  simp only [before0, before1, before2, before3, before4, before5, before6, before7, before8, before9, before10]
  rw [show (dats m 0 c).Φ t.succ = Held c (left m c t.val t.isLt) from rfl]
  unfold Dat.owesAt Pipeline.owesWithin
  rw [show (dats m 0 c).owed t.castSucc = 0 from rfl, show (dats m 0 c).owed t.succ = 0 from rfl]
  rw [leaves0, leaves1, leaves2, leaves3, leaves4, leaves5, leaves6, leaves7, leaves8, leaves9, leaves10, leaves12, leaves13, leaves14, leaves15, after0, after1, after2, after3, after4, after5, after6, after7, after8, after9, after10, after12, after13, after14, after15]
  rw [Dat.leavesExact_idle (dats m 0 c) 11 t (idleAt0_11_B t (fun h => h0 ((hcond0_0 t).mp h)) (fun h => h1 ((hcond0_1 t).mp h))) (noFlush0_11_B t (fun h => h0 ((hcond0_0 t).mp h)) (fun h => h1 ((hcond0_1 t).mp h)))]
  rw [Dat.leavesExact_idle (dats m 0 c) 16 t (idleAt0_16_B t (fun h => h0 ((hcond0_0 t).mp h)) (fun h => h1 ((hcond0_1 t).mp h))) (noFlush0_16_B t (fun h => h0 ((hcond0_0 t).mp h)) (fun h => h1 ((hcond0_1 t).mp h)))]
  rw [Inv_castSucc, Inv_pos m c _ _ (by rintro e; exact h0 (by rw [e])), left_B m c t h0 h1]
  generalize left m c (t.val - 1) (Nat.lt_of_le_of_lt (Nat.sub_le _ _) t.isLt) = p
  unfold Held leftB; dsimp only
  iintro ⟨⟨⟨HS0, HS1, HS2, HS3, HS4⟩, Hg, ⟨Hq0, Hq1, Hq2⟩, -, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((runB m c t h0 h1 p).2.2.2.2.2.2.2.2.2.2.2.2.2.2 _ _ W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexact H16
  isplitl [HS0]; · iexact HS0
  isplitl [HS1]; · iexact HS1
  isplitl [HS2]; · iexact HS2
  isplitl [HS3]; · iexact HS3
  isplitl [HS4]; · iexact HS4
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  isplitl [HW]; · iexact HW
  iintro ⟨H0, H1, H2, H3, H4, H5, H6, H7, H8, H9, H10, H11, ⟨%e12, H12⟩, ⟨%e13, H13⟩, ⟨%e14, H14⟩, ⟨%e15, H15⟩, H16, ⟨%es0, HS0⟩, ⟨%es1, HS1⟩, ⟨%es2, HS2⟩, ⟨%es3, HS3⟩, ⟨%es4, HS4⟩, Hq0, Hq1, Hq2, Hh0, Hh1, Hh2, ⟨%W', HW'⟩⟩
  isplitl [HS0 HS1 HS2 HS3 HS4 Hg Hq0 Hq1 Hq2 Hh0 Hh1 Hh2]
  · isplitl [HS0 HS1 HS2 HS3 HS4]
    · isplitl [HS0]
      · unfold owns; iexists _; isplitr
        swap; · iexact HS0
        ipureintro; exact View.read_writes_of_cover _ _ _ _ _ (coverB_s0 m c t h0 h1 p)
      isplitl [HS1]
      · unfold owns; iexists _; isplitr
        swap; · iexact HS1
        ipureintro; exact View.read_writes_of_cover _ _ _ _ _ (coverB_s1 m c t h0 h1 p)
      isplitl [HS2]
      · unfold owns; iexists _; isplitr
        swap; · iexact HS2
        ipureintro; exact View.read_writes_of_cover _ _ _ _ _ (coverB_s2 m c t h0 h1 p)
      isplitl [HS3]
      · unfold owns; iexists _; isplitr
        swap; · iexact HS3
        ipureintro; exact View.read_writes_of_cover _ _ _ _ _ (coverB_s3 m c t h0 h1 p)
      unfold owns; iexists _; isplitr
      swap; · iexact HS4
      ipureintro; exact View.read_writes_of_cover _ _ _ _ _ (coverB_s4 m c t h0 h1 p)
    isplitl [Hg]; · iexact Hg
    isplitl [Hq0 Hq1 Hq2]
    · isplitl [Hq0]; · iexact Hq0
      isplitl [Hq1]; · iexact Hq1
      iexact Hq2
    isplitr; · iempintro
    isplitl [Hh0]; · iexact Hh0
    isplitl [Hh1]; · iexact Hh1
    iexact Hh2
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]
  · unfold owns; iexists _; isplitr
    swap; · iexact H12
    ipureintro; exact View.read_writes_of_cover _ _ _ _ _ (coverB_12 m c t h0 h1 p)
  isplitl [H13]
  · unfold owns; iexists _; isplitr
    swap; · iexact H13
    ipureintro; exact View.read_writes_of_cover _ _ _ _ _ (coverB_13 m c t h0 h1 p)
  isplitl [H14]
  · unfold owns; iexists _; isplitr
    swap; · iexact H14
    ipureintro; exact View.read_writes_of_cover _ _ _ _ _ (coverB_14 m c t h0 h1 p)
  isplitl [H15]
  · unfold owns; iexists _; isplitr
    swap; · iexact H15
    ipureintro; exact View.read_writes_of_cover _ _ _ _ _ (coverB_15 m c t h0 h1 p)
  iexists _; iexact H16

set_option maxHeartbeats 8000000 in
theorem bodyC (c : Dev nD) (t : Fin cfg0.N) (h0 : ¬t.val % 32 = 0) (h1 : t.val % 32 = 31) :
    Pre m c t ⊢ wp frame (wpE (defs₀ (F := F)) Variants.none c none) Set.univ (bodyAt0 t) (fun _ => Post m c t) := by
  unfold Pre Post bodyAt0
  simp only [before0, before1, before2, before3, before4, before5, before6, before7, before8, before9, before10]
  rw [show (dats m 0 c).Φ t.succ = Held c (left m c t.val t.isLt) from rfl]
  unfold Dat.owesAt Pipeline.owesWithin
  rw [show (dats m 0 c).owed t.castSucc = 0 from rfl, show (dats m 0 c).owed t.succ = 0 from rfl]
  rw [leaves0, leaves1, leaves2, leaves3, leaves4, leaves5, leaves6, leaves7, leaves8, leaves9, leaves10, leaves12, leaves13, leaves14, leaves15, after0, after1, after2, after3, after4, after5, after6, after7, after8, after9, after10, after12, after13, after14, after15]
  rw [show (dats m 0 c).leavesExact 11 t = owns (c : Thread nD τ) (ms0_11 t) fullShare ((dats m 0 c).after 11 t) from by
    unfold Dat.leavesExact; rw [liveAt0_11_C t (fun h => h0 ((hcond0_0 t).mp h)) ((hcond0_1 t).mpr h1)], after11]
  rw [show (dats m 0 c).leavesExact 16 t = owns (c : Thread nD τ) (ms0_16 t) fullShare ((dats m 0 c).after 16 t) from by
    unfold Dat.leavesExact; rw [liveAt0_16_C t (fun h => h0 ((hcond0_0 t).mp h)) ((hcond0_1 t).mpr h1)], after16]
  rw [Inv_castSucc, Inv_pos m c _ _ (by rintro e; exact h0 (by rw [e])), left_C m c t h0 h1]
  generalize left m c (t.val - 1) (Nat.lt_of_le_of_lt (Nat.sub_le _ _) t.isLt) = p
  unfold Held leftC; dsimp only
  iintro ⟨⟨⟨HS0, HS1, HS2, HS3, HS4⟩, Hg, ⟨Hq0, Hq1, Hq2⟩, -, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((runC m c t h0 h1 p).2.2.2.2.2.2.2.2.2.2.2.2.2.2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [HS0]; · iexact HS0
  isplitl [HS1]; · iexact HS1
  isplitl [HS2]; · iexact HS2
  isplitl [HS3]; · iexact HS3
  isplitl [HS4]; · iexact HS4
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  isplitl [HW]; · iexact HW
  iintro ⟨H0, H1, H2, H3, H4, H5, H6, H7, H8, H9, H10, ⟨%e11, H11⟩, ⟨%e12, H12⟩, ⟨%e13, H13⟩, ⟨%e14, H14⟩, ⟨%e15, H15⟩, ⟨%e16, H16⟩, ⟨%es0, HS0⟩, ⟨%es1, HS1⟩, ⟨%es2, HS2⟩, ⟨%es3, HS3⟩, ⟨%es4, HS4⟩, Hq0, Hq1, Hq2, Hh0, Hh1, Hh2, ⟨%W', HW'⟩⟩
  isplitl [HS0 HS1 HS2 HS3 HS4 Hg Hq0 Hq1 Hq2 Hh0 Hh1 Hh2]
  · isplitl [HS0 HS1 HS2 HS3 HS4]
    · isplitl [HS0]
      · unfold owns; iexists _; isplitr
        swap; · iexact HS0
        ipureintro; exact View.read_writes_of_cover _ _ _ _ _ (coverC_s0 m c t h0 h1 p)
      isplitl [HS1]
      · unfold owns; iexists _; isplitr
        swap; · iexact HS1
        ipureintro; exact View.read_writes_of_cover _ _ _ _ _ (coverC_s1 m c t h0 h1 p)
      isplitl [HS2]
      · unfold owns; iexists _; isplitr
        swap; · iexact HS2
        ipureintro; exact View.read_writes_of_cover _ _ _ _ _ (coverC_s2 m c t h0 h1 p)
      isplitl [HS3]
      · unfold owns; iexists _; isplitr
        swap; · iexact HS3
        ipureintro; exact View.read_writes_of_cover _ _ _ _ _ (coverC_s3 m c t h0 h1 p)
      unfold owns; iexists _; isplitr
      swap; · iexact HS4
      ipureintro; exact View.read_writes_of_cover _ _ _ _ _ (coverC_s4 m c t h0 h1 p)
    isplitl [Hg]; · iexact Hg
    isplitl [Hq0 Hq1 Hq2]
    · isplitl [Hq0]; · iexact Hq0
      isplitl [Hq1]; · iexact Hq1
      iexact Hq2
    isplitr; · iempintro
    isplitl [Hh0]; · iexact Hh0
    isplitl [Hh1]; · iexact Hh1
    iexact Hh2
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_of_cover _ _ _ _ _ (coverC_11 m c t h0 h1 p)
  isplitl [H12]
  · unfold owns; iexists _; isplitr
    swap; · iexact H12
    ipureintro; exact View.read_writes_of_cover _ _ _ _ _ (coverC_12 m c t h0 h1 p)
  isplitl [H13]
  · unfold owns; iexists _; isplitr
    swap; · iexact H13
    ipureintro; exact View.read_writes_of_cover _ _ _ _ _ (coverC_13 m c t h0 h1 p)
  isplitl [H14]
  · unfold owns; iexists _; isplitr
    swap; · iexact H14
    ipureintro; exact View.read_writes_of_cover _ _ _ _ _ (coverC_14 m c t h0 h1 p)
  isplitl [H15]
  · unfold owns; iexists _; isplitr
    swap; · iexact H15
    ipureintro; exact View.read_writes_of_cover _ _ _ _ _ (coverC_15 m c t h0 h1 p)
  unfold owns; iexists _; isplitr
  swap; · iexact H16
  ipureintro; exact View.read_writes_of_cover _ _ _ _ _ (coverC_16 m c t h0 h1 p)

theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  refine triple_restated (P := Pre m c t) (Q := fun _ => Post m c t) ?_ rfl .rfl fun _ => .rfl
  by_cases h0 : t.val % 32 = 0
  · exact bodyA m c t h0 (by omega)
  · by_cases h1 : t.val % 32 = 31
    · exact bodyC m c t h0 h1
    · exact bodyB m c t h0 h1

/-- What the last block leaves. -/
def final (c : Dev nD) : Left F c := (left m c ((Fin.last cfg0.N).val - 1) (by rw [Fin.val_last]; have : cfg0.N = 32 := N_0; omega))

/-- The results in HBM after the last block. -/
def results (c : Dev nD) : (b : Ref sig .tc) → Buf (Elt F) ((c : Thread nD τ).loc b) :=
  Function.update (Function.update (Function.update (V m c) main_v3_5 (final m c).w0) main_v3_6 (final m c).w1) main_v3_7 (final m c).w2

theorem results0 (c : Dev nD) : results m c main_v3_5 = (final m c).w0 := by
  unfold results; simp only [Function.update_of_ne (show (main_v3_5 : Ref sig .tc) ≠ main_v3_6 by decide), Function.update_of_ne (show (main_v3_5 : Ref sig .tc) ≠ main_v3_7 by decide), Function.update_self]

theorem results1 (c : Dev nD) : results m c main_v3_6 = (final m c).w1 := by
  unfold results; simp only [Function.update_of_ne (show (main_v3_6 : Ref sig .tc) ≠ main_v3_7 by decide), Function.update_self]

theorem results2 (c : Dev nD) : results m c main_v3_7 = (final m c).w2 := by
  unfold results; simp only [Function.update_self]

theorem routed_eq (c : Dev nD) :
    (Pipeline.routed R0 c (results m c) : sProp 𝕄) = iprop(hbPt0 c hbM0_0 (final m c).w0 ∗ hbPt0 c hbM0_1 (final m c).w1 ∗ hbPt0 c hbM0_2 (final m c).w2) := by
  unfold Pipeline.routed; rw [BI.bigSep_eq_bigSepL_of_eq [main_v3_5, main_v3_6, main_v3_7] (by decide) (by decide)]
  simp only [BI.bigSepL_cons_cons, BI.bigSepL_singleton, results0, results1, results2]; try rfl

theorem given_back (c : Dev nD) :
    (Pipeline.ΦDRG osem0 spec0 H0 R0 (V m) (results m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)
        ∗ iprop(semVal ((c : Thread nD τ), SemLoc.dma 27) 0 ∗ semVal ((c : Thread nD τ), SemLoc.dma 28) 0 ∗ semVal ((c : Thread nD τ), SemLoc.dma 29) 0) ∗ iprop(emp)
        ∗ iprop(hbPt0 c hbM0_0 (final m c).w0 ∗ hbPt0 c hbM0_1 (final m c).w1 ∗ hbPt0 c hbM0_2 (final m c).w2)) := by
  rw [Pipeline.ΦDRG_eq, scopedRest0_eq, ownSems00_eq, hbmPts0_eq, routed_eq]
  simp only [scM0_0, scM0_1, scM0_2, scM0_3, scM0_4, owns_whole]; try rfl

theorem enters (c : Dev nD) : Pipeline.ΦDRG osem0 spec0 H0 R0 (V m) (V m) c ⊢ (dats m 0 c).Φ 0 := by
  rw [show (dats m 0 c).Φ 0 = Inv m c 0 (Nat.zero_le _) from rfl, Inv_zero m c 0 _ rfl]
  try exact Idealize.SL.BI.Entails.refl _

theorem leaves (c : Dev nD) : (dats m 0 c).Φ (Fin.last cfg0.N) ⊢ Pipeline.ΦDRG osem0 spec0 H0 R0 (V m) (results m) c := by
  rw [show (dats m 0 c).Φ (Fin.last cfg0.N) = Inv m c (Fin.last cfg0.N).val (Nat.le_of_lt_succ (Fin.last cfg0.N).isLt) from rfl,
    Inv_pos m c _ _ (by rw [Fin.val_last]; have : cfg0.N = 32 := N_0; omega), given_back]
  change Held c (final m c) ⊢ _
  unfold Held
  iintro ⟨⟨HS0, HS1, HS2, HS3, HS4⟩, Hg, Hq, He, Hh⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  isplitl [Hg]; · iexact Hg
  isplitl [Hq]; · iexact Hq
  isplitl [He]; · iexact He
  iexact Hh

/-! ## The run -/

set_option backward.isDefEq.respectTransparency.types false in
theorem run_quiescent : θ_run defs (onTc (τ := τ) (main (F := F))) (s₀ m ρ)
    (fun r => (Pipeline.FramePostRG cfgs (dats m) 0 R0 (V m) (results m)) r ∧ r.2.sem = fun _ => 0) :=
  Pipeline.θ_run_frame_dmaRG_shared (Q' := _) cfgs (dats m) (0 : Fin 1) launch₀0 osem0 defs₀ Variants.none ownSemFacts0 H0 R0 H0_sub R0_sub m ρ main
    (hbody := fun c => (body_obligation m c).loose) (hq := fun _ _ _ => rfl)
    (howed := fun _ _ => rfl) (V := V m) (hmain := hmain m Variants.none) (hA := A_eq m) (G := results m)
    (hin := enters m) (hout := leaves m)

theorem run : θ_run defs (onTc (τ := τ) (main (F := F))) (s₀ m ρ) (Pipeline.FramePostRG cfgs (dats m) 0 R0 (V m) (results m)) :=
  (θ_run defs _ _).mono (fun _ h => h.1) (run_quiescent m ρ)

/-- The frame: every run ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) ((θ_run defs _ _).mono (fun _ h => h.toR) (run m ρ)))
    ((θ_run defs _ _).mono (fun _ h => h.2) (run_quiescent m ρ))

end Cert.HeadIdeal.Hand

end
-- ==== Proof.HeadBits.lean ====
module
public import proofs.«01_k».proof.Defs
public import proofs.«01_k».proof.Proof.Gen.Head
public import proofs.«01_k».proof.Proof.Gen.HeadIdeal
public import proofs.«01_k».proof.Proof.HeadFrame
@[expose] public section
set_option maxRecDepth 16384
namespace Cert.HeadIdeal.Hand
open Idealize.ShloMosaic Idealize.ShloMosaic.TcCoe Idealize.SL.Sem Idealize.ShloMosaic.Tactic
open Cert.HeadIdeal Cert.HeadIdeal.Gen

/-- The frame of the kernel at the formats' own values. -/
def FrameBits : Prop := ∀ (m : (ℓ : Loc nD τ sig) → Buf (Elt Bits) ℓ) (ρ : Dev nD → PrngReg), True →
  θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0)

/-- The program printed for the formats is the one printed for the reals. -/
theorem same_program : Cert.quiescent_Head (hHead := Cert.Head.Gen.facts) = FrameBits := by sl_kernel_rfl

theorem frame_bits : Cert.quiescent_Head (hHead := Cert.Head.Gen.facts) := by
  rw [same_program]
  exact fun m ρ _ => frame m ρ

end Cert.HeadIdeal.Hand
end
-- ==== Proof.HeadBlock.lean ====
module

public import proofs.«01_k».proof.Proof.Common
public import proofs.«01_k».proof.Proof.Gen.HeadIdeal.Skeleton
public import Idealize.ShloMosaic.Lib.Pointwise
public import Idealize.ShloMosaic.Lib.Pipeline.ValueKit.Point
public import Idealize.ShloMosaic.Lib.VecWindow

@[expose] public section

set_option maxRecDepth 16384

noncomputable section

namespace Cert.HeadIdeal.Hand

open Idealize.ShloMosaic Idealize.ShloMosaic.TcCoe Idealize.SL.Sem
open Cert.HeadIdeal Cert.HeadIdeal.Gen Cert.Hand

/-- The rows a head takes: the residual's and the target's, the two gates' and the two branches', the gate row and the norm's,
and the three projections. -/
structure Ins (n : ℕ) where
  x : Fin n → Fin 1024 → EReal
  t : Fin n → Fin 1024 → EReal
  gp : Fin n → Fin 1024 → EReal
  gs : Fin n → Fin 1024 → EReal
  yp : Fin n → Fin 1024 → EReal
  ys : Fin n → Fin 1024 → EReal
  ga : Fin 1024 → EReal
  np : Fin 1024 → EReal
  wp : Fin 1024 → Fin 1024 → EReal
  ws : Fin 1024 → Fin 1024 → EReal
  wo : Fin 1024 → Fin 1024 → EReal

def len : EReal := Ideal.ofBits .f32 0x44800000#32
def eps : EReal := Ideal.ofBits .f32 0x358637BD#32
def inv : EReal := Ideal.ofBits .f32 0x3A800000#32

namespace Ins

/-- Some of the rows. -/
def rows {n n' : ℕ} (I : Ins n) (f : Fin n' → Fin n) : Ins n' where
  x r := I.x (f r)
  t r := I.t (f r)
  gp r := I.gp (f r)
  gs r := I.gs (f r)
  yp r := I.yp (f r)
  ys r := I.ys (f r)
  ga := I.ga
  np := I.np
  wp := I.wp
  ws := I.ws
  wo := I.wo

variable {n : ℕ} (I : Ins n) (r : Fin n) (k : Fin 1024)

/-! The forward: the branches' projections, merged by their gates, projected, normalised; the error. -/

def pb : EReal := ∑ l : Fin 1024, I.yp r l * I.wp l k
def ps : EReal := ∑ l : Fin 1024, I.ys r l * I.ws l k
def mg : EReal := Ideal.logistic (I.gp r k) * I.pb r k + Ideal.logistic (I.gs r k) * I.ps r k
def out : EReal := ∑ l : Fin 1024, I.mg r l * I.wo l k
def ms : EReal := Ideal.div (∑ l : Fin 1024, I.out r l * I.out r l) len + eps
def rr : EReal := Ideal.rsqrt (I.ms r)
def on : EReal := I.out r k * I.rr r
def nd : EReal := I.on r k * I.np k
def df : EReal := I.x r k + I.ga k * I.nd r k - I.t r k

/-! The gradients. -/

def dy : EReal := I.df r k * inv
def dn : EReal := I.dy r k * I.ga k
def dg : EReal := I.dn r k * I.np k
def dout : EReal := I.rr r * (I.dg r k - I.on r k * Ideal.div (∑ l : Fin 1024, I.dg r l * I.on r l) len)
def dm : EReal := ∑ l : Fin 1024, I.dout r l * I.wo k l
def dpb : EReal := I.dm r k * Ideal.logistic (I.gp r k)
def dps : EReal := I.dm r k * Ideal.logistic (I.gs r k)
def dgp : EReal := I.dm r k * I.pb r k * Ideal.logistic (I.gp r k) * (1 - Ideal.logistic (I.gp r k))
def dgs : EReal := I.dm r k * I.ps r k * Ideal.logistic (I.gs r k) * (1 - Ideal.logistic (I.gs r k))
def dyp : EReal := ∑ l : Fin 1024, I.dpb r l * I.wp k l
def dys : EReal := ∑ l : Fin 1024, I.dps r l * I.ws k l

end Ins

section Pay
variable (X T : Vec Ideal S256x1024 .f32) (GP GS YP YS : Vec Ideal S256x1024 .bf16) (GA NP : Vec Ideal S1x1024 .f32) (WP WS WO : Vec Ideal S1024x1024 .bf16)

/-- The rows of a block. -/
def mkB : Ins 256 where
  x r k := X (ix2 r k)
  t r k := T (ix2 r k)
  gp r k := GP (ix2 r k)
  gs r k := GS (ix2 r k)
  yp r k := YP (ix2 r k)
  ys r k := YS (ix2 r k)
  ga k := GA (ix2 0 k)
  np k := NP (ix2 0 k)
  wp l k := WP (ix2 l k)
  ws l k := WS (ix2 l k)
  wo l k := WO (ix2 l k)

theorem pay9_at (r : Fin 256) (k : Fin 1024) : k0_pay9 (F := Ideal) YP WP (ix2 r k) = (mkB X T GP GS YP YS GA NP WP WS WO).pb r k := by
  pointwise [k0_pay9]
  rfl

theorem pay10_at (r : Fin 256) (k : Fin 1024) : k0_pay10 (F := Ideal) YS WS (ix2 r k) = (mkB X T GP GS YP YS GA NP WP WS WO).ps r k := by
  pointwise [k0_pay10]
  rfl

theorem pay11_at (r : Fin 256) (k : Fin 1024) : k0_pay11 (F := Ideal) YP YS GP GS WP WS (ix2 r k) = (mkB X T GP GS YP YS GA NP WP WS WO).mg r k := by
  pointwise [k0_pay11, k0_pay7, k0_pay8]
  rw [pay9_at X T GP GS YP YS GA NP WP WS WO, pay10_at X T GP GS YP YS GA NP WP WS WO]; rfl

theorem pay12_at (r : Fin 256) (k : Fin 1024) : k0_pay12 (F := Ideal) YP YS GP GS WP WS WO (ix2 r k) = (mkB X T GP GS YP YS GA NP WP WS WO).out r k := by
  pointwise [k0_pay12]
  simp only [pay11_at X T GP GS YP YS GA NP WP WS WO]; rfl

theorem pay15_at (r : Fin 256) : k0_pay15 (F := Ideal) (k0_pay13 YP YS GP GS WP WS WO) (k0_pay14 (F := Ideal)) (ix2 r 0) = (mkB X T GP GS YP YS GA NP WP WS WO).rr r := by
  pointwise [k0_pay15, k0_pay13, k0_pay14]
  simp only [pay12_at X T GP GS YP YS GA NP WP WS WO]; rfl

theorem pay16_at (r : Fin 256) (k : Fin 1024) : k0_pay16 (F := Ideal) (k0_pay12 YP YS GP GS WP WS WO) (k0_pay13 YP YS GP GS WP WS WO) (k0_pay14 (F := Ideal)) (ix2 r k) = (mkB X T GP GS YP YS GA NP WP WS WO).on r k := by
  pointwise [k0_pay16]
  rw [pay12_at X T GP GS YP YS GA NP WP WS WO, pay15_at X T GP GS YP YS GA NP WP WS WO]; rfl

theorem pay17_at (r : Fin 256) (k : Fin 1024) : k0_pay17 (F := Ideal) NP (k0_pay12 YP YS GP GS WP WS WO) (k0_pay13 YP YS GP GS WP WS WO) (k0_pay14 (F := Ideal)) (ix2 r k) = (mkB X T GP GS YP YS GA NP WP WS WO).nd r k := by
  pointwise [k0_pay17]
  rw [pay16_at X T GP GS YP YS GA NP WP WS WO]; rfl

theorem pay18_at (r : Fin 256) (k : Fin 1024) : k0_pay18 (F := Ideal) GA NP (k0_pay12 YP YS GP GS WP WS WO) (k0_pay13 YP YS GP GS WP WS WO) (k0_pay14 (F := Ideal)) X T (ix2 r k) = (mkB X T GP GS YP YS GA NP WP WS WO).df r k := by
  pointwise [k0_pay18]
  rw [pay17_at X T GP GS YP YS GA NP WP WS WO]; rfl

theorem pay19_at (v : Vec Ideal S1x1024 .f32) (k : Fin 1024) : k0_pay19 (F := Ideal) GA NP (k0_pay12 YP YS GP GS WP WS WO) (k0_pay13 YP YS GP GS WP WS WO) (k0_pay14 (F := Ideal)) X T v (ix2 0 k) = v (ix2 0 k) + ∑ r : Fin 256, (mkB X T GP GS YP YS GA NP WP WS WO).df r k * (mkB X T GP GS YP YS GA NP WP WS WO).df r k := by
  pointwise [k0_pay19]
  simp only [pay18_at X T GP GS YP YS GA NP WP WS WO]

theorem pay20_at (r : Fin 256) (k : Fin 1024) : k0_pay20 (F := Ideal) GA NP (k0_pay12 YP YS GP GS WP WS WO) (k0_pay13 YP YS GP GS WP WS WO) (k0_pay14 (F := Ideal)) X T (ix2 r k) = (mkB X T GP GS YP YS GA NP WP WS WO).dy r k := by
  pointwise [k0_pay20]
  rw [pay18_at X T GP GS YP YS GA NP WP WS WO]; rfl

theorem pay21_at (v : Vec Ideal S1x1024 .f32) (k : Fin 1024) : k0_pay21 (F := Ideal) GA NP (k0_pay12 YP YS GP GS WP WS WO) (k0_pay13 YP YS GP GS WP WS WO) (k0_pay14 (F := Ideal)) X T v (ix2 0 k) = v (ix2 0 k) + ∑ r : Fin 256, (mkB X T GP GS YP YS GA NP WP WS WO).dy r k * (mkB X T GP GS YP YS GA NP WP WS WO).nd r k := by
  pointwise [k0_pay21]
  simp only [pay20_at X T GP GS YP YS GA NP WP WS WO, pay17_at X T GP GS YP YS GA NP WP WS WO]

theorem pay22_at (r : Fin 256) (k : Fin 1024) : k0_pay22 (F := Ideal) GA NP (k0_pay12 YP YS GP GS WP WS WO) (k0_pay13 YP YS GP GS WP WS WO) (k0_pay14 (F := Ideal)) X T (ix2 r k) = (mkB X T GP GS YP YS GA NP WP WS WO).dn r k := by
  pointwise [k0_pay22]
  rw [pay20_at X T GP GS YP YS GA NP WP WS WO]; rfl

theorem pay24_at (v : Vec Ideal S1x1024 .f32) (k : Fin 1024) : k0_pay24 (F := Ideal) v (k0_pay23 GA NP (k0_pay12 YP YS GP GS WP WS WO) (k0_pay13 YP YS GP GS WP WS WO) (k0_pay14 (F := Ideal)) X T) (ix2 0 k) = v (ix2 0 k) + ∑ r : Fin 256, (mkB X T GP GS YP YS GA NP WP WS WO).dn r k * (mkB X T GP GS YP YS GA NP WP WS WO).on r k := by
  pointwise [k0_pay24, k0_pay23]
  simp only [pay22_at X T GP GS YP YS GA NP WP WS WO, pay16_at X T GP GS YP YS GA NP WP WS WO]

theorem pay25_at (r : Fin 256) (k : Fin 1024) : k0_pay25 (F := Ideal) NP (k0_pay15 (k0_pay13 YP YS GP GS WP WS WO) (k0_pay14 (F := Ideal))) (k0_pay16 (k0_pay12 YP YS GP GS WP WS WO) (k0_pay13 YP YS GP GS WP WS WO) (k0_pay14 (F := Ideal))) (k0_pay22 GA NP (k0_pay12 YP YS GP GS WP WS WO) (k0_pay13 YP YS GP GS WP WS WO) (k0_pay14 (F := Ideal)) X T) (ix2 r k) = (mkB X T GP GS YP YS GA NP WP WS WO).dout r k := by
  pointwise [k0_pay25]
  simp only [pay22_at X T GP GS YP YS GA NP WP WS WO, pay16_at X T GP GS YP YS GA NP WP WS WO, pay15_at X T GP GS YP YS GA NP WP WS WO]; rfl

theorem pay26_at (r : Fin 256) (k : Fin 1024) : k0_pay26 (F := Ideal) NP (k0_pay15 (k0_pay13 YP YS GP GS WP WS WO) (k0_pay14 (F := Ideal))) (k0_pay16 (k0_pay12 YP YS GP GS WP WS WO) (k0_pay13 YP YS GP GS WP WS WO) (k0_pay14 (F := Ideal))) (k0_pay22 GA NP (k0_pay12 YP YS GP GS WP WS WO) (k0_pay13 YP YS GP GS WP WS WO) (k0_pay14 (F := Ideal)) X T) WO (ix2 r k) = (mkB X T GP GS YP YS GA NP WP WS WO).dm r k := by
  pointwise [k0_pay26]
  simp only [pay25_at X T GP GS YP YS GA NP WP WS WO]; rfl

theorem pay27_at (r : Fin 256) (k : Fin 1024) : k0_pay27 (F := Ideal) NP (k0_pay7 GP) (k0_pay15 (k0_pay13 YP YS GP GS WP WS WO) (k0_pay14 (F := Ideal))) (k0_pay16 (k0_pay12 YP YS GP GS WP WS WO) (k0_pay13 YP YS GP GS WP WS WO) (k0_pay14 (F := Ideal))) (k0_pay22 GA NP (k0_pay12 YP YS GP GS WP WS WO) (k0_pay13 YP YS GP GS WP WS WO) (k0_pay14 (F := Ideal)) X T) WO (ix2 r k) = (mkB X T GP GS YP YS GA NP WP WS WO).dpb r k := by
  pointwise [k0_pay27, k0_pay7]
  rw [pay26_at X T GP GS YP YS GA NP WP WS WO]; rfl

theorem pay28_at (r : Fin 256) (k : Fin 1024) : k0_pay28 (F := Ideal) NP (k0_pay8 GS) (k0_pay15 (k0_pay13 YP YS GP GS WP WS WO) (k0_pay14 (F := Ideal))) (k0_pay16 (k0_pay12 YP YS GP GS WP WS WO) (k0_pay13 YP YS GP GS WP WS WO) (k0_pay14 (F := Ideal))) (k0_pay22 GA NP (k0_pay12 YP YS GP GS WP WS WO) (k0_pay13 YP YS GP GS WP WS WO) (k0_pay14 (F := Ideal)) X T) WO (ix2 r k) = (mkB X T GP GS YP YS GA NP WP WS WO).dps r k := by
  pointwise [k0_pay28, k0_pay8]
  rw [pay26_at X T GP GS YP YS GA NP WP WS WO]; rfl

theorem pay29_at (r : Fin 256) (k : Fin 1024) : k0_pay29 (F := Ideal) NP (k0_pay7 GP) (k0_pay9 YP WP) (k0_pay15 (k0_pay13 YP YS GP GS WP WS WO) (k0_pay14 (F := Ideal))) (k0_pay16 (k0_pay12 YP YS GP GS WP WS WO) (k0_pay13 YP YS GP GS WP WS WO) (k0_pay14 (F := Ideal))) (k0_pay22 GA NP (k0_pay12 YP YS GP GS WP WS WO) (k0_pay13 YP YS GP GS WP WS WO) (k0_pay14 (F := Ideal)) X T) WO (ix2 r k) = (mkB X T GP GS YP YS GA NP WP WS WO).dgp r k := by
  pointwise [k0_pay29, k0_pay7]
  rw [pay26_at X T GP GS YP YS GA NP WP WS WO, pay9_at X T GP GS YP YS GA NP WP WS WO]; rfl

theorem pay30_at (r : Fin 256) (k : Fin 1024) : k0_pay30 (F := Ideal) NP (k0_pay8 GS) (k0_pay10 YS WS) (k0_pay15 (k0_pay13 YP YS GP GS WP WS WO) (k0_pay14 (F := Ideal))) (k0_pay16 (k0_pay12 YP YS GP GS WP WS WO) (k0_pay13 YP YS GP GS WP WS WO) (k0_pay14 (F := Ideal))) (k0_pay22 GA NP (k0_pay12 YP YS GP GS WP WS WO) (k0_pay13 YP YS GP GS WP WS WO) (k0_pay14 (F := Ideal)) X T) WO (ix2 r k) = (mkB X T GP GS YP YS GA NP WP WS WO).dgs r k := by
  pointwise [k0_pay30, k0_pay8]
  rw [pay26_at X T GP GS YP YS GA NP WP WS WO, pay10_at X T GP GS YP YS GA NP WP WS WO]; rfl

theorem pay32_at (r : Fin 256) (k : Fin 1024) : k0_pay32 (F := Ideal) (k0_pay31 NP (k0_pay7 GP) (k0_pay15 (k0_pay13 YP YS GP GS WP WS WO) (k0_pay14 (F := Ideal))) (k0_pay16 (k0_pay12 YP YS GP GS WP WS WO) (k0_pay13 YP YS GP GS WP WS WO) (k0_pay14 (F := Ideal))) (k0_pay22 GA NP (k0_pay12 YP YS GP GS WP WS WO) (k0_pay13 YP YS GP GS WP WS WO) (k0_pay14 (F := Ideal)) X T) WO WP) (ix2 r k) = (mkB X T GP GS YP YS GA NP WP WS WO).dyp r k := by
  pointwise [k0_pay32, k0_pay31]
  simp only [pay27_at X T GP GS YP YS GA NP WP WS WO]; rfl

theorem pay33_at (r : Fin 256) (k : Fin 1024) : k0_pay33 (F := Ideal) (k0_pay28 NP (k0_pay8 GS) (k0_pay15 (k0_pay13 YP YS GP GS WP WS WO) (k0_pay14 (F := Ideal))) (k0_pay16 (k0_pay12 YP YS GP GS WP WS WO) (k0_pay13 YP YS GP GS WP WS WO) (k0_pay14 (F := Ideal))) (k0_pay22 GA NP (k0_pay12 YP YS GP GS WP WS WO) (k0_pay13 YP YS GP GS WP WS WO) (k0_pay14 (F := Ideal)) X T) WO) WS (ix2 r k) = (mkB X T GP GS YP YS GA NP WP WS WO).dys r k := by
  pointwise [k0_pay33]
  simp only [pay28_at X T GP GS YP YS GA NP WP WS WO]; rfl

theorem pay34_at (v : Vec Ideal S1024x1024 .f32) (i j : Fin 1024) : k0_pay34 (F := Ideal) (k0_pay11 YP YS GP GS WP WS) (k0_pay25 NP (k0_pay15 (k0_pay13 YP YS GP GS WP WS WO) (k0_pay14 (F := Ideal))) (k0_pay16 (k0_pay12 YP YS GP GS WP WS WO) (k0_pay13 YP YS GP GS WP WS WO) (k0_pay14 (F := Ideal))) (k0_pay22 GA NP (k0_pay12 YP YS GP GS WP WS WO) (k0_pay13 YP YS GP GS WP WS WO) (k0_pay14 (F := Ideal)) X T)) v (ix2 i j) = v (ix2 i j) + ∑ r : Fin 256, (mkB X T GP GS YP YS GA NP WP WS WO).mg r i * (mkB X T GP GS YP YS GA NP WP WS WO).dout r j := by
  pointwise [k0_pay34]
  simp only [pay11_at X T GP GS YP YS GA NP WP WS WO, pay25_at X T GP GS YP YS GA NP WP WS WO]

theorem pay35_at (v : Vec Ideal S1024x1024 .f32) (i j : Fin 1024) : k0_pay35 (F := Ideal) YP (k0_pay27 NP (k0_pay7 GP) (k0_pay15 (k0_pay13 YP YS GP GS WP WS WO) (k0_pay14 (F := Ideal))) (k0_pay16 (k0_pay12 YP YS GP GS WP WS WO) (k0_pay13 YP YS GP GS WP WS WO) (k0_pay14 (F := Ideal))) (k0_pay22 GA NP (k0_pay12 YP YS GP GS WP WS WO) (k0_pay13 YP YS GP GS WP WS WO) (k0_pay14 (F := Ideal)) X T) WO) v (ix2 i j) = v (ix2 i j) + ∑ r : Fin 256, (mkB X T GP GS YP YS GA NP WP WS WO).yp r i * (mkB X T GP GS YP YS GA NP WP WS WO).dpb r j := by
  pointwise [k0_pay35]
  simp only [pay27_at X T GP GS YP YS GA NP WP WS WO]; rfl

theorem pay36_at (v : Vec Ideal S1024x1024 .f32) (i j : Fin 1024) : k0_pay36 (F := Ideal) YS (k0_pay28 NP (k0_pay8 GS) (k0_pay15 (k0_pay13 YP YS GP GS WP WS WO) (k0_pay14 (F := Ideal))) (k0_pay16 (k0_pay12 YP YS GP GS WP WS WO) (k0_pay13 YP YS GP GS WP WS WO) (k0_pay14 (F := Ideal))) (k0_pay22 GA NP (k0_pay12 YP YS GP GS WP WS WO) (k0_pay13 YP YS GP GS WP WS WO) (k0_pay14 (F := Ideal)) X T) WO) v (ix2 i j) = v (ix2 i j) + ∑ r : Fin 256, (mkB X T GP GS YP YS GA NP WP WS WO).ys r i * (mkB X T GP GS YP YS GA NP WP WS WO).dps r j := by
  pointwise [k0_pay36]
  simp only [pay28_at X T GP GS YP YS GA NP WP WS WO]; rfl

theorem pay1_at (v : Vec Ideal S1x1024 .f32) : k0_pay1 (F := Ideal) v (ix2 0 0) = Ideal.ofBits .f32 0x3A000000#32 * ∑ k : Fin 1024, v (ix2 0 k) := by
  pointwise [k0_pay1]

end Pay

theorem clear2 (x : S1024x1024.Idx) : k0_pay2 (F := Ideal) x = 0 := by pointwise [k0_pay2]
theorem clear3 (x : S1024x1024.Idx) : k0_pay3 (F := Ideal) x = 0 := by pointwise [k0_pay3]
theorem clear4 (x : S1024x1024.Idx) : k0_pay4 (F := Ideal) x = 0 := by pointwise [k0_pay4]
theorem clear5 (x : S1x1024.Idx) : k0_pay5 (F := Ideal) x = 0 := by pointwise [k0_pay5]
theorem clear6 (x : S2x1024.Idx) : k0_pay6 (F := Ideal) x = 0 := by pointwise [k0_pay6]

end Cert.HeadIdeal.Hand
end
-- ==== Proof.HeadRef.lean ====
module

public import proofs.«01_k».proof.Defs
public import proofs.«01_k».proof.Proof.Reals
public import proofs.«01_k».proof.Proof.HeadBlock
public import proofs.«01_k».proof.Proof.Gen.HeadRefIdeal.Read

@[expose] public section

set_option maxRecDepth 16384

noncomputable section

namespace Cert.HeadIdeal.Hand

open Idealize.ShloMosaic Idealize.ShloMosaic.TcCoe Idealize.SL.Sem
open Cert.HeadIdeal Cert.Hand
open Cert.HeadRefIdeal.Read

/-! Finite arguments: the two ways to write the gradients agree. -/

namespace Ins

variable {n : ℕ} (I : Ins n)

structure Finite : Prop where
  x : ∀ r k, IsReal (I.x r k)
  t : ∀ r k, IsReal (I.t r k)
  gp : ∀ r k, IsReal (I.gp r k)
  gs : ∀ r k, IsReal (I.gs r k)
  yp : ∀ r k, IsReal (I.yp r k)
  ys : ∀ r k, IsReal (I.ys r k)
  ga : ∀ k, IsReal (I.ga k)
  np : ∀ k, IsReal (I.np k)
  wp : ∀ l k, IsReal (I.wp l k)
  ws : ∀ l k, IsReal (I.ws l k)
  wo : ∀ l k, IsReal (I.wo l k)

/-- Half of one over the row's length, the factor of each of the square's two factors. -/
def half : EReal := Ideal.div (Ideal.ofBits .f32 0x3F000000#32 * 1) len

/-- The loss's gradient as differentiation writes it, and what follows of it. -/
def ddx (r : Fin n) (k : Fin 1024) : EReal := I.df r k * half + half * I.df r k
def ddg (r : Fin n) (k : Fin 1024) : EReal := I.ga k * I.ddx r k * I.np k
def slope (r : Fin n) : EReal :=
  Ideal.div ((∑ k : Fin 1024, I.out r k * I.ddg r k) * (Ideal.ofBits .f32 0xBF000000#32 * Ideal.div (I.rr r) (I.ms r))) len
def ddo (r : Fin n) (k : Fin 1024) : EReal := I.ddg r k * I.rr r + I.out r k * I.slope r + I.slope r * I.out r k

theorem len_coe : len = ((1024 : ℝ) : EReal) := by
  simp [len, Ideal.ofBits, Ideal.ieee]; rw [← EReal.coe_mul]; congr 1; norm_num
theorem inv_coe : inv = ((1 / 1024 : ℝ) : EReal) := by
  simp [inv, Ideal.ofBits, Ideal.ieee]; rw [← EReal.coe_mul]; congr 1; norm_num
theorem eps_coe : ∃ e : ℝ, 0 < e ∧ eps = (e : EReal) := by
  refine ⟨8796093 * 2 ^ (-43 : ℤ), by positivity, ?_⟩
  simp [eps, Ideal.ofBits, Ideal.ieee]
theorem neg_coe : Ideal.ofBits .f32 0xBF000000#32 = ((-(1 / 2) : ℝ) : EReal) := by
  simp [Ideal.ofBits, Ideal.ieee]; rw [← EReal.coe_mul]; congr 1; norm_num
theorem pos_coe : Ideal.ofBits .f32 0x3F000000#32 = ((1 / 2 : ℝ) : EReal) := by
  simp [Ideal.ofBits, Ideal.ieee]; rw [← EReal.coe_mul]; congr 1; norm_num
theorem loss_coe : Ideal.ofBits .f32 0x3A000000#32 = ((1 / 2048 : ℝ) : EReal) := by
  simp [Ideal.ofBits, Ideal.ieee]; rw [← EReal.coe_mul]; congr 1; norm_num
theorem half_coe : half = ((1 / 2048 : ℝ) : EReal) := by
  rw [half, mul_one, pos_coe, len_coe, div_coe _ _ (by norm_num)]; congr 1; norm_num

variable {I} (h : I.Finite)
include h

theorem real_pb (r : Fin n) (k : Fin 1024) : IsReal (I.pb r k) := IsReal.sum _ fun _ _ => (h.yp _ _).mul (h.wp _ _)
theorem real_ps (r : Fin n) (k : Fin 1024) : IsReal (I.ps r k) := IsReal.sum _ fun _ _ => (h.ys _ _).mul (h.ws _ _)
theorem real_mg (r : Fin n) (k : Fin 1024) : IsReal (I.mg r k) :=
  ((h.gp r k).logistic.mul (real_pb h r k)).add ((h.gs r k).logistic.mul (real_ps h r k))
theorem real_out (r : Fin n) (k : Fin 1024) : IsReal (I.out r k) := IsReal.sum _ fun _ _ => (real_mg h _ _).mul (h.wo _ _)

/-- The mean square of a row, and one over its root. -/
theorem root_coe (r : Fin n) : ∃ q : ℝ, 0 < q ∧ I.ms r = ((q * q : ℝ) : EReal) ∧ I.rr r = ((q⁻¹ : ℝ) : EReal) := by
  choose a ha using real_out h r
  obtain ⟨e, he, hee⟩ := eps_coe
  have hm : I.ms r = (((∑ k : Fin 1024, a k * a k) / 1024 + e : ℝ) : EReal) := by
    unfold ms
    simp only [ha, ← EReal.coe_mul]
    rw [← coe_sum, len_coe, div_coe _ _ (by norm_num), hee, ← EReal.coe_add]
  have hp : 0 < (∑ k : Fin 1024, a k * a k) / 1024 + e := by
    have : 0 ≤ ∑ k : Fin 1024, a k * a k := Finset.sum_nonneg fun k _ => mul_self_nonneg _
    positivity
  refine ⟨Real.sqrt ((∑ k : Fin 1024, a k * a k) / 1024 + e), Real.sqrt_pos.mpr hp, ?_, ?_⟩
  · rw [Real.mul_self_sqrt hp.le, hm]
  · rw [rr, hm, Ideal.rsqrt_coe, if_neg (not_lt.mpr hp.le), if_neg hp.ne']

theorem real_df (r : Fin n) (k : Fin 1024) : IsReal (I.df r k) := by
  obtain ⟨q, _, _, e⟩ := root_coe h r
  exact ((h.x r k).add ((h.ga k).mul (((real_out h r k).mul ⟨_, e⟩).mul (h.np k)))).sub (h.t r k)

theorem ddx_eq (r : Fin n) (k : Fin 1024) : I.ddx r k = I.dy r k := by
  obtain ⟨a, ha⟩ := real_df h r k
  rw [ddx, dy, ha, half_coe, inv_coe]
  simp only [← EReal.coe_mul, ← EReal.coe_add]
  refine congrArg _ ?_
  ring

theorem ddg_eq (r : Fin n) (k : Fin 1024) : I.ddg r k = I.dg r k := by
  rw [ddg, dg, dn, ddx_eq h, mul_comm (I.ga k)]

theorem real_dg (r : Fin n) (k : Fin 1024) : IsReal (I.dg r k) :=
  (((real_df h r k).mul ⟨_, inv_coe⟩).mul (h.ga k)).mul (h.np k)

theorem ddo_eq (r : Fin n) (k : Fin 1024) : I.ddo r k = I.dout r k := by
  unfold ddo slope dout on
  obtain ⟨q, hq, hm, hi⟩ := root_coe h r
  choose d hd using real_dg h r
  choose a ha using real_out h r
  simp only [ddg_eq h, hd, ha, hm, hi, len_coe, neg_coe, ← EReal.coe_mul]
  rw [← coe_sum, ← coe_sum, div_coe _ _ (mul_pos hq hq).ne', div_coe _ _ (by norm_num), ← EReal.coe_mul, ← EReal.coe_mul, div_coe _ _ (by norm_num)]
  simp only [← EReal.coe_mul, ← EReal.coe_add, ← EReal.coe_sub]
  refine congrArg _ ?_
  have e : ∑ l : Fin 1024, d l * (a l * q⁻¹) = (∑ l : Fin 1024, a l * d l) * q⁻¹ := by
    rw [Finset.sum_mul]; exact Finset.sum_congr rfl fun l _ => by ring
  rw [e]
  field_simp
  ring

/-- The loss, summed row by row or column by column. -/
theorem loss_eq : Ideal.ofBits .f32 0x3F000000#32 * ∑ r : Fin n, Ideal.div (∑ k : Fin 1024, I.df r k * I.df r k) len
    = Ideal.ofBits .f32 0x3A000000#32 * ∑ k : Fin 1024, ∑ r : Fin n, I.df r k * I.df r k := by
  choose a ha using real_df h
  have e (r : Fin n) : Ideal.div (∑ k : Fin 1024, I.df r k * I.df r k) len = (((∑ k : Fin 1024, a r k * a r k) / 1024 : ℝ) : EReal) := by
    simp only [ha, ← EReal.coe_mul]
    rw [← coe_sum, len_coe, div_coe _ _ (by norm_num)]
  rw [Finset.sum_comm]
  simp only [e]
  simp only [ha, ← EReal.coe_mul, ← coe_sum]
  rw [pos_coe, loss_coe, ← EReal.coe_mul, ← EReal.coe_mul]
  refine congrArg _ ?_
  rw [← Finset.sum_div]
  ring

end Ins

variable (x0 x1 : S8192x1024.Idx → EReal) (x2 : S8192x6144.Idx → EReal) (x3 x4 : S8192x1024.Idx → EReal)
  (x5 : S3x1024.Idx → EReal) (x6 : S1x1024.Idx → EReal) (x7 x8 x9 : S1024x1024.Idx → EReal)

/-- All rows, read off the arguments. -/
def All : Ins 8192 where
  x r k := x0 (ix2 r k)
  t r k := x1 (ix2 r k)
  gp r k := x2 (ix2 r ⟨4096 + k.val, by omega⟩)
  gs r k := x2 (ix2 r ⟨5120 + k.val, by omega⟩)
  yp r k := x3 (ix2 r k)
  ys r k := x4 (ix2 r k)
  ga k := x5 (ix2 2 k)
  np k := x6 (ix2 0 k)
  wp l k := x7 (ix2 l k)
  ws l k := x8 (ix2 l k)
  wo l k := x9 (ix2 l k)

/-! The reference's stages. -/

theorem r_lp (r : Fin 8192) (k : Fin 1024) : val_main_v11 (F := Ideal) x2 (ix2 r k) = Ideal.logistic ((All x0 x1 x2 x3 x4 x5 x6 x7 x8 x9).gp r k) := by
  simp only [val_main_v11, val_main_v10, val_main_v9, val_main_v8, val_main_v7, val_main_v6, val_main_v1, val_main_v0, val_main_cst, val_main_cst_0]
  pointwise []
  rfl

theorem r_ls (r : Fin 8192) (k : Fin 1024) : val_main_v22 (F := Ideal) x2 (ix2 r k) = Ideal.logistic ((All x0 x1 x2 x3 x4 x5 x6 x7 x8 x9).gs r k) := by
  simp only [val_main_v22, val_main_v21, val_main_v20, val_main_v19, val_main_v18, val_main_v17, val_main_v2, val_main_v0, val_main_cst_2, val_main_cst_3]
  pointwise []
  rfl

theorem r_pb (r : Fin 8192) (k : Fin 1024) : val_main_v15 (F := Ideal) x3 x7 (ix2 r k) = (All x0 x1 x2 x3 x4 x5 x6 x7 x8 x9).pb r k := by
  simp only [val_main_v15, val_main_v3]
  pointwise []
  rfl

theorem r_ps (r : Fin 8192) (k : Fin 1024) : val_main_v26 (F := Ideal) x4 x8 (ix2 r k) = (All x0 x1 x2 x3 x4 x5 x6 x7 x8 x9).ps r k := by
  simp only [val_main_v26, val_main_v4]
  pointwise []
  rfl

theorem r_mg (r : Fin 8192) (k : Fin 1024) : val_main_v28 (F := Ideal) x2 x3 x4 x7 x8 (ix2 r k) = (All x0 x1 x2 x3 x4 x5 x6 x7 x8 x9).mg r k := by
  simp only [val_main_v28, val_main_v16, val_main_v27]
  pointwise []
  rw [r_lp x0 x1 x2 x3 x4 x5 x6 x7 x8 x9, r_ls x0 x1 x2 x3 x4 x5 x6 x7 x8 x9, r_pb x0 x1 x2 x3 x4 x5 x6 x7 x8 x9, r_ps x0 x1 x2 x3 x4 x5 x6 x7 x8 x9]; rfl

theorem r_out (r : Fin 8192) (k : Fin 1024) : val_main_v29 (F := Ideal) x2 x3 x4 x7 x8 x9 (ix2 r k) = (All x0 x1 x2 x3 x4 x5 x6 x7 x8 x9).out r k := by
  simp only [val_main_v29]
  pointwise []
  simp only [r_mg x0 x1 x2 x3 x4 x5 x6 x7 x8 x9]; rfl

theorem r_ms (r : Fin 8192) : val_main_v36 (F := Ideal) x2 x3 x4 x7 x8 x9 (ix2 r 0) = (All x0 x1 x2 x3 x4 x5 x6 x7 x8 x9).ms r := by
  simp only [val_main_v36, val_main_v35, val_main_v34, val_main_v33, val_main_v32, val_main_v31, val_main_v30, val_main_cst_5, val_main_cst_6, val_main_cst_7]
  pointwise []
  simp only [r_out x0 x1 x2 x3 x4 x5 x6 x7 x8 x9]; rfl

theorem r_rr (r : Fin 8192) : val_main_v37 (F := Ideal) x2 x3 x4 x7 x8 x9 (ix2 r 0) = (All x0 x1 x2 x3 x4 x5 x6 x7 x8 x9).rr r := by
  simp only [val_main_v37]
  pointwise []
  rw [r_ms x0 x1 x2 x3 x4 x5 x6 x7 x8 x9]; rfl

theorem r_on (r : Fin 8192) (k : Fin 1024) : val_main_v42 (F := Ideal) x2 x3 x4 x7 x8 x9 (ix2 r k) = (All x0 x1 x2 x3 x4 x5 x6 x7 x8 x9).on r k := by
  simp only [val_main_v42, val_main_v41]
  pointwise []
  rw [r_out x0 x1 x2 x3 x4 x5 x6 x7 x8 x9, r_rr x0 x1 x2 x3 x4 x5 x6 x7 x8 x9]; rfl

theorem r_nd (r : Fin 8192) (k : Fin 1024) : val_main_v44 (F := Ideal) x2 x3 x4 x6 x7 x8 x9 (ix2 r k) = (All x0 x1 x2 x3 x4 x5 x6 x7 x8 x9).nd r k := by
  simp only [val_main_v44, val_main_v43]
  pointwise []
  rw [r_on x0 x1 x2 x3 x4 x5 x6 x7 x8 x9]; rfl

theorem r_df (r : Fin 8192) (k : Fin 1024) : val_main_v48 (F := Ideal) x0 x1 x2 x3 x4 x5 x6 x7 x8 x9 (ix2 r k) = (All x0 x1 x2 x3 x4 x5 x6 x7 x8 x9).df r k := by
  simp only [val_main_v48, val_main_v47, val_main_v46, val_main_v45, val_main_v5]
  pointwise []
  rw [r_nd x0 x1 x2 x3 x4 x5 x6 x7 x8 x9]; rfl

theorem r_ddx (r : Fin 8192) (k : Fin 1024) : val_main_v62 (F := Ideal) x0 x1 x2 x3 x4 x5 x6 x7 x8 x9 (ix2 r k) = (All x0 x1 x2 x3 x4 x5 x6 x7 x8 x9).ddx r k := by
  simp only [val_main_v62, val_main_v61, val_main_v60, val_main_v59, val_main_v58, val_main_v57, val_main_v56, val_main_v55, val_main_cst_13, val_main_cst_14, val_main_cst_15]
  pointwise []
  rw [r_df x0 x1 x2 x3 x4 x5 x6 x7 x8 x9, Ins.ddx, Ins.half, mul_one]; rfl

theorem r_da (r : Fin 8192) (k : Fin 1024) : val_main_v64 (F := Ideal) x0 x1 x2 x3 x4 x5 x6 x7 x8 x9 (ix2 r k) = (All x0 x1 x2 x3 x4 x5 x6 x7 x8 x9).ga k * (All x0 x1 x2 x3 x4 x5 x6 x7 x8 x9).ddx r k := by
  simp only [val_main_v64, val_main_v63, val_main_v5]
  pointwise []
  rw [r_ddx x0 x1 x2 x3 x4 x5 x6 x7 x8 x9]; rfl

theorem r_ddg (r : Fin 8192) (k : Fin 1024) : val_main_v72 (F := Ideal) x0 x1 x2 x3 x4 x5 x6 x7 x8 x9 (ix2 r k) = (All x0 x1 x2 x3 x4 x5 x6 x7 x8 x9).ddg r k := by
  simp only [val_main_v72, val_main_v71]
  pointwise []
  rw [r_da x0 x1 x2 x3 x4 x5 x6 x7 x8 x9]; rfl

theorem r_slope (r : Fin 8192) (k : Fin 1024) : val_main_v82 (F := Ideal) x0 x1 x2 x3 x4 x5 x6 x7 x8 x9 (ix2 r k) = (All x0 x1 x2 x3 x4 x5 x6 x7 x8 x9).slope r := by
  simp only [val_main_v82, val_main_v81, val_main_v80, val_main_v79, val_main_v78, val_main_v75, val_main_v74, val_main_v73, val_main_v40, val_main_v39, val_main_v38, val_main_cst_8, val_main_cst_18, val_main_cst_19, val_main_cst_20]
  pointwise []
  refine (Fin.sum_univ_one _).trans ?_
  simp only [r_out x0 x1 x2 x3 x4 x5 x6 x7 x8 x9, r_ddg x0 x1 x2 x3 x4 x5 x6 x7 x8 x9, r_rr x0 x1 x2 x3 x4 x5 x6 x7 x8 x9, r_ms x0 x1 x2 x3 x4 x5 x6 x7 x8 x9]; rfl

theorem r_ddo (r : Fin 8192) (k : Fin 1024) : val_main_v86 (F := Ideal) x0 x1 x2 x3 x4 x5 x6 x7 x8 x9 (ix2 r k) = (All x0 x1 x2 x3 x4 x5 x6 x7 x8 x9).ddo r k := by
  simp only [val_main_v86, val_main_v85, val_main_v84, val_main_v83, val_main_v77, val_main_v76]
  pointwise []
  rw [r_ddg x0 x1 x2 x3 x4 x5 x6 x7 x8 x9, r_rr x0 x1 x2 x3 x4 x5 x6 x7 x8 x9, r_out x0 x1 x2 x3 x4 x5 x6 x7 x8 x9, r_slope x0 x1 x2 x3 x4 x5 x6 x7 x8 x9]; rfl

/-! Its results. -/

theorem r_loss (h : (All x0 x1 x2 x3 x4 x5 x6 x7 x8 x9).Finite)  : val_main_v102 (F := Ideal) x0 x1 x2 x3 x4 x5 x6 x7 x8 x9 (ix2 0 0) = Ideal.ofBits .f32 0x3A000000#32 * ∑ k : Fin 1024, ∑ r : Fin 8192, (All x0 x1 x2 x3 x4 x5 x6 x7 x8 x9).df r k * (All x0 x1 x2 x3 x4 x5 x6 x7 x8 x9).df r k := by
  simp only [val_main_v102, val_main_v54, val_main_v53, val_main_v52, val_main_v51, val_main_v50, val_main_v49, val_main_cst_9, val_main_cst_10, val_main_cst_11, val_main_cst_12]
  pointwise []
  simp only [r_df x0 x1 x2 x3 x4 x5 x6 x7 x8 x9]
  exact Ins.loss_eq h

theorem r_dx (h : (All x0 x1 x2 x3 x4 x5 x6 x7 x8 x9).Finite) (r : Fin 8192) (k : Fin 1024) : val_main_v62 (F := Ideal) x0 x1 x2 x3 x4 x5 x6 x7 x8 x9 (ix2 r k) = (All x0 x1 x2 x3 x4 x5 x6 x7 x8 x9).dy r k :=
  (r_ddx x0 x1 x2 x3 x4 x5 x6 x7 x8 x9 r k).trans (Ins.ddx_eq h r k)

theorem r_dout (h : (All x0 x1 x2 x3 x4 x5 x6 x7 x8 x9).Finite) (r : Fin 8192) (k : Fin 1024) : val_main_v86 (F := Ideal) x0 x1 x2 x3 x4 x5 x6 x7 x8 x9 (ix2 r k) = (All x0 x1 x2 x3 x4 x5 x6 x7 x8 x9).dout r k :=
  (r_ddo x0 x1 x2 x3 x4 x5 x6 x7 x8 x9 r k).trans (Ins.ddo_eq h r k)

theorem r_dm (h : (All x0 x1 x2 x3 x4 x5 x6 x7 x8 x9).Finite) (r : Fin 8192) (k : Fin 1024) : val_main_v89 (F := Ideal) x0 x1 x2 x3 x4 x5 x6 x7 x8 x9 (ix2 r k) = (All x0 x1 x2 x3 x4 x5 x6 x7 x8 x9).dm r k := by
  simp only [val_main_v89]
  pointwise []
  simp only [r_dout x0 x1 x2 x3 x4 x5 x6 x7 x8 x9 h]; rfl

theorem r_dps (h : (All x0 x1 x2 x3 x4 x5 x6 x7 x8 x9).Finite) (r : Fin 8192) (k : Fin 1024) : val_main_v90 (F := Ideal) x0 x1 x2 x3 x4 x5 x6 x7 x8 x9 (ix2 r k) = (All x0 x1 x2 x3 x4 x5 x6 x7 x8 x9).dps r k := by
  simp only [val_main_v90]
  pointwise []
  rw [r_ls x0 x1 x2 x3 x4 x5 x6 x7 x8 x9, r_dm x0 x1 x2 x3 x4 x5 x6 x7 x8 x9 h, mul_comm]; rfl

theorem r_dpb (h : (All x0 x1 x2 x3 x4 x5 x6 x7 x8 x9).Finite) (r : Fin 8192) (k : Fin 1024) : val_main_v96 (F := Ideal) x0 x1 x2 x3 x4 x5 x6 x7 x8 x9 (ix2 r k) = (All x0 x1 x2 x3 x4 x5 x6 x7 x8 x9).dpb r k := by
  simp only [val_main_v96]
  pointwise []
  rw [r_lp x0 x1 x2 x3 x4 x5 x6 x7 x8 x9, r_dm x0 x1 x2 x3 x4 x5 x6 x7 x8 x9 h, mul_comm]; rfl

theorem r_dyp (h : (All x0 x1 x2 x3 x4 x5 x6 x7 x8 x9).Finite) (r : Fin 8192) (k : Fin 1024) : val_main_v103 (F := Ideal) x0 x1 x2 x3 x4 x5 x6 x7 x8 x9 (ix2 r k) = (All x0 x1 x2 x3 x4 x5 x6 x7 x8 x9).dyp r k := by
  simp only [val_main_v103, val_main_v100]
  pointwise []
  simp only [r_dpb x0 x1 x2 x3 x4 x5 x6 x7 x8 x9 h]; rfl

theorem r_dys (h : (All x0 x1 x2 x3 x4 x5 x6 x7 x8 x9).Finite) (r : Fin 8192) (k : Fin 1024) : val_main_v104 (F := Ideal) x0 x1 x2 x3 x4 x5 x6 x7 x8 x9 (ix2 r k) = (All x0 x1 x2 x3 x4 x5 x6 x7 x8 x9).dys r k := by
  simp only [val_main_v104, val_main_v94]
  pointwise []
  simp only [r_dps x0 x1 x2 x3 x4 x5 x6 x7 x8 x9 h]; rfl

theorem r_dgp (h : (All x0 x1 x2 x3 x4 x5 x6 x7 x8 x9).Finite) (r : Fin 8192) (k : Fin 1024) : val_main_v101 (F := Ideal) x0 x1 x2 x3 x4 x5 x6 x7 x8 x9 (ix2 r k) = (All x0 x1 x2 x3 x4 x5 x6 x7 x8 x9).dgp r k := by
  simp only [val_main_v101, val_main_v97, val_main_v14, val_main_v13, val_main_v12, val_main_cst_1]
  pointwise []
  rw [r_lp x0 x1 x2 x3 x4 x5 x6 x7 x8 x9, r_pb x0 x1 x2 x3 x4 x5 x6 x7 x8 x9, r_dm x0 x1 x2 x3 x4 x5 x6 x7 x8 x9 h, ← mul_assoc]; rfl

theorem r_dgs (h : (All x0 x1 x2 x3 x4 x5 x6 x7 x8 x9).Finite) (r : Fin 8192) (k : Fin 1024) : val_main_v95 (F := Ideal) x0 x1 x2 x3 x4 x5 x6 x7 x8 x9 (ix2 r k) = (All x0 x1 x2 x3 x4 x5 x6 x7 x8 x9).dgs r k := by
  simp only [val_main_v95, val_main_v91, val_main_v25, val_main_v24, val_main_v23, val_main_cst_4]
  pointwise []
  rw [r_ls x0 x1 x2 x3 x4 x5 x6 x7 x8 x9, r_ps x0 x1 x2 x3 x4 x5 x6 x7 x8 x9, r_dm x0 x1 x2 x3 x4 x5 x6 x7 x8 x9 h, ← mul_assoc]; rfl

theorem r_dg (h : (All x0 x1 x2 x3 x4 x5 x6 x7 x8 x9).Finite) (r : Fin 8192) (k : Fin 2048) : val_main_v106 (F := Ideal) x0 x1 x2 x3 x4 x5 x6 x7 x8 x9 (ix2 r k)
    = if hk : k.val < 1024 then (All x0 x1 x2 x3 x4 x5 x6 x7 x8 x9).dgp r ⟨k.val, hk⟩ else (All x0 x1 x2 x3 x4 x5 x6 x7 x8 x9).dgs r ⟨k.val - 1024, by omega⟩ := by
  simp only [val_main_v106, val_main_v105]
  pointwise []
  exact dite_congr rfl (fun hk => r_dgp x0 x1 x2 x3 x4 x5 x6 x7 x8 x9 h r ⟨k.val, hk⟩) (fun hk => r_dgs x0 x1 x2 x3 x4 x5 x6 x7 x8 x9 h r ⟨k.val - 1024, by omega⟩)

theorem r_dwo (h : (All x0 x1 x2 x3 x4 x5 x6 x7 x8 x9).Finite) (i j : Fin 1024) : val_main_v88 (F := Ideal) x0 x1 x2 x3 x4 x5 x6 x7 x8 x9 (ix2 i j) = ∑ r : Fin 8192, (All x0 x1 x2 x3 x4 x5 x6 x7 x8 x9).mg r i * (All x0 x1 x2 x3 x4 x5 x6 x7 x8 x9).dout r j := by
  simp only [val_main_v88, val_main_v87]
  pointwise []
  simp only [r_mg x0 x1 x2 x3 x4 x5 x6 x7 x8 x9, r_dout x0 x1 x2 x3 x4 x5 x6 x7 x8 x9 h]
  exact Finset.sum_congr rfl fun _ _ => mul_comm _ _

theorem r_dws (h : (All x0 x1 x2 x3 x4 x5 x6 x7 x8 x9).Finite) (i j : Fin 1024) : val_main_v93 (F := Ideal) x0 x1 x2 x3 x4 x5 x6 x7 x8 x9 (ix2 i j) = ∑ r : Fin 8192, (All x0 x1 x2 x3 x4 x5 x6 x7 x8 x9).ys r i * (All x0 x1 x2 x3 x4 x5 x6 x7 x8 x9).dps r j := by
  simp only [val_main_v93, val_main_v92, val_main_v4]
  pointwise []
  simp only [r_dps x0 x1 x2 x3 x4 x5 x6 x7 x8 x9 h]
  exact Finset.sum_congr rfl fun _ _ => mul_comm _ _

theorem r_dwp (h : (All x0 x1 x2 x3 x4 x5 x6 x7 x8 x9).Finite) (i j : Fin 1024) : val_main_v99 (F := Ideal) x0 x1 x2 x3 x4 x5 x6 x7 x8 x9 (ix2 i j) = ∑ r : Fin 8192, (All x0 x1 x2 x3 x4 x5 x6 x7 x8 x9).yp r i * (All x0 x1 x2 x3 x4 x5 x6 x7 x8 x9).dpb r j := by
  simp only [val_main_v99, val_main_v98, val_main_v3]
  pointwise []
  simp only [r_dpb x0 x1 x2 x3 x4 x5 x6 x7 x8 x9 h]
  exact Finset.sum_congr rfl fun _ _ => mul_comm _ _

theorem r_vec0 (h : (All x0 x1 x2 x3 x4 x5 x6 x7 x8 x9).Finite) (k : Fin 1024) : val_main_v107 (F := Ideal) x0 x1 x2 x3 x4 x5 x6 x7 x8 x9 (ix2 0 k) = ∑ r : Fin 8192, (All x0 x1 x2 x3 x4 x5 x6 x7 x8 x9).dy r k * (All x0 x1 x2 x3 x4 x5 x6 x7 x8 x9).nd r k := by
  simp only [val_main_v107, val_main_v67, val_main_v66, val_main_v65, val_main_cst_16]
  pointwise []
  simp only [r_nd x0 x1 x2 x3 x4 x5 x6 x7 x8 x9, r_dx x0 x1 x2 x3 x4 x5 x6 x7 x8 x9 h]

theorem r_vec1 (h : (All x0 x1 x2 x3 x4 x5 x6 x7 x8 x9).Finite) (k : Fin 1024) : val_main_v107 (F := Ideal) x0 x1 x2 x3 x4 x5 x6 x7 x8 x9 (ix2 1 k) = ∑ r : Fin 8192, (All x0 x1 x2 x3 x4 x5 x6 x7 x8 x9).dn r k * (All x0 x1 x2 x3 x4 x5 x6 x7 x8 x9).on r k := by
  simp only [val_main_v107, val_main_v70, val_main_v69, val_main_v68, val_main_cst_17]
  pointwise []
  simp only [r_on x0 x1 x2 x3 x4 x5 x6 x7 x8 x9, r_da x0 x1 x2 x3 x4 x5 x6 x7 x8 x9]
  exact Finset.sum_congr rfl fun r _ => by rw [Ins.ddx_eq h, mul_comm, mul_comm ((All x0 x1 x2 x3 x4 x5 x6 x7 x8 x9).ga k)]; rfl

end Cert.HeadIdeal.Hand
end
-- ==== Proof.HeadSum.lean ====
module

public import proofs.«01_k».proof.Proof.HeadFrame
public import proofs.«01_k».proof.Proof.HeadBlock

@[expose] public section

set_option maxRecDepth 16384

noncomputable section

namespace Cert.HeadIdeal.Hand

open Idealize.ShloMosaic Idealize.ShloMosaic.TcCoe Idealize.SL.Sem
open Cert.HeadIdeal Cert.HeadIdeal.Gen Cert.Hand

variable (m : (ℓ : Loc nD τ sig) → Buf (Elt Ideal) ℓ) (c : Dev nD)

/-- The rows of a block of the grid. -/
def B (t : Fin cfg0.N) : Ins 256 := mkB (iblk m c 0 t) (iblk m c 1 t) (iblk m c 2 t) (iblk m c 3 t) (iblk m c 4 t) (iblk m c 5 t)
  (View.ld (iblk m c 6 t) (Rect.unit ![2, 0] ![1, 1024] inb_S3x1024_S1x1024_2_0)) (iblk m c 7 t) (iblk m c 8 t) (iblk m c 9 t) (iblk m c 10 t)

theorem by_case (t : Fin cfg0.N) (P : Left Ideal c → Prop)
    (hA : ∀ h0 h1 a b d, P (leftA m c t h0 h1 a b d)) (hB : ∀ h0 h1 p, P (leftB m c t h0 h1 p)) (hC : ∀ h0 h1 p, P (leftC m c t h0 h1 p)) :
    P (left m c t.val t.isLt) := by
  by_cases h0 : t.val % 32 = 0
  · rw [left_A m c t h0 (by omega)]; exact hA ..
  · by_cases h1 : t.val % 32 = 31
    · rw [left_C m c t h0 h1]; exact hC ..
    · rw [left_B m c t h0 h1]; exact hB ..

/-! ## What each block writes of its own rows -/

theorem out12 (t : Fin cfg0.N) (r : Fin 256) (k : Fin 1024) : (left m c t.val t.isLt).o12 (ix2 r k) = (B m c t).dy r k := by
  refine by_case m c t (fun L => L.o12 (ix2 r k) = (B m c t).dy r k) ?_ ?_ ?_
  · intros; unfold leftA runA; dsimp only; frame_out; exact pay20_at ..
  · intros; unfold leftB runB; dsimp only; frame_out; exact pay20_at ..
  · intros; unfold leftC runC; dsimp only; frame_out; exact pay20_at ..

theorem out13 (t : Fin cfg0.N) (r : Fin 256) (k : Fin 1024) : (left m c t.val t.isLt).o13 (ix2 r k) = (B m c t).dyp r k := by
  refine by_case m c t (fun L => L.o13 (ix2 r k) = (B m c t).dyp r k) ?_ ?_ ?_
  · intros; unfold leftA runA; dsimp only; frame_out; exact pay32_at ..
  · intros; unfold leftB runB; dsimp only; frame_out; exact pay32_at ..
  · intros; unfold leftC runC; dsimp only; frame_out; exact pay32_at ..

theorem out14 (t : Fin cfg0.N) (r : Fin 256) (k : Fin 1024) : (left m c t.val t.isLt).o14 (ix2 r k) = (B m c t).dys r k := by
  refine by_case m c t (fun L => L.o14 (ix2 r k) = (B m c t).dys r k) ?_ ?_ ?_
  · intros; unfold leftA runA; dsimp only; frame_out; exact pay33_at ..
  · intros; unfold leftB runB; dsimp only; frame_out; exact pay33_at ..
  · intros; unfold leftC runC; dsimp only; frame_out; exact pay33_at ..

/-- The two halves of a block of columns, stored one after the other. -/
theorem halves {inb₁ inb₀} (v : (Rect.unit (s := S256x2048) ![0, 1024] ![256, 1024] inb₁).shape.Idx → EReal)
    (w : (Rect.unit (s := S256x2048) ![0, 0] ![256, 1024] inb₀).shape.Idx → EReal) (r : Fin 256) (k : Fin 2048) :
    View.canon (Val := Elt Ideal) (e := .bf16) [⟨Rect.unit (s := S256x2048) ![0, 1024] ![256, 1024] inb₁, v⟩, ⟨Rect.unit (s := S256x2048) ![0, 0] ![256, 1024] inb₀, w⟩] (ix2 r k)
      = if h : k.val < 1024 then w (ix2 r ⟨k.val, h⟩) else v (ix2 r ⟨k.val - 1024, by omega⟩) := by
  by_cases h : k.val < 1024
  · rw [dif_pos h, canon_miss 1 (Or.inl h)]
    rw [canon_hit (ix2 r ⟨k.val, h⟩) (fun a => by match a with | ⟨0, _⟩ => exact (Nat.zero_add _).symm | ⟨1, _⟩ => exact (Nat.zero_add _).symm)]
  · rw [dif_neg h]
    rw [canon_hit (ix2 r (⟨k.val - 1024, by omega⟩ : Fin 1024)) (fun a => by
      match a with | ⟨0, _⟩ => exact (Nat.zero_add _).symm | ⟨1, _⟩ => exact (show k.val = 1024 + (k.val - 1024) by omega))]

theorem out15 (t : Fin cfg0.N) (r : Fin 256) (k : Fin 2048) : (left m c t.val t.isLt).o15 (ix2 r k)
    = if h : k.val < 1024 then (B m c t).dgp r ⟨k.val, h⟩ else (B m c t).dgs r ⟨k.val - 1024, by omega⟩ := by
  refine by_case m c t (fun L => L.o15 (ix2 r k) = if h : k.val < 1024 then (B m c t).dgp r ⟨k.val, h⟩ else (B m c t).dgs r ⟨k.val - 1024, by omega⟩) ?_ ?_ ?_
  · intros; unfold leftA runA; dsimp only; frame_out; refine (halves ..).trans ?_; exact dite_congr rfl (fun _ => pay29_at ..) (fun _ => pay30_at ..)
  · intros; unfold leftB runB; dsimp only; frame_out; refine (halves ..).trans ?_; exact dite_congr rfl (fun _ => pay29_at ..) (fun _ => pay30_at ..)
  · intros; unfold leftC runC; dsimp only; frame_out; refine (halves ..).trans ?_; exact dite_congr rfl (fun _ => pay29_at ..) (fun _ => pay30_at ..)

/-! ## The running sums -/

theorem last31 : (31 : ℕ) < cfg0.N := by rw [show cfg0.N = 32 from N_0]; decide

/-- A quantity set at the first block and added to at the others is the sum over the blocks. -/
theorem total (q : Left Ideal c → EReal) (f : Fin cfg0.N → EReal)
    (hA : ∀ t h0 h1 a b d, q (leftA m c t h0 h1 a b d) = 0 + f t) (hB : ∀ t h0 h1 p, q (leftB m c t h0 h1 p) = q p + f t)
    (hC : ∀ t h0 h1 p, q (leftC m c t h0 h1 p) = q p + f t) : q (left m c 31 last31) = ∑ p : Fin cfg0.N, f p := by
  refine (Pipeline.eq_sum_fin_of_reset_step_apply_last (fun n h (_ : Unit) => q (left m c n h)) 32 (fun _ => 0) (fun t _ => f t)
    (fun t h _ => ?_) (fun t h _ => ?_) (le_of_eq N_0) ⟨31, last31⟩ N_0.symm ()).trans ?_
  · show q (left m c t.val t.isLt) = 0 + f t
    rw [left_A m c t h (by omega)]; exact hA ..
  · show q (left m c t.val t.isLt) = q (left m c (t.val - 1) _) + f t
    by_cases h1 : t.val % 32 = 31
    · rw [left_C m c t h h1]; exact hC ..
    · rw [left_B m c t h h1]; exact hB ..
  · rw [zero_add]

theorem sum0 (i j : Fin 1024) : (left m c 31 last31).s0 (ix2 i j) = ∑ p : Fin cfg0.N, ∑ r : Fin 256, (B m c p).yp r i * (B m c p).dpb r j := by
  refine total m c (fun L => L.s0 (ix2 i j)) (fun p => ∑ r : Fin 256, (B m c p).yp r i * (B m c p).dpb r j) ?_ ?_ ?_
  · intros; unfold leftA runA; dsimp only; frame_out; refine (pay35_at ..).trans ?_; exact congrArg (· + _) (clear2 _)
  · intros; unfold leftB runB; dsimp only; frame_out; refine (pay35_at ..).trans ?_; rw [whole_read_unread]; rfl
  · intros; unfold leftC runC; dsimp only; frame_out; refine (pay35_at ..).trans ?_; rw [whole_read_unread]; rfl

theorem sum1 (i j : Fin 1024) : (left m c 31 last31).s1 (ix2 i j) = ∑ p : Fin cfg0.N, ∑ r : Fin 256, (B m c p).ys r i * (B m c p).dps r j := by
  refine total m c (fun L => L.s1 (ix2 i j)) (fun p => ∑ r : Fin 256, (B m c p).ys r i * (B m c p).dps r j) ?_ ?_ ?_
  · intros; unfold leftA runA; dsimp only; frame_out; refine (pay36_at ..).trans ?_; exact congrArg (· + _) (clear3 _)
  · intros; unfold leftB runB; dsimp only; frame_out; refine (pay36_at ..).trans ?_; rw [whole_read_unread]; rfl
  · intros; unfold leftC runC; dsimp only; frame_out; refine (pay36_at ..).trans ?_; rw [whole_read_unread]; rfl

theorem sum2 (i j : Fin 1024) : (left m c 31 last31).s2 (ix2 i j) = ∑ p : Fin cfg0.N, ∑ r : Fin 256, (B m c p).mg r i * (B m c p).dout r j := by
  refine total m c (fun L => L.s2 (ix2 i j)) (fun p => ∑ r : Fin 256, (B m c p).mg r i * (B m c p).dout r j) ?_ ?_ ?_
  · intros; unfold leftA runA; dsimp only; frame_out; refine (pay34_at ..).trans ?_; exact congrArg (· + _) (clear4 _)
  · intros; unfold leftB runB; dsimp only; frame_out; refine (pay34_at ..).trans ?_; rw [whole_read_unread]; rfl
  · intros; unfold leftC runC; dsimp only; frame_out; refine (pay34_at ..).trans ?_; rw [whole_read_unread]; rfl

theorem sum3 (k : Fin 1024) : (left m c 31 last31).s3 (ix2 0 k) = ∑ p : Fin cfg0.N, ∑ r : Fin 256, (B m c p).df r k * (B m c p).df r k := by
  refine total m c (fun L => L.s3 (ix2 0 k)) (fun p => ∑ r : Fin 256, (B m c p).df r k * (B m c p).df r k) ?_ ?_ ?_
  · intros; unfold leftA runA; dsimp only; frame_out; refine (pay19_at ..).trans ?_; exact congrArg (· + _) (clear5 _)
  · intros; unfold leftB runB; dsimp only; frame_out; refine (pay19_at ..).trans ?_; rw [whole_read_unread]; rfl
  · intros; unfold leftC runC; dsimp only; frame_out; refine (pay19_at ..).trans ?_; rw [whole_read_unread]; rfl

/-! Two rows in one matrix. -/

section Two
variable {inb₁ inb₀ inb} (w₁ : (Rect.unit (s := S2x1024) ![1, 0] ![1, 1024] inb₁).shape.Idx → Elt Ideal .f32)
  (w₀ : (Rect.unit (s := S2x1024) ![0, 0] ![1, 1024] inb₀).shape.Idx → Elt Ideal .f32)
  (w : (Rect.unit (s := S2x1024) ![0, 0] ![2, 1024] inb).shape.Idx → Elt Ideal .f32) (L : List (View.Piece (Elt Ideal) S2x1024 .f32)) (k : Fin 1024)

theorem two_low : View.canon (⟨Rect.unit (s := S2x1024) ![1, 0] ![1, 1024] inb₁, w₁⟩ :: ⟨Rect.unit (s := S2x1024) ![0, 0] ![1, 1024] inb₀, w₀⟩ :: L) (ix2 0 k)
    = w₀ (ix2 0 k) :=
  (box_miss (o := 1) (0 : Fin 2) k (Or.inl Nat.zero_lt_one)).trans (box_hit (o := 0) (0 : Fin 2) k rfl)

theorem two_high : View.canon (⟨Rect.unit (s := S2x1024) ![1, 0] ![1, 1024] inb₁, w₁⟩ :: L) (ix2 1 k) = w₁ (ix2 0 k) :=
  box_hit (o := 1) (1 : Fin 2) k rfl

theorem two_cleared : View.canon [⟨Rect.unit (s := S2x1024) ![0, 0] ![2, 1024] inb, w⟩] = w :=
  by_rows (a := 2) (b := 1024) fun r j => cleared (n := 2) (N := 1024) r j

theorem read_low {inb'} (hw : ∀ x, w x = 0) : (View.whole cc0_scratch4).readCov [⟨Rect.unit (s := S2x1024) ![0, 0] ![2, 1024] inb, w⟩]
    (Rect.unit (s := S2x1024) ![0, 0] ![1, 1024] inb').toLoadRect (ix2 0 k) = (0 : EReal) := by
  refine (box_read (o := 0) _ _ inb' (0 : Fin 2) k rfl).trans ?_
  rw [two_cleared]; exact hw _

theorem read_high {inb'} (hw : ∀ x, w x = 0) : (View.whole cc0_scratch4).readCov
    [⟨Rect.unit (s := S2x1024) ![0, 0] ![1, 1024] inb₀, w₀⟩, ⟨Rect.unit (s := S2x1024) ![0, 0] ![2, 1024] inb, w⟩]
    (Rect.unit (s := S2x1024) ![1, 0] ![1, 1024] inb').toLoadRect (ix2 0 k) = (0 : EReal) := by
  refine (box_read (o := 1) _ _ inb' (1 : Fin 2) k rfl).trans ?_
  refine (box_miss (o := 0) (1 : Fin 2) k (Or.inr (le_refl _))).trans ?_
  rw [two_cleared]; exact hw _
end Two

theorem sum4_0 (k : Fin 1024) : (left m c 31 last31).s4 (ix2 0 k) = ∑ p : Fin cfg0.N, ∑ r : Fin 256, (B m c p).dy r k * (B m c p).nd r k := by
  refine total m c (fun L => L.s4 (ix2 0 k)) (fun p => ∑ r : Fin 256, (B m c p).dy r k * (B m c p).nd r k) ?_ ?_ ?_
  · intros; unfold leftA runA; dsimp only; frame_out
    rw [two_low]; refine (pay21_at ..).trans ?_; rw [read_low _ _ clear6]; rfl
  · intros; unfold leftB runB; dsimp only; frame_out
    rw [two_low]; refine (pay21_at ..).trans ?_; refine congrArg (· + _) ?_
    refine (ld_row _ _ k (by decide)).trans ?_
    rw [whole_read_unread]; rfl
  · intros; unfold leftC runC; dsimp only; frame_out
    rw [two_low]; refine (pay21_at ..).trans ?_; refine congrArg (· + _) ?_
    refine (ld_row _ _ k (by decide)).trans ?_
    rw [whole_read_unread]; rfl

theorem sum4_1 (k : Fin 1024) : (left m c 31 last31).s4 (ix2 1 k) = ∑ p : Fin cfg0.N, ∑ r : Fin 256, (B m c p).dn r k * (B m c p).on r k := by
  refine total m c (fun L => L.s4 (ix2 1 k)) (fun p => ∑ r : Fin 256, (B m c p).dn r k * (B m c p).on r k) ?_ ?_ ?_
  · intros; unfold leftA runA; dsimp only; frame_out
    rw [two_high]; refine (pay24_at ..).trans ?_; rw [read_high _ _ _ clear6]; rfl
  · intros; unfold leftB runB; dsimp only; frame_out
    rw [two_high]; refine (pay24_at ..).trans ?_; refine congrArg (· + _) ?_
    refine (ld_row _ _ k (by decide)).trans ?_
    rw [whole_read_unread]; rfl
  · intros; unfold leftC runC; dsimp only; frame_out
    rw [two_high]; refine (pay24_at ..).trans ?_; refine congrArg (· + _) ?_
    refine (ld_row _ _ k (by decide)).trans ?_
    rw [whole_read_unread]; rfl

/-! ## What the last block makes of the sums -/

theorem last_loss : (left m c 31 last31).o11 (ix2 0 0) = Ideal.ofBits .f32 0x3A000000#32 * ∑ k : Fin 1024, (left m c 31 last31).s3 (ix2 0 k) := by
  rw [left_C m c ⟨31, last31⟩ (by decide) (by decide)]
  unfold leftC runC; dsimp only; frame_out
  exact pay1_at ..

theorem last_vec : (left m c 31 last31).o16 = (left m c 31 last31).s4 := by
  rw [left_C m c ⟨31, last31⟩ (by decide) (by decide)]
  unfold leftC runC; dsimp only; frame_out
  refine by_rows (a := 2) (b := 1024) fun r k => ?_
  rw [readCov_at]
  exact congrArg _ (funext fun a => Fin.ext (by match a with | ⟨0, _⟩ => rw [Rect.idx_unit_val]; exact Nat.zero_add _ | ⟨1, _⟩ => rw [Rect.idx_unit_val]; exact Nat.zero_add _))

theorem copied0 (f : main_v3_5.ty.Contents (Elt Ideal)) (g : cc0_scratch0.ty.Contents (Elt Ideal)) (w : S1024x1024.Idx → EReal) :
    View.write (Elt Ideal) (View.whole main_v3_5) f (View.read (Elt Ideal) (View.whole cc0_scratch0)
      ((View.whole cc0_scratch0).writes (Elt Ideal) g [⟨Rect.unit ![0, 0] ![1024, 1024] inb_S1024x1024_S1024x1024_0_0, w⟩])) Finset.univ = w :=
  (View.write_whole_univ ..).trans (View.read_writes_full (View.whole cc0_scratch0) g (off := ![0, 0]) inb_S1024x1024_S1024x1024_0_0 w [])

theorem last0 : (left m c 31 last31).w0 = (left m c 31 last31).s0 := by
  rw [left_C m c ⟨31, last31⟩ (by decide) (by decide)]
  unfold leftC runC; dsimp only; frame_out
  rw [ReadAs.apply_same]
  exact copied0 ..

theorem copied1 (f : main_v3_6.ty.Contents (Elt Ideal)) (g : cc0_scratch1.ty.Contents (Elt Ideal)) (w : S1024x1024.Idx → EReal) :
    View.write (Elt Ideal) (View.whole main_v3_6) f (View.read (Elt Ideal) (View.whole cc0_scratch1)
      ((View.whole cc0_scratch1).writes (Elt Ideal) g [⟨Rect.unit ![0, 0] ![1024, 1024] inb_S1024x1024_S1024x1024_0_0, w⟩])) Finset.univ = w :=
  (View.write_whole_univ ..).trans (View.read_writes_full (View.whole cc0_scratch1) g (off := ![0, 0]) inb_S1024x1024_S1024x1024_0_0 w [])

theorem last1 : (left m c 31 last31).w1 = (left m c 31 last31).s1 := by
  rw [left_C m c ⟨31, last31⟩ (by decide) (by decide)]
  unfold leftC runC; dsimp only; frame_out
  rw [ReadAs.apply_same]
  exact copied1 ..

theorem copied2 (f : main_v3_7.ty.Contents (Elt Ideal)) (g : cc0_scratch2.ty.Contents (Elt Ideal)) (w : S1024x1024.Idx → EReal) :
    View.write (Elt Ideal) (View.whole main_v3_7) f (View.read (Elt Ideal) (View.whole cc0_scratch2)
      ((View.whole cc0_scratch2).writes (Elt Ideal) g [⟨Rect.unit ![0, 0] ![1024, 1024] inb_S1024x1024_S1024x1024_0_0, w⟩])) Finset.univ = w :=
  (View.write_whole_univ ..).trans (View.read_writes_full (View.whole cc0_scratch2) g (off := ![0, 0]) inb_S1024x1024_S1024x1024_0_0 w [])

theorem last2 : (left m c 31 last31).w2 = (left m c 31 last31).s2 := by
  rw [left_C m c ⟨31, last31⟩ (by decide) (by decide)]
  unfold leftC runC; dsimp only; frame_out
  rw [ReadAs.apply_same]
  exact copied2 ..

end Cert.HeadIdeal.Hand
end
-- ==== Proof.HeadTie.lean ====
module

public import proofs.«01_k».proof.Proof.HeadRef
public import proofs.«01_k».proof.Proof.HeadSum
public import proofs.«01_k».proof.Proof.Gen.Pre_finite_head

@[expose] public section

set_option maxRecDepth 16384

noncomputable section

namespace Cert.HeadIdeal.Hand

open Idealize.ShloMosaic Idealize.ShloMosaic.TcCoe Idealize.SL.Sem
open Cert.HeadIdeal Cert.HeadIdeal.Gen Cert.Hand
open Cert.HeadRefIdeal.Read

section
variable (x0 x1 : S8192x1024.Idx → EReal) (x2 : S8192x6144.Idx → EReal) (x3 x4 : S8192x1024.Idx → EReal)
  (x5 : S3x1024.Idx → EReal) (x6 : S1x1024.Idx → EReal) (x7 x8 x9 : S1024x1024.Idx → EReal)

/-- The arguments' finiteness, element by element. -/
theorem Ins.Finite.of_pre (h0 : (Cert.Pre_finite_head.fn (F := Ideal) x0 x1 x2 x3 x4 x5 x6 x7 x8 x9).1 = fun _ => 1#1)
    (h1 : (Cert.Pre_finite_head.fn (F := Ideal) x0 x1 x2 x3 x4 x5 x6 x7 x8 x9).2.1 = fun _ => 1#1)
    (h2 : (Cert.Pre_finite_head.fn (F := Ideal) x0 x1 x2 x3 x4 x5 x6 x7 x8 x9).2.2.1 = fun _ => 1#1)
    (h3 : (Cert.Pre_finite_head.fn (F := Ideal) x0 x1 x2 x3 x4 x5 x6 x7 x8 x9).2.2.2.1 = fun _ => 1#1)
    (h4 : (Cert.Pre_finite_head.fn (F := Ideal) x0 x1 x2 x3 x4 x5 x6 x7 x8 x9).2.2.2.2.1 = fun _ => 1#1)
    (h5 : (Cert.Pre_finite_head.fn (F := Ideal) x0 x1 x2 x3 x4 x5 x6 x7 x8 x9).2.2.2.2.2.1 = fun _ => 1#1)
    (h6 : (Cert.Pre_finite_head.fn (F := Ideal) x0 x1 x2 x3 x4 x5 x6 x7 x8 x9).2.2.2.2.2.2.1 = fun _ => 1#1)
    (h7 : (Cert.Pre_finite_head.fn (F := Ideal) x0 x1 x2 x3 x4 x5 x6 x7 x8 x9).2.2.2.2.2.2.2.1 = fun _ => 1#1)
    (h8 : (Cert.Pre_finite_head.fn (F := Ideal) x0 x1 x2 x3 x4 x5 x6 x7 x8 x9).2.2.2.2.2.2.2.2.1 = fun _ => 1#1)
    (h9 : (Cert.Pre_finite_head.fn (F := Ideal) x0 x1 x2 x3 x4 x5 x6 x7 x8 x9).2.2.2.2.2.2.2.2.2 = fun _ => 1#1) : (All x0 x1 x2 x3 x4 x5 x6 x7 x8 x9).Finite := by
  have gate (r : Fin 8192) (k : Fin 2048) : IsReal (x2 (ix2 r ⟨4096 + k.val, by omega⟩)) := by
    refine real_of_cmp ?_
    rw [← congrFun h2 (ix2 r k)]
    simp only [Cert.Pre_finite_head.fn, Cert.Pre_finite_head.fn_part1]
    pointwise []
    rfl
  refine ⟨fun r k => real_of_cmp (congrFun h0 (ix2 r k)), fun r k => real_of_cmp (congrFun h1 (ix2 r k)), fun r k => gate r ⟨k.val, by omega⟩, fun r k => ?_,
    fun r k => real_of_cmp (congrFun h3 (ix2 r k)), fun r k => real_of_cmp (congrFun h4 (ix2 r k)), fun k => real_of_cmp ?_, fun k => real_of_cmp (congrFun h6 (ix2 0 k)),
    fun l k => real_of_cmp (congrFun h7 (ix2 l k)), fun l k => real_of_cmp (congrFun h8 (ix2 l k)), fun l k => real_of_cmp (congrFun h9 (ix2 l k))⟩
  · have g := gate r ⟨1024 + k.val, by omega⟩
    have e : (⟨4096 + (1024 + k.val), by omega⟩ : Fin 6144) = ⟨5120 + k.val, by omega⟩ := Fin.ext (by show 4096 + (1024 + k.val) = 5120 + k.val; omega)
    rw [e] at g
    exact g
  · rw [← congrFun h5 (ix2 0 k)]
    simp only [Cert.Pre_finite_head.fn, Cert.Pre_finite_head.fn_part1]
    pointwise []
    rfl
end

variable (m : (ℓ : Loc nD τ sig) → Buf (Elt Ideal) ℓ) (c : Dev nD)

/-! The arguments. -/

def A0 : S8192x1024.Idx → EReal := m ((c : Thread nD τ).loc main_arg0)
def A1 : S8192x1024.Idx → EReal := m ((c : Thread nD τ).loc main_arg1)
def A2 : S8192x6144.Idx → EReal := m ((c : Thread nD τ).loc main_arg2)
def A3 : S8192x1024.Idx → EReal := m ((c : Thread nD τ).loc main_arg3)
def A4 : S8192x1024.Idx → EReal := m ((c : Thread nD τ).loc main_arg4)
def A5 : S3x1024.Idx → EReal := m ((c : Thread nD τ).loc main_arg5)
def A6 : S1x1024.Idx → EReal := m ((c : Thread nD τ).loc main_arg6)
def A7 : S1024x1024.Idx → EReal := m ((c : Thread nD τ).loc main_arg7)
def A8 : S1024x1024.Idx → EReal := m ((c : Thread nD τ).loc main_arg8)
def A9 : S1024x1024.Idx → EReal := m ((c : Thread nD τ).loc main_arg9)

/-- A block's row in the whole array. -/
def row (t : Fin cfg0.N) (r : Fin 256) : Fin 8192 := ⟨t.val * 256 + r.val, by have := r.isLt; have := lt32 t; omega⟩

theorem sum_rows (f : Fin 8192 → EReal) : ∑ p : Fin cfg0.N, ∑ r : Fin 256, f (row p r) = ∑ n : Fin 8192, f n := by
  refine Fin.sum_mul_add_congr (fun t r hl => ?_) (by rw [show cfg0.N = 32 from N_0])
  exact congrArg f (Fin.ext rfl)

/-! The blocks, read off the arguments. -/

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 4] := (by decide +kernel : ∀ t : Fin grid0.N, _)
theorem index3 : ∀ t : Fin cfg0.N, win0_3.index t = ![t.val, 5] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![0, 0] := (by decide +kernel : ∀ t : Fin grid0.N, _)
theorem index10 : ∀ t : Fin cfg0.N, win0_10.index t = ![0, 0] := (by decide +kernel : ∀ t : Fin grid0.N, _)
theorem index12 : ∀ t : Fin cfg0.N, win0_12.index t = ![t.val, 0] := (by decide +kernel : ∀ t : Fin grid0.N, _)
theorem index13 : ∀ t : Fin cfg0.N, win0_13.index t = ![t.val, 0] := (by decide +kernel : ∀ t : Fin grid0.N, _)
theorem index14 : ∀ t : Fin cfg0.N, win0_14.index t = ![t.val, 0] := (by decide +kernel : ∀ t : Fin grid0.N, _)
theorem index15 : ∀ t : Fin cfg0.N, win0_15.index t = ![t.val, 0] := (by decide +kernel : ∀ t : Fin grid0.N, _)

theorem host7 : V m c main_v0 = A7 m c := by
  entry_read
  rfl
theorem host8 : V m c main_v1 = A8 m c := by
  entry_read
  rfl
theorem host9 : V m c main_v2 = A9 m c := by
  entry_read
  rfl
theorem blk0 (t : Fin cfg0.N) (r : Fin 256) (k : Fin 1024) : iblk m c 0 t (ix2 r k) = A0 m c (ix2 (row t r) k) := by
  unfold row A0; blk_point [iblk, V, index0 t]
theorem blk1 (t : Fin cfg0.N) (r : Fin 256) (k : Fin 1024) : iblk m c 1 t (ix2 r k) = A1 m c (ix2 (row t r) k) := by
  unfold row A1; blk_point [iblk, V, index1 t]
theorem blk4 (t : Fin cfg0.N) (r : Fin 256) (k : Fin 1024) : iblk m c 4 t (ix2 r k) = A3 m c (ix2 (row t r) k) := by
  unfold row A3; blk_point [iblk, V, index4 t]
theorem blk5 (t : Fin cfg0.N) (r : Fin 256) (k : Fin 1024) : iblk m c 5 t (ix2 r k) = A4 m c (ix2 (row t r) k) := by
  unfold row A4; blk_point [iblk, V, index5 t]
theorem blk2_at (t : Fin cfg0.N) (r : Fin 256) (k : Fin 1024) : iblk m c 2 t (ix2 r k) = A2 m c (ix2 (row t r) ⟨4 * 1024 + k.val, by omega⟩) := by
  unfold row A2; blk_point [iblk, V, index2 t]
theorem blk2 (t : Fin cfg0.N) (r : Fin 256) (k : Fin 1024) : iblk m c 2 t (ix2 r k) = A2 m c (ix2 (row t r) ⟨4096 + k.val, by omega⟩) :=
  (blk2_at m c t r k).trans (congrArg (fun z => A2 m c (ix2 (row t r) z)) (Fin.ext (by dsimp only)))
theorem blk3_at (t : Fin cfg0.N) (r : Fin 256) (k : Fin 1024) : iblk m c 3 t (ix2 r k) = A2 m c (ix2 (row t r) ⟨5 * 1024 + k.val, by omega⟩) := by
  unfold row A2; blk_point [iblk, V, index3 t]
theorem blk3 (t : Fin cfg0.N) (r : Fin 256) (k : Fin 1024) : iblk m c 3 t (ix2 r k) = A2 m c (ix2 (row t r) ⟨5120 + k.val, by omega⟩) :=
  (blk3_at m c t r k).trans (congrArg (fun z => A2 m c (ix2 (row t r) z)) (Fin.ext (by dsimp only)))
theorem blk6 (t : Fin cfg0.N) (r : Fin 3) (k : Fin 1024) : iblk m c 6 t (ix2 r k) = A5 m c (ix2 r k) := by
  unfold A5; blk_point [iblk, V, index6 t]
theorem blk7 (t : Fin cfg0.N) (k : Fin 1024) : iblk m c 7 t (ix2 0 k) = A6 m c (ix2 0 k) := by
  unfold A6; blk_point [iblk, V, index7 t]
theorem blk8 (t : Fin cfg0.N) (l k : Fin 1024) : iblk m c 8 t (ix2 l k) = A7 m c (ix2 l k) := by
  rw [← host7]; blk_point [iblk, index8 t]
theorem blk9 (t : Fin cfg0.N) (l k : Fin 1024) : iblk m c 9 t (ix2 l k) = A8 m c (ix2 l k) := by
  rw [← host8]; blk_point [iblk, index9 t]
theorem blk10 (t : Fin cfg0.N) (l k : Fin 1024) : iblk m c 10 t (ix2 l k) = A9 m c (ix2 l k) := by
  rw [← host9]; blk_point [iblk, index10 t]

/-- All rows. -/
def I : Ins 8192 := All (A0 m c) (A1 m c) (A2 m c) (A3 m c) (A4 m c) (A5 m c) (A6 m c) (A7 m c) (A8 m c) (A9 m c)

theorem B_eq (t : Fin cfg0.N) : B m c t = (I m c).rows (row t) := by
  unfold B mkB I All Ins.rows
  refine (Ins.mk.injEq ..).mpr ⟨?_, ?_, ?_, ?_, ?_, ?_, ?_, ?_, ?_, ?_, ?_⟩
  · exact funext fun r => funext fun k => blk0 m c t r k
  · exact funext fun r => funext fun k => blk1 m c t r k
  · exact funext fun r => funext fun k => blk2 m c t r k
  · exact funext fun r => funext fun k => blk3 m c t r k
  · exact funext fun r => funext fun k => blk4 m c t r k
  · exact funext fun r => funext fun k => blk5 m c t r k
  · exact funext fun k => (ld_row _ _ k (by decide)).trans (blk6 m c t 2 k)
  · exact funext fun k => blk7 m c t k
  · exact funext fun l => funext fun k => blk8 m c t l k
  · exact funext fun l => funext fun k => blk9 m c t l k
  · exact funext fun l => funext fun k => blk10 m c t l k

/-! The result arrays. -/

theorem result12 : (dats m 0 c).arrAt 12 cfg0.N = fun i : S8192x1024.Idx => (I m c).dy (i 0) (i 1) := by
  refine (dats m 0 c).arrAt_eq_of_covers 12 _ (by decide +kernel) fun t hf y => ?_
  obtain ⟨r, j, rfl⟩ : ∃ (r : Fin 256) (j : Fin 1024), y = ix2 r j := ⟨_, _, idx2_eq y⟩
  rw [after12]
  have e : (win0_12.blk t).view.emb (ix2 r j) = ix2 (row t r) j := by
    refine funext fun a => Fin.ext ?_
    match a with
    | ⟨0, _⟩ => show win0_12.index t 0 * 256 + 1 * r.val = t.val * 256 + r.val; rw [index12 t, one_mul]; rfl
    | ⟨1, _⟩ => show win0_12.index t 1 * 1024 + 1 * j.val = j.val; rw [index12 t, one_mul]; exact Nat.zero_add _
  blk_simp
  rw [e]
  refine (out12 m c t r j).trans ?_
  rw [B_eq]; rfl

theorem result13 : (dats m 0 c).arrAt 13 cfg0.N = fun i : S8192x1024.Idx => (I m c).dyp (i 0) (i 1) := by
  refine (dats m 0 c).arrAt_eq_of_covers 13 _ (by decide +kernel) fun t hf y => ?_
  obtain ⟨r, j, rfl⟩ : ∃ (r : Fin 256) (j : Fin 1024), y = ix2 r j := ⟨_, _, idx2_eq y⟩
  rw [after13]
  have e : (win0_13.blk t).view.emb (ix2 r j) = ix2 (row t r) j := by
    refine funext fun a => Fin.ext ?_
    match a with
    | ⟨0, _⟩ => show win0_13.index t 0 * 256 + 1 * r.val = t.val * 256 + r.val; rw [index13 t, one_mul]; rfl
    | ⟨1, _⟩ => show win0_13.index t 1 * 1024 + 1 * j.val = j.val; rw [index13 t, one_mul]; exact Nat.zero_add _
  blk_simp
  rw [e]
  refine (out13 m c t r j).trans ?_
  rw [B_eq]; rfl

theorem result14 : (dats m 0 c).arrAt 14 cfg0.N = fun i : S8192x1024.Idx => (I m c).dys (i 0) (i 1) := by
  refine (dats m 0 c).arrAt_eq_of_covers 14 _ (by decide +kernel) fun t hf y => ?_
  obtain ⟨r, j, rfl⟩ : ∃ (r : Fin 256) (j : Fin 1024), y = ix2 r j := ⟨_, _, idx2_eq y⟩
  rw [after14]
  have e : (win0_14.blk t).view.emb (ix2 r j) = ix2 (row t r) j := by
    refine funext fun a => Fin.ext ?_
    match a with
    | ⟨0, _⟩ => show win0_14.index t 0 * 256 + 1 * r.val = t.val * 256 + r.val; rw [index14 t, one_mul]; rfl
    | ⟨1, _⟩ => show win0_14.index t 1 * 1024 + 1 * j.val = j.val; rw [index14 t, one_mul]; exact Nat.zero_add _
  blk_simp
  rw [e]
  refine (out14 m c t r j).trans ?_
  rw [B_eq]; rfl

/-- The gates' gradients, side by side. -/
def gates (r : Fin 8192) (k : Fin 2048) : EReal :=
  if hk : k.val < 1024 then (I m c).dgp r ⟨k.val, hk⟩ else (I m c).dgs r ⟨k.val - 1024, by omega⟩

theorem result15 : (dats m 0 c).arrAt 15 cfg0.N = fun i : S8192x2048.Idx => gates m c (i 0) (i 1) := by
  refine (dats m 0 c).arrAt_eq_of_covers 15 _ (by decide +kernel) fun t hf y => ?_
  obtain ⟨r, j, rfl⟩ : ∃ (r : Fin 256) (j : Fin 2048), y = ix2 r j := ⟨_, _, idx2_eq y⟩
  rw [after15]
  have e : (win0_15.blk t).view.emb (ix2 r j) = ix2 (row t r) j := by
    refine funext fun a => Fin.ext ?_
    match a with
    | ⟨0, _⟩ => show win0_15.index t 0 * 256 + 1 * r.val = t.val * 256 + r.val; rw [index15 t, one_mul]; rfl
    | ⟨1, _⟩ => show win0_15.index t 1 * 2048 + 1 * j.val = j.val; rw [index15 t, one_mul]; exact Nat.zero_add _
  blk_simp
  rw [e]
  refine (out15 m c t r j).trans ?_
  rw [B_eq]; rfl

theorem result11 (w : S1x1.Idx → EReal) (h : (left m c 31 last31).o11 = w) : (dats m 0 c).arrAt 11 cfg0.N = w := by
  have e : (dats m 0 c).after 11 ⟨31, last31⟩ = w := (after11 m c ⟨31, last31⟩).trans h
  clear h
  refine (dats m 0 c).arrAt_eq_of_after_last 11 ⟨31, last31⟩ (by decide +kernel) _ fun i => ?_
  rw [e]
  exact congrArg w (funext fun a => Fin.ext rfl)

theorem result16 (w : S2x1024.Idx → EReal) (h : (left m c 31 last31).o16 = w) : (dats m 0 c).arrAt 16 cfg0.N = w := by
  have e : (dats m 0 c).after 16 ⟨31, last31⟩ = w := (after16 m c ⟨31, last31⟩).trans h
  clear h
  refine (dats m 0 c).arrAt_eq_of_after_last 16 ⟨31, last31⟩ (by decide +kernel) _ fun i => ?_
  rw [e]
  exact congrArg w (funext fun a => Fin.ext rfl)

theorem left_last (n : ℕ) (hn : n < cfg0.N) (e : n = 31) : left m c n hn = left m c 31 last31 := by
  subst e; rfl

theorem final_eq : final m c = left m c 31 last31 :=
  left_last m c _ _ (by have e : cfg0.N = 32 := N_0; rw [Fin.val_last, e])

theorem total0 (i j : Fin 1024) : (left m c 31 last31).s0 (ix2 i j) = ∑ n : Fin 8192, (I m c).yp n i * (I m c).dpb n j := by
  refine (sum0 m c i j).trans ?_
  simp only [B_eq]
  exact sum_rows (fun n => (I m c).yp n i * (I m c).dpb n j)

theorem total1 (i j : Fin 1024) : (left m c 31 last31).s1 (ix2 i j) = ∑ n : Fin 8192, (I m c).ys n i * (I m c).dps n j := by
  refine (sum1 m c i j).trans ?_
  simp only [B_eq]
  exact sum_rows (fun n => (I m c).ys n i * (I m c).dps n j)

theorem total2 (i j : Fin 1024) : (left m c 31 last31).s2 (ix2 i j) = ∑ n : Fin 8192, (I m c).mg n i * (I m c).dout n j := by
  refine (sum2 m c i j).trans ?_
  simp only [B_eq]
  exact sum_rows (fun n => (I m c).mg n i * (I m c).dout n j)

theorem total3 (k : Fin 1024) : (left m c 31 last31).s3 (ix2 0 k) = ∑ n : Fin 8192, (I m c).df n k * (I m c).df n k := by
  refine (sum3 m c k).trans ?_
  simp only [B_eq]
  exact sum_rows (fun n => (I m c).df n k * (I m c).df n k)

theorem total4_0 (k : Fin 1024) : (left m c 31 last31).s4 (ix2 0 k) = ∑ n : Fin 8192, (I m c).dy n k * (I m c).nd n k := by
  refine (sum4_0 m c k).trans ?_
  simp only [B_eq]
  exact sum_rows (fun n => (I m c).dy n k * (I m c).nd n k)

theorem total4_1 (k : Fin 1024) : (left m c 31 last31).s4 (ix2 1 k) = ∑ n : Fin 8192, (I m c).dn n k * (I m c).on n k := by
  refine (sum4_1 m c k).trans ?_
  simp only [B_eq]
  exact sum_rows (fun n => (I m c).dn n k * (I m c).on n k)

/-! The results are the reference's. -/

/-- The arguments are finite. -/
def Finite : Prop := (I m c).Finite

variable {m c} (h : Finite m c)
include h

theorem tie11 : (dats m 0 c).arrAt 11 cfg0.N = val_main_v102 (F := Ideal) (A0 m c) (A1 m c) (A2 m c) (A3 m c) (A4 m c) (A5 m c) (A6 m c) (A7 m c) (A8 m c) (A9 m c) := by
  refine result11 m c _ (by_rows (a := 1) (b := 1) fun r k => ?_)
  obtain rfl := Subsingleton.elim r 0
  obtain rfl := Subsingleton.elim k 0
  rw [last_loss]
  simp only [total3]
  exact (r_loss (A0 m c) (A1 m c) (A2 m c) (A3 m c) (A4 m c) (A5 m c) (A6 m c) (A7 m c) (A8 m c) (A9 m c) h).symm

theorem tie12 : (dats m 0 c).arrAt 12 cfg0.N = val_main_v62 (F := Ideal) (A0 m c) (A1 m c) (A2 m c) (A3 m c) (A4 m c) (A5 m c) (A6 m c) (A7 m c) (A8 m c) (A9 m c) := by
  rw [result12]
  exact by_rows (a := 8192) (b := 1024) fun r k => (r_dx (A0 m c) (A1 m c) (A2 m c) (A3 m c) (A4 m c) (A5 m c) (A6 m c) (A7 m c) (A8 m c) (A9 m c) h r k).symm

theorem tie13 : (dats m 0 c).arrAt 13 cfg0.N = val_main_v103 (F := Ideal) (A0 m c) (A1 m c) (A2 m c) (A3 m c) (A4 m c) (A5 m c) (A6 m c) (A7 m c) (A8 m c) (A9 m c) := by
  rw [result13]
  exact by_rows (a := 8192) (b := 1024) fun r k => (r_dyp (A0 m c) (A1 m c) (A2 m c) (A3 m c) (A4 m c) (A5 m c) (A6 m c) (A7 m c) (A8 m c) (A9 m c) h r k).symm

theorem tie14 : (dats m 0 c).arrAt 14 cfg0.N = val_main_v104 (F := Ideal) (A0 m c) (A1 m c) (A2 m c) (A3 m c) (A4 m c) (A5 m c) (A6 m c) (A7 m c) (A8 m c) (A9 m c) := by
  rw [result14]
  exact by_rows (a := 8192) (b := 1024) fun r k => (r_dys (A0 m c) (A1 m c) (A2 m c) (A3 m c) (A4 m c) (A5 m c) (A6 m c) (A7 m c) (A8 m c) (A9 m c) h r k).symm

theorem tie15 : (dats m 0 c).arrAt 15 cfg0.N = val_main_v106 (F := Ideal) (A0 m c) (A1 m c) (A2 m c) (A3 m c) (A4 m c) (A5 m c) (A6 m c) (A7 m c) (A8 m c) (A9 m c) := by
  rw [result15]
  exact by_rows (a := 8192) (b := 2048) fun r k => (r_dg (A0 m c) (A1 m c) (A2 m c) (A3 m c) (A4 m c) (A5 m c) (A6 m c) (A7 m c) (A8 m c) (A9 m c) h r k).symm

theorem tie0 : (final m c).w0 = val_main_v99 (F := Ideal) (A0 m c) (A1 m c) (A2 m c) (A3 m c) (A4 m c) (A5 m c) (A6 m c) (A7 m c) (A8 m c) (A9 m c) := by
  rw [final_eq, last0]
  exact by_rows (a := 1024) (b := 1024) fun i j => (total0 m c i j).trans (r_dwp (A0 m c) (A1 m c) (A2 m c) (A3 m c) (A4 m c) (A5 m c) (A6 m c) (A7 m c) (A8 m c) (A9 m c) h i j).symm

theorem tie1 : (final m c).w1 = val_main_v93 (F := Ideal) (A0 m c) (A1 m c) (A2 m c) (A3 m c) (A4 m c) (A5 m c) (A6 m c) (A7 m c) (A8 m c) (A9 m c) := by
  rw [final_eq, last1]
  exact by_rows (a := 1024) (b := 1024) fun i j => (total1 m c i j).trans (r_dws (A0 m c) (A1 m c) (A2 m c) (A3 m c) (A4 m c) (A5 m c) (A6 m c) (A7 m c) (A8 m c) (A9 m c) h i j).symm

theorem tie2 : (final m c).w2 = val_main_v88 (F := Ideal) (A0 m c) (A1 m c) (A2 m c) (A3 m c) (A4 m c) (A5 m c) (A6 m c) (A7 m c) (A8 m c) (A9 m c) := by
  rw [final_eq, last2]
  exact by_rows (a := 1024) (b := 1024) fun i j => (total2 m c i j).trans (r_dwo (A0 m c) (A1 m c) (A2 m c) (A3 m c) (A4 m c) (A5 m c) (A6 m c) (A7 m c) (A8 m c) (A9 m c) h i j).symm

theorem tie16 : (dats m 0 c).arrAt 16 cfg0.N = val_main_v107 (F := Ideal) (A0 m c) (A1 m c) (A2 m c) (A3 m c) (A4 m c) (A5 m c) (A6 m c) (A7 m c) (A8 m c) (A9 m c) := by
  refine result16 m c _ ((last_vec m c).trans (by_rows (a := 2) (b := 1024) fun r k => ?_))
  match r with
  | ⟨0, _⟩ => exact (total4_0 m c k).trans (r_vec0 (A0 m c) (A1 m c) (A2 m c) (A3 m c) (A4 m c) (A5 m c) (A6 m c) (A7 m c) (A8 m c) (A9 m c) h k).symm
  | ⟨1, _⟩ => exact (total4_1 m c k).trans (r_vec1 (A0 m c) (A1 m c) (A2 m c) (A3 m c) (A4 m c) (A5 m c) (A6 m c) (A7 m c) (A8 m c) (A9 m c) h k).symm

omit h

/-- The run leaves what the reference computes, and the arguments as they were. -/
theorem run_value (ρ : Dev nD → PrngReg) (hf : ∀ c, Finite m c) : θ_run defs (onTc (τ := τ) (main (F := Ideal))) ⟨m, fun _ => 0, ρ⟩ fun r => ∀ c : Dev nD,
      r.2.mem ((c.tc : Thread nD τ).loc main_v3_0) = val_main_v102 (F := Ideal) (A0 m c) (A1 m c) (A2 m c) (A3 m c) (A4 m c) (A5 m c) (A6 m c) (A7 m c) (A8 m c) (A9 m c)
      ∧ r.2.mem ((c.tc : Thread nD τ).loc main_v3_1) = val_main_v62 (F := Ideal) (A0 m c) (A1 m c) (A2 m c) (A3 m c) (A4 m c) (A5 m c) (A6 m c) (A7 m c) (A8 m c) (A9 m c)
      ∧ r.2.mem ((c.tc : Thread nD τ).loc main_v3_2) = val_main_v103 (F := Ideal) (A0 m c) (A1 m c) (A2 m c) (A3 m c) (A4 m c) (A5 m c) (A6 m c) (A7 m c) (A8 m c) (A9 m c)
      ∧ r.2.mem ((c.tc : Thread nD τ).loc main_v3_3) = val_main_v104 (F := Ideal) (A0 m c) (A1 m c) (A2 m c) (A3 m c) (A4 m c) (A5 m c) (A6 m c) (A7 m c) (A8 m c) (A9 m c)
      ∧ r.2.mem ((c.tc : Thread nD τ).loc main_v3_4) = val_main_v106 (F := Ideal) (A0 m c) (A1 m c) (A2 m c) (A3 m c) (A4 m c) (A5 m c) (A6 m c) (A7 m c) (A8 m c) (A9 m c)
      ∧ r.2.mem ((c.tc : Thread nD τ).loc main_v3_5) = val_main_v99 (F := Ideal) (A0 m c) (A1 m c) (A2 m c) (A3 m c) (A4 m c) (A5 m c) (A6 m c) (A7 m c) (A8 m c) (A9 m c)
      ∧ r.2.mem ((c.tc : Thread nD τ).loc main_v3_6) = val_main_v93 (F := Ideal) (A0 m c) (A1 m c) (A2 m c) (A3 m c) (A4 m c) (A5 m c) (A6 m c) (A7 m c) (A8 m c) (A9 m c)
      ∧ r.2.mem ((c.tc : Thread nD τ).loc main_v3_7) = val_main_v88 (F := Ideal) (A0 m c) (A1 m c) (A2 m c) (A3 m c) (A4 m c) (A5 m c) (A6 m c) (A7 m c) (A8 m c) (A9 m c)
      ∧ r.2.mem ((c.tc : Thread nD τ).loc main_v3_8) = val_main_v107 (F := Ideal) (A0 m c) (A1 m c) (A2 m c) (A3 m c) (A4 m c) (A5 m c) (A6 m c) (A7 m c) (A8 m c) (A9 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨((h.toR c).1 11).trans (tie11 (hf c)),
    ((h.toR c).1 12).trans (tie12 (hf c)),
    ((h.toR c).1 13).trans (tie13 (hf c)),
    ((h.toR c).1 14).trans (tie14 (hf c)),
    ((h.toR c).1 15).trans (tie15 (hf c)),
    ((h.written c (by decide : main_v3_5 ∈ R0)).trans (results0 m c)).trans (tie0 (hf c)),
    ((h.written c (by decide : main_v3_6 ∈ R0)).trans (results1 m c)).trans (tie1 (hf c)),
    ((h.written c (by decide : main_v3_7 ∈ R0)).trans (results2 m c)).trans (tie2 (hf c)),
    ((h.toR c).1 16).trans (tie16 (hf c)),
    ((h.toR c).1 0).trans (((dats m 0 c).arrAt_in 0 rfl _).trans ((A_eq m c 0).trans (V_main_arg0 m c))),
    ((h.toR c).1 1).trans (((dats m 0 c).arrAt_in 1 rfl _).trans ((A_eq m c 1).trans (V_main_arg1 m c))),
    ((h.toR c).1 3).trans (((dats m 0 c).arrAt_in 3 rfl _).trans ((A_eq m c 3).trans (V_main_arg2 m c))),
    ((h.toR c).1 4).trans (((dats m 0 c).arrAt_in 4 rfl _).trans ((A_eq m c 4).trans (V_main_arg3 m c))),
    ((h.toR c).1 5).trans (((dats m 0 c).arrAt_in 5 rfl _).trans ((A_eq m c 5).trans (V_main_arg4 m c))),
    ((h.toR c).1 6).trans (((dats m 0 c).arrAt_in 6 rfl _).trans ((A_eq m c 6).trans (V_main_arg5 m c))),
    ((h.toR c).1 7).trans (((dats m 0 c).arrAt_in 7 rfl _).trans ((A_eq m c 7).trans (V_main_arg6 m c))),
    ((h.toR c).2 main_arg7 (Finset.mem_sdiff.mpr ⟨Pipeline.mem_restRefs_of main_arg7 (by decide) (by decide), by decide⟩)).trans (V_main_arg7 m c),
    ((h.toR c).2 main_arg8 (Finset.mem_sdiff.mpr ⟨Pipeline.mem_restRefs_of main_arg8 (by decide) (by decide), by decide⟩)).trans (V_main_arg8 m c),
    ((h.toR c).2 main_arg9 (Finset.mem_sdiff.mpr ⟨Pipeline.mem_restRefs_of main_arg9 (by decide) (by decide), by decide⟩)).trans (V_main_arg9 m c)⟩) (run m ρ)

/-! The reference of equal arguments. -/

theorem agree102 {y0 : (⟨S8192x1024, .f32⟩ : BufTy).Contents (Elt Ideal)} {y1 : (⟨S8192x1024, .f32⟩ : BufTy).Contents (Elt Ideal)} {y2 : (⟨S8192x6144, .bf16⟩ : BufTy).Contents (Elt Ideal)} {y3 : (⟨S8192x1024, .bf16⟩ : BufTy).Contents (Elt Ideal)} {y4 : (⟨S8192x1024, .bf16⟩ : BufTy).Contents (Elt Ideal)} {y5 : (⟨S3x1024, .f32⟩ : BufTy).Contents (Elt Ideal)} {y6 : (⟨S1x1024, .f32⟩ : BufTy).Contents (Elt Ideal)} {y7 : (⟨S1024x1024, .f32⟩ : BufTy).Contents (Elt Ideal)} {y8 : (⟨S1024x1024, .f32⟩ : BufTy).Contents (Elt Ideal)} {y9 : (⟨S1024x1024, .f32⟩ : BufTy).Contents (Elt Ideal)}
    (e0 : y0 = A0 m c) (e1 : y1 = A1 m c) (e2 : y2 = A2 m c) (e3 : y3 = A3 m c) (e4 : y4 = A4 m c) (e5 : y5 = A5 m c) (e6 : y6 = A6 m c) (e7 : y7 = A7 m c) (e8 : y8 = A8 m c) (e9 : y9 = A9 m c) :
    val_main_v102 (F := Ideal) y0 y1 y2 y3 y4 y5 y6 y7 y8 y9 = val_main_v102 (F := Ideal) (A0 m c) (A1 m c) (A2 m c) (A3 m c) (A4 m c) (A5 m c) (A6 m c) (A7 m c) (A8 m c) (A9 m c) := by
  subst e0 e1 e2 e3 e4 e5 e6 e7 e8 e9; rfl

theorem agree62 {y0 : (⟨S8192x1024, .f32⟩ : BufTy).Contents (Elt Ideal)} {y1 : (⟨S8192x1024, .f32⟩ : BufTy).Contents (Elt Ideal)} {y2 : (⟨S8192x6144, .bf16⟩ : BufTy).Contents (Elt Ideal)} {y3 : (⟨S8192x1024, .bf16⟩ : BufTy).Contents (Elt Ideal)} {y4 : (⟨S8192x1024, .bf16⟩ : BufTy).Contents (Elt Ideal)} {y5 : (⟨S3x1024, .f32⟩ : BufTy).Contents (Elt Ideal)} {y6 : (⟨S1x1024, .f32⟩ : BufTy).Contents (Elt Ideal)} {y7 : (⟨S1024x1024, .f32⟩ : BufTy).Contents (Elt Ideal)} {y8 : (⟨S1024x1024, .f32⟩ : BufTy).Contents (Elt Ideal)} {y9 : (⟨S1024x1024, .f32⟩ : BufTy).Contents (Elt Ideal)}
    (e0 : y0 = A0 m c) (e1 : y1 = A1 m c) (e2 : y2 = A2 m c) (e3 : y3 = A3 m c) (e4 : y4 = A4 m c) (e5 : y5 = A5 m c) (e6 : y6 = A6 m c) (e7 : y7 = A7 m c) (e8 : y8 = A8 m c) (e9 : y9 = A9 m c) :
    val_main_v62 (F := Ideal) y0 y1 y2 y3 y4 y5 y6 y7 y8 y9 = val_main_v62 (F := Ideal) (A0 m c) (A1 m c) (A2 m c) (A3 m c) (A4 m c) (A5 m c) (A6 m c) (A7 m c) (A8 m c) (A9 m c) := by
  subst e0 e1 e2 e3 e4 e5 e6 e7 e8 e9; rfl

theorem agree103 {y0 : (⟨S8192x1024, .f32⟩ : BufTy).Contents (Elt Ideal)} {y1 : (⟨S8192x1024, .f32⟩ : BufTy).Contents (Elt Ideal)} {y2 : (⟨S8192x6144, .bf16⟩ : BufTy).Contents (Elt Ideal)} {y3 : (⟨S8192x1024, .bf16⟩ : BufTy).Contents (Elt Ideal)} {y4 : (⟨S8192x1024, .bf16⟩ : BufTy).Contents (Elt Ideal)} {y5 : (⟨S3x1024, .f32⟩ : BufTy).Contents (Elt Ideal)} {y6 : (⟨S1x1024, .f32⟩ : BufTy).Contents (Elt Ideal)} {y7 : (⟨S1024x1024, .f32⟩ : BufTy).Contents (Elt Ideal)} {y8 : (⟨S1024x1024, .f32⟩ : BufTy).Contents (Elt Ideal)} {y9 : (⟨S1024x1024, .f32⟩ : BufTy).Contents (Elt Ideal)}
    (e0 : y0 = A0 m c) (e1 : y1 = A1 m c) (e2 : y2 = A2 m c) (e3 : y3 = A3 m c) (e4 : y4 = A4 m c) (e5 : y5 = A5 m c) (e6 : y6 = A6 m c) (e7 : y7 = A7 m c) (e8 : y8 = A8 m c) (e9 : y9 = A9 m c) :
    val_main_v103 (F := Ideal) y0 y1 y2 y3 y4 y5 y6 y7 y8 y9 = val_main_v103 (F := Ideal) (A0 m c) (A1 m c) (A2 m c) (A3 m c) (A4 m c) (A5 m c) (A6 m c) (A7 m c) (A8 m c) (A9 m c) := by
  subst e0 e1 e2 e3 e4 e5 e6 e7 e8 e9; rfl

theorem agree104 {y0 : (⟨S8192x1024, .f32⟩ : BufTy).Contents (Elt Ideal)} {y1 : (⟨S8192x1024, .f32⟩ : BufTy).Contents (Elt Ideal)} {y2 : (⟨S8192x6144, .bf16⟩ : BufTy).Contents (Elt Ideal)} {y3 : (⟨S8192x1024, .bf16⟩ : BufTy).Contents (Elt Ideal)} {y4 : (⟨S8192x1024, .bf16⟩ : BufTy).Contents (Elt Ideal)} {y5 : (⟨S3x1024, .f32⟩ : BufTy).Contents (Elt Ideal)} {y6 : (⟨S1x1024, .f32⟩ : BufTy).Contents (Elt Ideal)} {y7 : (⟨S1024x1024, .f32⟩ : BufTy).Contents (Elt Ideal)} {y8 : (⟨S1024x1024, .f32⟩ : BufTy).Contents (Elt Ideal)} {y9 : (⟨S1024x1024, .f32⟩ : BufTy).Contents (Elt Ideal)}
    (e0 : y0 = A0 m c) (e1 : y1 = A1 m c) (e2 : y2 = A2 m c) (e3 : y3 = A3 m c) (e4 : y4 = A4 m c) (e5 : y5 = A5 m c) (e6 : y6 = A6 m c) (e7 : y7 = A7 m c) (e8 : y8 = A8 m c) (e9 : y9 = A9 m c) :
    val_main_v104 (F := Ideal) y0 y1 y2 y3 y4 y5 y6 y7 y8 y9 = val_main_v104 (F := Ideal) (A0 m c) (A1 m c) (A2 m c) (A3 m c) (A4 m c) (A5 m c) (A6 m c) (A7 m c) (A8 m c) (A9 m c) := by
  subst e0 e1 e2 e3 e4 e5 e6 e7 e8 e9; rfl

theorem agree106 {y0 : (⟨S8192x1024, .f32⟩ : BufTy).Contents (Elt Ideal)} {y1 : (⟨S8192x1024, .f32⟩ : BufTy).Contents (Elt Ideal)} {y2 : (⟨S8192x6144, .bf16⟩ : BufTy).Contents (Elt Ideal)} {y3 : (⟨S8192x1024, .bf16⟩ : BufTy).Contents (Elt Ideal)} {y4 : (⟨S8192x1024, .bf16⟩ : BufTy).Contents (Elt Ideal)} {y5 : (⟨S3x1024, .f32⟩ : BufTy).Contents (Elt Ideal)} {y6 : (⟨S1x1024, .f32⟩ : BufTy).Contents (Elt Ideal)} {y7 : (⟨S1024x1024, .f32⟩ : BufTy).Contents (Elt Ideal)} {y8 : (⟨S1024x1024, .f32⟩ : BufTy).Contents (Elt Ideal)} {y9 : (⟨S1024x1024, .f32⟩ : BufTy).Contents (Elt Ideal)}
    (e0 : y0 = A0 m c) (e1 : y1 = A1 m c) (e2 : y2 = A2 m c) (e3 : y3 = A3 m c) (e4 : y4 = A4 m c) (e5 : y5 = A5 m c) (e6 : y6 = A6 m c) (e7 : y7 = A7 m c) (e8 : y8 = A8 m c) (e9 : y9 = A9 m c) :
    val_main_v106 (F := Ideal) y0 y1 y2 y3 y4 y5 y6 y7 y8 y9 = val_main_v106 (F := Ideal) (A0 m c) (A1 m c) (A2 m c) (A3 m c) (A4 m c) (A5 m c) (A6 m c) (A7 m c) (A8 m c) (A9 m c) := by
  subst e0 e1 e2 e3 e4 e5 e6 e7 e8 e9; rfl

theorem agree99 {y0 : (⟨S8192x1024, .f32⟩ : BufTy).Contents (Elt Ideal)} {y1 : (⟨S8192x1024, .f32⟩ : BufTy).Contents (Elt Ideal)} {y2 : (⟨S8192x6144, .bf16⟩ : BufTy).Contents (Elt Ideal)} {y3 : (⟨S8192x1024, .bf16⟩ : BufTy).Contents (Elt Ideal)} {y4 : (⟨S8192x1024, .bf16⟩ : BufTy).Contents (Elt Ideal)} {y5 : (⟨S3x1024, .f32⟩ : BufTy).Contents (Elt Ideal)} {y6 : (⟨S1x1024, .f32⟩ : BufTy).Contents (Elt Ideal)} {y7 : (⟨S1024x1024, .f32⟩ : BufTy).Contents (Elt Ideal)} {y8 : (⟨S1024x1024, .f32⟩ : BufTy).Contents (Elt Ideal)} {y9 : (⟨S1024x1024, .f32⟩ : BufTy).Contents (Elt Ideal)}
    (e0 : y0 = A0 m c) (e1 : y1 = A1 m c) (e2 : y2 = A2 m c) (e3 : y3 = A3 m c) (e4 : y4 = A4 m c) (e5 : y5 = A5 m c) (e6 : y6 = A6 m c) (e7 : y7 = A7 m c) (e8 : y8 = A8 m c) (e9 : y9 = A9 m c) :
    val_main_v99 (F := Ideal) y0 y1 y2 y3 y4 y5 y6 y7 y8 y9 = val_main_v99 (F := Ideal) (A0 m c) (A1 m c) (A2 m c) (A3 m c) (A4 m c) (A5 m c) (A6 m c) (A7 m c) (A8 m c) (A9 m c) := by
  subst e0 e1 e2 e3 e4 e5 e6 e7 e8 e9; rfl

theorem agree93 {y0 : (⟨S8192x1024, .f32⟩ : BufTy).Contents (Elt Ideal)} {y1 : (⟨S8192x1024, .f32⟩ : BufTy).Contents (Elt Ideal)} {y2 : (⟨S8192x6144, .bf16⟩ : BufTy).Contents (Elt Ideal)} {y3 : (⟨S8192x1024, .bf16⟩ : BufTy).Contents (Elt Ideal)} {y4 : (⟨S8192x1024, .bf16⟩ : BufTy).Contents (Elt Ideal)} {y5 : (⟨S3x1024, .f32⟩ : BufTy).Contents (Elt Ideal)} {y6 : (⟨S1x1024, .f32⟩ : BufTy).Contents (Elt Ideal)} {y7 : (⟨S1024x1024, .f32⟩ : BufTy).Contents (Elt Ideal)} {y8 : (⟨S1024x1024, .f32⟩ : BufTy).Contents (Elt Ideal)} {y9 : (⟨S1024x1024, .f32⟩ : BufTy).Contents (Elt Ideal)}
    (e0 : y0 = A0 m c) (e1 : y1 = A1 m c) (e2 : y2 = A2 m c) (e3 : y3 = A3 m c) (e4 : y4 = A4 m c) (e5 : y5 = A5 m c) (e6 : y6 = A6 m c) (e7 : y7 = A7 m c) (e8 : y8 = A8 m c) (e9 : y9 = A9 m c) :
    val_main_v93 (F := Ideal) y0 y1 y2 y3 y4 y5 y6 y7 y8 y9 = val_main_v93 (F := Ideal) (A0 m c) (A1 m c) (A2 m c) (A3 m c) (A4 m c) (A5 m c) (A6 m c) (A7 m c) (A8 m c) (A9 m c) := by
  subst e0 e1 e2 e3 e4 e5 e6 e7 e8 e9; rfl

theorem agree88 {y0 : (⟨S8192x1024, .f32⟩ : BufTy).Contents (Elt Ideal)} {y1 : (⟨S8192x1024, .f32⟩ : BufTy).Contents (Elt Ideal)} {y2 : (⟨S8192x6144, .bf16⟩ : BufTy).Contents (Elt Ideal)} {y3 : (⟨S8192x1024, .bf16⟩ : BufTy).Contents (Elt Ideal)} {y4 : (⟨S8192x1024, .bf16⟩ : BufTy).Contents (Elt Ideal)} {y5 : (⟨S3x1024, .f32⟩ : BufTy).Contents (Elt Ideal)} {y6 : (⟨S1x1024, .f32⟩ : BufTy).Contents (Elt Ideal)} {y7 : (⟨S1024x1024, .f32⟩ : BufTy).Contents (Elt Ideal)} {y8 : (⟨S1024x1024, .f32⟩ : BufTy).Contents (Elt Ideal)} {y9 : (⟨S1024x1024, .f32⟩ : BufTy).Contents (Elt Ideal)}
    (e0 : y0 = A0 m c) (e1 : y1 = A1 m c) (e2 : y2 = A2 m c) (e3 : y3 = A3 m c) (e4 : y4 = A4 m c) (e5 : y5 = A5 m c) (e6 : y6 = A6 m c) (e7 : y7 = A7 m c) (e8 : y8 = A8 m c) (e9 : y9 = A9 m c) :
    val_main_v88 (F := Ideal) y0 y1 y2 y3 y4 y5 y6 y7 y8 y9 = val_main_v88 (F := Ideal) (A0 m c) (A1 m c) (A2 m c) (A3 m c) (A4 m c) (A5 m c) (A6 m c) (A7 m c) (A8 m c) (A9 m c) := by
  subst e0 e1 e2 e3 e4 e5 e6 e7 e8 e9; rfl

theorem agree107 {y0 : (⟨S8192x1024, .f32⟩ : BufTy).Contents (Elt Ideal)} {y1 : (⟨S8192x1024, .f32⟩ : BufTy).Contents (Elt Ideal)} {y2 : (⟨S8192x6144, .bf16⟩ : BufTy).Contents (Elt Ideal)} {y3 : (⟨S8192x1024, .bf16⟩ : BufTy).Contents (Elt Ideal)} {y4 : (⟨S8192x1024, .bf16⟩ : BufTy).Contents (Elt Ideal)} {y5 : (⟨S3x1024, .f32⟩ : BufTy).Contents (Elt Ideal)} {y6 : (⟨S1x1024, .f32⟩ : BufTy).Contents (Elt Ideal)} {y7 : (⟨S1024x1024, .f32⟩ : BufTy).Contents (Elt Ideal)} {y8 : (⟨S1024x1024, .f32⟩ : BufTy).Contents (Elt Ideal)} {y9 : (⟨S1024x1024, .f32⟩ : BufTy).Contents (Elt Ideal)}
    (e0 : y0 = A0 m c) (e1 : y1 = A1 m c) (e2 : y2 = A2 m c) (e3 : y3 = A3 m c) (e4 : y4 = A4 m c) (e5 : y5 = A5 m c) (e6 : y6 = A6 m c) (e7 : y7 = A7 m c) (e8 : y8 = A8 m c) (e9 : y9 = A9 m c) :
    val_main_v107 (F := Ideal) y0 y1 y2 y3 y4 y5 y6 y7 y8 y9 = val_main_v107 (F := Ideal) (A0 m c) (A1 m c) (A2 m c) (A3 m c) (A4 m c) (A5 m c) (A6 m c) (A7 m c) (A8 m c) (A9 m c) := by
  subst e0 e1 e2 e3 e4 e5 e6 e7 e8 e9; rfl

end Cert.HeadIdeal.Hand
end
-- ==== Proof.PrepBlock.lean ====
module

public import proofs.«01_k».proof.Defs
public import proofs.«01_k».proof.Proof.Common
public import proofs.«01_k».proof.Proof.Gen.PrepIdeal.Skeleton
public import proofs.«01_k».proof.Proof.Gen.PrepRefIdeal.Read

@[expose] public section

set_option maxRecDepth 16384

noncomputable section

namespace Cert.PrepIdeal.Hand

open Idealize.ShloMosaic Idealize.ShloMosaic.TcCoe Idealize.SL.Sem
open Cert.PrepIdeal Cert.PrepIdeal.Gen Cert.Hand
open Cert.PrepRefIdeal.Read

/-! The call works on the input matrices with their last two axes exchanged, and on the time steps as a column. Each value
of its body is the reference's stage of the same meaning, exchanged in the same way. -/

abbrev V2 := S64x64.Idx → EReal
abbrev V3 := S64x64x16.Idx → EReal

/-- The last two axes exchanged. -/
def turn (w : V3) : S64x16x64.Idx → EReal := fun i => w (ix3 (i 0) (i 2) (i 1))
/-- The same where the last axis has length one. -/
def turn1 (w : Cert.PrepRefIdeal.S64x64x1.Idx → EReal) : S64x1x64.Idx → EReal := fun i => w (ix3 (i 0) (i 2) (i 1))
/-- A vector as a column. -/
def col (w : S64.Idx → EReal) : S64x1.Idx → EReal := fun i => w (ix1 (i 0))

theorem idx1_eq {n : ℕ} (i : (⟨1, ![n]⟩ : Shape).Idx) : i = ix1 (i 0) :=
  funext fun a => by match a with | ⟨0, _⟩ => rfl
theorem idx3_eq {a b c : ℕ} (i : (⟨3, ![a, b, c]⟩ : Shape).Idx) : i = ix3 (i 0) (i 1) (i 2) :=
  funext fun a => by match a with | ⟨0, _⟩ => rfl | ⟨1, _⟩ => rfl | ⟨2, _⟩ => rfl
theorem by_cells {T : Type} {a b c : ℕ} {f g : (⟨3, ![a, b, c]⟩ : Shape).Idx → T}
    (h : ∀ (i : Fin a) (j : Fin b) (k : Fin c), f (ix3 i j k) = g (ix3 i j k)) : f = g :=
  funext fun i => by rw [idx3_eq i]; exact h _ _ _

theorem zero_bits : Ideal.ofBits .f32 0x00000000#32 = 0 := by simp [Ideal.ofBits, Ideal.ieee]

theorem neg_eq {s : Shape} (v : s.Idx → EReal) :
    subf (F := Ideal) (φ := .f32) (broadcast s (Scalar.ofBits .f32 0x00000000#32)) v = Host.negf (F := Ideal) (φ := .f32) v :=
  funext fun i => by
    show Ideal.ofBits .f32 0x00000000#32 - v i = -(v i)
    rw [zero_bits, zero_sub]

theorem same3 (v : S64x16x64.Idx → EReal) : shapeCast S64x16x64 v shapeCasts_S64x16x64_S64x16x64 = v :=
  by_cells fun i j k => by pointwise []
theorem same1 (v : S64x1.Idx → EReal) : shapeCast S64x1 v shapeCasts_S64x1_S64x1 = v :=
  by_rows fun i j => by pointwise []

section
variable (w : V3) (u : Cert.PrepRefIdeal.S64x64x1.Idx → EReal) (v : V2) (q : S64x1.Idx → EReal)

theorem turn_neg : subf (F := Ideal) (φ := .f32) (broadcast S64x16x64 (Scalar.ofBits .f32 0x00000000#32)) (turn w)
    = turn (Host.negf (F := Ideal) (φ := .f32) w) := neg_eq _

theorem spread (a : S64x1.Idx → EReal) : broadcastTo S64x64 a broadcasts_S64x1_S64x64
    = broadcastInDim S64x64 ![0, 1] Cert.PrepRefIdeal.Facts₀.bcast_S64x1_S64x64_0_1 a :=
  by_rows fun i j => by pointwise []

theorem turn_spread : broadcastTo S64x16x64 (shapeCast S64x1x64 v shapeCasts_S64x64_S64x1x64) broadcasts_S64x1x64_S64x16x64
    = turn (broadcastInDim Cert.PrepRefIdeal.S64x64x16 ![0, 1, 2] Cert.PrepRefIdeal.Facts₀.bcast_S64x64x1_S64x64x16_0_1_2
        (broadcastInDim Cert.PrepRefIdeal.S64x64x1 ![0, 1] Cert.PrepRefIdeal.Facts₀.bcast_S64x64_S64x64x1_0_1 v)) :=
  by_cells fun i j k => by
    unfold turn
    pointwise []

theorem turn_sum : multiReduction (F := Ideal) (φ := .f32) .add [1] S64x64 (turn w) 0x00000000#32 reduces_S64x16x64_S64x64 (.inl rfl) rfl
    = Host.reduceAdd (F := Ideal) (φ := .f32) w (constant Cert.PrepRefIdeal.S_ .f32 0x00000000#32) Cert.PrepRefIdeal.Facts₀.reducesTo_S64x64x16_S64x64_d2 Cert.PrepRefIdeal.Facts₀.h_S_ :=
  by_rows fun i j => by
    unfold turn
    pointwise []

theorem turn1_sum : multiReduction (F := Ideal) (φ := .f32) .add [1] S64x64 (turn1 u) 0x00000000#32 reduces_S64x1x64_S64x64 (.inl rfl) rfl
    = Host.reduceAdd (F := Ideal) (φ := .f32) u (constant Cert.PrepRefIdeal.S_ .f32 0x00000000#32) Cert.PrepRefIdeal.Facts₀.reducesTo_S64x64x1_S64x64_d2 Cert.PrepRefIdeal.Facts₀.h_S_ :=
  by_rows fun i j => by
    unfold turn1
    pointwise []

theorem turn1_cast : shapeCast S64x1x64 v shapeCasts_S64x64_S64x1x64 = turn1 (shapeCast Cert.PrepRefIdeal.S64x64x1 v Cert.PrepRefIdeal.Facts₀.shapeCasts_S64x64_S64x64x1) :=
  by_cells fun i j k => by
    unfold turn1
    pointwise []

theorem row_sum : multiReduction (F := Ideal) (φ := .f32) .add [1] S64 v 0x00000000#32 reduces_S64x64_S64 (.inl rfl) rfl
    = Host.reduceAdd (F := Ideal) (φ := .f32) v (constant Cert.PrepRefIdeal.S_ .f32 0x00000000#32) Cert.PrepRefIdeal.Facts₀.reducesTo_S64x64_S64_d1 Cert.PrepRefIdeal.Facts₀.h_S_ :=
  funext fun i => by
    rw [idx1_eq i]
    pointwise []

theorem turn_back : turn w = transpose S64x16x64 [0, 2, 1] w Cert.PrepRefIdeal.Facts₀.transposes_S64x64x16_S64x16x64_0_2_1 :=
  by_cells fun i j k => by
    unfold turn
    pointwise []

theorem same (h) : shapeCast S64x64x16 w h = w := by_cells fun i j k => by pointwise []
end

section
variable (x0 x1 : V2) (x2 : S64.Idx → EReal) (x3 x4 : V3) (x5 x6 : V2) (x7 x8 : V3)

theorem t8 : k0_pay8 (F := Ideal) (col x2) = val_main_v1 (F := Ideal) x2 := by
  refine by_rows fun i j => ?_
  unfold k0_pay8; rw [same1]; unfold val_main_v1 val_main_v0 col
  pointwise []
theorem t9 : k0_pay9 (F := Ideal) x0 = val_main_v3 (F := Ideal) x0 := rfl
theorem t10 : k0_pay10 (F := Ideal) x0 = val_main_v12 (F := Ideal) x0 := rfl
theorem t11 : k0_pay11 (F := Ideal) x0 (col x2) = val_main_v15 (F := Ideal) x0 x2 := by
  unfold k0_pay11; rw [t8, t9, spread]; rfl
theorem t12 : k0_pay12 (F := Ideal) x1 (col x2) = val_main_v17 (F := Ideal) x1 x2 := by
  unfold k0_pay12; rw [t8, spread]; rfl
theorem t13 : k0_pay13 (F := Ideal) x1 (col x2) = val_main_v18 (F := Ideal) x1 x2 := by
  unfold k0_pay13; rw [t12]; rfl
theorem t14 : k0_pay14 (F := Ideal) x1 (col x2) = val_main_v19 (F := Ideal) x1 x2 := by
  unfold k0_pay14; rw [t12]; rfl
theorem t15 : k0_pay15 (F := Ideal) x1 (col x2) = val_main_v22 (F := Ideal) x1 x2 := by
  unfold k0_pay15; rw [t8, spread]; rfl
theorem t16 : k0_pay16 (F := Ideal) x1 (col x2) = val_main_v23 (F := Ideal) x1 x2 := by
  unfold k0_pay16; rw [t15]; rfl
theorem t17 : k0_pay17 (F := Ideal) x1 (col x2) = val_main_v24 (F := Ideal) x1 x2 := by
  unfold k0_pay17; rw [t15]; rfl
theorem t18 : k0_pay18 (F := Ideal) x0 x1 (col x2) = val_main_v25 (F := Ideal) x0 x1 x2 := by
  unfold k0_pay18; rw [t11, t16]; rfl
theorem t19 : k0_pay19 (F := Ideal) x0 x1 = val_main_v28 (F := Ideal) x0 x1 := by
  unfold k0_pay19; rw [t9]; rfl
theorem t20 : k0_pay20 (F := Ideal) x0 x1 (col x2) = val_main_v30 (F := Ideal) x0 x1 x2 := by
  unfold k0_pay20; rw [t11, t13]; rfl
theorem t21 : k0_pay21 (F := Ideal) x0 x1 (col x2) = val_main_v33 (F := Ideal) x0 x1 x2 := by
  unfold k0_pay21; rw [t20, t9, t18]; rfl
theorem t22 : k0_pay22 (F := Ideal) (val_main_v28 (F := Ideal) x0 x1) = val_main_v37 (F := Ideal) x0 x1 := rfl
theorem t24 : k0_pay24 (F := Ideal) (val_main_v28 (F := Ideal) x0 x1) = val_main_v44 (F := Ideal) x0 x1 := rfl
theorem t23 : k0_pay23 (F := Ideal) x1 (val_main_v3 (F := Ideal) x0) (val_main_v25 (F := Ideal) x0 x1 x2) (val_main_v30 (F := Ideal) x0 x1 x2)
    = val_main_v40 (F := Ideal) x0 x1 x2 := rfl
theorem t25 : broadcastTo S64x16x64 (k0_pay25 (F := Ideal) (val_main_v28 (F := Ideal) x0 x1) (val_main_v33 (F := Ideal) x0 x1 x2)) broadcasts_S64x1x64_S64x16x64
    = turn (val_main_v64 (F := Ideal) x0 x1 x2) := by
  unfold k0_pay25; rw [turn_spread]; rfl
theorem t26 : broadcastTo S64x16x64 (k0_pay26 (F := Ideal) x1 (val_main_v3 (F := Ideal) x0) (val_main_v25 (F := Ideal) x0 x1 x2) (val_main_v28 (F := Ideal) x0 x1) (val_main_v30 (F := Ideal) x0 x1 x2)) broadcasts_S64x1x64_S64x16x64
    = turn (val_main_v59 (F := Ideal) x0 x1 x2) := by
  unfold k0_pay26; rw [t23, turn_spread]; rfl
theorem s57 : val_main_v57 (F := Ideal) x8 = x8 := same _ _
theorem s58 : val_main_v58 (F := Ideal) x8 = x8 := same _ _
theorem s69 : val_main_v69 (F := Ideal) x7 = x7 := same _ _
theorem t27 : k0_pay27 (F := Ideal) (turn x7) = turn (val_main_v69 (F := Ideal) x7) := by
  unfold k0_pay27; rw [same3, s69]
theorem t28 : k0_pay28 (F := Ideal) (turn x8) = turn x8 := by
  unfold k0_pay28; rw [same3]
theorem t29 : k0_pay29 (F := Ideal) (turn x4) (turn x8) = turn1 (val_main_v68 (F := Ideal) x4 x8) := by
  unfold k0_pay29; dsimp only; rw [t28, show mulf (F := Ideal) (φ := .f32) (turn x8) (turn x4) = turn (val_main_v66 (F := Ideal) x4 x8) from by unfold val_main_v66; rw [s57]; rfl, turn_sum, turn1_cast]; rfl
theorem t30 : k0_pay30 (F := Ideal) (turn x7) = turn (val_main_v70 (F := Ideal) x7) := by
  unfold k0_pay30; dsimp only; rw [t27, s69, turn_neg]; rfl
theorem t31 : k0_pay31 (F := Ideal) x1 (val_main_v3 (F := Ideal) x0) (val_main_v25 (F := Ideal) x0 x1 x2) (val_main_v28 (F := Ideal) x0 x1) (val_main_v30 (F := Ideal) x0 x1 x2) (val_main_v33 (F := Ideal) x0 x1 x2) (turn x7) (turn x8)
    = turn (val_main_v73 (F := Ideal) x0 x1 x2 x7 x8) := by
  unfold k0_pay31; dsimp only; rw [t25, t26, t28, t30]; unfold val_main_v73 val_main_v65; rw [s57]; rfl
theorem t32 : k0_pay32 (F := Ideal) (turn x3) (turn x4) (turn x7) (turn x8) = turn1 (val_main_v77 (F := Ideal) x3 x4 x7 x8) := by
  unfold k0_pay32; dsimp only
  rw [t28, t30, show mulf (F := Ideal) (φ := .f32) (turn x8) (turn x3) = turn (val_main_v61 (F := Ideal) x3 x8) from by unfold val_main_v61; rw [s58]; rfl,
    show mulf (F := Ideal) (φ := .f32) (turn (val_main_v70 (F := Ideal) x7)) (turn x4) = turn (val_main_v74 (F := Ideal) x4 x7) from rfl, turn_sum, turn_sum, turn1_cast, turn1_cast]
  rfl
theorem t33 : k0_pay33 (F := Ideal) x1 (val_main_v3 (F := Ideal) x0) (val_main_v25 (F := Ideal) x0 x1 x2) (val_main_v28 (F := Ideal) x0 x1) (val_main_v30 (F := Ideal) x0 x1 x2) (val_main_v33 (F := Ideal) x0 x1 x2) (turn x7) (turn x8)
    = turn (val_main_v80 (F := Ideal) x0 x1 x2 x7 x8) := by
  unfold k0_pay33; dsimp only; rw [t25, t26, t28, t27]; unfold val_main_v80 val_main_v60; rw [s58]; rfl
theorem t34 : k0_pay34 (F := Ideal) (turn x3) (turn x7) = val_main_v82 (F := Ideal) x3 x7 := by
  unfold k0_pay34; dsimp only; rw [t27, show mulf (F := Ideal) (φ := .f32) (turn (val_main_v69 (F := Ideal) x7)) (turn x3) = turn (val_main_v81 (F := Ideal) x3 x7) from rfl, turn_sum]; rfl
theorem t35 : k0_pay35 (F := Ideal) (turn1 (val_main_v77 (F := Ideal) x3 x4 x7 x8)) = val_main_v85 (F := Ideal) x3 x4 x7 x8 := turn1_sum _
theorem t36 : k0_pay36 (F := Ideal) (turn1 (val_main_v68 (F := Ideal) x4 x8)) (val_main_v82 (F := Ideal) x3 x7) = val_main_v86 (F := Ideal) x3 x4 x7 x8 := by
  unfold k0_pay36; dsimp only; rw [turn1_cast]; exact turn1_sum (val_main_v84 (F := Ideal) x3 x4 x7 x8)
theorem t37 : k0_pay37 (F := Ideal) (val_main_v28 (F := Ideal) x0 x1) (turn1 (val_main_v77 (F := Ideal) x3 x4 x7 x8)) = val_main_v90 (F := Ideal) x0 x1 x3 x4 x7 x8 := by
  unfold k0_pay37; dsimp only; rw [t35]; rfl
theorem t38 : k0_pay38 (F := Ideal) (val_main_v28 (F := Ideal) x0 x1) (turn1 (val_main_v77 (F := Ideal) x3 x4 x7 x8)) = val_main_v91 (F := Ideal) x0 x1 x3 x4 x7 x8 := by
  unfold k0_pay38; dsimp only; rw [t37, neg_eq]; rfl
theorem t39 : k0_pay39 (F := Ideal) (val_main_v33 (F := Ideal) x0 x1 x2) (val_main_v37 (F := Ideal) x0 x1) (val_main_v40 (F := Ideal) x0 x1 x2) (val_main_v44 (F := Ideal) x0 x1)
    (turn1 (val_main_v68 (F := Ideal) x4 x8)) (turn1 (val_main_v77 (F := Ideal) x3 x4 x7 x8)) (val_main_v82 (F := Ideal) x3 x7) = val_main_v101 (F := Ideal) x0 x1 x2 x3 x4 x7 x8 := by
  unfold k0_pay39; dsimp only; rw [t35, t36, neg_eq, neg_eq]; rfl
theorem t40 : k0_pay40 (F := Ideal) (val_main_v28 (F := Ideal) x0 x1) (turn1 (val_main_v68 (F := Ideal) x4 x8)) (val_main_v82 (F := Ideal) x3 x7) = val_main_v102 (F := Ideal) x0 x1 x3 x4 x7 x8 := by
  unfold k0_pay40; rw [t36]; rfl
theorem t41 : k0_pay41 (F := Ideal) x1 (val_main_v3 (F := Ideal) x0) (val_main_v28 (F := Ideal) x0 x1) x6 (turn1 (val_main_v68 (F := Ideal) x4 x8)) (turn1 (val_main_v77 (F := Ideal) x3 x4 x7 x8)) (val_main_v82 (F := Ideal) x3 x7)
    = val_main_v106 (F := Ideal) x0 x1 x3 x4 x6 x7 x8 := by
  unfold k0_pay41; rw [t37, t40]; rfl
theorem t42 : k0_pay42 (F := Ideal) x1 (val_main_v3 (F := Ideal) x0) (val_main_v28 (F := Ideal) x0 x1) x5 (turn1 (val_main_v68 (F := Ideal) x4 x8)) (turn1 (val_main_v77 (F := Ideal) x3 x4 x7 x8)) (val_main_v82 (F := Ideal) x3 x7)
    = val_main_v110 (F := Ideal) x0 x1 x3 x4 x5 x7 x8 := by
  unfold k0_pay42; rw [t38, t40]; rfl
theorem t43 : k0_pay43 (F := Ideal) (val_main_v3 (F := Ideal) x0) (val_main_v25 (F := Ideal) x0 x1 x2) (val_main_v28 (F := Ideal) x0 x1) (val_main_v30 (F := Ideal) x0 x1 x2)
    (val_main_v33 (F := Ideal) x0 x1 x2) (val_main_v37 (F := Ideal) x0 x1) (val_main_v40 (F := Ideal) x0 x1 x2) (val_main_v44 (F := Ideal) x0 x1)
    (turn1 (val_main_v68 (F := Ideal) x4 x8)) (turn1 (val_main_v77 (F := Ideal) x3 x4 x7 x8)) (val_main_v82 (F := Ideal) x3 x7) = val_main_v118 (F := Ideal) x0 x1 x2 x3 x4 x7 x8 := by
  unfold k0_pay43; rw [t37, t39, t40]; rfl
theorem t44 : k0_pay44 (F := Ideal) x1 (val_main_v3 (F := Ideal) x0) (val_main_v15 (F := Ideal) x0 x2) (val_main_v24 (F := Ideal) x1 x2) (val_main_v28 (F := Ideal) x0 x1) x6
    (turn1 (val_main_v68 (F := Ideal) x4 x8)) (turn1 (val_main_v77 (F := Ideal) x3 x4 x7 x8)) (val_main_v82 (F := Ideal) x3 x7) = val_main_v121 (F := Ideal) x0 x1 x2 x3 x4 x6 x7 x8 := by
  unfold k0_pay44; dsimp only; rw [t41]; rfl
theorem t45 : k0_pay45 (F := Ideal) x1 (val_main_v3 (F := Ideal) x0) (val_main_v15 (F := Ideal) x0 x2) (val_main_v24 (F := Ideal) x1 x2) (val_main_v28 (F := Ideal) x0 x1) x6
    (turn1 (val_main_v68 (F := Ideal) x4 x8)) (turn1 (val_main_v77 (F := Ideal) x3 x4 x7 x8)) (val_main_v82 (F := Ideal) x3 x7) = val_main_v124 (F := Ideal) x0 x1 x2 x3 x4 x6 x7 x8 := by
  unfold k0_pay45; dsimp only; rw [t44, row_sum]; rfl
theorem t46 : k0_pay46 (F := Ideal) x1 (val_main_v1 (F := Ideal) x2) (val_main_v3 (F := Ideal) x0) (val_main_v15 (F := Ideal) x0 x2) (val_main_v24 (F := Ideal) x1 x2)
    (val_main_v25 (F := Ideal) x0 x1 x2) (val_main_v28 (F := Ideal) x0 x1) (val_main_v30 (F := Ideal) x0 x1 x2)
    (val_main_v33 (F := Ideal) x0 x1 x2) (val_main_v37 (F := Ideal) x0 x1) (val_main_v40 (F := Ideal) x0 x1 x2) (val_main_v44 (F := Ideal) x0 x1) x6
    (turn1 (val_main_v68 (F := Ideal) x4 x8)) (turn1 (val_main_v77 (F := Ideal) x3 x4 x7 x8)) (val_main_v82 (F := Ideal) x3 x7) = val_main_v127 (F := Ideal) x0 x1 x2 x3 x4 x6 x7 x8 := by
  unfold k0_pay46; dsimp only; rw [t38, t39, t40, t44, spread]; rfl
theorem t47 : k0_pay47 (F := Ideal) x1 (val_main_v3 (F := Ideal) x0) (val_main_v18 (F := Ideal) x1 x2) (val_main_v23 (F := Ideal) x1 x2) (val_main_v28 (F := Ideal) x0 x1) x5 x6
    (turn1 (val_main_v68 (F := Ideal) x4 x8)) (turn1 (val_main_v77 (F := Ideal) x3 x4 x7 x8)) (val_main_v82 (F := Ideal) x3 x7) = val_main_v130 (F := Ideal) x0 x1 x2 x3 x4 x5 x6 x7 x8 := by
  unfold k0_pay47; dsimp only; rw [t41, t42]; rfl
theorem t48 : k0_pay48 (F := Ideal) x1 (val_main_v3 (F := Ideal) x0) (val_main_v15 (F := Ideal) x0 x2) (val_main_v28 (F := Ideal) x0 x1) x5
    (turn1 (val_main_v68 (F := Ideal) x4 x8)) (turn1 (val_main_v77 (F := Ideal) x3 x4 x7 x8)) (val_main_v82 (F := Ideal) x3 x7) = val_main_v131 (F := Ideal) x0 x1 x2 x3 x4 x5 x7 x8 := by
  unfold k0_pay48; dsimp only; rw [t42, neg_eq]; rfl

/-! The five results. -/

theorem out_ar : k0_pay4 (F := Ideal) (val_main_v1 (F := Ideal) x2) (val_main_v12 (F := Ideal) x0) (val_main_v15 (F := Ideal) x0 x2) (val_main_v118 (F := Ideal) x0 x1 x2 x3 x4 x7 x8)
    (val_main_v130 (F := Ideal) x0 x1 x2 x3 x4 x5 x6 x7 x8) = val_main_v148 (F := Ideal) x0 x1 x2 x3 x4 x5 x6 x7 x8 := by
  unfold k0_pay4; rw [spread]; rfl
theorem out_ai : k0_pay2 (F := Ideal) (val_main_v1 (F := Ideal) x2) (val_main_v19 (F := Ideal) x1 x2) (val_main_v127 (F := Ideal) x0 x1 x2 x3 x4 x6 x7 x8)
    (val_main_v131 (F := Ideal) x0 x1 x2 x3 x4 x5 x7 x8) = val_main_v139 (F := Ideal) x0 x1 x2 x3 x4 x5 x6 x7 x8 := by
  unfold k0_pay2; rw [spread]; rfl
/-- The gradient of the time step's exponent: the column's sums times the step, as a column. -/
theorem last (a : S64x1.Idx → EReal) : mulf (F := Ideal) (φ := .f32) a (val_main_v1 (F := Ideal) x2)
    = shapeCast S64x1 (mulf (F := Ideal) (φ := .f32) (Host.reduceAdd (F := Ideal) (φ := .f32) a (constant Cert.PrepRefIdeal.S_ .f32 0x00000000#32) Cert.PrepRefIdeal.Facts₀.reducesTo_S64x1_S64_d1 Cert.PrepRefIdeal.Facts₀.h_S_)
        (val_main_v0 (F := Ideal) x2)) Cert.PrepRefIdeal.Facts₀.shapeCasts_S64_S64x1 :=
  by_rows fun i j => by
    unfold val_main_v1
    obtain rfl := Subsingleton.elim j 0
    pointwise []
    exact congrArg (· * _) (Fin.sum_univ_one (fun k : Fin 1 => a (ix2 i k))).symm
theorem out_ld : k0_pay5 (F := Ideal) x1 (val_main_v1 (F := Ideal) x2) (val_main_v3 (F := Ideal) x0) (val_main_v15 (F := Ideal) x0 x2) (val_main_v19 (F := Ideal) x1 x2)
    (val_main_v124 (F := Ideal) x0 x1 x2 x3 x4 x6 x7 x8) (val_main_v130 (F := Ideal) x0 x1 x2 x3 x4 x5 x6 x7 x8) (val_main_v131 (F := Ideal) x0 x1 x2 x3 x4 x5 x7 x8)
    = val_main_v151 (F := Ideal) x0 x1 x2 x3 x4 x5 x6 x7 x8 := by
  unfold k0_pay5; dsimp only; rw [row_sum, row_sum]; exact last x2 (val_main_v144 (F := Ideal) x0 x1 x2 x3 x4 x5 x6 x7 x8)
theorem out_br : turn (val_main_v80 (F := Ideal) x0 x1 x2 x7 x8) = val_main_v152 (F := Ideal) x0 x1 x2 x7 x8 := turn_back _
theorem out_bi : turn (val_main_v73 (F := Ideal) x0 x1 x2 x7 x8) = val_main_v153 (F := Ideal) x0 x1 x2 x7 x8 := turn_back _
end

end Cert.PrepIdeal.Hand

end
-- ==== Proof.PrepTie.lean ====
module

public import proofs.«01_k».proof.Proof.PrepBlock
public import proofs.«01_k».proof.Proof.Gen.PrepIdeal.Frame

@[expose] public section

set_option maxRecDepth 16384

noncomputable section

namespace Cert.PrepIdeal.Hand

open Idealize.ShloMosaic Idealize.ShloMosaic.TcCoe Idealize.SL.Sem
open Cert.PrepIdeal Cert.PrepIdeal.Gen Cert.Hand
open Cert.PrepRefIdeal.Read

/-! A load of a whole buffer, and a buffer stored whole. -/

theorem unit2 {off : Fin 2 → ℕ} {a b : ℕ} (h0 : off = ![0, 0]) {inb : ∀ d, off d + (![a, b] : Fin 2 → ℕ) d ≤ (⟨2, ![a, b]⟩ : Shape).size d}
    (X : (⟨2, ![a, b]⟩ : Shape).Idx → EReal) :
    View.ld (Val := Elt Ideal) (e' := .f32) X (Rect.unit (s := ⟨2, ![a, b]⟩) off ![a, b] inb) = X := by
  subst h0
  exact by_rows fun r k => View.ld_unit_apply_of _ _ _ _ _ (ix2 r k) (fun d => by match d with | ⟨0, _⟩ => exact (Nat.zero_add _).symm | ⟨1, _⟩ => exact (Nat.zero_add _).symm)
theorem unit3 {off : Fin 3 → ℕ} {a b e : ℕ} (h0 : off = ![0, 0, 0]) {inb : ∀ d, off d + (![a, b, e] : Fin 3 → ℕ) d ≤ (⟨3, ![a, b, e]⟩ : Shape).size d}
    (X : (⟨3, ![a, b, e]⟩ : Shape).Idx → EReal) :
    View.ld (Val := Elt Ideal) (e' := .f32) X (Rect.unit (s := ⟨3, ![a, b, e]⟩) off ![a, b, e] inb) = X := by
  subst h0
  exact by_cells fun r k l => View.ld_unit_apply_of _ _ _ _ _ (ix3 r k l) (fun d => by match d with | ⟨0, _⟩ => exact (Nat.zero_add _).symm | ⟨1, _⟩ => exact (Nat.zero_add _).symm | ⟨2, _⟩ => exact (Nat.zero_add _).symm)

theorem whole2 (X : S64x64.Idx → EReal) : View.ld (Val := Elt Ideal) (e' := .f32) X r0_0 = X := unit2 rfl X
theorem whole1 (X : S64x1.Idx → EReal) : View.ld (Val := Elt Ideal) (e' := .f32) X r0_1 = X := unit2 rfl X
theorem whole3 (X : S64x16x64.Idx → EReal) : View.ld (Val := Elt Ideal) (e' := .f32) X r0_2 = X := unit3 rfl X

theorem kept2 (w : S64x64.Idx → EReal) : View.canon (Val := Elt Ideal) (e := .f32) [⟨r0_0, w⟩] = w :=
  by_rows fun r k => stored (a := 64) (b := 64) rfl r k
theorem kept1 (w : S64x1.Idx → EReal) : View.canon (Val := Elt Ideal) (e := .f32) [⟨r0_1, w⟩] = w :=
  by_rows fun r k => stored (a := 64) (b := 1) rfl r k
theorem kept3 (w : S64x16x64.Idx → EReal) : View.canon (Val := Elt Ideal) (e := .f32) [⟨r0_2, w⟩] = w :=
  by_cells fun r k l => by
    rw [canon_hit (ix3 r k l) (fun d => by match d with | ⟨0, _⟩ => exact (Nat.zero_add _).symm | ⟨1, _⟩ => exact (Nat.zero_add _).symm | ⟨2, _⟩ => exact (Nat.zero_add _).symm)]

section
variable (x0 x1 : V2) (x2 : S64.Idx → EReal) (x3 x4 : V3) (x5 x6 : V2) (x7 x8 : V3)

/-! The values the body names. -/

theorem n49 : k0_pay49 (F := Ideal) x0 x1 (col x2) (turn x3) (turn x4) x5 x6 (turn x7) (turn x8) = turn x3 := by
  unfold k0_pay49 k0_pay6; rw [whole3, same3]
theorem n50 : k0_pay50 (F := Ideal) x0 x1 (col x2) (turn x3) (turn x4) x5 x6 (turn x7) (turn x8) = turn x4 := by
  unfold k0_pay50 k0_pay7; rw [whole3, same3]
theorem n51 : k0_pay51 (F := Ideal) x0 x1 (col x2) (turn x3) (turn x4) x5 x6 (turn x7) (turn x8) = val_main_v1 (F := Ideal) x2 := by
  unfold k0_pay51; simp only [whole1, t8]
theorem n52 : k0_pay52 (F := Ideal) x0 x1 (col x2) (turn x3) (turn x4) x5 x6 (turn x7) (turn x8) = val_main_v3 (F := Ideal) x0 := by
  unfold k0_pay52; simp only [whole2, t9]
theorem n53 : k0_pay53 (F := Ideal) x0 x1 (col x2) (turn x3) (turn x4) x5 x6 (turn x7) (turn x8) = val_main_v15 (F := Ideal) x0 x2 := by
  unfold k0_pay53; simp only [whole2, whole1, t11]
theorem n54 : k0_pay54 (F := Ideal) x0 x1 (col x2) (turn x3) (turn x4) x5 x6 (turn x7) (turn x8) = val_main_v19 (F := Ideal) x1 x2 := by
  unfold k0_pay54; simp only [whole2, whole1, t14]
theorem n55 : k0_pay55 (F := Ideal) x0 x1 (col x2) (turn x3) (turn x4) x5 x6 (turn x7) (turn x8) = val_main_v24 (F := Ideal) x1 x2 := by
  unfold k0_pay55; simp only [whole2, whole1, t17]
theorem n56 : k0_pay56 (F := Ideal) x0 x1 (col x2) (turn x3) (turn x4) x5 x6 (turn x7) (turn x8) = val_main_v25 (F := Ideal) x0 x1 x2 := by
  unfold k0_pay56; simp only [whole2, whole1, t18]
theorem n57 : k0_pay57 (F := Ideal) x0 x1 (col x2) (turn x3) (turn x4) x5 x6 (turn x7) (turn x8) = val_main_v28 (F := Ideal) x0 x1 := by
  unfold k0_pay57; simp only [whole2, t19]
theorem n58 : k0_pay58 (F := Ideal) x0 x1 (col x2) (turn x3) (turn x4) x5 x6 (turn x7) (turn x8) = val_main_v30 (F := Ideal) x0 x1 x2 := by
  unfold k0_pay58; simp only [whole2, whole1, t20]
theorem n59 : k0_pay59 (F := Ideal) x0 x1 (col x2) (turn x3) (turn x4) x5 x6 (turn x7) (turn x8) = val_main_v33 (F := Ideal) x0 x1 x2 := by
  unfold k0_pay59; simp only [whole2, whole1, t21]
theorem n60 : k0_pay60 (F := Ideal) x0 x1 (col x2) (turn x3) (turn x4) x5 x6 (turn x7) (turn x8) = val_main_v37 (F := Ideal) x0 x1 := by
  unfold k0_pay60; simp only [n57, t22]
theorem n61 : k0_pay61 (F := Ideal) x0 x1 (col x2) (turn x3) (turn x4) x5 x6 (turn x7) (turn x8) = val_main_v40 (F := Ideal) x0 x1 x2 := by
  unfold k0_pay61; simp only [whole2, n52, n56, n58, t23]
theorem n62 : k0_pay62 (F := Ideal) x0 x1 (col x2) (turn x3) (turn x4) x5 x6 (turn x7) (turn x8) = val_main_v44 (F := Ideal) x0 x1 := by
  unfold k0_pay62; simp only [n57, t24]
theorem n63 : k0_pay63 (F := Ideal) x0 x1 (col x2) (turn x3) (turn x4) x5 x6 (turn x7) (turn x8) = turn1 (val_main_v68 (F := Ideal) x4 x8) := by
  unfold k0_pay63; simp only [n50, whole3, t29]
theorem n64 : k0_pay64 (F := Ideal) x0 x1 (col x2) (turn x3) (turn x4) x5 x6 (turn x7) (turn x8) = turn1 (val_main_v77 (F := Ideal) x3 x4 x7 x8) := by
  unfold k0_pay64; simp only [n49, n50, whole3, t32]
theorem n65 : k0_pay65 (F := Ideal) x0 x1 (col x2) (turn x3) (turn x4) x5 x6 (turn x7) (turn x8) = val_main_v82 (F := Ideal) x3 x7 := by
  unfold k0_pay65; simp only [n49, whole3, t34]
theorem n66 : k0_pay66 (F := Ideal) x0 x1 (col x2) (turn x3) (turn x4) x5 x6 (turn x7) (turn x8) = val_main_v130 (F := Ideal) x0 x1 x2 x3 x4 x5 x6 x7 x8 := by
  unfold k0_pay66; simp only [whole2, whole1, n52, n57, n63, n64, n65, t13, t16, t47]
theorem n67 : k0_pay67 (F := Ideal) x0 x1 (col x2) (turn x3) (turn x4) x5 x6 (turn x7) (turn x8) = val_main_v131 (F := Ideal) x0 x1 x2 x3 x4 x5 x7 x8 := by
  unfold k0_pay67; simp only [whole2, n52, n53, n57, n63, n64, n65, t48]

/-! What the body leaves in each result's buffer. -/

theorem left9 : out0_9 (F := Ideal) x0 x1 (col x2) (turn x3) (turn x4) x5 x6 (turn x7) (turn x8) = val_main_v148 (F := Ideal) x0 x1 x2 x3 x4 x5 x6 x7 x8 := by
  unfold out0_9; simp only [kept2, whole2, n51, t10, n52, n53, n56, n57, n58, n59, n60, n61, n62, n63, n64, n65, n66, t43, out_ar]
theorem left10 : out0_10 (F := Ideal) x0 x1 (col x2) (turn x3) (turn x4) x5 x6 (turn x7) (turn x8) = val_main_v139 (F := Ideal) x0 x1 x2 x3 x4 x5 x6 x7 x8 := by
  unfold out0_10; simp only [kept2, whole2, n51, n52, n53, n54, n55, n56, n57, n58, n59, n60, n61, n62, n63, n64, n65, n67, t46, out_ai]
theorem left11 : out0_11 (F := Ideal) x0 x1 (col x2) (turn x3) (turn x4) x5 x6 (turn x7) (turn x8) = val_main_v151 (F := Ideal) x0 x1 x2 x3 x4 x5 x6 x7 x8 := by
  unfold out0_11; simp only [kept1, whole2, n51, n52, n53, n54, n55, n57, n63, n64, n65, n66, n67, t45, out_ld]
theorem left12 : out0_12 (F := Ideal) x0 x1 (col x2) (turn x3) (turn x4) x5 x6 (turn x7) (turn x8) = val_main_v152 (F := Ideal) x0 x1 x2 x7 x8 := by
  unfold out0_12; simp only [kept3, whole2, whole3, n52, n56, n57, n58, n59, t33, out_br]
theorem left13 : out0_13 (F := Ideal) x0 x1 (col x2) (turn x3) (turn x4) x5 x6 (turn x7) (turn x8) = val_main_v153 (F := Ideal) x0 x1 x2 x7 x8 := by
  unfold out0_13; simp only [kept3, whole2, whole3, n52, n56, n57, n58, n59, t31, out_bi]
end

variable (m : (ℓ : Loc nD τ sig) → Buf (Elt Ideal) ℓ) (c : Dev nD)

/-! The arguments, and the windows' blocks read off them. -/

abbrev A0 : V2 := m ((c : Thread nD τ).loc main_arg0)
abbrev A1 : V2 := m ((c : Thread nD τ).loc main_arg1)
abbrev A2 : S64.Idx → EReal := m ((c : Thread nD τ).loc main_arg2)
abbrev A3 : V3 := m ((c : Thread nD τ).loc main_arg3)
abbrev A4 : V3 := m ((c : Thread nD τ).loc main_arg4)
abbrev A5 : V2 := m ((c : Thread nD τ).loc main_arg5)
abbrev A6 : V2 := m ((c : Thread nD τ).loc main_arg6)
abbrev A7 : V3 := m ((c : Thread nD τ).loc main_arg7)
abbrev A8 : V3 := m ((c : Thread nD τ).loc main_arg8)

theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0, 0] := (by decide +kernel : ∀ t : Fin grid0.N, _)
theorem index4 : ∀ t : Fin cfg0.N, win0_4.index t = ![0, 0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0, 0] := (by decide +kernel : ∀ t : Fin grid0.N, _)
theorem index8 : ∀ t : Fin cfg0.N, win0_8.index t = ![0, 0, 0] := (by decide +kernel : ∀ t : Fin grid0.N, _)
theorem index9 : ∀ t : Fin cfg0.N, win0_9.index t = ![0, 0] := (by decide +kernel : ∀ t : Fin grid0.N, _)
theorem index10 : ∀ t : Fin cfg0.N, win0_10.index t = ![0, 0] := (by decide +kernel : ∀ t : Fin grid0.N, _)
theorem index11 : ∀ t : Fin cfg0.N, win0_11.index t = ![0, 0] := (by decide +kernel : ∀ t : Fin grid0.N, _)
theorem index12 : ∀ t : Fin cfg0.N, win0_12.index t = ![0, 0, 0] := (by decide +kernel : ∀ t : Fin grid0.N, _)
theorem index13 : ∀ t : Fin cfg0.N, win0_13.index t = ![0, 0, 0] := (by decide +kernel : ∀ t : Fin grid0.N, _)

theorem cast_col (w : S64.Idx → EReal) (i : Fin 64) : shapeCast S64x1 w shapeCasts_S64_S64x1 (ix2 i 0) = w (ix1 i) := by
  pointwise []
theorem swap_at (w : V3) (i : Fin 64) (j : Fin 16) (k : Fin 64) :
    transpose S64x16x64 [0, 2, 1] w transposes_S64x64x16_S64x16x64_0_2_1 (ix3 i j k) = w (ix3 i k j) := by
  pointwise []
theorem host_ld : V m c main_v0 = col (A2 m c) := by
  refine by_rows (a := 64) (b := 1) fun i j => ?_
  obtain rfl := Subsingleton.elim j 0
  unfold col
  entry_read
  exact cast_col _ i
theorem host_v1 : V m c main_v1 = turn (A3 m c) := by
  refine by_cells (a := 64) (b := 16) (c := 64) fun i j k => ?_
  unfold turn
  entry_read
  exact swap_at _ i j k
theorem host_v2 : V m c main_v2 = turn (A4 m c) := by
  refine by_cells (a := 64) (b := 16) (c := 64) fun i j k => ?_
  unfold turn
  entry_read
  exact swap_at _ i j k
theorem host_v3 : V m c main_v3 = turn (A7 m c) := by
  refine by_cells (a := 64) (b := 16) (c := 64) fun i j k => ?_
  unfold turn
  entry_read
  exact swap_at _ i j k
theorem host_v4 : V m c main_v4 = turn (A8 m c) := by
  refine by_cells (a := 64) (b := 16) (c := 64) fun i j k => ?_
  unfold turn
  entry_read
  exact swap_at _ i j k

theorem blk0 (t : Fin cfg0.N) : iblk m c 0 t = A0 m c := by
  refine by_rows (a := 64) (b := 64) fun i j => ?_
  unfold A0; blk_point [iblk, V, index0 t]
theorem blk1 (t : Fin cfg0.N) : iblk m c 1 t = A1 m c := by
  refine by_rows (a := 64) (b := 64) fun i j => ?_
  unfold A1; blk_point [iblk, V, index1 t]
theorem blk5 (t : Fin cfg0.N) : iblk m c 5 t = A5 m c := by
  refine by_rows (a := 64) (b := 64) fun i j => ?_
  unfold A5; blk_point [iblk, V, index5 t]
theorem blk6 (t : Fin cfg0.N) : iblk m c 6 t = A6 m c := by
  refine by_rows (a := 64) (b := 64) fun i j => ?_
  unfold A6; blk_point [iblk, V, index6 t]
theorem blk2 (t : Fin cfg0.N) : iblk m c 2 t = col (A2 m c) := by
  rw [← host_ld]
  refine by_rows (a := 64) (b := 1) fun i j => ?_
  blk_point [iblk, index2 t]
theorem blk3 (t : Fin cfg0.N) : iblk m c 3 t = turn (A3 m c) := by
  rw [← host_v1]
  refine by_cells (a := 64) (b := 16) (c := 64) fun i j k => ?_
  blk_point [iblk, index3 t]
theorem blk4 (t : Fin cfg0.N) : iblk m c 4 t = turn (A4 m c) := by
  rw [← host_v2]
  refine by_cells (a := 64) (b := 16) (c := 64) fun i j k => ?_
  blk_point [iblk, index4 t]
theorem blk7 (t : Fin cfg0.N) : iblk m c 7 t = turn (A7 m c) := by
  rw [← host_v3]
  refine by_cells (a := 64) (b := 16) (c := 64) fun i j k => ?_
  blk_point [iblk, index7 t]
theorem blk8 (t : Fin cfg0.N) : iblk m c 8 t = turn (A8 m c) := by
  rw [← host_v4]
  refine by_cells (a := 64) (b := 16) (c := 64) fun i j k => ?_
  blk_point [iblk, index8 t]

/-! The result arrays are the reference's. -/

theorem tie9 : (dats m 0 c).arrAt 9 cfg0.N = val_main_v148 (F := Ideal) (A0 m c) (A1 m c) (A2 m c) (A3 m c) (A4 m c) (A5 m c) (A6 m c) (A7 m c) (A8 m c) := by
  refine (dats m 0 c).arrAt_eq_of_covers 9 _ (by decide +kernel) fun t hf y => ?_
  rw [after0_9, blk0, blk1, blk2, blk3, blk4, blk5, blk6, blk7, blk8, left9]
  have e : (win0_9.blk t).view.emb y = y := by
    refine funext fun a => Fin.ext ?_
    match a with
    | ⟨0, _⟩ => show win0_9.index t 0 * 64 + 1 * (y 0).val = (y 0).val; rw [index9 t, one_mul]; exact Nat.zero_add _
    | ⟨1, _⟩ => show win0_9.index t 1 * 64 + 1 * (y 1).val = (y 1).val; rw [index9 t, one_mul]; exact Nat.zero_add _
  blk_simp
  rw [e]
theorem tie10 : (dats m 0 c).arrAt 10 cfg0.N = val_main_v139 (F := Ideal) (A0 m c) (A1 m c) (A2 m c) (A3 m c) (A4 m c) (A5 m c) (A6 m c) (A7 m c) (A8 m c) := by
  refine (dats m 0 c).arrAt_eq_of_covers 10 _ (by decide +kernel) fun t hf y => ?_
  rw [after0_10, blk0, blk1, blk2, blk3, blk4, blk5, blk6, blk7, blk8, left10]
  have e : (win0_10.blk t).view.emb y = y := by
    refine funext fun a => Fin.ext ?_
    match a with
    | ⟨0, _⟩ => show win0_10.index t 0 * 64 + 1 * (y 0).val = (y 0).val; rw [index10 t, one_mul]; exact Nat.zero_add _
    | ⟨1, _⟩ => show win0_10.index t 1 * 64 + 1 * (y 1).val = (y 1).val; rw [index10 t, one_mul]; exact Nat.zero_add _
  blk_simp
  rw [e]
theorem tie11 : (dats m 0 c).arrAt 11 cfg0.N = val_main_v151 (F := Ideal) (A0 m c) (A1 m c) (A2 m c) (A3 m c) (A4 m c) (A5 m c) (A6 m c) (A7 m c) (A8 m c) := by
  refine (dats m 0 c).arrAt_eq_of_covers 11 _ (by decide +kernel) fun t hf y => ?_
  rw [after0_11, blk0, blk1, blk2, blk3, blk4, blk5, blk6, blk7, blk8, left11]
  have e : (win0_11.blk t).view.emb y = y := by
    refine funext fun a => Fin.ext ?_
    match a with
    | ⟨0, _⟩ => show win0_11.index t 0 * 64 + 1 * (y 0).val = (y 0).val; rw [index11 t, one_mul]; exact Nat.zero_add _
    | ⟨1, _⟩ => show win0_11.index t 1 * 1 + 1 * (y 1).val = (y 1).val; rw [index11 t, one_mul]; exact Nat.zero_add _
  blk_simp
  rw [e]
theorem tie12 : (dats m 0 c).arrAt 12 cfg0.N = val_main_v152 (F := Ideal) (A0 m c) (A1 m c) (A2 m c) (A7 m c) (A8 m c) := by
  refine (dats m 0 c).arrAt_eq_of_covers 12 _ (by decide +kernel) fun t hf y => ?_
  rw [after0_12, blk0, blk1, blk2, blk3, blk4, blk5, blk6, blk7, blk8, left12]
  have e : (win0_12.blk t).view.emb y = y := by
    refine funext fun a => Fin.ext ?_
    match a with
    | ⟨0, _⟩ => show win0_12.index t 0 * 64 + 1 * (y 0).val = (y 0).val; rw [index12 t, one_mul]; exact Nat.zero_add _
    | ⟨1, _⟩ => show win0_12.index t 1 * 16 + 1 * (y 1).val = (y 1).val; rw [index12 t, one_mul]; exact Nat.zero_add _
    | ⟨2, _⟩ => show win0_12.index t 2 * 64 + 1 * (y 2).val = (y 2).val; rw [index12 t, one_mul]; exact Nat.zero_add _
  blk_simp
  rw [e]
theorem tie13 : (dats m 0 c).arrAt 13 cfg0.N = val_main_v153 (F := Ideal) (A0 m c) (A1 m c) (A2 m c) (A7 m c) (A8 m c) := by
  refine (dats m 0 c).arrAt_eq_of_covers 13 _ (by decide +kernel) fun t hf y => ?_
  rw [after0_13, blk0, blk1, blk2, blk3, blk4, blk5, blk6, blk7, blk8, left13]
  have e : (win0_13.blk t).view.emb y = y := by
    refine funext fun a => Fin.ext ?_
    match a with
    | ⟨0, _⟩ => show win0_13.index t 0 * 64 + 1 * (y 0).val = (y 0).val; rw [index13 t, one_mul]; exact Nat.zero_add _
    | ⟨1, _⟩ => show win0_13.index t 1 * 16 + 1 * (y 1).val = (y 1).val; rw [index13 t, one_mul]; exact Nat.zero_add _
    | ⟨2, _⟩ => show win0_13.index t 2 * 64 + 1 * (y 2).val = (y 2).val; rw [index13 t, one_mul]; exact Nat.zero_add _
  blk_simp
  rw [e]

variable (ρ : Dev nD → PrngReg)

/-- The run: the five results, and the arguments as they were. -/
theorem run_value : θ_run (defs (F := Ideal)) (onTc (τ := τ) (main (F := Ideal))) ⟨m, fun _ => 0, ρ⟩ (fun r => ∀ c : Dev nD,
      r.2.mem ((c.tc : Thread nD τ).loc main_v5_0) = val_main_v148 (F := Ideal) (A0 m c) (A1 m c) (A2 m c) (A3 m c) (A4 m c) (A5 m c) (A6 m c) (A7 m c) (A8 m c)
      ∧ r.2.mem ((c.tc : Thread nD τ).loc main_v5_1) = val_main_v139 (F := Ideal) (A0 m c) (A1 m c) (A2 m c) (A3 m c) (A4 m c) (A5 m c) (A6 m c) (A7 m c) (A8 m c)
      ∧ r.2.mem ((c.tc : Thread nD τ).loc main_v5_2) = val_main_v151 (F := Ideal) (A0 m c) (A1 m c) (A2 m c) (A3 m c) (A4 m c) (A5 m c) (A6 m c) (A7 m c) (A8 m c)
      ∧ r.2.mem ((c.tc : Thread nD τ).loc main_v5_3) = val_main_v152 (F := Ideal) (A0 m c) (A1 m c) (A2 m c) (A7 m c) (A8 m c)
      ∧ r.2.mem ((c.tc : Thread nD τ).loc main_v5_4) = val_main_v153 (F := Ideal) (A0 m c) (A1 m c) (A2 m c) (A7 m c) (A8 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 9).trans (tie9 m c), ((h c).1 10).trans (tie10 m c), ((h c).1 11).trans (tie11 m c), ((h c).1 12).trans (tie12 m c), ((h c).1 13).trans (tie13 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c))),
    ((h c).2 main_arg7 (Pipeline.mem_restRefs_of main_arg7 (by decide) (by decide))).trans (V_main_arg7 m c),
    ((h c).2 main_arg8 (Pipeline.mem_restRefs_of main_arg8 (by decide) (by decide))).trans (V_main_arg8 m c)⟩) (run_main m ρ)

/-! The reference's results at arguments that agree. -/

variable {m} {c} in
theorem agree148 {y0 : V2} {y1 : V2} {y2 : S64.Idx → EReal} {y3 : V3} {y4 : V3} {y5 : V2} {y6 : V2} {y7 : V3} {y8 : V3}
    (e0 : y0 = A0 m c) (e1 : y1 = A1 m c) (e2 : y2 = A2 m c) (e3 : y3 = A3 m c) (e4 : y4 = A4 m c) (e5 : y5 = A5 m c) (e6 : y6 = A6 m c) (e7 : y7 = A7 m c) (e8 : y8 = A8 m c) :
    val_main_v148 (F := Ideal) y0 y1 y2 y3 y4 y5 y6 y7 y8 = val_main_v148 (F := Ideal) (A0 m c) (A1 m c) (A2 m c) (A3 m c) (A4 m c) (A5 m c) (A6 m c) (A7 m c) (A8 m c) := by
  subst e0 e1 e2 e3 e4 e5 e6 e7 e8; rfl
variable {m} {c} in
theorem agree139 {y0 : V2} {y1 : V2} {y2 : S64.Idx → EReal} {y3 : V3} {y4 : V3} {y5 : V2} {y6 : V2} {y7 : V3} {y8 : V3}
    (e0 : y0 = A0 m c) (e1 : y1 = A1 m c) (e2 : y2 = A2 m c) (e3 : y3 = A3 m c) (e4 : y4 = A4 m c) (e5 : y5 = A5 m c) (e6 : y6 = A6 m c) (e7 : y7 = A7 m c) (e8 : y8 = A8 m c) :
    val_main_v139 (F := Ideal) y0 y1 y2 y3 y4 y5 y6 y7 y8 = val_main_v139 (F := Ideal) (A0 m c) (A1 m c) (A2 m c) (A3 m c) (A4 m c) (A5 m c) (A6 m c) (A7 m c) (A8 m c) := by
  subst e0 e1 e2 e3 e4 e5 e6 e7 e8; rfl
variable {m} {c} in
theorem agree151 {y0 : V2} {y1 : V2} {y2 : S64.Idx → EReal} {y3 : V3} {y4 : V3} {y5 : V2} {y6 : V2} {y7 : V3} {y8 : V3}
    (e0 : y0 = A0 m c) (e1 : y1 = A1 m c) (e2 : y2 = A2 m c) (e3 : y3 = A3 m c) (e4 : y4 = A4 m c) (e5 : y5 = A5 m c) (e6 : y6 = A6 m c) (e7 : y7 = A7 m c) (e8 : y8 = A8 m c) :
    val_main_v151 (F := Ideal) y0 y1 y2 y3 y4 y5 y6 y7 y8 = val_main_v151 (F := Ideal) (A0 m c) (A1 m c) (A2 m c) (A3 m c) (A4 m c) (A5 m c) (A6 m c) (A7 m c) (A8 m c) := by
  subst e0 e1 e2 e3 e4 e5 e6 e7 e8; rfl
variable {m} {c} in
theorem agree152 {y0 : V2} {y1 : V2} {y2 : S64.Idx → EReal} {y7 : V3} {y8 : V3}
    (e0 : y0 = A0 m c) (e1 : y1 = A1 m c) (e2 : y2 = A2 m c) (e7 : y7 = A7 m c) (e8 : y8 = A8 m c) :
    val_main_v152 (F := Ideal) y0 y1 y2 y7 y8 = val_main_v152 (F := Ideal) (A0 m c) (A1 m c) (A2 m c) (A7 m c) (A8 m c) := by
  subst e0 e1 e2 e7 e8; rfl
variable {m} {c} in
theorem agree153 {y0 : V2} {y1 : V2} {y2 : S64.Idx → EReal} {y7 : V3} {y8 : V3}
    (e0 : y0 = A0 m c) (e1 : y1 = A1 m c) (e2 : y2 = A2 m c) (e7 : y7 = A7 m c) (e8 : y8 = A8 m c) :
    val_main_v153 (F := Ideal) y0 y1 y2 y7 y8 = val_main_v153 (F := Ideal) (A0 m c) (A1 m c) (A2 m c) (A7 m c) (A8 m c) := by
  subst e0 e1 e2 e7 e8; rfl

end Cert.PrepIdeal.Hand
end
-- ==== Proof.PoolFBlock.lean ====
module

public import proofs.«01_k».proof.Proof.Common
public import proofs.«01_k».proof.Proof.Gen.PoolFIdeal.Frame

@[expose] public section

set_option maxRecDepth 16384

noncomputable section

namespace Cert.PoolFIdeal.Hand

open Idealize.ShloMosaic Idealize.ShloMosaic.TcCoe Idealize.SL.Sem
open Cert.PoolFIdeal Cert.PoolFIdeal.Gen Cert.Hand

/-- Column `k` of channel group `g`. -/
def col (g : Fin 4) (k : Fin 256) : Fin 1024 := ⟨g.val * 256 + k.val, by have := g.isLt; have := k.isLt; omega⟩

/-- The group's window. -/
def window (g : Fin 4) : EReal :=
  match g with
  | 0 => Ideal.ofBits .f32 0x40000000#32
  | 1 => Ideal.ofBits .f32 0x40800000#32
  | 2 => Ideal.ofBits .f32 0x41000000#32
  | 3 => Ideal.ofBits .f32 0x41800000#32

/-- The rows a group's window spans. -/
def span (g : Fin 4) : ℕ := match g with | 0 => 2 | 1 => 4 | 2 => 8 | 3 => 16

/-- The group's mixture of the pooled channels, scaled and gated. -/
def gated {n : ℕ} (pl : Fin 256 → EReal) (pw : S4x256x256.Idx → EReal) (ps : S1x1024.Idx → EReal)
    (z : (⟨2, ![n, 1024]⟩ : Shape).Idx → EReal) (r : Fin n) (g : Fin 4) (k : Fin 256) : EReal :=
  (∑ l : Fin 256, pl l * pw (ix3 g l k)) * ps (ix2 0 (col g k)) * (z (ix2 r (col g k)) * Ideal.logistic (z (ix2 r (col g k))))

theorem pos_word (t : Fin 8) (r : Fin 1024) :
    (BitVec.ofNat 32 t.val * 1024#32 + BitVec.ofNat 32 r.val + 1#32).toInt = (t.val * 1024 + r.val + 1 : ℕ) := by
  have := t.isLt; have := r.isLt
  have e : (BitVec.ofNat 32 t.val * 1024#32 + BitVec.ofNat 32 r.val + 1#32).toNat = t.val * 1024 + r.val + 1 := by
    simp only [BitVec.toNat_add, BitVec.toNat_mul, BitVec.toNat_ofNat]; omega
  rw [BitVec.toInt_eq_toNat_of_lt (by rw [e]; omega), e]

/-- Row `r` of block `t`, counted from one. -/
def posOf (t : Fin 8) (r : Fin 1024) : EReal := ((t.val * 1024 + r.val + 1 : ℕ) : ℝ)

theorem pay4_apply (i : grid0.Coords) (r : Fin 1024) : k0_pay4 (F := Ideal) i (ix2 r 0) = posOf (i 0) r := by
  pointwise [k0_pay4]
  have := pos_word (i 0) r
  show (((BitVec.ofNat 32 (i 0).val * 1024#32 + BitVec.ofNat 32 r.val + 1#32).toInt : ℝ) : EReal) = _
  rw [this]; rfl

theorem pay5_apply (i : grid0.Coords) (r : Fin 1024) : k0_pay5 (F := Ideal) i (ix2 r 0) = Ideal.div 1 (min (posOf (i 0) r) (window 1)) := by
  pointwise [k0_pay5]; rw [pay4_apply]; rfl
theorem pay6_apply (i : grid0.Coords) (r : Fin 1024) : k0_pay6 (F := Ideal) i (ix2 r 0) = Ideal.div 1 (min (posOf (i 0) r) (window 2)) := by
  pointwise [k0_pay6]; rw [pay4_apply]; rfl
theorem pay7_apply (i : grid0.Coords) (r : Fin 1024) : k0_pay7 (F := Ideal) i (ix2 r 0) = Ideal.div 1 (min (posOf (i 0) r) (window 3)) := by
  pointwise [k0_pay7]; rw [pay4_apply]; rfl

theorem col0 (k : Fin 256) (h : k.val < 1024) : (⟨k.val, h⟩ : Fin 1024) = col 0 k := Fin.ext (by show k.val = 0 * 256 + k.val; omega)
theorem col1 (k : Fin 256) (h : 256 + k.val < 1024) : (⟨256 + k.val, h⟩ : Fin 1024) = col 1 k := Fin.ext (by show 256 + k.val = 1 * 256 + k.val; omega)
theorem col2 (k : Fin 256) (h : 512 + k.val < 1024) : (⟨512 + k.val, h⟩ : Fin 1024) = col 2 k := Fin.ext (by show 512 + k.val = 2 * 256 + k.val; omega)
theorem col3 (k : Fin 256) (h : 768 + k.val < 1024) : (⟨768 + k.val, h⟩ : Fin 1024) = col 3 k := Fin.ext (by show 768 + k.val = 3 * 256 + k.val; omega)

/-- Columns of one group, loaded. -/
theorem ld_col {Val : EltTy → Type} {e : EltTy} (g : Fin 4) (o : ℕ) (ho : o = g.val * 256) {n : ℕ} (X : (⟨2, ![n, 1024]⟩ : Shape).Idx → Val e) (inb) (r : Fin n) (k : Fin 256) :
    View.ld X (Rect.unit (s := ⟨2, ![n, 1024]⟩) ![0, o] ![n, 256] inb) (ix2 r k) = X (ix2 r (col g k)) :=
  View.ld_unit_apply_of _ _ _ _ _ (ix2 r (col g k)) (fun a => by match a with | ⟨0, _⟩ => exact (Nat.zero_add _).symm | ⟨1, _⟩ => subst ho; rfl)

/-- One group's matrix, loaded. -/
theorem ld_grp {Val : EltTy → Type} {e : EltTy} (g : Fin 4) (o : ℕ) (ho : o = g.val) (X : S4x256x256.Idx → Val e) (inb) (j k : Fin 256) :
    View.ld X (Rect.unit (s := S4x256x256) ![o, 0, 0] ![1, 256, 256] inb) (ix3 0 j k) = X (ix3 g j k) :=
  View.ld_unit_apply_of _ _ _ _ _ (ix3 g j k) (fun a => by match a with | ⟨0, _⟩ => exact ho.symm | ⟨1, _⟩ => exact (Nat.zero_add _).symm | ⟨2, _⟩ => exact (Nat.zero_add _).symm)

/-- A whole matrix, loaded. -/
theorem ld_whole {Val : EltTy → Type} {e : EltTy} {a b : ℕ} (X : (⟨2, ![a, b]⟩ : Shape).Idx → Val e) (inb) (r : Fin a) (k : Fin b) :
    View.ld X (Rect.unit (s := ⟨2, ![a, b]⟩) ![0, 0] ![a, b] inb) (ix2 r k) = X (ix2 r k) :=
  View.ld_unit_apply_of _ _ _ _ _ (ix2 r k) (fun a => by match a with | ⟨0, _⟩ => exact (Nat.zero_add _).symm | ⟨1, _⟩ => exact (Nat.zero_add _).symm)

theorem box_hit {Val : EltTy → Type} [∀ e, Nonempty (Val e)] {e : EltTy} {n N o : ℕ} {inb}
    {w : (Rect.unit (s := ⟨2, ![n, N]⟩) ![0, o] ![n, 256] inb).shape.Idx → Val e} {L : List (View.Piece Val ⟨2, ![n, N]⟩ e)}
    (r : Fin n) (j : Fin N) (k : Fin 256) (h : j.val = o + k.val) :
    View.canon (⟨Rect.unit (s := ⟨2, ![n, N]⟩) ![0, o] ![n, 256] inb, w⟩ :: L) (ix2 r j) = w (ix2 r k) :=
  by rw [canon_hit (ix2 r k) (fun a => by match a with | ⟨0, _⟩ => exact (Nat.zero_add _).symm | ⟨1, _⟩ => exact h)]

theorem box_miss {Val : EltTy → Type} [∀ e, Nonempty (Val e)] {e : EltTy} {n N o : ℕ} {inb}
    {w : (Rect.unit (s := ⟨2, ![n, N]⟩) ![0, o] ![n, 256] inb).shape.Idx → Val e} {L : List (View.Piece Val ⟨2, ![n, N]⟩ e)}
    (r : Fin n) (j : Fin N) (h : j.val < o ∨ o + 256 ≤ j.val) :
    View.canon (⟨Rect.unit (s := ⟨2, ![n, N]⟩) ![0, o] ![n, 256] inb, w⟩ :: L) (ix2 r j) = View.canon L (ix2 r j) :=
  canon_miss 1 h

/-! The sums over a window: adding a copy moved by the sum's own length doubles it. -/

/-- The rows before a block followed by the block's own: rows before the first block are zero. -/
def ext (t : Fin 8) (x : S1024x1024.Idx → EReal) (h : S16x1024.Idx → EReal) (j : Fin 1024) (n : ℕ) : EReal :=
  if hn : n < 16 then (if 0 < t.val then h (ix2 ⟨n, hn⟩ j) else 0) else if hn : n - 16 < 1024 then x (ix2 ⟨n - 16, hn⟩ j) else 0

theorem first_word (t : Fin 8) : Scalar.cmpi .sgt (BitVec.ofNat 32 t.val) 0#32 = if 0 < t.val then 1#1 else 0#1 := by
  revert t; decide

theorem pay3_apply (i : grid0.Coords) (x : Vec Ideal S1024x1024 .bf16) (h : Vec Ideal S16x1024 .bf16) (n : ℕ) (hn : n < 1040) (j : Fin 1024) :
    k0_pay3 (F := Ideal) i x h (ix2 ⟨n, hn⟩ j) = ext (i 0) x h j n := by
  have e := first_word (i 0)
  pointwise [k0_pay3, ext]
  rw [e]
  by_cases h1 : n < 16
  · rw [dif_pos h1, dif_pos h1]
    split_ifs <;> rfl
  · rw [dif_neg h1, dif_neg h1, dif_pos (by omega)]

theorem roll_step (w : ℕ) (n : BitVec 32) (hw : 0 < w) (hn : n.toNat = w) (hb : w < 1040) (x : FVec Ideal S1040x256 .f32) (f : ℕ → EReal) (k : Fin 256)
    (hx : ∀ r (h : r < 1040), w ≤ r + 1 → x (ix2 ⟨r, h⟩ k) = ∑ i ∈ Finset.range w, f (r - i)) (r : ℕ) (h : r < 1040) (hr : w + w ≤ r + 1) :
    addf x (dynamicRotate 0 n none x rotates_S1040x256_d0) (ix2 ⟨r, h⟩ k) = ∑ i ∈ Finset.range (w + w), f (r - i) := by
  rw [Finset.sum_range_add, ← hx r h (by omega)]
  have e : ∑ i ∈ Finset.range w, f (r - (w + i)) = x (ix2 ⟨r - w, by omega⟩ k) := by
    rw [hx (r - w) (by omega) (by omega)]; simp only [Nat.sub_sub]
  rw [e]
  refine congrArg (x (ix2 ⟨r, h⟩ k) + ·) ?_
  show dynamicRotate 0 n none x rotates_S1040x256_d0 (ix2 ⟨r, h⟩ k) = _
  unfold dynamicRotate
  refine congrArg x (funext fun b => ?_)
  match b with
  | ⟨0, _⟩ => exact Fin.ext (by show (r + 1040 - (n.toNat + 0) % 1040) % 1040 = r - w; omega)
  | ⟨1, _⟩ => rfl

theorem one_row (x : FVec Ideal S1040x256 .f32) (f : ℕ → EReal) (k : Fin 256) (hx : ∀ n (hn : n < 1040), x (ix2 ⟨n, hn⟩ k) = f n) :
    ∀ r (h : r < 1040), 1 ≤ r + 1 → x (ix2 ⟨r, h⟩ k) = ∑ i ∈ Finset.range 1, f (r - i) := fun r h _ => by
  rw [Finset.sum_range_one]; exact hx r h

/-- A block's pooled channels. -/
def pooled (t : Fin 8) (x : S1024x1024.Idx → EReal) (h : S16x1024.Idx → EReal) (r : Fin 1024) (g : Fin 4) (k : Fin 256) : EReal :=
  (∑ a ∈ Finset.range (span g), ext t x h (col g k) (16 + r.val - a)) * Ideal.div 1 (min (posOf t r) (window g)) - x (ix2 r (col g k))

/-- The last lines of a group: the later 1024 of the summed rows, over the count, less the block's own. -/
theorem mean_rows (x y : FVec Ideal S1040x256 .f32) (b : FVec Ideal S1024x1 .f32) (r : Fin 1024) (k : Fin 256) :
    subf (F := Ideal) (mulf (extractStridedSlice S1024x256 ![16, 0] x slices_S1040x256_o16_0_S1024x256) (broadcastTo S1024x256 b broadcasts_S1024x1_S1024x256))
        (extractStridedSlice S1024x256 ![16, 0] y slices_S1040x256_o16_0_S1024x256) (ix2 r k)
      = x (ix2 ⟨16 + r.val, by omega⟩ k) * b (ix2 r 0) - y (ix2 ⟨16 + r.val, by omega⟩ k) := by
  pointwise []

theorem ext_own (t : Fin 8) (x : S1024x1024.Idx → EReal) (h : S16x1024.Idx → EReal) (r : Fin 1024) (j : Fin 1024) : ext t x h j (16 + r.val) = x (ix2 r j) := by
  have := r.isLt
  rw [ext, dif_neg (by omega), dif_pos (by omega)]
  exact congrArg (fun n => x (ix2 n j)) (Fin.ext (by show 16 + r.val - 16 = r.val; omega))

section Groups
variable (i : grid0.Coords) (x : Vec Ideal S1024x1024 .bf16) (h : Vec Ideal S16x1024 .bf16) (r : Fin 1024) (k : Fin 256)

/-- A group's columns of the rows. -/
theorem cols (g : Fin 4) (o : ℕ) (ho : o = g.val * 256) (inb : S1040x1024.Slices ![0, o] S1040x256) (n : ℕ) (hn : n < 1040) :
    extractStridedSlice S1040x256 ![0, o] (k0_pay3 (F := Ideal) i x h) inb (ix2 ⟨n, hn⟩ k) = ext (i 0) x h (col g k) n := by
  rw [← pay3_apply i x h n hn]
  subst ho
  pointwise [col]

theorem mean0 : k0_pay8 (F := Ideal) i x h (ix2 r k) = pooled (i 0) x h r 0 k := by
  have h1 := roll_step 1 1#32 (by decide) (by decide) (by decide) _ _ k (one_row _ _ k (cols i x h k 0 0 rfl slices_S1040x1024_o0_0_S1040x256))
  unfold k0_pay8
  refine (mean_rows _ _ _ r k).trans (congrArg₂ (· - ·) (congrArg₂ (· * ·) (h1 _ _ (by omega)) ?_) ((cols i x h k 0 0 rfl _ _ _).trans (ext_own ..)))
  pointwise []; rw [pay4_apply]; rfl

theorem mean1 : k0_pay11 (F := Ideal) (k0_pay5 i) (k0_pay9 i x h) (k0_pay10 i x h) 1#32 (ix2 r k) = pooled (i 0) x h r 1 k := by
  have h1 := roll_step 1 1#32 (by decide) (by decide) (by decide) _ _ k (one_row _ _ k (cols i x h k 1 256 rfl slices_S1040x1024_o0_256_S1040x256))
  have h2 := roll_step 2 2#32 (by decide) (by decide) (by decide) _ _ k h1
  unfold k0_pay11 k0_pay10 k0_pay9
  exact (mean_rows _ _ _ r k).trans (congrArg₂ (· - ·) (congrArg₂ (· * ·) (h2 _ _ (by omega)) (pay5_apply i r)) ((cols i x h k 1 256 rfl _ _ _).trans (ext_own ..)))

theorem mean2 : k0_pay12 (F := Ideal) (k0_pay3 i x h) (k0_pay6 i) (ix2 r k) = pooled (i 0) x h r 2 k := by
  have h1 := roll_step 1 1#32 (by decide) (by decide) (by decide) _ _ k (one_row _ _ k (cols i x h k 2 512 rfl slices_S1040x1024_o0_512_S1040x256))
  have h2 := roll_step 2 2#32 (by decide) (by decide) (by decide) _ _ k h1
  have h3 := roll_step 4 4#32 (by decide) (by decide) (by decide) _ _ k h2
  unfold k0_pay12
  exact (mean_rows _ _ _ r k).trans (congrArg₂ (· - ·) (congrArg₂ (· * ·) (h3 _ _ (by omega)) (pay6_apply i r)) ((cols i x h k 2 512 rfl _ _ _).trans (ext_own ..)))

theorem mean3 : k0_pay13 (F := Ideal) (k0_pay3 i x h) (k0_pay7 i) (ix2 r k) = pooled (i 0) x h r 3 k := by
  have h1 := roll_step 1 1#32 (by decide) (by decide) (by decide) _ _ k (one_row _ _ k (cols i x h k 3 768 rfl slices_S1040x1024_o0_768_S1040x256))
  have h2 := roll_step 2 2#32 (by decide) (by decide) (by decide) _ _ k h1
  have h3 := roll_step 4 4#32 (by decide) (by decide) (by decide) _ _ k h2
  have h4 := roll_step 8 8#32 (by decide) (by decide) (by decide) _ _ k h3
  unfold k0_pay13
  exact (mean_rows _ _ _ r k).trans (congrArg₂ (· - ·) (congrArg₂ (· * ·) (h4 _ _ (by omega)) (pay7_apply i r)) ((cols i x h k 3 768 rfl _ _ _).trans (ext_own ..)))

end Groups

section Gate
variable (z : Vec Ideal S1024x1024 .bf16) (pw : Vec Ideal S4x256x256 .bf16) (ps : Vec Ideal S1x1024 .f32) (pl : FVec Ideal S1024x256 .f32) (r : Fin 1024) (k : Fin 256)

theorem gate0 (i2 i3) : k0_pay17 (F := Ideal) (k0_pay14 z) (k0_pay16 pl (View.ld pw (Rect.unit ![0, 0, 0] ![1, 256, 256] i2)))
    (View.ld ps (Rect.unit ![0, 0] ![1, 256] i3)) (ix2 r k) = gated (fun l => pl (ix2 r l)) pw ps z r 0 k := by
  pointwise [k0_pay17, k0_pay16, k0_pay15, k0_pay14]
  simp only [ld_col 0 0 rfl, ld_grp 0 0 rfl, col0, gated]
theorem gate1 (i2 i3) : k0_pay19 (F := Ideal) pl (k0_pay14 z) (View.ld pw (Rect.unit ![1, 0, 0] ![1, 256, 256] i2))
    (View.ld ps (Rect.unit ![0, 256] ![1, 256] i3)) (ix2 r k) = gated (fun l => pl (ix2 r l)) pw ps z r 1 k := by
  pointwise [k0_pay19, k0_pay18, k0_pay14]
  simp only [ld_col 1 256 rfl, ld_grp 1 1 rfl, col1, gated]
theorem gate2 (i2 i3) : k0_pay21 (F := Ideal) pl (k0_pay14 z) (View.ld pw (Rect.unit ![2, 0, 0] ![1, 256, 256] i2))
    (View.ld ps (Rect.unit ![0, 512] ![1, 256] i3)) (ix2 r k) = gated (fun l => pl (ix2 r l)) pw ps z r 2 k := by
  pointwise [k0_pay21, k0_pay20, k0_pay14]
  simp only [ld_col 2 512 rfl, ld_grp 2 2 rfl, col2, gated]
theorem gate3 (i2 i3) : k0_pay2 (F := Ideal) pl (k0_pay14 z) (View.ld pw (Rect.unit ![3, 0, 0] ![1, 256, 256] i2))
    (View.ld ps (Rect.unit ![0, 768] ![1, 256] i3)) (ix2 r k) = gated (fun l => pl (ix2 r l)) pw ps z r 3 k := by
  pointwise [k0_pay2, k0_pay1, k0_pay14]
  simp only [ld_col 3 768 rfl, ld_grp 3 3 rfl, col3, gated]

end Gate

theorem v0 (k : Fin 256) : (col 0 k).val = 0 + k.val := rfl
theorem v1 (k : Fin 256) : (col 1 k).val = 256 + k.val := rfl
theorem v2 (k : Fin 256) : (col 2 k).val = 512 + k.val := rfl
theorem v3 (k : Fin 256) : (col 3 k).val = 768 + k.val := rfl

section Out
variable (i : grid0.Coords) (x : Vec Ideal S1024x1024 .bf16) (h : Vec Ideal S16x1024 .bf16) (z : Vec Ideal S1024x1024 .bf16)
  (pw : Vec Ideal S4x256x256 .bf16) (ps : Vec Ideal S1x1024 .f32) (r : Fin 1024) (k : Fin 256)

theorem whole_x : View.ld x r0_0 = x := by_rows (a := 1024) (b := 1024) fun r k => ld_whole x _ r k
theorem whole_h : View.ld h r0_1 = h := by_rows (a := 16) (b := 1024) fun r k => ld_whole h _ r k

/-- What the body leaves of the pooled channels. -/
theorem out6 (g : Fin 4) : out0_6 (F := Ideal) i x h z pw ps (ix2 r (col g k)) = pooled (i 0) x h r g k := by
  unfold_out out0_6
  rw [whole_x, whole_h]
  match g with
  | 0 => rw [box_miss _ _ (by rw [v0]; omega), box_miss _ _ (by rw [v0]; omega), box_miss _ _ (by rw [v0]; omega), box_hit r (col 0 k) k (v0 k)]; exact mean0 ..
  | 1 => rw [box_miss _ _ (by rw [v1]; omega), box_miss _ _ (by rw [v1]; omega), box_hit r (col 1 k) k (v1 k)]; exact mean1 ..
  | 2 => rw [box_miss _ _ (by rw [v2]; omega), box_hit r (col 2 k) k (v2 k)]; exact mean2 ..
  | 3 => rw [box_hit r (col 3 k) k (v3 k)]; exact mean3 ..

/-- What the body leaves of the branch's output. -/
theorem out5 (g : Fin 4) : out0_5 (F := Ideal) i x h z pw ps (ix2 r (col g k)) = gated (fun l => pooled (i 0) x h r g l) pw ps z r g k := by
  unfold_out out0_5
  rw [whole_x, whole_h, whole_x]
  match g with
  | 0 => rw [box_miss _ _ (by rw [v0]; omega), box_miss _ _ (by rw [v0]; omega), box_miss _ _ (by rw [v0]; omega), box_hit r (col 0 k) k (v0 k)]; refine (gate0 ..).trans ?_; simp only [mean0]
  | 1 => rw [box_miss _ _ (by rw [v1]; omega), box_miss _ _ (by rw [v1]; omega), box_hit r (col 1 k) k (v1 k)]; refine (gate1 ..).trans ?_; simp only [mean1]
  | 2 => rw [box_miss _ _ (by rw [v2]; omega), box_hit r (col 2 k) k (v2 k)]; refine (gate2 ..).trans ?_; simp only [mean2]
  | 3 => rw [box_hit r (col 3 k) k (v3 k)]; refine (gate3 ..).trans ?_; simp only [mean3]

end Out

end Cert.PoolFIdeal.Hand
end
-- ==== Proof.PoolFSum.lean ====
module

public import proofs.«01_k».proof.Proof.PoolFBlock
public import proofs.«01_k».proof.Proof.Gen.PoolFIdeal.Value

@[expose] public section

set_option maxRecDepth 16384

noncomputable section

namespace Cert.PoolFIdeal.Hand

open Idealize.ShloMosaic Idealize.ShloMosaic.TcCoe Idealize.SL.Sem
open Cert.PoolFIdeal Cert.PoolFIdeal.Gen Cert.Hand

/-- A row's number, counted from one. -/
def pos (r : Fin 8192) : EReal := ((r.val + 1 : ℕ) : ℝ)

section Whole
variable (p : S8192x6144.Idx → EReal) (pw : S4x256x256.Idx → EReal) (ps : S1x1024.Idx → EReal)

/-- The pooled column at a row, nothing past the last one. -/
def argAt (j : Fin 1024) (n : ℕ) : EReal := if h : n < 8192 then p (ix2 ⟨n, h⟩ ⟨j.val, by omega⟩) else 0

/-- The mean over the rows of a group's window up to this one, less the row itself. -/
def mean (r : Fin 8192) (g : Fin 4) (k : Fin 256) : EReal :=
  (∑ a ∈ Finset.range (span g), if a ≤ r.val then argAt p (col g k) (r.val - a) else 0) * Ideal.div 1 (min (pos r) (window g))
    - p (ix2 r ⟨(col g k).val, by omega⟩)

/-- The gate's argument: the second thousand columns of the projections. -/
def gateArg : S8192x1024.Idx → EReal := fun i => p (ix2 (i 0) ⟨1024 + (i 1).val, by have : (i 1).val < 1024 := (i 1).isLt; omega⟩)

def grpOf (n : ℕ) : Fin 4 := ⟨n / 256 % 4, Nat.mod_lt _ (by decide)⟩
def chOf (n : ℕ) : Fin 256 := ⟨n % 256, Nat.mod_lt _ (by decide)⟩

theorem grp_col (g : Fin 4) (k : Fin 256) : grpOf (col g k).val = g :=
  Fin.ext (by have := g.isLt; have := k.isLt; show (g.val * 256 + k.val) / 256 % 4 = g.val; omega)
theorem ch_col (g : Fin 4) (k : Fin 256) : chOf (col g k).val = k :=
  Fin.ext (by have := g.isLt; have := k.isLt; show (g.val * 256 + k.val) % 256 = k.val; omega)

/-- The pooled rows. -/
def means (i : S8192x1024.Idx) : EReal := mean p (i 0) (grpOf (i 1).val) (chOf (i 1).val)

/-- The gated mixture of the pooled rows. -/
def mixture (i : S8192x1024.Idx) : EReal :=
  gated (fun l => mean p (i 0) (grpOf (i 1).val) l) pw ps (gateArg p) (i 0) (grpOf (i 1).val) (chOf (i 1).val)

theorem means_apply (r : Fin 8192) (g : Fin 4) (k : Fin 256) : means p (ix2 r (col g k)) = mean p r g k := by
  show mean p r (grpOf (col g k).val) (chOf (col g k).val) = _
  rw [grp_col, ch_col]

theorem mixture_apply (r : Fin 8192) (g : Fin 4) (k : Fin 256) :
    mixture p pw ps (ix2 r (col g k)) = gated (fun l => mean p r g l) pw ps (gateArg p) r g k := by
  show gated (fun l => mean p r (grpOf (col g k).val) l) pw ps (gateArg p) r (grpOf (col g k).val) (chOf (col g k).val) = _
  rw [grp_col, ch_col]

end Whole

theorem col_surj (j : Fin 1024) : ∃ g k, j = col g k :=
  ⟨⟨j.val / 256, by omega⟩, ⟨j.val % 256, by omega⟩, Fin.ext (by show j.val = j.val / 256 * 256 + j.val % 256; omega)⟩

/-! The blocks are rows of the whole arrays. -/

variable (m : (ℓ : Loc nD τ sig) → Buf (Elt Ideal) ℓ) (c : Dev nD)

theorem index0 : ∀ t : Fin cfg0.N, win0_0.index t = ![t.val, 0] := (by decide +kernel : ∀ t : Fin grid0.N, _)
theorem index1 : ∀ t : Fin cfg0.N, win0_1.index t = ![t.val * 64 - 1, 0] := (by decide +kernel : ∀ t : Fin grid0.N, _)
theorem index2 : ∀ t : Fin cfg0.N, win0_2.index t = ![t.val, 1] := (by decide +kernel : ∀ t : Fin grid0.N, _)
theorem index3 : ∀ t : Fin cfg0.N, win0_3.index t = ![0, 0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem coord (t : Fin cfg0.N) : (grid0.coords t 0).val = t.val := by
  have h : ∀ t : Fin grid0.N, (grid0.coords t 0).val = t.val := by decide +kernel
  exact h t

theorem lt_eight (t : Fin cfg0.N) : t.val < 8 := lt_of_lt_of_eq t.isLt N_0

/-- Row `r` of the block at point `t`. -/
def row (t : Fin cfg0.N) (r : Fin 1024) : Fin 8192 := ⟨t.val * 1024 + r.val, by have := r.isLt; have := lt_eight t; omega⟩

/-- Row `n` of the sixteen before the block at point `t`. -/
def rowBefore (t : Fin cfg0.N) (n : Fin 16) : Fin 8192 := ⟨(t.val * 64 - 1) * 16 + n.val, by have := n.isLt; have := lt_eight t; omega⟩

/-- The projections, the matrices and the scale. -/
def P : S8192x6144.Idx → EReal := m ((c : Thread nD τ).loc main_arg0)
def PW : S4x256x256.Idx → EReal := m ((c : Thread nD τ).loc main_arg1)
def PS : S1x1024.Idx → EReal := m ((c : Thread nD τ).loc main_arg2)

theorem weights : V m c main_v0 = m ((c : Thread nD τ).loc main_arg1) := by
  entry_read
  rfl

theorem blk0 (t : Fin cfg0.N) (r : Fin 1024) (k : Fin 1024) : iblk m c 0 t (ix2 r k) = P m c (ix2 (row t r) ⟨k.val, by omega⟩) := by
  unfold row P; blk_point [iblk, V, index0 t]
theorem blk1 (t : Fin cfg0.N) (n : Fin 16) (k : Fin 1024) : iblk m c 1 t (ix2 n k) = P m c (ix2 (rowBefore t n) ⟨k.val, by omega⟩) := by
  unfold rowBefore P; blk_point [iblk, V, index1 t]
theorem blk2 (t : Fin cfg0.N) (r : Fin 1024) (k : Fin 1024) : iblk m c 2 t (ix2 r k) = gateArg (P m c) (ix2 (row t r) k) := by
  unfold row gateArg P; blk_point [iblk, V, index2 t]
theorem blk3 (t : Fin cfg0.N) (g : Fin 4) (j k : Fin 256) : iblk m c 3 t (ix3 g j k) = PW m c (ix3 g j k) := by
  unfold PW
  rw [← weights m c]
  blk_point [iblk, index3 t]
theorem blk4 (t : Fin cfg0.N) (k : Fin 1024) : iblk m c 4 t (ix2 0 k) = PS m c (ix2 0 k) := by
  unfold PS; blk_point [iblk, V, index4 t]

/-! What the kernel computes on a block is what the whole arrays give at the block's rows. -/

theorem pos_blk (t : Fin cfg0.N) (r : Fin 1024) : posOf (grid0.coords t 0) r = pos (row t r) := by
  unfold posOf pos row; rw [coord]

theorem ext_blk (t : Fin cfg0.N) (r : Fin 1024) (j : Fin 1024) (a : ℕ) (ha : a < 16) :
    ext (grid0.coords t 0) (iblk m c 0 t) (iblk m c 1 t) j (16 + r.val - a) =
      if a ≤ (row t r).val then argAt (P m c) j ((row t r).val - a) else 0 := by
  have ht := lt_eight t
  have hr := r.isLt
  have hv : (row t r).val = t.val * 1024 + r.val := rfl
  unfold ext argAt
  rw [coord]
  by_cases h1 : r.val < a
  · rw [dif_pos (by omega)]
    by_cases h2 : 0 < t.val
    · rw [if_pos h2, blk1, if_pos (by omega), dif_pos (by omega)]
      exact congrArg (fun n => P m c (ix2 n _)) (Fin.ext (by show (t.val * 64 - 1) * 16 + (16 + r.val - a) = t.val * 1024 + r.val - a; omega))
    · rw [if_neg h2, if_neg (by omega)]
  · rw [dif_neg (by omega), dif_pos (by omega), if_pos (by omega), dif_pos (by omega), blk0]
    exact congrArg (fun n => P m c (ix2 n _)) (Fin.ext (by show t.val * 1024 + (16 + r.val - a - 16) = t.val * 1024 + r.val - a; omega))

theorem span_le (g : Fin 4) : span g ≤ 16 := by unfold span; split <;> omega

theorem pooled_blk (t : Fin cfg0.N) (r : Fin 1024) (g : Fin 4) (k : Fin 256) :
    pooled (grid0.coords t 0) (iblk m c 0 t) (iblk m c 1 t) r g k = mean (P m c) (row t r) g k := by
  unfold pooled mean
  rw [pos_blk, blk0, Finset.sum_congr rfl fun a ha => ext_blk m c t r (col g k) a (lt_of_lt_of_le (Finset.mem_range.mp ha) (span_le g))]

theorem gated_blk (t : Fin cfg0.N) (r : Fin 1024) (g : Fin 4) (k : Fin 256) :
    gated (fun l => pooled (grid0.coords t 0) (iblk m c 0 t) (iblk m c 1 t) r g l) (iblk m c 3 t) (iblk m c 4 t) (iblk m c 2 t) r g k
      = gated (fun l => mean (P m c) (row t r) g l) (PW m c) (PS m c) (gateArg (P m c)) (row t r) g k := by
  simp only [gated, pooled_blk, blk2, blk3, blk4]

theorem result5 : (dats m 0 c).arrAt 5 cfg0.N = mixture (P m c) (PW m c) (PS m c) := by
  refine (dats m 0 c).arrAt_eq_of_covers 5 _ (by decide +kernel) fun t hf y => ?_
  obtain ⟨r, j, rfl⟩ : ∃ (r : Fin 1024) (j : Fin 1024), y = ix2 r j := ⟨_, _, idx2_eq y⟩
  rw [after0_5]
  have e : (win0_5.blk t).view.emb (ix2 r j) = ix2 (row t r) j := by
    refine funext fun a => Fin.ext ?_
    match a with
    | ⟨0, _⟩ => show win0_5.index t 0 * 1024 + 1 * r.val = t.val * 1024 + r.val; rw [index5 t, one_mul]; rfl
    | ⟨1, _⟩ => show win0_5.index t 1 * 1024 + 1 * j.val = j.val; rw [index5 t, one_mul]; exact Nat.zero_add _
  blk_simp
  rw [e]
  obtain ⟨g, k, rfl⟩ := col_surj j
  rw [mixture_apply]
  exact (out5 ..).trans (gated_blk m c t r g k)

theorem result6 : (dats m 0 c).arrAt 6 cfg0.N = means (P m c) := by
  refine (dats m 0 c).arrAt_eq_of_covers 6 _ (by decide +kernel) fun t hf y => ?_
  obtain ⟨r, j, rfl⟩ : ∃ (r : Fin 1024) (j : Fin 1024), y = ix2 r j := ⟨_, _, idx2_eq y⟩
  rw [after0_6]
  have e : (win0_6.blk t).view.emb (ix2 r j) = ix2 (row t r) j := by
    refine funext fun a => Fin.ext ?_
    match a with
    | ⟨0, _⟩ => show win0_6.index t 0 * 1024 + 1 * r.val = t.val * 1024 + r.val; rw [index6 t, one_mul]; rfl
    | ⟨1, _⟩ => show win0_6.index t 1 * 1024 + 1 * j.val = j.val; rw [index6 t, one_mul]; exact Nat.zero_add _
  blk_simp
  rw [e]
  obtain ⟨g, k, rfl⟩ := col_surj j
  rw [means_apply]
  exact (out6 ..).trans (pooled_blk m c t r g k)

end Cert.PoolFIdeal.Hand
-- ==== Proof.PoolFRef.lean ====
module

public import proofs.«01_k».proof.Proof.Reals
public import proofs.«01_k».proof.Proof.PoolFSum
public import proofs.«01_k».proof.Proof.Gen.PoolFRefIdeal.Read

@[expose] public section

set_option maxRecDepth 16384

noncomputable section

namespace Cert.PoolFIdeal.Hand

open Idealize.ShloMosaic Idealize.ShloMosaic.TcCoe Idealize.SL.Sem
open Cert.PoolFIdeal Cert.Hand
open Cert.PoolFRefIdeal.Read

variable (p : S8192x6144.Idx → EReal) (w : S4x256x256.Idx → EReal) (s : S1x1024.Idx → EReal)

theorem idx3_eq {n₀ n₁ n₂ : ℕ} (i : (⟨3, ![n₀, n₁, n₂]⟩ : Shape).Idx) : i = ix3 (i 0) (i 1) (i 2) :=
  funext fun a => by match a with | ⟨0, _⟩ => rfl | ⟨1, _⟩ => rfl | ⟨2, _⟩ => rfl

theorem split_col (r : Fin 8192) (g : Fin 4) (k : Fin 256) : idx_main_v49 (ix2 r (col g k)) = ix3 r g k := by
  have hg := g.isLt; have hk := k.isLt; have hr := r.isLt
  refine funext fun a => Fin.ext ?_
  match a with
  | ⟨0, _⟩ => show (r.val * 1024 + (g.val * 256 + k.val)) / 1024 = r.val; omega
  | ⟨1, _⟩ => show (r.val * 1024 + (g.val * 256 + k.val)) / 256 % 4 = g.val; omega
  | ⟨2, _⟩ => show (r.val * 1024 + (g.val * 256 + k.val)) % 256 = k.val; omega

theorem join_col (r : Fin 8192) (g : Fin 4) (k : Fin 256) : idx_main_v46 (ix3 r g k) = ix2 r (col g k) := by
  have hg := g.isLt; have hk := k.isLt; have hr := r.isLt
  refine funext fun a => Fin.ext ?_
  match a with
  | ⟨0, _⟩ => show ((r.val * 4 + g.val) * 256 + k.val) / 1024 = r.val; omega
  | ⟨1, _⟩ => show ((r.val * 4 + g.val) * 256 + k.val) % 1024 = g.val * 256 + k.val; omega

theorem ix2_of {a b : ℕ} (i : (⟨2, ![a, b]⟩ : Shape).Idx) {r : Fin a} {c : Fin b} (h0 : (i 0).val = r.val) (h1 : (i 1).val = c.val) :
    i = ix2 r c :=
  (Cert.Hand.idx2_eq i).trans (congrArg₂ (ix2 (n0 := a) (n1 := b)) (Fin.ext h0) (Fin.ext h1))

/-- A row's number, as the host counts it. -/
theorem r_pos (r : Fin 8192) : val_main_v7 (F := Ideal) (ix2 r 0) = pos r := by
  simp only [val_main_v7, val_main_v6, val_main_v5, val_main_v4, val_main_cst]
  pointwise []
  show (1 : EReal) + (((BitVec.ofNat 32 r.val).toInt : ℝ) : EReal) = _
  have hr := r.isLt
  rw [BitVec.toInt_eq_toNat_of_lt (by rw [BitVec.toNat_ofNat]; omega), BitVec.toNat_ofNat, Nat.mod_eq_of_lt (by omega), pos, add_comm]
  norm_cast

/-- One column of a window: its rows. -/
def rows8192 : (⟨2, ![8192, 1]⟩ : Shape).Idx ≃ Fin 8192 where
  toFun x := x 0
  invFun n := ix2 n 0
  left_inv x := (ix2_of x rfl (by have := (x 1).isLt; show (x 1).val = 0; exact Nat.lt_one_iff.mp this)).symm
  right_inv _ := rfl

/-- The window's elements from an initial value of zero, as one sum over the rows. -/
theorem window_sum (lo : ℕ) (hi : ℕ) (x : S8192x1024.Idx → EReal)
    (h : S8192x1024.ReduceWindows ![8192, 1] ![1, 1] ![lo, 0] ![hi, 0] S8192x1024) (v : EReal) (hv : v = 0) (r : Fin 8192) (j : Fin 1024) :
    Ideal.hostReduceWindowAdd ![8192, 1] ![1, 1] ![lo, 0] ![hi, 0] h x v (ix2 r j) =
      ∑ n : Fin 8192, if h : lo ≤ r.val + n.val ∧ r.val + n.val - lo < 8192 then x (ix2 ⟨r.val + n.val - lo, h.2⟩ j) else 0 := by
  refine (foldl_add_eq_sum _ _).trans ?_
  subst hv
  rw [zero_add, ← Equiv.sum_comp (Shape.rowMajor ⟨2, ![8192, 1]⟩)]
  refine Fintype.sum_equiv rows8192 _ _ fun w => ?_
  simp only [Equiv.symm_apply_apply]
  have hw : (w 1).val = 0 := Nat.lt_one_iff.mp (w 1).isLt
  have e0 : ((ix2 r j : S8192x1024.Idx) 0).val * 1 + (w 0).val = r.val + (rows8192 w).val := by rw [Nat.mul_one]; rfl
  split_ifs with h1 h2 h2
  · refine congrArg x (ix2_of _ ?_ ?_)
    · show r.val * 1 + (w 0).val - lo = _
      rw [Nat.mul_one]; rfl
    · show j.val * 1 + (w 1).val - 0 = _
      rw [hw]; omega
  · exact absurd (by have := h1 0; rw [← e0]; exact this) h2
  · refine absurd (fun a => ?_) h1
    match a with
    | ⟨0, _⟩ => rw [← e0] at h2; exact h2
    | ⟨1, _⟩ =>
      have := j.isLt
      refine ⟨Nat.zero_le _, ?_⟩
      show j.val * 1 + (w 1).val - 0 < 1024
      omega
  · rfl

/-- The pooled columns. -/
theorem r_arg (r : Fin 8192) (j : Fin 1024) : val_main_v1 (F := Ideal) p (ix2 r j) = p (ix2 r ⟨j.val, by omega⟩) := by
  simp only [val_main_v1, val_main_v0]
  pointwise []

/-- The running total at a row: the rows up to it, the latest first. -/
def total (j : Fin 1024) (n : ℕ) : EReal := ∑ a ∈ Finset.range (n + 1), argAt p j (n - a)

theorem r_total (r : Fin 8192) (j : Fin 1024) : val_main_v3 (F := Ideal) p (ix2 r j) = total p j r.val := by
  have hr := r.isLt
  unfold val_main_v3
  simp only [Host.reduceWindowAdd, Ideal.hostReduceWindowAdd_def]
  refine (window_sum 8191 0 _ _ _ (by simp only [val_main_call0_call0_v0, val_main_call0_call0_cst]; pointwise []) r j).trans ?_
  have e : ∀ n : Fin 8192, (if h : 8191 ≤ r.val + n.val ∧ r.val + n.val - 8191 < 8192 then
      val_main_v1 (F := Ideal) p (ix2 ⟨r.val + n.val - 8191, h.2⟩ j) else 0) =
      (fun n : ℕ => if 8191 ≤ r.val + n then argAt p j (r.val + n - 8191) else 0) n.val := fun n => by
    have hn := n.isLt
    by_cases h : 8191 ≤ r.val + n.val
    · rw [dif_pos ⟨h, by omega⟩, r_arg]
      show _ = if 8191 ≤ r.val + n.val then argAt p j (r.val + n.val - 8191) else 0
      rw [if_pos h, argAt, dif_pos (by omega)]
    · rw [dif_neg fun h' => h h'.1]
      show _ = if 8191 ≤ r.val + n.val then argAt p j (r.val + n.val - 8191) else 0
      rw [if_neg h]
  rw [Finset.sum_congr rfl fun n _ => e n, Fin.sum_univ_eq_sum_range (fun n : ℕ => if 8191 ≤ r.val + n then argAt p j (r.val + n - 8191) else 0) 8192, ← Finset.sum_range_reflect, total]
  refine (Finset.sum_subset_zero_on_sdiff (Finset.range_subset_range.mpr (by omega)) (fun a ha => ?_) fun a ha => ?_).symm
  · simp only [Finset.mem_sdiff, Finset.mem_range] at ha
    rw [if_neg (by omega)]
  · simp only [Finset.mem_range] at ha
    rw [if_pos (by omega)]
    exact congrArg (argAt p j) (by omega)

/-- The pooled columns are finite. -/
def Fin1 : Prop := ∀ (r : Fin 8192) (j : Fin 1024), IsReal (p (ix2 r ⟨j.val, by omega⟩))

variable {p} in
theorem Fin1.arg (h : Fin1 p) (j : Fin 1024) (n : ℕ) : IsReal (argAt p j n) := by
  unfold argAt
  split_ifs with hn
  · exact h _ _
  · exact .zero

theorem add_sub_real (x : EReal) {y : EReal} (h : IsReal y) : x + y - y = x := by
  obtain ⟨b, rfl⟩ := h
  exact EReal.add_sub_cancel_right

variable {p} in
/-- A total less the one a window earlier is the window's rows. -/
theorem Fin1.lag (h : Fin1 p) (j : Fin 1024) (b n : ℕ) :
    total p j n - (if n < b then 0 else total p j (n - b)) = ∑ a ∈ Finset.range b, if a ≤ n then argAt p j (n - a) else 0 := by
  split_ifs with hn
  · rw [sub_zero, total]
    refine Finset.sum_subset_zero_on_sdiff (Finset.range_subset_range.mpr (by omega)) (fun a ha => ?_) fun a ha => ?_
    · simp only [Finset.mem_sdiff, Finset.mem_range] at ha
      rw [if_neg (by omega)]
    · simp only [Finset.mem_range] at ha
      rw [if_pos (by omega)]
  · have e : total p j n = (∑ a ∈ Finset.range b, argAt p j (n - a)) + total p j (n - b) := by
      rw [total, show n + 1 = b + (n - b + 1) by omega, Finset.sum_range_add, total]
      exact congrArg₂ (· + ·) rfl (Finset.sum_congr rfl fun a _ => congrArg (argAt p j) (by omega))
    rw [e, add_sub_real _ (show IsReal (total p j (n - b)) from .sum _ fun a _ => h.arg j _)]
    refine Finset.sum_congr rfl fun a ha => ?_
    simp only [Finset.mem_range] at ha
    rw [if_pos (by omega)]

theorem lag_of (Q : ℕ → EReal) (b : ℕ) (r : Fin 8192) (x : EReal) (hx : x = if r.val < b then 0 else Q (r.val - b)) :
    Q r.val - x = Q r.val - (if r.val < b then 0 else Q (r.val - b)) := by rw [hx]

theorem window_real (g : Fin 4) : ∃ a : ℝ, window g = a ∧ 0 < a := by
  match g with
  | 0 => exact ⟨2, by simp [window, Ideal.ofBits, Ideal.ieee]; rw [← EReal.coe_mul]; congr 1; norm_num, by norm_num⟩
  | 1 => exact ⟨4, by simp [window, Ideal.ofBits, Ideal.ieee]; rw [← EReal.coe_mul]; congr 1; norm_num, by norm_num⟩
  | 2 => exact ⟨8, by simp [window, Ideal.ofBits, Ideal.ieee]; rw [← EReal.coe_mul]; congr 1; norm_num, by norm_num⟩
  | 3 => exact ⟨16, by simp [window, Ideal.ofBits, Ideal.ieee]; rw [← EReal.coe_mul]; congr 1; norm_num, by norm_num⟩

theorem count_real (r : Fin 8192) (g : Fin 4) : ∃ a : ℝ, min (pos r) (window g) = a ∧ 0 < a := by
  obtain ⟨a, ha, h⟩ := window_real g
  refine ⟨min ((r.val + 1 : ℕ) : ℝ) a, ?_, lt_min (by positivity) h⟩
  rw [ha, pos]
  exact (EReal.coe_strictMono.monotone.map_min).symm

theorem div_count (x : EReal) (r : Fin 8192) (g : Fin 4) :
    Ideal.div x (min (pos r) (window g)) = x * Ideal.div 1 (min (pos r) (window g)) := by
  obtain ⟨a, ha, h⟩ := count_real r g
  have h0 : ((a : ℝ) : EReal) ≠ 0 := by exact_mod_cast h.ne'
  rw [ha]
  simp only [Ideal.div, if_neg h0, one_mul]

theorem r_col0 (r : Fin 8192) (k : Fin 256) : val_main_v8 (F := Ideal) p (ix2 r k) = total p (col 0 k) r.val := by
  rw [← r_total]
  simp only [val_main_v8]
  pointwise [col]
theorem r_lag0 (h : Fin1 p) (r : Fin 8192) (k : Fin 256) :
    val_main_v14 (F := Ideal) p (ix2 r k) = ∑ a ∈ Finset.range 2, if a ≤ r.val then argAt p (col 0 k) (r.val - a) else 0 := by
  rw [← h.lag (col 0 k) 2 r.val]
  simp only [val_main_v14, val_main_v11, val_main_v10, val_main_v9, val_main_cst_0]
  pointwise []
  simp only [r_col0]
  refine lag_of (total p (col 0 k)) 2 r _ ?_
  have hr := r.isLt
  split_ifs <;> first | rfl | (exfalso; omega)
theorem r_mean0 (h : Fin1 p) (r : Fin 8192) (k : Fin 256) : val_main_v45 (F := Ideal) p (ix2 r (col 0 k)) = mean p r 0 k := by
  have e : val_main_v16 (F := Ideal) p (ix2 r k) = Ideal.div (∑ a ∈ Finset.range 2, if a ≤ r.val then argAt p (col 0 k) (r.val - a) else 0) (min (pos r) (window 0)) := by
    simp only [val_main_v16, val_main_v15, val_main_v13, val_main_v12, val_main_cst_1]
    pointwise []
    rw [r_pos, r_lag0 p h]
    rfl
  rw [div_count] at e
  unfold mean
  rw [← r_arg p r, show span 0 = 2 from rfl, ← e]
  have e' : val_main_v44 (F := Ideal) p (ix2 r (col 0 k)) = val_main_v16 (F := Ideal) p (ix2 r k) := by
    unfold val_main_v44
    generalize val_main_v16 (F := Ideal) p = a0
    generalize val_main_v25 (F := Ideal) p = a1
    generalize val_main_v34 (F := Ideal) p = a2
    generalize val_main_v43 (F := Ideal) p = a3
    pointwise [col]
  rw [← e']
  rfl
theorem r_col1 (r : Fin 8192) (k : Fin 256) : val_main_v17 (F := Ideal) p (ix2 r k) = total p (col 1 k) r.val := by
  rw [← r_total]
  simp only [val_main_v17]
  pointwise [col]
theorem r_lag1 (h : Fin1 p) (r : Fin 8192) (k : Fin 256) :
    val_main_v23 (F := Ideal) p (ix2 r k) = ∑ a ∈ Finset.range 4, if a ≤ r.val then argAt p (col 1 k) (r.val - a) else 0 := by
  rw [← h.lag (col 1 k) 4 r.val]
  simp only [val_main_v23, val_main_v20, val_main_v19, val_main_v18, val_main_cst_2]
  pointwise []
  simp only [r_col1]
  refine lag_of (total p (col 1 k)) 4 r _ ?_
  have hr := r.isLt
  split_ifs <;> first | rfl | (exfalso; omega)
theorem r_mean1 (h : Fin1 p) (r : Fin 8192) (k : Fin 256) : val_main_v45 (F := Ideal) p (ix2 r (col 1 k)) = mean p r 1 k := by
  have e : val_main_v25 (F := Ideal) p (ix2 r k) = Ideal.div (∑ a ∈ Finset.range 4, if a ≤ r.val then argAt p (col 1 k) (r.val - a) else 0) (min (pos r) (window 1)) := by
    simp only [val_main_v25, val_main_v24, val_main_v22, val_main_v21, val_main_cst_3]
    pointwise []
    rw [r_pos, r_lag1 p h]
    rfl
  rw [div_count] at e
  unfold mean
  rw [← r_arg p r, show span 1 = 4 from rfl, ← e]
  have e' : val_main_v44 (F := Ideal) p (ix2 r (col 1 k)) = val_main_v25 (F := Ideal) p (ix2 r k) := by
    unfold val_main_v44
    generalize val_main_v16 (F := Ideal) p = a0
    generalize val_main_v25 (F := Ideal) p = a1
    generalize val_main_v34 (F := Ideal) p = a2
    generalize val_main_v43 (F := Ideal) p = a3
    pointwise [col]
  rw [← e']
  rfl
theorem r_col2 (r : Fin 8192) (k : Fin 256) : val_main_v26 (F := Ideal) p (ix2 r k) = total p (col 2 k) r.val := by
  rw [← r_total]
  simp only [val_main_v26]
  pointwise [col]
theorem r_lag2 (h : Fin1 p) (r : Fin 8192) (k : Fin 256) :
    val_main_v32 (F := Ideal) p (ix2 r k) = ∑ a ∈ Finset.range 8, if a ≤ r.val then argAt p (col 2 k) (r.val - a) else 0 := by
  rw [← h.lag (col 2 k) 8 r.val]
  simp only [val_main_v32, val_main_v29, val_main_v28, val_main_v27, val_main_cst_4]
  pointwise []
  simp only [r_col2]
  refine lag_of (total p (col 2 k)) 8 r _ ?_
  have hr := r.isLt
  split_ifs <;> first | rfl | (exfalso; omega)
theorem r_mean2 (h : Fin1 p) (r : Fin 8192) (k : Fin 256) : val_main_v45 (F := Ideal) p (ix2 r (col 2 k)) = mean p r 2 k := by
  have e : val_main_v34 (F := Ideal) p (ix2 r k) = Ideal.div (∑ a ∈ Finset.range 8, if a ≤ r.val then argAt p (col 2 k) (r.val - a) else 0) (min (pos r) (window 2)) := by
    simp only [val_main_v34, val_main_v33, val_main_v31, val_main_v30, val_main_cst_5]
    pointwise []
    rw [r_pos, r_lag2 p h]
    rfl
  rw [div_count] at e
  unfold mean
  rw [← r_arg p r, show span 2 = 8 from rfl, ← e]
  have e' : val_main_v44 (F := Ideal) p (ix2 r (col 2 k)) = val_main_v34 (F := Ideal) p (ix2 r k) := by
    unfold val_main_v44
    generalize val_main_v16 (F := Ideal) p = a0
    generalize val_main_v25 (F := Ideal) p = a1
    generalize val_main_v34 (F := Ideal) p = a2
    generalize val_main_v43 (F := Ideal) p = a3
    pointwise [col]
    rw [dif_neg (by omega), dif_neg (by omega), dif_pos (by omega)]
    exact congrArg (fun n => a2 (ix2 r n)) (Fin.ext (by show 512 + k.val - 256 - 256 = k.val; omega))
  rw [← e']
  rfl
theorem r_col3 (r : Fin 8192) (k : Fin 256) : val_main_v35 (F := Ideal) p (ix2 r k) = total p (col 3 k) r.val := by
  rw [← r_total]
  simp only [val_main_v35]
  pointwise [col]
theorem r_lag3 (h : Fin1 p) (r : Fin 8192) (k : Fin 256) :
    val_main_v41 (F := Ideal) p (ix2 r k) = ∑ a ∈ Finset.range 16, if a ≤ r.val then argAt p (col 3 k) (r.val - a) else 0 := by
  rw [← h.lag (col 3 k) 16 r.val]
  simp only [val_main_v41, val_main_v38, val_main_v37, val_main_v36, val_main_cst_6]
  pointwise []
  simp only [r_col3]
  refine lag_of (total p (col 3 k)) 16 r _ ?_
  have hr := r.isLt
  split_ifs <;> first | rfl | (exfalso; omega)
theorem r_mean3 (h : Fin1 p) (r : Fin 8192) (k : Fin 256) : val_main_v45 (F := Ideal) p (ix2 r (col 3 k)) = mean p r 3 k := by
  have e : val_main_v43 (F := Ideal) p (ix2 r k) = Ideal.div (∑ a ∈ Finset.range 16, if a ≤ r.val then argAt p (col 3 k) (r.val - a) else 0) (min (pos r) (window 3)) := by
    simp only [val_main_v43, val_main_v42, val_main_v40, val_main_v39, val_main_cst_7]
    pointwise []
    rw [r_pos, r_lag3 p h]
    rfl
  rw [div_count] at e
  unfold mean
  rw [← r_arg p r, show span 3 = 16 from rfl, ← e]
  have e' : val_main_v44 (F := Ideal) p (ix2 r (col 3 k)) = val_main_v43 (F := Ideal) p (ix2 r k) := by
    unfold val_main_v44
    generalize val_main_v16 (F := Ideal) p = a0
    generalize val_main_v25 (F := Ideal) p = a1
    generalize val_main_v34 (F := Ideal) p = a2
    generalize val_main_v43 (F := Ideal) p = a3
    pointwise [col]
    rw [dif_neg (by omega), dif_neg (by omega), dif_neg (by omega)]
    exact congrArg (fun n => a3 (ix2 r n)) (Fin.ext (by show 768 + k.val - 256 - 256 - 256 = k.val; omega))
  rw [← e']
  rfl

theorem r_mean (h : Fin1 p) (r : Fin 8192) (g : Fin 4) (k : Fin 256) : val_main_v45 (F := Ideal) p (ix2 r (col g k)) = mean p r g k := by
  match g with
  | 0 => exact r_mean0 p h r k
  | 1 => exact r_mean1 p h r k
  | 2 => exact r_mean2 p h r k
  | 3 => exact r_mean3 p h r k

/-- The mixture of the pooled channels. -/
theorem r_mixed (h : Fin1 p) (r : Fin 8192) (g : Fin 4) (k : Fin 256) :
    val_main_v49 (F := Ideal) p w (ix2 r (col g k)) = ∑ l : Fin 256, mean p r g l * w (ix3 g l k) := by
  rw [val_main_v49_apply, split_col, val_main_v48_apply, val_main_v47_apply]
  refine Finset.sum_congr rfl fun l _ => ?_
  rw [mul_comm, show lidx_main_v47 (idx_main_v48 (ix3 r g k)) l = ix3 g l k from idx3_eq _,
    show ridx_main_v47 (idx_main_v48 (ix3 r g k)) l = ix3 r g l from idx3_eq _, val_main_v46_apply, join_col, r_mean p h]

theorem r_gate (r : Fin 8192) (k : Fin 1024) : val_main_v2 (F := Ideal) p (ix2 r k) = gateArg p (ix2 r k) := by
  simp only [val_main_v2, val_main_v0]
  pointwise [gateArg]

theorem r_sig (r : Fin 8192) (k : Fin 1024) : val_main_call1_v5 (F := Ideal) p (ix2 r k) = Ideal.logistic (gateArg p (ix2 r k)) := by
  simp only [val_main_call1_v5, val_main_call1_v4, val_main_call1_v3, val_main_call1_v2, val_main_call1_v1, val_main_call1_v0, val_main_call1_cst, val_main_call1_cst_0]
  pointwise []
  rw [r_gate]; rfl

/-- The gated mixture. -/
theorem ref5 (h : Fin1 p) : val_main_v54 (F := Ideal) p w s = mixture p w s := by
  refine by_rows (a := 8192) (b := 1024) fun r j => ?_
  obtain ⟨g, k, rfl⟩ := col_surj j
  rw [mixture_apply, gated, ← r_mixed p w h, ← r_sig, ← r_gate]
  simp only [val_main_v54, val_main_v53, val_main_v52, val_main_v51, val_main_v50]
  pointwise []

/-- The pooled rows. -/
theorem ref6 (h : Fin1 p) : val_main_v98 (F := Ideal) p = means p := by
  refine by_rows (a := 8192) (b := 1024) fun r j => ?_
  obtain ⟨g, k, rfl⟩ := col_surj j
  rw [means_apply, ← r_mean p h]
  rfl

end Cert.PoolFIdeal.Hand
-- ==== Proof.PoolFTie.lean ====
module

public import proofs.«01_k».proof.Defs
public import proofs.«01_k».proof.Proof.PoolFRef
public import proofs.«01_k».proof.Proof.Gen.Pre_finite_poolf

@[expose] public section

set_option maxRecDepth 16384

noncomputable section

namespace Cert.PoolFIdeal.Hand

open Idealize.ShloMosaic Idealize.ShloMosaic.TcCoe Idealize.SL.Sem
open Cert.PoolFIdeal Cert.PoolFIdeal.Gen Cert.Hand
open Cert.PoolFRefIdeal.Read

/-- The pooled columns' finiteness, element by element. -/
theorem Fin1.of_pre {p : S8192x6144.Idx → EReal} {w : S4x256x256.Idx → EReal} {s : S1x1024.Idx → EReal}
    (h : Cert.Pre_finite_poolf.fn (F := Ideal) p w s = fun _ => 1#1) : Fin1 p := fun r j => by
  refine real_of_cmp ?_
  rw [← congrFun h (ix2 r j)]
  simp only [Cert.Pre_finite_poolf.fn]
  pointwise []
  rfl

variable (m : (ℓ : Loc nD τ sig) → Buf (Elt Ideal) ℓ) (c : Dev nD)

theorem tie5 (h : Fin1 (P m c)) : (dats m 0 c).arrAt 5 cfg0.N = val_main_v54 (F := Ideal) (P m c) (PW m c) (PS m c) := by
  rw [ref5 _ _ _ h, result5]

theorem tie6 (h : Fin1 (P m c)) : (dats m 0 c).arrAt 6 cfg0.N = val_main_v98 (F := Ideal) (P m c) := by
  rw [ref6 _ h, result6]

end Cert.PoolFIdeal.Hand
-- ==== Proof.Adam.lean ====
/- One step of the optimiser on one element of a weight, shared by the value proofs of the calls that end in it. -/
module

public import proofs.«01_k».proof.Proof.Common

@[expose] public section

noncomputable section

namespace Cert.Hand

open Idealize.ShloMosaic

/-- The first moment after the step. -/
def moment (m g : EReal) : EReal := Ideal.ofBits .f32 0x3F666666#32 * m + Ideal.ofBits .f32 0x3DCCCCCD#32 * g

/-- The second moment after the step. -/
def variance (v g : EReal) : EReal := Ideal.ofBits .f32 0x3F7FBE77#32 * v + Ideal.ofBits .f32 0x3A83126F#32 * (g * g)

/-- What the step adds to the weight, with the weight's decay. -/
def change (w g m v : EReal) : EReal :=
  Ideal.ofBits .f32 0xBA83126F#32
    * (Ideal.div (Ideal.div (moment m g) (Ideal.ofBits .f32 0x3F26BD02#32))
        (Ideal.sqrt (Ideal.div (variance v g) (Ideal.ofBits .f32 0x3C231ACC#32)) + Ideal.ofBits .f32 0x322BCC77#32)
      + Ideal.ofBits .f32 0x3C23D70A#32 * w)

end Cert.Hand

end
-- ==== Proof.AdamInTie.lean ====
/- The optimiser's step on the projection's weight: the kernel's four arrays are the reference's. -/
module

public import proofs.«01_k».proof.Proof.Adam
public import proofs.«01_k».proof.Proof.Gen.AdamInIdeal.Value
public import proofs.«01_k».proof.Proof.Gen.AdamInRefIdeal.Read

@[expose] public section

set_option maxRecDepth 16384

noncomputable section

namespace Cert.AdamInIdeal.Hand

open Idealize.ShloMosaic Idealize.ShloMosaic.TcCoe Idealize.SL.Sem
open Cert.AdamInIdeal Cert.AdamInIdeal.Gen Cert.Hand
open Cert.AdamInRefIdeal.Read

/-- The gradient: the sum over the eight sources. -/
def total {n k : ℕ} (p : (⟨3, ![8, n, k]⟩ : Shape).Idx → EReal) (r : Fin n) (j : Fin k) : EReal := ∑ s : Fin 8, p (ix3 s r j)

/-! One block. -/

/-- One source's rows, loaded. -/
theorem ld_source {Val : EltTy → Type} {e : EltTy} (s : Fin 8) (o : ℕ) (ho : o = s.val) (X : S8x256x768.Idx → Val e) (inb) (r : Fin 256) (j : Fin 768) :
    View.ld X (Rect.unit (s := S8x256x768) ![o, 0, 0] ![1, 256, 768] inb) (ix3 0 r j) = X (ix3 s r j) :=
  View.ld_unit_apply_of _ _ _ _ _ (ix3 s r j) (fun a => by match a with | ⟨0, _⟩ => exact ho.symm | ⟨1, _⟩ => exact (Nat.zero_add _).symm | ⟨2, _⟩ => exact (Nat.zero_add _).symm)

/-- A whole block, loaded. -/
theorem ld_whole {Val : EltTy → Type} {e : EltTy} {a b : ℕ} (X : (⟨2, ![a, b]⟩ : Shape).Idx → Val e) (inb) (r : Fin a) (k : Fin b) :
    View.ld X (Rect.unit (s := ⟨2, ![a, b]⟩) ![0, 0] ![a, b] inb) (ix2 r k) = X (ix2 r k) :=
  View.ld_unit_apply_of _ _ _ _ _ (ix2 r k) (fun a => by match a with | ⟨0, _⟩ => exact (Nat.zero_add _).symm | ⟨1, _⟩ => exact (Nat.zero_add _).symm)

section Block
variable (x0 : Vec Ideal S8x256x768 .bf16) (x1 x2 x3 : Vec Ideal S256x768 .f32) (r : Fin 256) (j : Fin 768)

theorem sum_block : k0_pay4 (F := Ideal) (View.ld x0 r0_0) (View.ld x0 r0_1) (View.ld x0 r0_2) (View.ld x0 r0_3) (View.ld x0 r0_4) (View.ld x0 r0_5)
    (View.ld x0 r0_6) (View.ld x0 r0_7) (ix2 r j) = total x0 r j := by
  pointwise [k0_pay4, total]
  rw [Fin.sum_univ_eight, ← ld_source 0 0 rfl x0, ← ld_source 1 1 rfl x0, ← ld_source 2 2 rfl x0, ← ld_source 3 3 rfl x0, ← ld_source 4 4 rfl x0,
    ← ld_source 5 5 rfl x0, ← ld_source 6 6 rfl x0, ← ld_source 7 7 rfl x0]
  all_goals decide

theorem pay5_apply : k0_pay5 (F := Ideal) x0 x1 x2 x3 (ix2 r j) = total x0 r j := by
  unfold k0_pay5; exact sum_block x0 r j

theorem pay1_apply (g v : FVec Ideal S256x768 .f32) : k0_pay1 (F := Ideal) g v (ix2 r j) = moment (v (ix2 r j)) (g (ix2 r j)) := by
  pointwise [k0_pay1, moment]
theorem pay2_apply (g v : FVec Ideal S256x768 .f32) : k0_pay2 (F := Ideal) g v (ix2 r j) = variance (v (ix2 r j)) (g (ix2 r j)) := by
  pointwise [k0_pay2, variance]
theorem pay3_apply (g w m v : FVec Ideal S256x768 .f32) :
    k0_pay3 (F := Ideal) g w m v (ix2 r j) = change (w (ix2 r j)) (g (ix2 r j)) (m (ix2 r j)) (v (ix2 r j)) := by
  pointwise [k0_pay3, change]
  rw [pay1_apply, pay2_apply]

theorem out4 : out0_4 x0 x1 x2 x3 (ix2 r j) = total x0 r j := by
  unfold out0_4
  exact (stored rfl r j).trans (sum_block x0 r j)
theorem out5 : out0_5 x0 x1 x2 x3 (ix2 r j) = change (x1 (ix2 r j)) (total x0 r j) (x2 (ix2 r j)) (x3 (ix2 r j)) := by
  unfold out0_5
  refine (stored rfl r j).trans ((pay3_apply ..).trans ?_)
  rw [pay5_apply]
  exact congr (congr (congrArg (change · _) (ld_whole x1 _ r j)) (ld_whole x2 _ r j)) (ld_whole x3 _ r j)
theorem out6 : out0_6 x0 x1 x2 x3 (ix2 r j) = moment (x2 (ix2 r j)) (total x0 r j) := by
  unfold out0_6
  refine (stored rfl r j).trans ((pay1_apply ..).trans ?_)
  rw [pay5_apply]
  exact congrArg (moment · _) (ld_whole x2 _ r j)
theorem out7 : out0_7 x0 x1 x2 x3 (ix2 r j) = variance (x3 (ix2 r j)) (total x0 r j) := by
  unfold out0_7
  refine (stored rfl r j).trans ((pay2_apply ..).trans ?_)
  rw [pay5_apply]
  exact congrArg (variance · _) (ld_whole x3 _ r j)

end Block

/-! The blocks are rows of the whole arrays. -/

variable (m : (ℓ : Loc nD τ sig) → Buf (Elt Ideal) ℓ) (c : Dev nD)

theorem index0 : ∀ t : Fin cfg0.N, win0_0.index t = ![0, t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)

theorem lt_four (t : Fin cfg0.N) : t.val < 4 := lt_of_lt_of_eq t.isLt N_0

/-- Row `r` of the block at point `t`. -/
def row (t : Fin cfg0.N) (r : Fin 256) : Fin 1024 := ⟨t.val * 256 + r.val, by have := r.isLt; have := lt_four t; omega⟩

/-- The sources' gradients, the weight and its moments. -/
def P : S8x1024x768.Idx → EReal := m ((c : Thread nD τ).loc main_arg0)
def W : S1024x768.Idx → EReal := m ((c : Thread nD τ).loc main_arg1)
def M : S1024x768.Idx → EReal := m ((c : Thread nD τ).loc main_arg2)
def S : S1024x768.Idx → EReal := m ((c : Thread nD τ).loc main_arg3)

theorem blk0 (t : Fin cfg0.N) (s : Fin 8) (r : Fin 256) (j : Fin 768) : iblk m c 0 t (ix3 s r j) = P m c (ix3 s (row t r) j) := by
  unfold row P; blk_point [iblk, V, index0 t]
theorem blk1 (t : Fin cfg0.N) (r : Fin 256) (j : Fin 768) : iblk m c 1 t (ix2 r j) = W m c (ix2 (row t r) j) := by
  unfold row W; blk_point [iblk, V, index1 t]
theorem blk2 (t : Fin cfg0.N) (r : Fin 256) (j : Fin 768) : iblk m c 2 t (ix2 r j) = M m c (ix2 (row t r) j) := by
  unfold row M; blk_point [iblk, V, index2 t]
theorem blk3 (t : Fin cfg0.N) (r : Fin 256) (j : Fin 768) : iblk m c 3 t (ix2 r j) = S m c (ix2 (row t r) j) := by
  unfold row S; blk_point [iblk, V, index3 t]

theorem total_blk (t : Fin cfg0.N) (r : Fin 256) (j : Fin 768) : total (n := 256) (k := 768) (iblk m c 0 t) r j = total (P m c) (row t r) j := by
  unfold total
  exact Finset.sum_congr rfl fun s _ => blk0 m c t s r j

/-- An element of an output's block is the element of its array at the block's row. -/
theorem place (t : Fin cfg0.N) (r : Fin 256) (j : Fin 768) (n : Fin 2 → ℕ) (hn : n = ![t.val, 0]) :
    n 0 * 256 + 1 * r.val = (row t r).val ∧ n 1 * 768 + 1 * j.val = j.val := by
  subst hn; exact ⟨by show t.val * 256 + 1 * r.val = t.val * 256 + r.val; omega, by show 0 * 768 + 1 * j.val = j.val; omega⟩

theorem result4 : (dats m 0 c).arrAt 4 cfg0.N = fun i : S1024x768.Idx => total (P m c) (i 0) (i 1) := by
  refine (dats m 0 c).arrAt_eq_of_covers 4 _ (by decide +kernel) fun t hf y => ?_
  obtain ⟨r, j, rfl⟩ : ∃ (r : Fin 256) (j : Fin 768), y = ix2 r j := ⟨_, _, idx2_eq y⟩
  have e : (win0_4.blk t).view.emb (ix2 r j) = ix2 (row t r) j := by
    refine funext fun a => Fin.ext ?_
    match a with
    | ⟨0, _⟩ => exact (place t r j _ (index4 t)).1
    | ⟨1, _⟩ => exact (place t r j _ (index4 t)).2
  rw [after0_4]
  blk_simp
  rw [e]
  exact (out4 ..).trans (total_blk m c t r j)

theorem result5 : (dats m 0 c).arrAt 5 cfg0.N = fun i : S1024x768.Idx => change (W m c i) (total (P m c) (i 0) (i 1)) (M m c i) (S m c i) := by
  refine (dats m 0 c).arrAt_eq_of_covers 5 _ (by decide +kernel) fun t hf y => ?_
  obtain ⟨r, j, rfl⟩ : ∃ (r : Fin 256) (j : Fin 768), y = ix2 r j := ⟨_, _, idx2_eq y⟩
  have e : (win0_5.blk t).view.emb (ix2 r j) = ix2 (row t r) j := by
    refine funext fun a => Fin.ext ?_
    match a with
    | ⟨0, _⟩ => exact (place t r j _ (index5 t)).1
    | ⟨1, _⟩ => exact (place t r j _ (index5 t)).2
  rw [after0_5]
  blk_simp
  rw [e]
  refine (out5 ..).trans ?_
  rw [total_blk, blk1, blk2, blk3]
  rfl

theorem result6 : (dats m 0 c).arrAt 6 cfg0.N = fun i : S1024x768.Idx => moment (M m c i) (total (P m c) (i 0) (i 1)) := by
  refine (dats m 0 c).arrAt_eq_of_covers 6 _ (by decide +kernel) fun t hf y => ?_
  obtain ⟨r, j, rfl⟩ : ∃ (r : Fin 256) (j : Fin 768), y = ix2 r j := ⟨_, _, idx2_eq y⟩
  have e : (win0_6.blk t).view.emb (ix2 r j) = ix2 (row t r) j := by
    refine funext fun a => Fin.ext ?_
    match a with
    | ⟨0, _⟩ => exact (place t r j _ (index6 t)).1
    | ⟨1, _⟩ => exact (place t r j _ (index6 t)).2
  rw [after0_6]
  blk_simp
  rw [e]
  refine (out6 ..).trans ?_
  rw [total_blk, blk2]
  rfl

theorem result7 : (dats m 0 c).arrAt 7 cfg0.N = fun i : S1024x768.Idx => variance (S m c i) (total (P m c) (i 0) (i 1)) := by
  refine (dats m 0 c).arrAt_eq_of_covers 7 _ (by decide +kernel) fun t hf y => ?_
  obtain ⟨r, j, rfl⟩ : ∃ (r : Fin 256) (j : Fin 768), y = ix2 r j := ⟨_, _, idx2_eq y⟩
  have e : (win0_7.blk t).view.emb (ix2 r j) = ix2 (row t r) j := by
    refine funext fun a => Fin.ext ?_
    match a with
    | ⟨0, _⟩ => exact (place t r j _ (index7 t)).1
    | ⟨1, _⟩ => exact (place t r j _ (index7 t)).2
  rw [after0_7]
  blk_simp
  rw [e]
  refine (out7 ..).trans ?_
  rw [total_blk, blk3]
  rfl

/-! The reference. -/

section Ref
variable (p : S8x1024x768.Idx → EReal) (w u v : S1024x768.Idx → EReal) (r : Fin 1024) (j : Fin 768)

theorem ref1 : val_main_v1 (F := Ideal) p (ix2 r j) = total p r j := by
  rw [val_main_v1_apply]
  refine (congrArg (· + _) (show val_main_cst (F := Ideal) _ = 0 from Ideal.ofBits_zero .f32)).trans ((zero_add _).trans ?_)
  unfold total
  exact Finset.sum_congr rfl fun s _ => congrArg p (funext fun a => by match a with | ⟨0, _⟩ => rfl | ⟨1, _⟩ => rfl | ⟨2, _⟩ => rfl)

theorem ref6 : val_main_v6 (F := Ideal) p u (ix2 r j) = moment (u (ix2 r j)) (total p r j) := by
  rw [val_main_v6_apply, val_main_v5_apply, ref1]; rfl
theorem ref12 : val_main_v12 (F := Ideal) p v (ix2 r j) = variance (v (ix2 r j)) (total p r j) := by
  rw [val_main_v12_apply, val_main_v11_apply, val_main_v9_apply, ref1]; rfl
theorem ref25 : val_main_v25 (F := Ideal) p w u v (ix2 r j) = change (w (ix2 r j)) (total p r j) (u (ix2 r j)) (v (ix2 r j)) := by
  rw [val_main_v25_apply, val_main_v23_apply, val_main_v20_apply, val_main_v14_apply, ref6, val_main_v19_apply, val_main_v17_apply, val_main_v16_apply, ref12]
  rfl

end Ref

theorem tie4 : (dats m 0 c).arrAt 4 cfg0.N = val_main_v1 (F := Ideal) (P m c) := by
  rw [result4]; exact by_rows fun r j => (ref1 _ r j).symm
theorem tie5 : (dats m 0 c).arrAt 5 cfg0.N = val_main_v25 (F := Ideal) (P m c) (W m c) (M m c) (S m c) := by
  rw [result5]; exact by_rows fun r j => (ref25 _ _ _ _ r j).symm
theorem tie6 : (dats m 0 c).arrAt 6 cfg0.N = val_main_v6 (F := Ideal) (P m c) (M m c) := by
  rw [result6]; exact by_rows fun r j => (ref6 _ _ r j).symm
theorem tie7 : (dats m 0 c).arrAt 7 cfg0.N = val_main_v12 (F := Ideal) (P m c) (S m c) := by
  rw [result7]; exact by_rows fun r j => (ref12 _ _ r j).symm

end Cert.AdamInIdeal.Hand

end
-- ==== Proof.AdaUTie.lean ====
/- The modulation's weight: its gradient and the optimiser's step, the kernel's four arrays are the reference's. -/
module

public import proofs.«01_k».proof.Proof.Adam
public import proofs.«01_k».proof.Proof.Gen.AdaUIdeal.Value
public import proofs.«01_k».proof.Proof.Gen.AdaURefIdeal.Read

@[expose] public section

set_option maxRecDepth 16384

noncomputable section

namespace Cert.AdaUIdeal.Hand

open Idealize.ShloMosaic Idealize.ShloMosaic.TcCoe Idealize.SL.Sem
open Cert.AdaUIdeal Cert.AdaUIdeal.Gen Cert.Hand
open Cert.AdaURefIdeal.Read

variable (q : S8x1024.Idx → EReal) (d : S8x384.Idx → EReal) (w u v : S1024x384.Idx → EReal) (r : Fin 1024) (j : Fin 384)

/-- The gradient: the gated conditioning times the modulation's gradient, summed over the batch. -/
def grad : EReal := ∑ b : Fin 8, q (ix2 b r) * Ideal.logistic (q (ix2 b r)) * d (ix2 b j)

theorem pay1_apply : k0_pay1 (F := Ideal) q d (ix2 r j) = grad q d r j := by
  pointwise [k0_pay1, grad]
theorem pay2_apply : k0_pay2 (F := Ideal) q d u (ix2 r j) = moment (u (ix2 r j)) (grad q d r j) := by
  pointwise [k0_pay2, moment]
  rw [pay1_apply]
theorem pay3_apply : k0_pay3 (F := Ideal) q d v (ix2 r j) = variance (v (ix2 r j)) (grad q d r j) := by
  pointwise [k0_pay3, variance]
  rw [pay1_apply]
theorem pay4_apply : k0_pay4 (F := Ideal) q d w u v (ix2 r j) = change (w (ix2 r j)) (grad q d r j) (u (ix2 r j)) (v (ix2 r j)) := by
  pointwise [k0_pay4, change]
  rw [pay2_apply, pay3_apply]

theorem ref0 (b : Fin 8) : val_main_v0 (F := Ideal) q (ix2 b r) = q (ix2 b r) * Ideal.logistic (q (ix2 b r)) := by
  simp only [val_main_v0, val_main_call0_v5, val_main_call0_v4, val_main_call0_cst_0, val_main_call0_v3, val_main_call0_v2, val_main_call0_cst, val_main_call0_v1, val_main_call0_v0]
  pointwise []
  rfl

theorem ref3 : val_main_v3 (F := Ideal) q d (ix2 r j) = grad q d r j := by
  rw [val_main_v3_apply, val_main_v2_apply]
  unfold grad
  refine Finset.sum_congr rfl fun b _ => (mul_comm _ _).trans (congr (congrArg HMul.hMul ?_) ?_)
  · have e : ridx_main_v2 (idx_main_v3 (ix2 r j)) b = ix2 b r := funext fun a => by match a with | ⟨0, _⟩ => rfl | ⟨1, _⟩ => rfl
    rw [e, ref0]
  · exact congrArg d (funext fun a => by match a with | ⟨0, _⟩ => rfl | ⟨1, _⟩ => rfl)

theorem ref8 : val_main_v8 (F := Ideal) q d u (ix2 r j) = moment (u (ix2 r j)) (grad q d r j) := by
  rw [val_main_v8_apply, val_main_v7_apply, ref3]; rfl
theorem ref14 : val_main_v14 (F := Ideal) q d v (ix2 r j) = variance (v (ix2 r j)) (grad q d r j) := by
  rw [val_main_v14_apply, val_main_v13_apply, val_main_v11_apply, ref3]; rfl
theorem ref27 : val_main_v27 (F := Ideal) q d w u v (ix2 r j) = change (w (ix2 r j)) (grad q d r j) (u (ix2 r j)) (v (ix2 r j)) := by
  rw [val_main_v27_apply, val_main_v25_apply, val_main_v22_apply, val_main_v16_apply, ref8, val_main_v21_apply, val_main_v19_apply, val_main_v18_apply, ref14]
  rfl

theorem tie5 : k0_pay1 (F := Ideal) q d = val_main_v3 (F := Ideal) q d :=
  by_rows fun r j => (pay1_apply q d r j).trans (ref3 q d r j).symm
theorem tie6 : k0_pay4 (F := Ideal) q d w u v = val_main_v27 (F := Ideal) q d w u v :=
  by_rows fun r j => (pay4_apply q d w u v r j).trans (ref27 q d w u v r j).symm
theorem tie7 : k0_pay2 (F := Ideal) q d u = val_main_v8 (F := Ideal) q d u :=
  by_rows fun r j => (pay2_apply q d u r j).trans (ref8 q d u r j).symm
theorem tie8 : k0_pay3 (F := Ideal) q d v = val_main_v14 (F := Ideal) q d v :=
  by_rows fun r j => (pay3_apply q d v r j).trans (ref14 q d v r j).symm

end Cert.AdaUIdeal.Hand

end
-- ==== Proof.SumSmallTie.lean ====
/- The sums of the small gradients over their sources: the kernel's three arrays are the reference's. -/
module

public import proofs.«01_k».proof.Proof.Common
public import proofs.«01_k».proof.Proof.Gen.SumSmallIdeal.Value
public import proofs.«01_k».proof.Proof.Gen.SumSmallRefIdeal.Read

@[expose] public section

set_option maxRecDepth 16384

noncomputable section

namespace Cert.SumSmallIdeal.Hand

open Idealize.ShloMosaic Idealize.ShloMosaic.TcCoe Idealize.SL.Sem
open Cert.SumSmallIdeal Cert.SumSmallIdeal.Gen Cert.SumSmallIdeal.Value Cert.Hand
open Cert.SumSmallRefIdeal.Read

/-- The sum over the eight sources. -/
def total {n k : ℕ} (p : (⟨3, ![8, n, k]⟩ : Shape).Idx → EReal) (r : Fin n) (j : Fin k) : EReal := ∑ s : Fin 8, p (ix3 s r j)

/-- One source's rows, loaded. -/
theorem ld_source {Val : EltTy → Type} {e : EltTy} {n k : ℕ} (s : Fin 8) (o : ℕ) (ho : o = s.val) (X : (⟨3, ![8, n, k]⟩ : Shape).Idx → Val e) (inb)
    (r : Fin n) (j : Fin k) : View.ld X (Rect.unit (s := ⟨3, ![8, n, k]⟩) ![o, 0, 0] ![1, n, k] inb) (ix3 0 r j) = X (ix3 s r j) :=
  View.ld_unit_apply_of _ _ _ _ _ (ix3 s r j) (fun a => by match a with | ⟨0, _⟩ => exact ho.symm | ⟨1, _⟩ => exact (Nat.zero_add _).symm | ⟨2, _⟩ => exact (Nat.zero_add _).symm)

variable (x0 : S8x16x1024.Idx → EReal) (x1 : S8x256x1024.Idx → EReal) (x2 : S8x3x1024.Idx → EReal)

theorem small (r : Fin 16) (j : Fin 1024) : G3 (F := Ideal) x0 x1 x2 (ix2 r j) = total x0 r j := by
  pointwise [G3, k0_pay2, total]
  have hl := fun (s : Fin 8) o ho inb => ld_source (Val := Elt Ideal) (e := .f32) (n := 16) (k := 1024) s o ho x0 inb r j
  rw [Fin.sum_univ_eight, ← hl 0 0 rfl, ← hl 1 1 rfl, ← hl 2 2 rfl, ← hl 3 3 rfl, ← hl 4 4 rfl,
    ← hl 5 5 rfl, ← hl 6 6 rfl, ← hl 7 7 rfl]
  all_goals decide

theorem wide (r : Fin 256) (j : Fin 1024) : G4 (F := Ideal) x0 x1 x2 (ix2 r j) = total x1 r j := by
  pointwise [G4, k0_pay4, k0_pay3, total]
  have hl := fun (s : Fin 8) o ho inb => ld_source (Val := Elt Ideal) (e := .bf16) (n := 256) (k := 1024) s o ho x1 inb r j
  rw [Fin.sum_univ_eight, ← hl 0 0 rfl, ← hl 1 1 rfl, ← hl 2 2 rfl, ← hl 3 3 rfl, ← hl 4 4 rfl,
    ← hl 5 5 rfl, ← hl 6 6 rfl, ← hl 7 7 rfl]
  all_goals decide

theorem rows (r : Fin 3) (j : Fin 1024) : G5 (F := Ideal) x0 x1 x2 (ix2 r j) = total x2 r j := by
  pointwise [G5, k0_pay1, k0_pay5, k0_pay6, total]
  have hl := fun (s : Fin 8) o ho inb => ld_source (Val := Elt Ideal) (e := .f32) (n := 3) (k := 1024) s o ho x2 inb r j
  rw [Fin.sum_univ_eight, ← hl 0 0 rfl, ← hl 1 1 rfl, ← hl 2 2 rfl, ← hl 3 3 rfl, ← hl 4 4 rfl,
    ← hl 5 5 rfl, ← hl 6 6 rfl, ← hl 7 7 rfl]
  all_goals decide

/-! The reference. -/

theorem ref0 (r : Fin 16) (j : Fin 1024) : val_main_v0 (F := Ideal) x0 (ix2 r j) = total x0 r j := by
  rw [val_main_v0_apply]
  refine (congrArg (· + _) (show val_main_cst (F := Ideal) _ = 0 from Ideal.ofBits_zero .f32)).trans ((zero_add _).trans ?_)
  exact Finset.sum_congr rfl fun s _ => congrArg x0 (funext fun a => by match a with | ⟨0, _⟩ => rfl | ⟨1, _⟩ => rfl | ⟨2, _⟩ => rfl)
theorem ref2 (r : Fin 256) (j : Fin 1024) : val_main_v2 (F := Ideal) x1 (ix2 r j) = total x1 r j := by
  rw [val_main_v2_apply]
  refine (congrArg (· + _) (show val_main_cst_0 (F := Ideal) _ = 0 from Ideal.ofBits_zero .f32)).trans ((zero_add _).trans ?_)
  exact Finset.sum_congr rfl fun s _ => congrArg x1 (funext fun a => by match a with | ⟨0, _⟩ => rfl | ⟨1, _⟩ => rfl | ⟨2, _⟩ => rfl)
theorem ref3 (r : Fin 3) (j : Fin 1024) : val_main_v3 (F := Ideal) x2 (ix2 r j) = total x2 r j := by
  rw [val_main_v3_apply]
  refine (congrArg (· + _) (show val_main_cst_1 (F := Ideal) _ = 0 from Ideal.ofBits_zero .f32)).trans ((zero_add _).trans ?_)
  exact Finset.sum_congr rfl fun s _ => congrArg x2 (funext fun a => by match a with | ⟨0, _⟩ => rfl | ⟨1, _⟩ => rfl | ⟨2, _⟩ => rfl)

theorem tie3 : G3 (F := Ideal) x0 x1 x2 = val_main_v0 (F := Ideal) x0 := by_rows fun r j => (small x0 x1 x2 r j).trans (ref0 x0 r j).symm
theorem tie4 : G4 (F := Ideal) x0 x1 x2 = val_main_v2 (F := Ideal) x1 := by_rows fun r j => (wide x0 x1 x2 r j).trans (ref2 x1 r j).symm
theorem tie5 : G5 (F := Ideal) x0 x1 x2 = val_main_v3 (F := Ideal) x2 := by_rows fun r j => (rows x0 x1 x2 r j).trans (ref3 x2 r j).symm

end Cert.SumSmallIdeal.Hand

end
-- ==== Proof.lean ====
module

public import proofs.«01_k».proof.Defs
public import proofs.«01_k».proof.Proof.Gen.InW.Frame
public import proofs.«01_k».proof.Proof.Gen.InWIdeal.Value
public import proofs.«01_k».proof.Proof.InWValue
public import proofs.«01_k».proof.Proof.Gen.InWRefIdeal.Run
public import proofs.«01_k».proof.Proof.Gen.InWRefIdeal.Read
public import proofs.«01_k».proof.Proof.Gen.PoolIdeal.Value
public import proofs.«01_k».proof.Proof.Gen.PoolRefIdeal.Run
public import proofs.«01_k».proof.Proof.Gen.PoolRefIdeal.Read
public import proofs.«01_k».proof.Proof.Gen.Pre_finite_pool
public import proofs.«01_k».proof.Proof.Gen.Pool
public import proofs.«01_k».proof.Proof.Gen.Pool.Skeleton
public import proofs.«01_k».proof.Proof.Gen.Pool.Launch
public import proofs.«01_k».proof.Proof.Gen.Pool.Points
public import proofs.«01_k».proof.Proof.Gen.Pool.Frame
public import proofs.«01_k».proof.Proof.Gen.PoolIdeal
public import proofs.«01_k».proof.Proof.Gen.PoolIdeal.Skeleton
public import proofs.«01_k».proof.Proof.Gen.PoolIdeal.Launch
public import proofs.«01_k».proof.Proof.Gen.PoolIdeal.Points
public import proofs.«01_k».proof.Proof.Gen.PoolIdeal.Frame
public import proofs.«01_k».proof.Proof.Gen.PoolRefIdeal
public import proofs.«01_k».proof.Proof.PoolTie
public import proofs.«01_k».proof.Proof.Gen.InXIdeal.Value
public import proofs.«01_k».proof.Proof.Gen.InXRefIdeal.Run
public import proofs.«01_k».proof.Proof.Gen.InXRefIdeal.Read
public import proofs.«01_k».proof.Proof.Gen.Pre_finite_inx
public import proofs.«01_k».proof.Proof.Gen.InX
public import proofs.«01_k».proof.Proof.Gen.InX.Frame
public import proofs.«01_k».proof.Proof.Gen.InXIdeal
public import proofs.«01_k».proof.Proof.Gen.InXIdeal.Frame
public import proofs.«01_k».proof.Proof.Gen.InXRefIdeal
public import proofs.«01_k».proof.Proof.InXTie
public import proofs.«01_k».proof.Proof.Gen.GluIdeal.Value
public import proofs.«01_k».proof.Proof.Gen.GluRefIdeal.Run
public import proofs.«01_k».proof.Proof.Gen.GluRefIdeal.Read
public import proofs.«01_k».proof.Proof.Gen.Pre_finite_glu
public import proofs.«01_k».proof.Proof.Gen.Glu
public import proofs.«01_k».proof.Proof.Gen.Glu.Frame
public import proofs.«01_k».proof.Proof.Gen.GluIdeal
public import proofs.«01_k».proof.Proof.Gen.GluIdeal.Frame
public import proofs.«01_k».proof.Proof.Gen.GluRefIdeal
public import proofs.«01_k».proof.Proof.GluTie
public import proofs.«01_k».proof.Proof.Gen.HeadRefIdeal.Run
public import proofs.«01_k».proof.Proof.Gen.HeadRefIdeal.Read
public import proofs.«01_k».proof.Proof.Gen.Pre_finite_head
public import proofs.«01_k».proof.Proof.Gen.Head
public import proofs.«01_k».proof.Proof.Gen.HeadIdeal
public import proofs.«01_k».proof.Proof.Gen.HeadRefIdeal
public import proofs.«01_k».proof.Proof.HeadBits
public import proofs.«01_k».proof.Proof.HeadTie
public import proofs.«01_k».proof.Proof.Gen.PrepRefIdeal.Run
public import proofs.«01_k».proof.Proof.Gen.PrepRefIdeal.Read
public import proofs.«01_k».proof.Proof.Gen.Prep
public import proofs.«01_k».proof.Proof.Gen.Prep.Frame
public import proofs.«01_k».proof.Proof.Gen.PrepIdeal
public import proofs.«01_k».proof.Proof.Gen.PrepIdeal.Frame
public import proofs.«01_k».proof.Proof.Gen.PrepRefIdeal
public import proofs.«01_k».proof.Proof.PrepTie
public import proofs.«01_k».proof.Proof.Gen.PoolFRefIdeal.Run
public import proofs.«01_k».proof.Proof.Gen.PoolFRefIdeal.Read
public import proofs.«01_k».proof.Proof.Gen.Pre_finite_poolf
public import proofs.«01_k».proof.Proof.Gen.PoolF
public import proofs.«01_k».proof.Proof.Gen.PoolFIdeal
public import proofs.«01_k».proof.Proof.Gen.PoolFRefIdeal
public import proofs.«01_k».proof.Proof.Gen.PoolF.Frame
public import proofs.«01_k».proof.Proof.Gen.PoolFIdeal.Value
public import proofs.«01_k».proof.Proof.PoolFTie
public import proofs.«01_k».proof.Proof.Gen.AdamInRefIdeal.Run
public import proofs.«01_k».proof.Proof.Gen.AdamInRefIdeal.Read
public import proofs.«01_k».proof.Proof.Gen.AdamIn
public import proofs.«01_k».proof.Proof.Gen.AdamInIdeal
public import proofs.«01_k».proof.Proof.Gen.AdamInRefIdeal
public import proofs.«01_k».proof.Proof.Gen.AdamIn.Frame
public import proofs.«01_k».proof.Proof.Gen.AdamInIdeal.Value
public import proofs.«01_k».proof.Proof.AdamInTie
public import proofs.«01_k».proof.Proof.Gen.AdaURefIdeal.Run
public import proofs.«01_k».proof.Proof.Gen.AdaURefIdeal.Read
public import proofs.«01_k».proof.Proof.Gen.AdaU
public import proofs.«01_k».proof.Proof.Gen.AdaUIdeal
public import proofs.«01_k».proof.Proof.Gen.AdaURefIdeal
public import proofs.«01_k».proof.Proof.Gen.AdaU.Frame
public import proofs.«01_k».proof.Proof.Gen.AdaUIdeal.Value
public import proofs.«01_k».proof.Proof.AdaUTie
public import proofs.«01_k».proof.Proof.Gen.SumSmallRefIdeal.Run
public import proofs.«01_k».proof.Proof.Gen.SumSmallRefIdeal.Read
public import proofs.«01_k».proof.Proof.Gen.SumSmall
public import proofs.«01_k».proof.Proof.Gen.SumSmallIdeal
public import proofs.«01_k».proof.Proof.Gen.SumSmallRefIdeal
public import proofs.«01_k».proof.Proof.Gen.SumSmall.Frame
public import proofs.«01_k».proof.Proof.Gen.SumSmallIdeal.Value
public import proofs.«01_k».proof.Proof.SumSmallTie
public import proofs.«01_k».proof.Proof.Gen.SsmX
public import proofs.«01_k».proof.Proof.Gen.SsmX.Frame
public import proofs.«01_k».proof.Proof.Gen.SsmXIdeal
public import proofs.«01_k».proof.Proof.Gen.SsmXIdeal.Frame
public import Idealize.ShloMosaic.Adequacy
public import Idealize.ShloMosaic.Init
public import Idealize.ShloMosaic.Lib.Quiescent

@[expose] public section

noncomputable section

namespace Cert.Proof

open Idealize.ShloMosaic Idealize.SL.Sem

theorem quiescent_InWRefIdeal : quiescent_InWRefIdeal := fun m ρ _ =>
  (θ_run Cert.InWRefIdeal.defs _ _).mono (fun r h => ⟨fun c => (h c).2, sem_eq_zero_of_no_sems (by decide) r.2⟩)
    (Cert.InWRefIdeal.Value.run (F := Ideal) m ρ)

theorem algebraic_InWIdeal_InWRefIdeal : algebraic_InWIdeal_InWRefIdeal := by
  intro m ρ m' ρ' _ hagree
  refine ⟨_, Cert.InWIdeal.Value.run (F := Ideal) m ρ, ?_⟩
  refine (θ_run Cert.InWRefIdeal.defs _ _).mono (fun _ h c => ⟨?_, (h c).2⟩) (Cert.InWRefIdeal.Value.run (F := Ideal) m' ρ')
  rw [(h c).1, ← Cert.InWIdeal.Value.final5, Cert.InWIdeal.Hand.tie, Cert.InWRefIdeal.Read.val_main_v29_eq]
  obtain ⟨e0, e1, e2, e3, e4, e5⟩ := hagree c
  rw [e0, e1, e2, e3, e4]

theorem run_PoolRefIdeal (m : (ℓ : Loc Cert.PoolRefIdeal.nD Cert.PoolRefIdeal.τ Cert.PoolRefIdeal.sig) → Buf (Elt Ideal) ℓ)
    (ρ : Dev Cert.PoolRefIdeal.nD → PrngReg) :
    θ_run (Cert.PoolRefIdeal.defs (F := Ideal)) (onTc (τ := Cert.PoolRefIdeal.τ) (Cert.PoolRefIdeal.main (F := Ideal))) ⟨m, fun _ => 0, ρ⟩ fun r =>
      (∀ c : Dev Cert.PoolRefIdeal.nD,
        r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
        ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
        ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
        ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0 :=
  (θ_run Cert.PoolRefIdeal.defs _ _).mono (fun r h => ⟨fun c => (h c).2.2.2, sem_eq_zero_of_no_sems (by decide) r.2⟩)
    (Cert.PoolRefIdeal.Value.run (F := Ideal) m ρ)

theorem algebraic_Pool : algebraic_PoolIdeal_PoolRefIdeal_pre_finite_pool := by
  intro m ρ m' ρ' hpre hagree
  refine ⟨_, _, _, Cert.PoolIdeal.Value.run_blocks (F := Ideal) m ρ, ?_⟩
  refine (θ_run Cert.PoolRefIdeal.defs _ _).mono (fun _ h c => ⟨?_, ?_, ?_, (h c).2.2.2⟩) (Cert.PoolRefIdeal.Value.run (F := Ideal) m' ρ')
  · obtain ⟨e0, e1, e2, e3⟩ := hagree c
    obtain ⟨p0, p1, p2, p3⟩ := hpre c
    rw [(h c).1, Cert.PoolRefIdeal.Read.val_main_v117_eq, e0, e1, e2, e3, Cert.PoolIdeal.Hand.tie5 m c (.of_pre _ _ _ _ p0 p1 p2 p3)]
    rfl
  · obtain ⟨e0, e1, e2, e3⟩ := hagree c
    rw [(h c).2.1, Cert.PoolRefIdeal.Read.val_main_v72_eq, e0, e2, e3, Cert.PoolIdeal.Hand.tie6 m c]
    rfl
  · obtain ⟨e0, e1, e2, e3⟩ := hagree c
    rw [(h c).2.2.1, Cert.PoolRefIdeal.Read.val_main_v64_eq, e0, e1, e3, Cert.PoolIdeal.Hand.tie7 m c]
    rfl

theorem run_InXRefIdeal (m : (ℓ : Loc Cert.InXRefIdeal.nD Cert.InXRefIdeal.τ Cert.InXRefIdeal.sig) → Buf (Elt Ideal) ℓ)
    (ρ : Dev Cert.InXRefIdeal.nD → PrngReg) :
    θ_run (Cert.InXRefIdeal.defs (F := Ideal)) (onTc (τ := Cert.InXRefIdeal.τ) (Cert.InXRefIdeal.main (F := Ideal))) ⟨m, fun _ => 0, ρ⟩ fun r =>
      (∀ c : Dev Cert.InXRefIdeal.nD,
        r.2.mem ((c.tc : Thread Cert.InXRefIdeal.nD Cert.InXRefIdeal.τ).loc Cert.InXRefIdeal.main_arg0) = m ((c.tc : Thread Cert.InXRefIdeal.nD Cert.InXRefIdeal.τ).loc Cert.InXRefIdeal.main_arg0)
        ∧ r.2.mem ((c.tc : Thread Cert.InXRefIdeal.nD Cert.InXRefIdeal.τ).loc Cert.InXRefIdeal.main_arg1) = m ((c.tc : Thread Cert.InXRefIdeal.nD Cert.InXRefIdeal.τ).loc Cert.InXRefIdeal.main_arg1)
        ∧ r.2.mem ((c.tc : Thread Cert.InXRefIdeal.nD Cert.InXRefIdeal.τ).loc Cert.InXRefIdeal.main_arg2) = m ((c.tc : Thread Cert.InXRefIdeal.nD Cert.InXRefIdeal.τ).loc Cert.InXRefIdeal.main_arg2)
        ∧ r.2.mem ((c.tc : Thread Cert.InXRefIdeal.nD Cert.InXRefIdeal.τ).loc Cert.InXRefIdeal.main_arg3) = m ((c.tc : Thread Cert.InXRefIdeal.nD Cert.InXRefIdeal.τ).loc Cert.InXRefIdeal.main_arg3)
        ∧ r.2.mem ((c.tc : Thread Cert.InXRefIdeal.nD Cert.InXRefIdeal.τ).loc Cert.InXRefIdeal.main_arg4) = m ((c.tc : Thread Cert.InXRefIdeal.nD Cert.InXRefIdeal.τ).loc Cert.InXRefIdeal.main_arg4)
        ∧ r.2.mem ((c.tc : Thread Cert.InXRefIdeal.nD Cert.InXRefIdeal.τ).loc Cert.InXRefIdeal.main_arg5) = m ((c.tc : Thread Cert.InXRefIdeal.nD Cert.InXRefIdeal.τ).loc Cert.InXRefIdeal.main_arg5)
        ∧ r.2.mem ((c.tc : Thread Cert.InXRefIdeal.nD Cert.InXRefIdeal.τ).loc Cert.InXRefIdeal.main_arg6) = m ((c.tc : Thread Cert.InXRefIdeal.nD Cert.InXRefIdeal.τ).loc Cert.InXRefIdeal.main_arg6)
        ∧ r.2.mem ((c.tc : Thread Cert.InXRefIdeal.nD Cert.InXRefIdeal.τ).loc Cert.InXRefIdeal.main_arg7) = m ((c.tc : Thread Cert.InXRefIdeal.nD Cert.InXRefIdeal.τ).loc Cert.InXRefIdeal.main_arg7)
        ∧ r.2.mem ((c.tc : Thread Cert.InXRefIdeal.nD Cert.InXRefIdeal.τ).loc Cert.InXRefIdeal.main_arg8) = m ((c.tc : Thread Cert.InXRefIdeal.nD Cert.InXRefIdeal.τ).loc Cert.InXRefIdeal.main_arg8))
      ∧ r.2.sem = fun _ => 0 :=
  (θ_run Cert.InXRefIdeal.defs _ _).mono (fun r h => ⟨fun c => (h c).2.2, sem_eq_zero_of_no_sems (by decide) r.2⟩)
    (Cert.InXRefIdeal.Value.run (F := Ideal) m ρ)

theorem algebraic_InX : algebraic_InXIdeal_InXRefIdeal_pre_finite_inx := by
  intro m ρ m' ρ' hpre hagree
  refine ⟨_, _, Cert.InXIdeal.Value.run_blocks (F := Ideal) m ρ, ?_⟩
  refine (θ_run Cert.InXRefIdeal.defs _ _).mono (fun _ h c => ⟨?_, ?_, (h c).2.2⟩) (Cert.InXRefIdeal.Value.run (F := Ideal) m' ρ')
  · obtain ⟨e0, e1, e2, e3, e4, e5, e6, e7, e8⟩ := hagree c
    obtain ⟨p0, p1, p2, p3, p4, p5, p6, p7⟩ := hpre c
    rw [(h c).1, Cert.InXRefIdeal.Read.val_main_v56_eq, e0, e1, e2, e3, e4, e5, e6, e7, e8, Cert.InXIdeal.Hand.tie9 m c (.of_pre _ _ _ _ _ _ _ _ _ p0 p1 p2 p3 p4 p5 p6 p7)]
    rfl
  · obtain ⟨e0, e1, e2, e3, e4, e5, e6, e7, e8⟩ := hagree c
    obtain ⟨p0, p1, p2, p3, p4, p5, p6, p7⟩ := hpre c
    rw [(h c).2.1, Cert.InXRefIdeal.Read.val_main_v57_eq, e0, e2, e3, e4, e5, e6, e7, e8, Cert.InXIdeal.Hand.tie10 m c (.of_pre _ _ _ _ _ _ _ _ _ p0 p1 p2 p3 p4 p5 p6 p7)]
    rfl

theorem run_GluRefIdeal (m : (ℓ : Loc Cert.GluRefIdeal.nD Cert.GluRefIdeal.τ Cert.GluRefIdeal.sig) → Buf (Elt Ideal) ℓ)
    (ρ : Dev Cert.GluRefIdeal.nD → PrngReg) :
    θ_run (Cert.GluRefIdeal.defs (F := Ideal)) (onTc (τ := Cert.GluRefIdeal.τ) (Cert.GluRefIdeal.main (F := Ideal))) ⟨m, fun _ => 0, ρ⟩ fun r =>
      (∀ c : Dev Cert.GluRefIdeal.nD,
        r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
        ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
        ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
        ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3)
        ∧ r.2.mem ((c.tc : Thread Cert.GluRefIdeal.nD Cert.GluRefIdeal.τ).loc Cert.GluRefIdeal.main_arg4) = m ((c.tc : Thread Cert.GluRefIdeal.nD Cert.GluRefIdeal.τ).loc Cert.GluRefIdeal.main_arg4))
      ∧ r.2.sem = fun _ => 0 :=
  (θ_run Cert.GluRefIdeal.defs _ _).mono (fun r h => ⟨fun c => (h c).2.2.2.2, sem_eq_zero_of_no_sems (by decide) r.2⟩)
    (Cert.GluRefIdeal.Value.run (F := Ideal) m ρ)

theorem algebraic_Glu : algebraic_GluIdeal_GluRefIdeal_pre_finite_glu := by
  intro m ρ m' ρ' hpre hagree
  refine ⟨_, _, _, _, (θ_run Cert.GluIdeal.defs _ _).mono (fun _ h c => ⟨(h c).1, (h c).2.1, (h c).2.2.2.2.2.2.2.2, (h c).2.2.1, (h c).2.2.2.1,
    (h c).2.2.2.2.1, (h c).2.2.2.2.2.1, (h c).2.2.2.2.2.2.1, (h c).2.2.2.2.2.2.2.1⟩) (Cert.GluIdeal.Value.run_blocks (F := Ideal) m ρ), ?_⟩
  refine (θ_run Cert.GluRefIdeal.defs _ _).mono (fun _ h c => ⟨?_, ?_, ?_, ?_, (h c).2.2.2.2⟩) (Cert.GluRefIdeal.Value.run (F := Ideal) m' ρ')
  · obtain ⟨e0, e1, e2, e3, e4⟩ := hagree c
    obtain ⟨p0, p1, p2, p3, p4⟩ := hpre c
    rw [(h c).1, Cert.GluRefIdeal.Read.val_main_v66_eq, e0, e1, e2, e3, e4, Cert.GluIdeal.Hand.tie7 m c (.of_pre _ _ _ _ _ p0 p1 p2 p3 p4)]
    rfl
  · obtain ⟨e0, e1, e2, e3, e4⟩ := hagree c
    obtain ⟨p0, p1, p2, p3, p4⟩ := hpre c
    rw [(h c).2.1, Cert.GluRefIdeal.Read.val_main_v67_eq, e0, e1, e2, e3, e4, Cert.GluIdeal.Hand.tie8 m c (.of_pre _ _ _ _ _ p0 p1 p2 p3 p4)]
    rfl
  · obtain ⟨e0, e1, e2, e3, e4⟩ := hagree c
    rw [(h c).2.2.1, Cert.GluRefIdeal.Read.val_main_v48_eq, e0, e1, e2, e3, e4]
    exact (Cert.GluIdeal.Hand.tie2 m c _ _ (by have e : Cert.GluIdeal.cfg0.N = 32 := Cert.GluIdeal.Gen.N_0; rw [Fin.val_last, e])).symm
  · obtain ⟨e0, e1, e2, e3, e4⟩ := hagree c
    refine (h c).2.2.2.1.trans ((Cert.GluRefIdeal.Read.val_main_v46_eq (m' ((c.tc : Thread Cert.GluRefIdeal.nD Cert.GluRefIdeal.τ).loc Cert.GluRefIdeal.main_arg0)) (m' ((c.tc : Thread Cert.GluRefIdeal.nD Cert.GluRefIdeal.τ).loc Cert.GluRefIdeal.main_arg1)) (m' ((c.tc : Thread Cert.GluRefIdeal.nD Cert.GluRefIdeal.τ).loc Cert.GluRefIdeal.main_arg2)) (m' ((c.tc : Thread Cert.GluRefIdeal.nD Cert.GluRefIdeal.τ).loc Cert.GluRefIdeal.main_arg3)) (m' ((c.tc : Thread Cert.GluRefIdeal.nD Cert.GluRefIdeal.τ).loc Cert.GluRefIdeal.main_arg4))).trans ?_)
    exact Cert.GluIdeal.Hand.bias_eq m c e0 e1 e2 e3 e4

theorem preserves_Glu : preserves_Glu_GluIdeal :=
  ⟨IdealRules.named_const.statement Cert.GluIdeal.κ "gelu_cubic" .f32 0x3D372713#32 ((8943 / 200000 : ℝ) : EReal) rfl,
    IdealRules.named_const.statement Cert.GluIdeal.κ "gelu_cubic_slope" .f32 0x3E095D4F#32 ((26829 / 200000 : ℝ) : EReal) rfl⟩

theorem run_HeadRefIdeal (m : (ℓ : Loc Cert.HeadRefIdeal.nD Cert.HeadRefIdeal.τ Cert.HeadRefIdeal.sig) → Buf (Elt Ideal) ℓ)
    (ρ : Dev Cert.HeadRefIdeal.nD → PrngReg) :
    θ_run (Cert.HeadRefIdeal.defs (F := Ideal)) (onTc (τ := Cert.HeadRefIdeal.τ) (Cert.HeadRefIdeal.main (F := Ideal))) ⟨m, fun _ => 0, ρ⟩ fun r =>
      (∀ c : Dev Cert.HeadRefIdeal.nD,
        r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
        ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
        ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
        ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
        ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
        ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
        ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6)
        ∧ r.2.mem ((c.tc : Thread Cert.HeadRefIdeal.nD Cert.HeadRefIdeal.τ).loc Cert.HeadRefIdeal.main_arg7) = m ((c.tc : Thread Cert.HeadRefIdeal.nD Cert.HeadRefIdeal.τ).loc Cert.HeadRefIdeal.main_arg7)
        ∧ r.2.mem ((c.tc : Thread Cert.HeadRefIdeal.nD Cert.HeadRefIdeal.τ).loc Cert.HeadRefIdeal.main_arg8) = m ((c.tc : Thread Cert.HeadRefIdeal.nD Cert.HeadRefIdeal.τ).loc Cert.HeadRefIdeal.main_arg8)
        ∧ r.2.mem ((c.tc : Thread Cert.HeadRefIdeal.nD Cert.HeadRefIdeal.τ).loc Cert.HeadRefIdeal.main_arg9) = m ((c.tc : Thread Cert.HeadRefIdeal.nD Cert.HeadRefIdeal.τ).loc Cert.HeadRefIdeal.main_arg9))
      ∧ r.2.sem = fun _ => 0 :=
  (θ_run Cert.HeadRefIdeal.defs _ _).mono (fun r h => ⟨fun c => (h c).2.2.2.2.2.2.2.2.2, sem_eq_zero_of_no_sems (by decide) r.2⟩)
    (Cert.HeadRefIdeal.Value.run (F := Ideal) m ρ)

theorem algebraic_Head : algebraic_HeadIdeal_HeadRefIdeal_pre_finite_head := by
  intro m ρ m' ρ' hpre hagree
  have hf : ∀ c, Cert.HeadIdeal.Hand.Finite m c := fun c => by
    obtain ⟨p0, p1, p2, p3, p4, p5, p6, p7, p8, p9⟩ := hpre c
    exact .of_pre _ _ _ _ _ _ _ _ _ _ p0 p1 p2 p3 p4 p5 p6 p7 p8 p9
  refine ⟨_, _, _, _, _, _, _, _, _, Cert.HeadIdeal.Hand.run_value ρ hf, ?_⟩
  refine (θ_run Cert.HeadRefIdeal.defs _ _).mono (fun _ h c => ?_) (Cert.HeadRefIdeal.Value.run (F := Ideal) m' ρ')
  obtain ⟨e0, e1, e2, e3, e4, e5, e6, e7, e8, e9⟩ := hagree c
  exact ⟨((h c).1.trans (Cert.HeadRefIdeal.Read.val_main_v102_eq m' c)).trans (Cert.HeadIdeal.Hand.agree102 e0 e1 e2 e3 e4 e5 e6 e7 e8 e9),
    ((h c).2.1.trans (Cert.HeadRefIdeal.Read.val_main_v62_eq m' c)).trans (Cert.HeadIdeal.Hand.agree62 e0 e1 e2 e3 e4 e5 e6 e7 e8 e9),
    ((h c).2.2.1.trans (Cert.HeadRefIdeal.Read.val_main_v103_eq m' c)).trans (Cert.HeadIdeal.Hand.agree103 e0 e1 e2 e3 e4 e5 e6 e7 e8 e9),
    ((h c).2.2.2.1.trans (Cert.HeadRefIdeal.Read.val_main_v104_eq m' c)).trans (Cert.HeadIdeal.Hand.agree104 e0 e1 e2 e3 e4 e5 e6 e7 e8 e9),
    ((h c).2.2.2.2.1.trans (Cert.HeadRefIdeal.Read.val_main_v106_eq m' c)).trans (Cert.HeadIdeal.Hand.agree106 e0 e1 e2 e3 e4 e5 e6 e7 e8 e9),
    ((h c).2.2.2.2.2.1.trans (Cert.HeadRefIdeal.Read.val_main_v99_eq m' c)).trans (Cert.HeadIdeal.Hand.agree99 e0 e1 e2 e3 e4 e5 e6 e7 e8 e9),
    ((h c).2.2.2.2.2.2.1.trans (Cert.HeadRefIdeal.Read.val_main_v93_eq m' c)).trans (Cert.HeadIdeal.Hand.agree93 e0 e1 e2 e3 e4 e5 e6 e7 e8 e9),
    ((h c).2.2.2.2.2.2.2.1.trans (Cert.HeadRefIdeal.Read.val_main_v88_eq m' c)).trans (Cert.HeadIdeal.Hand.agree88 e0 e1 e2 e3 e4 e5 e6 e7 e8 e9),
    ((h c).2.2.2.2.2.2.2.2.1.trans (Cert.HeadRefIdeal.Read.val_main_v107_eq m' c)).trans (Cert.HeadIdeal.Hand.agree107 e0 e1 e2 e3 e4 e5 e6 e7 e8 e9),
    (h c).2.2.2.2.2.2.2.2.2⟩

theorem run_PrepRefIdeal (m : (ℓ : Loc Cert.PrepRefIdeal.nD Cert.PrepRefIdeal.τ Cert.PrepRefIdeal.sig) → Buf (Elt Ideal) ℓ)
    (ρ : Dev Cert.PrepRefIdeal.nD → PrngReg) :
    θ_run (Cert.PrepRefIdeal.defs (F := Ideal)) (onTc (τ := Cert.PrepRefIdeal.τ) (Cert.PrepRefIdeal.main (F := Ideal))) ⟨m, fun _ => 0, ρ⟩ fun r =>
      (∀ c : Dev Cert.PrepRefIdeal.nD,
        r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
        ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
        ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
        ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
        ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
        ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
        ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
        ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
        ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8))
      ∧ r.2.sem = fun _ => 0 :=
  (θ_run Cert.PrepRefIdeal.defs _ _).mono (fun r h => ⟨fun c => (h c).2.2.2.2.2, sem_eq_zero_of_no_sems (by decide) r.2⟩)
    (Cert.PrepRefIdeal.Value.run (F := Ideal) m ρ)

theorem algebraic_Prep : algebraic_PrepIdeal_PrepRefIdeal := by
  intro m ρ m' ρ' _ hagree
  refine ⟨_, _, _, _, _, Cert.PrepIdeal.Hand.run_value m ρ, ?_⟩
  refine (θ_run Cert.PrepRefIdeal.defs _ _).mono (fun _ h c => ?_) (Cert.PrepRefIdeal.Value.run (F := Ideal) m' ρ')
  obtain ⟨e0, e1, e2, e3, e4, e5, e6, e7, e8⟩ := hagree c
  exact ⟨((h c).1.trans (Cert.PrepRefIdeal.Read.val_main_v148_eq m' c)).trans (Cert.PrepIdeal.Hand.agree148 e0 e1 e2 e3 e4 e5 e6 e7 e8),
    ((h c).2.1.trans (Cert.PrepRefIdeal.Read.val_main_v139_eq m' c)).trans (Cert.PrepIdeal.Hand.agree139 e0 e1 e2 e3 e4 e5 e6 e7 e8),
    ((h c).2.2.1.trans (Cert.PrepRefIdeal.Read.val_main_v151_eq m' c)).trans (Cert.PrepIdeal.Hand.agree151 e0 e1 e2 e3 e4 e5 e6 e7 e8),
    ((h c).2.2.2.1.trans (Cert.PrepRefIdeal.Read.val_main_v152_eq _ _ _ _ _)).trans (Cert.PrepIdeal.Hand.agree152 e0 e1 e2 e7 e8),
    ((h c).2.2.2.2.1.trans (Cert.PrepRefIdeal.Read.val_main_v153_eq _ _ _ _ _)).trans (Cert.PrepIdeal.Hand.agree153 e0 e1 e2 e7 e8),
    (h c).2.2.2.2.2⟩

theorem run_PoolFRefIdeal (m : (ℓ : Loc Cert.PoolFRefIdeal.nD Cert.PoolFRefIdeal.τ Cert.PoolFRefIdeal.sig) → Buf (Elt Ideal) ℓ)
    (ρ : Dev Cert.PoolFRefIdeal.nD → PrngReg) :
    θ_run (Cert.PoolFRefIdeal.defs (F := Ideal)) (onTc (τ := Cert.PoolFRefIdeal.τ) (Cert.PoolFRefIdeal.main (F := Ideal))) ⟨m, fun _ => 0, ρ⟩ fun r =>
      (∀ c : Dev Cert.PoolFRefIdeal.nD,
        r.2.mem ((c.tc : Thread Cert.PoolFRefIdeal.nD Cert.PoolFRefIdeal.τ).loc Cert.PoolFRefIdeal.main_arg0) = m ((c.tc : Thread Cert.PoolFRefIdeal.nD Cert.PoolFRefIdeal.τ).loc Cert.PoolFRefIdeal.main_arg0)
        ∧ r.2.mem ((c.tc : Thread Cert.PoolFRefIdeal.nD Cert.PoolFRefIdeal.τ).loc Cert.PoolFRefIdeal.main_arg1) = m ((c.tc : Thread Cert.PoolFRefIdeal.nD Cert.PoolFRefIdeal.τ).loc Cert.PoolFRefIdeal.main_arg1)
        ∧ r.2.mem ((c.tc : Thread Cert.PoolFRefIdeal.nD Cert.PoolFRefIdeal.τ).loc Cert.PoolFRefIdeal.main_arg2) = m ((c.tc : Thread Cert.PoolFRefIdeal.nD Cert.PoolFRefIdeal.τ).loc Cert.PoolFRefIdeal.main_arg2))
      ∧ r.2.sem = fun _ => 0 :=
  (θ_run Cert.PoolFRefIdeal.defs _ _).mono (fun r h => ⟨fun c => (h c).2.2, sem_eq_zero_of_no_sems (by decide) r.2⟩)
    (Cert.PoolFRefIdeal.Value.run (F := Ideal) m ρ)

theorem algebraic_PoolF : algebraic_PoolFIdeal_PoolFRefIdeal_pre_finite_poolf := by
  intro m ρ m' ρ' hpre hagree
  refine ⟨_, _, Cert.PoolFIdeal.Value.run_blocks (F := Ideal) m ρ, ?_⟩
  refine (θ_run Cert.PoolFRefIdeal.defs _ _).mono (fun _ h c => ⟨?_, ?_, (h c).2.2⟩) (Cert.PoolFRefIdeal.Value.run (F := Ideal) m' ρ')
  · obtain ⟨e0, e1, e2⟩ := hagree c
    rw [(h c).1, Cert.PoolFRefIdeal.Read.val_main_v54_eq, e0, e1, e2, Cert.PoolFIdeal.Hand.tie5 m c (.of_pre (hpre c))]
    rfl
  · obtain ⟨e0, e1, e2⟩ := hagree c
    rw [(h c).2.1, Cert.PoolFRefIdeal.Read.val_main_v98_eq, e0, Cert.PoolFIdeal.Hand.tie6 m c (.of_pre (hpre c))]
    rfl

theorem run_AdamInRefIdeal (m : (ℓ : Loc Cert.AdamInRefIdeal.nD Cert.AdamInRefIdeal.τ Cert.AdamInRefIdeal.sig) → Buf (Elt Ideal) ℓ)
    (ρ : Dev Cert.AdamInRefIdeal.nD → PrngReg) :
    θ_run (Cert.AdamInRefIdeal.defs (F := Ideal)) (onTc (τ := Cert.AdamInRefIdeal.τ) (Cert.AdamInRefIdeal.main (F := Ideal))) ⟨m, fun _ => 0, ρ⟩ fun r =>
      (∀ c : Dev Cert.AdamInRefIdeal.nD,
        r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
        ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
        ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
        ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0 :=
  (θ_run Cert.AdamInRefIdeal.defs _ _).mono (fun r h => ⟨fun c => (h c).2.2.2.2, sem_eq_zero_of_no_sems (by decide) r.2⟩)
    (Cert.AdamInRefIdeal.Value.run (F := Ideal) m ρ)

theorem algebraic_AdamIn : algebraic_AdamInIdeal_AdamInRefIdeal := by
  intro m ρ m' ρ' _ hagree
  refine ⟨_, _, _, _, Cert.AdamInIdeal.Value.run_blocks (F := Ideal) m ρ, ?_⟩
  refine (θ_run Cert.AdamInRefIdeal.defs _ _).mono (fun _ h c => ⟨?_, ?_, ?_, ?_, (h c).2.2.2.2⟩) (Cert.AdamInRefIdeal.Value.run (F := Ideal) m' ρ')
  all_goals obtain ⟨e0, e1, e2, e3⟩ := hagree c
  · rw [(h c).1, Cert.AdamInRefIdeal.Read.val_main_v1_eq, e0]
    exact (Cert.AdamInIdeal.Hand.tie4 m c).symm
  · rw [(h c).2.1, Cert.AdamInRefIdeal.Read.val_main_v25_eq, e0, e1, e2, e3]
    exact (Cert.AdamInIdeal.Hand.tie5 m c).symm
  · rw [(h c).2.2.1, Cert.AdamInRefIdeal.Read.val_main_v6_eq, e0, e2]
    exact (Cert.AdamInIdeal.Hand.tie6 m c).symm
  · rw [(h c).2.2.2.1, Cert.AdamInRefIdeal.Read.val_main_v12_eq, e0, e3]
    exact (Cert.AdamInIdeal.Hand.tie7 m c).symm

theorem run_AdaURefIdeal (m : (ℓ : Loc Cert.AdaURefIdeal.nD Cert.AdaURefIdeal.τ Cert.AdaURefIdeal.sig) → Buf (Elt Ideal) ℓ)
    (ρ : Dev Cert.AdaURefIdeal.nD → PrngReg) :
    θ_run (Cert.AdaURefIdeal.defs (F := Ideal)) (onTc (τ := Cert.AdaURefIdeal.τ) (Cert.AdaURefIdeal.main (F := Ideal))) ⟨m, fun _ => 0, ρ⟩ fun r =>
      (∀ c : Dev Cert.AdaURefIdeal.nD,
        r.2.mem ((c.tc : Thread Cert.AdaURefIdeal.nD Cert.AdaURefIdeal.τ).loc Cert.AdaURefIdeal.main_arg0) = m ((c.tc : Thread Cert.AdaURefIdeal.nD Cert.AdaURefIdeal.τ).loc Cert.AdaURefIdeal.main_arg0)
        ∧ r.2.mem ((c.tc : Thread Cert.AdaURefIdeal.nD Cert.AdaURefIdeal.τ).loc Cert.AdaURefIdeal.main_arg1) = m ((c.tc : Thread Cert.AdaURefIdeal.nD Cert.AdaURefIdeal.τ).loc Cert.AdaURefIdeal.main_arg1)
        ∧ r.2.mem ((c.tc : Thread Cert.AdaURefIdeal.nD Cert.AdaURefIdeal.τ).loc Cert.AdaURefIdeal.main_arg2) = m ((c.tc : Thread Cert.AdaURefIdeal.nD Cert.AdaURefIdeal.τ).loc Cert.AdaURefIdeal.main_arg2)
        ∧ r.2.mem ((c.tc : Thread Cert.AdaURefIdeal.nD Cert.AdaURefIdeal.τ).loc Cert.AdaURefIdeal.main_arg3) = m ((c.tc : Thread Cert.AdaURefIdeal.nD Cert.AdaURefIdeal.τ).loc Cert.AdaURefIdeal.main_arg3)
        ∧ r.2.mem ((c.tc : Thread Cert.AdaURefIdeal.nD Cert.AdaURefIdeal.τ).loc Cert.AdaURefIdeal.main_arg4) = m ((c.tc : Thread Cert.AdaURefIdeal.nD Cert.AdaURefIdeal.τ).loc Cert.AdaURefIdeal.main_arg4))
      ∧ r.2.sem = fun _ => 0 :=
  (θ_run Cert.AdaURefIdeal.defs _ _).mono (fun r h => ⟨fun c => (h c).2.2.2.2, sem_eq_zero_of_no_sems (by decide) r.2⟩)
    (Cert.AdaURefIdeal.Value.run (F := Ideal) m ρ)

theorem algebraic_AdaU : algebraic_AdaUIdeal_AdaURefIdeal := by
  intro m ρ m' ρ' _ hagree
  refine ⟨_, _, _, _, Cert.AdaUIdeal.Value.run (F := Ideal) m ρ, ?_⟩
  refine (θ_run Cert.AdaURefIdeal.defs _ _).mono (fun _ h c => ⟨?_, ?_, ?_, ?_, (h c).2.2.2.2⟩) (Cert.AdaURefIdeal.Value.run (F := Ideal) m' ρ')
  all_goals obtain ⟨e0, e1, e2, e3, e4⟩ := hagree c
  · rw [(h c).1, Cert.AdaURefIdeal.Read.val_main_v3_eq, e0, e1]
    exact (Cert.AdaUIdeal.Hand.tie5 _ _).symm
  · rw [(h c).2.1, Cert.AdaURefIdeal.Read.val_main_v27_eq, e0, e1, e2, e3, e4]
    exact (Cert.AdaUIdeal.Hand.tie6 _ _ _ _ _).symm
  · rw [(h c).2.2.1, Cert.AdaURefIdeal.Read.val_main_v8_eq, e0, e1, e3]
    exact (Cert.AdaUIdeal.Hand.tie7 _ _ _).symm
  · rw [(h c).2.2.2.1, Cert.AdaURefIdeal.Read.val_main_v14_eq, e0, e1, e4]
    exact (Cert.AdaUIdeal.Hand.tie8 _ _ _).symm

theorem run_SumSmallRefIdeal (m : (ℓ : Loc Cert.SumSmallRefIdeal.nD Cert.SumSmallRefIdeal.τ Cert.SumSmallRefIdeal.sig) → Buf (Elt Ideal) ℓ)
    (ρ : Dev Cert.SumSmallRefIdeal.nD → PrngReg) :
    θ_run (Cert.SumSmallRefIdeal.defs (F := Ideal)) (onTc (τ := Cert.SumSmallRefIdeal.τ) (Cert.SumSmallRefIdeal.main (F := Ideal))) ⟨m, fun _ => 0, ρ⟩ fun r =>
      (∀ c : Dev Cert.SumSmallRefIdeal.nD,
        r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0)
        ∧ r.2.mem ((c.tc : Thread Cert.SumSmallRefIdeal.nD Cert.SumSmallRefIdeal.τ).loc Cert.SumSmallRefIdeal.main_arg1) = m ((c.tc : Thread Cert.SumSmallRefIdeal.nD Cert.SumSmallRefIdeal.τ).loc Cert.SumSmallRefIdeal.main_arg1)
        ∧ r.2.mem ((c.tc : Thread Cert.SumSmallRefIdeal.nD Cert.SumSmallRefIdeal.τ).loc Cert.SumSmallRefIdeal.main_arg2) = m ((c.tc : Thread Cert.SumSmallRefIdeal.nD Cert.SumSmallRefIdeal.τ).loc Cert.SumSmallRefIdeal.main_arg2))
      ∧ r.2.sem = fun _ => 0 :=
  (θ_run Cert.SumSmallRefIdeal.defs _ _).mono (fun r h => ⟨fun c => (h c).2.2.2, sem_eq_zero_of_no_sems (by decide) r.2⟩)
    (Cert.SumSmallRefIdeal.Value.run (F := Ideal) m ρ)

theorem algebraic_SumSmall : algebraic_SumSmallIdeal_SumSmallRefIdeal := by
  intro m ρ m' ρ' _ hagree
  refine ⟨_, _, _, Cert.SumSmallIdeal.Value.run (F := Ideal) m ρ, ?_⟩
  refine (θ_run Cert.SumSmallRefIdeal.defs _ _).mono (fun _ h c => ⟨?_, ?_, ?_, (h c).2.2.2⟩) (Cert.SumSmallRefIdeal.Value.run (F := Ideal) m' ρ')
  all_goals obtain ⟨e0, e1, e2⟩ := hagree c
  · rw [(h c).1, Cert.SumSmallRefIdeal.Read.val_main_v0_eq, e0]
    exact (Cert.SumSmallIdeal.Hand.tie3 ..).symm
  · rw [(h c).2.1, Cert.SumSmallRefIdeal.Read.val_main_v2_eq, e1]
    exact (Cert.SumSmallIdeal.Hand.tie4 ..).symm
  · rw [(h c).2.2.1, Cert.SumSmallRefIdeal.Read.val_main_v3_eq, e2]
    exact (Cert.SumSmallIdeal.Hand.tie5 ..).symm

theorem claim : Cert.Claim := ⟨Cert.InW.Gen.facts, Cert.InWIdeal.Gen.facts, Cert.InWRefIdeal.Gen.facts,
  Cert.Pool.Gen.facts, Cert.PoolIdeal.Gen.facts, Cert.PoolRefIdeal.Gen.facts,
  Cert.InX.Gen.facts, Cert.InXIdeal.Gen.facts, Cert.InXRefIdeal.Gen.facts,
  Cert.Glu.Gen.facts, Cert.GluIdeal.Gen.facts, Cert.GluRefIdeal.Gen.facts,
  Cert.Head.Gen.facts, Cert.HeadIdeal.Gen.facts, Cert.HeadRefIdeal.Gen.facts,
  Cert.Prep.Gen.facts, Cert.PrepIdeal.Gen.facts, Cert.PrepRefIdeal.Gen.facts,
  Cert.PoolF.Gen.facts, Cert.PoolFIdeal.Gen.facts, Cert.PoolFRefIdeal.Gen.facts,
  Cert.AdamIn.Gen.facts, Cert.AdamInIdeal.Gen.facts, Cert.AdamInRefIdeal.Gen.facts,
  Cert.AdaU.Gen.facts, Cert.AdaUIdeal.Gen.facts, Cert.AdaURefIdeal.Gen.facts,
  Cert.SumSmall.Gen.facts, Cert.SumSmallIdeal.Gen.facts, Cert.SumSmallRefIdeal.Gen.facts,
  Cert.SsmX.Gen.facts, Cert.SsmXIdeal.Gen.facts,
  Cert.Pre_finite_pool.Gen.facts, Cert.Pre_finite_inx.Gen.facts, Cert.Pre_finite_glu.Gen.facts, Cert.Pre_finite_head.Gen.facts, Cert.Pre_finite_poolf.Gen.facts,
  fun m ρ _ => Cert.InW.Gen.frame m ρ, fun m ρ _ => Cert.InWIdeal.Gen.frame m ρ, quiescent_InWRefIdeal,
  fun m ρ _ => Cert.Pool.Gen.frame m ρ, fun m ρ _ => Cert.PoolIdeal.Gen.frame m ρ, fun m ρ _ => Cert.PoolIdeal.Gen.frame m ρ,
  fun m ρ _ => run_PoolRefIdeal m ρ, fun m ρ _ => run_PoolRefIdeal m ρ,
  fun m ρ _ => Cert.InX.Gen.frame m ρ, fun m ρ _ => Cert.InXIdeal.Gen.frame m ρ, fun m ρ _ => Cert.InXIdeal.Gen.frame m ρ,
  fun m ρ _ => run_InXRefIdeal m ρ, fun m ρ _ => run_InXRefIdeal m ρ,
  fun m ρ _ => Cert.Glu.Gen.frame m ρ, fun m ρ _ => Cert.GluIdeal.Gen.frame m ρ, fun m ρ _ => Cert.GluIdeal.Gen.frame m ρ,
  fun m ρ _ => run_GluRefIdeal m ρ, fun m ρ _ => run_GluRefIdeal m ρ,
  Cert.HeadIdeal.Hand.frame_bits, fun m ρ _ => Cert.HeadIdeal.Hand.frame m ρ, fun m ρ _ => Cert.HeadIdeal.Hand.frame m ρ,
  fun m ρ _ => run_HeadRefIdeal m ρ, fun m ρ _ => run_HeadRefIdeal m ρ,
  fun m ρ _ => Cert.Prep.Gen.frame m ρ, fun m ρ _ => Cert.PrepIdeal.Gen.frame m ρ, fun m ρ _ => run_PrepRefIdeal m ρ,
  fun m ρ _ => Cert.PoolF.Gen.frame m ρ, fun m ρ _ => Cert.PoolFIdeal.Gen.frame m ρ, fun m ρ _ => Cert.PoolFIdeal.Gen.frame m ρ,
  fun m ρ _ => run_PoolFRefIdeal m ρ, fun m ρ _ => run_PoolFRefIdeal m ρ,
  fun m ρ _ => Cert.AdamIn.Gen.frame m ρ, fun m ρ _ => Cert.AdamInIdeal.Gen.frame m ρ, fun m ρ _ => run_AdamInRefIdeal m ρ,
  fun m ρ _ => Cert.AdaU.Gen.frame m ρ, fun m ρ _ => Cert.AdaUIdeal.Gen.frame m ρ, fun m ρ _ => run_AdaURefIdeal m ρ,
  fun m ρ _ => Cert.SumSmall.Gen.frame m ρ, fun m ρ _ => Cert.SumSmallIdeal.Gen.frame m ρ, fun m ρ _ => run_SumSmallRefIdeal m ρ,
  fun m ρ _ => Cert.SsmX.Gen.frame m ρ, fun m ρ _ => Cert.SsmXIdeal.Gen.frame m ρ,
  (trivial : preserves_InW_InWIdeal), algebraic_InWIdeal_InWRefIdeal, (trivial : preserves_Pool_PoolIdeal), algebraic_Pool,
  (trivial : preserves_InX_InXIdeal), algebraic_InX,
  preserves_Glu, algebraic_Glu, (trivial : preserves_Head_HeadIdeal), algebraic_Head,
  (trivial : preserves_Prep_PrepIdeal), algebraic_Prep,
  (trivial : preserves_PoolF_PoolFIdeal), algebraic_PoolF,
  (trivial : preserves_AdamIn_AdamInIdeal), algebraic_AdamIn, (trivial : preserves_AdaU_AdaUIdeal), algebraic_AdaU,
  (trivial : preserves_SumSmall_SumSmallIdeal), algebraic_SumSmall,
  (trivial : preserves_SsmX_SsmXIdeal)⟩

end Cert.Proof

end
